-- ==== Defs.lean ====
def Pre_Dh (m : (ℓ : Loc Cert.Dh.nD Cert.Dh.τ Cert.Dh.sig) → Buf (Elt Bits) ℓ) : Prop :=
  True

def Pre_DhIdeal (m : (ℓ : Loc Cert.DhIdeal.nD Cert.DhIdeal.τ Cert.DhIdeal.sig) → Buf (Elt Ideal) ℓ) : Prop :=
  True

def Pre_DhIdeal_dh_finite [hPre_dh_finite : Cert.Pre_dh_finite.Facts] (m : (ℓ : Loc Cert.DhIdeal.nD Cert.DhIdeal.τ Cert.DhIdeal.sig) → Buf (Elt Ideal) ℓ) : Prop :=
  ∀ c : Dev Cert.DhIdeal.nD,
    (Cert.Pre_dh_finite.fn (F := Ideal) (m ((c.tc : Thread Cert.DhIdeal.nD Cert.DhIdeal.τ).loc Cert.DhIdeal.main_arg0)) (m ((c.tc : Thread Cert.DhIdeal.nD Cert.DhIdeal.τ).loc Cert.DhIdeal.main_arg1)) (m ((c.tc : Thread Cert.DhIdeal.nD Cert.DhIdeal.τ).loc Cert.DhIdeal.main_arg2)) (m ((c.tc : Thread Cert.DhIdeal.nD Cert.DhIdeal.τ).loc Cert.DhIdeal.main_arg3)) (m ((c.tc : Thread Cert.DhIdeal.nD Cert.DhIdeal.τ).loc Cert.DhIdeal.main_arg4)) (m ((c.tc : Thread Cert.DhIdeal.nD Cert.DhIdeal.τ).loc Cert.DhIdeal.main_arg5)) (m ((c.tc : Thread Cert.DhIdeal.nD Cert.DhIdeal.τ).loc Cert.DhIdeal.main_arg6))).1 = (fun _ => 1#1)
    ∧ (Cert.Pre_dh_finite.fn (F := Ideal) (m ((c.tc : Thread Cert.DhIdeal.nD Cert.DhIdeal.τ).loc Cert.DhIdeal.main_arg0)) (m ((c.tc : Thread Cert.DhIdeal.nD Cert.DhIdeal.τ).loc Cert.DhIdeal.main_arg1)) (m ((c.tc : Thread Cert.DhIdeal.nD Cert.DhIdeal.τ).loc Cert.DhIdeal.main_arg2)) (m ((c.tc : Thread Cert.DhIdeal.nD Cert.DhIdeal.τ).loc Cert.DhIdeal.main_arg3)) (m ((c.tc : Thread Cert.DhIdeal.nD Cert.DhIdeal.τ).loc Cert.DhIdeal.main_arg4)) (m ((c.tc : Thread Cert.DhIdeal.nD Cert.DhIdeal.τ).loc Cert.DhIdeal.main_arg5)) (m ((c.tc : Thread Cert.DhIdeal.nD Cert.DhIdeal.τ).loc Cert.DhIdeal.main_arg6))).2.1 = (fun _ => 1#1)
    ∧ (Cert.Pre_dh_finite.fn (F := Ideal) (m ((c.tc : Thread Cert.DhIdeal.nD Cert.DhIdeal.τ).loc Cert.DhIdeal.main_arg0)) (m ((c.tc : Thread Cert.DhIdeal.nD Cert.DhIdeal.τ).loc Cert.DhIdeal.main_arg1)) (m ((c.tc : Thread Cert.DhIdeal.nD Cert.DhIdeal.τ).loc Cert.DhIdeal.main_arg2)) (m ((c.tc : Thread Cert.DhIdeal.nD Cert.DhIdeal.τ).loc Cert.DhIdeal.main_arg3)) (m ((c.tc : Thread Cert.DhIdeal.nD Cert.DhIdeal.τ).loc Cert.DhIdeal.main_arg4)) (m ((c.tc : Thread Cert.DhIdeal.nD Cert.DhIdeal.τ).loc Cert.DhIdeal.main_arg5)) (m ((c.tc : Thread Cert.DhIdeal.nD Cert.DhIdeal.τ).loc Cert.DhIdeal.main_arg6))).2.2.1 = (fun _ => 1#1)
    ∧ (Cert.Pre_dh_finite.fn (F := Ideal) (m ((c.tc : Thread Cert.DhIdeal.nD Cert.DhIdeal.τ).loc Cert.DhIdeal.main_arg0)) (m ((c.tc : Thread Cert.DhIdeal.nD Cert.DhIdeal.τ).loc Cert.DhIdeal.main_arg1)) (m ((c.tc : Thread Cert.DhIdeal.nD Cert.DhIdeal.τ).loc Cert.DhIdeal.main_arg2)) (m ((c.tc : Thread Cert.DhIdeal.nD Cert.DhIdeal.τ).loc Cert.DhIdeal.main_arg3)) (m ((c.tc : Thread Cert.DhIdeal.nD Cert.DhIdeal.τ).loc Cert.DhIdeal.main_arg4)) (m ((c.tc : Thread Cert.DhIdeal.nD Cert.DhIdeal.τ).loc Cert.DhIdeal.main_arg5)) (m ((c.tc : Thread Cert.DhIdeal.nD Cert.DhIdeal.τ).loc Cert.DhIdeal.main_arg6))).2.2.2.1 = (fun _ => 1#1)
    ∧ (Cert.Pre_dh_finite.fn (F := Ideal) (m ((c.tc : Thread Cert.DhIdeal.nD Cert.DhIdeal.τ).loc Cert.DhIdeal.main_arg0)) (m ((c.tc : Thread Cert.DhIdeal.nD Cert.DhIdeal.τ).loc Cert.DhIdeal.main_arg1)) (m ((c.tc : Thread Cert.DhIdeal.nD Cert.DhIdeal.τ).loc Cert.DhIdeal.main_arg2)) (m ((c.tc : Thread Cert.DhIdeal.nD Cert.DhIdeal.τ).loc Cert.DhIdeal.main_arg3)) (m ((c.tc : Thread Cert.DhIdeal.nD Cert.DhIdeal.τ).loc Cert.DhIdeal.main_arg4)) (m ((c.tc : Thread Cert.DhIdeal.nD Cert.DhIdeal.τ).loc Cert.DhIdeal.main_arg5)) (m ((c.tc : Thread Cert.DhIdeal.nD Cert.DhIdeal.τ).loc Cert.DhIdeal.main_arg6))).2.2.2.2 = (fun _ => 1#1)

def Pre_DhRefIdeal (m : (ℓ : Loc Cert.DhRefIdeal.nD Cert.DhRefIdeal.τ Cert.DhRefIdeal.sig) → Buf (Elt Ideal) ℓ) : Prop :=
  True

def Pre_DhRefIdeal_dh_finite [hPre_dh_finite : Cert.Pre_dh_finite.Facts] (m : (ℓ : Loc Cert.DhRefIdeal.nD Cert.DhRefIdeal.τ Cert.DhRefIdeal.sig) → Buf (Elt Ideal) ℓ) : Prop :=
  ∀ c : Dev Cert.DhRefIdeal.nD,
    (Cert.Pre_dh_finite.fn (F := Ideal) (m ((c.tc : Thread Cert.DhRefIdeal.nD Cert.DhRefIdeal.τ).loc Cert.DhRefIdeal.main_arg0)) (m ((c.tc : Thread Cert.DhRefIdeal.nD Cert.DhRefIdeal.τ).loc Cert.DhRefIdeal.main_arg1)) (m ((c.tc : Thread Cert.DhRefIdeal.nD Cert.DhRefIdeal.τ).loc Cert.DhRefIdeal.main_arg2)) (m ((c.tc : Thread Cert.DhRefIdeal.nD Cert.DhRefIdeal.τ).loc Cert.DhRefIdeal.main_arg3)) (m ((c.tc : Thread Cert.DhRefIdeal.nD Cert.DhRefIdeal.τ).loc Cert.DhRefIdeal.main_arg4)) (m ((c.tc : Thread Cert.DhRefIdeal.nD Cert.DhRefIdeal.τ).loc Cert.DhRefIdeal.main_arg5)) (m ((c.tc : Thread Cert.DhRefIdeal.nD Cert.DhRefIdeal.τ).loc Cert.DhRefIdeal.main_arg6))).1 = (fun _ => 1#1)
    ∧ (Cert.Pre_dh_finite.fn (F := Ideal) (m ((c.tc : Thread Cert.DhRefIdeal.nD Cert.DhRefIdeal.τ).loc Cert.DhRefIdeal.main_arg0)) (m ((c.tc : Thread Cert.DhRefIdeal.nD Cert.DhRefIdeal.τ).loc Cert.DhRefIdeal.main_arg1)) (m ((c.tc : Thread Cert.DhRefIdeal.nD Cert.DhRefIdeal.τ).loc Cert.DhRefIdeal.main_arg2)) (m ((c.tc : Thread Cert.DhRefIdeal.nD Cert.DhRefIdeal.τ).loc Cert.DhRefIdeal.main_arg3)) (m ((c.tc : Thread Cert.DhRefIdeal.nD Cert.DhRefIdeal.τ).loc Cert.DhRefIdeal.main_arg4)) (m ((c.tc : Thread Cert.DhRefIdeal.nD Cert.DhRefIdeal.τ).loc Cert.DhRefIdeal.main_arg5)) (m ((c.tc : Thread Cert.DhRefIdeal.nD Cert.DhRefIdeal.τ).loc Cert.DhRefIdeal.main_arg6))).2.1 = (fun _ => 1#1)
    ∧ (Cert.Pre_dh_finite.fn (F := Ideal) (m ((c.tc : Thread Cert.DhRefIdeal.nD Cert.DhRefIdeal.τ).loc Cert.DhRefIdeal.main_arg0)) (m ((c.tc : Thread Cert.DhRefIdeal.nD Cert.DhRefIdeal.τ).loc Cert.DhRefIdeal.main_arg1)) (m ((c.tc : Thread Cert.DhRefIdeal.nD Cert.DhRefIdeal.τ).loc Cert.DhRefIdeal.main_arg2)) (m ((c.tc : Thread Cert.DhRefIdeal.nD Cert.DhRefIdeal.τ).loc Cert.DhRefIdeal.main_arg3)) (m ((c.tc : Thread Cert.DhRefIdeal.nD Cert.DhRefIdeal.τ).loc Cert.DhRefIdeal.main_arg4)) (m ((c.tc : Thread Cert.DhRefIdeal.nD Cert.DhRefIdeal.τ).loc Cert.DhRefIdeal.main_arg5)) (m ((c.tc : Thread Cert.DhRefIdeal.nD Cert.DhRefIdeal.τ).loc Cert.DhRefIdeal.main_arg6))).2.2.1 = (fun _ => 1#1)
    ∧ (Cert.Pre_dh_finite.fn (F := Ideal) (m ((c.tc : Thread Cert.DhRefIdeal.nD Cert.DhRefIdeal.τ).loc Cert.DhRefIdeal.main_arg0)) (m ((c.tc : Thread Cert.DhRefIdeal.nD Cert.DhRefIdeal.τ).loc Cert.DhRefIdeal.main_arg1)) (m ((c.tc : Thread Cert.DhRefIdeal.nD Cert.DhRefIdeal.τ).loc Cert.DhRefIdeal.main_arg2)) (m ((c.tc : Thread Cert.DhRefIdeal.nD Cert.DhRefIdeal.τ).loc Cert.DhRefIdeal.main_arg3)) (m ((c.tc : Thread Cert.DhRefIdeal.nD Cert.DhRefIdeal.τ).loc Cert.DhRefIdeal.main_arg4)) (m ((c.tc : Thread Cert.DhRefIdeal.nD Cert.DhRefIdeal.τ).loc Cert.DhRefIdeal.main_arg5)) (m ((c.tc : Thread Cert.DhRefIdeal.nD Cert.DhRefIdeal.τ).loc Cert.DhRefIdeal.main_arg6))).2.2.2.1 = (fun _ => 1#1)
    ∧ (Cert.Pre_dh_finite.fn (F := Ideal) (m ((c.tc : Thread Cert.DhRefIdeal.nD Cert.DhRefIdeal.τ).loc Cert.DhRefIdeal.main_arg0)) (m ((c.tc : Thread Cert.DhRefIdeal.nD Cert.DhRefIdeal.τ).loc Cert.DhRefIdeal.main_arg1)) (m ((c.tc : Thread Cert.DhRefIdeal.nD Cert.DhRefIdeal.τ).loc Cert.DhRefIdeal.main_arg2)) (m ((c.tc : Thread Cert.DhRefIdeal.nD Cert.DhRefIdeal.τ).loc Cert.DhRefIdeal.main_arg3)) (m ((c.tc : Thread Cert.DhRefIdeal.nD Cert.DhRefIdeal.τ).loc Cert.DhRefIdeal.main_arg4)) (m ((c.tc : Thread Cert.DhRefIdeal.nD Cert.DhRefIdeal.τ).loc Cert.DhRefIdeal.main_arg5)) (m ((c.tc : Thread Cert.DhRefIdeal.nD Cert.DhRefIdeal.τ).loc Cert.DhRefIdeal.main_arg6))).2.2.2.2 = (fun _ => 1#1)

def Pre_Ret (m : (ℓ : Loc Cert.Ret.nD Cert.Ret.τ Cert.Ret.sig) → Buf (Elt Bits) ℓ) : Prop :=
  True

def Pre_RetIdeal (m : (ℓ : Loc Cert.RetIdeal.nD Cert.RetIdeal.τ Cert.RetIdeal.sig) → Buf (Elt Ideal) ℓ) : Prop :=
  True

def Pre_RetIdeal_ret_finite [hPre_ret_finite : Cert.Pre_ret_finite.Facts] (m : (ℓ : Loc Cert.RetIdeal.nD Cert.RetIdeal.τ Cert.RetIdeal.sig) → Buf (Elt Ideal) ℓ) : Prop :=
  ∀ c : Dev Cert.RetIdeal.nD,
    (Cert.Pre_ret_finite.fn (F := Ideal) (m ((c.tc : Thread Cert.RetIdeal.nD Cert.RetIdeal.τ).loc Cert.RetIdeal.main_arg0)) (m ((c.tc : Thread Cert.RetIdeal.nD Cert.RetIdeal.τ).loc Cert.RetIdeal.main_arg1)) (m ((c.tc : Thread Cert.RetIdeal.nD Cert.RetIdeal.τ).loc Cert.RetIdeal.main_arg2))).1 = (fun _ => 1#1)
    ∧ (Cert.Pre_ret_finite.fn (F := Ideal) (m ((c.tc : Thread Cert.RetIdeal.nD Cert.RetIdeal.τ).loc Cert.RetIdeal.main_arg0)) (m ((c.tc : Thread Cert.RetIdeal.nD Cert.RetIdeal.τ).loc Cert.RetIdeal.main_arg1)) (m ((c.tc : Thread Cert.RetIdeal.nD Cert.RetIdeal.τ).loc Cert.RetIdeal.main_arg2))).2 = (fun _ => 1#1)

def Pre_RetRefIdeal (m : (ℓ : Loc Cert.RetRefIdeal.nD Cert.RetRefIdeal.τ Cert.RetRefIdeal.sig) → Buf (Elt Ideal) ℓ) : Prop :=
  True

def Pre_RetRefIdeal_ret_finite [hPre_ret_finite : Cert.Pre_ret_finite.Facts] (m : (ℓ : Loc Cert.RetRefIdeal.nD Cert.RetRefIdeal.τ Cert.RetRefIdeal.sig) → Buf (Elt Ideal) ℓ) : Prop :=
  ∀ c : Dev Cert.RetRefIdeal.nD,
    (Cert.Pre_ret_finite.fn (F := Ideal) (m ((c.tc : Thread Cert.RetRefIdeal.nD Cert.RetRefIdeal.τ).loc Cert.RetRefIdeal.main_arg0)) (m ((c.tc : Thread Cert.RetRefIdeal.nD Cert.RetRefIdeal.τ).loc Cert.RetRefIdeal.main_arg1)) (m ((c.tc : Thread Cert.RetRefIdeal.nD Cert.RetRefIdeal.τ).loc Cert.RetRefIdeal.main_arg2))).1 = (fun _ => 1#1)
    ∧ (Cert.Pre_ret_finite.fn (F := Ideal) (m ((c.tc : Thread Cert.RetRefIdeal.nD Cert.RetRefIdeal.τ).loc Cert.RetRefIdeal.main_arg0)) (m ((c.tc : Thread Cert.RetRefIdeal.nD Cert.RetRefIdeal.τ).loc Cert.RetRefIdeal.main_arg1)) (m ((c.tc : Thread Cert.RetRefIdeal.nD Cert.RetRefIdeal.τ).loc Cert.RetRefIdeal.main_arg2))).2 = (fun _ => 1#1)

def Pre_Head (m : (ℓ : Loc Cert.Head.nD Cert.Head.τ Cert.Head.sig) → Buf (Elt Bits) ℓ) : Prop :=
  True

def Pre_HeadIdeal (m : (ℓ : Loc Cert.HeadIdeal.nD Cert.HeadIdeal.τ Cert.HeadIdeal.sig) → Buf (Elt Ideal) ℓ) : Prop :=
  True

def Pre_HeadIdeal_head_finite [hPre_head_finite : Cert.Pre_head_finite.Facts] (m : (ℓ : Loc Cert.HeadIdeal.nD Cert.HeadIdeal.τ Cert.HeadIdeal.sig) → Buf (Elt Ideal) ℓ) : Prop :=
  ∀ c : Dev Cert.HeadIdeal.nD,
    (Cert.Pre_head_finite.fn (F := Ideal) (m ((c.tc : Thread Cert.HeadIdeal.nD Cert.HeadIdeal.τ).loc Cert.HeadIdeal.main_arg0)) (m ((c.tc : Thread Cert.HeadIdeal.nD Cert.HeadIdeal.τ).loc Cert.HeadIdeal.main_arg1)) (m ((c.tc : Thread Cert.HeadIdeal.nD Cert.HeadIdeal.τ).loc Cert.HeadIdeal.main_arg2)) (m ((c.tc : Thread Cert.HeadIdeal.nD Cert.HeadIdeal.τ).loc Cert.HeadIdeal.main_arg3)) (m ((c.tc : Thread Cert.HeadIdeal.nD Cert.HeadIdeal.τ).loc Cert.HeadIdeal.main_arg4)) (m ((c.tc : Thread Cert.HeadIdeal.nD Cert.HeadIdeal.τ).loc Cert.HeadIdeal.main_arg5)) (m ((c.tc : Thread Cert.HeadIdeal.nD Cert.HeadIdeal.τ).loc Cert.HeadIdeal.main_arg6)) (m ((c.tc : Thread Cert.HeadIdeal.nD Cert.HeadIdeal.τ).loc Cert.HeadIdeal.main_arg7)) (m ((c.tc : Thread Cert.HeadIdeal.nD Cert.HeadIdeal.τ).loc Cert.HeadIdeal.main_arg8)) (m ((c.tc : Thread Cert.HeadIdeal.nD Cert.HeadIdeal.τ).loc Cert.HeadIdeal.main_arg9))).1 = (fun _ => 1#1)
    ∧ (Cert.Pre_head_finite.fn (F := Ideal) (m ((c.tc : Thread Cert.HeadIdeal.nD Cert.HeadIdeal.τ).loc Cert.HeadIdeal.main_arg0)) (m ((c.tc : Thread Cert.HeadIdeal.nD Cert.HeadIdeal.τ).loc Cert.HeadIdeal.main_arg1)) (m ((c.tc : Thread Cert.HeadIdeal.nD Cert.HeadIdeal.τ).loc Cert.HeadIdeal.main_arg2)) (m ((c.tc : Thread Cert.HeadIdeal.nD Cert.HeadIdeal.τ).loc Cert.HeadIdeal.main_arg3)) (m ((c.tc : Thread Cert.HeadIdeal.nD Cert.HeadIdeal.τ).loc Cert.HeadIdeal.main_arg4)) (m ((c.tc : Thread Cert.HeadIdeal.nD Cert.HeadIdeal.τ).loc Cert.HeadIdeal.main_arg5)) (m ((c.tc : Thread Cert.HeadIdeal.nD Cert.HeadIdeal.τ).loc Cert.HeadIdeal.main_arg6)) (m ((c.tc : Thread Cert.HeadIdeal.nD Cert.HeadIdeal.τ).loc Cert.HeadIdeal.main_arg7)) (m ((c.tc : Thread Cert.HeadIdeal.nD Cert.HeadIdeal.τ).loc Cert.HeadIdeal.main_arg8)) (m ((c.tc : Thread Cert.HeadIdeal.nD Cert.HeadIdeal.τ).loc Cert.HeadIdeal.main_arg9))).2.1 = (fun _ => 1#1)
    ∧ (Cert.Pre_head_finite.fn (F := Ideal) (m ((c.tc : Thread Cert.HeadIdeal.nD Cert.HeadIdeal.τ).loc Cert.HeadIdeal.main_arg0)) (m ((c.tc : Thread Cert.HeadIdeal.nD Cert.HeadIdeal.τ).loc Cert.HeadIdeal.main_arg1)) (m ((c.tc : Thread Cert.HeadIdeal.nD Cert.HeadIdeal.τ).loc Cert.HeadIdeal.main_arg2)) (m ((c.tc : Thread Cert.HeadIdeal.nD Cert.HeadIdeal.τ).loc Cert.HeadIdeal.main_arg3)) (m ((c.tc : Thread Cert.HeadIdeal.nD Cert.HeadIdeal.τ).loc Cert.HeadIdeal.main_arg4)) (m ((c.tc : Thread Cert.HeadIdeal.nD Cert.HeadIdeal.τ).loc Cert.HeadIdeal.main_arg5)) (m ((c.tc : Thread Cert.HeadIdeal.nD Cert.HeadIdeal.τ).loc Cert.HeadIdeal.main_arg6)) (m ((c.tc : Thread Cert.HeadIdeal.nD Cert.HeadIdeal.τ).loc Cert.HeadIdeal.main_arg7)) (m ((c.tc : Thread Cert.HeadIdeal.nD Cert.HeadIdeal.τ).loc Cert.HeadIdeal.main_arg8)) (m ((c.tc : Thread Cert.HeadIdeal.nD Cert.HeadIdeal.τ).loc Cert.HeadIdeal.main_arg9))).2.2.1 = (fun _ => 1#1)
    ∧ (Cert.Pre_head_finite.fn (F := Ideal) (m ((c.tc : Thread Cert.HeadIdeal.nD Cert.HeadIdeal.τ).loc Cert.HeadIdeal.main_arg0)) (m ((c.tc : Thread Cert.HeadIdeal.nD Cert.HeadIdeal.τ).loc Cert.HeadIdeal.main_arg1)) (m ((c.tc : Thread Cert.HeadIdeal.nD Cert.HeadIdeal.τ).loc Cert.HeadIdeal.main_arg2)) (m ((c.tc : Thread Cert.HeadIdeal.nD Cert.HeadIdeal.τ).loc Cert.HeadIdeal.main_arg3)) (m ((c.tc : Thread Cert.HeadIdeal.nD Cert.HeadIdeal.τ).loc Cert.HeadIdeal.main_arg4)) (m ((c.tc : Thread Cert.HeadIdeal.nD Cert.HeadIdeal.τ).loc Cert.HeadIdeal.main_arg5)) (m ((c.tc : Thread Cert.HeadIdeal.nD Cert.HeadIdeal.τ).loc Cert.HeadIdeal.main_arg6)) (m ((c.tc : Thread Cert.HeadIdeal.nD Cert.HeadIdeal.τ).loc Cert.HeadIdeal.main_arg7)) (m ((c.tc : Thread Cert.HeadIdeal.nD Cert.HeadIdeal.τ).loc Cert.HeadIdeal.main_arg8)) (m ((c.tc : Thread Cert.HeadIdeal.nD Cert.HeadIdeal.τ).loc Cert.HeadIdeal.main_arg9))).2.2.2.1 = (fun _ => 1#1)
    ∧ (Cert.Pre_head_finite.fn (F := Ideal) (m ((c.tc : Thread Cert.HeadIdeal.nD Cert.HeadIdeal.τ).loc Cert.HeadIdeal.main_arg0)) (m ((c.tc : Thread Cert.HeadIdeal.nD Cert.HeadIdeal.τ).loc Cert.HeadIdeal.main_arg1)) (m ((c.tc : Thread Cert.HeadIdeal.nD Cert.HeadIdeal.τ).loc Cert.HeadIdeal.main_arg2)) (m ((c.tc : Thread Cert.HeadIdeal.nD Cert.HeadIdeal.τ).loc Cert.HeadIdeal.main_arg3)) (m ((c.tc : Thread Cert.HeadIdeal.nD Cert.HeadIdeal.τ).loc Cert.HeadIdeal.main_arg4)) (m ((c.tc : Thread Cert.HeadIdeal.nD Cert.HeadIdeal.τ).loc Cert.HeadIdeal.main_arg5)) (m ((c.tc : Thread Cert.HeadIdeal.nD Cert.HeadIdeal.τ).loc Cert.HeadIdeal.main_arg6)) (m ((c.tc : Thread Cert.HeadIdeal.nD Cert.HeadIdeal.τ).loc Cert.HeadIdeal.main_arg7)) (m ((c.tc : Thread Cert.HeadIdeal.nD Cert.HeadIdeal.τ).loc Cert.HeadIdeal.main_arg8)) (m ((c.tc : Thread Cert.HeadIdeal.nD Cert.HeadIdeal.τ).loc Cert.HeadIdeal.main_arg9))).2.2.2.2.1 = (fun _ => 1#1)
    ∧ (Cert.Pre_head_finite.fn (F := Ideal) (m ((c.tc : Thread Cert.HeadIdeal.nD Cert.HeadIdeal.τ).loc Cert.HeadIdeal.main_arg0)) (m ((c.tc : Thread Cert.HeadIdeal.nD Cert.HeadIdeal.τ).loc Cert.HeadIdeal.main_arg1)) (m ((c.tc : Thread Cert.HeadIdeal.nD Cert.HeadIdeal.τ).loc Cert.HeadIdeal.main_arg2)) (m ((c.tc : Thread Cert.HeadIdeal.nD Cert.HeadIdeal.τ).loc Cert.HeadIdeal.main_arg3)) (m ((c.tc : Thread Cert.HeadIdeal.nD Cert.HeadIdeal.τ).loc Cert.HeadIdeal.main_arg4)) (m ((c.tc : Thread Cert.HeadIdeal.nD Cert.HeadIdeal.τ).loc Cert.HeadIdeal.main_arg5)) (m ((c.tc : Thread Cert.HeadIdeal.nD Cert.HeadIdeal.τ).loc Cert.HeadIdeal.main_arg6)) (m ((c.tc : Thread Cert.HeadIdeal.nD Cert.HeadIdeal.τ).loc Cert.HeadIdeal.main_arg7)) (m ((c.tc : Thread Cert.HeadIdeal.nD Cert.HeadIdeal.τ).loc Cert.HeadIdeal.main_arg8)) (m ((c.tc : Thread Cert.HeadIdeal.nD Cert.HeadIdeal.τ).loc Cert.HeadIdeal.main_arg9))).2.2.2.2.2.1 = (fun _ => 1#1)
    ∧ (Cert.Pre_head_finite.fn (F := Ideal) (m ((c.tc : Thread Cert.HeadIdeal.nD Cert.HeadIdeal.τ).loc Cert.HeadIdeal.main_arg0)) (m ((c.tc : Thread Cert.HeadIdeal.nD Cert.HeadIdeal.τ).loc Cert.HeadIdeal.main_arg1)) (m ((c.tc : Thread Cert.HeadIdeal.nD Cert.HeadIdeal.τ).loc Cert.HeadIdeal.main_arg2)) (m ((c.tc : Thread Cert.HeadIdeal.nD Cert.HeadIdeal.τ).loc Cert.HeadIdeal.main_arg3)) (m ((c.tc : Thread Cert.HeadIdeal.nD Cert.HeadIdeal.τ).loc Cert.HeadIdeal.main_arg4)) (m ((c.tc : Thread Cert.HeadIdeal.nD Cert.HeadIdeal.τ).loc Cert.HeadIdeal.main_arg5)) (m ((c.tc : Thread Cert.HeadIdeal.nD Cert.HeadIdeal.τ).loc Cert.HeadIdeal.main_arg6)) (m ((c.tc : Thread Cert.HeadIdeal.nD Cert.HeadIdeal.τ).loc Cert.HeadIdeal.main_arg7)) (m ((c.tc : Thread Cert.HeadIdeal.nD Cert.HeadIdeal.τ).loc Cert.HeadIdeal.main_arg8)) (m ((c.tc : Thread Cert.HeadIdeal.nD Cert.HeadIdeal.τ).loc Cert.HeadIdeal.main_arg9))).2.2.2.2.2.2.1 = (fun _ => 1#1)
    ∧ (Cert.Pre_head_finite.fn (F := Ideal) (m ((c.tc : Thread Cert.HeadIdeal.nD Cert.HeadIdeal.τ).loc Cert.HeadIdeal.main_arg0)) (m ((c.tc : Thread Cert.HeadIdeal.nD Cert.HeadIdeal.τ).loc Cert.HeadIdeal.main_arg1)) (m ((c.tc : Thread Cert.HeadIdeal.nD Cert.HeadIdeal.τ).loc Cert.HeadIdeal.main_arg2)) (m ((c.tc : Thread Cert.HeadIdeal.nD Cert.HeadIdeal.τ).loc Cert.HeadIdeal.main_arg3)) (m ((c.tc : Thread Cert.HeadIdeal.nD Cert.HeadIdeal.τ).loc Cert.HeadIdeal.main_arg4)) (m ((c.tc : Thread Cert.HeadIdeal.nD Cert.HeadIdeal.τ).loc Cert.HeadIdeal.main_arg5)) (m ((c.tc : Thread Cert.HeadIdeal.nD Cert.HeadIdeal.τ).loc Cert.HeadIdeal.main_arg6)) (m ((c.tc : Thread Cert.HeadIdeal.nD Cert.HeadIdeal.τ).loc Cert.HeadIdeal.main_arg7)) (m ((c.tc : Thread Cert.HeadIdeal.nD Cert.HeadIdeal.τ).loc Cert.HeadIdeal.main_arg8)) (m ((c.tc : Thread Cert.HeadIdeal.nD Cert.HeadIdeal.τ).loc Cert.HeadIdeal.main_arg9))).2.2.2.2.2.2.2.1 = (fun _ => 1#1)
    ∧ (Cert.Pre_head_finite.fn (F := Ideal) (m ((c.tc : Thread Cert.HeadIdeal.nD Cert.HeadIdeal.τ).loc Cert.HeadIdeal.main_arg0)) (m ((c.tc : Thread Cert.HeadIdeal.nD Cert.HeadIdeal.τ).loc Cert.HeadIdeal.main_arg1)) (m ((c.tc : Thread Cert.HeadIdeal.nD Cert.HeadIdeal.τ).loc Cert.HeadIdeal.main_arg2)) (m ((c.tc : Thread Cert.HeadIdeal.nD Cert.HeadIdeal.τ).loc Cert.HeadIdeal.main_arg3)) (m ((c.tc : Thread Cert.HeadIdeal.nD Cert.HeadIdeal.τ).loc Cert.HeadIdeal.main_arg4)) (m ((c.tc : Thread Cert.HeadIdeal.nD Cert.HeadIdeal.τ).loc Cert.HeadIdeal.main_arg5)) (m ((c.tc : Thread Cert.HeadIdeal.nD Cert.HeadIdeal.τ).loc Cert.HeadIdeal.main_arg6)) (m ((c.tc : Thread Cert.HeadIdeal.nD Cert.HeadIdeal.τ).loc Cert.HeadIdeal.main_arg7)) (m ((c.tc : Thread Cert.HeadIdeal.nD Cert.HeadIdeal.τ).loc Cert.HeadIdeal.main_arg8)) (m ((c.tc : Thread Cert.HeadIdeal.nD Cert.HeadIdeal.τ).loc Cert.HeadIdeal.main_arg9))).2.2.2.2.2.2.2.2.1 = (fun _ => 1#1)
    ∧ (Cert.Pre_head_finite.fn (F := Ideal) (m ((c.tc : Thread Cert.HeadIdeal.nD Cert.HeadIdeal.τ).loc Cert.HeadIdeal.main_arg0)) (m ((c.tc : Thread Cert.HeadIdeal.nD Cert.HeadIdeal.τ).loc Cert.HeadIdeal.main_arg1)) (m ((c.tc : Thread Cert.HeadIdeal.nD Cert.HeadIdeal.τ).loc Cert.HeadIdeal.main_arg2)) (m ((c.tc : Thread Cert.HeadIdeal.nD Cert.HeadIdeal.τ).loc Cert.HeadIdeal.main_arg3)) (m ((c.tc : Thread Cert.HeadIdeal.nD Cert.HeadIdeal.τ).loc Cert.HeadIdeal.main_arg4)) (m ((c.tc : Thread Cert.HeadIdeal.nD Cert.HeadIdeal.τ).loc Cert.HeadIdeal.main_arg5)) (m ((c.tc : Thread Cert.HeadIdeal.nD Cert.HeadIdeal.τ).loc Cert.HeadIdeal.main_arg6)) (m ((c.tc : Thread Cert.HeadIdeal.nD Cert.HeadIdeal.τ).loc Cert.HeadIdeal.main_arg7)) (m ((c.tc : Thread Cert.HeadIdeal.nD Cert.HeadIdeal.τ).loc Cert.HeadIdeal.main_arg8)) (m ((c.tc : Thread Cert.HeadIdeal.nD Cert.HeadIdeal.τ).loc Cert.HeadIdeal.main_arg9))).2.2.2.2.2.2.2.2.2 = (fun _ => 1#1)

def Pre_HeadRefIdeal (m : (ℓ : Loc Cert.HeadRefIdeal.nD Cert.HeadRefIdeal.τ Cert.HeadRefIdeal.sig) → Buf (Elt Ideal) ℓ) : Prop :=
  True

def Pre_HeadRefIdeal_head_finite [hPre_head_finite : Cert.Pre_head_finite.Facts] (m : (ℓ : Loc Cert.HeadRefIdeal.nD Cert.HeadRefIdeal.τ Cert.HeadRefIdeal.sig) → Buf (Elt Ideal) ℓ) : Prop :=
  ∀ c : Dev Cert.HeadRefIdeal.nD,
    (Cert.Pre_head_finite.fn (F := Ideal) (m ((c.tc : Thread Cert.HeadRefIdeal.nD Cert.HeadRefIdeal.τ).loc Cert.HeadRefIdeal.main_arg0)) (m ((c.tc : Thread Cert.HeadRefIdeal.nD Cert.HeadRefIdeal.τ).loc Cert.HeadRefIdeal.main_arg1)) (m ((c.tc : Thread Cert.HeadRefIdeal.nD Cert.HeadRefIdeal.τ).loc Cert.HeadRefIdeal.main_arg2)) (m ((c.tc : Thread Cert.HeadRefIdeal.nD Cert.HeadRefIdeal.τ).loc Cert.HeadRefIdeal.main_arg3)) (m ((c.tc : Thread Cert.HeadRefIdeal.nD Cert.HeadRefIdeal.τ).loc Cert.HeadRefIdeal.main_arg4)) (m ((c.tc : Thread Cert.HeadRefIdeal.nD Cert.HeadRefIdeal.τ).loc Cert.HeadRefIdeal.main_arg5)) (m ((c.tc : Thread Cert.HeadRefIdeal.nD Cert.HeadRefIdeal.τ).loc Cert.HeadRefIdeal.main_arg6)) (m ((c.tc : Thread Cert.HeadRefIdeal.nD Cert.HeadRefIdeal.τ).loc Cert.HeadRefIdeal.main_arg7)) (m ((c.tc : Thread Cert.HeadRefIdeal.nD Cert.HeadRefIdeal.τ).loc Cert.HeadRefIdeal.main_arg8)) (m ((c.tc : Thread Cert.HeadRefIdeal.nD Cert.HeadRefIdeal.τ).loc Cert.HeadRefIdeal.main_arg9))).1 = (fun _ => 1#1)
    ∧ (Cert.Pre_head_finite.fn (F := Ideal) (m ((c.tc : Thread Cert.HeadRefIdeal.nD Cert.HeadRefIdeal.τ).loc Cert.HeadRefIdeal.main_arg0)) (m ((c.tc : Thread Cert.HeadRefIdeal.nD Cert.HeadRefIdeal.τ).loc Cert.HeadRefIdeal.main_arg1)) (m ((c.tc : Thread Cert.HeadRefIdeal.nD Cert.HeadRefIdeal.τ).loc Cert.HeadRefIdeal.main_arg2)) (m ((c.tc : Thread Cert.HeadRefIdeal.nD Cert.HeadRefIdeal.τ).loc Cert.HeadRefIdeal.main_arg3)) (m ((c.tc : Thread Cert.HeadRefIdeal.nD Cert.HeadRefIdeal.τ).loc Cert.HeadRefIdeal.main_arg4)) (m ((c.tc : Thread Cert.HeadRefIdeal.nD Cert.HeadRefIdeal.τ).loc Cert.HeadRefIdeal.main_arg5)) (m ((c.tc : Thread Cert.HeadRefIdeal.nD Cert.HeadRefIdeal.τ).loc Cert.HeadRefIdeal.main_arg6)) (m ((c.tc : Thread Cert.HeadRefIdeal.nD Cert.HeadRefIdeal.τ).loc Cert.HeadRefIdeal.main_arg7)) (m ((c.tc : Thread Cert.HeadRefIdeal.nD Cert.HeadRefIdeal.τ).loc Cert.HeadRefIdeal.main_arg8)) (m ((c.tc : Thread Cert.HeadRefIdeal.nD Cert.HeadRefIdeal.τ).loc Cert.HeadRefIdeal.main_arg9))).2.1 = (fun _ => 1#1)
    ∧ (Cert.Pre_head_finite.fn (F := Ideal) (m ((c.tc : Thread Cert.HeadRefIdeal.nD Cert.HeadRefIdeal.τ).loc Cert.HeadRefIdeal.main_arg0)) (m ((c.tc : Thread Cert.HeadRefIdeal.nD Cert.HeadRefIdeal.τ).loc Cert.HeadRefIdeal.main_arg1)) (m ((c.tc : Thread Cert.HeadRefIdeal.nD Cert.HeadRefIdeal.τ).loc Cert.HeadRefIdeal.main_arg2)) (m ((c.tc : Thread Cert.HeadRefIdeal.nD Cert.HeadRefIdeal.τ).loc Cert.HeadRefIdeal.main_arg3)) (m ((c.tc : Thread Cert.HeadRefIdeal.nD Cert.HeadRefIdeal.τ).loc Cert.HeadRefIdeal.main_arg4)) (m ((c.tc : Thread Cert.HeadRefIdeal.nD Cert.HeadRefIdeal.τ).loc Cert.HeadRefIdeal.main_arg5)) (m ((c.tc : Thread Cert.HeadRefIdeal.nD Cert.HeadRefIdeal.τ).loc Cert.HeadRefIdeal.main_arg6)) (m ((c.tc : Thread Cert.HeadRefIdeal.nD Cert.HeadRefIdeal.τ).loc Cert.HeadRefIdeal.main_arg7)) (m ((c.tc : Thread Cert.HeadRefIdeal.nD Cert.HeadRefIdeal.τ).loc Cert.HeadRefIdeal.main_arg8)) (m ((c.tc : Thread Cert.HeadRefIdeal.nD Cert.HeadRefIdeal.τ).loc Cert.HeadRefIdeal.main_arg9))).2.2.1 = (fun _ => 1#1)
    ∧ (Cert.Pre_head_finite.fn (F := Ideal) (m ((c.tc : Thread Cert.HeadRefIdeal.nD Cert.HeadRefIdeal.τ).loc Cert.HeadRefIdeal.main_arg0)) (m ((c.tc : Thread Cert.HeadRefIdeal.nD Cert.HeadRefIdeal.τ).loc Cert.HeadRefIdeal.main_arg1)) (m ((c.tc : Thread Cert.HeadRefIdeal.nD Cert.HeadRefIdeal.τ).loc Cert.HeadRefIdeal.main_arg2)) (m ((c.tc : Thread Cert.HeadRefIdeal.nD Cert.HeadRefIdeal.τ).loc Cert.HeadRefIdeal.main_arg3)) (m ((c.tc : Thread Cert.HeadRefIdeal.nD Cert.HeadRefIdeal.τ).loc Cert.HeadRefIdeal.main_arg4)) (m ((c.tc : Thread Cert.HeadRefIdeal.nD Cert.HeadRefIdeal.τ).loc Cert.HeadRefIdeal.main_arg5)) (m ((c.tc : Thread Cert.HeadRefIdeal.nD Cert.HeadRefIdeal.τ).loc Cert.HeadRefIdeal.main_arg6)) (m ((c.tc : Thread Cert.HeadRefIdeal.nD Cert.HeadRefIdeal.τ).loc Cert.HeadRefIdeal.main_arg7)) (m ((c.tc : Thread Cert.HeadRefIdeal.nD Cert.HeadRefIdeal.τ).loc Cert.HeadRefIdeal.main_arg8)) (m ((c.tc : Thread Cert.HeadRefIdeal.nD Cert.HeadRefIdeal.τ).loc Cert.HeadRefIdeal.main_arg9))).2.2.2.1 = (fun _ => 1#1)
    ∧ (Cert.Pre_head_finite.fn (F := Ideal) (m ((c.tc : Thread Cert.HeadRefIdeal.nD Cert.HeadRefIdeal.τ).loc Cert.HeadRefIdeal.main_arg0)) (m ((c.tc : Thread Cert.HeadRefIdeal.nD Cert.HeadRefIdeal.τ).loc Cert.HeadRefIdeal.main_arg1)) (m ((c.tc : Thread Cert.HeadRefIdeal.nD Cert.HeadRefIdeal.τ).loc Cert.HeadRefIdeal.main_arg2)) (m ((c.tc : Thread Cert.HeadRefIdeal.nD Cert.HeadRefIdeal.τ).loc Cert.HeadRefIdeal.main_arg3)) (m ((c.tc : Thread Cert.HeadRefIdeal.nD Cert.HeadRefIdeal.τ).loc Cert.HeadRefIdeal.main_arg4)) (m ((c.tc : Thread Cert.HeadRefIdeal.nD Cert.HeadRefIdeal.τ).loc Cert.HeadRefIdeal.main_arg5)) (m ((c.tc : Thread Cert.HeadRefIdeal.nD Cert.HeadRefIdeal.τ).loc Cert.HeadRefIdeal.main_arg6)) (m ((c.tc : Thread Cert.HeadRefIdeal.nD Cert.HeadRefIdeal.τ).loc Cert.HeadRefIdeal.main_arg7)) (m ((c.tc : Thread Cert.HeadRefIdeal.nD Cert.HeadRefIdeal.τ).loc Cert.HeadRefIdeal.main_arg8)) (m ((c.tc : Thread Cert.HeadRefIdeal.nD Cert.HeadRefIdeal.τ).loc Cert.HeadRefIdeal.main_arg9))).2.2.2.2.1 = (fun _ => 1#1)
    ∧ (Cert.Pre_head_finite.fn (F := Ideal) (m ((c.tc : Thread Cert.HeadRefIdeal.nD Cert.HeadRefIdeal.τ).loc Cert.HeadRefIdeal.main_arg0)) (m ((c.tc : Thread Cert.HeadRefIdeal.nD Cert.HeadRefIdeal.τ).loc Cert.HeadRefIdeal.main_arg1)) (m ((c.tc : Thread Cert.HeadRefIdeal.nD Cert.HeadRefIdeal.τ).loc Cert.HeadRefIdeal.main_arg2)) (m ((c.tc : Thread Cert.HeadRefIdeal.nD Cert.HeadRefIdeal.τ).loc Cert.HeadRefIdeal.main_arg3)) (m ((c.tc : Thread Cert.HeadRefIdeal.nD Cert.HeadRefIdeal.τ).loc Cert.HeadRefIdeal.main_arg4)) (m ((c.tc : Thread Cert.HeadRefIdeal.nD Cert.HeadRefIdeal.τ).loc Cert.HeadRefIdeal.main_arg5)) (m ((c.tc : Thread Cert.HeadRefIdeal.nD Cert.HeadRefIdeal.τ).loc Cert.HeadRefIdeal.main_arg6)) (m ((c.tc : Thread Cert.HeadRefIdeal.nD Cert.HeadRefIdeal.τ).loc Cert.HeadRefIdeal.main_arg7)) (m ((c.tc : Thread Cert.HeadRefIdeal.nD Cert.HeadRefIdeal.τ).loc Cert.HeadRefIdeal.main_arg8)) (m ((c.tc : Thread Cert.HeadRefIdeal.nD Cert.HeadRefIdeal.τ).loc Cert.HeadRefIdeal.main_arg9))).2.2.2.2.2.1 = (fun _ => 1#1)
    ∧ (Cert.Pre_head_finite.fn (F := Ideal) (m ((c.tc : Thread Cert.HeadRefIdeal.nD Cert.HeadRefIdeal.τ).loc Cert.HeadRefIdeal.main_arg0)) (m ((c.tc : Thread Cert.HeadRefIdeal.nD Cert.HeadRefIdeal.τ).loc Cert.HeadRefIdeal.main_arg1)) (m ((c.tc : Thread Cert.HeadRefIdeal.nD Cert.HeadRefIdeal.τ).loc Cert.HeadRefIdeal.main_arg2)) (m ((c.tc : Thread Cert.HeadRefIdeal.nD Cert.HeadRefIdeal.τ).loc Cert.HeadRefIdeal.main_arg3)) (m ((c.tc : Thread Cert.HeadRefIdeal.nD Cert.HeadRefIdeal.τ).loc Cert.HeadRefIdeal.main_arg4)) (m ((c.tc : Thread Cert.HeadRefIdeal.nD Cert.HeadRefIdeal.τ).loc Cert.HeadRefIdeal.main_arg5)) (m ((c.tc : Thread Cert.HeadRefIdeal.nD Cert.HeadRefIdeal.τ).loc Cert.HeadRefIdeal.main_arg6)) (m ((c.tc : Thread Cert.HeadRefIdeal.nD Cert.HeadRefIdeal.τ).loc Cert.HeadRefIdeal.main_arg7)) (m ((c.tc : Thread Cert.HeadRefIdeal.nD Cert.HeadRefIdeal.τ).loc Cert.HeadRefIdeal.main_arg8)) (m ((c.tc : Thread Cert.HeadRefIdeal.nD Cert.HeadRefIdeal.τ).loc Cert.HeadRefIdeal.main_arg9))).2.2.2.2.2.2.1 = (fun _ => 1#1)
    ∧ (Cert.Pre_head_finite.fn (F := Ideal) (m ((c.tc : Thread Cert.HeadRefIdeal.nD Cert.HeadRefIdeal.τ).loc Cert.HeadRefIdeal.main_arg0)) (m ((c.tc : Thread Cert.HeadRefIdeal.nD Cert.HeadRefIdeal.τ).loc Cert.HeadRefIdeal.main_arg1)) (m ((c.tc : Thread Cert.HeadRefIdeal.nD Cert.HeadRefIdeal.τ).loc Cert.HeadRefIdeal.main_arg2)) (m ((c.tc : Thread Cert.HeadRefIdeal.nD Cert.HeadRefIdeal.τ).loc Cert.HeadRefIdeal.main_arg3)) (m ((c.tc : Thread Cert.HeadRefIdeal.nD Cert.HeadRefIdeal.τ).loc Cert.HeadRefIdeal.main_arg4)) (m ((c.tc : Thread Cert.HeadRefIdeal.nD Cert.HeadRefIdeal.τ).loc Cert.HeadRefIdeal.main_arg5)) (m ((c.tc : Thread Cert.HeadRefIdeal.nD Cert.HeadRefIdeal.τ).loc Cert.HeadRefIdeal.main_arg6)) (m ((c.tc : Thread Cert.HeadRefIdeal.nD Cert.HeadRefIdeal.τ).loc Cert.HeadRefIdeal.main_arg7)) (m ((c.tc : Thread Cert.HeadRefIdeal.nD Cert.HeadRefIdeal.τ).loc Cert.HeadRefIdeal.main_arg8)) (m ((c.tc : Thread Cert.HeadRefIdeal.nD Cert.HeadRefIdeal.τ).loc Cert.HeadRefIdeal.main_arg9))).2.2.2.2.2.2.2.1 = (fun _ => 1#1)
    ∧ (Cert.Pre_head_finite.fn (F := Ideal) (m ((c.tc : Thread Cert.HeadRefIdeal.nD Cert.HeadRefIdeal.τ).loc Cert.HeadRefIdeal.main_arg0)) (m ((c.tc : Thread Cert.HeadRefIdeal.nD Cert.HeadRefIdeal.τ).loc Cert.HeadRefIdeal.main_arg1)) (m ((c.tc : Thread Cert.HeadRefIdeal.nD Cert.HeadRefIdeal.τ).loc Cert.HeadRefIdeal.main_arg2)) (m ((c.tc : Thread Cert.HeadRefIdeal.nD Cert.HeadRefIdeal.τ).loc Cert.HeadRefIdeal.main_arg3)) (m ((c.tc : Thread Cert.HeadRefIdeal.nD Cert.HeadRefIdeal.τ).loc Cert.HeadRefIdeal.main_arg4)) (m ((c.tc : Thread Cert.HeadRefIdeal.nD Cert.HeadRefIdeal.τ).loc Cert.HeadRefIdeal.main_arg5)) (m ((c.tc : Thread Cert.HeadRefIdeal.nD Cert.HeadRefIdeal.τ).loc Cert.HeadRefIdeal.main_arg6)) (m ((c.tc : Thread Cert.HeadRefIdeal.nD Cert.HeadRefIdeal.τ).loc Cert.HeadRefIdeal.main_arg7)) (m ((c.tc : Thread Cert.HeadRefIdeal.nD Cert.HeadRefIdeal.τ).loc Cert.HeadRefIdeal.main_arg8)) (m ((c.tc : Thread Cert.HeadRefIdeal.nD Cert.HeadRefIdeal.τ).loc Cert.HeadRefIdeal.main_arg9))).2.2.2.2.2.2.2.2.1 = (fun _ => 1#1)
    ∧ (Cert.Pre_head_finite.fn (F := Ideal) (m ((c.tc : Thread Cert.HeadRefIdeal.nD Cert.HeadRefIdeal.τ).loc Cert.HeadRefIdeal.main_arg0)) (m ((c.tc : Thread Cert.HeadRefIdeal.nD Cert.HeadRefIdeal.τ).loc Cert.HeadRefIdeal.main_arg1)) (m ((c.tc : Thread Cert.HeadRefIdeal.nD Cert.HeadRefIdeal.τ).loc Cert.HeadRefIdeal.main_arg2)) (m ((c.tc : Thread Cert.HeadRefIdeal.nD Cert.HeadRefIdeal.τ).loc Cert.HeadRefIdeal.main_arg3)) (m ((c.tc : Thread Cert.HeadRefIdeal.nD Cert.HeadRefIdeal.τ).loc Cert.HeadRefIdeal.main_arg4)) (m ((c.tc : Thread Cert.HeadRefIdeal.nD Cert.HeadRefIdeal.τ).loc Cert.HeadRefIdeal.main_arg5)) (m ((c.tc : Thread Cert.HeadRefIdeal.nD Cert.HeadRefIdeal.τ).loc Cert.HeadRefIdeal.main_arg6)) (m ((c.tc : Thread Cert.HeadRefIdeal.nD Cert.HeadRefIdeal.τ).loc Cert.HeadRefIdeal.main_arg7)) (m ((c.tc : Thread Cert.HeadRefIdeal.nD Cert.HeadRefIdeal.τ).loc Cert.HeadRefIdeal.main_arg8)) (m ((c.tc : Thread Cert.HeadRefIdeal.nD Cert.HeadRefIdeal.τ).loc Cert.HeadRefIdeal.main_arg9))).2.2.2.2.2.2.2.2.2 = (fun _ => 1#1)

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvIdeal_conv_finite [hPre_conv_finite : Cert.Pre_conv_finite.Facts] (m : (ℓ : Loc Cert.ConvIdeal.nD Cert.ConvIdeal.τ Cert.ConvIdeal.sig) → Buf (Elt Ideal) ℓ) : Prop :=
  ∀ c : Dev Cert.ConvIdeal.nD,
    (Cert.Pre_conv_finite.fn (F := Ideal) (m ((c.tc : Thread Cert.ConvIdeal.nD Cert.ConvIdeal.τ).loc Cert.ConvIdeal.main_arg0)) (m ((c.tc : Thread Cert.ConvIdeal.nD Cert.ConvIdeal.τ).loc Cert.ConvIdeal.main_arg1)) (m ((c.tc : Thread Cert.ConvIdeal.nD Cert.ConvIdeal.τ).loc Cert.ConvIdeal.main_arg2)) (m ((c.tc : Thread Cert.ConvIdeal.nD Cert.ConvIdeal.τ).loc Cert.ConvIdeal.main_arg3)) (m ((c.tc : Thread Cert.ConvIdeal.nD Cert.ConvIdeal.τ).loc Cert.ConvIdeal.main_arg4)) (m ((c.tc : Thread Cert.ConvIdeal.nD Cert.ConvIdeal.τ).loc Cert.ConvIdeal.main_arg5))).1 = (fun _ => 1#1)
    ∧ (Cert.Pre_conv_finite.fn (F := Ideal) (m ((c.tc : Thread Cert.ConvIdeal.nD Cert.ConvIdeal.τ).loc Cert.ConvIdeal.main_arg0)) (m ((c.tc : Thread Cert.ConvIdeal.nD Cert.ConvIdeal.τ).loc Cert.ConvIdeal.main_arg1)) (m ((c.tc : Thread Cert.ConvIdeal.nD Cert.ConvIdeal.τ).loc Cert.ConvIdeal.main_arg2)) (m ((c.tc : Thread Cert.ConvIdeal.nD Cert.ConvIdeal.τ).loc Cert.ConvIdeal.main_arg3)) (m ((c.tc : Thread Cert.ConvIdeal.nD Cert.ConvIdeal.τ).loc Cert.ConvIdeal.main_arg4)) (m ((c.tc : Thread Cert.ConvIdeal.nD Cert.ConvIdeal.τ).loc Cert.ConvIdeal.main_arg5))).2.1 = (fun _ => 1#1)
    ∧ (Cert.Pre_conv_finite.fn (F := Ideal) (m ((c.tc : Thread Cert.ConvIdeal.nD Cert.ConvIdeal.τ).loc Cert.ConvIdeal.main_arg0)) (m ((c.tc : Thread Cert.ConvIdeal.nD Cert.ConvIdeal.τ).loc Cert.ConvIdeal.main_arg1)) (m ((c.tc : Thread Cert.ConvIdeal.nD Cert.ConvIdeal.τ).loc Cert.ConvIdeal.main_arg2)) (m ((c.tc : Thread Cert.ConvIdeal.nD Cert.ConvIdeal.τ).loc Cert.ConvIdeal.main_arg3)) (m ((c.tc : Thread Cert.ConvIdeal.nD Cert.ConvIdeal.τ).loc Cert.ConvIdeal.main_arg4)) (m ((c.tc : Thread Cert.ConvIdeal.nD Cert.ConvIdeal.τ).loc Cert.ConvIdeal.main_arg5))).2.2.1 = (fun _ => 1#1)
    ∧ (Cert.Pre_conv_finite.fn (F := Ideal) (m ((c.tc : Thread Cert.ConvIdeal.nD Cert.ConvIdeal.τ).loc Cert.ConvIdeal.main_arg0)) (m ((c.tc : Thread Cert.ConvIdeal.nD Cert.ConvIdeal.τ).loc Cert.ConvIdeal.main_arg1)) (m ((c.tc : Thread Cert.ConvIdeal.nD Cert.ConvIdeal.τ).loc Cert.ConvIdeal.main_arg2)) (m ((c.tc : Thread Cert.ConvIdeal.nD Cert.ConvIdeal.τ).loc Cert.ConvIdeal.main_arg3)) (m ((c.tc : Thread Cert.ConvIdeal.nD Cert.ConvIdeal.τ).loc Cert.ConvIdeal.main_arg4)) (m ((c.tc : Thread Cert.ConvIdeal.nD Cert.ConvIdeal.τ).loc Cert.ConvIdeal.main_arg5))).2.2.2.1 = (fun _ => 1#1)
    ∧ (Cert.Pre_conv_finite.fn (F := Ideal) (m ((c.tc : Thread Cert.ConvIdeal.nD Cert.ConvIdeal.τ).loc Cert.ConvIdeal.main_arg0)) (m ((c.tc : Thread Cert.ConvIdeal.nD Cert.ConvIdeal.τ).loc Cert.ConvIdeal.main_arg1)) (m ((c.tc : Thread Cert.ConvIdeal.nD Cert.ConvIdeal.τ).loc Cert.ConvIdeal.main_arg2)) (m ((c.tc : Thread Cert.ConvIdeal.nD Cert.ConvIdeal.τ).loc Cert.ConvIdeal.main_arg3)) (m ((c.tc : Thread Cert.ConvIdeal.nD Cert.ConvIdeal.τ).loc Cert.ConvIdeal.main_arg4)) (m ((c.tc : Thread Cert.ConvIdeal.nD Cert.ConvIdeal.τ).loc Cert.ConvIdeal.main_arg5))).2.2.2.2.1 = (fun _ => 1#1)
    ∧ (Cert.Pre_conv_finite.fn (F := Ideal) (m ((c.tc : Thread Cert.ConvIdeal.nD Cert.ConvIdeal.τ).loc Cert.ConvIdeal.main_arg0)) (m ((c.tc : Thread Cert.ConvIdeal.nD Cert.ConvIdeal.τ).loc Cert.ConvIdeal.main_arg1)) (m ((c.tc : Thread Cert.ConvIdeal.nD Cert.ConvIdeal.τ).loc Cert.ConvIdeal.main_arg2)) (m ((c.tc : Thread Cert.ConvIdeal.nD Cert.ConvIdeal.τ).loc Cert.ConvIdeal.main_arg3)) (m ((c.tc : Thread Cert.ConvIdeal.nD Cert.ConvIdeal.τ).loc Cert.ConvIdeal.main_arg4)) (m ((c.tc : Thread Cert.ConvIdeal.nD Cert.ConvIdeal.τ).loc Cert.ConvIdeal.main_arg5))).2.2.2.2.2 = (fun _ => 1#1)

def Pre_ConvRefIdeal (m : (ℓ : Loc Cert.ConvRefIdeal.nD Cert.ConvRefIdeal.τ Cert.ConvRefIdeal.sig) → Buf (Elt Ideal) ℓ) : Prop :=
  True

def Pre_ConvRefIdeal_conv_finite [hPre_conv_finite : Cert.Pre_conv_finite.Facts] (m : (ℓ : Loc Cert.ConvRefIdeal.nD Cert.ConvRefIdeal.τ Cert.ConvRefIdeal.sig) → Buf (Elt Ideal) ℓ) : Prop :=
  ∀ c : Dev Cert.ConvRefIdeal.nD,
    (Cert.Pre_conv_finite.fn (F := Ideal) (m ((c.tc : Thread Cert.ConvRefIdeal.nD Cert.ConvRefIdeal.τ).loc Cert.ConvRefIdeal.main_arg0)) (m ((c.tc : Thread Cert.ConvRefIdeal.nD Cert.ConvRefIdeal.τ).loc Cert.ConvRefIdeal.main_arg1)) (m ((c.tc : Thread Cert.ConvRefIdeal.nD Cert.ConvRefIdeal.τ).loc Cert.ConvRefIdeal.main_arg2)) (m ((c.tc : Thread Cert.ConvRefIdeal.nD Cert.ConvRefIdeal.τ).loc Cert.ConvRefIdeal.main_arg3)) (m ((c.tc : Thread Cert.ConvRefIdeal.nD Cert.ConvRefIdeal.τ).loc Cert.ConvRefIdeal.main_arg4)) (m ((c.tc : Thread Cert.ConvRefIdeal.nD Cert.ConvRefIdeal.τ).loc Cert.ConvRefIdeal.main_arg5))).1 = (fun _ => 1#1)
    ∧ (Cert.Pre_conv_finite.fn (F := Ideal) (m ((c.tc : Thread Cert.ConvRefIdeal.nD Cert.ConvRefIdeal.τ).loc Cert.ConvRefIdeal.main_arg0)) (m ((c.tc : Thread Cert.ConvRefIdeal.nD Cert.ConvRefIdeal.τ).loc Cert.ConvRefIdeal.main_arg1)) (m ((c.tc : Thread Cert.ConvRefIdeal.nD Cert.ConvRefIdeal.τ).loc Cert.ConvRefIdeal.main_arg2)) (m ((c.tc : Thread Cert.ConvRefIdeal.nD Cert.ConvRefIdeal.τ).loc Cert.ConvRefIdeal.main_arg3)) (m ((c.tc : Thread Cert.ConvRefIdeal.nD Cert.ConvRefIdeal.τ).loc Cert.ConvRefIdeal.main_arg4)) (m ((c.tc : Thread Cert.ConvRefIdeal.nD Cert.ConvRefIdeal.τ).loc Cert.ConvRefIdeal.main_arg5))).2.1 = (fun _ => 1#1)
    ∧ (Cert.Pre_conv_finite.fn (F := Ideal) (m ((c.tc : Thread Cert.ConvRefIdeal.nD Cert.ConvRefIdeal.τ).loc Cert.ConvRefIdeal.main_arg0)) (m ((c.tc : Thread Cert.ConvRefIdeal.nD Cert.ConvRefIdeal.τ).loc Cert.ConvRefIdeal.main_arg1)) (m ((c.tc : Thread Cert.ConvRefIdeal.nD Cert.ConvRefIdeal.τ).loc Cert.ConvRefIdeal.main_arg2)) (m ((c.tc : Thread Cert.ConvRefIdeal.nD Cert.ConvRefIdeal.τ).loc Cert.ConvRefIdeal.main_arg3)) (m ((c.tc : Thread Cert.ConvRefIdeal.nD Cert.ConvRefIdeal.τ).loc Cert.ConvRefIdeal.main_arg4)) (m ((c.tc : Thread Cert.ConvRefIdeal.nD Cert.ConvRefIdeal.τ).loc Cert.ConvRefIdeal.main_arg5))).2.2.1 = (fun _ => 1#1)
    ∧ (Cert.Pre_conv_finite.fn (F := Ideal) (m ((c.tc : Thread Cert.ConvRefIdeal.nD Cert.ConvRefIdeal.τ).loc Cert.ConvRefIdeal.main_arg0)) (m ((c.tc : Thread Cert.ConvRefIdeal.nD Cert.ConvRefIdeal.τ).loc Cert.ConvRefIdeal.main_arg1)) (m ((c.tc : Thread Cert.ConvRefIdeal.nD Cert.ConvRefIdeal.τ).loc Cert.ConvRefIdeal.main_arg2)) (m ((c.tc : Thread Cert.ConvRefIdeal.nD Cert.ConvRefIdeal.τ).loc Cert.ConvRefIdeal.main_arg3)) (m ((c.tc : Thread Cert.ConvRefIdeal.nD Cert.ConvRefIdeal.τ).loc Cert.ConvRefIdeal.main_arg4)) (m ((c.tc : Thread Cert.ConvRefIdeal.nD Cert.ConvRefIdeal.τ).loc Cert.ConvRefIdeal.main_arg5))).2.2.2.1 = (fun _ => 1#1)
    ∧ (Cert.Pre_conv_finite.fn (F := Ideal) (m ((c.tc : Thread Cert.ConvRefIdeal.nD Cert.ConvRefIdeal.τ).loc Cert.ConvRefIdeal.main_arg0)) (m ((c.tc : Thread Cert.ConvRefIdeal.nD Cert.ConvRefIdeal.τ).loc Cert.ConvRefIdeal.main_arg1)) (m ((c.tc : Thread Cert.ConvRefIdeal.nD Cert.ConvRefIdeal.τ).loc Cert.ConvRefIdeal.main_arg2)) (m ((c.tc : Thread Cert.ConvRefIdeal.nD Cert.ConvRefIdeal.τ).loc Cert.ConvRefIdeal.main_arg3)) (m ((c.tc : Thread Cert.ConvRefIdeal.nD Cert.ConvRefIdeal.τ).loc Cert.ConvRefIdeal.main_arg4)) (m ((c.tc : Thread Cert.ConvRefIdeal.nD Cert.ConvRefIdeal.τ).loc Cert.ConvRefIdeal.main_arg5))).2.2.2.2.1 = (fun _ => 1#1)
    ∧ (Cert.Pre_conv_finite.fn (F := Ideal) (m ((c.tc : Thread Cert.ConvRefIdeal.nD Cert.ConvRefIdeal.τ).loc Cert.ConvRefIdeal.main_arg0)) (m ((c.tc : Thread Cert.ConvRefIdeal.nD Cert.ConvRefIdeal.τ).loc Cert.ConvRefIdeal.main_arg1)) (m ((c.tc : Thread Cert.ConvRefIdeal.nD Cert.ConvRefIdeal.τ).loc Cert.ConvRefIdeal.main_arg2)) (m ((c.tc : Thread Cert.ConvRefIdeal.nD Cert.ConvRefIdeal.τ).loc Cert.ConvRefIdeal.main_arg3)) (m ((c.tc : Thread Cert.ConvRefIdeal.nD Cert.ConvRefIdeal.τ).loc Cert.ConvRefIdeal.main_arg4)) (m ((c.tc : Thread Cert.ConvRefIdeal.nD Cert.ConvRefIdeal.τ).loc Cert.ConvRefIdeal.main_arg5))).2.2.2.2.2 = (fun _ => 1#1)

def Pre_Dwr (m : (ℓ : Loc Cert.Dwr.nD Cert.Dwr.τ Cert.Dwr.sig) → Buf (Elt Bits) ℓ) : Prop :=
  True

def Pre_DwrIdeal (m : (ℓ : Loc Cert.DwrIdeal.nD Cert.DwrIdeal.τ Cert.DwrIdeal.sig) → Buf (Elt Ideal) ℓ) : Prop :=
  True

def Pre_DwrRefIdeal (m : (ℓ : Loc Cert.DwrRefIdeal.nD Cert.DwrRefIdeal.τ Cert.DwrRefIdeal.sig) → Buf (Elt Ideal) ℓ) : Prop :=
  True

def Pre_Rope (m : (ℓ : Loc Cert.Rope.nD Cert.Rope.τ Cert.Rope.sig) → Buf (Elt Bits) ℓ) : Prop :=
  True

def Pre_RopeIdeal (m : (ℓ : Loc Cert.RopeIdeal.nD Cert.RopeIdeal.τ Cert.RopeIdeal.sig) → Buf (Elt Ideal) ℓ) : Prop :=
  True

def Pre_RopeRefIdeal (m : (ℓ : Loc Cert.RopeRefIdeal.nD Cert.RopeRefIdeal.τ Cert.RopeRefIdeal.sig) → Buf (Elt Ideal) ℓ) : Prop :=
  True

def Pre_Dw (m : (ℓ : Loc Cert.Dw.nD Cert.Dw.τ Cert.Dw.sig) → Buf (Elt Bits) ℓ) : Prop :=
  True

def Pre_DwIdeal (m : (ℓ : Loc Cert.DwIdeal.nD Cert.DwIdeal.τ Cert.DwIdeal.sig) → Buf (Elt Ideal) ℓ) : Prop :=
  True

def Pre_DwRefIdeal (m : (ℓ : Loc Cert.DwRefIdeal.nD Cert.DwRefIdeal.τ Cert.DwRefIdeal.sig) → Buf (Elt Ideal) ℓ) : Prop :=
  True

def Pre_Adam (m : (ℓ : Loc Cert.Adam.nD Cert.Adam.τ Cert.Adam.sig) → Buf (Elt Bits) ℓ) : Prop :=
  True

def Pre_AdamIdeal (m : (ℓ : Loc Cert.AdamIdeal.nD Cert.AdamIdeal.τ Cert.AdamIdeal.sig) → Buf (Elt Ideal) ℓ) : Prop :=
  True

def Pre_AdamRefIdeal (m : (ℓ : Loc Cert.AdamRefIdeal.nD Cert.AdamRefIdeal.τ Cert.AdamRefIdeal.sig) → Buf (Elt Ideal) ℓ) : Prop :=
  True

def Pre_Step (m : (ℓ : Loc Cert.Step.nD Cert.Step.τ Cert.Step.sig) → Buf (Elt Bits) ℓ) : Prop :=
  True

def Pre_StepIdeal (m : (ℓ : Loc Cert.StepIdeal.nD Cert.StepIdeal.τ Cert.StepIdeal.sig) → Buf (Elt Ideal) ℓ) : Prop :=
  True

def Pre_StepRefIdeal (m : (ℓ : Loc Cert.StepRefIdeal.nD Cert.StepRefIdeal.τ Cert.StepRefIdeal.sig) → Buf (Elt Ideal) ℓ) : Prop :=
  True

def Pre_Sum (m : (ℓ : Loc Cert.Sum.nD Cert.Sum.τ Cert.Sum.sig) → Buf (Elt Bits) ℓ) : Prop :=
  True

def Pre_SumIdeal (m : (ℓ : Loc Cert.SumIdeal.nD Cert.SumIdeal.τ Cert.SumIdeal.sig) → Buf (Elt Ideal) ℓ) : Prop :=
  True

def Pre_SumRefIdeal (m : (ℓ : Loc Cert.SumRefIdeal.nD Cert.SumRefIdeal.τ Cert.SumRefIdeal.sig) → Buf (Elt Ideal) ℓ) : Prop :=
  True

def Pre_Mod (m : (ℓ : Loc Cert.Mod.nD Cert.Mod.τ Cert.Mod.sig) → Buf (Elt Bits) ℓ) : Prop :=
  True

def Pre_ModIdeal (m : (ℓ : Loc Cert.ModIdeal.nD Cert.ModIdeal.τ Cert.ModIdeal.sig) → Buf (Elt Ideal) ℓ) : Prop :=
  True

def Pre_ModRefIdeal (m : (ℓ : Loc Cert.ModRefIdeal.nD Cert.ModRefIdeal.τ Cert.ModRefIdeal.sig) → Buf (Elt Ideal) ℓ) : Prop :=
  True

def Pre_Wada (m : (ℓ : Loc Cert.Wada.nD Cert.Wada.τ Cert.Wada.sig) → Buf (Elt Bits) ℓ) : Prop :=
  True

def Pre_WadaIdeal (m : (ℓ : Loc Cert.WadaIdeal.nD Cert.WadaIdeal.τ Cert.WadaIdeal.sig) → Buf (Elt Ideal) ℓ) : Prop :=
  True

def Pre_WadaRefIdeal (m : (ℓ : Loc Cert.WadaRefIdeal.nD Cert.WadaRefIdeal.τ Cert.WadaRefIdeal.sig) → Buf (Elt Ideal) ℓ) : Prop :=
  True

def Pre_Cfwd (m : (ℓ : Loc Cert.Cfwd.nD Cert.Cfwd.τ Cert.Cfwd.sig) → Buf (Elt Bits) ℓ) : Prop :=
  True

def Pre_CfwdIdeal (m : (ℓ : Loc Cert.CfwdIdeal.nD Cert.CfwdIdeal.τ Cert.CfwdIdeal.sig) → Buf (Elt Ideal) ℓ) : Prop :=
  True

def quiescent_Dh [hDh : Cert.Dh.Facts] : Prop :=
  ∀ (m : (ℓ : Loc Cert.Dh.nD Cert.Dh.τ Cert.Dh.sig) → Buf (Elt Bits) ℓ) (g : Dev Cert.Dh.nD → PrngReg), Pre_Dh m →
    θ_run (Cert.Dh.defs (F := Bits)) (onTc (τ := Cert.Dh.τ) (Cert.Dh.main (F := Bits))) ⟨m, fun _ => 0, g⟩ (fun r => (∀ c : Dev Cert.Dh.nD,
      r.2.mem ((c.tc : Thread Cert.Dh.nD Cert.Dh.τ).loc Cert.Dh.main_arg0) = m ((c.tc : Thread Cert.Dh.nD Cert.Dh.τ).loc Cert.Dh.main_arg0)
      ∧ r.2.mem ((c.tc : Thread Cert.Dh.nD Cert.Dh.τ).loc Cert.Dh.main_arg1) = m ((c.tc : Thread Cert.Dh.nD Cert.Dh.τ).loc Cert.Dh.main_arg1)
      ∧ r.2.mem ((c.tc : Thread Cert.Dh.nD Cert.Dh.τ).loc Cert.Dh.main_arg2) = m ((c.tc : Thread Cert.Dh.nD Cert.Dh.τ).loc Cert.Dh.main_arg2)
      ∧ r.2.mem ((c.tc : Thread Cert.Dh.nD Cert.Dh.τ).loc Cert.Dh.main_arg3) = m ((c.tc : Thread Cert.Dh.nD Cert.Dh.τ).loc Cert.Dh.main_arg3)
      ∧ r.2.mem ((c.tc : Thread Cert.Dh.nD Cert.Dh.τ).loc Cert.Dh.main_arg4) = m ((c.tc : Thread Cert.Dh.nD Cert.Dh.τ).loc Cert.Dh.main_arg4)
      ∧ r.2.mem ((c.tc : Thread Cert.Dh.nD Cert.Dh.τ).loc Cert.Dh.main_arg5) = m ((c.tc : Thread Cert.Dh.nD Cert.Dh.τ).loc Cert.Dh.main_arg5)
      ∧ r.2.mem ((c.tc : Thread Cert.Dh.nD Cert.Dh.τ).loc Cert.Dh.main_arg6) = m ((c.tc : Thread Cert.Dh.nD Cert.Dh.τ).loc Cert.Dh.main_arg6))
      ∧ r.2.sem = fun _ => 0)

def quiescent_DhIdeal [hDhIdeal : Cert.DhIdeal.Facts] : Prop :=
  ∀ (m : (ℓ : Loc Cert.DhIdeal.nD Cert.DhIdeal.τ Cert.DhIdeal.sig) → Buf (Elt Ideal) ℓ) (g : Dev Cert.DhIdeal.nD → PrngReg), Pre_DhIdeal m →
    θ_run (Cert.DhIdeal.defs (F := Ideal)) (onTc (τ := Cert.DhIdeal.τ) (Cert.DhIdeal.main (F := Ideal))) ⟨m, fun _ => 0, g⟩ (fun r => (∀ c : Dev Cert.DhIdeal.nD,
      r.2.mem ((c.tc : Thread Cert.DhIdeal.nD Cert.DhIdeal.τ).loc Cert.DhIdeal.main_arg0) = m ((c.tc : Thread Cert.DhIdeal.nD Cert.DhIdeal.τ).loc Cert.DhIdeal.main_arg0)
      ∧ r.2.mem ((c.tc : Thread Cert.DhIdeal.nD Cert.DhIdeal.τ).loc Cert.DhIdeal.main_arg1) = m ((c.tc : Thread Cert.DhIdeal.nD Cert.DhIdeal.τ).loc Cert.DhIdeal.main_arg1)
      ∧ r.2.mem ((c.tc : Thread Cert.DhIdeal.nD Cert.DhIdeal.τ).loc Cert.DhIdeal.main_arg2) = m ((c.tc : Thread Cert.DhIdeal.nD Cert.DhIdeal.τ).loc Cert.DhIdeal.main_arg2)
      ∧ r.2.mem ((c.tc : Thread Cert.DhIdeal.nD Cert.DhIdeal.τ).loc Cert.DhIdeal.main_arg3) = m ((c.tc : Thread Cert.DhIdeal.nD Cert.DhIdeal.τ).loc Cert.DhIdeal.main_arg3)
      ∧ r.2.mem ((c.tc : Thread Cert.DhIdeal.nD Cert.DhIdeal.τ).loc Cert.DhIdeal.main_arg4) = m ((c.tc : Thread Cert.DhIdeal.nD Cert.DhIdeal.τ).loc Cert.DhIdeal.main_arg4)
      ∧ r.2.mem ((c.tc : Thread Cert.DhIdeal.nD Cert.DhIdeal.τ).loc Cert.DhIdeal.main_arg5) = m ((c.tc : Thread Cert.DhIdeal.nD Cert.DhIdeal.τ).loc Cert.DhIdeal.main_arg5)
      ∧ r.2.mem ((c.tc : Thread Cert.DhIdeal.nD Cert.DhIdeal.τ).loc Cert.DhIdeal.main_arg6) = m ((c.tc : Thread Cert.DhIdeal.nD Cert.DhIdeal.τ).loc Cert.DhIdeal.main_arg6))
      ∧ r.2.sem = fun _ => 0)

def quiescent_DhIdeal_pre_dh_finite [hDhIdeal : Cert.DhIdeal.Facts] [hPre_dh_finite : Cert.Pre_dh_finite.Facts] : Prop :=
  ∀ (m : (ℓ : Loc Cert.DhIdeal.nD Cert.DhIdeal.τ Cert.DhIdeal.sig) → Buf (Elt Ideal) ℓ) (g : Dev Cert.DhIdeal.nD → PrngReg), Pre_DhIdeal_dh_finite m →
    θ_run (Cert.DhIdeal.defs (F := Ideal)) (onTc (τ := Cert.DhIdeal.τ) (Cert.DhIdeal.main (F := Ideal))) ⟨m, fun _ => 0, g⟩ (fun r => (∀ c : Dev Cert.DhIdeal.nD,
      r.2.mem ((c.tc : Thread Cert.DhIdeal.nD Cert.DhIdeal.τ).loc Cert.DhIdeal.main_arg0) = m ((c.tc : Thread Cert.DhIdeal.nD Cert.DhIdeal.τ).loc Cert.DhIdeal.main_arg0)
      ∧ r.2.mem ((c.tc : Thread Cert.DhIdeal.nD Cert.DhIdeal.τ).loc Cert.DhIdeal.main_arg1) = m ((c.tc : Thread Cert.DhIdeal.nD Cert.DhIdeal.τ).loc Cert.DhIdeal.main_arg1)
      ∧ r.2.mem ((c.tc : Thread Cert.DhIdeal.nD Cert.DhIdeal.τ).loc Cert.DhIdeal.main_arg2) = m ((c.tc : Thread Cert.DhIdeal.nD Cert.DhIdeal.τ).loc Cert.DhIdeal.main_arg2)
      ∧ r.2.mem ((c.tc : Thread Cert.DhIdeal.nD Cert.DhIdeal.τ).loc Cert.DhIdeal.main_arg3) = m ((c.tc : Thread Cert.DhIdeal.nD Cert.DhIdeal.τ).loc Cert.DhIdeal.main_arg3)
      ∧ r.2.mem ((c.tc : Thread Cert.DhIdeal.nD Cert.DhIdeal.τ).loc Cert.DhIdeal.main_arg4) = m ((c.tc : Thread Cert.DhIdeal.nD Cert.DhIdeal.τ).loc Cert.DhIdeal.main_arg4)
      ∧ r.2.mem ((c.tc : Thread Cert.DhIdeal.nD Cert.DhIdeal.τ).loc Cert.DhIdeal.main_arg5) = m ((c.tc : Thread Cert.DhIdeal.nD Cert.DhIdeal.τ).loc Cert.DhIdeal.main_arg5)
      ∧ r.2.mem ((c.tc : Thread Cert.DhIdeal.nD Cert.DhIdeal.τ).loc Cert.DhIdeal.main_arg6) = m ((c.tc : Thread Cert.DhIdeal.nD Cert.DhIdeal.τ).loc Cert.DhIdeal.main_arg6))
      ∧ r.2.sem = fun _ => 0)

def quiescent_DhRefIdeal [hDhRefIdeal : Cert.DhRefIdeal.Facts] : Prop :=
  ∀ (m : (ℓ : Loc Cert.DhRefIdeal.nD Cert.DhRefIdeal.τ Cert.DhRefIdeal.sig) → Buf (Elt Ideal) ℓ) (g : Dev Cert.DhRefIdeal.nD → PrngReg), Pre_DhRefIdeal m →
    θ_run (Cert.DhRefIdeal.defs (F := Ideal)) (onTc (τ := Cert.DhRefIdeal.τ) (Cert.DhRefIdeal.main (F := Ideal))) ⟨m, fun _ => 0, g⟩ (fun r => (∀ c : Dev Cert.DhRefIdeal.nD,
      r.2.mem ((c.tc : Thread Cert.DhRefIdeal.nD Cert.DhRefIdeal.τ).loc Cert.DhRefIdeal.main_arg0) = m ((c.tc : Thread Cert.DhRefIdeal.nD Cert.DhRefIdeal.τ).loc Cert.DhRefIdeal.main_arg0)
      ∧ r.2.mem ((c.tc : Thread Cert.DhRefIdeal.nD Cert.DhRefIdeal.τ).loc Cert.DhRefIdeal.main_arg1) = m ((c.tc : Thread Cert.DhRefIdeal.nD Cert.DhRefIdeal.τ).loc Cert.DhRefIdeal.main_arg1)
      ∧ r.2.mem ((c.tc : Thread Cert.DhRefIdeal.nD Cert.DhRefIdeal.τ).loc Cert.DhRefIdeal.main_arg2) = m ((c.tc : Thread Cert.DhRefIdeal.nD Cert.DhRefIdeal.τ).loc Cert.DhRefIdeal.main_arg2)
      ∧ r.2.mem ((c.tc : Thread Cert.DhRefIdeal.nD Cert.DhRefIdeal.τ).loc Cert.DhRefIdeal.main_arg3) = m ((c.tc : Thread Cert.DhRefIdeal.nD Cert.DhRefIdeal.τ).loc Cert.DhRefIdeal.main_arg3)
      ∧ r.2.mem ((c.tc : Thread Cert.DhRefIdeal.nD Cert.DhRefIdeal.τ).loc Cert.DhRefIdeal.main_arg4) = m ((c.tc : Thread Cert.DhRefIdeal.nD Cert.DhRefIdeal.τ).loc Cert.DhRefIdeal.main_arg4)
      ∧ r.2.mem ((c.tc : Thread Cert.DhRefIdeal.nD Cert.DhRefIdeal.τ).loc Cert.DhRefIdeal.main_arg5) = m ((c.tc : Thread Cert.DhRefIdeal.nD Cert.DhRefIdeal.τ).loc Cert.DhRefIdeal.main_arg5)
      ∧ r.2.mem ((c.tc : Thread Cert.DhRefIdeal.nD Cert.DhRefIdeal.τ).loc Cert.DhRefIdeal.main_arg6) = m ((c.tc : Thread Cert.DhRefIdeal.nD Cert.DhRefIdeal.τ).loc Cert.DhRefIdeal.main_arg6))
      ∧ r.2.sem = fun _ => 0)

def quiescent_DhRefIdeal_pre_dh_finite [hDhRefIdeal : Cert.DhRefIdeal.Facts] [hPre_dh_finite : Cert.Pre_dh_finite.Facts] : Prop :=
  ∀ (m : (ℓ : Loc Cert.DhRefIdeal.nD Cert.DhRefIdeal.τ Cert.DhRefIdeal.sig) → Buf (Elt Ideal) ℓ) (g : Dev Cert.DhRefIdeal.nD → PrngReg), Pre_DhRefIdeal_dh_finite m →
    θ_run (Cert.DhRefIdeal.defs (F := Ideal)) (onTc (τ := Cert.DhRefIdeal.τ) (Cert.DhRefIdeal.main (F := Ideal))) ⟨m, fun _ => 0, g⟩ (fun r => (∀ c : Dev Cert.DhRefIdeal.nD,
      r.2.mem ((c.tc : Thread Cert.DhRefIdeal.nD Cert.DhRefIdeal.τ).loc Cert.DhRefIdeal.main_arg0) = m ((c.tc : Thread Cert.DhRefIdeal.nD Cert.DhRefIdeal.τ).loc Cert.DhRefIdeal.main_arg0)
      ∧ r.2.mem ((c.tc : Thread Cert.DhRefIdeal.nD Cert.DhRefIdeal.τ).loc Cert.DhRefIdeal.main_arg1) = m ((c.tc : Thread Cert.DhRefIdeal.nD Cert.DhRefIdeal.τ).loc Cert.DhRefIdeal.main_arg1)
      ∧ r.2.mem ((c.tc : Thread Cert.DhRefIdeal.nD Cert.DhRefIdeal.τ).loc Cert.DhRefIdeal.main_arg2) = m ((c.tc : Thread Cert.DhRefIdeal.nD Cert.DhRefIdeal.τ).loc Cert.DhRefIdeal.main_arg2)
      ∧ r.2.mem ((c.tc : Thread Cert.DhRefIdeal.nD Cert.DhRefIdeal.τ).loc Cert.DhRefIdeal.main_arg3) = m ((c.tc : Thread Cert.DhRefIdeal.nD Cert.DhRefIdeal.τ).loc Cert.DhRefIdeal.main_arg3)
      ∧ r.2.mem ((c.tc : Thread Cert.DhRefIdeal.nD Cert.DhRefIdeal.τ).loc Cert.DhRefIdeal.main_arg4) = m ((c.tc : Thread Cert.DhRefIdeal.nD Cert.DhRefIdeal.τ).loc Cert.DhRefIdeal.main_arg4)
      ∧ r.2.mem ((c.tc : Thread Cert.DhRefIdeal.nD Cert.DhRefIdeal.τ).loc Cert.DhRefIdeal.main_arg5) = m ((c.tc : Thread Cert.DhRefIdeal.nD Cert.DhRefIdeal.τ).loc Cert.DhRefIdeal.main_arg5)
      ∧ r.2.mem ((c.tc : Thread Cert.DhRefIdeal.nD Cert.DhRefIdeal.τ).loc Cert.DhRefIdeal.main_arg6) = m ((c.tc : Thread Cert.DhRefIdeal.nD Cert.DhRefIdeal.τ).loc Cert.DhRefIdeal.main_arg6))
      ∧ r.2.sem = fun _ => 0)

def quiescent_Ret [hRet : Cert.Ret.Facts] : Prop :=
  ∀ (m : (ℓ : Loc Cert.Ret.nD Cert.Ret.τ Cert.Ret.sig) → Buf (Elt Bits) ℓ) (g : Dev Cert.Ret.nD → PrngReg), Pre_Ret m →
    θ_run (Cert.Ret.defs (F := Bits)) (onTc (τ := Cert.Ret.τ) (Cert.Ret.main (F := Bits))) ⟨m, fun _ => 0, g⟩ (fun r => (∀ c : Dev Cert.Ret.nD,
      r.2.mem ((c.tc : Thread Cert.Ret.nD Cert.Ret.τ).loc Cert.Ret.main_arg0) = m ((c.tc : Thread Cert.Ret.nD Cert.Ret.τ).loc Cert.Ret.main_arg0)
      ∧ r.2.mem ((c.tc : Thread Cert.Ret.nD Cert.Ret.τ).loc Cert.Ret.main_arg1) = m ((c.tc : Thread Cert.Ret.nD Cert.Ret.τ).loc Cert.Ret.main_arg1)
      ∧ r.2.mem ((c.tc : Thread Cert.Ret.nD Cert.Ret.τ).loc Cert.Ret.main_arg2) = m ((c.tc : Thread Cert.Ret.nD Cert.Ret.τ).loc Cert.Ret.main_arg2))
      ∧ r.2.sem = fun _ => 0)

def quiescent_RetIdeal [hRetIdeal : Cert.RetIdeal.Facts] : Prop :=
  ∀ (m : (ℓ : Loc Cert.RetIdeal.nD Cert.RetIdeal.τ Cert.RetIdeal.sig) → Buf (Elt Ideal) ℓ) (g : Dev Cert.RetIdeal.nD → PrngReg), Pre_RetIdeal m →
    θ_run (Cert.RetIdeal.defs (F := Ideal)) (onTc (τ := Cert.RetIdeal.τ) (Cert.RetIdeal.main (F := Ideal))) ⟨m, fun _ => 0, g⟩ (fun r => (∀ c : Dev Cert.RetIdeal.nD,
      r.2.mem ((c.tc : Thread Cert.RetIdeal.nD Cert.RetIdeal.τ).loc Cert.RetIdeal.main_arg0) = m ((c.tc : Thread Cert.RetIdeal.nD Cert.RetIdeal.τ).loc Cert.RetIdeal.main_arg0)
      ∧ r.2.mem ((c.tc : Thread Cert.RetIdeal.nD Cert.RetIdeal.τ).loc Cert.RetIdeal.main_arg1) = m ((c.tc : Thread Cert.RetIdeal.nD Cert.RetIdeal.τ).loc Cert.RetIdeal.main_arg1)
      ∧ r.2.mem ((c.tc : Thread Cert.RetIdeal.nD Cert.RetIdeal.τ).loc Cert.RetIdeal.main_arg2) = m ((c.tc : Thread Cert.RetIdeal.nD Cert.RetIdeal.τ).loc Cert.RetIdeal.main_arg2))
      ∧ r.2.sem = fun _ => 0)

def quiescent_RetIdeal_pre_ret_finite [hRetIdeal : Cert.RetIdeal.Facts] [hPre_ret_finite : Cert.Pre_ret_finite.Facts] : Prop :=
  ∀ (m : (ℓ : Loc Cert.RetIdeal.nD Cert.RetIdeal.τ Cert.RetIdeal.sig) → Buf (Elt Ideal) ℓ) (g : Dev Cert.RetIdeal.nD → PrngReg), Pre_RetIdeal_ret_finite m →
    θ_run (Cert.RetIdeal.defs (F := Ideal)) (onTc (τ := Cert.RetIdeal.τ) (Cert.RetIdeal.main (F := Ideal))) ⟨m, fun _ => 0, g⟩ (fun r => (∀ c : Dev Cert.RetIdeal.nD,
      r.2.mem ((c.tc : Thread Cert.RetIdeal.nD Cert.RetIdeal.τ).loc Cert.RetIdeal.main_arg0) = m ((c.tc : Thread Cert.RetIdeal.nD Cert.RetIdeal.τ).loc Cert.RetIdeal.main_arg0)
      ∧ r.2.mem ((c.tc : Thread Cert.RetIdeal.nD Cert.RetIdeal.τ).loc Cert.RetIdeal.main_arg1) = m ((c.tc : Thread Cert.RetIdeal.nD Cert.RetIdeal.τ).loc Cert.RetIdeal.main_arg1)
      ∧ r.2.mem ((c.tc : Thread Cert.RetIdeal.nD Cert.RetIdeal.τ).loc Cert.RetIdeal.main_arg2) = m ((c.tc : Thread Cert.RetIdeal.nD Cert.RetIdeal.τ).loc Cert.RetIdeal.main_arg2))
      ∧ r.2.sem = fun _ => 0)

def quiescent_RetRefIdeal [hRetRefIdeal : Cert.RetRefIdeal.Facts] : Prop :=
  ∀ (m : (ℓ : Loc Cert.RetRefIdeal.nD Cert.RetRefIdeal.τ Cert.RetRefIdeal.sig) → Buf (Elt Ideal) ℓ) (g : Dev Cert.RetRefIdeal.nD → PrngReg), Pre_RetRefIdeal m →
    θ_run (Cert.RetRefIdeal.defs (F := Ideal)) (onTc (τ := Cert.RetRefIdeal.τ) (Cert.RetRefIdeal.main (F := Ideal))) ⟨m, fun _ => 0, g⟩ (fun r => (∀ c : Dev Cert.RetRefIdeal.nD,
      r.2.mem ((c.tc : Thread Cert.RetRefIdeal.nD Cert.RetRefIdeal.τ).loc Cert.RetRefIdeal.main_arg0) = m ((c.tc : Thread Cert.RetRefIdeal.nD Cert.RetRefIdeal.τ).loc Cert.RetRefIdeal.main_arg0)
      ∧ r.2.mem ((c.tc : Thread Cert.RetRefIdeal.nD Cert.RetRefIdeal.τ).loc Cert.RetRefIdeal.main_arg1) = m ((c.tc : Thread Cert.RetRefIdeal.nD Cert.RetRefIdeal.τ).loc Cert.RetRefIdeal.main_arg1)
      ∧ r.2.mem ((c.tc : Thread Cert.RetRefIdeal.nD Cert.RetRefIdeal.τ).loc Cert.RetRefIdeal.main_arg2) = m ((c.tc : Thread Cert.RetRefIdeal.nD Cert.RetRefIdeal.τ).loc Cert.RetRefIdeal.main_arg2))
      ∧ r.2.sem = fun _ => 0)

def quiescent_RetRefIdeal_pre_ret_finite [hRetRefIdeal : Cert.RetRefIdeal.Facts] [hPre_ret_finite : Cert.Pre_ret_finite.Facts] : Prop :=
  ∀ (m : (ℓ : Loc Cert.RetRefIdeal.nD Cert.RetRefIdeal.τ Cert.RetRefIdeal.sig) → Buf (Elt Ideal) ℓ) (g : Dev Cert.RetRefIdeal.nD → PrngReg), Pre_RetRefIdeal_ret_finite m →
    θ_run (Cert.RetRefIdeal.defs (F := Ideal)) (onTc (τ := Cert.RetRefIdeal.τ) (Cert.RetRefIdeal.main (F := Ideal))) ⟨m, fun _ => 0, g⟩ (fun r => (∀ c : Dev Cert.RetRefIdeal.nD,
      r.2.mem ((c.tc : Thread Cert.RetRefIdeal.nD Cert.RetRefIdeal.τ).loc Cert.RetRefIdeal.main_arg0) = m ((c.tc : Thread Cert.RetRefIdeal.nD Cert.RetRefIdeal.τ).loc Cert.RetRefIdeal.main_arg0)
      ∧ r.2.mem ((c.tc : Thread Cert.RetRefIdeal.nD Cert.RetRefIdeal.τ).loc Cert.RetRefIdeal.main_arg1) = m ((c.tc : Thread Cert.RetRefIdeal.nD Cert.RetRefIdeal.τ).loc Cert.RetRefIdeal.main_arg1)
      ∧ r.2.mem ((c.tc : Thread Cert.RetRefIdeal.nD Cert.RetRefIdeal.τ).loc Cert.RetRefIdeal.main_arg2) = m ((c.tc : Thread Cert.RetRefIdeal.nD Cert.RetRefIdeal.τ).loc Cert.RetRefIdeal.main_arg2))
      ∧ r.2.sem = fun _ => 0)

def quiescent_Head [hHead : Cert.Head.Facts] : Prop :=
  ∀ (m : (ℓ : Loc Cert.Head.nD Cert.Head.τ Cert.Head.sig) → Buf (Elt Bits) ℓ) (g : Dev Cert.Head.nD → PrngReg), Pre_Head m →
    θ_run (Cert.Head.defs (F := Bits)) (onTc (τ := Cert.Head.τ) (Cert.Head.main (F := Bits))) ⟨m, fun _ => 0, g⟩ (fun r => (∀ c : Dev Cert.Head.nD,
      r.2.mem ((c.tc : Thread Cert.Head.nD Cert.Head.τ).loc Cert.Head.main_arg0) = m ((c.tc : Thread Cert.Head.nD Cert.Head.τ).loc Cert.Head.main_arg0)
      ∧ r.2.mem ((c.tc : Thread Cert.Head.nD Cert.Head.τ).loc Cert.Head.main_arg1) = m ((c.tc : Thread Cert.Head.nD Cert.Head.τ).loc Cert.Head.main_arg1)
      ∧ r.2.mem ((c.tc : Thread Cert.Head.nD Cert.Head.τ).loc Cert.Head.main_arg2) = m ((c.tc : Thread Cert.Head.nD Cert.Head.τ).loc Cert.Head.main_arg2)
      ∧ r.2.mem ((c.tc : Thread Cert.Head.nD Cert.Head.τ).loc Cert.Head.main_arg3) = m ((c.tc : Thread Cert.Head.nD Cert.Head.τ).loc Cert.Head.main_arg3)
      ∧ r.2.mem ((c.tc : Thread Cert.Head.nD Cert.Head.τ).loc Cert.Head.main_arg4) = m ((c.tc : Thread Cert.Head.nD Cert.Head.τ).loc Cert.Head.main_arg4)
      ∧ r.2.mem ((c.tc : Thread Cert.Head.nD Cert.Head.τ).loc Cert.Head.main_arg5) = m ((c.tc : Thread Cert.Head.nD Cert.Head.τ).loc Cert.Head.main_arg5)
      ∧ r.2.mem ((c.tc : Thread Cert.Head.nD Cert.Head.τ).loc Cert.Head.main_arg6) = m ((c.tc : Thread Cert.Head.nD Cert.Head.τ).loc Cert.Head.main_arg6)
      ∧ r.2.mem ((c.tc : Thread Cert.Head.nD Cert.Head.τ).loc Cert.Head.main_arg7) = m ((c.tc : Thread Cert.Head.nD Cert.Head.τ).loc Cert.Head.main_arg7)
      ∧ r.2.mem ((c.tc : Thread Cert.Head.nD Cert.Head.τ).loc Cert.Head.main_arg8) = m ((c.tc : Thread Cert.Head.nD Cert.Head.τ).loc Cert.Head.main_arg8)
      ∧ r.2.mem ((c.tc : Thread Cert.Head.nD Cert.Head.τ).loc Cert.Head.main_arg9) = m ((c.tc : Thread Cert.Head.nD Cert.Head.τ).loc Cert.Head.main_arg9))
      ∧ r.2.sem = fun _ => 0)

def quiescent_HeadIdeal [hHeadIdeal : Cert.HeadIdeal.Facts] : Prop :=
  ∀ (m : (ℓ : Loc Cert.HeadIdeal.nD Cert.HeadIdeal.τ Cert.HeadIdeal.sig) → Buf (Elt Ideal) ℓ) (g : Dev Cert.HeadIdeal.nD → PrngReg), Pre_HeadIdeal m →
    θ_run (Cert.HeadIdeal.defs (F := Ideal)) (onTc (τ := Cert.HeadIdeal.τ) (Cert.HeadIdeal.main (F := Ideal))) ⟨m, fun _ => 0, g⟩ (fun r => (∀ c : Dev Cert.HeadIdeal.nD,
      r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
      ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
      ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
      ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
      ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4)
      ∧ r.2.mem ((c.tc : Thread Cert.HeadIdeal.nD Cert.HeadIdeal.τ).loc Cert.HeadIdeal.main_arg5) = m ((c.tc : Thread Cert.HeadIdeal.nD Cert.HeadIdeal.τ).loc Cert.HeadIdeal.main_arg5)
      ∧ r.2.mem ((c.tc : Thread Cert.HeadIdeal.nD Cert.HeadIdeal.τ).loc Cert.HeadIdeal.main_arg6) = m ((c.tc : Thread Cert.HeadIdeal.nD Cert.HeadIdeal.τ).loc Cert.HeadIdeal.main_arg6)
      ∧ r.2.mem ((c.tc : Thread Cert.HeadIdeal.nD Cert.HeadIdeal.τ).loc Cert.HeadIdeal.main_arg7) = m ((c.tc : Thread Cert.HeadIdeal.nD Cert.HeadIdeal.τ).loc Cert.HeadIdeal.main_arg7)
      ∧ r.2.mem ((c.tc : Thread Cert.HeadIdeal.nD Cert.HeadIdeal.τ).loc Cert.HeadIdeal.main_arg8) = m ((c.tc : Thread Cert.HeadIdeal.nD Cert.HeadIdeal.τ).loc Cert.HeadIdeal.main_arg8)
      ∧ r.2.mem ((c.tc : Thread Cert.HeadIdeal.nD Cert.HeadIdeal.τ).loc Cert.HeadIdeal.main_arg9) = m ((c.tc : Thread Cert.HeadIdeal.nD Cert.HeadIdeal.τ).loc Cert.HeadIdeal.main_arg9))
      ∧ r.2.sem = fun _ => 0)

def quiescent_HeadIdeal_pre_head_finite [hHeadIdeal : Cert.HeadIdeal.Facts] [hPre_head_finite : Cert.Pre_head_finite.Facts] : Prop :=
  ∀ (m : (ℓ : Loc Cert.HeadIdeal.nD Cert.HeadIdeal.τ Cert.HeadIdeal.sig) → Buf (Elt Ideal) ℓ) (g : Dev Cert.HeadIdeal.nD → PrngReg), Pre_HeadIdeal_head_finite m →
    θ_run (Cert.HeadIdeal.defs (F := Ideal)) (onTc (τ := Cert.HeadIdeal.τ) (Cert.HeadIdeal.main (F := Ideal))) ⟨m, fun _ => 0, g⟩ (fun r => (∀ c : Dev Cert.HeadIdeal.nD,
      r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
      ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
      ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
      ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
      ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4)
      ∧ r.2.mem ((c.tc : Thread Cert.HeadIdeal.nD Cert.HeadIdeal.τ).loc Cert.HeadIdeal.main_arg5) = m ((c.tc : Thread Cert.HeadIdeal.nD Cert.HeadIdeal.τ).loc Cert.HeadIdeal.main_arg5)
      ∧ r.2.mem ((c.tc : Thread Cert.HeadIdeal.nD Cert.HeadIdeal.τ).loc Cert.HeadIdeal.main_arg6) = m ((c.tc : Thread Cert.HeadIdeal.nD Cert.HeadIdeal.τ).loc Cert.HeadIdeal.main_arg6)
      ∧ r.2.mem ((c.tc : Thread Cert.HeadIdeal.nD Cert.HeadIdeal.τ).loc Cert.HeadIdeal.main_arg7) = m ((c.tc : Thread Cert.HeadIdeal.nD Cert.HeadIdeal.τ).loc Cert.HeadIdeal.main_arg7)
      ∧ r.2.mem ((c.tc : Thread Cert.HeadIdeal.nD Cert.HeadIdeal.τ).loc Cert.HeadIdeal.main_arg8) = m ((c.tc : Thread Cert.HeadIdeal.nD Cert.HeadIdeal.τ).loc Cert.HeadIdeal.main_arg8)
      ∧ r.2.mem ((c.tc : Thread Cert.HeadIdeal.nD Cert.HeadIdeal.τ).loc Cert.HeadIdeal.main_arg9) = m ((c.tc : Thread Cert.HeadIdeal.nD Cert.HeadIdeal.τ).loc Cert.HeadIdeal.main_arg9))
      ∧ r.2.sem = fun _ => 0)

def quiescent_HeadRefIdeal [hHeadRefIdeal : Cert.HeadRefIdeal.Facts] : Prop :=
  ∀ (m : (ℓ : Loc Cert.HeadRefIdeal.nD Cert.HeadRefIdeal.τ Cert.HeadRefIdeal.sig) → Buf (Elt Ideal) ℓ) (g : Dev Cert.HeadRefIdeal.nD → PrngReg), Pre_HeadRefIdeal m →
    θ_run (Cert.HeadRefIdeal.defs (F := Ideal)) (onTc (τ := Cert.HeadRefIdeal.τ) (Cert.HeadRefIdeal.main (F := Ideal))) ⟨m, fun _ => 0, g⟩ (fun r => (∀ c : Dev Cert.HeadRefIdeal.nD,
      r.2.mem ((c.tc : Thread Cert.HeadRefIdeal.nD Cert.HeadRefIdeal.τ).loc Cert.HeadRefIdeal.main_arg0) = m ((c.tc : Thread Cert.HeadRefIdeal.nD Cert.HeadRefIdeal.τ).loc Cert.HeadRefIdeal.main_arg0)
      ∧ r.2.mem ((c.tc : Thread Cert.HeadRefIdeal.nD Cert.HeadRefIdeal.τ).loc Cert.HeadRefIdeal.main_arg1) = m ((c.tc : Thread Cert.HeadRefIdeal.nD Cert.HeadRefIdeal.τ).loc Cert.HeadRefIdeal.main_arg1)
      ∧ r.2.mem ((c.tc : Thread Cert.HeadRefIdeal.nD Cert.HeadRefIdeal.τ).loc Cert.HeadRefIdeal.main_arg2) = m ((c.tc : Thread Cert.HeadRefIdeal.nD Cert.HeadRefIdeal.τ).loc Cert.HeadRefIdeal.main_arg2)
      ∧ r.2.mem ((c.tc : Thread Cert.HeadRefIdeal.nD Cert.HeadRefIdeal.τ).loc Cert.HeadRefIdeal.main_arg3) = m ((c.tc : Thread Cert.HeadRefIdeal.nD Cert.HeadRefIdeal.τ).loc Cert.HeadRefIdeal.main_arg3)
      ∧ r.2.mem ((c.tc : Thread Cert.HeadRefIdeal.nD Cert.HeadRefIdeal.τ).loc Cert.HeadRefIdeal.main_arg4) = m ((c.tc : Thread Cert.HeadRefIdeal.nD Cert.HeadRefIdeal.τ).loc Cert.HeadRefIdeal.main_arg4)
      ∧ r.2.mem ((c.tc : Thread Cert.HeadRefIdeal.nD Cert.HeadRefIdeal.τ).loc Cert.HeadRefIdeal.main_arg5) = m ((c.tc : Thread Cert.HeadRefIdeal.nD Cert.HeadRefIdeal.τ).loc Cert.HeadRefIdeal.main_arg5)
      ∧ r.2.mem ((c.tc : Thread Cert.HeadRefIdeal.nD Cert.HeadRefIdeal.τ).loc Cert.HeadRefIdeal.main_arg6) = m ((c.tc : Thread Cert.HeadRefIdeal.nD Cert.HeadRefIdeal.τ).loc Cert.HeadRefIdeal.main_arg6)
      ∧ r.2.mem ((c.tc : Thread Cert.HeadRefIdeal.nD Cert.HeadRefIdeal.τ).loc Cert.HeadRefIdeal.main_arg7) = m ((c.tc : Thread Cert.HeadRefIdeal.nD Cert.HeadRefIdeal.τ).loc Cert.HeadRefIdeal.main_arg7)
      ∧ r.2.mem ((c.tc : Thread Cert.HeadRefIdeal.nD Cert.HeadRefIdeal.τ).loc Cert.HeadRefIdeal.main_arg8) = m ((c.tc : Thread Cert.HeadRefIdeal.nD Cert.HeadRefIdeal.τ).loc Cert.HeadRefIdeal.main_arg8)
      ∧ r.2.mem ((c.tc : Thread Cert.HeadRefIdeal.nD Cert.HeadRefIdeal.τ).loc Cert.HeadRefIdeal.main_arg9) = m ((c.tc : Thread Cert.HeadRefIdeal.nD Cert.HeadRefIdeal.τ).loc Cert.HeadRefIdeal.main_arg9))
      ∧ r.2.sem = fun _ => 0)

def quiescent_HeadRefIdeal_pre_head_finite [hHeadRefIdeal : Cert.HeadRefIdeal.Facts] [hPre_head_finite : Cert.Pre_head_finite.Facts] : Prop :=
  ∀ (m : (ℓ : Loc Cert.HeadRefIdeal.nD Cert.HeadRefIdeal.τ Cert.HeadRefIdeal.sig) → Buf (Elt Ideal) ℓ) (g : Dev Cert.HeadRefIdeal.nD → PrngReg), Pre_HeadRefIdeal_head_finite m →
    θ_run (Cert.HeadRefIdeal.defs (F := Ideal)) (onTc (τ := Cert.HeadRefIdeal.τ) (Cert.HeadRefIdeal.main (F := Ideal))) ⟨m, fun _ => 0, g⟩ (fun r => (∀ c : Dev Cert.HeadRefIdeal.nD,
      r.2.mem ((c.tc : Thread Cert.HeadRefIdeal.nD Cert.HeadRefIdeal.τ).loc Cert.HeadRefIdeal.main_arg0) = m ((c.tc : Thread Cert.HeadRefIdeal.nD Cert.HeadRefIdeal.τ).loc Cert.HeadRefIdeal.main_arg0)
      ∧ r.2.mem ((c.tc : Thread Cert.HeadRefIdeal.nD Cert.HeadRefIdeal.τ).loc Cert.HeadRefIdeal.main_arg1) = m ((c.tc : Thread Cert.HeadRefIdeal.nD Cert.HeadRefIdeal.τ).loc Cert.HeadRefIdeal.main_arg1)
      ∧ r.2.mem ((c.tc : Thread Cert.HeadRefIdeal.nD Cert.HeadRefIdeal.τ).loc Cert.HeadRefIdeal.main_arg2) = m ((c.tc : Thread Cert.HeadRefIdeal.nD Cert.HeadRefIdeal.τ).loc Cert.HeadRefIdeal.main_arg2)
      ∧ r.2.mem ((c.tc : Thread Cert.HeadRefIdeal.nD Cert.HeadRefIdeal.τ).loc Cert.HeadRefIdeal.main_arg3) = m ((c.tc : Thread Cert.HeadRefIdeal.nD Cert.HeadRefIdeal.τ).loc Cert.HeadRefIdeal.main_arg3)
      ∧ r.2.mem ((c.tc : Thread Cert.HeadRefIdeal.nD Cert.HeadRefIdeal.τ).loc Cert.HeadRefIdeal.main_arg4) = m ((c.tc : Thread Cert.HeadRefIdeal.nD Cert.HeadRefIdeal.τ).loc Cert.HeadRefIdeal.main_arg4)
      ∧ r.2.mem ((c.tc : Thread Cert.HeadRefIdeal.nD Cert.HeadRefIdeal.τ).loc Cert.HeadRefIdeal.main_arg5) = m ((c.tc : Thread Cert.HeadRefIdeal.nD Cert.HeadRefIdeal.τ).loc Cert.HeadRefIdeal.main_arg5)
      ∧ r.2.mem ((c.tc : Thread Cert.HeadRefIdeal.nD Cert.HeadRefIdeal.τ).loc Cert.HeadRefIdeal.main_arg6) = m ((c.tc : Thread Cert.HeadRefIdeal.nD Cert.HeadRefIdeal.τ).loc Cert.HeadRefIdeal.main_arg6)
      ∧ r.2.mem ((c.tc : Thread Cert.HeadRefIdeal.nD Cert.HeadRefIdeal.τ).loc Cert.HeadRefIdeal.main_arg7) = m ((c.tc : Thread Cert.HeadRefIdeal.nD Cert.HeadRefIdeal.τ).loc Cert.HeadRefIdeal.main_arg7)
      ∧ r.2.mem ((c.tc : Thread Cert.HeadRefIdeal.nD Cert.HeadRefIdeal.τ).loc Cert.HeadRefIdeal.main_arg8) = m ((c.tc : Thread Cert.HeadRefIdeal.nD Cert.HeadRefIdeal.τ).loc Cert.HeadRefIdeal.main_arg8)
      ∧ r.2.mem ((c.tc : Thread Cert.HeadRefIdeal.nD Cert.HeadRefIdeal.τ).loc Cert.HeadRefIdeal.main_arg9) = m ((c.tc : Thread Cert.HeadRefIdeal.nD Cert.HeadRefIdeal.τ).loc Cert.HeadRefIdeal.main_arg9))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3)
      ∧ r.2.mem ((c.tc : Thread Cert.Conv.nD Cert.Conv.τ).loc Cert.Conv.main_arg4) = m ((c.tc : Thread Cert.Conv.nD Cert.Conv.τ).loc Cert.Conv.main_arg4)
      ∧ r.2.mem ((c.tc : Thread Cert.Conv.nD Cert.Conv.τ).loc Cert.Conv.main_arg5) = m ((c.tc : Thread Cert.Conv.nD Cert.Conv.τ).loc Cert.Conv.main_arg5))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
      ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
      ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5))
      ∧ r.2.sem = fun _ => 0)

def quiescent_ConvIdeal_pre_conv_finite [hConvIdeal : Cert.ConvIdeal.Facts] [hPre_conv_finite : Cert.Pre_conv_finite.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal_conv_finite m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
      ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
      ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3)
      ∧ r.2.mem ((c.tc : Thread Cert.ConvRefIdeal.nD Cert.ConvRefIdeal.τ).loc Cert.ConvRefIdeal.main_arg4) = m ((c.tc : Thread Cert.ConvRefIdeal.nD Cert.ConvRefIdeal.τ).loc Cert.ConvRefIdeal.main_arg4)
      ∧ r.2.mem ((c.tc : Thread Cert.ConvRefIdeal.nD Cert.ConvRefIdeal.τ).loc Cert.ConvRefIdeal.main_arg5) = m ((c.tc : Thread Cert.ConvRefIdeal.nD Cert.ConvRefIdeal.τ).loc Cert.ConvRefIdeal.main_arg5))
      ∧ r.2.sem = fun _ => 0)

def quiescent_ConvRefIdeal_pre_conv_finite [hConvRefIdeal : Cert.ConvRefIdeal.Facts] [hPre_conv_finite : Cert.Pre_conv_finite.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal_conv_finite m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3)
      ∧ r.2.mem ((c.tc : Thread Cert.ConvRefIdeal.nD Cert.ConvRefIdeal.τ).loc Cert.ConvRefIdeal.main_arg4) = m ((c.tc : Thread Cert.ConvRefIdeal.nD Cert.ConvRefIdeal.τ).loc Cert.ConvRefIdeal.main_arg4)
      ∧ r.2.mem ((c.tc : Thread Cert.ConvRefIdeal.nD Cert.ConvRefIdeal.τ).loc Cert.ConvRefIdeal.main_arg5) = m ((c.tc : Thread Cert.ConvRefIdeal.nD Cert.ConvRefIdeal.τ).loc Cert.ConvRefIdeal.main_arg5))
      ∧ r.2.sem = fun _ => 0)

def quiescent_Dwr [hDwr : Cert.Dwr.Facts] : Prop :=
  ∀ (m : (ℓ : Loc Cert.Dwr.nD Cert.Dwr.τ Cert.Dwr.sig) → Buf (Elt Bits) ℓ) (g : Dev Cert.Dwr.nD → PrngReg), Pre_Dwr m →
    θ_run (Cert.Dwr.defs (F := Bits)) (onTc (τ := Cert.Dwr.τ) (Cert.Dwr.main (F := Bits))) ⟨m, fun _ => 0, g⟩ (fun r => (∀ c : Dev Cert.Dwr.nD,
      r.2.mem ((c.tc : Thread Cert.Dwr.nD Cert.Dwr.τ).loc Cert.Dwr.main_arg0) = m ((c.tc : Thread Cert.Dwr.nD Cert.Dwr.τ).loc Cert.Dwr.main_arg0)
      ∧ r.2.mem ((c.tc : Thread Cert.Dwr.nD Cert.Dwr.τ).loc Cert.Dwr.main_arg1) = m ((c.tc : Thread Cert.Dwr.nD Cert.Dwr.τ).loc Cert.Dwr.main_arg1))
      ∧ r.2.sem = fun _ => 0)

def quiescent_DwrIdeal [hDwrIdeal : Cert.DwrIdeal.Facts] : Prop :=
  ∀ (m : (ℓ : Loc Cert.DwrIdeal.nD Cert.DwrIdeal.τ Cert.DwrIdeal.sig) → Buf (Elt Ideal) ℓ) (g : Dev Cert.DwrIdeal.nD → PrngReg), Pre_DwrIdeal m →
    θ_run (Cert.DwrIdeal.defs (F := Ideal)) (onTc (τ := Cert.DwrIdeal.τ) (Cert.DwrIdeal.main (F := Ideal))) ⟨m, fun _ => 0, g⟩ (fun r => (∀ c : Dev Cert.DwrIdeal.nD,
      r.2.mem ((c.tc : Thread Cert.DwrIdeal.nD Cert.DwrIdeal.τ).loc Cert.DwrIdeal.main_arg0) = m ((c.tc : Thread Cert.DwrIdeal.nD Cert.DwrIdeal.τ).loc Cert.DwrIdeal.main_arg0)
      ∧ r.2.mem ((c.tc : Thread Cert.DwrIdeal.nD Cert.DwrIdeal.τ).loc Cert.DwrIdeal.main_arg1) = m ((c.tc : Thread Cert.DwrIdeal.nD Cert.DwrIdeal.τ).loc Cert.DwrIdeal.main_arg1))
      ∧ r.2.sem = fun _ => 0)

def quiescent_DwrRefIdeal [hDwrRefIdeal : Cert.DwrRefIdeal.Facts] : Prop :=
  ∀ (m : (ℓ : Loc Cert.DwrRefIdeal.nD Cert.DwrRefIdeal.τ Cert.DwrRefIdeal.sig) → Buf (Elt Ideal) ℓ) (g : Dev Cert.DwrRefIdeal.nD → PrngReg), Pre_DwrRefIdeal m →
    θ_run (Cert.DwrRefIdeal.defs (F := Ideal)) (onTc (τ := Cert.DwrRefIdeal.τ) (Cert.DwrRefIdeal.main (F := Ideal))) ⟨m, fun _ => 0, g⟩ (fun r => (∀ c : Dev Cert.DwrRefIdeal.nD,
      r.2.mem ((c.tc : Thread Cert.DwrRefIdeal.nD Cert.DwrRefIdeal.τ).loc Cert.DwrRefIdeal.main_arg0) = m ((c.tc : Thread Cert.DwrRefIdeal.nD Cert.DwrRefIdeal.τ).loc Cert.DwrRefIdeal.main_arg0)
      ∧ r.2.mem ((c.tc : Thread Cert.DwrRefIdeal.nD Cert.DwrRefIdeal.τ).loc Cert.DwrRefIdeal.main_arg1) = m ((c.tc : Thread Cert.DwrRefIdeal.nD Cert.DwrRefIdeal.τ).loc Cert.DwrRefIdeal.main_arg1))
      ∧ r.2.sem = fun _ => 0)

def quiescent_Rope [hRope : Cert.Rope.Facts] : Prop :=
  ∀ (m : (ℓ : Loc Cert.Rope.nD Cert.Rope.τ Cert.Rope.sig) → Buf (Elt Bits) ℓ) (g : Dev Cert.Rope.nD → PrngReg), Pre_Rope m →
    θ_run (Cert.Rope.defs (F := Bits)) (onTc (τ := Cert.Rope.τ) (Cert.Rope.main (F := Bits))) ⟨m, fun _ => 0, g⟩ (fun r => (∀ c : Dev Cert.Rope.nD,
      r.2.mem ((c.tc : Thread Cert.Rope.nD Cert.Rope.τ).loc Cert.Rope.main_arg0) = m ((c.tc : Thread Cert.Rope.nD Cert.Rope.τ).loc Cert.Rope.main_arg0))
      ∧ r.2.sem = fun _ => 0)

def quiescent_RopeIdeal [hRopeIdeal : Cert.RopeIdeal.Facts] : Prop :=
  ∀ (m : (ℓ : Loc Cert.RopeIdeal.nD Cert.RopeIdeal.τ Cert.RopeIdeal.sig) → Buf (Elt Ideal) ℓ) (g : Dev Cert.RopeIdeal.nD → PrngReg), Pre_RopeIdeal m →
    θ_run (Cert.RopeIdeal.defs (F := Ideal)) (onTc (τ := Cert.RopeIdeal.τ) (Cert.RopeIdeal.main (F := Ideal))) ⟨m, fun _ => 0, g⟩ (fun r => (∀ c : Dev Cert.RopeIdeal.nD,
      r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0))
      ∧ r.2.sem = fun _ => 0)

def quiescent_RopeRefIdeal [hRopeRefIdeal : Cert.RopeRefIdeal.Facts] : Prop :=
  ∀ (m : (ℓ : Loc Cert.RopeRefIdeal.nD Cert.RopeRefIdeal.τ Cert.RopeRefIdeal.sig) → Buf (Elt Ideal) ℓ) (g : Dev Cert.RopeRefIdeal.nD → PrngReg), Pre_RopeRefIdeal m →
    θ_run (Cert.RopeRefIdeal.defs (F := Ideal)) (onTc (τ := Cert.RopeRefIdeal.τ) (Cert.RopeRefIdeal.main (F := Ideal))) ⟨m, fun _ => 0, g⟩ (fun r => (∀ c : Dev Cert.RopeRefIdeal.nD,
      r.2.mem ((c.tc : Thread Cert.RopeRefIdeal.nD Cert.RopeRefIdeal.τ).loc Cert.RopeRefIdeal.main_arg0) = m ((c.tc : Thread Cert.RopeRefIdeal.nD Cert.RopeRefIdeal.τ).loc Cert.RopeRefIdeal.main_arg0))
      ∧ r.2.sem = fun _ => 0)

def quiescent_Dw [hDw : Cert.Dw.Facts] : Prop :=
  ∀ (m : (ℓ : Loc Cert.Dw.nD Cert.Dw.τ Cert.Dw.sig) → Buf (Elt Bits) ℓ) (g : Dev Cert.Dw.nD → PrngReg), Pre_Dw m →
    θ_run (Cert.Dw.defs (F := Bits)) (onTc (τ := Cert.Dw.τ) (Cert.Dw.main (F := Bits))) ⟨m, fun _ => 0, g⟩ (fun r => (∀ c : Dev Cert.Dw.nD,
      r.2.mem ((c.tc : Thread Cert.Dw.nD Cert.Dw.τ).loc Cert.Dw.main_arg0) = m ((c.tc : Thread Cert.Dw.nD Cert.Dw.τ).loc Cert.Dw.main_arg0)
      ∧ r.2.mem ((c.tc : Thread Cert.Dw.nD Cert.Dw.τ).loc Cert.Dw.main_arg1) = m ((c.tc : Thread Cert.Dw.nD Cert.Dw.τ).loc Cert.Dw.main_arg1))
      ∧ r.2.sem = fun _ => 0)

def quiescent_DwIdeal [hDwIdeal : Cert.DwIdeal.Facts] : Prop :=
  ∀ (m : (ℓ : Loc Cert.DwIdeal.nD Cert.DwIdeal.τ Cert.DwIdeal.sig) → Buf (Elt Ideal) ℓ) (g : Dev Cert.DwIdeal.nD → PrngReg), Pre_DwIdeal m →
    θ_run (Cert.DwIdeal.defs (F := Ideal)) (onTc (τ := Cert.DwIdeal.τ) (Cert.DwIdeal.main (F := Ideal))) ⟨m, fun _ => 0, g⟩ (fun r => (∀ c : Dev Cert.DwIdeal.nD,
      r.2.mem ((c.tc : Thread Cert.DwIdeal.nD Cert.DwIdeal.τ).loc Cert.DwIdeal.main_arg0) = m ((c.tc : Thread Cert.DwIdeal.nD Cert.DwIdeal.τ).loc Cert.DwIdeal.main_arg0)
      ∧ r.2.mem ((c.tc : Thread Cert.DwIdeal.nD Cert.DwIdeal.τ).loc Cert.DwIdeal.main_arg1) = m ((c.tc : Thread Cert.DwIdeal.nD Cert.DwIdeal.τ).loc Cert.DwIdeal.main_arg1))
      ∧ r.2.sem = fun _ => 0)

def quiescent_DwRefIdeal [hDwRefIdeal : Cert.DwRefIdeal.Facts] : Prop :=
  ∀ (m : (ℓ : Loc Cert.DwRefIdeal.nD Cert.DwRefIdeal.τ Cert.DwRefIdeal.sig) → Buf (Elt Ideal) ℓ) (g : Dev Cert.DwRefIdeal.nD → PrngReg), Pre_DwRefIdeal m →
    θ_run (Cert.DwRefIdeal.defs (F := Ideal)) (onTc (τ := Cert.DwRefIdeal.τ) (Cert.DwRefIdeal.main (F := Ideal))) ⟨m, fun _ => 0, g⟩ (fun r => (∀ c : Dev Cert.DwRefIdeal.nD,
      r.2.mem ((c.tc : Thread Cert.DwRefIdeal.nD Cert.DwRefIdeal.τ).loc Cert.DwRefIdeal.main_arg0) = m ((c.tc : Thread Cert.DwRefIdeal.nD Cert.DwRefIdeal.τ).loc Cert.DwRefIdeal.main_arg0)
      ∧ r.2.mem ((c.tc : Thread Cert.DwRefIdeal.nD Cert.DwRefIdeal.τ).loc Cert.DwRefIdeal.main_arg1) = m ((c.tc : Thread Cert.DwRefIdeal.nD Cert.DwRefIdeal.τ).loc Cert.DwRefIdeal.main_arg1))
      ∧ r.2.sem = fun _ => 0)

def quiescent_Adam [hAdam : Cert.Adam.Facts] : Prop :=
  ∀ (m : (ℓ : Loc Cert.Adam.nD Cert.Adam.τ Cert.Adam.sig) → Buf (Elt Bits) ℓ) (g : Dev Cert.Adam.nD → PrngReg), Pre_Adam m →
    θ_run (Cert.Adam.defs (F := Bits)) (onTc (τ := Cert.Adam.τ) (Cert.Adam.main (F := Bits))) ⟨m, fun _ => 0, g⟩ (fun r => (∀ c : Dev Cert.Adam.nD,
      r.2.mem ((c.tc : Thread Cert.Adam.nD Cert.Adam.τ).loc Cert.Adam.main_arg0) = m ((c.tc : Thread Cert.Adam.nD Cert.Adam.τ).loc Cert.Adam.main_arg0)
      ∧ r.2.mem ((c.tc : Thread Cert.Adam.nD Cert.Adam.τ).loc Cert.Adam.main_arg1) = m ((c.tc : Thread Cert.Adam.nD Cert.Adam.τ).loc Cert.Adam.main_arg1)
      ∧ r.2.mem ((c.tc : Thread Cert.Adam.nD Cert.Adam.τ).loc Cert.Adam.main_arg2) = m ((c.tc : Thread Cert.Adam.nD Cert.Adam.τ).loc Cert.Adam.main_arg2)
      ∧ r.2.mem ((c.tc : Thread Cert.Adam.nD Cert.Adam.τ).loc Cert.Adam.main_arg3) = m ((c.tc : Thread Cert.Adam.nD Cert.Adam.τ).loc Cert.Adam.main_arg3))
      ∧ r.2.sem = fun _ => 0)

def quiescent_AdamIdeal [hAdamIdeal : Cert.AdamIdeal.Facts] : Prop :=
  ∀ (m : (ℓ : Loc Cert.AdamIdeal.nD Cert.AdamIdeal.τ Cert.AdamIdeal.sig) → Buf (Elt Ideal) ℓ) (g : Dev Cert.AdamIdeal.nD → PrngReg), Pre_AdamIdeal m →
    θ_run (Cert.AdamIdeal.defs (F := Ideal)) (onTc (τ := Cert.AdamIdeal.τ) (Cert.AdamIdeal.main (F := Ideal))) ⟨m, fun _ => 0, g⟩ (fun r => (∀ c : Dev Cert.AdamIdeal.nD,
      r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
      ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
      ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
      ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ r.2.sem = fun _ => 0)

def quiescent_AdamRefIdeal [hAdamRefIdeal : Cert.AdamRefIdeal.Facts] : Prop :=
  ∀ (m : (ℓ : Loc Cert.AdamRefIdeal.nD Cert.AdamRefIdeal.τ Cert.AdamRefIdeal.sig) → Buf (Elt Ideal) ℓ) (g : Dev Cert.AdamRefIdeal.nD → PrngReg), Pre_AdamRefIdeal m →
    θ_run (Cert.AdamRefIdeal.defs (F := Ideal)) (onTc (τ := Cert.AdamRefIdeal.τ) (Cert.AdamRefIdeal.main (F := Ideal))) ⟨m, fun _ => 0, g⟩ (fun r => (∀ c : Dev Cert.AdamRefIdeal.nD,
      r.2.mem ((c.tc : Thread Cert.AdamRefIdeal.nD Cert.AdamRefIdeal.τ).loc Cert.AdamRefIdeal.main_arg0) = m ((c.tc : Thread Cert.AdamRefIdeal.nD Cert.AdamRefIdeal.τ).loc Cert.AdamRefIdeal.main_arg0)
      ∧ r.2.mem ((c.tc : Thread Cert.AdamRefIdeal.nD Cert.AdamRefIdeal.τ).loc Cert.AdamRefIdeal.main_arg1) = m ((c.tc : Thread Cert.AdamRefIdeal.nD Cert.AdamRefIdeal.τ).loc Cert.AdamRefIdeal.main_arg1)
      ∧ r.2.mem ((c.tc : Thread Cert.AdamRefIdeal.nD Cert.AdamRefIdeal.τ).loc Cert.AdamRefIdeal.main_arg2) = m ((c.tc : Thread Cert.AdamRefIdeal.nD Cert.AdamRefIdeal.τ).loc Cert.AdamRefIdeal.main_arg2)
      ∧ r.2.mem ((c.tc : Thread Cert.AdamRefIdeal.nD Cert.AdamRefIdeal.τ).loc Cert.AdamRefIdeal.main_arg3) = m ((c.tc : Thread Cert.AdamRefIdeal.nD Cert.AdamRefIdeal.τ).loc Cert.AdamRefIdeal.main_arg3))
      ∧ r.2.sem = fun _ => 0)

def quiescent_Step [hStep : Cert.Step.Facts] : Prop :=
  ∀ (m : (ℓ : Loc Cert.Step.nD Cert.Step.τ Cert.Step.sig) → Buf (Elt Bits) ℓ) (g : Dev Cert.Step.nD → PrngReg), Pre_Step m →
    θ_run (Cert.Step.defs (F := Bits)) (onTc (τ := Cert.Step.τ) (Cert.Step.main (F := Bits))) ⟨m, fun _ => 0, g⟩ (fun r => (∀ c : Dev Cert.Step.nD,
      r.2.mem ((c.tc : Thread Cert.Step.nD Cert.Step.τ).loc Cert.Step.main_arg0) = m ((c.tc : Thread Cert.Step.nD Cert.Step.τ).loc Cert.Step.main_arg0)
      ∧ r.2.mem ((c.tc : Thread Cert.Step.nD Cert.Step.τ).loc Cert.Step.main_arg1) = m ((c.tc : Thread Cert.Step.nD Cert.Step.τ).loc Cert.Step.main_arg1)
      ∧ r.2.mem ((c.tc : Thread Cert.Step.nD Cert.Step.τ).loc Cert.Step.main_arg2) = m ((c.tc : Thread Cert.Step.nD Cert.Step.τ).loc Cert.Step.main_arg2)
      ∧ r.2.mem ((c.tc : Thread Cert.Step.nD Cert.Step.τ).loc Cert.Step.main_arg3) = m ((c.tc : Thread Cert.Step.nD Cert.Step.τ).loc Cert.Step.main_arg3))
      ∧ r.2.sem = fun _ => 0)

def quiescent_StepIdeal [hStepIdeal : Cert.StepIdeal.Facts] : Prop :=
  ∀ (m : (ℓ : Loc Cert.StepIdeal.nD Cert.StepIdeal.τ Cert.StepIdeal.sig) → Buf (Elt Ideal) ℓ) (g : Dev Cert.StepIdeal.nD → PrngReg), Pre_StepIdeal m →
    θ_run (Cert.StepIdeal.defs (F := Ideal)) (onTc (τ := Cert.StepIdeal.τ) (Cert.StepIdeal.main (F := Ideal))) ⟨m, fun _ => 0, g⟩ (fun r => (∀ c : Dev Cert.StepIdeal.nD,
      r.2.mem ((c.tc : Thread Cert.StepIdeal.nD Cert.StepIdeal.τ).loc Cert.StepIdeal.main_arg0) = m ((c.tc : Thread Cert.StepIdeal.nD Cert.StepIdeal.τ).loc Cert.StepIdeal.main_arg0)
      ∧ r.2.mem ((c.tc : Thread Cert.StepIdeal.nD Cert.StepIdeal.τ).loc Cert.StepIdeal.main_arg1) = m ((c.tc : Thread Cert.StepIdeal.nD Cert.StepIdeal.τ).loc Cert.StepIdeal.main_arg1)
      ∧ r.2.mem ((c.tc : Thread Cert.StepIdeal.nD Cert.StepIdeal.τ).loc Cert.StepIdeal.main_arg2) = m ((c.tc : Thread Cert.StepIdeal.nD Cert.StepIdeal.τ).loc Cert.StepIdeal.main_arg2)
      ∧ r.2.mem ((c.tc : Thread Cert.StepIdeal.nD Cert.StepIdeal.τ).loc Cert.StepIdeal.main_arg3) = m ((c.tc : Thread Cert.StepIdeal.nD Cert.StepIdeal.τ).loc Cert.StepIdeal.main_arg3))
      ∧ r.2.sem = fun _ => 0)

def quiescent_StepRefIdeal [hStepRefIdeal : Cert.StepRefIdeal.Facts] : Prop :=
  ∀ (m : (ℓ : Loc Cert.StepRefIdeal.nD Cert.StepRefIdeal.τ Cert.StepRefIdeal.sig) → Buf (Elt Ideal) ℓ) (g : Dev Cert.StepRefIdeal.nD → PrngReg), Pre_StepRefIdeal m →
    θ_run (Cert.StepRefIdeal.defs (F := Ideal)) (onTc (τ := Cert.StepRefIdeal.τ) (Cert.StepRefIdeal.main (F := Ideal))) ⟨m, fun _ => 0, g⟩ (fun r => (∀ c : Dev Cert.StepRefIdeal.nD,
      r.2.mem ((c.tc : Thread Cert.StepRefIdeal.nD Cert.StepRefIdeal.τ).loc Cert.StepRefIdeal.main_arg0) = m ((c.tc : Thread Cert.StepRefIdeal.nD Cert.StepRefIdeal.τ).loc Cert.StepRefIdeal.main_arg0)
      ∧ r.2.mem ((c.tc : Thread Cert.StepRefIdeal.nD Cert.StepRefIdeal.τ).loc Cert.StepRefIdeal.main_arg1) = m ((c.tc : Thread Cert.StepRefIdeal.nD Cert.StepRefIdeal.τ).loc Cert.StepRefIdeal.main_arg1)
      ∧ r.2.mem ((c.tc : Thread Cert.StepRefIdeal.nD Cert.StepRefIdeal.τ).loc Cert.StepRefIdeal.main_arg2) = m ((c.tc : Thread Cert.StepRefIdeal.nD Cert.StepRefIdeal.τ).loc Cert.StepRefIdeal.main_arg2)
      ∧ r.2.mem ((c.tc : Thread Cert.StepRefIdeal.nD Cert.StepRefIdeal.τ).loc Cert.StepRefIdeal.main_arg3) = m ((c.tc : Thread Cert.StepRefIdeal.nD Cert.StepRefIdeal.τ).loc Cert.StepRefIdeal.main_arg3))
      ∧ r.2.sem = fun _ => 0)

def quiescent_Sum [hSum : Cert.Sum.Facts] : Prop :=
  ∀ (m : (ℓ : Loc Cert.Sum.nD Cert.Sum.τ Cert.Sum.sig) → Buf (Elt Bits) ℓ) (g : Dev Cert.Sum.nD → PrngReg), Pre_Sum m →
    θ_run (Cert.Sum.defs (F := Bits)) (onTc (τ := Cert.Sum.τ) (Cert.Sum.main (F := Bits))) ⟨m, fun _ => 0, g⟩ (fun r => (∀ c : Dev Cert.Sum.nD,
      r.2.mem ((c.tc : Thread Cert.Sum.nD Cert.Sum.τ).loc Cert.Sum.main_arg0) = m ((c.tc : Thread Cert.Sum.nD Cert.Sum.τ).loc Cert.Sum.main_arg0))
      ∧ r.2.sem = fun _ => 0)

def quiescent_SumIdeal [hSumIdeal : Cert.SumIdeal.Facts] : Prop :=
  ∀ (m : (ℓ : Loc Cert.SumIdeal.nD Cert.SumIdeal.τ Cert.SumIdeal.sig) → Buf (Elt Ideal) ℓ) (g : Dev Cert.SumIdeal.nD → PrngReg), Pre_SumIdeal m →
    θ_run (Cert.SumIdeal.defs (F := Ideal)) (onTc (τ := Cert.SumIdeal.τ) (Cert.SumIdeal.main (F := Ideal))) ⟨m, fun _ => 0, g⟩ (fun r => (∀ c : Dev Cert.SumIdeal.nD,
      r.2.mem ((c.tc : Thread Cert.SumIdeal.nD Cert.SumIdeal.τ).loc Cert.SumIdeal.main_arg0) = m ((c.tc : Thread Cert.SumIdeal.nD Cert.SumIdeal.τ).loc Cert.SumIdeal.main_arg0))
      ∧ r.2.sem = fun _ => 0)

def quiescent_SumRefIdeal [hSumRefIdeal : Cert.SumRefIdeal.Facts] : Prop :=
  ∀ (m : (ℓ : Loc Cert.SumRefIdeal.nD Cert.SumRefIdeal.τ Cert.SumRefIdeal.sig) → Buf (Elt Ideal) ℓ) (g : Dev Cert.SumRefIdeal.nD → PrngReg), Pre_SumRefIdeal m →
    θ_run (Cert.SumRefIdeal.defs (F := Ideal)) (onTc (τ := Cert.SumRefIdeal.τ) (Cert.SumRefIdeal.main (F := Ideal))) ⟨m, fun _ => 0, g⟩ (fun r => (∀ c : Dev Cert.SumRefIdeal.nD,
      r.2.mem ((c.tc : Thread Cert.SumRefIdeal.nD Cert.SumRefIdeal.τ).loc Cert.SumRefIdeal.main_arg0) = m ((c.tc : Thread Cert.SumRefIdeal.nD Cert.SumRefIdeal.τ).loc Cert.SumRefIdeal.main_arg0))
      ∧ r.2.sem = fun _ => 0)

def quiescent_Mod [hMod : Cert.Mod.Facts] : Prop :=
  ∀ (m : (ℓ : Loc Cert.Mod.nD Cert.Mod.τ Cert.Mod.sig) → Buf (Elt Bits) ℓ) (g : Dev Cert.Mod.nD → PrngReg), Pre_Mod m →
    θ_run (Cert.Mod.defs (F := Bits)) (onTc (τ := Cert.Mod.τ) (Cert.Mod.main (F := Bits))) ⟨m, fun _ => 0, g⟩ (fun r => (∀ c : Dev Cert.Mod.nD,
      r.2.mem ((c.tc : Thread Cert.Mod.nD Cert.Mod.τ).loc Cert.Mod.main_arg0) = m ((c.tc : Thread Cert.Mod.nD Cert.Mod.τ).loc Cert.Mod.main_arg0)
      ∧ r.2.mem ((c.tc : Thread Cert.Mod.nD Cert.Mod.τ).loc Cert.Mod.main_arg1) = m ((c.tc : Thread Cert.Mod.nD Cert.Mod.τ).loc Cert.Mod.main_arg1)
      ∧ r.2.mem ((c.tc : Thread Cert.Mod.nD Cert.Mod.τ).loc Cert.Mod.main_arg2) = m ((c.tc : Thread Cert.Mod.nD Cert.Mod.τ).loc Cert.Mod.main_arg2))
      ∧ r.2.sem = fun _ => 0)

def quiescent_ModIdeal [hModIdeal : Cert.ModIdeal.Facts] : Prop :=
  ∀ (m : (ℓ : Loc Cert.ModIdeal.nD Cert.ModIdeal.τ Cert.ModIdeal.sig) → Buf (Elt Ideal) ℓ) (g : Dev Cert.ModIdeal.nD → PrngReg), Pre_ModIdeal m →
    θ_run (Cert.ModIdeal.defs (F := Ideal)) (onTc (τ := Cert.ModIdeal.τ) (Cert.ModIdeal.main (F := Ideal))) ⟨m, fun _ => 0, g⟩ (fun r => (∀ c : Dev Cert.ModIdeal.nD,
      r.2.mem ((c.tc : Thread Cert.ModIdeal.nD Cert.ModIdeal.τ).loc Cert.ModIdeal.main_arg0) = m ((c.tc : Thread Cert.ModIdeal.nD Cert.ModIdeal.τ).loc Cert.ModIdeal.main_arg0)
      ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
      ∧ r.2.mem ((c.tc : Thread Cert.ModIdeal.nD Cert.ModIdeal.τ).loc Cert.ModIdeal.main_arg2) = m ((c.tc : Thread Cert.ModIdeal.nD Cert.ModIdeal.τ).loc Cert.ModIdeal.main_arg2))
      ∧ r.2.sem = fun _ => 0)

def quiescent_ModRefIdeal [hModRefIdeal : Cert.ModRefIdeal.Facts] : Prop :=
  ∀ (m : (ℓ : Loc Cert.ModRefIdeal.nD Cert.ModRefIdeal.τ Cert.ModRefIdeal.sig) → Buf (Elt Ideal) ℓ) (g : Dev Cert.ModRefIdeal.nD → PrngReg), Pre_ModRefIdeal m →
    θ_run (Cert.ModRefIdeal.defs (F := Ideal)) (onTc (τ := Cert.ModRefIdeal.τ) (Cert.ModRefIdeal.main (F := Ideal))) ⟨m, fun _ => 0, g⟩ (fun r => (∀ c : Dev Cert.ModRefIdeal.nD,
      r.2.mem ((c.tc : Thread Cert.ModRefIdeal.nD Cert.ModRefIdeal.τ).loc Cert.ModRefIdeal.main_arg0) = m ((c.tc : Thread Cert.ModRefIdeal.nD Cert.ModRefIdeal.τ).loc Cert.ModRefIdeal.main_arg0)
      ∧ r.2.mem ((c.tc : Thread Cert.ModRefIdeal.nD Cert.ModRefIdeal.τ).loc Cert.ModRefIdeal.main_arg1) = m ((c.tc : Thread Cert.ModRefIdeal.nD Cert.ModRefIdeal.τ).loc Cert.ModRefIdeal.main_arg1)
      ∧ r.2.mem ((c.tc : Thread Cert.ModRefIdeal.nD Cert.ModRefIdeal.τ).loc Cert.ModRefIdeal.main_arg2) = m ((c.tc : Thread Cert.ModRefIdeal.nD Cert.ModRefIdeal.τ).loc Cert.ModRefIdeal.main_arg2))
      ∧ r.2.sem = fun _ => 0)

def quiescent_Wada [hWada : Cert.Wada.Facts] : Prop :=
  ∀ (m : (ℓ : Loc Cert.Wada.nD Cert.Wada.τ Cert.Wada.sig) → Buf (Elt Bits) ℓ) (g : Dev Cert.Wada.nD → PrngReg), Pre_Wada m →
    θ_run (Cert.Wada.defs (F := Bits)) (onTc (τ := Cert.Wada.τ) (Cert.Wada.main (F := Bits))) ⟨m, fun _ => 0, g⟩ (fun r => (∀ c : Dev Cert.Wada.nD,
      r.2.mem ((c.tc : Thread Cert.Wada.nD Cert.Wada.τ).loc Cert.Wada.main_arg0) = m ((c.tc : Thread Cert.Wada.nD Cert.Wada.τ).loc Cert.Wada.main_arg0)
      ∧ r.2.mem ((c.tc : Thread Cert.Wada.nD Cert.Wada.τ).loc Cert.Wada.main_arg1) = m ((c.tc : Thread Cert.Wada.nD Cert.Wada.τ).loc Cert.Wada.main_arg1))
      ∧ r.2.sem = fun _ => 0)

def quiescent_WadaIdeal [hWadaIdeal : Cert.WadaIdeal.Facts] : Prop :=
  ∀ (m : (ℓ : Loc Cert.WadaIdeal.nD Cert.WadaIdeal.τ Cert.WadaIdeal.sig) → Buf (Elt Ideal) ℓ) (g : Dev Cert.WadaIdeal.nD → PrngReg), Pre_WadaIdeal m →
    θ_run (Cert.WadaIdeal.defs (F := Ideal)) (onTc (τ := Cert.WadaIdeal.τ) (Cert.WadaIdeal.main (F := Ideal))) ⟨m, fun _ => 0, g⟩ (fun r => (∀ c : Dev Cert.WadaIdeal.nD,
      r.2.mem ((c.tc : Thread Cert.WadaIdeal.nD Cert.WadaIdeal.τ).loc Cert.WadaIdeal.main_arg0) = m ((c.tc : Thread Cert.WadaIdeal.nD Cert.WadaIdeal.τ).loc Cert.WadaIdeal.main_arg0)
      ∧ r.2.mem ((c.tc : Thread Cert.WadaIdeal.nD Cert.WadaIdeal.τ).loc Cert.WadaIdeal.main_arg1) = m ((c.tc : Thread Cert.WadaIdeal.nD Cert.WadaIdeal.τ).loc Cert.WadaIdeal.main_arg1))
      ∧ r.2.sem = fun _ => 0)

def quiescent_WadaRefIdeal [hWadaRefIdeal : Cert.WadaRefIdeal.Facts] : Prop :=
  ∀ (m : (ℓ : Loc Cert.WadaRefIdeal.nD Cert.WadaRefIdeal.τ Cert.WadaRefIdeal.sig) → Buf (Elt Ideal) ℓ) (g : Dev Cert.WadaRefIdeal.nD → PrngReg), Pre_WadaRefIdeal m →
    θ_run (Cert.WadaRefIdeal.defs (F := Ideal)) (onTc (τ := Cert.WadaRefIdeal.τ) (Cert.WadaRefIdeal.main (F := Ideal))) ⟨m, fun _ => 0, g⟩ (fun r => (∀ c : Dev Cert.WadaRefIdeal.nD,
      r.2.mem ((c.tc : Thread Cert.WadaRefIdeal.nD Cert.WadaRefIdeal.τ).loc Cert.WadaRefIdeal.main_arg0) = m ((c.tc : Thread Cert.WadaRefIdeal.nD Cert.WadaRefIdeal.τ).loc Cert.WadaRefIdeal.main_arg0)
      ∧ r.2.mem ((c.tc : Thread Cert.WadaRefIdeal.nD Cert.WadaRefIdeal.τ).loc Cert.WadaRefIdeal.main_arg1) = m ((c.tc : Thread Cert.WadaRefIdeal.nD Cert.WadaRefIdeal.τ).loc Cert.WadaRefIdeal.main_arg1))
      ∧ r.2.sem = fun _ => 0)

def quiescent_Cfwd [hCfwd : Cert.Cfwd.Facts] : Prop :=
  ∀ (m : (ℓ : Loc Cert.Cfwd.nD Cert.Cfwd.τ Cert.Cfwd.sig) → Buf (Elt Bits) ℓ) (g : Dev Cert.Cfwd.nD → PrngReg), Pre_Cfwd m →
    θ_run (Cert.Cfwd.defs (F := Bits)) (onTc (τ := Cert.Cfwd.τ) (Cert.Cfwd.main (F := Bits))) ⟨m, fun _ => 0, g⟩ (fun r => (∀ c : Dev Cert.Cfwd.nD,
      r.2.mem ((c.tc : Thread Cert.Cfwd.nD Cert.Cfwd.τ).loc Cert.Cfwd.main_arg0) = m ((c.tc : Thread Cert.Cfwd.nD Cert.Cfwd.τ).loc Cert.Cfwd.main_arg0)
      ∧ r.2.mem ((c.tc : Thread Cert.Cfwd.nD Cert.Cfwd.τ).loc Cert.Cfwd.main_arg1) = m ((c.tc : Thread Cert.Cfwd.nD Cert.Cfwd.τ).loc Cert.Cfwd.main_arg1)
      ∧ r.2.mem ((c.tc : Thread Cert.Cfwd.nD Cert.Cfwd.τ).loc Cert.Cfwd.main_arg2) = m ((c.tc : Thread Cert.Cfwd.nD Cert.Cfwd.τ).loc Cert.Cfwd.main_arg2)
      ∧ r.2.mem ((c.tc : Thread Cert.Cfwd.nD Cert.Cfwd.τ).loc Cert.Cfwd.main_arg3) = m ((c.tc : Thread Cert.Cfwd.nD Cert.Cfwd.τ).loc Cert.Cfwd.main_arg3)
      ∧ r.2.mem ((c.tc : Thread Cert.Cfwd.nD Cert.Cfwd.τ).loc Cert.Cfwd.main_arg4) = m ((c.tc : Thread Cert.Cfwd.nD Cert.Cfwd.τ).loc Cert.Cfwd.main_arg4))
      ∧ r.2.sem = fun _ => 0)

def quiescent_CfwdIdeal [hCfwdIdeal : Cert.CfwdIdeal.Facts] : Prop :=
  ∀ (m : (ℓ : Loc Cert.CfwdIdeal.nD Cert.CfwdIdeal.τ Cert.CfwdIdeal.sig) → Buf (Elt Ideal) ℓ) (g : Dev Cert.CfwdIdeal.nD → PrngReg), Pre_CfwdIdeal m →
    θ_run (Cert.CfwdIdeal.defs (F := Ideal)) (onTc (τ := Cert.CfwdIdeal.τ) (Cert.CfwdIdeal.main (F := Ideal))) ⟨m, fun _ => 0, g⟩ (fun r => (∀ c : Dev Cert.CfwdIdeal.nD,
      r.2.mem ((c.tc : Thread Cert.CfwdIdeal.nD Cert.CfwdIdeal.τ).loc Cert.CfwdIdeal.main_arg0) = m ((c.tc : Thread Cert.CfwdIdeal.nD Cert.CfwdIdeal.τ).loc Cert.CfwdIdeal.main_arg0)
      ∧ r.2.mem ((c.tc : Thread Cert.CfwdIdeal.nD Cert.CfwdIdeal.τ).loc Cert.CfwdIdeal.main_arg1) = m ((c.tc : Thread Cert.CfwdIdeal.nD Cert.CfwdIdeal.τ).loc Cert.CfwdIdeal.main_arg1)
      ∧ r.2.mem ((c.tc : Thread Cert.CfwdIdeal.nD Cert.CfwdIdeal.τ).loc Cert.CfwdIdeal.main_arg2) = m ((c.tc : Thread Cert.CfwdIdeal.nD Cert.CfwdIdeal.τ).loc Cert.CfwdIdeal.main_arg2)
      ∧ r.2.mem ((c.tc : Thread Cert.CfwdIdeal.nD Cert.CfwdIdeal.τ).loc Cert.CfwdIdeal.main_arg3) = m ((c.tc : Thread Cert.CfwdIdeal.nD Cert.CfwdIdeal.τ).loc Cert.CfwdIdeal.main_arg3)
      ∧ r.2.mem ((c.tc : Thread Cert.CfwdIdeal.nD Cert.CfwdIdeal.τ).loc Cert.CfwdIdeal.main_arg4) = m ((c.tc : Thread Cert.CfwdIdeal.nD Cert.CfwdIdeal.τ).loc Cert.CfwdIdeal.main_arg4))
      ∧ r.2.sem = fun _ => 0)

def preserves_Dh_DhIdeal : Prop :=
  True

def algebraic_DhIdeal_DhRefIdeal_pre_dh_finite [hDhIdeal : Cert.DhIdeal.Facts] [hDhRefIdeal : Cert.DhRefIdeal.Facts] [hPre_dh_finite : Cert.Pre_dh_finite.Facts] : Prop :=
  ∀ (m : (ℓ : Loc Cert.DhIdeal.nD Cert.DhIdeal.τ Cert.DhIdeal.sig) → Buf (Elt Ideal) ℓ) (g : Dev Cert.DhIdeal.nD → PrngReg)
    (m' : (ℓ : Loc Cert.DhRefIdeal.nD Cert.DhRefIdeal.τ Cert.DhRefIdeal.sig) → Buf (Elt Ideal) ℓ) (g' : Dev Cert.DhRefIdeal.nD → PrngReg), Pre_DhIdeal_dh_finite m →
    (∀ c : Dev Cert.DhIdeal.nD,
      m' ((c.tc : Thread Cert.DhRefIdeal.nD Cert.DhRefIdeal.τ).loc Cert.DhRefIdeal.main_arg0) = m ((c.tc : Thread Cert.DhIdeal.nD Cert.DhIdeal.τ).loc Cert.DhIdeal.main_arg0)
      ∧ m' ((c.tc : Thread Cert.DhRefIdeal.nD Cert.DhRefIdeal.τ).loc Cert.DhRefIdeal.main_arg1) = m ((c.tc : Thread Cert.DhIdeal.nD Cert.DhIdeal.τ).loc Cert.DhIdeal.main_arg1)
      ∧ m' ((c.tc : Thread Cert.DhRefIdeal.nD Cert.DhRefIdeal.τ).loc Cert.DhRefIdeal.main_arg2) = m ((c.tc : Thread Cert.DhIdeal.nD Cert.DhIdeal.τ).loc Cert.DhIdeal.main_arg2)
      ∧ m' ((c.tc : Thread Cert.DhRefIdeal.nD Cert.DhRefIdeal.τ).loc Cert.DhRefIdeal.main_arg3) = m ((c.tc : Thread Cert.DhIdeal.nD Cert.DhIdeal.τ).loc Cert.DhIdeal.main_arg3)
      ∧ m' ((c.tc : Thread Cert.DhRefIdeal.nD Cert.DhRefIdeal.τ).loc Cert.DhRefIdeal.main_arg4) = m ((c.tc : Thread Cert.DhIdeal.nD Cert.DhIdeal.τ).loc Cert.DhIdeal.main_arg4)
      ∧ m' ((c.tc : Thread Cert.DhRefIdeal.nD Cert.DhRefIdeal.τ).loc Cert.DhRefIdeal.main_arg5) = m ((c.tc : Thread Cert.DhIdeal.nD Cert.DhIdeal.τ).loc Cert.DhIdeal.main_arg5)
      ∧ m' ((c.tc : Thread Cert.DhRefIdeal.nD Cert.DhRefIdeal.τ).loc Cert.DhRefIdeal.main_arg6) = m ((c.tc : Thread Cert.DhIdeal.nD Cert.DhIdeal.τ).loc Cert.DhIdeal.main_arg6)) →
    ∃ (v0 : (c : Dev Cert.DhIdeal.nD) → Buf (Elt Ideal) ((c.tc : Thread Cert.DhIdeal.nD Cert.DhIdeal.τ).loc Cert.DhIdeal.main_v25_0)) (v1 : (c : Dev Cert.DhIdeal.nD) → Buf (Elt Ideal) ((c.tc : Thread Cert.DhIdeal.nD Cert.DhIdeal.τ).loc Cert.DhIdeal.main_v25_1)),
      θ_run (Cert.DhIdeal.defs (F := Ideal)) (onTc (τ := Cert.DhIdeal.τ) (Cert.DhIdeal.main (F := Ideal))) ⟨m, fun _ => 0, g⟩ (fun r => ∀ c : Dev Cert.DhIdeal.nD,
          r.2.mem ((c.tc : Thread Cert.DhIdeal.nD Cert.DhIdeal.τ).loc Cert.DhIdeal.main_v25_0) = v0 c
          ∧ r.2.mem ((c.tc : Thread Cert.DhIdeal.nD Cert.DhIdeal.τ).loc Cert.DhIdeal.main_v25_1) = v1 c
          ∧ r.2.mem ((c.tc : Thread Cert.DhIdeal.nD Cert.DhIdeal.τ).loc Cert.DhIdeal.main_arg0) = m ((c.tc : Thread Cert.DhIdeal.nD Cert.DhIdeal.τ).loc Cert.DhIdeal.main_arg0)
          ∧ r.2.mem ((c.tc : Thread Cert.DhIdeal.nD Cert.DhIdeal.τ).loc Cert.DhIdeal.main_arg1) = m ((c.tc : Thread Cert.DhIdeal.nD Cert.DhIdeal.τ).loc Cert.DhIdeal.main_arg1)
          ∧ r.2.mem ((c.tc : Thread Cert.DhIdeal.nD Cert.DhIdeal.τ).loc Cert.DhIdeal.main_arg2) = m ((c.tc : Thread Cert.DhIdeal.nD Cert.DhIdeal.τ).loc Cert.DhIdeal.main_arg2)
          ∧ r.2.mem ((c.tc : Thread Cert.DhIdeal.nD Cert.DhIdeal.τ).loc Cert.DhIdeal.main_arg3) = m ((c.tc : Thread Cert.DhIdeal.nD Cert.DhIdeal.τ).loc Cert.DhIdeal.main_arg3)
          ∧ r.2.mem ((c.tc : Thread Cert.DhIdeal.nD Cert.DhIdeal.τ).loc Cert.DhIdeal.main_arg4) = m ((c.tc : Thread Cert.DhIdeal.nD Cert.DhIdeal.τ).loc Cert.DhIdeal.main_arg4)
          ∧ r.2.mem ((c.tc : Thread Cert.DhIdeal.nD Cert.DhIdeal.τ).loc Cert.DhIdeal.main_arg5) = m ((c.tc : Thread Cert.DhIdeal.nD Cert.DhIdeal.τ).loc Cert.DhIdeal.main_arg5)
          ∧ r.2.mem ((c.tc : Thread Cert.DhIdeal.nD Cert.DhIdeal.τ).loc Cert.DhIdeal.main_arg6) = m ((c.tc : Thread Cert.DhIdeal.nD Cert.DhIdeal.τ).loc Cert.DhIdeal.main_arg6))
      ∧ θ_run (Cert.DhRefIdeal.defs (F := Ideal)) (onTc (τ := Cert.DhRefIdeal.τ) (Cert.DhRefIdeal.main (F := Ideal))) ⟨m', fun _ => 0, g'⟩ (fun r => ∀ c : Dev Cert.DhRefIdeal.nD,
          r.2.mem ((c.tc : Thread Cert.DhRefIdeal.nD Cert.DhRefIdeal.τ).loc Cert.DhRefIdeal.main_v65) = v0 c
          ∧ r.2.mem ((c.tc : Thread Cert.DhRefIdeal.nD Cert.DhRefIdeal.τ).loc Cert.DhRefIdeal.main_v67) = v1 c
          ∧ r.2.mem ((c.tc : Thread Cert.DhRefIdeal.nD Cert.DhRefIdeal.τ).loc Cert.DhRefIdeal.main_arg0) = m' ((c.tc : Thread Cert.DhRefIdeal.nD Cert.DhRefIdeal.τ).loc Cert.DhRefIdeal.main_arg0)
          ∧ r.2.mem ((c.tc : Thread Cert.DhRefIdeal.nD Cert.DhRefIdeal.τ).loc Cert.DhRefIdeal.main_arg1) = m' ((c.tc : Thread Cert.DhRefIdeal.nD Cert.DhRefIdeal.τ).loc Cert.DhRefIdeal.main_arg1)
          ∧ r.2.mem ((c.tc : Thread Cert.DhRefIdeal.nD Cert.DhRefIdeal.τ).loc Cert.DhRefIdeal.main_arg2) = m' ((c.tc : Thread Cert.DhRefIdeal.nD Cert.DhRefIdeal.τ).loc Cert.DhRefIdeal.main_arg2)
          ∧ r.2.mem ((c.tc : Thread Cert.DhRefIdeal.nD Cert.DhRefIdeal.τ).loc Cert.DhRefIdeal.main_arg3) = m' ((c.tc : Thread Cert.DhRefIdeal.nD Cert.DhRefIdeal.τ).loc Cert.DhRefIdeal.main_arg3)
          ∧ r.2.mem ((c.tc : Thread Cert.DhRefIdeal.nD Cert.DhRefIdeal.τ).loc Cert.DhRefIdeal.main_arg4) = m' ((c.tc : Thread Cert.DhRefIdeal.nD Cert.DhRefIdeal.τ).loc Cert.DhRefIdeal.main_arg4)
          ∧ r.2.mem ((c.tc : Thread Cert.DhRefIdeal.nD Cert.DhRefIdeal.τ).loc Cert.DhRefIdeal.main_arg5) = m' ((c.tc : Thread Cert.DhRefIdeal.nD Cert.DhRefIdeal.τ).loc Cert.DhRefIdeal.main_arg5)
          ∧ r.2.mem ((c.tc : Thread Cert.DhRefIdeal.nD Cert.DhRefIdeal.τ).loc Cert.DhRefIdeal.main_arg6) = m' ((c.tc : Thread Cert.DhRefIdeal.nD Cert.DhRefIdeal.τ).loc Cert.DhRefIdeal.main_arg6))

def preserves_Ret_RetIdeal : Prop :=
  True

def algebraic_RetIdeal_RetRefIdeal_pre_ret_finite [hRetIdeal : Cert.RetIdeal.Facts] [hRetRefIdeal : Cert.RetRefIdeal.Facts] [hPre_ret_finite : Cert.Pre_ret_finite.Facts] : Prop :=
  ∀ (m : (ℓ : Loc Cert.RetIdeal.nD Cert.RetIdeal.τ Cert.RetIdeal.sig) → Buf (Elt Ideal) ℓ) (g : Dev Cert.RetIdeal.nD → PrngReg)
    (m' : (ℓ : Loc Cert.RetRefIdeal.nD Cert.RetRefIdeal.τ Cert.RetRefIdeal.sig) → Buf (Elt Ideal) ℓ) (g' : Dev Cert.RetRefIdeal.nD → PrngReg), Pre_RetIdeal_ret_finite m →
    (∀ c : Dev Cert.RetIdeal.nD,
      m' ((c.tc : Thread Cert.RetRefIdeal.nD Cert.RetRefIdeal.τ).loc Cert.RetRefIdeal.main_arg0) = m ((c.tc : Thread Cert.RetIdeal.nD Cert.RetIdeal.τ).loc Cert.RetIdeal.main_arg0)
      ∧ m' ((c.tc : Thread Cert.RetRefIdeal.nD Cert.RetRefIdeal.τ).loc Cert.RetRefIdeal.main_arg1) = m ((c.tc : Thread Cert.RetIdeal.nD Cert.RetIdeal.τ).loc Cert.RetIdeal.main_arg1)
      ∧ m' ((c.tc : Thread Cert.RetRefIdeal.nD Cert.RetRefIdeal.τ).loc Cert.RetRefIdeal.main_arg2) = m ((c.tc : Thread Cert.RetIdeal.nD Cert.RetIdeal.τ).loc Cert.RetIdeal.main_arg2)) →
    ∃ (v0 : (c : Dev Cert.RetIdeal.nD) → Buf (Elt Ideal) ((c.tc : Thread Cert.RetIdeal.nD Cert.RetIdeal.τ).loc Cert.RetIdeal.main_v63_0)) (v1 : (c : Dev Cert.RetIdeal.nD) → Buf (Elt Ideal) ((c.tc : Thread Cert.RetIdeal.nD Cert.RetIdeal.τ).loc Cert.RetIdeal.main_v66)),
      θ_run (Cert.RetIdeal.defs (F := Ideal)) (onTc (τ := Cert.RetIdeal.τ) (Cert.RetIdeal.main (F := Ideal))) ⟨m, fun _ => 0, g⟩ (fun r => ∀ c : Dev Cert.RetIdeal.nD,
          r.2.mem ((c.tc : Thread Cert.RetIdeal.nD Cert.RetIdeal.τ).loc Cert.RetIdeal.main_v63_0) = v0 c
          ∧ r.2.mem ((c.tc : Thread Cert.RetIdeal.nD Cert.RetIdeal.τ).loc Cert.RetIdeal.main_v66) = v1 c
          ∧ r.2.mem ((c.tc : Thread Cert.RetIdeal.nD Cert.RetIdeal.τ).loc Cert.RetIdeal.main_arg0) = m ((c.tc : Thread Cert.RetIdeal.nD Cert.RetIdeal.τ).loc Cert.RetIdeal.main_arg0)
          ∧ r.2.mem ((c.tc : Thread Cert.RetIdeal.nD Cert.RetIdeal.τ).loc Cert.RetIdeal.main_arg1) = m ((c.tc : Thread Cert.RetIdeal.nD Cert.RetIdeal.τ).loc Cert.RetIdeal.main_arg1)
          ∧ r.2.mem ((c.tc : Thread Cert.RetIdeal.nD Cert.RetIdeal.τ).loc Cert.RetIdeal.main_arg2) = m ((c.tc : Thread Cert.RetIdeal.nD Cert.RetIdeal.τ).loc Cert.RetIdeal.main_arg2))
      ∧ θ_run (Cert.RetRefIdeal.defs (F := Ideal)) (onTc (τ := Cert.RetRefIdeal.τ) (Cert.RetRefIdeal.main (F := Ideal))) ⟨m', fun _ => 0, g'⟩ (fun r => ∀ c : Dev Cert.RetRefIdeal.nD,
          r.2.mem ((c.tc : Thread Cert.RetRefIdeal.nD Cert.RetRefIdeal.τ).loc Cert.RetRefIdeal.main_v241) = v0 c
          ∧ r.2.mem ((c.tc : Thread Cert.RetRefIdeal.nD Cert.RetRefIdeal.τ).loc Cert.RetRefIdeal.main_v244) = v1 c
          ∧ r.2.mem ((c.tc : Thread Cert.RetRefIdeal.nD Cert.RetRefIdeal.τ).loc Cert.RetRefIdeal.main_arg0) = m' ((c.tc : Thread Cert.RetRefIdeal.nD Cert.RetRefIdeal.τ).loc Cert.RetRefIdeal.main_arg0)
          ∧ r.2.mem ((c.tc : Thread Cert.RetRefIdeal.nD Cert.RetRefIdeal.τ).loc Cert.RetRefIdeal.main_arg1) = m' ((c.tc : Thread Cert.RetRefIdeal.nD Cert.RetRefIdeal.τ).loc Cert.RetRefIdeal.main_arg1)
          ∧ r.2.mem ((c.tc : Thread Cert.RetRefIdeal.nD Cert.RetRefIdeal.τ).loc Cert.RetRefIdeal.main_arg2) = m' ((c.tc : Thread Cert.RetRefIdeal.nD Cert.RetRefIdeal.τ).loc Cert.RetRefIdeal.main_arg2))

def preserves_Head_HeadIdeal : Prop :=
  True

def algebraic_HeadIdeal_HeadRefIdeal_pre_head_finite [hHeadIdeal : Cert.HeadIdeal.Facts] [hHeadRefIdeal : Cert.HeadRefIdeal.Facts] [hPre_head_finite : Cert.Pre_head_finite.Facts] : Prop :=
  ∀ (m : (ℓ : Loc Cert.HeadIdeal.nD Cert.HeadIdeal.τ Cert.HeadIdeal.sig) → Buf (Elt Ideal) ℓ) (g : Dev Cert.HeadIdeal.nD → PrngReg)
    (m' : (ℓ : Loc Cert.HeadRefIdeal.nD Cert.HeadRefIdeal.τ Cert.HeadRefIdeal.sig) → Buf (Elt Ideal) ℓ) (g' : Dev Cert.HeadRefIdeal.nD → PrngReg), Pre_HeadIdeal_head_finite m →
    (∀ c : Dev Cert.HeadIdeal.nD,
      m' ((c.tc : Thread Cert.HeadRefIdeal.nD Cert.HeadRefIdeal.τ).loc Cert.HeadRefIdeal.main_arg0) = m ((c.tc : Thread Cert.HeadIdeal.nD Cert.HeadIdeal.τ).loc Cert.HeadIdeal.main_arg0)
      ∧ m' ((c.tc : Thread Cert.HeadRefIdeal.nD Cert.HeadRefIdeal.τ).loc Cert.HeadRefIdeal.main_arg1) = m ((c.tc : Thread Cert.HeadIdeal.nD Cert.HeadIdeal.τ).loc Cert.HeadIdeal.main_arg1)
      ∧ m' ((c.tc : Thread Cert.HeadRefIdeal.nD Cert.HeadRefIdeal.τ).loc Cert.HeadRefIdeal.main_arg2) = m ((c.tc : Thread Cert.HeadIdeal.nD Cert.HeadIdeal.τ).loc Cert.HeadIdeal.main_arg2)
      ∧ m' ((c.tc : Thread Cert.HeadRefIdeal.nD Cert.HeadRefIdeal.τ).loc Cert.HeadRefIdeal.main_arg3) = m ((c.tc : Thread Cert.HeadIdeal.nD Cert.HeadIdeal.τ).loc Cert.HeadIdeal.main_arg3)
      ∧ m' ((c.tc : Thread Cert.HeadRefIdeal.nD Cert.HeadRefIdeal.τ).loc Cert.HeadRefIdeal.main_arg4) = m ((c.tc : Thread Cert.HeadIdeal.nD Cert.HeadIdeal.τ).loc Cert.HeadIdeal.main_arg4)
      ∧ m' ((c.tc : Thread Cert.HeadRefIdeal.nD Cert.HeadRefIdeal.τ).loc Cert.HeadRefIdeal.main_arg5) = m ((c.tc : Thread Cert.HeadIdeal.nD Cert.HeadIdeal.τ).loc Cert.HeadIdeal.main_arg5)
      ∧ m' ((c.tc : Thread Cert.HeadRefIdeal.nD Cert.HeadRefIdeal.τ).loc Cert.HeadRefIdeal.main_arg6) = m ((c.tc : Thread Cert.HeadIdeal.nD Cert.HeadIdeal.τ).loc Cert.HeadIdeal.main_arg6)
      ∧ m' ((c.tc : Thread Cert.HeadRefIdeal.nD Cert.HeadRefIdeal.τ).loc Cert.HeadRefIdeal.main_arg7) = m ((c.tc : Thread Cert.HeadIdeal.nD Cert.HeadIdeal.τ).loc Cert.HeadIdeal.main_arg7)
      ∧ m' ((c.tc : Thread Cert.HeadRefIdeal.nD Cert.HeadRefIdeal.τ).loc Cert.HeadRefIdeal.main_arg8) = m ((c.tc : Thread Cert.HeadIdeal.nD Cert.HeadIdeal.τ).loc Cert.HeadIdeal.main_arg8)
      ∧ m' ((c.tc : Thread Cert.HeadRefIdeal.nD Cert.HeadRefIdeal.τ).loc Cert.HeadRefIdeal.main_arg9) = m ((c.tc : Thread Cert.HeadIdeal.nD Cert.HeadIdeal.τ).loc Cert.HeadIdeal.main_arg9)) →
    ∃ (v0 : (c : Dev Cert.HeadIdeal.nD) → Buf (Elt Ideal) ((c.tc : Thread Cert.HeadIdeal.nD Cert.HeadIdeal.τ).loc Cert.HeadIdeal.main_v13_0)) (v1 : (c : Dev Cert.HeadIdeal.nD) → Buf (Elt Ideal) ((c.tc : Thread Cert.HeadIdeal.nD Cert.HeadIdeal.τ).loc Cert.HeadIdeal.main_v13_1)) (v2 : (c : Dev Cert.HeadIdeal.nD) → Buf (Elt Ideal) ((c.tc : Thread Cert.HeadIdeal.nD Cert.HeadIdeal.τ).loc Cert.HeadIdeal.main_v13_2)) (v3 : (c : Dev Cert.HeadIdeal.nD) → Buf (Elt Ideal) ((c.tc : Thread Cert.HeadIdeal.nD Cert.HeadIdeal.τ).loc Cert.HeadIdeal.main_v13_3)) (v4 : (c : Dev Cert.HeadIdeal.nD) → Buf (Elt Ideal) ((c.tc : Thread Cert.HeadIdeal.nD Cert.HeadIdeal.τ).loc Cert.HeadIdeal.main_v13_4)) (v5 : (c : Dev Cert.HeadIdeal.nD) → Buf (Elt Ideal) ((c.tc : Thread Cert.HeadIdeal.nD Cert.HeadIdeal.τ).loc Cert.HeadIdeal.main_v13_5)) (v6 : (c : Dev Cert.HeadIdeal.nD) → Buf (Elt Ideal) ((c.tc : Thread Cert.HeadIdeal.nD Cert.HeadIdeal.τ).loc Cert.HeadIdeal.main_v13_6)) (v7 : (c : Dev Cert.HeadIdeal.nD) → Buf (Elt Ideal) ((c.tc : Thread Cert.HeadIdeal.nD Cert.HeadIdeal.τ).loc Cert.HeadIdeal.main_v13_7)) (v8 : (c : Dev Cert.HeadIdeal.nD) → Buf (Elt Ideal) ((c.tc : Thread Cert.HeadIdeal.nD Cert.HeadIdeal.τ).loc Cert.HeadIdeal.main_v13_8)),
      θ_run (Cert.HeadIdeal.defs (F := Ideal)) (onTc (τ := Cert.HeadIdeal.τ) (Cert.HeadIdeal.main (F := Ideal))) ⟨m, fun _ => 0, g⟩ (fun r => ∀ c : Dev Cert.HeadIdeal.nD,
          r.2.mem ((c.tc : Thread Cert.HeadIdeal.nD Cert.HeadIdeal.τ).loc Cert.HeadIdeal.main_v13_0) = v0 c
          ∧ r.2.mem ((c.tc : Thread Cert.HeadIdeal.nD Cert.HeadIdeal.τ).loc Cert.HeadIdeal.main_v13_1) = v1 c
          ∧ r.2.mem ((c.tc : Thread Cert.HeadIdeal.nD Cert.HeadIdeal.τ).loc Cert.HeadIdeal.main_v13_2) = v2 c
          ∧ r.2.mem ((c.tc : Thread Cert.HeadIdeal.nD Cert.HeadIdeal.τ).loc Cert.HeadIdeal.main_v13_3) = v3 c
          ∧ r.2.mem ((c.tc : Thread Cert.HeadIdeal.nD Cert.HeadIdeal.τ).loc Cert.HeadIdeal.main_v13_4) = v4 c
          ∧ r.2.mem ((c.tc : Thread Cert.HeadIdeal.nD Cert.HeadIdeal.τ).loc Cert.HeadIdeal.main_v13_5) = v5 c
          ∧ r.2.mem ((c.tc : Thread Cert.HeadIdeal.nD Cert.HeadIdeal.τ).loc Cert.HeadIdeal.main_v13_6) = v6 c
          ∧ r.2.mem ((c.tc : Thread Cert.HeadIdeal.nD Cert.HeadIdeal.τ).loc Cert.HeadIdeal.main_v13_7) = v7 c
          ∧ r.2.mem ((c.tc : Thread Cert.HeadIdeal.nD Cert.HeadIdeal.τ).loc Cert.HeadIdeal.main_v13_8) = v8 c
          ∧ r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
          ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
          ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
          ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
          ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4)
          ∧ r.2.mem ((c.tc : Thread Cert.HeadIdeal.nD Cert.HeadIdeal.τ).loc Cert.HeadIdeal.main_arg5) = m ((c.tc : Thread Cert.HeadIdeal.nD Cert.HeadIdeal.τ).loc Cert.HeadIdeal.main_arg5)
          ∧ r.2.mem ((c.tc : Thread Cert.HeadIdeal.nD Cert.HeadIdeal.τ).loc Cert.HeadIdeal.main_arg6) = m ((c.tc : Thread Cert.HeadIdeal.nD Cert.HeadIdeal.τ).loc Cert.HeadIdeal.main_arg6)
          ∧ r.2.mem ((c.tc : Thread Cert.HeadIdeal.nD Cert.HeadIdeal.τ).loc Cert.HeadIdeal.main_arg7) = m ((c.tc : Thread Cert.HeadIdeal.nD Cert.HeadIdeal.τ).loc Cert.HeadIdeal.main_arg7)
          ∧ r.2.mem ((c.tc : Thread Cert.HeadIdeal.nD Cert.HeadIdeal.τ).loc Cert.HeadIdeal.main_arg8) = m ((c.tc : Thread Cert.HeadIdeal.nD Cert.HeadIdeal.τ).loc Cert.HeadIdeal.main_arg8)
          ∧ r.2.mem ((c.tc : Thread Cert.HeadIdeal.nD Cert.HeadIdeal.τ).loc Cert.HeadIdeal.main_arg9) = m ((c.tc : Thread Cert.HeadIdeal.nD Cert.HeadIdeal.τ).loc Cert.HeadIdeal.main_arg9))
      ∧ θ_run (Cert.HeadRefIdeal.defs (F := Ideal)) (onTc (τ := Cert.HeadRefIdeal.τ) (Cert.HeadRefIdeal.main (F := Ideal))) ⟨m', fun _ => 0, g'⟩ (fun r => ∀ c : Dev Cert.HeadRefIdeal.nD,
          r.2.mem ((c.tc : Thread Cert.HeadRefIdeal.nD Cert.HeadRefIdeal.τ).loc Cert.HeadRefIdeal.main_v111) = v0 c
          ∧ r.2.mem ((c.tc : Thread Cert.HeadRefIdeal.nD Cert.HeadRefIdeal.τ).loc Cert.HeadRefIdeal.main_v115) = v1 c
          ∧ r.2.mem ((c.tc : Thread Cert.HeadRefIdeal.nD Cert.HeadRefIdeal.τ).loc Cert.HeadRefIdeal.main_v116) = v2 c
          ∧ r.2.mem ((c.tc : Thread Cert.HeadRefIdeal.nD Cert.HeadRefIdeal.τ).loc Cert.HeadRefIdeal.main_v117) = v3 c
          ∧ r.2.mem ((c.tc : Thread Cert.HeadRefIdeal.nD Cert.HeadRefIdeal.τ).loc Cert.HeadRefIdeal.main_v119) = v4 c
          ∧ r.2.mem ((c.tc : Thread Cert.HeadRefIdeal.nD Cert.HeadRefIdeal.τ).loc Cert.HeadRefIdeal.main_v121) = v5 c
          ∧ r.2.mem ((c.tc : Thread Cert.HeadRefIdeal.nD Cert.HeadRefIdeal.τ).loc Cert.HeadRefIdeal.main_v123) = v6 c
          ∧ r.2.mem ((c.tc : Thread Cert.HeadRefIdeal.nD Cert.HeadRefIdeal.τ).loc Cert.HeadRefIdeal.main_v125) = v7 c
          ∧ r.2.mem ((c.tc : Thread Cert.HeadRefIdeal.nD Cert.HeadRefIdeal.τ).loc Cert.HeadRefIdeal.main_v110) = v8 c
          ∧ r.2.mem ((c.tc : Thread Cert.HeadRefIdeal.nD Cert.HeadRefIdeal.τ).loc Cert.HeadRefIdeal.main_arg0) = m' ((c.tc : Thread Cert.HeadRefIdeal.nD Cert.HeadRefIdeal.τ).loc Cert.HeadRefIdeal.main_arg0)
          ∧ r.2.mem ((c.tc : Thread Cert.HeadRefIdeal.nD Cert.HeadRefIdeal.τ).loc Cert.HeadRefIdeal.main_arg1) = m' ((c.tc : Thread Cert.HeadRefIdeal.nD Cert.HeadRefIdeal.τ).loc Cert.HeadRefIdeal.main_arg1)
          ∧ r.2.mem ((c.tc : Thread Cert.HeadRefIdeal.nD Cert.HeadRefIdeal.τ).loc Cert.HeadRefIdeal.main_arg2) = m' ((c.tc : Thread Cert.HeadRefIdeal.nD Cert.HeadRefIdeal.τ).loc Cert.HeadRefIdeal.main_arg2)
          ∧ r.2.mem ((c.tc : Thread Cert.HeadRefIdeal.nD Cert.HeadRefIdeal.τ).loc Cert.HeadRefIdeal.main_arg3) = m' ((c.tc : Thread Cert.HeadRefIdeal.nD Cert.HeadRefIdeal.τ).loc Cert.HeadRefIdeal.main_arg3)
          ∧ r.2.mem ((c.tc : Thread Cert.HeadRefIdeal.nD Cert.HeadRefIdeal.τ).loc Cert.HeadRefIdeal.main_arg4) = m' ((c.tc : Thread Cert.HeadRefIdeal.nD Cert.HeadRefIdeal.τ).loc Cert.HeadRefIdeal.main_arg4)
          ∧ r.2.mem ((c.tc : Thread Cert.HeadRefIdeal.nD Cert.HeadRefIdeal.τ).loc Cert.HeadRefIdeal.main_arg5) = m' ((c.tc : Thread Cert.HeadRefIdeal.nD Cert.HeadRefIdeal.τ).loc Cert.HeadRefIdeal.main_arg5)
          ∧ r.2.mem ((c.tc : Thread Cert.HeadRefIdeal.nD Cert.HeadRefIdeal.τ).loc Cert.HeadRefIdeal.main_arg6) = m' ((c.tc : Thread Cert.HeadRefIdeal.nD Cert.HeadRefIdeal.τ).loc Cert.HeadRefIdeal.main_arg6)
          ∧ r.2.mem ((c.tc : Thread Cert.HeadRefIdeal.nD Cert.HeadRefIdeal.τ).loc Cert.HeadRefIdeal.main_arg7) = m' ((c.tc : Thread Cert.HeadRefIdeal.nD Cert.HeadRefIdeal.τ).loc Cert.HeadRefIdeal.main_arg7)
          ∧ r.2.mem ((c.tc : Thread Cert.HeadRefIdeal.nD Cert.HeadRefIdeal.τ).loc Cert.HeadRefIdeal.main_arg8) = m' ((c.tc : Thread Cert.HeadRefIdeal.nD Cert.HeadRefIdeal.τ).loc Cert.HeadRefIdeal.main_arg8)
          ∧ r.2.mem ((c.tc : Thread Cert.HeadRefIdeal.nD Cert.HeadRefIdeal.τ).loc Cert.HeadRefIdeal.main_arg9) = m' ((c.tc : Thread Cert.HeadRefIdeal.nD Cert.HeadRefIdeal.τ).loc Cert.HeadRefIdeal.main_arg9))

def preserves_Conv_ConvIdeal : Prop :=
  True

def algebraic_ConvIdeal_ConvRefIdeal_pre_conv_finite [hConvIdeal : Cert.ConvIdeal.Facts] [hConvRefIdeal : Cert.ConvRefIdeal.Facts] [hPre_conv_finite : Cert.Pre_conv_finite.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal_conv_finite m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)
      ∧ m' ((c.tc : Thread Cert.ConvRefIdeal.nD Cert.ConvRefIdeal.τ).loc Cert.ConvRefIdeal.main_arg3) = m ((c.tc : Thread Cert.ConvIdeal.nD Cert.ConvIdeal.τ).loc Cert.ConvIdeal.main_arg3)
      ∧ m' ((c.tc : Thread Cert.ConvRefIdeal.nD Cert.ConvRefIdeal.τ).loc Cert.ConvRefIdeal.main_arg4) = m ((c.tc : Thread Cert.ConvIdeal.nD Cert.ConvIdeal.τ).loc Cert.ConvIdeal.main_arg4)
      ∧ m' ((c.tc : Thread Cert.ConvRefIdeal.nD Cert.ConvRefIdeal.τ).loc Cert.ConvRefIdeal.main_arg5) = m ((c.tc : Thread Cert.ConvIdeal.nD Cert.ConvIdeal.τ).loc Cert.ConvIdeal.main_arg5)) →
    ∃ (v0 : (c : Dev Cert.ConvIdeal.nD) → Buf (Elt Ideal) ((c.tc : Thread Cert.ConvIdeal.nD Cert.ConvIdeal.τ).loc Cert.ConvIdeal.main_v43_0)) (v1 : (c : Dev Cert.ConvIdeal.nD) → Buf (Elt Ideal) ((c.tc : Thread Cert.ConvIdeal.nD Cert.ConvIdeal.τ).loc Cert.ConvIdeal.main_v43_1)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v43_0) = v0 c
          ∧ r.2.mem ((c.tc : Thread Cert.ConvIdeal.nD Cert.ConvIdeal.τ).loc Cert.ConvIdeal.main_v43_1) = v1 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
          ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
          ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v141) = v0 c
          ∧ r.2.mem ((c.tc : Thread Cert.ConvRefIdeal.nD Cert.ConvRefIdeal.τ).loc Cert.ConvRefIdeal.main_v136) = v1 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3)
          ∧ r.2.mem ((c.tc : Thread Cert.ConvRefIdeal.nD Cert.ConvRefIdeal.τ).loc Cert.ConvRefIdeal.main_arg4) = m' ((c.tc : Thread Cert.ConvRefIdeal.nD Cert.ConvRefIdeal.τ).loc Cert.ConvRefIdeal.main_arg4)
          ∧ r.2.mem ((c.tc : Thread Cert.ConvRefIdeal.nD Cert.ConvRefIdeal.τ).loc Cert.ConvRefIdeal.main_arg5) = m' ((c.tc : Thread Cert.ConvRefIdeal.nD Cert.ConvRefIdeal.τ).loc Cert.ConvRefIdeal.main_arg5))

def preserves_Dwr_DwrIdeal : Prop :=
  True

def algebraic_DwrIdeal_DwrRefIdeal [hDwrIdeal : Cert.DwrIdeal.Facts] [hDwrRefIdeal : Cert.DwrRefIdeal.Facts] : Prop :=
  ∀ (m : (ℓ : Loc Cert.DwrIdeal.nD Cert.DwrIdeal.τ Cert.DwrIdeal.sig) → Buf (Elt Ideal) ℓ) (g : Dev Cert.DwrIdeal.nD → PrngReg)
    (m' : (ℓ : Loc Cert.DwrRefIdeal.nD Cert.DwrRefIdeal.τ Cert.DwrRefIdeal.sig) → Buf (Elt Ideal) ℓ) (g' : Dev Cert.DwrRefIdeal.nD → PrngReg), Pre_DwrIdeal m →
    (∀ c : Dev Cert.DwrIdeal.nD,
      m' ((c.tc : Thread Cert.DwrRefIdeal.nD Cert.DwrRefIdeal.τ).loc Cert.DwrRefIdeal.main_arg0) = m ((c.tc : Thread Cert.DwrIdeal.nD Cert.DwrIdeal.τ).loc Cert.DwrIdeal.main_arg0)
      ∧ m' ((c.tc : Thread Cert.DwrRefIdeal.nD Cert.DwrRefIdeal.τ).loc Cert.DwrRefIdeal.main_arg1) = m ((c.tc : Thread Cert.DwrIdeal.nD Cert.DwrIdeal.τ).loc Cert.DwrIdeal.main_arg1)) →
    ∃ (v0 : (c : Dev Cert.DwrIdeal.nD) → Buf (Elt Ideal) ((c.tc : Thread Cert.DwrIdeal.nD Cert.DwrIdeal.τ).loc Cert.DwrIdeal.main_v4_0)) (v1 : (c : Dev Cert.DwrIdeal.nD) → Buf (Elt Ideal) ((c.tc : Thread Cert.DwrIdeal.nD Cert.DwrIdeal.τ).loc Cert.DwrIdeal.main_v4_1)) (v2 : (c : Dev Cert.DwrIdeal.nD) → Buf (Elt Ideal) ((c.tc : Thread Cert.DwrIdeal.nD Cert.DwrIdeal.τ).loc Cert.DwrIdeal.main_v4_2)) (v3 : (c : Dev Cert.DwrIdeal.nD) → Buf (Elt Ideal) ((c.tc : Thread Cert.DwrIdeal.nD Cert.DwrIdeal.τ).loc Cert.DwrIdeal.main_v4_3)),
      θ_run (Cert.DwrIdeal.defs (F := Ideal)) (onTc (τ := Cert.DwrIdeal.τ) (Cert.DwrIdeal.main (F := Ideal))) ⟨m, fun _ => 0, g⟩ (fun r => ∀ c : Dev Cert.DwrIdeal.nD,
          r.2.mem ((c.tc : Thread Cert.DwrIdeal.nD Cert.DwrIdeal.τ).loc Cert.DwrIdeal.main_v4_0) = v0 c
          ∧ r.2.mem ((c.tc : Thread Cert.DwrIdeal.nD Cert.DwrIdeal.τ).loc Cert.DwrIdeal.main_v4_1) = v1 c
          ∧ r.2.mem ((c.tc : Thread Cert.DwrIdeal.nD Cert.DwrIdeal.τ).loc Cert.DwrIdeal.main_v4_2) = v2 c
          ∧ r.2.mem ((c.tc : Thread Cert.DwrIdeal.nD Cert.DwrIdeal.τ).loc Cert.DwrIdeal.main_v4_3) = v3 c
          ∧ r.2.mem ((c.tc : Thread Cert.DwrIdeal.nD Cert.DwrIdeal.τ).loc Cert.DwrIdeal.main_arg0) = m ((c.tc : Thread Cert.DwrIdeal.nD Cert.DwrIdeal.τ).loc Cert.DwrIdeal.main_arg0)
          ∧ r.2.mem ((c.tc : Thread Cert.DwrIdeal.nD Cert.DwrIdeal.τ).loc Cert.DwrIdeal.main_arg1) = m ((c.tc : Thread Cert.DwrIdeal.nD Cert.DwrIdeal.τ).loc Cert.DwrIdeal.main_arg1))
      ∧ θ_run (Cert.DwrRefIdeal.defs (F := Ideal)) (onTc (τ := Cert.DwrRefIdeal.τ) (Cert.DwrRefIdeal.main (F := Ideal))) ⟨m', fun _ => 0, g'⟩ (fun r => ∀ c : Dev Cert.DwrRefIdeal.nD,
          r.2.mem ((c.tc : Thread Cert.DwrRefIdeal.nD Cert.DwrRefIdeal.τ).loc Cert.DwrRefIdeal.main_v6) = v0 c
          ∧ r.2.mem ((c.tc : Thread Cert.DwrRefIdeal.nD Cert.DwrRefIdeal.τ).loc Cert.DwrRefIdeal.main_v8) = v1 c
          ∧ r.2.mem ((c.tc : Thread Cert.DwrRefIdeal.nD Cert.DwrRefIdeal.τ).loc Cert.DwrRefIdeal.main_v10) = v2 c
          ∧ r.2.mem ((c.tc : Thread Cert.DwrRefIdeal.nD Cert.DwrRefIdeal.τ).loc Cert.DwrRefIdeal.main_v12) = v3 c
          ∧ r.2.mem ((c.tc : Thread Cert.DwrRefIdeal.nD Cert.DwrRefIdeal.τ).loc Cert.DwrRefIdeal.main_arg0) = m' ((c.tc : Thread Cert.DwrRefIdeal.nD Cert.DwrRefIdeal.τ).loc Cert.DwrRefIdeal.main_arg0)
          ∧ r.2.mem ((c.tc : Thread Cert.DwrRefIdeal.nD Cert.DwrRefIdeal.τ).loc Cert.DwrRefIdeal.main_arg1) = m' ((c.tc : Thread Cert.DwrRefIdeal.nD Cert.DwrRefIdeal.τ).loc Cert.DwrRefIdeal.main_arg1))

def preserves_Rope_RopeIdeal : Prop :=
  True

def algebraic_RopeIdeal_RopeRefIdeal [hRopeIdeal : Cert.RopeIdeal.Facts] [hRopeRefIdeal : Cert.RopeRefIdeal.Facts] : Prop :=
  ∀ (m : (ℓ : Loc Cert.RopeIdeal.nD Cert.RopeIdeal.τ Cert.RopeIdeal.sig) → Buf (Elt Ideal) ℓ) (g : Dev Cert.RopeIdeal.nD → PrngReg)
    (m' : (ℓ : Loc Cert.RopeRefIdeal.nD Cert.RopeRefIdeal.τ Cert.RopeRefIdeal.sig) → Buf (Elt Ideal) ℓ) (g' : Dev Cert.RopeRefIdeal.nD → PrngReg), Pre_RopeIdeal m →
    (∀ c : Dev Cert.RopeIdeal.nD,
      m' ((c.tc : Thread Cert.RopeRefIdeal.nD Cert.RopeRefIdeal.τ).loc Cert.RopeRefIdeal.main_arg0) = m ((c.tc : Thread Cert.RopeIdeal.nD Cert.RopeIdeal.τ).loc Cert.RopeIdeal.main_arg0)) →
    ∃ (v0 : (c : Dev Cert.RopeIdeal.nD) → Buf (Elt Ideal) ((c.tc : Thread Cert.RopeIdeal.nD Cert.RopeIdeal.τ).loc Cert.RopeIdeal.main_v8_0)) (v1 : (c : Dev Cert.RopeIdeal.nD) → Buf (Elt Ideal) ((c.tc : Thread Cert.RopeIdeal.nD Cert.RopeIdeal.τ).loc Cert.RopeIdeal.main_v8_1)),
      θ_run (Cert.RopeIdeal.defs (F := Ideal)) (onTc (τ := Cert.RopeIdeal.τ) (Cert.RopeIdeal.main (F := Ideal))) ⟨m, fun _ => 0, g⟩ (fun r => ∀ c : Dev Cert.RopeIdeal.nD,
          r.2.mem ((c.tc : Thread Cert.RopeIdeal.nD Cert.RopeIdeal.τ).loc Cert.RopeIdeal.main_v8_0) = v0 c
          ∧ r.2.mem ((c.tc : Thread Cert.RopeIdeal.nD Cert.RopeIdeal.τ).loc Cert.RopeIdeal.main_v8_1) = v1 c
          ∧ r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0))
      ∧ θ_run (Cert.RopeRefIdeal.defs (F := Ideal)) (onTc (τ := Cert.RopeRefIdeal.τ) (Cert.RopeRefIdeal.main (F := Ideal))) ⟨m', fun _ => 0, g'⟩ (fun r => ∀ c : Dev Cert.RopeRefIdeal.nD,
          r.2.mem ((c.tc : Thread Cert.RopeRefIdeal.nD Cert.RopeRefIdeal.τ).loc Cert.RopeRefIdeal.main_v13) = v0 c
          ∧ r.2.mem ((c.tc : Thread Cert.RopeRefIdeal.nD Cert.RopeRefIdeal.τ).loc Cert.RopeRefIdeal.main_v15) = v1 c
          ∧ r.2.mem ((c.tc : Thread Cert.RopeRefIdeal.nD Cert.RopeRefIdeal.τ).loc Cert.RopeRefIdeal.main_arg0) = m' ((c.tc : Thread Cert.RopeRefIdeal.nD Cert.RopeRefIdeal.τ).loc Cert.RopeRefIdeal.main_arg0))

def preserves_Dw_DwIdeal : Prop :=
  True

def algebraic_DwIdeal_DwRefIdeal [hDwIdeal : Cert.DwIdeal.Facts] [hDwRefIdeal : Cert.DwRefIdeal.Facts] : Prop :=
  ∀ (m : (ℓ : Loc Cert.DwIdeal.nD Cert.DwIdeal.τ Cert.DwIdeal.sig) → Buf (Elt Ideal) ℓ) (g : Dev Cert.DwIdeal.nD → PrngReg)
    (m' : (ℓ : Loc Cert.DwRefIdeal.nD Cert.DwRefIdeal.τ Cert.DwRefIdeal.sig) → Buf (Elt Ideal) ℓ) (g' : Dev Cert.DwRefIdeal.nD → PrngReg), Pre_DwIdeal m →
    (∀ c : Dev Cert.DwIdeal.nD,
      m' ((c.tc : Thread Cert.DwRefIdeal.nD Cert.DwRefIdeal.τ).loc Cert.DwRefIdeal.main_arg0) = m ((c.tc : Thread Cert.DwIdeal.nD Cert.DwIdeal.τ).loc Cert.DwIdeal.main_arg0)
      ∧ m' ((c.tc : Thread Cert.DwRefIdeal.nD Cert.DwRefIdeal.τ).loc Cert.DwRefIdeal.main_arg1) = m ((c.tc : Thread Cert.DwIdeal.nD Cert.DwIdeal.τ).loc Cert.DwIdeal.main_arg1)) →
    ∃ (v0 : (c : Dev Cert.DwIdeal.nD) → Buf (Elt Ideal) ((c.tc : Thread Cert.DwIdeal.nD Cert.DwIdeal.τ).loc Cert.DwIdeal.main_v4)),
      θ_run (Cert.DwIdeal.defs (F := Ideal)) (onTc (τ := Cert.DwIdeal.τ) (Cert.DwIdeal.main (F := Ideal))) ⟨m, fun _ => 0, g⟩ (fun r => ∀ c : Dev Cert.DwIdeal.nD,
          r.2.mem ((c.tc : Thread Cert.DwIdeal.nD Cert.DwIdeal.τ).loc Cert.DwIdeal.main_v4) = v0 c
          ∧ r.2.mem ((c.tc : Thread Cert.DwIdeal.nD Cert.DwIdeal.τ).loc Cert.DwIdeal.main_arg0) = m ((c.tc : Thread Cert.DwIdeal.nD Cert.DwIdeal.τ).loc Cert.DwIdeal.main_arg0)
          ∧ r.2.mem ((c.tc : Thread Cert.DwIdeal.nD Cert.DwIdeal.τ).loc Cert.DwIdeal.main_arg1) = m ((c.tc : Thread Cert.DwIdeal.nD Cert.DwIdeal.τ).loc Cert.DwIdeal.main_arg1))
      ∧ θ_run (Cert.DwRefIdeal.defs (F := Ideal)) (onTc (τ := Cert.DwRefIdeal.τ) (Cert.DwRefIdeal.main (F := Ideal))) ⟨m', fun _ => 0, g'⟩ (fun r => ∀ c : Dev Cert.DwRefIdeal.nD,
          r.2.mem ((c.tc : Thread Cert.DwRefIdeal.nD Cert.DwRefIdeal.τ).loc Cert.DwRefIdeal.main_v0) = v0 c
          ∧ r.2.mem ((c.tc : Thread Cert.DwRefIdeal.nD Cert.DwRefIdeal.τ).loc Cert.DwRefIdeal.main_arg0) = m' ((c.tc : Thread Cert.DwRefIdeal.nD Cert.DwRefIdeal.τ).loc Cert.DwRefIdeal.main_arg0)
          ∧ r.2.mem ((c.tc : Thread Cert.DwRefIdeal.nD Cert.DwRefIdeal.τ).loc Cert.DwRefIdeal.main_arg1) = m' ((c.tc : Thread Cert.DwRefIdeal.nD Cert.DwRefIdeal.τ).loc Cert.DwRefIdeal.main_arg1))

def preserves_Adam_AdamIdeal : Prop :=
  True

def algebraic_AdamIdeal_AdamRefIdeal [hAdamIdeal : Cert.AdamIdeal.Facts] [hAdamRefIdeal : Cert.AdamRefIdeal.Facts] : Prop :=
  ∀ (m : (ℓ : Loc Cert.AdamIdeal.nD Cert.AdamIdeal.τ Cert.AdamIdeal.sig) → Buf (Elt Ideal) ℓ) (g : Dev Cert.AdamIdeal.nD → PrngReg)
    (m' : (ℓ : Loc Cert.AdamRefIdeal.nD Cert.AdamRefIdeal.τ Cert.AdamRefIdeal.sig) → Buf (Elt Ideal) ℓ) (g' : Dev Cert.AdamRefIdeal.nD → PrngReg), Pre_AdamIdeal m →
    (∀ c : Dev Cert.AdamIdeal.nD,
      m' ((c.tc : Thread Cert.AdamRefIdeal.nD Cert.AdamRefIdeal.τ).loc Cert.AdamRefIdeal.main_arg0) = m ((c.tc : Thread Cert.AdamIdeal.nD Cert.AdamIdeal.τ).loc Cert.AdamIdeal.main_arg0)
      ∧ m' ((c.tc : Thread Cert.AdamRefIdeal.nD Cert.AdamRefIdeal.τ).loc Cert.AdamRefIdeal.main_arg1) = m ((c.tc : Thread Cert.AdamIdeal.nD Cert.AdamIdeal.τ).loc Cert.AdamIdeal.main_arg1)
      ∧ m' ((c.tc : Thread Cert.AdamRefIdeal.nD Cert.AdamRefIdeal.τ).loc Cert.AdamRefIdeal.main_arg2) = m ((c.tc : Thread Cert.AdamIdeal.nD Cert.AdamIdeal.τ).loc Cert.AdamIdeal.main_arg2)
      ∧ m' ((c.tc : Thread Cert.AdamRefIdeal.nD Cert.AdamRefIdeal.τ).loc Cert.AdamRefIdeal.main_arg3) = m ((c.tc : Thread Cert.AdamIdeal.nD Cert.AdamIdeal.τ).loc Cert.AdamIdeal.main_arg3)) →
    ∃ (v0 : (c : Dev Cert.AdamIdeal.nD) → Buf (Elt Ideal) ((c.tc : Thread Cert.AdamIdeal.nD Cert.AdamIdeal.τ).loc Cert.AdamIdeal.main_v4_0)) (v1 : (c : Dev Cert.AdamIdeal.nD) → Buf (Elt Ideal) ((c.tc : Thread Cert.AdamIdeal.nD Cert.AdamIdeal.τ).loc Cert.AdamIdeal.main_v4_1)) (v2 : (c : Dev Cert.AdamIdeal.nD) → Buf (Elt Ideal) ((c.tc : Thread Cert.AdamIdeal.nD Cert.AdamIdeal.τ).loc Cert.AdamIdeal.main_v4_2)) (v3 : (c : Dev Cert.AdamIdeal.nD) → Buf (Elt Ideal) ((c.tc : Thread Cert.AdamIdeal.nD Cert.AdamIdeal.τ).loc Cert.AdamIdeal.main_v4_3)),
      θ_run (Cert.AdamIdeal.defs (F := Ideal)) (onTc (τ := Cert.AdamIdeal.τ) (Cert.AdamIdeal.main (F := Ideal))) ⟨m, fun _ => 0, g⟩ (fun r => ∀ c : Dev Cert.AdamIdeal.nD,
          r.2.mem ((c.tc : Thread Cert.AdamIdeal.nD Cert.AdamIdeal.τ).loc Cert.AdamIdeal.main_v4_0) = v0 c
          ∧ r.2.mem ((c.tc : Thread Cert.AdamIdeal.nD Cert.AdamIdeal.τ).loc Cert.AdamIdeal.main_v4_1) = v1 c
          ∧ r.2.mem ((c.tc : Thread Cert.AdamIdeal.nD Cert.AdamIdeal.τ).loc Cert.AdamIdeal.main_v4_2) = v2 c
          ∧ r.2.mem ((c.tc : Thread Cert.AdamIdeal.nD Cert.AdamIdeal.τ).loc Cert.AdamIdeal.main_v4_3) = v3 c
          ∧ r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
          ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
          ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
          ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ θ_run (Cert.AdamRefIdeal.defs (F := Ideal)) (onTc (τ := Cert.AdamRefIdeal.τ) (Cert.AdamRefIdeal.main (F := Ideal))) ⟨m', fun _ => 0, g'⟩ (fun r => ∀ c : Dev Cert.AdamRefIdeal.nD,
          r.2.mem ((c.tc : Thread Cert.AdamRefIdeal.nD Cert.AdamRefIdeal.τ).loc Cert.AdamRefIdeal.main_v0) = v0 c
          ∧ r.2.mem ((c.tc : Thread Cert.AdamRefIdeal.nD Cert.AdamRefIdeal.τ).loc Cert.AdamRefIdeal.main_v27) = v1 c
          ∧ r.2.mem ((c.tc : Thread Cert.AdamRefIdeal.nD Cert.AdamRefIdeal.τ).loc Cert.AdamRefIdeal.main_v8) = v2 c
          ∧ r.2.mem ((c.tc : Thread Cert.AdamRefIdeal.nD Cert.AdamRefIdeal.τ).loc Cert.AdamRefIdeal.main_v14) = v3 c
          ∧ r.2.mem ((c.tc : Thread Cert.AdamRefIdeal.nD Cert.AdamRefIdeal.τ).loc Cert.AdamRefIdeal.main_arg0) = m' ((c.tc : Thread Cert.AdamRefIdeal.nD Cert.AdamRefIdeal.τ).loc Cert.AdamRefIdeal.main_arg0)
          ∧ r.2.mem ((c.tc : Thread Cert.AdamRefIdeal.nD Cert.AdamRefIdeal.τ).loc Cert.AdamRefIdeal.main_arg1) = m' ((c.tc : Thread Cert.AdamRefIdeal.nD Cert.AdamRefIdeal.τ).loc Cert.AdamRefIdeal.main_arg1)
          ∧ r.2.mem ((c.tc : Thread Cert.AdamRefIdeal.nD Cert.AdamRefIdeal.τ).loc Cert.AdamRefIdeal.main_arg2) = m' ((c.tc : Thread Cert.AdamRefIdeal.nD Cert.AdamRefIdeal.τ).loc Cert.AdamRefIdeal.main_arg2)
          ∧ r.2.mem ((c.tc : Thread Cert.AdamRefIdeal.nD Cert.AdamRefIdeal.τ).loc Cert.AdamRefIdeal.main_arg3) = m' ((c.tc : Thread Cert.AdamRefIdeal.nD Cert.AdamRefIdeal.τ).loc Cert.AdamRefIdeal.main_arg3))

def preserves_Step_StepIdeal : Prop :=
  True

def algebraic_StepIdeal_StepRefIdeal [hStepIdeal : Cert.StepIdeal.Facts] [hStepRefIdeal : Cert.StepRefIdeal.Facts] : Prop :=
  ∀ (m : (ℓ : Loc Cert.StepIdeal.nD Cert.StepIdeal.τ Cert.StepIdeal.sig) → Buf (Elt Ideal) ℓ) (g : Dev Cert.StepIdeal.nD → PrngReg)
    (m' : (ℓ : Loc Cert.StepRefIdeal.nD Cert.StepRefIdeal.τ Cert.StepRefIdeal.sig) → Buf (Elt Ideal) ℓ) (g' : Dev Cert.StepRefIdeal.nD → PrngReg), Pre_StepIdeal m →
    (∀ c : Dev Cert.StepIdeal.nD,
      m' ((c.tc : Thread Cert.StepRefIdeal.nD Cert.StepRefIdeal.τ).loc Cert.StepRefIdeal.main_arg0) = m ((c.tc : Thread Cert.StepIdeal.nD Cert.StepIdeal.τ).loc Cert.StepIdeal.main_arg0)
      ∧ m' ((c.tc : Thread Cert.StepRefIdeal.nD Cert.StepRefIdeal.τ).loc Cert.StepRefIdeal.main_arg1) = m ((c.tc : Thread Cert.StepIdeal.nD Cert.StepIdeal.τ).loc Cert.StepIdeal.main_arg1)
      ∧ m' ((c.tc : Thread Cert.StepRefIdeal.nD Cert.StepRefIdeal.τ).loc Cert.StepRefIdeal.main_arg2) = m ((c.tc : Thread Cert.StepIdeal.nD Cert.StepIdeal.τ).loc Cert.StepIdeal.main_arg2)
      ∧ m' ((c.tc : Thread Cert.StepRefIdeal.nD Cert.StepRefIdeal.τ).loc Cert.StepRefIdeal.main_arg3) = m ((c.tc : Thread Cert.StepIdeal.nD Cert.StepIdeal.τ).loc Cert.StepIdeal.main_arg3)) →
    ∃ (v0 : (c : Dev Cert.StepIdeal.nD) → Buf (Elt Ideal) ((c.tc : Thread Cert.StepIdeal.nD Cert.StepIdeal.τ).loc Cert.StepIdeal.main_v0_0)) (v1 : (c : Dev Cert.StepIdeal.nD) → Buf (Elt Ideal) ((c.tc : Thread Cert.StepIdeal.nD Cert.StepIdeal.τ).loc Cert.StepIdeal.main_v0_1)) (v2 : (c : Dev Cert.StepIdeal.nD) → Buf (Elt Ideal) ((c.tc : Thread Cert.StepIdeal.nD Cert.StepIdeal.τ).loc Cert.StepIdeal.main_v0_2)),
      θ_run (Cert.StepIdeal.defs (F := Ideal)) (onTc (τ := Cert.StepIdeal.τ) (Cert.StepIdeal.main (F := Ideal))) ⟨m, fun _ => 0, g⟩ (fun r => ∀ c : Dev Cert.StepIdeal.nD,
          r.2.mem ((c.tc : Thread Cert.StepIdeal.nD Cert.StepIdeal.τ).loc Cert.StepIdeal.main_v0_0) = v0 c
          ∧ r.2.mem ((c.tc : Thread Cert.StepIdeal.nD Cert.StepIdeal.τ).loc Cert.StepIdeal.main_v0_1) = v1 c
          ∧ r.2.mem ((c.tc : Thread Cert.StepIdeal.nD Cert.StepIdeal.τ).loc Cert.StepIdeal.main_v0_2) = v2 c
          ∧ r.2.mem ((c.tc : Thread Cert.StepIdeal.nD Cert.StepIdeal.τ).loc Cert.StepIdeal.main_arg0) = m ((c.tc : Thread Cert.StepIdeal.nD Cert.StepIdeal.τ).loc Cert.StepIdeal.main_arg0)
          ∧ r.2.mem ((c.tc : Thread Cert.StepIdeal.nD Cert.StepIdeal.τ).loc Cert.StepIdeal.main_arg1) = m ((c.tc : Thread Cert.StepIdeal.nD Cert.StepIdeal.τ).loc Cert.StepIdeal.main_arg1)
          ∧ r.2.mem ((c.tc : Thread Cert.StepIdeal.nD Cert.StepIdeal.τ).loc Cert.StepIdeal.main_arg2) = m ((c.tc : Thread Cert.StepIdeal.nD Cert.StepIdeal.τ).loc Cert.StepIdeal.main_arg2)
          ∧ r.2.mem ((c.tc : Thread Cert.StepIdeal.nD Cert.StepIdeal.τ).loc Cert.StepIdeal.main_arg3) = m ((c.tc : Thread Cert.StepIdeal.nD Cert.StepIdeal.τ).loc Cert.StepIdeal.main_arg3))
      ∧ θ_run (Cert.StepRefIdeal.defs (F := Ideal)) (onTc (τ := Cert.StepRefIdeal.τ) (Cert.StepRefIdeal.main (F := Ideal))) ⟨m', fun _ => 0, g'⟩ (fun r => ∀ c : Dev Cert.StepRefIdeal.nD,
          r.2.mem ((c.tc : Thread Cert.StepRefIdeal.nD Cert.StepRefIdeal.τ).loc Cert.StepRefIdeal.main_v23) = v0 c
          ∧ r.2.mem ((c.tc : Thread Cert.StepRefIdeal.nD Cert.StepRefIdeal.τ).loc Cert.StepRefIdeal.main_v4) = v1 c
          ∧ r.2.mem ((c.tc : Thread Cert.StepRefIdeal.nD Cert.StepRefIdeal.τ).loc Cert.StepRefIdeal.main_v10) = v2 c
          ∧ r.2.mem ((c.tc : Thread Cert.StepRefIdeal.nD Cert.StepRefIdeal.τ).loc Cert.StepRefIdeal.main_arg0) = m' ((c.tc : Thread Cert.StepRefIdeal.nD Cert.StepRefIdeal.τ).loc Cert.StepRefIdeal.main_arg0)
          ∧ r.2.mem ((c.tc : Thread Cert.StepRefIdeal.nD Cert.StepRefIdeal.τ).loc Cert.StepRefIdeal.main_arg1) = m' ((c.tc : Thread Cert.StepRefIdeal.nD Cert.StepRefIdeal.τ).loc Cert.StepRefIdeal.main_arg1)
          ∧ r.2.mem ((c.tc : Thread Cert.StepRefIdeal.nD Cert.StepRefIdeal.τ).loc Cert.StepRefIdeal.main_arg2) = m' ((c.tc : Thread Cert.StepRefIdeal.nD Cert.StepRefIdeal.τ).loc Cert.StepRefIdeal.main_arg2)
          ∧ r.2.mem ((c.tc : Thread Cert.StepRefIdeal.nD Cert.StepRefIdeal.τ).loc Cert.StepRefIdeal.main_arg3) = m' ((c.tc : Thread Cert.StepRefIdeal.nD Cert.StepRefIdeal.τ).loc Cert.StepRefIdeal.main_arg3))

def preserves_Sum_SumIdeal : Prop :=
  True

def algebraic_SumIdeal_SumRefIdeal [hSumIdeal : Cert.SumIdeal.Facts] [hSumRefIdeal : Cert.SumRefIdeal.Facts] : Prop :=
  ∀ (m : (ℓ : Loc Cert.SumIdeal.nD Cert.SumIdeal.τ Cert.SumIdeal.sig) → Buf (Elt Ideal) ℓ) (g : Dev Cert.SumIdeal.nD → PrngReg)
    (m' : (ℓ : Loc Cert.SumRefIdeal.nD Cert.SumRefIdeal.τ Cert.SumRefIdeal.sig) → Buf (Elt Ideal) ℓ) (g' : Dev Cert.SumRefIdeal.nD → PrngReg), Pre_SumIdeal m →
    (∀ c : Dev Cert.SumIdeal.nD,
      m' ((c.tc : Thread Cert.SumRefIdeal.nD Cert.SumRefIdeal.τ).loc Cert.SumRefIdeal.main_arg0) = m ((c.tc : Thread Cert.SumIdeal.nD Cert.SumIdeal.τ).loc Cert.SumIdeal.main_arg0)) →
    ∃ (v0 : (c : Dev Cert.SumIdeal.nD) → Buf (Elt Ideal) ((c.tc : Thread Cert.SumIdeal.nD Cert.SumIdeal.τ).loc Cert.SumIdeal.main_v0)),
      θ_run (Cert.SumIdeal.defs (F := Ideal)) (onTc (τ := Cert.SumIdeal.τ) (Cert.SumIdeal.main (F := Ideal))) ⟨m, fun _ => 0, g⟩ (fun r => ∀ c : Dev Cert.SumIdeal.nD,
          r.2.mem ((c.tc : Thread Cert.SumIdeal.nD Cert.SumIdeal.τ).loc Cert.SumIdeal.main_v0) = v0 c
          ∧ r.2.mem ((c.tc : Thread Cert.SumIdeal.nD Cert.SumIdeal.τ).loc Cert.SumIdeal.main_arg0) = m ((c.tc : Thread Cert.SumIdeal.nD Cert.SumIdeal.τ).loc Cert.SumIdeal.main_arg0))
      ∧ θ_run (Cert.SumRefIdeal.defs (F := Ideal)) (onTc (τ := Cert.SumRefIdeal.τ) (Cert.SumRefIdeal.main (F := Ideal))) ⟨m', fun _ => 0, g'⟩ (fun r => ∀ c : Dev Cert.SumRefIdeal.nD,
          r.2.mem ((c.tc : Thread Cert.SumRefIdeal.nD Cert.SumRefIdeal.τ).loc Cert.SumRefIdeal.main_v0) = v0 c
          ∧ r.2.mem ((c.tc : Thread Cert.SumRefIdeal.nD Cert.SumRefIdeal.τ).loc Cert.SumRefIdeal.main_arg0) = m' ((c.tc : Thread Cert.SumRefIdeal.nD Cert.SumRefIdeal.τ).loc Cert.SumRefIdeal.main_arg0))

def preserves_Mod_ModIdeal : Prop :=
  True

def algebraic_ModIdeal_ModRefIdeal [hModIdeal : Cert.ModIdeal.Facts] [hModRefIdeal : Cert.ModRefIdeal.Facts] : Prop :=
  ∀ (m : (ℓ : Loc Cert.ModIdeal.nD Cert.ModIdeal.τ Cert.ModIdeal.sig) → Buf (Elt Ideal) ℓ) (g : Dev Cert.ModIdeal.nD → PrngReg)
    (m' : (ℓ : Loc Cert.ModRefIdeal.nD Cert.ModRefIdeal.τ Cert.ModRefIdeal.sig) → Buf (Elt Ideal) ℓ) (g' : Dev Cert.ModRefIdeal.nD → PrngReg), Pre_ModIdeal m →
    (∀ c : Dev Cert.ModIdeal.nD,
      m' ((c.tc : Thread Cert.ModRefIdeal.nD Cert.ModRefIdeal.τ).loc Cert.ModRefIdeal.main_arg0) = m ((c.tc : Thread Cert.ModIdeal.nD Cert.ModIdeal.τ).loc Cert.ModIdeal.main_arg0)
      ∧ m' ((c.tc : Thread Cert.ModRefIdeal.nD Cert.ModRefIdeal.τ).loc Cert.ModRefIdeal.main_arg1) = m ((c.tc : Thread Cert.ModIdeal.nD Cert.ModIdeal.τ).loc Cert.ModIdeal.main_arg1)
      ∧ m' ((c.tc : Thread Cert.ModRefIdeal.nD Cert.ModRefIdeal.τ).loc Cert.ModRefIdeal.main_arg2) = m ((c.tc : Thread Cert.ModIdeal.nD Cert.ModIdeal.τ).loc Cert.ModIdeal.main_arg2)) →
    ∃ (v0 : (c : Dev Cert.ModIdeal.nD) → Buf (Elt Ideal) ((c.tc : Thread Cert.ModIdeal.nD Cert.ModIdeal.τ).loc Cert.ModIdeal.main_v1)),
      θ_run (Cert.ModIdeal.defs (F := Ideal)) (onTc (τ := Cert.ModIdeal.τ) (Cert.ModIdeal.main (F := Ideal))) ⟨m, fun _ => 0, g⟩ (fun r => ∀ c : Dev Cert.ModIdeal.nD,
          r.2.mem ((c.tc : Thread Cert.ModIdeal.nD Cert.ModIdeal.τ).loc Cert.ModIdeal.main_v1) = v0 c
          ∧ r.2.mem ((c.tc : Thread Cert.ModIdeal.nD Cert.ModIdeal.τ).loc Cert.ModIdeal.main_arg0) = m ((c.tc : Thread Cert.ModIdeal.nD Cert.ModIdeal.τ).loc Cert.ModIdeal.main_arg0)
          ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
          ∧ r.2.mem ((c.tc : Thread Cert.ModIdeal.nD Cert.ModIdeal.τ).loc Cert.ModIdeal.main_arg2) = m ((c.tc : Thread Cert.ModIdeal.nD Cert.ModIdeal.τ).loc Cert.ModIdeal.main_arg2))
      ∧ θ_run (Cert.ModRefIdeal.defs (F := Ideal)) (onTc (τ := Cert.ModRefIdeal.τ) (Cert.ModRefIdeal.main (F := Ideal))) ⟨m', fun _ => 0, g'⟩ (fun r => ∀ c : Dev Cert.ModRefIdeal.nD,
          r.2.mem ((c.tc : Thread Cert.ModRefIdeal.nD Cert.ModRefIdeal.τ).loc Cert.ModRefIdeal.main_v5) = v0 c
          ∧ r.2.mem ((c.tc : Thread Cert.ModRefIdeal.nD Cert.ModRefIdeal.τ).loc Cert.ModRefIdeal.main_arg0) = m' ((c.tc : Thread Cert.ModRefIdeal.nD Cert.ModRefIdeal.τ).loc Cert.ModRefIdeal.main_arg0)
          ∧ r.2.mem ((c.tc : Thread Cert.ModRefIdeal.nD Cert.ModRefIdeal.τ).loc Cert.ModRefIdeal.main_arg1) = m' ((c.tc : Thread Cert.ModRefIdeal.nD Cert.ModRefIdeal.τ).loc Cert.ModRefIdeal.main_arg1)
          ∧ r.2.mem ((c.tc : Thread Cert.ModRefIdeal.nD Cert.ModRefIdeal.τ).loc Cert.ModRefIdeal.main_arg2) = m' ((c.tc : Thread Cert.ModRefIdeal.nD Cert.ModRefIdeal.τ).loc Cert.ModRefIdeal.main_arg2))

def preserves_Wada_WadaIdeal : Prop :=
  True

def algebraic_WadaIdeal_WadaRefIdeal [hWadaIdeal : Cert.WadaIdeal.Facts] [hWadaRefIdeal : Cert.WadaRefIdeal.Facts] : Prop :=
  ∀ (m : (ℓ : Loc Cert.WadaIdeal.nD Cert.WadaIdeal.τ Cert.WadaIdeal.sig) → Buf (Elt Ideal) ℓ) (g : Dev Cert.WadaIdeal.nD → PrngReg)
    (m' : (ℓ : Loc Cert.WadaRefIdeal.nD Cert.WadaRefIdeal.τ Cert.WadaRefIdeal.sig) → Buf (Elt Ideal) ℓ) (g' : Dev Cert.WadaRefIdeal.nD → PrngReg), Pre_WadaIdeal m →
    (∀ c : Dev Cert.WadaIdeal.nD,
      m' ((c.tc : Thread Cert.WadaRefIdeal.nD Cert.WadaRefIdeal.τ).loc Cert.WadaRefIdeal.main_arg0) = m ((c.tc : Thread Cert.WadaIdeal.nD Cert.WadaIdeal.τ).loc Cert.WadaIdeal.main_arg0)
      ∧ m' ((c.tc : Thread Cert.WadaRefIdeal.nD Cert.WadaRefIdeal.τ).loc Cert.WadaRefIdeal.main_arg1) = m ((c.tc : Thread Cert.WadaIdeal.nD Cert.WadaIdeal.τ).loc Cert.WadaIdeal.main_arg1)) →
    ∃ (v0 : (c : Dev Cert.WadaIdeal.nD) → Buf (Elt Ideal) ((c.tc : Thread Cert.WadaIdeal.nD Cert.WadaIdeal.τ).loc Cert.WadaIdeal.main_v1)),
      θ_run (Cert.WadaIdeal.defs (F := Ideal)) (onTc (τ := Cert.WadaIdeal.τ) (Cert.WadaIdeal.main (F := Ideal))) ⟨m, fun _ => 0, g⟩ (fun r => ∀ c : Dev Cert.WadaIdeal.nD,
          r.2.mem ((c.tc : Thread Cert.WadaIdeal.nD Cert.WadaIdeal.τ).loc Cert.WadaIdeal.main_v1) = v0 c
          ∧ r.2.mem ((c.tc : Thread Cert.WadaIdeal.nD Cert.WadaIdeal.τ).loc Cert.WadaIdeal.main_arg0) = m ((c.tc : Thread Cert.WadaIdeal.nD Cert.WadaIdeal.τ).loc Cert.WadaIdeal.main_arg0)
          ∧ r.2.mem ((c.tc : Thread Cert.WadaIdeal.nD Cert.WadaIdeal.τ).loc Cert.WadaIdeal.main_arg1) = m ((c.tc : Thread Cert.WadaIdeal.nD Cert.WadaIdeal.τ).loc Cert.WadaIdeal.main_arg1))
      ∧ θ_run (Cert.WadaRefIdeal.defs (F := Ideal)) (onTc (τ := Cert.WadaRefIdeal.τ) (Cert.WadaRefIdeal.main (F := Ideal))) ⟨m', fun _ => 0, g'⟩ (fun r => ∀ c : Dev Cert.WadaRefIdeal.nD,
          r.2.mem ((c.tc : Thread Cert.WadaRefIdeal.nD Cert.WadaRefIdeal.τ).loc Cert.WadaRefIdeal.main_v0) = v0 c
          ∧ r.2.mem ((c.tc : Thread Cert.WadaRefIdeal.nD Cert.WadaRefIdeal.τ).loc Cert.WadaRefIdeal.main_arg0) = m' ((c.tc : Thread Cert.WadaRefIdeal.nD Cert.WadaRefIdeal.τ).loc Cert.WadaRefIdeal.main_arg0)
          ∧ r.2.mem ((c.tc : Thread Cert.WadaRefIdeal.nD Cert.WadaRefIdeal.τ).loc Cert.WadaRefIdeal.main_arg1) = m' ((c.tc : Thread Cert.WadaRefIdeal.nD Cert.WadaRefIdeal.τ).loc Cert.WadaRefIdeal.main_arg1))

def preserves_Cfwd_CfwdIdeal : Prop :=
  True

def Claim : Prop :=
  ∃ (hDh : Cert.Dh.Facts) (hDhIdeal : Cert.DhIdeal.Facts) (hDhRefIdeal : Cert.DhRefIdeal.Facts) (hRet : Cert.Ret.Facts) (hRetIdeal : Cert.RetIdeal.Facts) (hRetRefIdeal : Cert.RetRefIdeal.Facts) (hHead : Cert.Head.Facts) (hHeadIdeal : Cert.HeadIdeal.Facts) (hHeadRefIdeal : Cert.HeadRefIdeal.Facts) (hConv : Cert.Conv.Facts) (hConvIdeal : Cert.ConvIdeal.Facts) (hConvRefIdeal : Cert.ConvRefIdeal.Facts) (hDwr : Cert.Dwr.Facts) (hDwrIdeal : Cert.DwrIdeal.Facts) (hDwrRefIdeal : Cert.DwrRefIdeal.Facts) (hRope : Cert.Rope.Facts) (hRopeIdeal : Cert.RopeIdeal.Facts) (hRopeRefIdeal : Cert.RopeRefIdeal.Facts) (hDw : Cert.Dw.Facts) (hDwIdeal : Cert.DwIdeal.Facts) (hDwRefIdeal : Cert.DwRefIdeal.Facts) (hAdam : Cert.Adam.Facts) (hAdamIdeal : Cert.AdamIdeal.Facts) (hAdamRefIdeal : Cert.AdamRefIdeal.Facts) (hStep : Cert.Step.Facts) (hStepIdeal : Cert.StepIdeal.Facts) (hStepRefIdeal : Cert.StepRefIdeal.Facts) (hSum : Cert.Sum.Facts) (hSumIdeal : Cert.SumIdeal.Facts) (hSumRefIdeal : Cert.SumRefIdeal.Facts) (hMod : Cert.Mod.Facts) (hModIdeal : Cert.ModIdeal.Facts) (hModRefIdeal : Cert.ModRefIdeal.Facts) (hWada : Cert.Wada.Facts) (hWadaIdeal : Cert.WadaIdeal.Facts) (hWadaRefIdeal : Cert.WadaRefIdeal.Facts) (hCfwd : Cert.Cfwd.Facts) (hCfwdIdeal : Cert.CfwdIdeal.Facts) (hPre_dh_finite : Cert.Pre_dh_finite.Facts) (hPre_ret_finite : Cert.Pre_ret_finite.Facts) (hPre_head_finite : Cert.Pre_head_finite.Facts) (hPre_conv_finite : Cert.Pre_conv_finite.Facts),
    quiescent_Dh (hDh := hDh)
    ∧ quiescent_DhIdeal (hDhIdeal := hDhIdeal)
    ∧ quiescent_DhIdeal_pre_dh_finite (hDhIdeal := hDhIdeal) (hPre_dh_finite := hPre_dh_finite)
    ∧ quiescent_DhRefIdeal (hDhRefIdeal := hDhRefIdeal)
    ∧ quiescent_DhRefIdeal_pre_dh_finite (hDhRefIdeal := hDhRefIdeal) (hPre_dh_finite := hPre_dh_finite)
    ∧ quiescent_Ret (hRet := hRet)
    ∧ quiescent_RetIdeal (hRetIdeal := hRetIdeal)
    ∧ quiescent_RetIdeal_pre_ret_finite (hRetIdeal := hRetIdeal) (hPre_ret_finite := hPre_ret_finite)
    ∧ quiescent_RetRefIdeal (hRetRefIdeal := hRetRefIdeal)
    ∧ quiescent_RetRefIdeal_pre_ret_finite (hRetRefIdeal := hRetRefIdeal) (hPre_ret_finite := hPre_ret_finite)
    ∧ quiescent_Head (hHead := hHead)
    ∧ quiescent_HeadIdeal (hHeadIdeal := hHeadIdeal)
    ∧ quiescent_HeadIdeal_pre_head_finite (hHeadIdeal := hHeadIdeal) (hPre_head_finite := hPre_head_finite)
    ∧ quiescent_HeadRefIdeal (hHeadRefIdeal := hHeadRefIdeal)
    ∧ quiescent_HeadRefIdeal_pre_head_finite (hHeadRefIdeal := hHeadRefIdeal) (hPre_head_finite := hPre_head_finite)
    ∧ quiescent_Conv (hConv := hConv)
    ∧ quiescent_ConvIdeal (hConvIdeal := hConvIdeal)
    ∧ quiescent_ConvIdeal_pre_conv_finite (hConvIdeal := hConvIdeal) (hPre_conv_finite := hPre_conv_finite)
    ∧ quiescent_ConvRefIdeal (hConvRefIdeal := hConvRefIdeal)
    ∧ quiescent_ConvRefIdeal_pre_conv_finite (hConvRefIdeal := hConvRefIdeal) (hPre_conv_finite := hPre_conv_finite)
    ∧ quiescent_Dwr (hDwr := hDwr)
    ∧ quiescent_DwrIdeal (hDwrIdeal := hDwrIdeal)
    ∧ quiescent_DwrRefIdeal (hDwrRefIdeal := hDwrRefIdeal)
    ∧ quiescent_Rope (hRope := hRope)
    ∧ quiescent_RopeIdeal (hRopeIdeal := hRopeIdeal)
    ∧ quiescent_RopeRefIdeal (hRopeRefIdeal := hRopeRefIdeal)
    ∧ quiescent_Dw (hDw := hDw)
    ∧ quiescent_DwIdeal (hDwIdeal := hDwIdeal)
    ∧ quiescent_DwRefIdeal (hDwRefIdeal := hDwRefIdeal)
    ∧ quiescent_Adam (hAdam := hAdam)
    ∧ quiescent_AdamIdeal (hAdamIdeal := hAdamIdeal)
    ∧ quiescent_AdamRefIdeal (hAdamRefIdeal := hAdamRefIdeal)
    ∧ quiescent_Step (hStep := hStep)
    ∧ quiescent_StepIdeal (hStepIdeal := hStepIdeal)
    ∧ quiescent_StepRefIdeal (hStepRefIdeal := hStepRefIdeal)
    ∧ quiescent_Sum (hSum := hSum)
    ∧ quiescent_SumIdeal (hSumIdeal := hSumIdeal)
    ∧ quiescent_SumRefIdeal (hSumRefIdeal := hSumRefIdeal)
    ∧ quiescent_Mod (hMod := hMod)
    ∧ quiescent_ModIdeal (hModIdeal := hModIdeal)
    ∧ quiescent_ModRefIdeal (hModRefIdeal := hModRefIdeal)
    ∧ quiescent_Wada (hWada := hWada)
    ∧ quiescent_WadaIdeal (hWadaIdeal := hWadaIdeal)
    ∧ quiescent_WadaRefIdeal (hWadaRefIdeal := hWadaRefIdeal)
    ∧ quiescent_Cfwd (hCfwd := hCfwd)
    ∧ quiescent_CfwdIdeal (hCfwdIdeal := hCfwdIdeal)
    ∧ preserves_Dh_DhIdeal
    ∧ algebraic_DhIdeal_DhRefIdeal_pre_dh_finite (hDhIdeal := hDhIdeal) (hDhRefIdeal := hDhRefIdeal) (hPre_dh_finite := hPre_dh_finite)
    ∧ preserves_Ret_RetIdeal
    ∧ algebraic_RetIdeal_RetRefIdeal_pre_ret_finite (hRetIdeal := hRetIdeal) (hRetRefIdeal := hRetRefIdeal) (hPre_ret_finite := hPre_ret_finite)
    ∧ preserves_Head_HeadIdeal
    ∧ algebraic_HeadIdeal_HeadRefIdeal_pre_head_finite (hHeadIdeal := hHeadIdeal) (hHeadRefIdeal := hHeadRefIdeal) (hPre_head_finite := hPre_head_finite)
    ∧ preserves_Conv_ConvIdeal
    ∧ algebraic_ConvIdeal_ConvRefIdeal_pre_conv_finite (hConvIdeal := hConvIdeal) (hConvRefIdeal := hConvRefIdeal) (hPre_conv_finite := hPre_conv_finite)
    ∧ preserves_Dwr_DwrIdeal
    ∧ algebraic_DwrIdeal_DwrRefIdeal (hDwrIdeal := hDwrIdeal) (hDwrRefIdeal := hDwrRefIdeal)
    ∧ preserves_Rope_RopeIdeal
    ∧ algebraic_RopeIdeal_RopeRefIdeal (hRopeIdeal := hRopeIdeal) (hRopeRefIdeal := hRopeRefIdeal)
    ∧ preserves_Dw_DwIdeal
    ∧ algebraic_DwIdeal_DwRefIdeal (hDwIdeal := hDwIdeal) (hDwRefIdeal := hDwRefIdeal)
    ∧ preserves_Adam_AdamIdeal
    ∧ algebraic_AdamIdeal_AdamRefIdeal (hAdamIdeal := hAdamIdeal) (hAdamRefIdeal := hAdamRefIdeal)
    ∧ preserves_Step_StepIdeal
    ∧ algebraic_StepIdeal_StepRefIdeal (hStepIdeal := hStepIdeal) (hStepRefIdeal := hStepRefIdeal)
    ∧ preserves_Sum_SumIdeal
    ∧ algebraic_SumIdeal_SumRefIdeal (hSumIdeal := hSumIdeal) (hSumRefIdeal := hSumRefIdeal)
    ∧ preserves_Mod_ModIdeal
    ∧ algebraic_ModIdeal_ModRefIdeal (hModIdeal := hModIdeal) (hModRefIdeal := hModRefIdeal)
    ∧ preserves_Wada_WadaIdeal
    ∧ algebraic_WadaIdeal_WadaRefIdeal (hWadaIdeal := hWadaIdeal) (hWadaRefIdeal := hWadaRefIdeal)
    ∧ preserves_Cfwd_CfwdIdeal
-- ==== Pre_conv_finite.lean ====
abbrev S1x8192x11264 : Shape := ⟨3, ![1, 8192, 11264]⟩
abbrev S1x31x1024 : Shape := ⟨3, ![1, 31, 1024]⟩
abbrev S1x1024 : Shape := ⟨2, ![1, 1024]⟩
abbrev S1x8192x1024 : Shape := ⟨3, ![1, 8192, 1024]⟩
abbrev S1x8192x3072 : Shape := ⟨3, ![1, 8192, 3072]⟩
abbrev S_ : Shape := ⟨0, ![]⟩

class Facts : Prop where
  slices_S1x8192x11264_S1x8192x3072_0_0_6144 : S1x8192x11264.Slices ![0, 0, 6144] S1x8192x3072
  bcast_S_S1x8192x3072 : S_.BroadcastsInDim S1x8192x3072 (![] : Fin 0 → Fin S1x8192x3072.rank)
  bcast_S_S1x31x1024 : S_.BroadcastsInDim S1x31x1024 (![] : Fin 0 → Fin S1x31x1024.rank)
  bcast_S_S1x1024 : S_.BroadcastsInDim S1x1024 (![] : Fin 0 → Fin S1x1024.rank)
  bcast_S_S1x8192x1024 : S_.BroadcastsInDim S1x8192x1024 (![] : Fin 0 → Fin S1x8192x1024.rank)

variable [Facts]

def fn_part1 {F : FTy → Type} [FloatOps F] (main_v3 : IVec S1x8192x3072 1) (main_v6 : IVec S1x31x1024 1) (main_v9 : IVec S1x1024 1) (main_v12 : IVec S1x1024 1) (main_v15 : IVec S1x1024 1) (main_v16 : FVec F S1x8192x1024 .f32) (main_v17 : FVec F S1x8192x1024 .f32) : IVec S1x8192x3072 1 × IVec S1x31x1024 1 × IVec S1x1024 1 × IVec S1x1024 1 × IVec S1x1024 1 × IVec S1x8192x1024 1 :=
  let main_v18 : IVec S1x8192x1024 1 := cmpf .olt main_v16 main_v17
  (main_v3, main_v6, main_v9, main_v12, main_v15, main_v18)

def fn {F : FTy → Type} [FloatOps F] (main_arg0 : FVec F S1x8192x11264 .f32) (main_arg1 : FVec F S1x31x1024 .f32) (main_arg2 : FVec F S1x1024 .f32) (main_arg3 : FVec F S1x1024 .f32) (main_arg4 : FVec F S1x1024 .f32) (main_arg5 : FVec F S1x8192x1024 .f32) : IVec S1x8192x3072 1 × IVec S1x31x1024 1 × IVec S1x1024 1 × IVec S1x1024 1 × IVec S1x1024 1 × IVec S1x8192x1024 1 :=
  let main_v0 : FVec F S1x8192x3072 .f32 := (extractStridedSlice S1x8192x3072 ![0, 0, 6144] · slices_S1x8192x11264_S1x8192x3072_0_0_6144) main_arg0
  let main_v1 : FVec F S1x8192x3072 .f32 := Host.absf main_v0
  let main_cst : FVec F S_ .f32 := constant S_ .f32 0x7F800000#32
  let main_v2 : FVec F S1x8192x3072 .f32 := broadcastInDim S1x8192x3072 ![] bcast_S_S1x8192x3072 main_cst
  let main_v3 : IVec S1x8192x3072 1 := cmpf .olt main_v1 main_v2
  let main_v4 : FVec F S1x31x1024 .f32 := Host.absf main_arg1
  let main_cst_0 : FVec F S_ .f32 := constant S_ .f32 0x7F800000#32
  let main_v5 : FVec F S1x31x1024 .f32 := broadcastInDim S1x31x1024 ![] bcast_S_S1x31x1024 main_cst_0
  let main_v6 : IVec S1x31x1024 1 := cmpf .olt main_v4 main_v5
  let main_v7 : FVec F S1x1024 .f32 := Host.absf main_arg2
  let main_cst_1 : FVec F S_ .f32 := constant S_ .f32 0x7F800000#32
  let main_v8 : FVec F S1x1024 .f32 := broadcastInDim S1x1024 ![] bcast_S_S1x1024 main_cst_1
  let main_v9 : IVec S1x1024 1 := cmpf .olt main_v7 main_v8
  let main_v10 : FVec F S1x1024 .f32 := Host.absf main_arg3
  let main_cst_2 : FVec F S_ .f32 := constant S_ .f32 0x7F800000#32
  let main_v11 : FVec F S1x1024 .f32 := broadcastInDim S1x1024 ![] bcast_S_S1x1024 main_cst_2
  let main_v12 : IVec S1x1024 1 := cmpf .olt main_v10 main_v11
  let main_v13 : FVec F S1x1024 .f32 := Host.absf main_arg4
  let main_cst_3 : FVec F S_ .f32 := constant S_ .f32 0x7F800000#32
  let main_v14 : FVec F S1x1024 .f32 := broadcastInDim S1x1024 ![] bcast_S_S1x1024 main_cst_3
  let main_v15 : IVec S1x1024 1 := cmpf .olt main_v13 main_v14
  let main_v16 : FVec F S1x8192x1024 .f32 := Host.absf main_arg5
  let main_cst_4 : FVec F S_ .f32 := constant S_ .f32 0x7F800000#32
  let main_v17 : FVec F S1x8192x1024 .f32 := broadcastInDim S1x8192x1024 ![] bcast_S_S1x8192x1024 main_cst_4
  fn_part1 (F := F) main_v3 main_v6 main_v9 main_v12 main_v15 main_v16 main_v17
-- ==== Pre_dh_finite.lean ====
abbrev S1x8192x1024 : Shape := ⟨3, ![1, 8192, 1024]⟩
abbrev S1x1024 : Shape := ⟨2, ![1, 1024]⟩
abbrev S1x1024x11264 : Shape := ⟨3, ![1, 1024, 11264]⟩
abbrev S1x8192x11264 : Shape := ⟨3, ![1, 8192, 11264]⟩
abbrev S_ : Shape := ⟨0, ![]⟩

class Facts : Prop where
  bcast_S_S1x8192x1024 : S_.BroadcastsInDim S1x8192x1024 (![] : Fin 0 → Fin S1x8192x1024.rank)
  bcast_S_S1x1024 : S_.BroadcastsInDim S1x1024 (![] : Fin 0 → Fin S1x1024.rank)
  bcast_S_S1x1024x11264 : S_.BroadcastsInDim S1x1024x11264 (![] : Fin 0 → Fin S1x1024x11264.rank)
  bcast_S_S1x8192x11264 : S_.BroadcastsInDim S1x8192x11264 (![] : Fin 0 → Fin S1x8192x11264.rank)

variable [Facts]

def fn {F : FTy → Type} [FloatOps F] (main_arg0 : FVec F S1x8192x1024 .f32) (main_arg1 : FVec F S1x1024 .f32) (main_arg2 : FVec F S1x1024 .f32) (main_arg3 : FVec F S1x1024 .f32) (main_arg4 : FVec F S1x1024x11264 .f32) (main_arg5 : FVec F S1x8192x11264 .f32) (main_arg6 : FVec F S1x8192x1024 .f32) : IVec S1x8192x1024 1 × IVec S1x1024 1 × IVec S1x1024 1 × IVec S1x1024x11264 1 × IVec S1x8192x11264 1 :=
  let main_v0 : FVec F S1x8192x1024 .f32 := Host.absf main_arg0
  let main_cst : FVec F S_ .f32 := constant S_ .f32 0x7F800000#32
  let main_v1 : FVec F S1x8192x1024 .f32 := broadcastInDim S1x8192x1024 ![] bcast_S_S1x8192x1024 main_cst
  let main_v2 : IVec S1x8192x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1x1024x11264 .f32 := Host.absf main_arg4
  let main_cst_2 : FVec F S_ .f32 := constant S_ .f32 0x7F800000#32
  let main_v10 : FVec F S1x1024x11264 .f32 := broadcastInDim S1x1024x11264 ![] bcast_S_S1x1024x11264 main_cst_2
  let main_v11 : IVec S1x1024x11264 1 := cmpf .olt main_v9 main_v10
  let main_v12 : FVec F S1x8192x11264 .f32 := Host.absf main_arg5
  let main_cst_3 : FVec F S_ .f32 := constant S_ .f32 0x7F800000#32
  let main_v13 : FVec F S1x8192x11264 .f32 := broadcastInDim S1x8192x11264 ![] bcast_S_S1x8192x11264 main_cst_3
  let main_v14 : IVec S1x8192x11264 1 := cmpf .olt main_v12 main_v13
  (main_v2, main_v5, main_v8, main_v11, main_v14)
-- ==== Pre_head_finite.lean ====
abbrev S1x8192x2048 : Shape := ⟨3, ![1, 8192, 2048]⟩
abbrev S1x8192x1024 : Shape := ⟨3, ![1, 8192, 1024]⟩
abbrev S1x8192x11264 : Shape := ⟨3, ![1, 8192, 11264]⟩
abbrev S1x1024 : Shape := ⟨2, ![1, 1024]⟩
abbrev S1x2048x1024 : Shape := ⟨3, ![1, 2048, 1024]⟩
abbrev S1x1024x1024 : Shape := ⟨3, ![1, 1024, 1024]⟩
abbrev S_ : Shape := ⟨0, ![]⟩

class Facts : Prop where
  slices_S1x8192x11264_S1x8192x2048_0_0_9216 : S1x8192x11264.Slices ![0, 0, 9216] S1x8192x2048
  bcast_S_S1x8192x2048 : S_.BroadcastsInDim S1x8192x2048 (![] : Fin 0 → Fin S1x8192x2048.rank)
  bcast_S_S1x8192x1024 : S_.BroadcastsInDim S1x8192x1024 (![] : Fin 0 → Fin S1x8192x1024.rank)
  bcast_S_S1x1024 : S_.BroadcastsInDim S1x1024 (![] : Fin 0 → Fin S1x1024.rank)
  bcast_S_S1x2048x1024 : S_.BroadcastsInDim S1x2048x1024 (![] : Fin 0 → Fin S1x2048x1024.rank)
  bcast_S_S1x1024x1024 : S_.BroadcastsInDim S1x1024x1024 (![] : Fin 0 → Fin S1x1024x1024.rank)

variable [Facts]

def fn_part1 {F : FTy → Type} [FloatOps F] (main_arg6 : FVec F S1x2048x1024 .f32) (main_arg7 : FVec F S1x1024x1024 .f32) (main_arg8 : FVec F S1x1024x1024 .f32) (main_arg9 : FVec F S1x8192x1024 .f32) (main_v3 : IVec S1x8192x2048 1) (main_v6 : IVec S1x8192x1024 1) (main_v9 : IVec S1x8192x2048 1) (main_v12 : IVec S1x8192x1024 1) (main_v15 : IVec S1x1024 1) (main_v16 : FVec F S1x1024 .f32) (main_v17 : FVec F S1x1024 .f32) : IVec S1x8192x2048 1 × IVec S1x8192x1024 1 × IVec S1x8192x2048 1 × IVec S1x8192x1024 1 × IVec S1x1024 1 × IVec S1x1024 1 × IVec S1x2048x1024 1 × IVec S1x1024x1024 1 × IVec S1x1024x1024 1 × IVec S1x8192x1024 1 :=
  let main_v18 : IVec S1x1024 1 := cmpf .olt main_v16 main_v17
  let main_v19 : FVec F S1x2048x1024 .f32 := Host.absf main_arg6
  let main_cst_5 : FVec F S_ .f32 := constant S_ .f32 0x7F800000#32
  let main_v20 : FVec F S1x2048x1024 .f32 := broadcastInDim S1x2048x1024 ![] bcast_S_S1x2048x1024 main_cst_5
  let main_v21 : IVec S1x2048x1024 1 := cmpf .olt main_v19 main_v20
  let main_v22 : FVec F S1x1024x1024 .f32 := Host.absf main_arg7
  let main_cst_6 : FVec F S_ .f32 := constant S_ .f32 0x7F800000#32
  let main_v23 : FVec F S1x1024x1024 .f32 := broadcastInDim S1x1024x1024 ![] bcast_S_S1x1024x1024 main_cst_6
  let main_v24 : IVec S1x1024x1024 1 := cmpf .olt main_v22 main_v23
  let main_v25 : FVec F S1x1024x1024 .f32 := Host.absf main_arg8
  let main_cst_7 : FVec F S_ .f32 := constant S_ .f32 0x7F800000#32
  let main_v26 : FVec F S1x1024x1024 .f32 := broadcastInDim S1x1024x1024 ![] bcast_S_S1x1024x1024 main_cst_7
  let main_v27 : IVec S1x1024x1024 1 := cmpf .olt main_v25 main_v26
  let main_v28 : FVec F S1x8192x1024 .f32 := Host.absf main_arg9
  let main_cst_8 : FVec F S_ .f32 := constant S_ .f32 0x7F800000#32
  let main_v29 : FVec F S1x8192x1024 .f32 := broadcastInDim S1x8192x1024 ![] bcast_S_S1x8192x1024 main_cst_8
  let main_v30 : IVec S1x8192x1024 1 := cmpf .olt main_v28 main_v29
  (main_v3, main_v6, main_v9, main_v12, main_v15, main_v18, main_v21, main_v24, main_v27, main_v30)

def fn {F : FTy → Type} [FloatOps F] (main_arg0 : FVec F S1x8192x2048 .f32) (main_arg1 : FVec F S1x8192x1024 .f32) (main_arg2 : FVec F S1x8192x11264 .f32) (main_arg3 : FVec F S1x8192x1024 .f32) (main_arg4 : FVec F S1x1024 .f32) (main_arg5 : FVec F S1x1024 .f32) (main_arg6 : FVec F S1x2048x1024 .f32) (main_arg7 : FVec F S1x1024x1024 .f32) (main_arg8 : FVec F S1x1024x1024 .f32) (main_arg9 : FVec F S1x8192x1024 .f32) : IVec S1x8192x2048 1 × IVec S1x8192x1024 1 × IVec S1x8192x2048 1 × IVec S1x8192x1024 1 × IVec S1x1024 1 × IVec S1x1024 1 × IVec S1x2048x1024 1 × IVec S1x1024x1024 1 × IVec S1x1024x1024 1 × IVec S1x8192x1024 1 :=
  let main_v0 : FVec F S1x8192x2048 .f32 := (extractStridedSlice S1x8192x2048 ![0, 0, 9216] · slices_S1x8192x11264_S1x8192x2048_0_0_9216) main_arg2
  let main_v1 : FVec F S1x8192x2048 .f32 := Host.absf main_arg0
  let main_cst : FVec F S_ .f32 := constant S_ .f32 0x7F800000#32
  let main_v2 : FVec F S1x8192x2048 .f32 := broadcastInDim S1x8192x2048 ![] bcast_S_S1x8192x2048 main_cst
  let main_v3 : IVec S1x8192x2048 1 := cmpf .olt main_v1 main_v2
  let main_v4 : FVec F S1x8192x1024 .f32 := Host.absf main_arg1
  let main_cst_0 : FVec F S_ .f32 := constant S_ .f32 0x7F800000#32
  let main_v5 : FVec F S1x8192x1024 .f32 := broadcastInDim S1x8192x1024 ![] bcast_S_S1x8192x1024 main_cst_0
  let main_v6 : IVec S1x8192x1024 1 := cmpf .olt main_v4 main_v5
  let main_v7 : FVec F S1x8192x2048 .f32 := Host.absf main_v0
  let main_cst_1 : FVec F S_ .f32 := constant S_ .f32 0x7F800000#32
  let main_v8 : FVec F S1x8192x2048 .f32 := broadcastInDim S1x8192x2048 ![] bcast_S_S1x8192x2048 main_cst_1
  let main_v9 : IVec S1x8192x2048 1 := cmpf .olt main_v7 main_v8
  let main_v10 : FVec F S1x8192x1024 .f32 := Host.absf main_arg3
  let main_cst_2 : FVec F S_ .f32 := constant S_ .f32 0x7F800000#32
  let main_v11 : FVec F S1x8192x1024 .f32 := broadcastInDim S1x8192x1024 ![] bcast_S_S1x8192x1024 main_cst_2
  let main_v12 : IVec S1x8192x1024 1 := cmpf .olt main_v10 main_v11
  let main_v13 : FVec F S1x1024 .f32 := Host.absf main_arg4
  let main_cst_3 : FVec F S_ .f32 := constant S_ .f32 0x7F800000#32
  let main_v14 : FVec F S1x1024 .f32 := broadcastInDim S1x1024 ![] bcast_S_S1x1024 main_cst_3
  let main_v15 : IVec S1x1024 1 := cmpf .olt main_v13 main_v14
  let main_v16 : FVec F S1x1024 .f32 := Host.absf main_arg5
  let main_cst_4 : FVec F S_ .f32 := constant S_ .f32 0x7F800000#32
  let main_v17 : FVec F S1x1024 .f32 := broadcastInDim S1x1024 ![] bcast_S_S1x1024 main_cst_4
  fn_part1 (F := F) main_arg6 main_arg7 main_arg8 main_arg9 main_v3 main_v6 main_v9 main_v12 main_v15 main_v16 main_v17
-- ==== Pre_ret_finite.lean ====
abbrev S1x8192x11264 : Shape := ⟨3, ![1, 8192, 11264]⟩
abbrev S1x8192 : Shape := ⟨2, ![1, 8192]⟩
abbrev S1x8192x2048 : Shape := ⟨3, ![1, 8192, 2048]⟩
abbrev S1x8192x6144 : Shape := ⟨3, ![1, 8192, 6144]⟩
abbrev S_ : Shape := ⟨0, ![]⟩

class Facts : Prop where
  slices_S1x8192x11264_S1x8192x6144_0_0_0 : S1x8192x11264.Slices ![0, 0, 0] S1x8192x6144
  bcast_S_S1x8192x6144 : S_.BroadcastsInDim S1x8192x6144 (![] : Fin 0 → Fin S1x8192x6144.rank)
  bcast_S_S1x8192x2048 : S_.BroadcastsInDim S1x8192x2048 (![] : Fin 0 → Fin S1x8192x2048.rank)

variable [Facts]

def fn {F : FTy → Type} [FloatOps F] (main_arg0 : FVec F S1x8192x11264 .f32) (main_arg1 : IVec S1x8192 32) (main_arg2 : FVec F S1x8192x2048 .f32) : IVec S1x8192x6144 1 × IVec S1x8192x2048 1 :=
  let main_v0 : FVec F S1x8192x6144 .f32 := (extractStridedSlice S1x8192x6144 ![0, 0, 0] · slices_S1x8192x11264_S1x8192x6144_0_0_0) main_arg0
  let main_v1 : FVec F S1x8192x6144 .f32 := Host.absf main_v0
  let main_cst : FVec F S_ .f32 := constant S_ .f32 0x7F800000#32
  let main_v2 : FVec F S1x8192x6144 .f32 := broadcastInDim S1x8192x6144 ![] bcast_S_S1x8192x6144 main_cst
  let main_v3 : IVec S1x8192x6144 1 := cmpf .olt main_v1 main_v2
  let main_v4 : FVec F S1x8192x2048 .f32 := Host.absf main_arg2
  let main_cst_0 : FVec F S_ .f32 := constant S_ .f32 0x7F800000#32
  let main_v5 : FVec F S1x8192x2048 .f32 := broadcastInDim S1x8192x2048 ![] bcast_S_S1x8192x2048 main_cst_0
  let main_v6 : IVec S1x8192x2048 1 := cmpf .olt main_v4 main_v5
  (main_v3, main_v6)
-- ==== Dh.lean ====
abbrev S1x8192x1024 : Shape := ⟨3, ![1, 8192, 1024]⟩
abbrev S1x1024 : Shape := ⟨2, ![1, 1024]⟩
abbrev S1x1024x11264 : Shape := ⟨3, ![1, 1024, 11264]⟩
abbrev S1x8192x11264 : Shape := ⟨3, ![1, 8192, 11264]⟩
abbrev S8192x11264 : Shape := ⟨2, ![8192, 11264]⟩
abbrev S8192x256 : Shape := ⟨2, ![8192, 256]⟩
abbrev S8192x512 : Shape := ⟨2, ![8192, 512]⟩
abbrev S8192x6144 : Shape := ⟨2, ![8192, 6144]⟩
abbrev S8192x3072 : Shape := ⟨2, ![8192, 3072]⟩
abbrev S8192x2048 : Shape := ⟨2, ![8192, 2048]⟩
abbrev S1024x11264 : Shape := ⟨2, ![1024, 11264]⟩
abbrev S8192x1024 : Shape := ⟨2, ![8192, 1024]⟩
abbrev S8x1024 : Shape := ⟨2, ![8, 1024]⟩
abbrev S256x6144 : Shape := ⟨2, ![256, 6144]⟩
abbrev S256x3072 : Shape := ⟨2, ![256, 3072]⟩
abbrev S256x2048 : Shape := ⟨2, ![256, 2048]⟩
abbrev S256x1024 : Shape := ⟨2, ![256, 1024]⟩
abbrev S1024x3072 : Shape := ⟨2, ![1024, 3072]⟩
abbrev S1024x2048 : Shape := ⟨2, ![1024, 2048]⟩
abbrev S256x256 : Shape := ⟨2, ![256, 256]⟩
abbrev S1024x256 : Shape := ⟨2, ![1024, 256]⟩
abbrev S256x512 : Shape := ⟨2, ![256, 512]⟩
abbrev S1024x512 : Shape := ⟨2, ![1024, 512]⟩
abbrev S256 : Shape := ⟨1, ![256]⟩
abbrev S256x1 : Shape := ⟨2, ![256, 1]⟩
abbrev S1024 : Shape := ⟨1, ![1024]⟩

abbrev nBuf : Space → Nat
  | .hbm => 34
  | .vmem => 16
  | .smem => 0
  | _ => 0

abbrev bufTy : (tb : Table) → Fin (tcTables nBuf tb) → BufTy
  | .hbm, ⟨0, _⟩ => ⟨S1x8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024x11264, .f32⟩
  | .hbm, ⟨5, _⟩ => ⟨S1x8192x11264, .f32⟩
  | .hbm, ⟨6, _⟩ => ⟨S1x8192x1024, .f32⟩
  | .hbm, ⟨7, _⟩ => ⟨S8192x11264, .f32⟩
  | .hbm, ⟨8, _⟩ => ⟨S8192x11264, .bf16⟩
  | .hbm, ⟨9, _⟩ => ⟨S8192x256, .bf16⟩
  | .hbm, ⟨10, _⟩ => ⟨S8192x256, .bf16⟩
  | .hbm, ⟨11, _⟩ => ⟨S8192x512, .bf16⟩
  | .hbm, ⟨12, _⟩ => ⟨S8192x512, .bf16⟩
  | .hbm, ⟨13, _⟩ => ⟨S8192x256, .bf16⟩
  | .hbm, ⟨14, _⟩ => ⟨S8192x256, .bf16⟩
  | .hbm, ⟨15, _⟩ => ⟨S8192x512, .bf16⟩
  | .hbm, ⟨16, _⟩ => ⟨S8192x512, .bf16⟩
  | .hbm, ⟨17, _⟩ => ⟨S8192x256, .bf16⟩
  | .hbm, ⟨18, _⟩ => ⟨S8192x256, .bf16⟩
  | .hbm, ⟨19, _⟩ => ⟨S8192x512, .bf16⟩
  | .hbm, ⟨20, _⟩ => ⟨S8192x512, .bf16⟩
  | .hbm, ⟨21, _⟩ => ⟨S8192x256, .bf16⟩
  | .hbm, ⟨22, _⟩ => ⟨S8192x256, .bf16⟩
  | .hbm, ⟨23, _⟩ => ⟨S8192x512, .bf16⟩
  | .hbm, ⟨24, _⟩ => ⟨S8192x512, .bf16⟩
  | .hbm, ⟨25, _⟩ => ⟨S8192x6144, .bf16⟩
  | .hbm, ⟨26, _⟩ => ⟨S8192x3072, .bf16⟩
  | .hbm, ⟨27, _⟩ => ⟨S8192x2048, .bf16⟩
  | .hbm, ⟨28, _⟩ => ⟨S1024x11264, .f32⟩
  | .hbm, ⟨29, _⟩ => ⟨S1024x11264, .bf16⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8x1024, .f32⟩
  | .local _ .vmem, ⟨0, _⟩ => ⟨S256x6144, .bf16⟩
  | .local _ .vmem, ⟨1, _⟩ => ⟨S256x6144, .bf16⟩
  | .local _ .vmem, ⟨2, _⟩ => ⟨S256x3072, .bf16⟩
  | .local _ .vmem, ⟨3, _⟩ => ⟨S256x3072, .bf16⟩
  | .local _ .vmem, ⟨4, _⟩ => ⟨S256x2048, .bf16⟩
  | .local _ .vmem, ⟨5, _⟩ => ⟨S256x2048, .bf16⟩
  | .local _ .vmem, ⟨6, _⟩ => ⟨S1024x11264, .bf16⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S1x1024, .f32⟩
  | .local _ .vmem, ⟨12, _⟩ => ⟨S1x1024, .f32⟩
  | .local _ .vmem, ⟨13, _⟩ => ⟨S256x1024, .f32⟩
  | .local _ .vmem, ⟨14, _⟩ => ⟨S256x1024, .f32⟩
  | .local _ .vmem, ⟨15, _⟩ => ⟨S8x1024, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25_0 : Ref sig .tc := ⟨.hbm, 32, rfl⟩
abbrev main_v25_1 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x11264 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== DhRefIdeal.lean ====
abbrev S1x8192x1024 : Shape := ⟨3, ![1, 8192, 1024]⟩
abbrev S1x1024 : Shape := ⟨2, ![1, 1024]⟩
abbrev S1x1024x11264 : Shape := ⟨3, ![1, 1024, 11264]⟩
abbrev S1x8192x11264 : Shape := ⟨3, ![1, 8192, 11264]⟩
abbrev S1024 : Shape := ⟨1, ![1024]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩
abbrev S1024x11264 : Shape := ⟨2, ![1024, 11264]⟩
abbrev S11264x1024 : Shape := ⟨2, ![11264, 1024]⟩
abbrev S8192 : Shape := ⟨1, ![8192]⟩
abbrev S8192x1024 : Shape := ⟨2, ![8192, 1024]⟩
abbrev S5x1024 : Shape := ⟨2, ![5, 1024]⟩
abbrev S8x1024 : Shape := ⟨2, ![8, 1024]⟩

abbrev nBuf : Space → Nat
  | .hbm => 90
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024x11264, .f32⟩
  | .hbm, ⟨5, _⟩ => ⟨S1x8192x11264, .f32⟩
  | .hbm, ⟨6, _⟩ => ⟨S1x8192x1024, .f32⟩
  | .hbm, ⟨7, _⟩ => ⟨S1024, .f32⟩
  | .hbm, ⟨8, _⟩ => ⟨S1x8192x1024, .f32⟩
  | .hbm, ⟨9, _⟩ => ⟨S_, .f32⟩
  | .hbm, ⟨10, _⟩ => ⟨S1x8192, .f32⟩
  | .hbm, ⟨11, _⟩ => ⟨S1x8192x1, .f32⟩
  | .hbm, ⟨12, _⟩ => ⟨S_, .f32⟩
  | .hbm, ⟨13, _⟩ => ⟨S1x8192x1, .f32⟩
  | .hbm, ⟨14, _⟩ => ⟨S1x8192x1, .f32⟩
  | .hbm, ⟨15, _⟩ => ⟨S_, .f32⟩
  | .hbm, ⟨16, _⟩ => ⟨S1x8192x1, .f32⟩
  | .hbm, ⟨17, _⟩ => ⟨S1x8192x1, .f32⟩
  | .hbm, ⟨18, _⟩ => ⟨S1x8192x1, .f32⟩
  | .hbm, ⟨19, _⟩ => ⟨S1x8192x1, .f32⟩
  | .hbm, ⟨20, _⟩ => ⟨S_, .f32⟩
  | .hbm, ⟨21, _⟩ => ⟨S1x8192x1, .f32⟩
  | .hbm, ⟨22, _⟩ => ⟨S1x8192x1, .f32⟩
  | .hbm, ⟨23, _⟩ => ⟨S1x8192x1024, .f32⟩
  | .hbm, ⟨24, _⟩ => ⟨S1x8192x1024, .f32⟩
  | .hbm, ⟨25, _⟩ => ⟨S1x1x1024, .f32⟩
  | .hbm, ⟨26, _⟩ => ⟨S1x8192x1024, .f32⟩
  | .hbm, ⟨27, _⟩ => ⟨S1x8192x1024, .f32⟩
  | .hbm, ⟨28, _⟩ => ⟨S1x1x1024, .f32⟩
  | .hbm, ⟨29, _⟩ => ⟨S_, .f32⟩
  | .hbm, ⟨30, _⟩ => ⟨S1x1x1024, .f32⟩
  | .hbm, ⟨31, _⟩ => ⟨S1x1x1024, .f32⟩
  | .hbm, ⟨32, _⟩ => ⟨S1x8192x1024, .f32⟩
  | .hbm, ⟨33, _⟩ => ⟨S1x8192x1024, .f32⟩
  | .hbm, ⟨34, _⟩ => ⟨S1x1x1024, .f32⟩
  | .hbm, ⟨35, _⟩ => ⟨S1x8192x1024, .f32⟩
  | .hbm, ⟨36, _⟩ => ⟨S1x8192x1024, .f32⟩
  | .hbm, ⟨37, _⟩ => ⟨S1024x11264, .f32⟩
  | .hbm, ⟨38, _⟩ => ⟨S1x8192x11264, .f32⟩
  | .hbm, ⟨39, _⟩ => ⟨S11264x1024, .f32⟩
  | .hbm, ⟨40, _⟩ => ⟨S1024x11264, .f32⟩
  | .hbm, ⟨41, _⟩ => ⟨S1x8192x1024, .f32⟩
  | .hbm, ⟨42, _⟩ => ⟨S1x1024x11264, .f32⟩
  | .hbm, ⟨43, _⟩ => ⟨S_, .f32⟩
  | .hbm, ⟨44, _⟩ => ⟨S1x1024, .f32⟩
  | .hbm, ⟨45, _⟩ => ⟨S1x1x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S1x8192x1024, .f32⟩
  | .hbm, ⟨50, _⟩ => ⟨S_, .f32⟩
  | .hbm, ⟨51, _⟩ => ⟨S1x1024, .f32⟩
  | .hbm, ⟨52, _⟩ => ⟨S1x1x1024, .f32⟩
  | .hbm, ⟨53, _⟩ => ⟨S1x8192x1024, .f32⟩
  | .hbm, ⟨54, _⟩ => ⟨S1x8192x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S1x8192x1024, .f32⟩
  | .hbm, ⟨59, _⟩ => ⟨S_, .f32⟩
  | .hbm, ⟨60, _⟩ => ⟨S1x1024, .f32⟩
  | .hbm, ⟨61, _⟩ => ⟨S1x1x1024, .f32⟩
  | .hbm, ⟨62, _⟩ => ⟨S1x8192x1024, .f32⟩
  | .hbm, ⟨63, _⟩ => ⟨S1x8192x1024, .f32⟩
  | .hbm, ⟨64, _⟩ => ⟨S_, .f32⟩
  | .hbm, ⟨65, _⟩ => ⟨S1024, .f32⟩
  | .hbm, ⟨66, _⟩ => ⟨S1x8192x1024, .f32⟩
  | .hbm, ⟨67, _⟩ => ⟨S_, .f32⟩
  | .hbm, ⟨68, _⟩ => ⟨S1x8192, .f32⟩
  | .hbm, ⟨69, _⟩ => ⟨S1x8192x1, .f32⟩
  | .hbm, ⟨70, _⟩ => ⟨S1x8192x1024, .f32⟩
  | .hbm, ⟨71, _⟩ => ⟨S1x8192x1024, .f32⟩
  | .hbm, ⟨72, _⟩ => ⟨S1x8192x1024, .f32⟩
  | .hbm, ⟨73, _⟩ => ⟨S1x8192x1, .f32⟩
  | .hbm, ⟨74, _⟩ => ⟨S_, .f32⟩
  | .hbm, ⟨75, _⟩ => ⟨S1x8192x1, .f32⟩
  | .hbm, ⟨76, _⟩ => ⟨S1x8192x1, .f32⟩
  | .hbm, ⟨77, _⟩ => ⟨S_, .f32⟩
  | .hbm, ⟨78, _⟩ => ⟨S8192, .f32⟩
  | .hbm, ⟨79, _⟩ => ⟨S1x8192, .f32⟩
  | .hbm, ⟨80, _⟩ => ⟨S1x8192x1024, .f32⟩
  | .hbm, ⟨81, _⟩ => ⟨S1x8192x1024, .f32⟩
  | .hbm, ⟨82, _⟩ => ⟨S1x8192x1024, .f32⟩
  | .hbm, ⟨83, _⟩ => ⟨S1x8192x1024, .f32⟩
  | .hbm, ⟨84, _⟩ => ⟨S1x8192x1024, .f32⟩
  | .hbm, ⟨85, _⟩ => ⟨S1x1024, .f32⟩
  | .hbm, ⟨86, _⟩ => ⟨S8192x1024, .f32⟩
  | .hbm, ⟨87, _⟩ => ⟨S_, .f32⟩
  | .hbm, ⟨88, _⟩ => ⟨S5x1024, .f32⟩
  | .hbm, ⟨89, _⟩ => ⟨S8x1024, .f32⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_4 : Ref sig .tc := ⟨.hbm, 43, rfl⟩
abbrev main_v31 : Ref sig .tc := ⟨.hbm, 44, rfl⟩
abbrev main_v32 : Ref sig .tc := ⟨.hbm, 45, rfl⟩
abbrev main_cst_5 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_6 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_8 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_9 : Ref sig .tc := ⟨.hbm, 64, rfl⟩
abbrev main_v47 : Ref sig .tc := ⟨.hbm, 65, rfl⟩
abbrev main_v48 : Ref sig .tc := ⟨.hbm, 66, rfl⟩
abbrev main_cst_10 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_11 : Ref sig .tc := ⟨.hbm, 74, rfl⟩
abbrev main_v55 : Ref sig .tc := ⟨.hbm, 75, rfl⟩
abbrev main_v56 : Ref sig .tc := ⟨.hbm, 76, rfl⟩
abbrev main_cst_12 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_cst_13 : Ref sig .tc := ⟨.hbm, 87, rfl⟩
abbrev main_v66 : Ref sig .tc := ⟨.hbm, 88, rfl⟩
abbrev main_v67 : Ref sig .tc := ⟨.hbm, 89, rfl⟩

abbrev nD : Nat := 1
abbrev τ : Topo := Topo.v7x

variable {F : FTy → Type} [FloatOps F]
-- ==== Ret.lean ====
abbrev S1x8192x11264 : Shape := ⟨3, ![1, 8192, 11264]⟩
abbrev S1x8192 : Shape := ⟨2, ![1, 8192]⟩
abbrev S1x8192x2048 : Shape := ⟨3, ![1, 8192, 2048]⟩
abbrev S128 : Shape := ⟨1, ![128]⟩
abbrev S_ : Shape := ⟨0, ![]⟩
abbrev S8192 : Shape := ⟨1, ![8192]⟩
abbrev S8192x1 : Shape := ⟨2, ![8192, 1]⟩
abbrev S1x128 : Shape := ⟨2, ![1, 128]⟩
abbrev S8192x128 : Shape := ⟨2, ![8192, 128]⟩
abbrev S4 : Shape := ⟨1, ![4]⟩
abbrev S128x1 : Shape := ⟨2, ![128, 1]⟩
abbrev S128x128 : Shape := ⟨2, ![128, 128]⟩
abbrev S4x1x1 : Shape := ⟨3, ![4, 1, 1]⟩
abbrev S1x128x128 : Shape := ⟨3, ![1, 128, 128]⟩
abbrev S4x128x128 : Shape := ⟨3, ![4, 128, 128]⟩
abbrev S4x1 : Shape := ⟨2, ![4, 1]⟩
abbrev S4x128 : Shape := ⟨2, ![4, 128]⟩
abbrev S4x128x1 : Shape := ⟨3, ![4, 128, 1]⟩
abbrev S4x1x128 : Shape := ⟨3, ![4, 1, 128]⟩
abbrev S8192x11264 : Shape := ⟨2, ![8192, 11264]⟩
abbrev S8192x2048 : Shape := ⟨2, ![8192, 2048]⟩
abbrev S4x64x256x512 : Shape := ⟨4, ![4, 64, 256, 512]⟩
abbrev S8192x3072 : Shape := ⟨2, ![8192, 3072]⟩
abbrev S1024x256 : Shape := ⟨2, ![1024, 256]⟩
abbrev S1024x512 : Shape := ⟨2, ![1024, 512]⟩
abbrev S1024x128 : Shape := ⟨2, ![1024, 128]⟩
abbrev S1x128x1 : Shape := ⟨3, ![1, 128, 1]⟩
abbrev S1x1x128 : Shape := ⟨3, ![1, 1, 128]⟩
abbrev S1x8x256x512 : Shape := ⟨4, ![1, 8, 256, 512]⟩
abbrev S1024x768 : Shape := ⟨2, ![1024, 768]⟩
abbrev S256x512 : Shape := ⟨2, ![256, 512]⟩
abbrev S1x1x1 : Shape := ⟨3, ![1, 1, 1]⟩
abbrev S1x1 : Shape := ⟨2, ![1, 1]⟩
abbrev S128x256 : Shape := ⟨2, ![128, 256]⟩
abbrev S128x512 : Shape := ⟨2, ![128, 512]⟩
abbrev S1x1x256x512 : Shape := ⟨4, ![1, 1, 256, 512]⟩
abbrev S8192x6144 : Shape := ⟨2, ![8192, 6144]⟩
abbrev S1024x1536 : Shape := ⟨2, ![1024, 1536]⟩

abbrev nBuf : Space → Nat
  | .hbm => 88
  | .vmem => 56
  | .smem => 0
  | _ => 0

abbrev bufTy : (tb : Table) → Fin (tcTables nBuf tb) → BufTy
  | .hbm, ⟨0, _⟩ => ⟨S1x8192x11264, .f32⟩
  | .hbm, ⟨1, _⟩ => ⟨S1x8192, .i32⟩
  | .hbm, ⟨2, _⟩ => ⟨S1x8192x2048, .f32⟩
  | .hbm, ⟨3, _⟩ => ⟨S128, .f32⟩
  | .hbm, ⟨4, _⟩ => ⟨S128, .f32⟩
  | .hbm, ⟨5, _⟩ => ⟨S_, .f32⟩
  | .hbm, ⟨6, _⟩ => ⟨S128, .f32⟩
  | .hbm, ⟨7, _⟩ => ⟨S128, .f32⟩
  | .hbm, ⟨8, _⟩ => ⟨S_, .f32⟩
  | .hbm, ⟨9, _⟩ => ⟨S128, .f32⟩
  | .hbm, ⟨10, _⟩ => ⟨S128, .f32⟩
  | .hbm, ⟨11, _⟩ => ⟨S8192, .i32⟩
  | .hbm, ⟨12, _⟩ => ⟨S8192, .f32⟩
  | .hbm, ⟨13, _⟩ => ⟨S8192x1, .f32⟩
  | .hbm, ⟨14, _⟩ => ⟨S1x128, .f32⟩
  | .hbm, ⟨15, _⟩ => ⟨S8192x128, .f32⟩
  | .hbm, ⟨16, _⟩ => ⟨S8192x128, .f32⟩
  | .hbm, ⟨17, _⟩ => ⟨S8192x128, .f32⟩
  | .hbm, ⟨18, _⟩ => ⟨S8192x128, .f32⟩
  | .hbm, ⟨19, _⟩ => ⟨S8192x128, .f32⟩
  | .hbm, ⟨20, _⟩ => ⟨S4, .f32⟩
  | .hbm, ⟨21, _⟩ => ⟨S_, .f32⟩
  | .hbm, ⟨22, _⟩ => ⟨S4, .f32⟩
  | .hbm, ⟨23, _⟩ => ⟨S4, .f32⟩
  | .hbm, ⟨24, _⟩ => ⟨S_, .f32⟩
  | .hbm, ⟨25, _⟩ => ⟨S4, .f32⟩
  | .hbm, ⟨26, _⟩ => ⟨S4, .f32⟩
  | .hbm, ⟨27, _⟩ => ⟨S4, .f32⟩
  | .hbm, ⟨28, _⟩ => ⟨S4, .f32⟩
  | .hbm, ⟨29, _⟩ => ⟨S4, .f32⟩
  | .hbm, ⟨30, _⟩ => ⟨S128, .f32⟩
  | .hbm, ⟨31, _⟩ => ⟨S128x1, .f32⟩
  | .hbm, ⟨32, _⟩ => ⟨S1x128, .f32⟩
  | .hbm, ⟨33, _⟩ => ⟨S128x128, .f32⟩
  | .hbm, ⟨34, _⟩ => ⟨S128x128, .f32⟩
  | .hbm, ⟨35, _⟩ => ⟨S128x128, .f32⟩
  | .hbm, ⟨36, _⟩ => ⟨S_, .f32⟩
  | .hbm, ⟨37, _⟩ => ⟨S128x128, .f32⟩
  | .hbm, ⟨38, _⟩ => ⟨S128x128, .i1⟩
  | .hbm, ⟨39, _⟩ => ⟨S4x1x1, .f32⟩
  | .hbm, ⟨40, _⟩ => ⟨S_, .f32⟩
  | .hbm, ⟨41, _⟩ => ⟨S_, .f32⟩
  | .hbm, ⟨42, _⟩ => ⟨S128x128, .f32⟩
  | .hbm, ⟨43, _⟩ => ⟨S128x128, .f32⟩
  | .hbm, ⟨44, _⟩ => ⟨S1x128x128, .f32⟩
  | .hbm, ⟨45, _⟩ => ⟨S4x128x128, .f32⟩
  | .hbm, ⟨46, _⟩ => ⟨S4x128x128, .f32⟩
  | .hbm, ⟨47, _⟩ => ⟨S4x128x128, .f32⟩
  | .hbm, ⟨48, _⟩ => ⟨S4x128x128, .f32⟩
  | .hbm, ⟨49, _⟩ => ⟨S_, .f32⟩
  | .hbm, ⟨50, _⟩ => ⟨S_, .f32⟩
  | .hbm, ⟨51, _⟩ => ⟨S4x128x128, .i1⟩
  | .hbm, ⟨52, _⟩ => ⟨S4x128x128, .f32⟩
  | .hbm, ⟨53, _⟩ => ⟨S4x128x128, .f32⟩
  | .hbm, ⟨54, _⟩ => ⟨S4x1, .f32⟩
  | .hbm, ⟨55, _⟩ => ⟨S_, .f32⟩
  | .hbm, ⟨56, _⟩ => ⟨S128, .f32⟩
  | .hbm, ⟨57, _⟩ => ⟨S128, .f32⟩
  | .hbm, ⟨58, _⟩ => ⟨S1x128, .f32⟩
  | .hbm, ⟨59, _⟩ => ⟨S4x128, .f32⟩
  | .hbm, ⟨60, _⟩ => ⟨S4x128, .f32⟩
  | .hbm, ⟨61, _⟩ => ⟨S4x128, .f32⟩
  | .hbm, ⟨62, _⟩ => ⟨S4x128, .f32⟩
  | .hbm, ⟨63, _⟩ => ⟨S4x128x1, .f32⟩
  | .hbm, ⟨64, _⟩ => ⟨S4x1, .f32⟩
  | .hbm, ⟨65, _⟩ => ⟨S_, .f32⟩
  | .hbm, ⟨66, _⟩ => ⟨S128, .f32⟩
  | .hbm, ⟨67, _⟩ => ⟨S128, .f32⟩
  | .hbm, ⟨68, _⟩ => ⟨S1x128, .f32⟩
  | .hbm, ⟨69, _⟩ => ⟨S4x128, .f32⟩
  | .hbm, ⟨70, _⟩ => ⟨S4x128, .f32⟩
  | .hbm, ⟨71, _⟩ => ⟨S4x128, .f32⟩
  | .hbm, ⟨72, _⟩ => ⟨S4x128, .f32⟩
  | .hbm, ⟨73, _⟩ => ⟨S4x128x1, .f32⟩
  | .hbm, ⟨74, _⟩ => ⟨S_, .f32⟩
  | .hbm, ⟨75, _⟩ => ⟨S4, .f32⟩
  | .hbm, ⟨76, _⟩ => ⟨S4, .f32⟩
  | .hbm, ⟨77, _⟩ => ⟨S4, .f32⟩
  | .hbm, ⟨78, _⟩ => ⟨S4x1x1, .f32⟩
  | .hbm, ⟨79, _⟩ => ⟨S4x1x128, .f32⟩
  | .hbm, ⟨80, _⟩ => ⟨S8192x11264, .f32⟩
  | .hbm, ⟨81, _⟩ => ⟨S8192x2048, .bf16⟩
  | .hbm, ⟨82, _⟩ => ⟨S8192x2048, .f32⟩
  | .hbm, ⟨83, _⟩ => ⟨S4x64x256x512, .bf16⟩
  | .hbm, ⟨84, _⟩ => ⟨S8192x3072, .bf16⟩
  | .hbm, ⟨85, _⟩ => ⟨S8192x2048, .f32⟩
  | .hbm, ⟨86, _⟩ => ⟨S8192x11264, .f32⟩
  | .hbm, ⟨87, _⟩ => ⟨S8192x6144, .bf16⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1x128x128, .f32⟩
  | .local _ .vmem, ⟨13, _⟩ => ⟨S1x128x128, .f32⟩
  | .local _ .vmem, ⟨14, _⟩ => ⟨S1x128x1, .f32⟩
  | .local _ .vmem, ⟨15, _⟩ => ⟨S1x128x1, .f32⟩
  | .local _ .vmem, ⟨16, _⟩ => ⟨S1x128x1, .f32⟩
  | .local _ .vmem, ⟨17, _⟩ => ⟨S1x128x1, .f32⟩
  | .local _ .vmem, ⟨18, _⟩ => ⟨S1x1x128, .f32⟩
  | .local _ .vmem, ⟨19, _⟩ => ⟨S1x1x128, .f32⟩
  | .local _ .vmem, ⟨20, _⟩ => ⟨S1024x512, .bf16⟩
  | .local _ .vmem, ⟨21, _⟩ => ⟨S1024x512, .bf16⟩
  | .local _ .vmem, ⟨22, _⟩ => ⟨S1024x512, .f32⟩
  | .local _ .vmem, ⟨23, _⟩ => ⟨S1024x512, .f32⟩
  | .local _ .vmem, ⟨24, _⟩ => ⟨S1x8x256x512, .bf16⟩
  | .local _ .vmem, ⟨25, _⟩ => ⟨S1x8x256x512, .bf16⟩
  | .local _ .vmem, ⟨26, _⟩ => ⟨S1024x768, .bf16⟩
  | .local _ .vmem, ⟨27, _⟩ => ⟨S1024x768, .bf16⟩
  | .local _ .vmem, ⟨28, _⟩ => ⟨S256x512, .f32⟩
  | .local _ .vmem, ⟨29, _⟩ => ⟨S1024x512, .f32⟩
  | .local _ .vmem, ⟨30, _⟩ => ⟨S1024x512, .f32⟩
  | .local _ .vmem, ⟨31, _⟩ => ⟨S1024x512, .f32⟩
  | .local _ .vmem, ⟨32, _⟩ => ⟨S1024x512, .f32⟩
  | .local _ .vmem, ⟨33, _⟩ => ⟨S1024x768, .bf16⟩
  | .local _ .vmem, ⟨34, _⟩ => ⟨S1024x768, .bf16⟩
  | .local _ .vmem, ⟨35, _⟩ => ⟨S1024x512, .f32⟩
  | .local _ .vmem, ⟨36, _⟩ => ⟨S1024x512, .f32⟩
  | .local _ .vmem, ⟨37, _⟩ => ⟨S1024x512, .f32⟩
  | .local _ .vmem, ⟨38, _⟩ => ⟨S1024x512, .f32⟩
  | .local _ .vmem, ⟨39, _⟩ => ⟨S1x8x256x512, .bf16⟩
  | .local _ .vmem, ⟨40, _⟩ => ⟨S1x8x256x512, .bf16⟩
  | .local _ .vmem, ⟨41, _⟩ => ⟨S1024x128, .f32⟩
  | .local _ .vmem, ⟨42, _⟩ => ⟨S1024x128, .f32⟩
  | .local _ .vmem, ⟨43, _⟩ => ⟨S1024x128, .f32⟩
  | .local _ .vmem, ⟨44, _⟩ => ⟨S1024x128, .f32⟩
  | .local _ .vmem, ⟨45, _⟩ => ⟨S1x128x128, .f32⟩
  | .local _ .vmem, ⟨46, _⟩ => ⟨S1x128x128, .f32⟩
  | .local _ .vmem, ⟨47, _⟩ => ⟨S1x128x1, .f32⟩
  | .local _ .vmem, ⟨48, _⟩ => ⟨S1x128x1, .f32⟩
  | .local _ .vmem, ⟨49, _⟩ => ⟨S1x128x1, .f32⟩
  | .local _ .vmem, ⟨50, _⟩ => ⟨S1x128x1, .f32⟩
  | .local _ .vmem, ⟨51, _⟩ => ⟨S1x1x128, .f32⟩
  | .local _ .vmem, ⟨52, _⟩ => ⟨S1x1x128, .f32⟩
  | .local _ .vmem, ⟨53, _⟩ => ⟨S1024x1536, .bf16⟩
  | .local _ .vmem, ⟨54, _⟩ => ⟨S1024x1536, .bf16⟩
  | .local _ .vmem, ⟨55, _⟩ => ⟨S256x512, .f32⟩
  | _, _ => ⟨S1x8192x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_3 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_4 : Ref sig .tc := ⟨.hbm, 40, rfl⟩
abbrev main_call0_v0 : Ref sig .tc := ⟨.hbm, 41, rfl⟩
abbrev main_call0_v1 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_5 : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_v38 : Ref sig .tc := ⟨.hbm, 53, rfl⟩
abbrev main_v39 : Ref sig .tc := ⟨.hbm, 54, rfl⟩
abbrev main_cst_6 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_7 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_cst_8 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63_0 : Ref sig .tc := ⟨.hbm, 81, rfl⟩
abbrev main_v63_1 : Ref sig .tc := ⟨.hbm, 82, rfl⟩
abbrev main_v63_2 : Ref sig .tc := ⟨.hbm, 83, rfl⟩
abbrev main_v63_3 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_scratch0 : Ref sig .tc := ⟨.vmem, 28, rfl⟩
abbrev cc1_stg0_0 : Ref sig .tc := ⟨.vmem, 29, rfl⟩
abbrev cc1_stg0_1 : Ref sig .tc := ⟨.vmem, 30, rfl⟩
abbrev cc1_stg1_0 : Ref sig .tc := ⟨.vmem, 31, rfl⟩
abbrev cc1_stg1_1 : Ref sig .tc := ⟨.vmem, 32, rfl⟩
abbrev cc1_stg2_0 : Ref sig .tc := ⟨.vmem, 33, rfl⟩
abbrev cc1_stg2_1 : Ref sig .tc := ⟨.vmem, 34, rfl⟩
abbrev cc1_stg3_0 : Ref sig .tc := ⟨.vmem, 35, rfl⟩
abbrev cc1_stg3_1 : Ref sig .tc := ⟨.vmem, 36, rfl⟩
abbrev cc1_stg4_0 : Ref sig .tc := ⟨.vmem, 37, rfl⟩
abbrev cc1_stg4_1 : Ref sig .tc := ⟨.vmem, 38, rfl⟩
abbrev cc1_stg5_0 : Ref sig .tc := ⟨.vmem, 39, rfl⟩
abbrev cc1_stg5_1 : Ref sig .tc := ⟨.vmem, 40, rfl⟩
abbrev cc1_stg6_0 : Ref sig .tc := ⟨.vmem, 41, rfl⟩
abbrev cc1_stg6_1 : Ref sig .tc := ⟨.vmem, 42, rfl⟩
abbrev cc1_stg7_0 : Ref sig .tc := ⟨.vmem, 43, rfl⟩
abbrev cc1_stg7_1 : Ref sig .tc := ⟨.vmem, 44, rfl⟩
abbrev cc1_stg8_0 : Ref sig .tc := ⟨.vmem, 45, rfl⟩
abbrev cc1_stg8_1 : Ref sig .tc := ⟨.vmem, 46, rfl⟩
abbrev cc1_stg9_0 : Ref sig .tc := ⟨.vmem, 47, rfl⟩
abbrev cc1_stg9_1 : Ref sig .tc := ⟨.vmem, 48, rfl⟩
abbrev cc1_stg10_0 : Ref sig .tc := ⟨.vmem, 49, rfl⟩
abbrev cc1_stg10_1 : Ref sig .tc := ⟨.vmem, 50, rfl⟩
abbrev cc1_stg11_0 : Ref sig .tc := ⟨.vmem, 51, rfl⟩
abbrev cc1_stg11_1 : Ref sig .tc := ⟨.vmem, 52, rfl⟩
abbrev cc1_stg12_0 : Ref sig .tc := ⟨.vmem, 53, rfl⟩
abbrev cc1_stg12_1 : Ref sig .tc := ⟨.vmem, 54, rfl⟩
abbrev cc1_scratch0 : Ref sig .tc := ⟨.vmem, 55, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc1_sem0_0 : DmaSem sig := 28
abbrev cc1_sem0_1 : DmaSem sig := 29
abbrev cc1_sem1_0 : DmaSem sig := 30
abbrev cc1_sem1_1 : DmaSem sig := 31
abbrev cc1_sem2_0 : DmaSem sig := 32
abbrev cc1_sem2_1 : DmaSem sig := 33
abbrev cc1_sem3_0 : DmaSem sig := 34
abbrev cc1_sem3_1 : DmaSem sig := 35
abbrev cc1_sem4_0 : DmaSem sig := 36
abbrev cc1_sem4_1 : DmaSem sig := 37
abbrev cc1_sem5_0 : DmaSem sig := 38
abbrev cc1_sem5_1 : DmaSem sig := 39
abbrev cc1_sem6_0 : DmaSem sig := 40
abbrev cc1_sem6_1 : DmaSem sig := 41
abbrev cc1_sem7_0 : DmaSem sig := 42
abbrev cc1_sem7_1 : DmaSem sig := 43
abbrev cc1_sem8_0 : DmaSem sig := 44
abbrev cc1_sem8_1 : DmaSem sig := 45
abbrev cc1_sem9_0 : DmaSem sig := 46
abbrev cc1_sem9_1 : DmaSem sig := 47
abbrev cc1_sem10_0 : DmaSem sig := 48
abbrev cc1_sem10_1 : DmaSem sig := 49
abbrev cc1_sem11_0 : DmaSem sig := 50
abbrev cc1_sem11_1 : DmaSem sig := 51
abbrev cc1_sem12_0 : DmaSem sig := 52
abbrev cc1_sem12_1 : DmaSem sig := 53

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x128x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x128x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1024x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x8x256x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1024x768 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev grid1 : Pipeline.Grid := ⟨2, ![4, 8], ![false, false]⟩

def cc1_transform_0 (i : grid1.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let v1 : BitVec 32 := Scalar.addi c0_i32 arg0
  let c0_i32_0 : BitVec 32 := 0#32
  ![v0.toNat, v1.toNat]

def cc1_transform_1 (i : grid1.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let v1 : BitVec 32 := Scalar.addi c0_i32 arg0
  let c0_i32_0 : BitVec 32 := 0#32
  ![v0.toNat, v1.toNat]

def cc1_transform_2 (i : grid1.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let v1 : BitVec 32 := Scalar.addi c0_i32 arg0
  let c0_i32_0 : BitVec 32 := 0#32
  ![v0.toNat, v1.toNat]

def cc1_transform_3 (i : grid1.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c4_i32 : BitVec 32 := 4#32
  let v1 : BitVec 32 := Scalar.addi c4_i32 arg0
  let c0_i32 : BitVec 32 := 0#32
  ![v0.toNat, v1.toNat]

def cc1_transform_4 (i : grid1.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c8_i32 : BitVec 32 := 8#32
  let v1 : BitVec 32 := Scalar.addi c8_i32 arg0
  let c0_i32 : BitVec 32 := 0#32
  ![v0.toNat, v1.toNat]

def cc1_transform_5 (i : grid1.Coords) : Fin 4 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  let c0_i32_1 : BitVec 32 := 0#32
  ![arg0.toNat, v0.toNat, c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![v0.toNat, c0_i32.toNat]

def cc1_transform_7 (i : grid1.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![v0.toNat, c0_i32.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_10 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_11 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_12 (i : grid1.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let v1 : BitVec 32 := Scalar.addi c0_i32 arg0
  let c0_i32_0 : BitVec 32 := 0#32
  ![v0.toNat, v1.toNat]

abbrev stage1_0 : Fin 2 → Memref sig .tc .vmem S1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1024x768 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1024x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1024x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x8x256x512 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1024x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![false, true]

abbrev stage1_7 : Fin 2 → Memref sig .tc .vmem S1024x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![false, true]

abbrev stage1_8 : Fin 2 → Memref sig .tc .vmem S1x128x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]

abbrev stage1_9 : Fin 2 → Memref sig .tc .vmem S1x128x1 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, false]

abbrev stage1_10 : Fin 2 → Memref sig .tc .vmem S1x128x1 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, false]

abbrev stage1_11 : Fin 2 → Memref sig .tc .vmem S1x1x128 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, false]

abbrev stage1_12 : Fin 2 → Memref sig .tc .vmem S1024x1536 .bf16 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true, true]
-- ==== RetRefIdeal.lean ====
abbrev S1x8192x11264 : Shape := ⟨3, ![1, 8192, 11264]⟩
abbrev S1x8192 : Shape := ⟨2, ![1, 8192]⟩
abbrev S1x8192x2048 : Shape := ⟨3, ![1, 8192, 2048]⟩
abbrev S1x8192x6144 : Shape := ⟨3, ![1, 8192, 6144]⟩
abbrev S1x8192x1024 : Shape := ⟨3, ![1, 8192, 1024]⟩
abbrev S1x8192x4x256 : Shape := ⟨4, ![1, 8192, 4, 256]⟩
abbrev S128 : Shape := ⟨1, ![128]⟩
abbrev S_ : Shape := ⟨0, ![]⟩
abbrev S1x8192x1 : Shape := ⟨3, ![1, 8192, 1]⟩
abbrev S1x1x128 : Shape := ⟨3, ![1, 1, 128]⟩
abbrev S1x8192x128 : Shape := ⟨3, ![1, 8192, 128]⟩
abbrev S1x8192x1x128 : Shape := ⟨4, ![1, 8192, 1, 128]⟩
abbrev S1x8192x4x128 : Shape := ⟨4, ![1, 8192, 4, 128]⟩
abbrev S1x8192x4x512 : Shape := ⟨4, ![1, 8192, 4, 512]⟩
abbrev S4 : Shape := ⟨1, ![4]⟩
abbrev S128x1 : Shape := ⟨2, ![128, 1]⟩
abbrev S1x128 : Shape := ⟨2, ![1, 128]⟩
abbrev S128x128 : Shape := ⟨2, ![128, 128]⟩
abbrev S4x1x1 : Shape := ⟨3, ![4, 1, 1]⟩
abbrev S1x128x128 : Shape := ⟨3, ![1, 128, 128]⟩
abbrev S4x128x128 : Shape := ⟨3, ![4, 128, 128]⟩
abbrev S4x1 : Shape := ⟨2, ![4, 1]⟩
abbrev S4x128 : Shape := ⟨2, ![4, 128]⟩
abbrev S1x4x256x512 : Shape := ⟨4, ![1, 4, 256, 512]⟩
abbrev S1x64x128x4x256 : Shape := ⟨5, ![1, 64, 128, 4, 256]⟩
abbrev S64x1x4x128x256 : Shape := ⟨5, ![64, 1, 4, 128, 256]⟩
abbrev S1x64x128x4x512 : Shape := ⟨5, ![1, 64, 128, 4, 512]⟩
abbrev S64x1x4x128x512 : Shape := ⟨5, ![64, 1, 4, 128, 512]⟩
abbrev S1x4x128x128 : Shape := ⟨4, ![1, 4, 128, 128]⟩
abbrev S1x4x128x1 : Shape := ⟨4, ![1, 4, 128, 1]⟩
abbrev S1x4x1x1 : Shape := ⟨4, ![1, 4, 1, 1]⟩
abbrev S64x1x4x128x128 : Shape := ⟨5, ![64, 1, 4, 128, 128]⟩
abbrev S64x1x4x256x512 : Shape := ⟨5, ![64, 1, 4, 256, 512]⟩
abbrev S1x1x4x128x256 : Shape := ⟨5, ![1, 1, 4, 128, 256]⟩
abbrev S1x4x128x256 : Shape := ⟨4, ![1, 4, 128, 256]⟩
abbrev S1x1x4x128x512 : Shape := ⟨5, ![1, 1, 4, 128, 512]⟩
abbrev S1x4x128x512 : Shape := ⟨4, ![1, 4, 128, 512]⟩
abbrev S1x1x4x128x128 : Shape := ⟨5, ![1, 1, 4, 128, 128]⟩
abbrev S1x1x4x256x512 : Shape := ⟨5, ![1, 1, 4, 256, 512]⟩
abbrev S1x8192x4 : Shape := ⟨3, ![1, 8192, 4]⟩
abbrev S1x8192x4x1 : Shape := ⟨4, ![1, 8192, 4, 1]⟩
abbrev S8192x4 : Shape := ⟨2, ![8192, 4]⟩
abbrev S1x4x512x128 : Shape := ⟨4, ![1, 4, 512, 128]⟩
abbrev S1x4x256x128 : Shape := ⟨4, ![1, 4, 256, 128]⟩
abbrev S1x4x512x256 : Shape := ⟨4, ![1, 4, 512, 256]⟩
abbrev S8192x4x256 : Shape := ⟨3, ![8192, 4, 256]⟩
abbrev S8192x4x512 : Shape := ⟨3, ![8192, 4, 512]⟩
abbrev S8192x2048 : Shape := ⟨2, ![8192, 2048]⟩
abbrev S8192x4x1536 : Shape := ⟨3, ![8192, 4, 1536]⟩
abbrev S8192x6144 : Shape := ⟨2, ![8192, 6144]⟩

abbrev nBuf : Space → Nat
  | .hbm => 489
  | .vmem => 0
  | .smem => 0
  | _ => 0

abbrev hbmTy0_0 (i : Nat) : BufTy := match i % 128 with
  | 0 => ⟨S1x8192x11264, .f32⟩
  | 1 => ⟨S1x8192, .i32⟩
  | 2 => ⟨S1x8192x2048, .f32⟩
  | 3 => ⟨S1x8192x6144, .f32⟩
  | 4 => ⟨S1x8192x1024, .f32⟩
  | 5 => ⟨S1x8192x1024, .f32⟩
  | 6 => ⟨S1x8192x2048, .f32⟩
  | 7 => ⟨S1x8192x2048, .f32⟩
  | 8 => ⟨S1x8192x4x256, .f32⟩
  | 9 => ⟨S128, .f32⟩
  | 10 => ⟨S128, .f32⟩
  | 11 => ⟨S_, .f32⟩
  | 12 => ⟨S128, .f32⟩
  | 13 => ⟨S128, .f32⟩
  | 14 => ⟨S_, .f32⟩
  | 15 => ⟨S128, .f32⟩
  | 16 => ⟨S128, .f32⟩
  | 17 => ⟨S1x8192, .f32⟩
  | 18 => ⟨S1x8192x1, .f32⟩
  | 19 => ⟨S1x1x128, .f32⟩
  | 20 => ⟨S1x8192x128, .f32⟩
  | 21 => ⟨S1x8192x128, .f32⟩
  | 22 => ⟨S1x8192x128, .f32⟩
  | 23 => ⟨S1x8192x128, .f32⟩
  | 24 => ⟨S1x8192x1x128, .f32⟩
  | 25 => ⟨S1x8192x128, .f32⟩
  | 26 => ⟨S1x8192x1x128, .f32⟩
  | 27 => ⟨S1x8192x4x128, .f32⟩
  | 28 => ⟨S1x8192x4x128, .f32⟩
  | 29 => ⟨S1x8192x4x128, .f32⟩
  | 30 => ⟨S1x8192x4x128, .f32⟩
  | 31 => ⟨S1x8192x4x128, .f32⟩
  | 32 => ⟨S1x8192x4x128, .f32⟩
  | 33 => ⟨S1x8192x4x128, .f32⟩
  | 34 => ⟨S1x8192x4x128, .f32⟩
  | 35 => ⟨S1x8192x4x128, .f32⟩
  | 36 => ⟨S1x8192x4x128, .f32⟩
  | 37 => ⟨S1x8192x4x128, .f32⟩
  | 38 => ⟨S1x8192x4x128, .f32⟩
  | 39 => ⟨S1x8192x4x256, .f32⟩
  | 40 => ⟨S1x8192x4x256, .f32⟩
  | 41 => ⟨S128, .f32⟩
  | 42 => ⟨S128, .f32⟩
  | 43 => ⟨S_, .f32⟩
  | 44 => ⟨S128, .f32⟩
  | 45 => ⟨S128, .f32⟩
  | 46 => ⟨S_, .f32⟩
  | 47 => ⟨S128, .f32⟩
  | 48 => ⟨S128, .f32⟩
  | 49 => ⟨S1x8192, .f32⟩
  | 50 => ⟨S1x8192x1, .f32⟩
  | 51 => ⟨S1x1x128, .f32⟩
  | 52 => ⟨S1x8192x128, .f32⟩
  | 53 => ⟨S1x8192x128, .f32⟩
  | 54 => ⟨S1x8192x128, .f32⟩
  | 55 => ⟨S1x8192x128, .f32⟩
  | 56 => ⟨S1x8192x1x128, .f32⟩
  | 57 => ⟨S1x8192x128, .f32⟩
  | 58 => ⟨S1x8192x1x128, .f32⟩
  | 59 => ⟨S1x8192x4x128, .f32⟩
  | 60 => ⟨S1x8192x4x128, .f32⟩
  | 61 => ⟨S1x8192x4x128, .f32⟩
  | 62 => ⟨S1x8192x4x128, .f32⟩
  | 63 => ⟨S1x8192x4x128, .f32⟩
  | 64 => ⟨S1x8192x4x128, .f32⟩
  | 65 => ⟨S1x8192x4x128, .f32⟩
  | 66 => ⟨S1x8192x4x128, .f32⟩
  | 67 => ⟨S1x8192x4x128, .f32⟩
  | 68 => ⟨S1x8192x4x128, .f32⟩
  | 69 => ⟨S1x8192x4x128, .f32⟩
  | 70 => ⟨S1x8192x4x128, .f32⟩
  | 71 => ⟨S1x8192x4x256, .f32⟩
  | 72 => ⟨S_, .f32⟩
  | 73 => ⟨S1x8192x4x256, .f32⟩
  | 74 => ⟨S1x8192x4x256, .f32⟩
  | 75 => ⟨S1x8192x4x512, .f32⟩
  | 76 => ⟨S4, .f32⟩
  | 77 => ⟨S_, .f32⟩
  | 78 => ⟨S4, .f32⟩
  | 79 => ⟨S4, .f32⟩
  | 80 => ⟨S_, .f32⟩
  | 81 => ⟨S4, .f32⟩
  | 82 => ⟨S4, .f32⟩
  | 83 => ⟨S4, .f32⟩
  | 84 => ⟨S4, .f32⟩
  | 85 => ⟨S4, .f32⟩
  | 86 => ⟨S128, .f32⟩
  | 87 => ⟨S128x1, .f32⟩
  | 88 => ⟨S1x128, .f32⟩
  | 89 => ⟨S128x128, .f32⟩
  | 90 => ⟨S128x128, .f32⟩
  | 91 => ⟨S128x128, .f32⟩
  | 92 => ⟨S_, .f32⟩
  | 93 => ⟨S128x128, .f32⟩
  | 94 => ⟨S128x128, .i1⟩
  | 95 => ⟨S4x1x1, .f32⟩
  | 96 => ⟨S_, .f32⟩
  | 97 => ⟨S_, .f32⟩
  | 98 => ⟨S128x128, .f32⟩
  | 99 => ⟨S128x128, .f32⟩
  | 100 => ⟨S1x128x128, .f32⟩
  | 101 => ⟨S4x128x128, .f32⟩
  | 102 => ⟨S4x128x128, .f32⟩
  | 103 => ⟨S4x128x128, .f32⟩
  | 104 => ⟨S4x128x128, .f32⟩
  | 105 => ⟨S_, .f32⟩
  | 106 => ⟨S_, .f32⟩
  | 107 => ⟨S4x128x128, .i1⟩
  | 108 => ⟨S4x128x128, .f32⟩
  | 109 => ⟨S4x128x128, .f32⟩
  | 110 => ⟨S4x1, .f32⟩
  | 111 => ⟨S_, .f32⟩
  | 112 => ⟨S128, .f32⟩
  | 113 => ⟨S128, .f32⟩
  | 114 => ⟨S1x128, .f32⟩
  | 115 => ⟨S4x128, .f32⟩
  | 116 => ⟨S4x128, .f32⟩
  | 117 => ⟨S4x128, .f32⟩
  | 118 => ⟨S4x128, .f32⟩
  | 119 => ⟨S4x1, .f32⟩
  | 120 => ⟨S_, .f32⟩
  | 121 => ⟨S128, .f32⟩
  | 122 => ⟨S128, .f32⟩
  | 123 => ⟨S1x128, .f32⟩
  | 124 => ⟨S4x128, .f32⟩
  | 125 => ⟨S4x128, .f32⟩
  | 126 => ⟨S4x128, .f32⟩
  | 127 => ⟨S4x128, .f32⟩
  | _ => ⟨S1x8192x11264, .f32⟩

abbrev hbmTy0_1 (i : Nat) : BufTy := match i % 128 with
  | 0 => ⟨S_, .f32⟩
  | 1 => ⟨S4, .f32⟩
  | 2 => ⟨S4, .f32⟩
  | 3 => ⟨S4, .f32⟩
  | 4 => ⟨S_, .f32⟩
  | 5 => ⟨S1x4x256x512, .f32⟩
  | 6 => ⟨S1x64x128x4x256, .f32⟩
  | 7 => ⟨S64x1x4x128x256, .f32⟩
  | 8 => ⟨S1x64x128x4x256, .f32⟩
  | 9 => ⟨S64x1x4x128x256, .f32⟩
  | 10 => ⟨S1x64x128x4x512, .f32⟩
  | 11 => ⟨S64x1x4x128x512, .f32⟩
  | 12 => ⟨S1x4x128x128, .f32⟩
  | 13 => ⟨S1x4x128x1, .f32⟩
  | 14 => ⟨S1x4x1x1, .f32⟩
  | 15 => ⟨S1x4x128x1, .f32⟩
  | 16 => ⟨S_, .f32⟩
  | 17 => ⟨S64x1x4x128x512, .f32⟩
  | 18 => ⟨S_, .f32⟩
  | 19 => ⟨S64x1x4x128x128, .f32⟩
  | 20 => ⟨S_, .f32⟩
  | 21 => ⟨S64x1x4x256x512, .f32⟩
  | 22 => ⟨S_, .f32⟩
  | 23 => ⟨S64x1x4x128x256, .f32⟩
  | 24 => ⟨S_, .i32⟩
  | 25 => ⟨S64x1x4x128x256, .f32⟩
  | 26 => ⟨S64x1x4x128x256, .f32⟩
  | 27 => ⟨S64x1x4x128x512, .f32⟩
  | 28 => ⟨S1x4x1x1, .f32⟩
  | 29 => ⟨S1x4x128x1, .f32⟩
  | 30 => ⟨S1x4x128x128, .f32⟩
  | 31 => ⟨S1x4x128x1, .f32⟩
  | 32 => ⟨S_, .i32⟩
  | 33 => ⟨S1x4x256x512, .f32⟩
  | 34 => ⟨S64x1x4x128x512, .f32⟩
  | 35 => ⟨S64x1x4x128x128, .f32⟩
  | 36 => ⟨S64x1x4x256x512, .f32⟩
  | 37 => ⟨S64x1x4x128x256, .f32⟩
  | 38 => ⟨S_, .i32⟩
  | 39 => ⟨S_, .i1⟩
  | 40 => ⟨S_, .i32⟩
  | 41 => ⟨S_, .i32⟩
  | 42 => ⟨S_, .i32⟩
  | 43 => ⟨S_, .i32⟩
  | 44 => ⟨S1x1x4x128x256, .f32⟩
  | 45 => ⟨S1x4x128x256, .f32⟩
  | 46 => ⟨S_, .i32⟩
  | 47 => ⟨S_, .i32⟩
  | 48 => ⟨S_, .i32⟩
  | 49 => ⟨S_, .i32⟩
  | 50 => ⟨S1x1x4x128x256, .f32⟩
  | 51 => ⟨S1x4x128x256, .f32⟩
  | 52 => ⟨S_, .i32⟩
  | 53 => ⟨S_, .i32⟩
  | 54 => ⟨S_, .i32⟩
  | 55 => ⟨S_, .i32⟩
  | 56 => ⟨S1x1x4x128x512, .f32⟩
  | 57 => ⟨S1x4x128x512, .f32⟩
  | 58 => ⟨S1x4x128x128, .f32⟩
  | 59 => ⟨S1x4x128x128, .f32⟩
  | 60 => ⟨S1x4x128x512, .f32⟩
  | 61 => ⟨S1x4x128x512, .f32⟩
  | 62 => ⟨S1x4x128x512, .f32⟩
  | 63 => ⟨S1x4x128x512, .f32⟩
  | 64 => ⟨S1x4x256x512, .f32⟩
  | 65 => ⟨S1x4x256x512, .f32⟩
  | 66 => ⟨S1x4x128x256, .f32⟩
  | 67 => ⟨S1x4x128x256, .f32⟩
  | 68 => ⟨S1x4x256x512, .f32⟩
  | 69 => ⟨S1x4x256x512, .f32⟩
  | 70 => ⟨S1x4x128x512, .f32⟩
  | 71 => ⟨S1x1x4x128x512, .f32⟩
  | 72 => ⟨S_, .i32⟩
  | 73 => ⟨S_, .i32⟩
  | 74 => ⟨S_, .i32⟩
  | 75 => ⟨S_, .i32⟩
  | 76 => ⟨S64x1x4x128x512, .f32⟩
  | 77 => ⟨S1x1x4x128x128, .f32⟩
  | 78 => ⟨S_, .i32⟩
  | 79 => ⟨S_, .i32⟩
  | 80 => ⟨S_, .i32⟩
  | 81 => ⟨S_, .i32⟩
  | 82 => ⟨S64x1x4x128x128, .f32⟩
  | 83 => ⟨S1x1x4x256x512, .f32⟩
  | 84 => ⟨S_, .i32⟩
  | 85 => ⟨S_, .i32⟩
  | 86 => ⟨S_, .i32⟩
  | 87 => ⟨S_, .i32⟩
  | 88 => ⟨S64x1x4x256x512, .f32⟩
  | 89 => ⟨S1x1x4x128x256, .f32⟩
  | 90 => ⟨S_, .i32⟩
  | 91 => ⟨S_, .i32⟩
  | 92 => ⟨S_, .i32⟩
  | 93 => ⟨S_, .i32⟩
  | 94 => ⟨S64x1x4x128x256, .f32⟩
  | 95 => ⟨S_, .i32⟩
  | 96 => ⟨S_, .i32⟩
  | 97 => ⟨S1x64x128x4x512, .f32⟩
  | 98 => ⟨S1x8192x4x512, .f32⟩
  | 99 => ⟨S_, .f32⟩
  | 100 => ⟨S1x8192x4, .f32⟩
  | 101 => ⟨S1x8192x4x1, .f32⟩
  | 102 => ⟨S_, .f32⟩
  | 103 => ⟨S1x8192x4x1, .f32⟩
  | 104 => ⟨S1x8192x4x1, .f32⟩
  | 105 => ⟨S1x8192x4x512, .f32⟩
  | 106 => ⟨S1x8192x4x512, .f32⟩
  | 107 => ⟨S1x8192x4x512, .f32⟩
  | 108 => ⟨S_, .f32⟩
  | 109 => ⟨S1x8192x4x512, .f32⟩
  | 110 => ⟨S1x8192x4x512, .f32⟩
  | 111 => ⟨S_, .f32⟩
  | 112 => ⟨S1x8192x4, .f32⟩
  | 113 => ⟨S1x8192x4x1, .f32⟩
  | 114 => ⟨S_, .f32⟩
  | 115 => ⟨S1x8192x4x1, .f32⟩
  | 116 => ⟨S1x8192x4x1, .f32⟩
  | 117 => ⟨S1x8192x4x512, .f32⟩
  | 118 => ⟨S1x8192x4x512, .f32⟩
  | 119 => ⟨S_, .f32⟩
  | 120 => ⟨S1x8192x4x1, .f32⟩
  | 121 => ⟨S1x8192x4x1, .f32⟩
  | 122 => ⟨S1x8192x4x1, .f32⟩
  | 123 => ⟨S1x8192x4x1, .f32⟩
  | 124 => ⟨S_, .f32⟩
  | 125 => ⟨S1x8192x4x1, .f32⟩
  | 126 => ⟨S1x8192x4x1, .f32⟩
  | 127 => ⟨S1x8192x4x512, .f32⟩
  | _ => ⟨S1x8192x11264, .f32⟩

abbrev hbmTy0_2 (i : Nat) : BufTy := match i % 128 with
  | 0 => ⟨S1x8192x4x512, .f32⟩
  | 1 => ⟨S1x8192x2048, .f32⟩
  | 2 => ⟨S1x8192x2048, .f32⟩
  | 3 => ⟨S1x8192x2048, .f32⟩
  | 4 => ⟨S_, .f32⟩
  | 5 => ⟨S1x8192x2048, .f32⟩
  | 6 => ⟨S1x8192x2048, .f32⟩
  | 7 => ⟨S_, .f32⟩
  | 8 => ⟨S1x8192x2048, .f32⟩
  | 9 => ⟨S1x8192x2048, .f32⟩
  | 10 => ⟨S_, .f32⟩
  | 11 => ⟨S1x8192x2048, .f32⟩
  | 12 => ⟨S1x8192x2048, .f32⟩
  | 13 => ⟨S1x8192x2048, .f32⟩
  | 14 => ⟨S1x8192x2048, .f32⟩
  | 15 => ⟨S1x8192x2048, .f32⟩
  | 16 => ⟨S_, .f32⟩
  | 17 => ⟨S1x4x256x512, .f32⟩
  | 18 => ⟨S1x8192x2048, .f32⟩
  | 19 => ⟨S1x8192x2048, .f32⟩
  | 20 => ⟨S1x8192x2048, .f32⟩
  | 21 => ⟨S1x8192x2048, .f32⟩
  | 22 => ⟨S1x8192x2048, .f32⟩
  | 23 => ⟨S1x8192x2048, .f32⟩
  | 24 => ⟨S1x8192x4x512, .f32⟩
  | 25 => ⟨S1x8192x4x512, .f32⟩
  | 26 => ⟨S_, .f32⟩
  | 27 => ⟨S1x8192x4, .f32⟩
  | 28 => ⟨S1x8192x4x1, .f32⟩
  | 29 => ⟨S1x8192x4x512, .f32⟩
  | 30 => ⟨S1x8192x4x512, .f32⟩
  | 31 => ⟨S1x8192x4x1, .f32⟩
  | 32 => ⟨S1x8192x4x512, .f32⟩
  | 33 => ⟨S_, .f32⟩
  | 34 => ⟨S1x8192x4, .f32⟩
  | 35 => ⟨S1x8192x4x1, .f32⟩
  | 36 => ⟨S_, .f32⟩
  | 37 => ⟨S1x8192x4x1, .f32⟩
  | 38 => ⟨S1x8192x4x1, .f32⟩
  | 39 => ⟨S_, .f32⟩
  | 40 => ⟨S8192x4, .f32⟩
  | 41 => ⟨S1x8192x4, .f32⟩
  | 42 => ⟨S1x8192x4x512, .f32⟩
  | 43 => ⟨S1x8192x4x512, .f32⟩
  | 44 => ⟨S1x8192x4x512, .f32⟩
  | 45 => ⟨S_, .f32⟩
  | 46 => ⟨S1x8192x4, .f32⟩
  | 47 => ⟨S1x8192x4x1, .f32⟩
  | 48 => ⟨S1x8192x4x512, .f32⟩
  | 49 => ⟨S1x8192x4x1, .f32⟩
  | 50 => ⟨S_, .f32⟩
  | 51 => ⟨S1x8192x4x1, .f32⟩
  | 52 => ⟨S1x8192x4x1, .f32⟩
  | 53 => ⟨S_, .f32⟩
  | 54 => ⟨S8192x4, .f32⟩
  | 55 => ⟨S1x8192x4, .f32⟩
  | 56 => ⟨S1x8192x4x512, .f32⟩
  | 57 => ⟨S1x8192x4x512, .f32⟩
  | 58 => ⟨S1x64x128x4x512, .f32⟩
  | 59 => ⟨S64x1x4x128x512, .f32⟩
  | 60 => ⟨S_, .f32⟩
  | 61 => ⟨S1x4x256x512, .f32⟩
  | 62 => ⟨S_, .f32⟩
  | 63 => ⟨S64x1x4x128x256, .f32⟩
  | 64 => ⟨S_, .f32⟩
  | 65 => ⟨S64x1x4x128x256, .f32⟩
  | 66 => ⟨S_, .f32⟩
  | 67 => ⟨S64x1x4x128x512, .f32⟩
  | 68 => ⟨S_, .i32⟩
  | 69 => ⟨S64x1x4x128x512, .f32⟩
  | 70 => ⟨S64x1x4x128x256, .f32⟩
  | 71 => ⟨S64x1x4x128x256, .f32⟩
  | 72 => ⟨S64x1x4x128x512, .f32⟩
  | 73 => ⟨S64x1x4x128x128, .f32⟩
  | 74 => ⟨S64x1x4x256x512, .f32⟩
  | 75 => ⟨S64x1x4x128x256, .f32⟩
  | 76 => ⟨S1x4x128x128, .f32⟩
  | 77 => ⟨S1x4x128x1, .f32⟩
  | 78 => ⟨S1x4x1x1, .f32⟩
  | 79 => ⟨S1x4x128x1, .f32⟩
  | 80 => ⟨S_, .i32⟩
  | 81 => ⟨S1x4x256x512, .f32⟩
  | 82 => ⟨S64x1x4x128x256, .f32⟩
  | 83 => ⟨S64x1x4x128x256, .f32⟩
  | 84 => ⟨S64x1x4x128x512, .f32⟩
  | 85 => ⟨S_, .i32⟩
  | 86 => ⟨S_, .i1⟩
  | 87 => ⟨S_, .i32⟩
  | 88 => ⟨S_, .i32⟩
  | 89 => ⟨S_, .i32⟩
  | 90 => ⟨S_, .i32⟩
  | 91 => ⟨S_, .i32⟩
  | 92 => ⟨S_, .i32⟩
  | 93 => ⟨S_, .i32⟩
  | 94 => ⟨S_, .i32⟩
  | 95 => ⟨S1x1x4x128x512, .f32⟩
  | 96 => ⟨S1x4x128x512, .f32⟩
  | 97 => ⟨S_, .i32⟩
  | 98 => ⟨S_, .i32⟩
  | 99 => ⟨S_, .i32⟩
  | 100 => ⟨S_, .i32⟩
  | 101 => ⟨S1x1x4x128x256, .f32⟩
  | 102 => ⟨S1x4x128x256, .f32⟩
  | 103 => ⟨S_, .i32⟩
  | 104 => ⟨S_, .i32⟩
  | 105 => ⟨S_, .i32⟩
  | 106 => ⟨S_, .i32⟩
  | 107 => ⟨S1x1x4x128x256, .f32⟩
  | 108 => ⟨S1x4x128x256, .f32⟩
  | 109 => ⟨S_, .i32⟩
  | 110 => ⟨S_, .i32⟩
  | 111 => ⟨S_, .i32⟩
  | 112 => ⟨S_, .i32⟩
  | 113 => ⟨S1x1x4x128x512, .f32⟩
  | 114 => ⟨S1x4x128x512, .f32⟩
  | 115 => ⟨S_, .i32⟩
  | 116 => ⟨S_, .i32⟩
  | 117 => ⟨S_, .i32⟩
  | 118 => ⟨S_, .i32⟩
  | 119 => ⟨S1x1x4x128x128, .f32⟩
  | 120 => ⟨S1x4x128x128, .f32⟩
  | 121 => ⟨S_, .i32⟩
  | 122 => ⟨S_, .i32⟩
  | 123 => ⟨S_, .i32⟩
  | 124 => ⟨S_, .i32⟩
  | 125 => ⟨S1x1x4x256x512, .f32⟩
  | 126 => ⟨S1x4x256x512, .f32⟩
  | 127 => ⟨S_, .i32⟩
  | _ => ⟨S1x8192x11264, .f32⟩

abbrev hbmTy0_3 (i : Nat) : BufTy := match i % 128 with
  | 0 => ⟨S_, .i32⟩
  | 1 => ⟨S_, .i32⟩
  | 2 => ⟨S_, .i32⟩
  | 3 => ⟨S1x1x4x128x256, .f32⟩
  | 4 => ⟨S1x4x128x256, .f32⟩
  | 5 => ⟨S1x4x512x128, .f32⟩
  | 6 => ⟨S1x4x128x512, .f32⟩
  | 7 => ⟨S1x4x256x128, .f32⟩
  | 8 => ⟨S1x4x128x256, .f32⟩
  | 9 => ⟨S1x4x128x256, .f32⟩
  | 10 => ⟨S1x4x128x256, .f32⟩
  | 11 => ⟨S1x4x256x512, .f32⟩
  | 12 => ⟨S1x4x256x512, .f32⟩
  | 13 => ⟨S1x4x128x512, .f32⟩
  | 14 => ⟨S1x4x128x512, .f32⟩
  | 15 => ⟨S1x4x512x256, .f32⟩
  | 16 => ⟨S1x4x256x512, .f32⟩
  | 17 => ⟨S1x4x256x512, .f32⟩
  | 18 => ⟨S1x4x128x256, .f32⟩
  | 19 => ⟨S1x4x512x128, .f32⟩
  | 20 => ⟨S1x4x128x512, .f32⟩
  | 21 => ⟨S1x4x128x512, .f32⟩
  | 22 => ⟨S1x4x128x128, .f32⟩
  | 23 => ⟨S1x4x128x128, .f32⟩
  | 24 => ⟨S1x4x128x256, .f32⟩
  | 25 => ⟨S1x4x128x256, .f32⟩
  | 26 => ⟨S1x4x128x256, .f32⟩
  | 27 => ⟨S1x4x128x256, .f32⟩
  | 28 => ⟨S1x1x4x128x256, .f32⟩
  | 29 => ⟨S_, .i32⟩
  | 30 => ⟨S_, .i32⟩
  | 31 => ⟨S_, .i32⟩
  | 32 => ⟨S_, .i32⟩
  | 33 => ⟨S64x1x4x128x256, .f32⟩
  | 34 => ⟨S1x1x4x128x256, .f32⟩
  | 35 => ⟨S_, .i32⟩
  | 36 => ⟨S_, .i32⟩
  | 37 => ⟨S_, .i32⟩
  | 38 => ⟨S_, .i32⟩
  | 39 => ⟨S64x1x4x128x256, .f32⟩
  | 40 => ⟨S1x1x4x128x512, .f32⟩
  | 41 => ⟨S_, .i32⟩
  | 42 => ⟨S_, .i32⟩
  | 43 => ⟨S_, .i32⟩
  | 44 => ⟨S_, .i32⟩
  | 45 => ⟨S64x1x4x128x512, .f32⟩
  | 46 => ⟨S_, .i32⟩
  | 47 => ⟨S_, .i32⟩
  | 48 => ⟨S1x64x128x4x512, .f32⟩
  | 49 => ⟨S1x8192x4x512, .f32⟩
  | 50 => ⟨S1x64x128x4x256, .f32⟩
  | 51 => ⟨S1x8192x4x256, .f32⟩
  | 52 => ⟨S1x64x128x4x256, .f32⟩
  | 53 => ⟨S1x8192x4x256, .f32⟩
  | 54 => ⟨S1x8192x2048, .f32⟩
  | 55 => ⟨S_, .f32⟩
  | 56 => ⟨S1x8192x4x256, .f32⟩
  | 57 => ⟨S1x8192x4x256, .f32⟩
  | 58 => ⟨S1x8192x4x128, .f32⟩
  | 59 => ⟨S1x8192x4x128, .f32⟩
  | 60 => ⟨S1x8192x4x128, .f32⟩
  | 61 => ⟨S1x8192x4x128, .f32⟩
  | 62 => ⟨S1x8192x4x128, .f32⟩
  | 63 => ⟨S1x8192x4x128, .f32⟩
  | 64 => ⟨S1x8192x4x128, .f32⟩
  | 65 => ⟨S1x8192x4x128, .f32⟩
  | 66 => ⟨S1x8192x4x128, .f32⟩
  | 67 => ⟨S1x8192x4x128, .f32⟩
  | 68 => ⟨S1x8192x4x128, .f32⟩
  | 69 => ⟨S1x8192x4x128, .f32⟩
  | 70 => ⟨S1x8192x4x128, .f32⟩
  | 71 => ⟨S_, .f32⟩
  | 72 => ⟨S1x8192x4x256, .f32⟩
  | 73 => ⟨S_, .f32⟩
  | 74 => ⟨S1x8192x4x256, .f32⟩
  | 75 => ⟨S1x8192x4x256, .f32⟩
  | 76 => ⟨S1x8192x1024, .f32⟩
  | 77 => ⟨S1x8192x4x128, .f32⟩
  | 78 => ⟨S1x8192x4x128, .f32⟩
  | 79 => ⟨S1x8192x4x128, .f32⟩
  | 80 => ⟨S1x8192x4x128, .f32⟩
  | 81 => ⟨S1x8192x4x128, .f32⟩
  | 82 => ⟨S1x8192x4x128, .f32⟩
  | 83 => ⟨S1x8192x4x128, .f32⟩
  | 84 => ⟨S1x8192x4x128, .f32⟩
  | 85 => ⟨S1x8192x4x128, .f32⟩
  | 86 => ⟨S1x8192x4x128, .f32⟩
  | 87 => ⟨S1x8192x4x128, .f32⟩
  | 88 => ⟨S1x8192x4x128, .f32⟩
  | 89 => ⟨S1x8192x4x128, .f32⟩
  | 90 => ⟨S_, .f32⟩
  | 91 => ⟨S1x8192x4x256, .f32⟩
  | 92 => ⟨S_, .f32⟩
  | 93 => ⟨S1x8192x4x256, .f32⟩
  | 94 => ⟨S1x8192x4x256, .f32⟩
  | 95 => ⟨S1x8192x1024, .f32⟩
  | 96 => ⟨S8192x4x256, .f32⟩
  | 97 => ⟨S8192x4x256, .f32⟩
  | 98 => ⟨S8192x4x512, .f32⟩
  | 99 => ⟨S8192x4x512, .f32⟩
  | 100 => ⟨S8192x2048, .f32⟩
  | 101 => ⟨S8192x2048, .bf16⟩
  | 102 => ⟨S8192x4x1536, .f32⟩
  | 103 => ⟨S8192x6144, .f32⟩
  | 104 => ⟨S8192x6144, .bf16⟩
  | _ => ⟨S1x8192x11264, .f32⟩

abbrev hbmTy (i : Nat) : BufTy := match i / 128 with
  | 0 => hbmTy0_0 i
  | 1 => hbmTy0_1 i
  | 2 => hbmTy0_2 i
  | 3 => hbmTy0_3 i
  | _ => ⟨S1x8192x11264, .f32⟩

abbrev bufTy : (tb : Table) → Fin (tcTables nBuf tb) → BufTy
  | .hbm, ⟨i, _⟩ => hbmTy i
  | _, _ => ⟨S1x8192x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_cst_1 : Ref sig .tc := ⟨.hbm, 43, rfl⟩
abbrev main_v38 : Ref sig .tc := ⟨.hbm, 44, rfl⟩
abbrev main_v39 : Ref sig .tc := ⟨.hbm, 45, rfl⟩
abbrev main_cst_2 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_cst_3 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_cst_4 : Ref sig .tc := ⟨.hbm, 77, rfl⟩
abbrev main_v69 : Ref sig .tc := ⟨.hbm, 78, rfl⟩
abbrev main_v70 : Ref sig .tc := ⟨.hbm, 79, rfl⟩
abbrev main_cst_5 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_cst_6 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_cst_7 : Ref sig .tc := ⟨.hbm, 96, rfl⟩
abbrev main_call0_v0 : Ref sig .tc := ⟨.hbm, 97, rfl⟩
abbrev main_call0_v1 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_cst_8 : Ref sig .tc := ⟨.hbm, 105, rfl⟩
abbrev main_call1_v0 : Ref sig .tc := ⟨.hbm, 106, rfl⟩
abbrev main_call1_v1 : Ref sig .tc := ⟨.hbm, 107, rfl⟩
abbrev main_call1_v2 : Ref sig .tc := ⟨.hbm, 108, rfl⟩
abbrev main_v91 : Ref sig .tc := ⟨.hbm, 109, rfl⟩
abbrev main_v92 : Ref sig .tc := ⟨.hbm, 110, rfl⟩
abbrev main_cst_9 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_cst_10 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_cst_11 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_cst_12 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_cst_13 : Ref sig .tc := ⟨.hbm, 144, rfl⟩
abbrev main_v122 : Ref sig .tc := ⟨.hbm, 145, rfl⟩
abbrev main_cst_14 : Ref sig .tc := ⟨.hbm, 146, rfl⟩
abbrev main_v123 : Ref sig .tc := ⟨.hbm, 147, rfl⟩
abbrev main_cst_15 : Ref sig .tc := ⟨.hbm, 148, rfl⟩
abbrev main_v124 : Ref sig .tc := ⟨.hbm, 149, rfl⟩
abbrev main_cst_16 : Ref sig .tc := ⟨.hbm, 150, rfl⟩
abbrev main_v125 : Ref sig .tc := ⟨.hbm, 151, rfl⟩
abbrev main_c : Ref sig .tc := ⟨.hbm, 152, rfl⟩
abbrev main_v126_0 : Ref sig .tc := ⟨.hbm, 153, rfl⟩
abbrev main_v126_1 : Ref sig .tc := ⟨.hbm, 154, rfl⟩
abbrev main_v126_2 : Ref sig .tc := ⟨.hbm, 155, rfl⟩
abbrev main_v126_3 : Ref sig .tc := ⟨.hbm, 156, rfl⟩
abbrev main_v126_4 : Ref sig .tc := ⟨.hbm, 157, rfl⟩
abbrev main_v126_5 : Ref sig .tc := ⟨.hbm, 158, rfl⟩
abbrev main_v126_6 : Ref sig .tc := ⟨.hbm, 159, rfl⟩
abbrev main_v126_7 : Ref sig .tc := ⟨.hbm, 160, rfl⟩
abbrev main_v126_8 : Ref sig .tc := ⟨.hbm, 161, rfl⟩
abbrev main_v126_9 : Ref sig .tc := ⟨.hbm, 162, rfl⟩
abbrev main_v126_10 : Ref sig .tc := ⟨.hbm, 163, rfl⟩
abbrev main_v126_11 : Ref sig .tc := ⟨.hbm, 164, rfl⟩
abbrev main_v126_12 : Ref sig .tc := ⟨.hbm, 165, rfl⟩
abbrev main_while0c_c_54 : Ref sig .tc := ⟨.hbm, 166, rfl⟩
abbrev main_while0c_v245 : Ref sig .tc := ⟨.hbm, 167, rfl⟩
abbrev main_while0b_call2_c : Ref sig .tc := ⟨.hbm, 168, rfl⟩
abbrev main_while0b_call2_c_0 : Ref sig .tc := ⟨.hbm, 169, rfl⟩
abbrev main_while0b_call2_c_1 : Ref sig .tc := ⟨.hbm, 170, rfl⟩
abbrev main_while0b_call2_c_2 : Ref sig .tc := ⟨.hbm, 171, rfl⟩
abbrev main_while0b_call2_v0 : Ref sig .tc := ⟨.hbm, 172, rfl⟩
abbrev main_while0b_v245 : Ref sig .tc := ⟨.hbm, 173, rfl⟩
abbrev main_while0b_call3_c : Ref sig .tc := ⟨.hbm, 174, rfl⟩
abbrev main_while0b_call3_c_0 : Ref sig .tc := ⟨.hbm, 175, rfl⟩
abbrev main_while0b_call3_c_1 : Ref sig .tc := ⟨.hbm, 176, rfl⟩
abbrev main_while0b_call3_c_2 : Ref sig .tc := ⟨.hbm, 177, rfl⟩
abbrev main_while0b_call3_v0 : Ref sig .tc := ⟨.hbm, 178, rfl⟩
abbrev main_while0b_v246 : Ref sig .tc := ⟨.hbm, 179, rfl⟩
abbrev main_while0b_call4_c : Ref sig .tc := ⟨.hbm, 180, rfl⟩
abbrev main_while0b_call4_c_0 : Ref sig .tc := ⟨.hbm, 181, rfl⟩
abbrev main_while0b_call4_c_1 : Ref sig .tc := ⟨.hbm, 182, rfl⟩
abbrev main_while0b_call4_c_2 : Ref sig .tc := ⟨.hbm, 183, rfl⟩
abbrev main_while0b_call4_v0 : Ref sig .tc := ⟨.hbm, 184, rfl⟩
abbrev main_while0b_v247 : Ref sig .tc := ⟨.hbm, 185, rfl⟩
abbrev main_while0b_v248 : Ref sig .tc := ⟨.hbm, 186, rfl⟩
abbrev main_while0b_v249 : Ref sig .tc := ⟨.hbm, 187, rfl⟩
abbrev main_while0b_v250 : Ref sig .tc := ⟨.hbm, 188, rfl⟩
abbrev main_while0b_v251 : Ref sig .tc := ⟨.hbm, 189, rfl⟩
abbrev main_while0b_v252 : Ref sig .tc := ⟨.hbm, 190, rfl⟩
abbrev main_while0b_v253 : Ref sig .tc := ⟨.hbm, 191, rfl⟩
abbrev main_while0b_v254 : Ref sig .tc := ⟨.hbm, 192, rfl⟩
abbrev main_while0b_v255 : Ref sig .tc := ⟨.hbm, 193, rfl⟩
abbrev main_while0b_v256 : Ref sig .tc := ⟨.hbm, 194, rfl⟩
abbrev main_while0b_v257 : Ref sig .tc := ⟨.hbm, 195, rfl⟩
abbrev main_while0b_v258 : Ref sig .tc := ⟨.hbm, 196, rfl⟩
abbrev main_while0b_v259 : Ref sig .tc := ⟨.hbm, 197, rfl⟩
abbrev main_while0b_v260 : Ref sig .tc := ⟨.hbm, 198, rfl⟩
abbrev main_while0b_call5_v0 : Ref sig .tc := ⟨.hbm, 199, rfl⟩
abbrev main_while0b_call5_c : Ref sig .tc := ⟨.hbm, 200, rfl⟩
abbrev main_while0b_call5_c_0 : Ref sig .tc := ⟨.hbm, 201, rfl⟩
abbrev main_while0b_call5_c_1 : Ref sig .tc := ⟨.hbm, 202, rfl⟩
abbrev main_while0b_call5_c_2 : Ref sig .tc := ⟨.hbm, 203, rfl⟩
abbrev main_while0b_v261 : Ref sig .tc := ⟨.hbm, 204, rfl⟩
abbrev main_while0b_call6_v0 : Ref sig .tc := ⟨.hbm, 205, rfl⟩
abbrev main_while0b_call6_c : Ref sig .tc := ⟨.hbm, 206, rfl⟩
abbrev main_while0b_call6_c_0 : Ref sig .tc := ⟨.hbm, 207, rfl⟩
abbrev main_while0b_call6_c_1 : Ref sig .tc := ⟨.hbm, 208, rfl⟩
abbrev main_while0b_call6_c_2 : Ref sig .tc := ⟨.hbm, 209, rfl⟩
abbrev main_while0b_v262 : Ref sig .tc := ⟨.hbm, 210, rfl⟩
abbrev main_while0b_call7_v0 : Ref sig .tc := ⟨.hbm, 211, rfl⟩
abbrev main_while0b_call7_c : Ref sig .tc := ⟨.hbm, 212, rfl⟩
abbrev main_while0b_call7_c_0 : Ref sig .tc := ⟨.hbm, 213, rfl⟩
abbrev main_while0b_call7_c_1 : Ref sig .tc := ⟨.hbm, 214, rfl⟩
abbrev main_while0b_call7_c_2 : Ref sig .tc := ⟨.hbm, 215, rfl⟩
abbrev main_while0b_v263 : Ref sig .tc := ⟨.hbm, 216, rfl⟩
abbrev main_while0b_call8_v0 : Ref sig .tc := ⟨.hbm, 217, rfl⟩
abbrev main_while0b_call8_c : Ref sig .tc := ⟨.hbm, 218, rfl⟩
abbrev main_while0b_call8_c_0 : Ref sig .tc := ⟨.hbm, 219, rfl⟩
abbrev main_while0b_call8_c_1 : Ref sig .tc := ⟨.hbm, 220, rfl⟩
abbrev main_while0b_call8_c_2 : Ref sig .tc := ⟨.hbm, 221, rfl⟩
abbrev main_while0b_v264 : Ref sig .tc := ⟨.hbm, 222, rfl⟩
abbrev main_while0b_c_54 : Ref sig .tc := ⟨.hbm, 223, rfl⟩
abbrev main_while0b_v265 : Ref sig .tc := ⟨.hbm, 224, rfl⟩
abbrev main_v127 : Ref sig .tc := ⟨.hbm, 225, rfl⟩
abbrev main_v128 : Ref sig .tc := ⟨.hbm, 226, rfl⟩
abbrev main_cst_17 : Ref sig .tc := ⟨.hbm, 227, rfl⟩
abbrev main_v129 : Ref sig .tc := ⟨.hbm, 228, rfl⟩
abbrev main_v130 : Ref sig .tc := ⟨.hbm, 229, rfl⟩
abbrev main_cst_18 : Ref sig .tc := ⟨.hbm, 230, rfl⟩
abbrev main_v131 : Ref sig .tc := ⟨.hbm, 231, rfl⟩
abbrev main_v132 : Ref sig .tc := ⟨.hbm, 232, rfl⟩
abbrev main_v133 : Ref sig .tc := ⟨.hbm, 233, rfl⟩
abbrev main_v134 : Ref sig .tc := ⟨.hbm, 234, rfl⟩
abbrev main_v135 : Ref sig .tc := ⟨.hbm, 235, rfl⟩
abbrev main_cst_19 : Ref sig .tc := ⟨.hbm, 236, rfl⟩
abbrev main_v136 : Ref sig .tc := ⟨.hbm, 237, rfl⟩
abbrev main_v137 : Ref sig .tc := ⟨.hbm, 238, rfl⟩
abbrev main_cst_20 : Ref sig .tc := ⟨.hbm, 239, rfl⟩
abbrev main_v138 : Ref sig .tc := ⟨.hbm, 240, rfl⟩
abbrev main_v139 : Ref sig .tc := ⟨.hbm, 241, rfl⟩
abbrev main_cst_21 : Ref sig .tc := ⟨.hbm, 242, rfl⟩
abbrev main_v140 : Ref sig .tc := ⟨.hbm, 243, rfl⟩
abbrev main_v141 : Ref sig .tc := ⟨.hbm, 244, rfl⟩
abbrev main_v142 : Ref sig .tc := ⟨.hbm, 245, rfl⟩
abbrev main_v143 : Ref sig .tc := ⟨.hbm, 246, rfl⟩
abbrev main_cst_22 : Ref sig .tc := ⟨.hbm, 247, rfl⟩
abbrev main_v144 : Ref sig .tc := ⟨.hbm, 248, rfl⟩
abbrev main_v145 : Ref sig .tc := ⟨.hbm, 249, rfl⟩
abbrev main_v146 : Ref sig .tc := ⟨.hbm, 250, rfl⟩
abbrev main_v147 : Ref sig .tc := ⟨.hbm, 251, rfl⟩
abbrev main_cst_23 : Ref sig .tc := ⟨.hbm, 252, rfl⟩
abbrev main_v148 : Ref sig .tc := ⟨.hbm, 253, rfl⟩
abbrev main_v149 : Ref sig .tc := ⟨.hbm, 254, rfl⟩
abbrev main_v150 : Ref sig .tc := ⟨.hbm, 255, rfl⟩
abbrev main_v151 : Ref sig .tc := ⟨.hbm, 256, rfl⟩
abbrev main_v152 : Ref sig .tc := ⟨.hbm, 257, rfl⟩
abbrev main_call9_v0 : Ref sig .tc := ⟨.hbm, 258, rfl⟩
abbrev main_call9_v1 : Ref sig .tc := ⟨.hbm, 259, rfl⟩
abbrev main_call9_cst : Ref sig .tc := ⟨.hbm, 260, rfl⟩
abbrev main_call9_v2 : Ref sig .tc := ⟨.hbm, 261, rfl⟩
abbrev main_call9_v3 : Ref sig .tc := ⟨.hbm, 262, rfl⟩
abbrev main_call9_cst_0 : Ref sig .tc := ⟨.hbm, 263, rfl⟩
abbrev main_call9_v4 : Ref sig .tc := ⟨.hbm, 264, rfl⟩
abbrev main_v153_2 : Ref sig .tc := ⟨.hbm, 265, rfl⟩
abbrev main_call9_cst_1 : Ref sig .tc := ⟨.hbm, 266, rfl⟩
abbrev main_call9_v6 : Ref sig .tc := ⟨.hbm, 267, rfl⟩
abbrev main_call9_v7 : Ref sig .tc := ⟨.hbm, 268, rfl⟩
abbrev main_v153_1 : Ref sig .tc := ⟨.hbm, 269, rfl⟩
abbrev main_v153_0 : Ref sig .tc := ⟨.hbm, 270, rfl⟩
abbrev main_v154 : Ref sig .tc := ⟨.hbm, 271, rfl⟩
abbrev main_cst_24 : Ref sig .tc := ⟨.hbm, 272, rfl⟩
abbrev main_v155 : Ref sig .tc := ⟨.hbm, 273, rfl⟩
abbrev main_v156 : Ref sig .tc := ⟨.hbm, 274, rfl⟩
abbrev main_v157 : Ref sig .tc := ⟨.hbm, 275, rfl⟩
abbrev main_call10_v0 : Ref sig .tc := ⟨.hbm, 276, rfl⟩
abbrev main_call10_v1 : Ref sig .tc := ⟨.hbm, 277, rfl⟩
abbrev main_call10_v2 : Ref sig .tc := ⟨.hbm, 278, rfl⟩
abbrev main_v158 : Ref sig .tc := ⟨.hbm, 279, rfl⟩
abbrev main_v159 : Ref sig .tc := ⟨.hbm, 280, rfl⟩
abbrev main_v160 : Ref sig .tc := ⟨.hbm, 281, rfl⟩
abbrev main_cst_25 : Ref sig .tc := ⟨.hbm, 282, rfl⟩
abbrev main_v161 : Ref sig .tc := ⟨.hbm, 283, rfl⟩
abbrev main_v162 : Ref sig .tc := ⟨.hbm, 284, rfl⟩
abbrev main_v163 : Ref sig .tc := ⟨.hbm, 285, rfl⟩
abbrev main_v164 : Ref sig .tc := ⟨.hbm, 286, rfl⟩
abbrev main_v165 : Ref sig .tc := ⟨.hbm, 287, rfl⟩
abbrev main_v166 : Ref sig .tc := ⟨.hbm, 288, rfl⟩
abbrev main_cst_26 : Ref sig .tc := ⟨.hbm, 289, rfl⟩
abbrev main_v167 : Ref sig .tc := ⟨.hbm, 290, rfl⟩
abbrev main_v168 : Ref sig .tc := ⟨.hbm, 291, rfl⟩
abbrev main_cst_27 : Ref sig .tc := ⟨.hbm, 292, rfl⟩
abbrev main_v169 : Ref sig .tc := ⟨.hbm, 293, rfl⟩
abbrev main_v170 : Ref sig .tc := ⟨.hbm, 294, rfl⟩
abbrev main_cst_28 : Ref sig .tc := ⟨.hbm, 295, rfl⟩
abbrev main_v171 : Ref sig .tc := ⟨.hbm, 296, rfl⟩
abbrev main_v172 : Ref sig .tc := ⟨.hbm, 297, rfl⟩
abbrev main_v173 : Ref sig .tc := ⟨.hbm, 298, rfl⟩
abbrev main_v174 : Ref sig .tc := ⟨.hbm, 299, rfl⟩
abbrev main_v175 : Ref sig .tc := ⟨.hbm, 300, rfl⟩
abbrev main_cst_29 : Ref sig .tc := ⟨.hbm, 301, rfl⟩
abbrev main_v176 : Ref sig .tc := ⟨.hbm, 302, rfl⟩
abbrev main_v177 : Ref sig .tc := ⟨.hbm, 303, rfl⟩
abbrev main_v178 : Ref sig .tc := ⟨.hbm, 304, rfl⟩
abbrev main_v179 : Ref sig .tc := ⟨.hbm, 305, rfl⟩
abbrev main_cst_30 : Ref sig .tc := ⟨.hbm, 306, rfl⟩
abbrev main_v180 : Ref sig .tc := ⟨.hbm, 307, rfl⟩
abbrev main_v181 : Ref sig .tc := ⟨.hbm, 308, rfl⟩
abbrev main_cst_31 : Ref sig .tc := ⟨.hbm, 309, rfl⟩
abbrev main_v182 : Ref sig .tc := ⟨.hbm, 310, rfl⟩
abbrev main_v183 : Ref sig .tc := ⟨.hbm, 311, rfl⟩
abbrev main_v184 : Ref sig .tc := ⟨.hbm, 312, rfl⟩
abbrev main_v185 : Ref sig .tc := ⟨.hbm, 313, rfl⟩
abbrev main_v186 : Ref sig .tc := ⟨.hbm, 314, rfl⟩
abbrev main_v187 : Ref sig .tc := ⟨.hbm, 315, rfl⟩
abbrev main_cst_32 : Ref sig .tc := ⟨.hbm, 316, rfl⟩
abbrev main_v188 : Ref sig .tc := ⟨.hbm, 317, rfl⟩
abbrev main_cst_33 : Ref sig .tc := ⟨.hbm, 318, rfl⟩
abbrev main_v189 : Ref sig .tc := ⟨.hbm, 319, rfl⟩
abbrev main_cst_34 : Ref sig .tc := ⟨.hbm, 320, rfl⟩
abbrev main_v190 : Ref sig .tc := ⟨.hbm, 321, rfl⟩
abbrev main_cst_35 : Ref sig .tc := ⟨.hbm, 322, rfl⟩
abbrev main_v191 : Ref sig .tc := ⟨.hbm, 323, rfl⟩
abbrev main_c_36 : Ref sig .tc := ⟨.hbm, 324, rfl⟩
abbrev main_v192_0 : Ref sig .tc := ⟨.hbm, 325, rfl⟩
abbrev main_v192_1 : Ref sig .tc := ⟨.hbm, 326, rfl⟩
abbrev main_v192_2 : Ref sig .tc := ⟨.hbm, 327, rfl⟩
abbrev main_v192_3 : Ref sig .tc := ⟨.hbm, 328, rfl⟩
abbrev main_v192_4 : Ref sig .tc := ⟨.hbm, 329, rfl⟩
abbrev main_v192_5 : Ref sig .tc := ⟨.hbm, 330, rfl⟩
abbrev main_v192_6 : Ref sig .tc := ⟨.hbm, 331, rfl⟩
abbrev main_v192_7 : Ref sig .tc := ⟨.hbm, 332, rfl⟩
abbrev main_v192_8 : Ref sig .tc := ⟨.hbm, 333, rfl⟩
abbrev main_v192_9 : Ref sig .tc := ⟨.hbm, 334, rfl⟩
abbrev main_v192_10 : Ref sig .tc := ⟨.hbm, 335, rfl⟩
abbrev main_v192_11 : Ref sig .tc := ⟨.hbm, 336, rfl⟩
abbrev main_v192_12 : Ref sig .tc := ⟨.hbm, 337, rfl⟩
abbrev main_v192_13 : Ref sig .tc := ⟨.hbm, 338, rfl⟩
abbrev main_v192_14 : Ref sig .tc := ⟨.hbm, 339, rfl⟩
abbrev main_v192_15 : Ref sig .tc := ⟨.hbm, 340, rfl⟩
abbrev main_while1c_c_57 : Ref sig .tc := ⟨.hbm, 341, rfl⟩
abbrev main_while1c_v245 : Ref sig .tc := ⟨.hbm, 342, rfl⟩
abbrev main_while1b_c_57 : Ref sig .tc := ⟨.hbm, 343, rfl⟩
abbrev main_while1b_v245 : Ref sig .tc := ⟨.hbm, 344, rfl⟩
abbrev main_while1b_c_58 : Ref sig .tc := ⟨.hbm, 345, rfl⟩
abbrev main_while1b_v246 : Ref sig .tc := ⟨.hbm, 346, rfl⟩
abbrev main_while1b_call11_c : Ref sig .tc := ⟨.hbm, 347, rfl⟩
abbrev main_while1b_call11_c_0 : Ref sig .tc := ⟨.hbm, 348, rfl⟩
abbrev main_while1b_call11_c_1 : Ref sig .tc := ⟨.hbm, 349, rfl⟩
abbrev main_while1b_call11_c_2 : Ref sig .tc := ⟨.hbm, 350, rfl⟩
abbrev main_while1b_call11_v0 : Ref sig .tc := ⟨.hbm, 351, rfl⟩
abbrev main_while1b_v247 : Ref sig .tc := ⟨.hbm, 352, rfl⟩
abbrev main_while1b_call12_c : Ref sig .tc := ⟨.hbm, 353, rfl⟩
abbrev main_while1b_call12_c_0 : Ref sig .tc := ⟨.hbm, 354, rfl⟩
abbrev main_while1b_call12_c_1 : Ref sig .tc := ⟨.hbm, 355, rfl⟩
abbrev main_while1b_call12_c_2 : Ref sig .tc := ⟨.hbm, 356, rfl⟩
abbrev main_while1b_call12_v0 : Ref sig .tc := ⟨.hbm, 357, rfl⟩
abbrev main_while1b_v248 : Ref sig .tc := ⟨.hbm, 358, rfl⟩
abbrev main_while1b_call13_c : Ref sig .tc := ⟨.hbm, 359, rfl⟩
abbrev main_while1b_call13_c_0 : Ref sig .tc := ⟨.hbm, 360, rfl⟩
abbrev main_while1b_call13_c_1 : Ref sig .tc := ⟨.hbm, 361, rfl⟩
abbrev main_while1b_call13_c_2 : Ref sig .tc := ⟨.hbm, 362, rfl⟩
abbrev main_while1b_call13_v0 : Ref sig .tc := ⟨.hbm, 363, rfl⟩
abbrev main_while1b_v249 : Ref sig .tc := ⟨.hbm, 364, rfl⟩
abbrev main_while1b_call14_c : Ref sig .tc := ⟨.hbm, 365, rfl⟩
abbrev main_while1b_call14_c_0 : Ref sig .tc := ⟨.hbm, 366, rfl⟩
abbrev main_while1b_call14_c_1 : Ref sig .tc := ⟨.hbm, 367, rfl⟩
abbrev main_while1b_call14_c_2 : Ref sig .tc := ⟨.hbm, 368, rfl⟩
abbrev main_while1b_call14_v0 : Ref sig .tc := ⟨.hbm, 369, rfl⟩
abbrev main_while1b_v250 : Ref sig .tc := ⟨.hbm, 370, rfl⟩
abbrev main_while1b_call15_c : Ref sig .tc := ⟨.hbm, 371, rfl⟩
abbrev main_while1b_call15_c_0 : Ref sig .tc := ⟨.hbm, 372, rfl⟩
abbrev main_while1b_call15_c_1 : Ref sig .tc := ⟨.hbm, 373, rfl⟩
abbrev main_while1b_call15_c_2 : Ref sig .tc := ⟨.hbm, 374, rfl⟩
abbrev main_while1b_call15_v0 : Ref sig .tc := ⟨.hbm, 375, rfl⟩
abbrev main_while1b_v251 : Ref sig .tc := ⟨.hbm, 376, rfl⟩
abbrev main_while1b_call16_c : Ref sig .tc := ⟨.hbm, 377, rfl⟩
abbrev main_while1b_call16_c_0 : Ref sig .tc := ⟨.hbm, 378, rfl⟩
abbrev main_while1b_call16_c_1 : Ref sig .tc := ⟨.hbm, 379, rfl⟩
abbrev main_while1b_call16_c_2 : Ref sig .tc := ⟨.hbm, 380, rfl⟩
abbrev main_while1b_call16_v0 : Ref sig .tc := ⟨.hbm, 381, rfl⟩
abbrev main_while1b_v252 : Ref sig .tc := ⟨.hbm, 382, rfl⟩
abbrev main_while1b_call17_c : Ref sig .tc := ⟨.hbm, 383, rfl⟩
abbrev main_while1b_call17_c_0 : Ref sig .tc := ⟨.hbm, 384, rfl⟩
abbrev main_while1b_call17_c_1 : Ref sig .tc := ⟨.hbm, 385, rfl⟩
abbrev main_while1b_call17_c_2 : Ref sig .tc := ⟨.hbm, 386, rfl⟩
abbrev main_while1b_call17_v0 : Ref sig .tc := ⟨.hbm, 387, rfl⟩
abbrev main_while1b_v253 : Ref sig .tc := ⟨.hbm, 388, rfl⟩
abbrev main_while1b_v254 : Ref sig .tc := ⟨.hbm, 389, rfl⟩
abbrev main_while1b_v255 : Ref sig .tc := ⟨.hbm, 390, rfl⟩
abbrev main_while1b_v256 : Ref sig .tc := ⟨.hbm, 391, rfl⟩
abbrev main_while1b_v257 : Ref sig .tc := ⟨.hbm, 392, rfl⟩
abbrev main_while1b_v258 : Ref sig .tc := ⟨.hbm, 393, rfl⟩
abbrev main_while1b_v259 : Ref sig .tc := ⟨.hbm, 394, rfl⟩
abbrev main_while1b_v260 : Ref sig .tc := ⟨.hbm, 395, rfl⟩
abbrev main_while1b_v261 : Ref sig .tc := ⟨.hbm, 396, rfl⟩
abbrev main_while1b_v262 : Ref sig .tc := ⟨.hbm, 397, rfl⟩
abbrev main_while1b_v263 : Ref sig .tc := ⟨.hbm, 398, rfl⟩
abbrev main_while1b_v264 : Ref sig .tc := ⟨.hbm, 399, rfl⟩
abbrev main_while1b_v265 : Ref sig .tc := ⟨.hbm, 400, rfl⟩
abbrev main_while1b_v266 : Ref sig .tc := ⟨.hbm, 401, rfl⟩
abbrev main_while1b_v267 : Ref sig .tc := ⟨.hbm, 402, rfl⟩
abbrev main_while1b_v268 : Ref sig .tc := ⟨.hbm, 403, rfl⟩
abbrev main_while1b_v269 : Ref sig .tc := ⟨.hbm, 404, rfl⟩
abbrev main_while1b_v270 : Ref sig .tc := ⟨.hbm, 405, rfl⟩
abbrev main_while1b_v271 : Ref sig .tc := ⟨.hbm, 406, rfl⟩
abbrev main_while1b_v272 : Ref sig .tc := ⟨.hbm, 407, rfl⟩
abbrev main_while1b_v273 : Ref sig .tc := ⟨.hbm, 408, rfl⟩
abbrev main_while1b_v274 : Ref sig .tc := ⟨.hbm, 409, rfl⟩
abbrev main_while1b_v275 : Ref sig .tc := ⟨.hbm, 410, rfl⟩
abbrev main_while1b_v276 : Ref sig .tc := ⟨.hbm, 411, rfl⟩
abbrev main_while1b_call18_v0 : Ref sig .tc := ⟨.hbm, 412, rfl⟩
abbrev main_while1b_call18_c : Ref sig .tc := ⟨.hbm, 413, rfl⟩
abbrev main_while1b_call18_c_0 : Ref sig .tc := ⟨.hbm, 414, rfl⟩
abbrev main_while1b_call18_c_1 : Ref sig .tc := ⟨.hbm, 415, rfl⟩
abbrev main_while1b_call18_c_2 : Ref sig .tc := ⟨.hbm, 416, rfl⟩
abbrev main_while1b_v277 : Ref sig .tc := ⟨.hbm, 417, rfl⟩
abbrev main_while1b_call19_v0 : Ref sig .tc := ⟨.hbm, 418, rfl⟩
abbrev main_while1b_call19_c : Ref sig .tc := ⟨.hbm, 419, rfl⟩
abbrev main_while1b_call19_c_0 : Ref sig .tc := ⟨.hbm, 420, rfl⟩
abbrev main_while1b_call19_c_1 : Ref sig .tc := ⟨.hbm, 421, rfl⟩
abbrev main_while1b_call19_c_2 : Ref sig .tc := ⟨.hbm, 422, rfl⟩
abbrev main_while1b_v278 : Ref sig .tc := ⟨.hbm, 423, rfl⟩
abbrev main_while1b_call20_v0 : Ref sig .tc := ⟨.hbm, 424, rfl⟩
abbrev main_while1b_call20_c : Ref sig .tc := ⟨.hbm, 425, rfl⟩
abbrev main_while1b_call20_c_0 : Ref sig .tc := ⟨.hbm, 426, rfl⟩
abbrev main_while1b_call20_c_1 : Ref sig .tc := ⟨.hbm, 427, rfl⟩
abbrev main_while1b_call20_c_2 : Ref sig .tc := ⟨.hbm, 428, rfl⟩
abbrev main_while1b_v279 : Ref sig .tc := ⟨.hbm, 429, rfl⟩
abbrev main_while1b_c_59 : Ref sig .tc := ⟨.hbm, 430, rfl⟩
abbrev main_while1b_v280 : Ref sig .tc := ⟨.hbm, 431, rfl⟩
abbrev main_v193 : Ref sig .tc := ⟨.hbm, 432, rfl⟩
abbrev main_v194 : Ref sig .tc := ⟨.hbm, 433, rfl⟩
abbrev main_v195 : Ref sig .tc := ⟨.hbm, 434, rfl⟩
abbrev main_v196 : Ref sig .tc := ⟨.hbm, 435, rfl⟩
abbrev main_v197 : Ref sig .tc := ⟨.hbm, 436, rfl⟩
abbrev main_v198 : Ref sig .tc := ⟨.hbm, 437, rfl⟩
abbrev main_v199 : Ref sig .tc := ⟨.hbm, 438, rfl⟩
abbrev main_cst_37 : Ref sig .tc := ⟨.hbm, 439, rfl⟩
abbrev main_v200 : Ref sig .tc := ⟨.hbm, 440, rfl⟩
abbrev main_v201 : Ref sig .tc := ⟨.hbm, 441, rfl⟩
abbrev main_v202 : Ref sig .tc := ⟨.hbm, 442, rfl⟩
abbrev main_v203 : Ref sig .tc := ⟨.hbm, 443, rfl⟩
abbrev main_v204 : Ref sig .tc := ⟨.hbm, 444, rfl⟩
abbrev main_v205 : Ref sig .tc := ⟨.hbm, 445, rfl⟩
abbrev main_v206 : Ref sig .tc := ⟨.hbm, 446, rfl⟩
abbrev main_v207 : Ref sig .tc := ⟨.hbm, 447, rfl⟩
abbrev main_v208 : Ref sig .tc := ⟨.hbm, 448, rfl⟩
abbrev main_v209 : Ref sig .tc := ⟨.hbm, 449, rfl⟩
abbrev main_v210 : Ref sig .tc := ⟨.hbm, 450, rfl⟩
abbrev main_v211 : Ref sig .tc := ⟨.hbm, 451, rfl⟩
abbrev main_v212 : Ref sig .tc := ⟨.hbm, 452, rfl⟩
abbrev main_v213 : Ref sig .tc := ⟨.hbm, 453, rfl⟩
abbrev main_v214 : Ref sig .tc := ⟨.hbm, 454, rfl⟩
abbrev main_cst_38 : Ref sig .tc := ⟨.hbm, 455, rfl⟩
abbrev main_v215 : Ref sig .tc := ⟨.hbm, 456, rfl⟩
abbrev main_cst_39 : Ref sig .tc := ⟨.hbm, 457, rfl⟩
abbrev main_v216 : Ref sig .tc := ⟨.hbm, 458, rfl⟩
abbrev main_v217 : Ref sig .tc := ⟨.hbm, 459, rfl⟩
abbrev main_v218 : Ref sig .tc := ⟨.hbm, 460, rfl⟩
abbrev main_v219 : Ref sig .tc := ⟨.hbm, 461, rfl⟩
abbrev main_v220 : Ref sig .tc := ⟨.hbm, 462, rfl⟩
abbrev main_v221 : Ref sig .tc := ⟨.hbm, 463, rfl⟩
abbrev main_v222 : Ref sig .tc := ⟨.hbm, 464, rfl⟩
abbrev main_v223 : Ref sig .tc := ⟨.hbm, 465, rfl⟩
abbrev main_v224 : Ref sig .tc := ⟨.hbm, 466, rfl⟩
abbrev main_v225 : Ref sig .tc := ⟨.hbm, 467, rfl⟩
abbrev main_v226 : Ref sig .tc := ⟨.hbm, 468, rfl⟩
abbrev main_v227 : Ref sig .tc := ⟨.hbm, 469, rfl⟩
abbrev main_v228 : Ref sig .tc := ⟨.hbm, 470, rfl⟩
abbrev main_v229 : Ref sig .tc := ⟨.hbm, 471, rfl⟩
abbrev main_v230 : Ref sig .tc := ⟨.hbm, 472, rfl⟩
abbrev main_v231 : Ref sig .tc := ⟨.hbm, 473, rfl⟩
abbrev main_cst_40 : Ref sig .tc := ⟨.hbm, 474, rfl⟩
abbrev main_v232 : Ref sig .tc := ⟨.hbm, 475, rfl⟩
abbrev main_cst_41 : Ref sig .tc := ⟨.hbm, 476, rfl⟩
abbrev main_v233 : Ref sig .tc := ⟨.hbm, 477, rfl⟩
abbrev main_v234 : Ref sig .tc := ⟨.hbm, 478, rfl⟩
abbrev main_v235 : Ref sig .tc := ⟨.hbm, 479, rfl⟩
abbrev main_v236 : Ref sig .tc := ⟨.hbm, 480, rfl⟩
abbrev main_v237 : Ref sig .tc := ⟨.hbm, 481, rfl⟩
abbrev main_v238 : Ref sig .tc := ⟨.hbm, 482, rfl⟩
abbrev main_v239 : Ref sig .tc := ⟨.hbm, 483, rfl⟩
abbrev main_v240 : Ref sig .tc := ⟨.hbm, 484, rfl⟩
abbrev main_v241 : Ref sig .tc := ⟨.hbm, 485, rfl⟩
abbrev main_v242 : Ref sig .tc := ⟨.hbm, 486, rfl⟩
abbrev main_v243 : Ref sig .tc := ⟨.hbm, 487, rfl⟩
abbrev main_v244 : Ref sig .tc := ⟨.hbm, 488, rfl⟩

abbrev nD : Nat := 1
abbrev τ : Topo := Topo.v7x

variable {F : FTy → Type} [FloatOps F]

abbrev main_while0_count : Scf.Loop 32 := ⟨0#32, 64#32, 1#32⟩

abbrev main_while1_count : Scf.Loop 32 := ⟨0#32, 64#32, 1#32⟩
-- ==== Head.lean ====
abbrev S1x8192x2048 : Shape := ⟨3, ![1, 8192, 2048]⟩
abbrev S1x8192x1024 : Shape := ⟨3, ![1, 8192, 1024]⟩
abbrev S1x8192x11264 : Shape := ⟨3, ![1, 8192, 11264]⟩
abbrev S1x1024 : Shape := ⟨2, ![1, 1024]⟩
abbrev S1x2048x1024 : Shape := ⟨3, ![1, 2048, 1024]⟩
abbrev S1x1024x1024 : Shape := ⟨3, ![1, 1024, 1024]⟩
abbrev S8192x2048 : Shape := ⟨2, ![8192, 2048]⟩
abbrev S8192x1024 : Shape := ⟨2, ![8192, 1024]⟩
abbrev S8192x11264 : Shape := ⟨2, ![8192, 11264]⟩
abbrev S2048x1024 : Shape := ⟨2, ![2048, 1024]⟩
abbrev S1024x1024 : Shape := ⟨2, ![1024, 1024]⟩
abbrev S8x1024 : Shape := ⟨2, ![8, 1024]⟩
abbrev S256x2048 : Shape := ⟨2, ![256, 2048]⟩
abbrev S256x1024 : Shape := ⟨2, ![256, 1024]⟩
abbrev S256 : Shape := ⟨1, ![256]⟩
abbrev S256x1 : Shape := ⟨2, ![256, 1]⟩
abbrev S1x256x1 : Shape := ⟨3, ![1, 256, 1]⟩
abbrev S1 : Shape := ⟨1, ![1]⟩
abbrev S1x1x1 : Shape := ⟨3, ![1, 1, 1]⟩
abbrev S1024 : Shape := ⟨1, ![1024]⟩

abbrev nBuf : Space → Nat
  | .hbm => 32
  | .vmem => 34
  | .smem => 0
  | _ => 0

abbrev bufTy : (tb : Table) → Fin (tcTables nBuf tb) → BufTy
  | .hbm, ⟨0, _⟩ => ⟨S1x8192x2048, .f32⟩
  | .hbm, ⟨1, _⟩ => ⟨S1x8192x1024, .f32⟩
  | .hbm, ⟨2, _⟩ => ⟨S1x8192x11264, .f32⟩
  | .hbm, ⟨3, _⟩ => ⟨S1x8192x1024, .f32⟩
  | .hbm, ⟨4, _⟩ => ⟨S1x1024, .f32⟩
  | .hbm, ⟨5, _⟩ => ⟨S1x1024, .f32⟩
  | .hbm, ⟨6, _⟩ => ⟨S1x2048x1024, .f32⟩
  | .hbm, ⟨7, _⟩ => ⟨S1x1024x1024, .f32⟩
  | .hbm, ⟨8, _⟩ => ⟨S1x1024x1024, .f32⟩
  | .hbm, ⟨9, _⟩ => ⟨S1x8192x1024, .f32⟩
  | .hbm, ⟨10, _⟩ => ⟨S8192x2048, .f32⟩
  | .hbm, ⟨11, _⟩ => ⟨S8192x2048, .bf16⟩
  | .hbm, ⟨12, _⟩ => ⟨S8192x1024, .f32⟩
  | .hbm, ⟨13, _⟩ => ⟨S8192x1024, .bf16⟩
  | .hbm, ⟨14, _⟩ => ⟨S8192x11264, .f32⟩
  | .hbm, ⟨15, _⟩ => ⟨S8192x1024, .f32⟩
  | .hbm, ⟨16, _⟩ => ⟨S8192x1024, .f32⟩
  | .hbm, ⟨17, _⟩ => ⟨S2048x1024, .f32⟩
  | .hbm, ⟨18, _⟩ => ⟨S2048x1024, .bf16⟩
  | .hbm, ⟨19, _⟩ => ⟨S1024x1024, .f32⟩
  | .hbm, ⟨20, _⟩ => ⟨S1024x1024, .bf16⟩
  | .hbm, ⟨21, _⟩ => ⟨S1024x1024, .f32⟩
  | .hbm, ⟨22, _⟩ => ⟨S1024x1024, .bf16⟩
  | .hbm, ⟨23, _⟩ => ⟨S8192x1024, .f32⟩
  | .hbm, ⟨24, _⟩ => ⟨S8192x2048, .bf16⟩
  | .hbm, ⟨25, _⟩ => ⟨S8192x2048, .f32⟩
  | .hbm, ⟨26, _⟩ => ⟨S8192x1024, .f32⟩
  | .hbm, ⟨27, _⟩ => ⟨S8192x1024, .bf16⟩
  | .hbm, ⟨28, _⟩ => ⟨S8192x1024, .bf16⟩
  | .hbm, ⟨29, _⟩ => ⟨S8192x1024, .bf16⟩
  | .hbm, ⟨30, _⟩ => ⟨S8192x1024, .bf16⟩
  | .hbm, ⟨31, _⟩ => ⟨S8x1024, .f32⟩
  | .local _ .vmem, ⟨0, _⟩ => ⟨S256x2048, .bf16⟩
  | .local _ .vmem, ⟨1, _⟩ => ⟨S256x2048, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S1x1024, .f32⟩
  | .local _ .vmem, ⟨13, _⟩ => ⟨S1x1024, .f32⟩
  | .local _ .vmem, ⟨14, _⟩ => ⟨S2048x1024, .bf16⟩
  | .local _ .vmem, ⟨15, _⟩ => ⟨S1024x1024, .bf16⟩
  | .local _ .vmem, ⟨16, _⟩ => ⟨S1024x1024, .bf16⟩
  | .local _ .vmem, ⟨17, _⟩ => ⟨S256x1024, .f32⟩
  | .local _ .vmem, ⟨18, _⟩ => ⟨S256x1024, .f32⟩
  | .local _ .vmem, ⟨19, _⟩ => ⟨S256x2048, .bf16⟩
  | .local _ .vmem, ⟨20, _⟩ => ⟨S256x2048, .bf16⟩
  | .local _ .vmem, ⟨21, _⟩ => ⟨S256x2048, .f32⟩
  | .local _ .vmem, ⟨22, _⟩ => ⟨S256x2048, .f32⟩
  | .local _ .vmem, ⟨23, _⟩ => ⟨S256x1024, .f32⟩
  | .local _ .vmem, ⟨24, _⟩ => ⟨S256x1024, .f32⟩
  | .local _ .vmem, ⟨25, _⟩ => ⟨S256x1024, .bf16⟩
  | .local _ .vmem, ⟨26, _⟩ => ⟨S256x1024, .bf16⟩
  | .local _ .vmem, ⟨27, _⟩ => ⟨S256x1024, .bf16⟩
  | .local _ .vmem, ⟨28, _⟩ => ⟨S256x1024, .bf16⟩
  | .local _ .vmem, ⟨29, _⟩ => ⟨S256x1024, .bf16⟩
  | .local _ .vmem, ⟨30, _⟩ => ⟨S256x1024, .bf16⟩
  | .local _ .vmem, ⟨31, _⟩ => ⟨S256x1024, .bf16⟩
  | .local _ .vmem, ⟨32, _⟩ => ⟨S256x1024, .bf16⟩
  | .local _ .vmem, ⟨33, _⟩ => ⟨S8x1024, .f32⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13_0 : Ref sig .tc := ⟨.hbm, 23, rfl⟩
abbrev main_v13_1 : Ref sig .tc := ⟨.hbm, 24, rfl⟩
abbrev main_v13_2 : Ref sig .tc := ⟨.hbm, 25, rfl⟩
abbrev main_v13_3 : Ref sig .tc := ⟨.hbm, 26, rfl⟩
abbrev main_v13_4 : Ref sig .tc := ⟨.hbm, 27, rfl⟩
abbrev main_v13_5 : Ref sig .tc := ⟨.hbm, 28, rfl⟩
abbrev main_v13_6 : Ref sig .tc := ⟨.hbm, 29, rfl⟩
abbrev main_v13_7 : Ref sig .tc := ⟨.hbm, 30, rfl⟩
abbrev main_v13_8 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_stg18_0 : Ref sig .tc := ⟨.vmem, 31, rfl⟩
abbrev cc0_stg18_1 : Ref sig .tc := ⟨.vmem, 32, rfl⟩
abbrev cc0_stg19_0 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30
abbrev cc0_sem18_0 : DmaSem sig := 31
abbrev cc0_sem18_1 : DmaSem sig := 32
abbrev cc0_sem19_0 : DmaSem sig := 33

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_3 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 1 → Memref sig .tc .vmem S8x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]
-- ==== HeadRefIdeal.lean ====
abbrev S1x8192x2048 : Shape := ⟨3, ![1, 8192, 2048]⟩
abbrev S1x8192x1024 : Shape := ⟨3, ![1, 8192, 1024]⟩
abbrev S1x8192x11264 : Shape := ⟨3, ![1, 8192, 11264]⟩
abbrev S1x1024 : Shape := ⟨2, ![1, 1024]⟩
abbrev S1x2048x1024 : Shape := ⟨3, ![1, 2048, 1024]⟩
abbrev S1x1024x1024 : Shape := ⟨3, ![1, 1024, 1024]⟩
abbrev S_ : Shape := ⟨0, ![]⟩
abbrev S2048x1024 : Shape := ⟨2, ![2048, 1024]⟩
abbrev S1024x1024 : Shape := ⟨2, ![1024, 1024]⟩
abbrev S1x1x1024 : Shape := ⟨3, ![1, 1, 1024]⟩
abbrev S1024 : Shape := ⟨1, ![1024]⟩
abbrev S1x8192 : Shape := ⟨2, ![1, 8192]⟩
abbrev S1x8192x1 : Shape := ⟨3, ![1, 8192, 1]⟩
abbrev S8192 : Shape := ⟨1, ![8192]⟩
abbrev S5x1024 : Shape := ⟨2, ![5, 1024]⟩
abbrev S8x1024 : Shape := ⟨2, ![8, 1024]⟩
abbrev S8192x1024 : Shape := ⟨2, ![8192, 1024]⟩
abbrev S8192x2048 : Shape := ⟨2, ![8192, 2048]⟩

abbrev nBuf : Space → Nat
  | .hbm => 163
  | .vmem => 0
  | .smem => 0
  | _ => 0

abbrev hbmTy0_0 (i : Nat) : BufTy := match i % 128 with
  | 0 => ⟨S1x8192x2048, .f32⟩
  | 1 => ⟨S1x8192x1024, .f32⟩
  | 2 => ⟨S1x8192x11264, .f32⟩
  | 3 => ⟨S1x8192x1024, .f32⟩
  | 4 => ⟨S1x1024, .f32⟩
  | 5 => ⟨S1x1024, .f32⟩
  | 6 => ⟨S1x2048x1024, .f32⟩
  | 7 => ⟨S1x1024x1024, .f32⟩
  | 8 => ⟨S1x1024x1024, .f32⟩
  | 9 => ⟨S1x8192x1024, .f32⟩
  | 10 => ⟨S1x8192x2048, .f32⟩
  | 11 => ⟨S1x8192x1024, .f32⟩
  | 12 => ⟨S1x8192x1024, .f32⟩
  | 13 => ⟨S_, .f32⟩
  | 14 => ⟨S1x8192x1024, .f32⟩
  | 15 => ⟨S2048x1024, .f32⟩
  | 16 => ⟨S1x8192x1024, .f32⟩
  | 17 => ⟨S1x8192x1024, .f32⟩
  | 18 => ⟨S1024x1024, .f32⟩
  | 19 => ⟨S1x8192x1024, .f32⟩
  | 20 => ⟨S1x8192x1024, .f32⟩
  | 21 => ⟨S1x8192x1024, .f32⟩
  | 22 => ⟨S1x8192x1024, .f32⟩
  | 23 => ⟨S_, .f32⟩
  | 24 => ⟨S1x8192x1024, .f32⟩
  | 25 => ⟨S1x8192x1024, .f32⟩
  | 26 => ⟨S_, .f32⟩
  | 27 => ⟨S1x8192x1024, .f32⟩
  | 28 => ⟨S1x8192x1024, .f32⟩
  | 29 => ⟨S_, .f32⟩
  | 30 => ⟨S1x8192x1024, .f32⟩
  | 31 => ⟨S1x8192x1024, .f32⟩
  | 32 => ⟨S1x8192x1024, .f32⟩
  | 33 => ⟨S1x8192x1024, .f32⟩
  | 34 => ⟨S1x8192x1024, .f32⟩
  | 35 => ⟨S1x8192x1024, .f32⟩
  | 36 => ⟨S_, .f32⟩
  | 37 => ⟨S1x8192x1024, .f32⟩
  | 38 => ⟨S1x8192x1024, .f32⟩
  | 39 => ⟨S_, .f32⟩
  | 40 => ⟨S1x8192x1024, .f32⟩
  | 41 => ⟨S1x8192x1024, .f32⟩
  | 42 => ⟨S_, .f32⟩
  | 43 => ⟨S1x8192x1024, .f32⟩
  | 44 => ⟨S1x8192x1024, .f32⟩
  | 45 => ⟨S1x8192x1024, .f32⟩
  | 46 => ⟨S1x8192x1024, .f32⟩
  | 47 => ⟨S1x8192x1024, .f32⟩
  | 48 => ⟨S1024x1024, .f32⟩
  | 49 => ⟨S1x8192x1024, .f32⟩
  | 50 => ⟨S1x8192x1024, .f32⟩
  | 51 => ⟨S1x1x1024, .f32⟩
  | 52 => ⟨S1024, .f32⟩
  | 53 => ⟨S1x8192x1024, .f32⟩
  | 54 => ⟨S_, .f32⟩
  | 55 => ⟨S1x8192, .f32⟩
  | 56 => ⟨S1x8192x1, .f32⟩
  | 57 => ⟨S_, .f32⟩
  | 58 => ⟨S1x8192x1, .f32⟩
  | 59 => ⟨S1x8192x1, .f32⟩
  | 60 => ⟨S_, .f32⟩
  | 61 => ⟨S1x8192x1, .f32⟩
  | 62 => ⟨S1x8192x1, .f32⟩
  | 63 => ⟨S1x8192x1, .f32⟩
  | 64 => ⟨S1x8192x1, .f32⟩
  | 65 => ⟨S_, .f32⟩
  | 66 => ⟨S1x8192x1, .f32⟩
  | 67 => ⟨S1x8192x1, .f32⟩
  | 68 => ⟨S1x8192x1024, .f32⟩
  | 69 => ⟨S1x8192x1024, .f32⟩
  | 70 => ⟨S1x1x1024, .f32⟩
  | 71 => ⟨S1x8192x1024, .f32⟩
  | 72 => ⟨S1x8192x1024, .f32⟩
  | 73 => ⟨S1x8192x1024, .f32⟩
  | 74 => ⟨S1x8192x1024, .f32⟩
  | 75 => ⟨S1x8192x1024, .f32⟩
  | 76 => ⟨S1x8192x1024, .f32⟩
  | 77 => ⟨S1x8192x1024, .f32⟩
  | 78 => ⟨S_, .f32⟩
  | 79 => ⟨S1x8192x1024, .f32⟩
  | 80 => ⟨S1x8192x1024, .f32⟩
  | 81 => ⟨S_, .f32⟩
  | 82 => ⟨S1x8192, .f32⟩
  | 83 => ⟨S_, .f32⟩
  | 84 => ⟨S1x8192, .f32⟩
  | 85 => ⟨S1x8192, .f32⟩
  | 86 => ⟨S_, .f32⟩
  | 87 => ⟨S_, .f32⟩
  | 88 => ⟨S_, .f32⟩
  | 89 => ⟨S_, .f32⟩
  | 90 => ⟨S_, .f32⟩
  | 91 => ⟨S_, .f32⟩
  | 92 => ⟨S_, .f32⟩
  | 93 => ⟨S1x8192, .f32⟩
  | 94 => ⟨S_, .f32⟩
  | 95 => ⟨S1x8192, .f32⟩
  | 96 => ⟨S1x8192, .f32⟩
  | 97 => ⟨S1x8192x1024, .f32⟩
  | 98 => ⟨S1x8192x1024, .f32⟩
  | 99 => ⟨S1x8192x1024, .f32⟩
  | 100 => ⟨S1x8192x1024, .f32⟩
  | 101 => ⟨S1x8192x1024, .f32⟩
  | 102 => ⟨S_, .f32⟩
  | 103 => ⟨S1x1024, .f32⟩
  | 104 => ⟨S1x1x1024, .f32⟩
  | 105 => ⟨S1x8192x1024, .f32⟩
  | 106 => ⟨S_, .f32⟩
  | 107 => ⟨S1x1024, .f32⟩
  | 108 => ⟨S1x1x1024, .f32⟩
  | 109 => ⟨S1x8192x1024, .f32⟩
  | 110 => ⟨S1x8192x1024, .f32⟩
  | 111 => ⟨S_, .f32⟩
  | 112 => ⟨S1024, .f32⟩
  | 113 => ⟨S1x8192x1024, .f32⟩
  | 114 => ⟨S_, .f32⟩
  | 115 => ⟨S1x8192, .f32⟩
  | 116 => ⟨S1x8192x1, .f32⟩
  | 117 => ⟨S1x8192x1024, .f32⟩
  | 118 => ⟨S1x8192x1024, .f32⟩
  | 119 => ⟨S1x8192x1, .f32⟩
  | 120 => ⟨S_, .f32⟩
  | 121 => ⟨S1x8192x1, .f32⟩
  | 122 => ⟨S1x8192x1, .f32⟩
  | 123 => ⟨S_, .f32⟩
  | 124 => ⟨S8192, .f32⟩
  | 125 => ⟨S1x8192, .f32⟩
  | 126 => ⟨S1x8192x1024, .f32⟩
  | 127 => ⟨S1x8192x1024, .f32⟩
  | _ => ⟨S1x8192x2048, .f32⟩

abbrev hbmTy0_1 (i : Nat) : BufTy := match i % 128 with
  | 0 => ⟨S1x8192x1024, .f32⟩
  | 1 => ⟨S1x8192x1024, .f32⟩
  | 2 => ⟨S1x8192x1024, .f32⟩
  | 3 => ⟨S1x1024, .f32⟩
  | 4 => ⟨S_, .f32⟩
  | 5 => ⟨S1024, .f32⟩
  | 6 => ⟨S1x1024, .f32⟩
  | 7 => ⟨S1x8192x1024, .f32⟩
  | 8 => ⟨S1x8192x1024, .f32⟩
  | 9 => ⟨S1x8192x1024, .f32⟩
  | 10 => ⟨S1x8192x1024, .f32⟩
  | 11 => ⟨S1x8192x1024, .f32⟩
  | 12 => ⟨S1x8192x1024, .f32⟩
  | 13 => ⟨S1x8192x1024, .f32⟩
  | 14 => ⟨S1x8192x1024, .f32⟩
  | 15 => ⟨S1x8192x2048, .f32⟩
  | 16 => ⟨S1x1024, .f32⟩
  | 17 => ⟨S_, .f32⟩
  | 18 => ⟨S5x1024, .f32⟩
  | 19 => ⟨S8x1024, .f32⟩
  | 20 => ⟨S8192x1024, .f32⟩
  | 21 => ⟨S8192x1024, .f32⟩
  | 22 => ⟨S8192x1024, .f32⟩
  | 23 => ⟨S8192x2048, .f32⟩
  | 24 => ⟨S8192x2048, .bf16⟩
  | 25 => ⟨S8192x2048, .f32⟩
  | 26 => ⟨S8192x1024, .f32⟩
  | 27 => ⟨S8192x1024, .f32⟩
  | 28 => ⟨S8192x1024, .bf16⟩
  | 29 => ⟨S8192x1024, .f32⟩
  | 30 => ⟨S8192x1024, .bf16⟩
  | 31 => ⟨S8192x1024, .f32⟩
  | 32 => ⟨S8192x1024, .bf16⟩
  | 33 => ⟨S8192x1024, .f32⟩
  | 34 => ⟨S8192x1024, .bf16⟩
  | _ => ⟨S1x8192x2048, .f32⟩

abbrev hbmTy (i : Nat) : BufTy := match i / 128 with
  | 0 => hbmTy0_0 i
  | 1 => hbmTy0_1 i
  | _ => ⟨S1x8192x2048, .f32⟩

abbrev bufTy : (tb : Table) → Fin (tcTables nBuf tb) → BufTy
  | .hbm, ⟨i, _⟩ => hbmTy i
  | _, _ => ⟨S1x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_0 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_3 : Ref sig .tc := ⟨.hbm, 36, rfl⟩
abbrev main_v22 : Ref sig .tc := ⟨.hbm, 37, rfl⟩
abbrev main_v23 : Ref sig .tc := ⟨.hbm, 38, rfl⟩
abbrev main_cst_4 : Ref sig .tc := ⟨.hbm, 39, rfl⟩
abbrev main_v24 : Ref sig .tc := ⟨.hbm, 40, rfl⟩
abbrev main_v25 : Ref sig .tc := ⟨.hbm, 41, rfl⟩
abbrev main_cst_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_6 : Ref sig .tc := ⟨.hbm, 54, rfl⟩
abbrev main_v37 : Ref sig .tc := ⟨.hbm, 55, rfl⟩
abbrev main_v38 : Ref sig .tc := ⟨.hbm, 56, rfl⟩
abbrev main_cst_7 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_9 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_10 : Ref sig .tc := ⟨.hbm, 78, rfl⟩
abbrev main_v57 : Ref sig .tc := ⟨.hbm, 79, rfl⟩
abbrev main_v58 : Ref sig .tc := ⟨.hbm, 80, rfl⟩
abbrev main_cst_11 : Ref sig .tc := ⟨.hbm, 81, rfl⟩
abbrev main_v59 : Ref sig .tc := ⟨.hbm, 82, rfl⟩
abbrev main_cst_12 : Ref sig .tc := ⟨.hbm, 83, rfl⟩
abbrev main_v60 : Ref sig .tc := ⟨.hbm, 84, rfl⟩
abbrev main_v61 : Ref sig .tc := ⟨.hbm, 85, rfl⟩
abbrev main_cst_13 : Ref sig .tc := ⟨.hbm, 86, rfl⟩
abbrev main_v62 : Ref sig .tc := ⟨.hbm, 87, rfl⟩
abbrev main_cst_14 : Ref sig .tc := ⟨.hbm, 88, rfl⟩
abbrev main_v63 : Ref sig .tc := ⟨.hbm, 89, rfl⟩
abbrev main_cst_15 : Ref sig .tc := ⟨.hbm, 90, rfl⟩
abbrev main_cst_16 : Ref sig .tc := ⟨.hbm, 91, rfl⟩
abbrev main_v64 : Ref sig .tc := ⟨.hbm, 92, rfl⟩
abbrev main_v65 : Ref sig .tc := ⟨.hbm, 93, rfl⟩
abbrev main_cst_17 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_cst_18 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_cst_19 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_cst_20 : Ref sig .tc := ⟨.hbm, 111, rfl⟩
abbrev main_v80 : Ref sig .tc := ⟨.hbm, 112, rfl⟩
abbrev main_v81 : Ref sig .tc := ⟨.hbm, 113, rfl⟩
abbrev main_cst_21 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_cst_22 : Ref sig .tc := ⟨.hbm, 120, rfl⟩
abbrev main_v87 : Ref sig .tc := ⟨.hbm, 121, rfl⟩
abbrev main_v88 : Ref sig .tc := ⟨.hbm, 122, rfl⟩
abbrev main_cst_23 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_cst_24 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_cst_25 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩

abbrev nD : Nat := 1
abbrev τ : Topo := Topo.v7x

variable {F : FTy → Type} [FloatOps F]
-- ==== Conv.lean ====
abbrev S1x8192x11264 : Shape := ⟨3, ![1, 8192, 11264]⟩
abbrev S1x31x1024 : Shape := ⟨3, ![1, 31, 1024]⟩
abbrev S1x1024 : Shape := ⟨2, ![1, 1024]⟩
abbrev S1x8192x1024 : Shape := ⟨3, ![1, 8192, 1024]⟩
abbrev S_ : Shape := ⟨0, ![]⟩
abbrev S31x1024 : Shape := ⟨2, ![31, 1024]⟩
abbrev S1024 : Shape := ⟨1, ![1024]⟩
abbrev S1x30x1024 : Shape := ⟨3, ![1, 30, 1024]⟩
abbrev S1x8222x1024 : Shape := ⟨3, ![1, 8222, 1024]⟩
abbrev S8192 : Shape := ⟨1, ![8192]⟩
abbrev S8192x1 : Shape := ⟨2, ![8192, 1]⟩
abbrev S31 : Shape := ⟨1, ![31]⟩
abbrev S1x31 : Shape := ⟨2, ![1, 31]⟩
abbrev S8192x31 : Shape := ⟨2, ![8192, 31]⟩
abbrev S8192x31x1 : Shape := ⟨3, ![8192, 31, 1]⟩
abbrev S1x8192x31x1024 : Shape := ⟨4, ![1, 8192, 31, 1024]⟩
abbrev S1x1x31x1024 : Shape := ⟨4, ![1, 1, 31, 1024]⟩
abbrev S1x1x1024 : Shape := ⟨3, ![1, 1, 1024]⟩
abbrev S32x1024 : Shape := ⟨2, ![32, 1024]⟩
abbrev S32x1x1024 : Shape := ⟨3, ![32, 1, 1024]⟩
abbrev S32x8x1024 : Shape := ⟨3, ![32, 8, 1024]⟩
abbrev S8192x1024 : Shape := ⟨2, ![8192, 1024]⟩
abbrev S8192x11264 : Shape := ⟨2, ![8192, 11264]⟩
abbrev S8192x3072 : Shape := ⟨2, ![8192, 3072]⟩
abbrev S40x1024 : Shape := ⟨2, ![40, 1024]⟩
abbrev S256x1024 : Shape := ⟨2, ![256, 1024]⟩
abbrev S256x3072 : Shape := ⟨2, ![256, 3072]⟩
abbrev S296x1024 : Shape := ⟨2, ![296, 1024]⟩
abbrev S8x288x1024 : Shape := ⟨3, ![8, 288, 1024]⟩
abbrev S256 : Shape := ⟨1, ![256]⟩
abbrev S256x1 : Shape := ⟨2, ![256, 1]⟩
abbrev S8x1024 : Shape := ⟨2, ![8, 1024]⟩
abbrev S288x1024 : Shape := ⟨2, ![288, 1024]⟩
abbrev S1x288x1024 : Shape := ⟨3, ![1, 288, 1024]⟩
abbrev S16x1024 : Shape := ⟨2, ![16, 1024]⟩
abbrev S1x8x1024 : Shape := ⟨3, ![1, 8, 1024]⟩

abbrev nBuf : Space → Nat
  | .hbm => 59
  | .vmem => 20
  | .smem => 0
  | _ => 0

abbrev bufTy : (tb : Table) → Fin (tcTables nBuf tb) → BufTy
  | .hbm, ⟨0, _⟩ => ⟨S1x8192x11264, .f32⟩
  | .hbm, ⟨1, _⟩ => ⟨S1x31x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x8192x1024, .f32⟩
  | .hbm, ⟨6, _⟩ => ⟨S1x8192x1024, .f32⟩
  | .hbm, ⟨7, _⟩ => ⟨S1x8192x1024, .f32⟩
  | .hbm, ⟨8, _⟩ => ⟨S1x8192x1024, .f32⟩
  | .hbm, ⟨9, _⟩ => ⟨S1x8192x1024, .f32⟩
  | .hbm, ⟨10, _⟩ => ⟨S_, .f32⟩
  | .hbm, ⟨11, _⟩ => ⟨S1x8192x1024, .f32⟩
  | .hbm, ⟨12, _⟩ => ⟨S1x8192x1024, .f32⟩
  | .hbm, ⟨13, _⟩ => ⟨S_, .f32⟩
  | .hbm, ⟨14, _⟩ => ⟨S1x8192x1024, .f32⟩
  | .hbm, ⟨15, _⟩ => ⟨S1x8192x1024, .f32⟩
  | .hbm, ⟨16, _⟩ => ⟨S1x8192x1024, .f32⟩
  | .hbm, ⟨17, _⟩ => ⟨S31x1024, .f32⟩
  | .hbm, ⟨18, _⟩ => ⟨S1024, .f32⟩
  | .hbm, ⟨19, _⟩ => ⟨S_, .f32⟩
  | .hbm, ⟨20, _⟩ => ⟨S1x30x1024, .f32⟩
  | .hbm, ⟨21, _⟩ => ⟨S1x8222x1024, .f32⟩
  | .hbm, ⟨22, _⟩ => ⟨S8192, .i32⟩
  | .hbm, ⟨23, _⟩ => ⟨S8192x1, .i32⟩
  | .hbm, ⟨24, _⟩ => ⟨S31, .i32⟩
  | .hbm, ⟨25, _⟩ => ⟨S1x31, .i32⟩
  | .hbm, ⟨26, _⟩ => ⟨S8192x31, .i32⟩
  | .hbm, ⟨27, _⟩ => ⟨S8192x31, .i32⟩
  | .hbm, ⟨28, _⟩ => ⟨S8192x31, .i32⟩
  | .hbm, ⟨29, _⟩ => ⟨S_, .i32⟩
  | .hbm, ⟨30, _⟩ => ⟨S8192x31, .i32⟩
  | .hbm, ⟨31, _⟩ => ⟨S8192x31, .i1⟩
  | .hbm, ⟨32, _⟩ => ⟨S_, .i32⟩
  | .hbm, ⟨33, _⟩ => ⟨S8192x31, .i32⟩
  | .hbm, ⟨34, _⟩ => ⟨S8192x31, .i32⟩
  | .hbm, ⟨35, _⟩ => ⟨S8192x31, .i32⟩
  | .hbm, ⟨36, _⟩ => ⟨S8192x31x1, .i32⟩
  | .hbm, ⟨37, _⟩ => ⟨S1x8192x31x1024, .f32⟩
  | .hbm, ⟨38, _⟩ => ⟨S1x1x31x1024, .f32⟩
  | .hbm, ⟨39, _⟩ => ⟨S1x8192x31x1024, .f32⟩
  | .hbm, ⟨40, _⟩ => ⟨S1x8192x31x1024, .f32⟩
  | .hbm, ⟨41, _⟩ => ⟨S_, .f32⟩
  | .hbm, ⟨42, _⟩ => ⟨S1x8192x1024, .f32⟩
  | .hbm, ⟨43, _⟩ => ⟨S1x1x1024, .f32⟩
  | .hbm, ⟨44, _⟩ => ⟨S1x8192x1024, .f32⟩
  | .hbm, ⟨45, _⟩ => ⟨S1x8192x1024, .f32⟩
  | .hbm, ⟨46, _⟩ => ⟨S31x1024, .f32⟩
  | .hbm, ⟨47, _⟩ => ⟨S_, .i32⟩
  | .hbm, ⟨48, _⟩ => ⟨S_, .f32⟩
  | .hbm, ⟨49, _⟩ => ⟨S32x1024, .f32⟩
  | .hbm, ⟨50, _⟩ => ⟨S32x1024, .bf16⟩
  | .hbm, ⟨51, _⟩ => ⟨S32x1024, .f32⟩
  | .hbm, ⟨52, _⟩ => ⟨S32x1x1024, .f32⟩
  | .hbm, ⟨53, _⟩ => ⟨S32x8x1024, .f32⟩
  | .hbm, ⟨54, _⟩ => ⟨S8192x1024, .f32⟩
  | .hbm, ⟨55, _⟩ => ⟨S8192x11264, .f32⟩
  | .hbm, ⟨56, _⟩ => ⟨S8192x1024, .f32⟩
  | .hbm, ⟨57, _⟩ => ⟨S8192x3072, .bf16⟩
  | .hbm, ⟨58, _⟩ => ⟨S40x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S32x8x1024, .f32⟩
  | .local _ .vmem, ⟨11, _⟩ => ⟨S1x1024, .f32⟩
  | .local _ .vmem, ⟨12, _⟩ => ⟨S1x1024, .f32⟩
  | .local _ .vmem, ⟨13, _⟩ => ⟨S256x3072, .bf16⟩
  | .local _ .vmem, ⟨14, _⟩ => ⟨S256x3072, .bf16⟩
  | .local _ .vmem, ⟨15, _⟩ => ⟨S40x1024, .f32⟩
  | .local _ .vmem, ⟨16, _⟩ => ⟨S296x1024, .f32⟩
  | .local _ .vmem, ⟨17, _⟩ => ⟨S8x288x1024, .f32⟩
  | .local _ .vmem, ⟨18, _⟩ => ⟨S32x1024, .f32⟩
  | .local _ .vmem, ⟨19, _⟩ => ⟨S32x8x1024, .f32⟩
  | _, _ => ⟨S1x8192x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c : Ref sig .tc := ⟨.hbm, 29, rfl⟩
abbrev main_v20 : Ref sig .tc := ⟨.hbm, 30, rfl⟩
abbrev main_v21 : Ref sig .tc := ⟨.hbm, 31, rfl⟩
abbrev main_c_2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_3 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_c_4 : Ref sig .tc := ⟨.hbm, 47, rfl⟩
abbrev main_call0_v0 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43_0 : Ref sig .tc := ⟨.hbm, 57, rfl⟩
abbrev main_v43_1 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32_81 : BitVec 32 := 0#32
  let c16_i32 : BitVec 32 := 16#32
  let v143 : BitVec 32 := Scalar.addi c0_i32_81 c16_i32
  let c1_i32 : BitVec 32 := 1#32
  ⟨c0_i32_81, v143, c1_i32⟩
def k0_mult1 (k0_t1 : Fin k0_t1_loop.trips) : BitVec 32 :=
  let c0_i32_81 : BitVec 32 := 0#32
  let c1_i32 : BitVec 32 := 1#32
  let arg15 : BitVec 32 := Scf.iv c0_i32_81 c1_i32 k0_t1
  let c16_i32_91 : BitVec 32 := 16#32
  let v150 : BitVec 32 := Scalar.muli arg15 c16_i32_91
  v150
def k0_off1 (k0_t1 : Fin k0_t1_loop.trips) : Fin 2 → Nat :=
  let c0_i32_81 : BitVec 32 := 0#32
  let c1_i32 : BitVec 32 := 1#32
  let arg15 : BitVec 32 := Scf.iv c0_i32_81 c1_i32 k0_t1
  let c16_i32_91 : BitVec 32 := 16#32
  let v150 : BitVec 32 := Scalar.muli arg15 c16_i32_91
  let v151 : BitVec 32 := v150
  let v152 : Index := Scalar.indexCast v151
  let c0_92 : Index := 0#32
  ![v152.toNat, 0]
def k0_off2 (k0_t1 : Fin k0_t1_loop.trips) (c24_i32 : BitVec 32) : Fin 3 → Nat :=
  let c6_95 : Index := 6#32
  let c0_i32_81 : BitVec 32 := 0#32
  let c1_i32 : BitVec 32 := 1#32
  let arg15 : BitVec 32 := Scf.iv c0_i32_81 c1_i32 k0_t1
  let c16_i32_91 : BitVec 32 := 16#32
  let v150 : BitVec 32 := Scalar.muli arg15 c16_i32_91
  let v151 : BitVec 32 := v150
  let v164 : BitVec 32 := Scalar.addi v151 c24_i32
  let v165 : Index := Scalar.indexCast v164
  let c0_96 : Index := 0#32
  ![6, v165.toNat, 0]
def k0_off3 (k0_t1 : Fin k0_t1_loop.trips) (c24_i32_106 : BitVec 32) : Fin 3 → Nat :=
  let c5_107 : Index := 5#32
  let c0_i32_81 : BitVec 32 := 0#32
  let c1_i32 : BitVec 32 := 1#32
  let arg15 : BitVec 32 := Scf.iv c0_i32_81 c1_i32 k0_t1
  let c16_i32_91 : BitVec 32 := 16#32
  let v150 : BitVec 32 := Scalar.muli arg15 c16_i32_91
  let v151 : BitVec 32 := v150
  let v179 : BitVec 32 := Scalar.addi v151 c24_i32_106
  let v180 : Index := Scalar.indexCast v179
  let c0_108 : Index := 0#32
  ![5, v180.toNat, 0]
def k0_off4 (k0_t1 : Fin k0_t1_loop.trips) (c24_i32_118 : BitVec 32) : Fin 3 → Nat :=
  let c4_119 : Index := 4#32
  let c0_i32_81 : BitVec 32 := 0#32
  let c1_i32 : BitVec 32 := 1#32
  let arg15 : BitVec 32 := Scf.iv c0_i32_81 c1_i32 k0_t1
  let c16_i32_91 : BitVec 32 := 16#32
  let v150 : BitVec 32 := Scalar.muli arg15 c16_i32_91
  let v151 : BitVec 32 := v150
  let v194 : BitVec 32 := Scalar.addi v151 c24_i32_118
  let v195 : Index := Scalar.indexCast v194
  let c0_120 : Index := 0#32
  ![4, v195.toNat, 0]
def k0_off5 (k0_t1 : Fin k0_t1_loop.trips) (c24_i32_130 : BitVec 32) : Fin 3 → Nat :=
  let c3_131 : Index := 3#32
  let c0_i32_81 : BitVec 32 := 0#32
  let c1_i32 : BitVec 32 := 1#32
  let arg15 : BitVec 32 := Scf.iv c0_i32_81 c1_i32 k0_t1
  let c16_i32_91 : BitVec 32 := 16#32
  let v150 : BitVec 32 := Scalar.muli arg15 c16_i32_91
  let v151 : BitVec 32 := v150
  let v209 : BitVec 32 := Scalar.addi v151 c24_i32_130
  let v210 : Index := Scalar.indexCast v209
  let c0_132 : Index := 0#32
  ![3, v210.toNat, 0]
def k0_off6 (k0_t1 : Fin k0_t1_loop.trips) (c24_i32_142 : BitVec 32) : Fin 3 → Nat :=
  let c2_143 : Index := 2#32
  let c0_i32_81 : BitVec 32 := 0#32
  let c1_i32 : BitVec 32 := 1#32
  let arg15 : BitVec 32 := Scf.iv c0_i32_81 c1_i32 k0_t1
  let c16_i32_91 : BitVec 32 := 16#32
  let v150 : BitVec 32 := Scalar.muli arg15 c16_i32_91
  let v151 : BitVec 32 := v150
  let v224 : BitVec 32 := Scalar.addi v151 c24_i32_142
  let v225 : Index := Scalar.indexCast v224
  let c0_144 : Index := 0#32
  ![2, v225.toNat, 0]
def k0_off7 (k0_t1 : Fin k0_t1_loop.trips) (c24_i32_154 : BitVec 32) : Fin 3 → Nat :=
  let c1_155 : Index := 1#32
  let c0_i32_81 : BitVec 32 := 0#32
  let c1_i32 : BitVec 32 := 1#32
  let arg15 : BitVec 32 := Scf.iv c0_i32_81 c1_i32 k0_t1
  let c16_i32_91 : BitVec 32 := 16#32
  let v150 : BitVec 32 := Scalar.muli arg15 c16_i32_91
  let v151 : BitVec 32 := v150
  let v239 : BitVec 32 := Scalar.addi v151 c24_i32_154
  let v240 : Index := Scalar.indexCast v239
  let c0_156 : Index := 0#32
  ![1, v240.toNat, 0]
def k0_off8 (k0_t1 : Fin k0_t1_loop.trips) (c24_i32_166 : BitVec 32) : Fin 3 → Nat :=
  let c0_167 : Index := 0#32
  let c0_i32_81 : BitVec 32 := 0#32
  let c1_i32 : BitVec 32 := 1#32
  let arg15 : BitVec 32 := Scf.iv c0_i32_81 c1_i32 k0_t1
  let c16_i32_91 : BitVec 32 := 16#32
  let v150 : BitVec 32 := Scalar.muli arg15 c16_i32_91
  let v151 : BitVec 32 := v150
  let v254 : BitVec 32 := Scalar.addi v151 c24_i32_166
  let v255 : Index := Scalar.indexCast v254
  let c0_168 : Index := 0#32
  ![0, v255.toNat, 0]
def k0_off9 (k0_t1 : Fin k0_t1_loop.trips) (c16_i32_178 : BitVec 32) : Fin 3 → Nat :=
  let c7_179 : Index := 7#32
  let c0_i32_81 : BitVec 32 := 0#32
  let c1_i32 : BitVec 32 := 1#32
  let arg15 : BitVec 32 := Scf.iv c0_i32_81 c1_i32 k0_t1
  let c16_i32_91 : BitVec 32 := 16#32
  let v150 : BitVec 32 := Scalar.muli arg15 c16_i32_91
  let v151 : BitVec 32 := v150
  let v269 : BitVec 32 := Scalar.addi v151 c16_i32_178
  let v270 : Index := Scalar.indexCast v269
  let c0_180 : Index := 0#32
  ![7, v270.toNat, 0]
def k0_off10 (k0_t1 : Fin k0_t1_loop.trips) : Fin 2 → Nat :=
  let c0_i32_81 : BitVec 32 := 0#32
  let c1_i32 : BitVec 32 := 1#32
  let arg15 : BitVec 32 := Scf.iv c0_i32_81 c1_i32 k0_t1
  let c16_i32_91 : BitVec 32 := 16#32
  let v150 : BitVec 32 := Scalar.muli arg15 c16_i32_91
  let v151 : BitVec 32 := v150
  let v1099 : Index := Scalar.indexCast v151
  let c0_814 : Index := 0#32
  ![v1099.toNat, 0]
def k0_off11 (k0_t1 : Fin k0_t1_loop.trips) : Fin 2 → Nat :=
  let c0_i32_81 : BitVec 32 := 0#32
  let c1_i32 : BitVec 32 := 1#32
  let arg15 : BitVec 32 := Scf.iv c0_i32_81 c1_i32 k0_t1
  let c16_i32_91 : BitVec 32 := 16#32
  let v150 : BitVec 32 := Scalar.muli arg15 c16_i32_91
  let v151 : BitVec 32 := v150
  let v1107 : Index := Scalar.indexCast v151
  let c1024 : Index := 1024#32
  ![v1107.toNat, 1024]
def cc0_transform_0 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.subi c31_i32 arg0
  let c6_i32 : BitVec 32 := 6#32
  let c0_i32 : BitVec 32 := 0#32
  ![v0.toNat, c6_i32.toNat]

def cc0_transform_2 (i : grid0.Coords) : Fin 2 → Nat :=
  let arg0 : BitVec 32 := BitVec.ofNat 32 (i 0).val
  let c31_i32 : BitVec 32 := 31#32
  let v0 : BitVec 32 := Scalar.subi c31_i32 arg0
  let c7_i32 : BitVec 32 := 7#32
  let c0_i32 : BitVec 32 := 0#32
  ![v0.toNat, c7_i32.toNat]

def cc0_transform_3 (i : grid0.Coords) : Fin 2 → Nat :=
  let arg0 : BitVec 32 := BitVec.ofNat 32 (i 0).val
  let c31_i32 : BitVec 32 := 31#32
  let v0 : BitVec 32 := Scalar.subi c31_i32 arg0
  let c8_i32 : BitVec 32 := 8#32
  let c0_i32 : BitVec 32 := 0#32
  ![v0.toNat, c8_i32.toNat]

def cc0_transform_4 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S32x8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x3072 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S40x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ConvRefIdeal.lean ====
abbrev S1x8192x11264 : Shape := ⟨3, ![1, 8192, 11264]⟩
abbrev S1x31x1024 : Shape := ⟨3, ![1, 31, 1024]⟩
abbrev S1x1024 : Shape := ⟨2, ![1, 1024]⟩
abbrev S1x8192x1024 : Shape := ⟨3, ![1, 8192, 1024]⟩
abbrev S1x8192x3072 : Shape := ⟨3, ![1, 8192, 3072]⟩
abbrev S_ : Shape := ⟨0, ![]⟩
abbrev S31x1024 : Shape := ⟨2, ![31, 1024]⟩
abbrev S1024 : Shape := ⟨1, ![1024]⟩
abbrev S1x30x1024 : Shape := ⟨3, ![1, 30, 1024]⟩
abbrev S1x8222x1024 : Shape := ⟨3, ![1, 8222, 1024]⟩
abbrev S8192 : Shape := ⟨1, ![8192]⟩
abbrev S8192x1 : Shape := ⟨2, ![8192, 1]⟩
abbrev S31 : Shape := ⟨1, ![31]⟩
abbrev S1x31 : Shape := ⟨2, ![1, 31]⟩
abbrev S8192x31 : Shape := ⟨2, ![8192, 31]⟩
abbrev S8192x31x1 : Shape := ⟨3, ![8192, 31, 1]⟩
abbrev S1x8192x31x1024 : Shape := ⟨4, ![1, 8192, 31, 1024]⟩
abbrev S1x1x31x1024 : Shape := ⟨4, ![1, 1, 31, 1024]⟩
abbrev S1x1x1024 : Shape := ⟨3, ![1, 1, 1024]⟩
abbrev S1x8192 : Shape := ⟨2, ![1, 8192]⟩
abbrev S1x8192x1 : Shape := ⟨3, ![1, 8192, 1]⟩
abbrev S6x1024 : Shape := ⟨2, ![6, 1024]⟩
abbrev S40x1024 : Shape := ⟨2, ![40, 1024]⟩
abbrev S8192x1024 : Shape := ⟨2, ![8192, 1024]⟩
abbrev S8192x3072 : Shape := ⟨2, ![8192, 3072]⟩

abbrev nBuf : Space → Nat
  | .hbm => 210
  | .vmem => 0
  | .smem => 0
  | _ => 0

abbrev hbmTy0_0 (i : Nat) : BufTy := match i % 128 with
  | 0 => ⟨S1x8192x11264, .f32⟩
  | 1 => ⟨S1x31x1024, .f32⟩
  | 2 => ⟨S1x1024, .f32⟩
  | 3 => ⟨S1x1024, .f32⟩
  | 4 => ⟨S1x1024, .f32⟩
  | 5 => ⟨S1x8192x1024, .f32⟩
  | 6 => ⟨S1x8192x3072, .f32⟩
  | 7 => ⟨S1x8192x1024, .f32⟩
  | 8 => ⟨S1x8192x1024, .f32⟩
  | 9 => ⟨S1x8192x1024, .f32⟩
  | 10 => ⟨S1x8192x1024, .f32⟩
  | 11 => ⟨S1x8192x1024, .f32⟩
  | 12 => ⟨S_, .f32⟩
  | 13 => ⟨S1x8192x1024, .f32⟩
  | 14 => ⟨S1x8192x1024, .f32⟩
  | 15 => ⟨S_, .f32⟩
  | 16 => ⟨S1x8192x1024, .f32⟩
  | 17 => ⟨S1x8192x1024, .f32⟩
  | 18 => ⟨S_, .f32⟩
  | 19 => ⟨S1x8192x1024, .f32⟩
  | 20 => ⟨S1x8192x1024, .f32⟩
  | 21 => ⟨S1x8192x1024, .f32⟩
  | 22 => ⟨S1x8192x1024, .f32⟩
  | 23 => ⟨S31x1024, .f32⟩
  | 24 => ⟨S1024, .f32⟩
  | 25 => ⟨S_, .f32⟩
  | 26 => ⟨S1x30x1024, .f32⟩
  | 27 => ⟨S1x8222x1024, .f32⟩
  | 28 => ⟨S_, .f32⟩
  | 29 => ⟨S1x30x1024, .f32⟩
  | 30 => ⟨S8192, .i32⟩
  | 31 => ⟨S8192x1, .i32⟩
  | 32 => ⟨S31, .i32⟩
  | 33 => ⟨S1x31, .i32⟩
  | 34 => ⟨S8192x31, .i32⟩
  | 35 => ⟨S8192x31, .i32⟩
  | 36 => ⟨S8192x31, .i32⟩
  | 37 => ⟨S_, .i32⟩
  | 38 => ⟨S8192x31, .i32⟩
  | 39 => ⟨S8192x31, .i1⟩
  | 40 => ⟨S_, .i32⟩
  | 41 => ⟨S8192x31, .i32⟩
  | 42 => ⟨S8192x31, .i32⟩
  | 43 => ⟨S8192x31, .i32⟩
  | 44 => ⟨S8192x31x1, .i32⟩
  | 45 => ⟨S1x8192x31x1024, .f32⟩
  | 46 => ⟨S1x1x31x1024, .f32⟩
  | 47 => ⟨S1x8192x31x1024, .f32⟩
  | 48 => ⟨S1x8192x31x1024, .f32⟩
  | 49 => ⟨S_, .f32⟩
  | 50 => ⟨S1x8192x1024, .f32⟩
  | 51 => ⟨S1x1x1024, .f32⟩
  | 52 => ⟨S1x8192x1024, .f32⟩
  | 53 => ⟨S1x8192x1024, .f32⟩
  | 54 => ⟨S1024, .f32⟩
  | 55 => ⟨S1024, .f32⟩
  | 56 => ⟨S_, .f32⟩
  | 57 => ⟨S1x8192, .f32⟩
  | 58 => ⟨S1x8192x1, .f32⟩
  | 59 => ⟨S_, .f32⟩
  | 60 => ⟨S1x8192x1, .f32⟩
  | 61 => ⟨S1x8192x1, .f32⟩
  | 62 => ⟨S1x8192x1024, .f32⟩
  | 63 => ⟨S1x8192x1024, .f32⟩
  | 64 => ⟨S1x8192x1024, .f32⟩
  | 65 => ⟨S_, .f32⟩
  | 66 => ⟨S1x8192x1024, .f32⟩
  | 67 => ⟨S1x8192x1024, .f32⟩
  | 68 => ⟨S_, .f32⟩
  | 69 => ⟨S1x8192, .f32⟩
  | 70 => ⟨S1x8192x1, .f32⟩
  | 71 => ⟨S_, .f32⟩
  | 72 => ⟨S1x8192x1, .f32⟩
  | 73 => ⟨S1x8192x1, .f32⟩
  | 74 => ⟨S1x8192x1024, .f32⟩
  | 75 => ⟨S1x8192x1024, .f32⟩
  | 76 => ⟨S_, .f32⟩
  | 77 => ⟨S1x8192x1, .f32⟩
  | 78 => ⟨S1x8192x1, .f32⟩
  | 79 => ⟨S1x8192x1, .f32⟩
  | 80 => ⟨S1x8192x1, .f32⟩
  | 81 => ⟨S_, .f32⟩
  | 82 => ⟨S1x8192x1, .f32⟩
  | 83 => ⟨S1x8192x1, .f32⟩
  | 84 => ⟨S1x8192x1024, .f32⟩
  | 85 => ⟨S1x8192x1024, .f32⟩
  | 86 => ⟨S1x1x1024, .f32⟩
  | 87 => ⟨S1x8192x1024, .f32⟩
  | 88 => ⟨S1x8192x1024, .f32⟩
  | 89 => ⟨S1x1x1024, .f32⟩
  | 90 => ⟨S1x8192x1024, .f32⟩
  | 91 => ⟨S1x8192x1024, .f32⟩
  | 92 => ⟨S1x8192x1024, .f32⟩
  | 93 => ⟨S1x8192x1024, .f32⟩
  | 94 => ⟨S_, .f32⟩
  | 95 => ⟨S1x8192x1024, .f32⟩
  | 96 => ⟨S1x8192x1024, .f32⟩
  | 97 => ⟨S_, .f32⟩
  | 98 => ⟨S1x8192x1024, .f32⟩
  | 99 => ⟨S1x8192x1024, .f32⟩
  | 100 => ⟨S_, .f32⟩
  | 101 => ⟨S1x8192x1024, .f32⟩
  | 102 => ⟨S1x8192x1024, .f32⟩
  | 103 => ⟨S1x8192x1024, .f32⟩
  | 104 => ⟨S1x8192x1024, .f32⟩
  | 105 => ⟨S1x8192x1024, .f32⟩
  | 106 => ⟨S1x8192x1024, .f32⟩
  | 107 => ⟨S_, .f32⟩
  | 108 => ⟨S1x8192x1024, .f32⟩
  | 109 => ⟨S1x8192x1024, .f32⟩
  | 110 => ⟨S_, .f32⟩
  | 111 => ⟨S1x8192x1024, .f32⟩
  | 112 => ⟨S1x8192x1024, .f32⟩
  | 113 => ⟨S_, .f32⟩
  | 114 => ⟨S1x8192x1024, .f32⟩
  | 115 => ⟨S1x8192x1024, .f32⟩
  | 116 => ⟨S1x8192x1024, .f32⟩
  | 117 => ⟨S1x8192x1024, .f32⟩
  | 118 => ⟨S1x8192x1024, .f32⟩
  | 119 => ⟨S1x8192x1024, .f32⟩
  | 120 => ⟨S1x8192x1024, .f32⟩
  | 121 => ⟨S1x8192x1024, .f32⟩
  | 122 => ⟨S1x8192x1024, .f32⟩
  | 123 => ⟨S1x8192x1024, .f32⟩
  | 124 => ⟨S1x8192x1024, .f32⟩
  | 125 => ⟨S1x8192x1024, .f32⟩
  | 126 => ⟨S1x8192x1024, .f32⟩
  | 127 => ⟨S1x8192x1024, .f32⟩
  | _ => ⟨S1x8192x11264, .f32⟩

abbrev hbmTy0_1 (i : Nat) : BufTy := match i % 128 with
  | 0 => ⟨S1x8192x1024, .f32⟩
  | 1 => ⟨S_, .f32⟩
  | 2 => ⟨S1x1024, .f32⟩
  | 3 => ⟨S1x1x1024, .f32⟩
  | 4 => ⟨S_, .f32⟩
  | 5 => ⟨S1024, .f32⟩
  | 6 => ⟨S1x8192x1024, .f32⟩
  | 7 => ⟨S_, .f32⟩
  | 8 => ⟨S1x1024, .f32⟩
  | 9 => ⟨S1x1x1024, .f32⟩
  | 10 => ⟨S1x8192x1024, .f32⟩
  | 11 => ⟨S1x8192x1024, .f32⟩
  | 12 => ⟨S_, .f32⟩
  | 13 => ⟨S1024, .f32⟩
  | 14 => ⟨S1x8192x1024, .f32⟩
  | 15 => ⟨S_, .f32⟩
  | 16 => ⟨S1x8192, .f32⟩
  | 17 => ⟨S1x8192x1, .f32⟩
  | 18 => ⟨S1x8192x1024, .f32⟩
  | 19 => ⟨S1x8192x1024, .f32⟩
  | 20 => ⟨S1x8192x1, .f32⟩
  | 21 => ⟨S1x8192x1024, .f32⟩
  | 22 => ⟨S_, .f32⟩
  | 23 => ⟨S1x8192, .f32⟩
  | 24 => ⟨S1x8192x1, .f32⟩
  | 25 => ⟨S_, .f32⟩
  | 26 => ⟨S1x8192x1, .f32⟩
  | 27 => ⟨S1x8192x1, .f32⟩
  | 28 => ⟨S_, .f32⟩
  | 29 => ⟨S8192, .f32⟩
  | 30 => ⟨S1x8192, .f32⟩
  | 31 => ⟨S1x8192x1024, .f32⟩
  | 32 => ⟨S1x8192x1024, .f32⟩
  | 33 => ⟨S1x8192x1024, .f32⟩
  | 34 => ⟨S_, .f32⟩
  | 35 => ⟨S1x8192, .f32⟩
  | 36 => ⟨S1x8192x1, .f32⟩
  | 37 => ⟨S1x8192x1024, .f32⟩
  | 38 => ⟨S1x8192x1, .f32⟩
  | 39 => ⟨S_, .f32⟩
  | 40 => ⟨S1x8192x1, .f32⟩
  | 41 => ⟨S1x8192x1, .f32⟩
  | 42 => ⟨S_, .f32⟩
  | 43 => ⟨S8192, .f32⟩
  | 44 => ⟨S1x8192, .f32⟩
  | 45 => ⟨S1x8192x1024, .f32⟩
  | 46 => ⟨S1x8192x1024, .f32⟩
  | 47 => ⟨S1x1024, .f32⟩
  | 48 => ⟨S1x1024, .f32⟩
  | 49 => ⟨S_, .f32⟩
  | 50 => ⟨S1x1024, .f32⟩
  | 51 => ⟨S1x1x1024, .f32⟩
  | 52 => ⟨S_, .f32⟩
  | 53 => ⟨S1024, .f32⟩
  | 54 => ⟨S1x8192x31x1024, .f32⟩
  | 55 => ⟨S1x8192x31x1024, .f32⟩
  | 56 => ⟨S_, .f32⟩
  | 57 => ⟨S1x31x1024, .f32⟩
  | 58 => ⟨S1x1x31x1024, .f32⟩
  | 59 => ⟨S1x8192x31x1024, .f32⟩
  | 60 => ⟨S1x8192x31x1024, .f32⟩
  | 61 => ⟨S_, .f32⟩
  | 62 => ⟨S31x1024, .f32⟩
  | 63 => ⟨S_, .f32⟩
  | 64 => ⟨S1x8222x1024, .f32⟩
  | 65 => ⟨S1x8222x1024, .f32⟩
  | 66 => ⟨S1x30x1024, .f32⟩
  | 67 => ⟨S1x8192x1024, .f32⟩
  | 68 => ⟨S1x1024, .f32⟩
  | 69 => ⟨S1x31x1024, .f32⟩
  | 70 => ⟨S1x8192x1024, .f32⟩
  | 71 => ⟨S1x8192x1024, .f32⟩
  | 72 => ⟨S1x8192x1024, .f32⟩
  | 73 => ⟨S31x1024, .f32⟩
  | 74 => ⟨S_, .f32⟩
  | 75 => ⟨S6x1024, .f32⟩
  | 76 => ⟨S40x1024, .f32⟩
  | 77 => ⟨S8192x1024, .f32⟩
  | 78 => ⟨S8192x1024, .f32⟩
  | 79 => ⟨S8192x1024, .f32⟩
  | 80 => ⟨S8192x3072, .f32⟩
  | 81 => ⟨S8192x3072, .bf16⟩
  | _ => ⟨S1x8192x11264, .f32⟩

abbrev hbmTy (i : Nat) : BufTy := match i / 128 with
  | 0 => hbmTy0_0 i
  | 1 => hbmTy0_1 i
  | _ => ⟨S1x8192x11264, .f32⟩

abbrev bufTy : (tb : Table) → Fin (tcTables nBuf tb) → BufTy
  | .hbm, ⟨i, _⟩ => hbmTy i
  | _, _ => ⟨S1x8192x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_c : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_5 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_6 : Ref sig .tc := ⟨.hbm, 56, rfl⟩
abbrev main_v42 : Ref sig .tc := ⟨.hbm, 57, rfl⟩
abbrev main_v43 : Ref sig .tc := ⟨.hbm, 58, rfl⟩
abbrev main_cst_7 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_8 : Ref sig .tc := ⟨.hbm, 65, rfl⟩
abbrev main_v49 : Ref sig .tc := ⟨.hbm, 66, rfl⟩
abbrev main_v50 : Ref sig .tc := ⟨.hbm, 67, rfl⟩
abbrev main_cst_9 : Ref sig .tc := ⟨.hbm, 68, rfl⟩
abbrev main_v51 : Ref sig .tc := ⟨.hbm, 69, rfl⟩
abbrev main_v52 : Ref sig .tc := ⟨.hbm, 70, rfl⟩
abbrev main_cst_10 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_11 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_12 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_call0_v0 : Ref sig .tc := ⟨.hbm, 92, rfl⟩
abbrev main_call0_v1 : Ref sig .tc := ⟨.hbm, 93, rfl⟩
abbrev main_call0_cst : Ref sig .tc := ⟨.hbm, 94, rfl⟩
abbrev main_call0_v2 : Ref sig .tc := ⟨.hbm, 95, rfl⟩
abbrev main_call0_v3 : Ref sig .tc := ⟨.hbm, 96, rfl⟩
abbrev main_call0_cst_0 : Ref sig .tc := ⟨.hbm, 97, rfl⟩
abbrev main_call0_v4 : Ref sig .tc := ⟨.hbm, 98, rfl⟩
abbrev main_v71_2 : Ref sig .tc := ⟨.hbm, 99, rfl⟩
abbrev main_call0_cst_1 : Ref sig .tc := ⟨.hbm, 100, rfl⟩
abbrev main_call0_v6 : Ref sig .tc := ⟨.hbm, 101, rfl⟩
abbrev main_call0_v7 : Ref sig .tc := ⟨.hbm, 102, rfl⟩
abbrev main_v71_1 : Ref sig .tc := ⟨.hbm, 103, rfl⟩
abbrev main_v71_0 : Ref sig .tc := ⟨.hbm, 104, rfl⟩
abbrev main_call1_v0 : Ref sig .tc := ⟨.hbm, 105, rfl⟩
abbrev main_call1_v1 : Ref sig .tc := ⟨.hbm, 106, rfl⟩
abbrev main_call1_cst : Ref sig .tc := ⟨.hbm, 107, rfl⟩
abbrev main_call1_v2 : Ref sig .tc := ⟨.hbm, 108, rfl⟩
abbrev main_call1_v3 : Ref sig .tc := ⟨.hbm, 109, rfl⟩
abbrev main_call1_cst_0 : Ref sig .tc := ⟨.hbm, 110, rfl⟩
abbrev main_call1_v4 : Ref sig .tc := ⟨.hbm, 111, rfl⟩
abbrev main_v72_2 : Ref sig .tc := ⟨.hbm, 112, rfl⟩
abbrev main_call1_cst_1 : Ref sig .tc := ⟨.hbm, 113, rfl⟩
abbrev main_call1_v6 : Ref sig .tc := ⟨.hbm, 114, rfl⟩
abbrev main_call1_v7 : Ref sig .tc := ⟨.hbm, 115, rfl⟩
abbrev main_v72_1 : Ref sig .tc := ⟨.hbm, 116, rfl⟩
abbrev main_v72_0 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_call2_v0 : Ref sig .tc := ⟨.hbm, 121, rfl⟩
abbrev main_call2_v1 : Ref sig .tc := ⟨.hbm, 122, rfl⟩
abbrev main_call2_v2 : Ref sig .tc := ⟨.hbm, 123, rfl⟩
abbrev main_v76 : Ref sig .tc := ⟨.hbm, 124, rfl⟩
abbrev main_call3_v0 : Ref sig .tc := ⟨.hbm, 125, rfl⟩
abbrev main_call3_v1 : Ref sig .tc := ⟨.hbm, 126, rfl⟩
abbrev main_call3_v2 : Ref sig .tc := ⟨.hbm, 127, rfl⟩
abbrev main_v77 : Ref sig .tc := ⟨.hbm, 128, rfl⟩
abbrev main_cst_13 : Ref sig .tc := ⟨.hbm, 129, rfl⟩
abbrev main_v78 : Ref sig .tc := ⟨.hbm, 130, rfl⟩
abbrev main_v79 : Ref sig .tc := ⟨.hbm, 131, rfl⟩
abbrev main_cst_14 : Ref sig .tc := ⟨.hbm, 132, rfl⟩
abbrev main_v80 : Ref sig .tc := ⟨.hbm, 133, rfl⟩
abbrev main_v81 : Ref sig .tc := ⟨.hbm, 134, rfl⟩
abbrev main_cst_15 : Ref sig .tc := ⟨.hbm, 135, rfl⟩
abbrev main_v82 : Ref sig .tc := ⟨.hbm, 136, rfl⟩
abbrev main_v83 : Ref sig .tc := ⟨.hbm, 137, rfl⟩
abbrev main_v84 : Ref sig .tc := ⟨.hbm, 138, rfl⟩
abbrev main_v85 : Ref sig .tc := ⟨.hbm, 139, rfl⟩
abbrev main_cst_16 : Ref sig .tc := ⟨.hbm, 140, rfl⟩
abbrev main_v86 : Ref sig .tc := ⟨.hbm, 141, rfl⟩
abbrev main_v87 : Ref sig .tc := ⟨.hbm, 142, rfl⟩
abbrev main_cst_17 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_v93 : Ref sig .tc := ⟨.hbm, 149, rfl⟩
abbrev main_cst_18 : Ref sig .tc := ⟨.hbm, 150, rfl⟩
abbrev main_v94 : Ref sig .tc := ⟨.hbm, 151, rfl⟩
abbrev main_v95 : Ref sig .tc := ⟨.hbm, 152, rfl⟩
abbrev main_cst_19 : Ref sig .tc := ⟨.hbm, 153, rfl⟩
abbrev main_v96 : Ref sig .tc := ⟨.hbm, 154, rfl⟩
abbrev main_v97 : Ref sig .tc := ⟨.hbm, 155, rfl⟩
abbrev main_cst_20 : Ref sig .tc := ⟨.hbm, 156, rfl⟩
abbrev main_v98 : Ref sig .tc := ⟨.hbm, 157, rfl⟩
abbrev main_v99 : Ref sig .tc := ⟨.hbm, 158, rfl⟩
abbrev main_v100 : Ref sig .tc := ⟨.hbm, 159, rfl⟩
abbrev main_v101 : Ref sig .tc := ⟨.hbm, 160, rfl⟩
abbrev main_v102 : Ref sig .tc := ⟨.hbm, 161, rfl⟩
abbrev main_cst_21 : Ref sig .tc := ⟨.hbm, 162, rfl⟩
abbrev main_v103 : Ref sig .tc := ⟨.hbm, 163, rfl⟩
abbrev main_v104 : Ref sig .tc := ⟨.hbm, 164, rfl⟩
abbrev main_v105 : Ref sig .tc := ⟨.hbm, 165, rfl⟩
abbrev main_v106 : Ref sig .tc := ⟨.hbm, 166, rfl⟩
abbrev main_cst_22 : Ref sig .tc := ⟨.hbm, 167, rfl⟩
abbrev main_v107 : Ref sig .tc := ⟨.hbm, 168, rfl⟩
abbrev main_v108 : Ref sig .tc := ⟨.hbm, 169, rfl⟩
abbrev main_cst_23 : Ref sig .tc := ⟨.hbm, 170, rfl⟩
abbrev main_v109 : Ref sig .tc := ⟨.hbm, 171, rfl⟩
abbrev main_v110 : Ref sig .tc := ⟨.hbm, 172, rfl⟩
abbrev main_v111 : Ref sig .tc := ⟨.hbm, 173, rfl⟩
abbrev main_v112 : Ref sig .tc := ⟨.hbm, 174, rfl⟩
abbrev main_v113 : Ref sig .tc := ⟨.hbm, 175, rfl⟩
abbrev main_v114 : Ref sig .tc := ⟨.hbm, 176, rfl⟩
abbrev main_cst_24 : Ref sig .tc := ⟨.hbm, 177, rfl⟩
abbrev main_v115 : Ref sig .tc := ⟨.hbm, 178, rfl⟩
abbrev main_v116 : Ref sig .tc := ⟨.hbm, 179, rfl⟩
abbrev main_cst_25 : Ref sig .tc := ⟨.hbm, 180, rfl⟩
abbrev main_v117 : Ref sig .tc := ⟨.hbm, 181, rfl⟩
abbrev main_v118 : Ref sig .tc := ⟨.hbm, 182, rfl⟩
abbrev main_v119 : Ref sig .tc := ⟨.hbm, 183, rfl⟩
abbrev main_cst_26 : Ref sig .tc := ⟨.hbm, 184, rfl⟩
abbrev main_v120 : Ref sig .tc := ⟨.hbm, 185, rfl⟩
abbrev main_v121 : Ref sig .tc := ⟨.hbm, 186, rfl⟩
abbrev main_v122 : Ref sig .tc := ⟨.hbm, 187, rfl⟩
abbrev main_v123 : Ref sig .tc := ⟨.hbm, 188, rfl⟩
abbrev main_cst_27 : Ref sig .tc := ⟨.hbm, 189, rfl⟩
abbrev main_v124 : Ref sig .tc := ⟨.hbm, 190, rfl⟩
abbrev main_cst_28 : Ref sig .tc := ⟨.hbm, 191, rfl⟩
abbrev main_v125 : Ref sig .tc := ⟨.hbm, 192, rfl⟩
abbrev main_v126 : Ref sig .tc := ⟨.hbm, 193, rfl⟩
abbrev main_v127 : Ref sig .tc := ⟨.hbm, 194, rfl⟩
abbrev main_v128 : Ref sig .tc := ⟨.hbm, 195, rfl⟩
abbrev main_v129 : Ref sig .tc := ⟨.hbm, 196, rfl⟩
abbrev main_v130 : Ref sig .tc := ⟨.hbm, 197, rfl⟩
abbrev main_v131 : Ref sig .tc := ⟨.hbm, 198, rfl⟩
abbrev main_v132 : Ref sig .tc := ⟨.hbm, 199, rfl⟩
abbrev main_v133 : Ref sig .tc := ⟨.hbm, 200, rfl⟩
abbrev main_v134 : Ref sig .tc := ⟨.hbm, 201, rfl⟩
abbrev main_cst_29 : Ref sig .tc := ⟨.hbm, 202, rfl⟩
abbrev main_v135 : Ref sig .tc := ⟨.hbm, 203, rfl⟩
abbrev main_v136 : Ref sig .tc := ⟨.hbm, 204, rfl⟩
abbrev main_v137 : Ref sig .tc := ⟨.hbm, 205, rfl⟩
abbrev main_v138 : Ref sig .tc := ⟨.hbm, 206, rfl⟩
abbrev main_v139 : Ref sig .tc := ⟨.hbm, 207, rfl⟩
abbrev main_v140 : Ref sig .tc := ⟨.hbm, 208, rfl⟩
abbrev main_v141 : Ref sig .tc := ⟨.hbm, 209, rfl⟩

abbrev nD : Nat := 1
abbrev τ : Topo := Topo.v7x

variable {F : FTy → Type} [FloatOps F]
-- ==== Dwr.lean ====
abbrev S1x8192x1024 : Shape := ⟨3, ![1, 8192, 1024]⟩
abbrev S1x8192x6144 : Shape := ⟨3, ![1, 8192, 6144]⟩
abbrev S8192x1024 : Shape := ⟨2, ![8192, 1024]⟩
abbrev S8192x6144 : Shape := ⟨2, ![8192, 6144]⟩
abbrev S1024x1024 : Shape := ⟨2, ![1024, 1024]⟩
abbrev S1024x2048 : Shape := ⟨2, ![1024, 2048]⟩
abbrev S2048x1024 : Shape := ⟨2, ![2048, 1024]⟩
abbrev S2048x1536 : Shape := ⟨2, ![2048, 1536]⟩
abbrev S1024x256 : Shape := ⟨2, ![1024, 256]⟩
abbrev S1024x512 : Shape := ⟨2, ![1024, 512]⟩
abbrev S1024x1536 : Shape := ⟨2, ![1024, 1536]⟩

abbrev nBuf : Space → Nat
  | .hbm => 10
  | .vmem => 12
  | .smem => 0
  | _ => 0

abbrev bufTy : (tb : Table) → Fin (tcTables nBuf tb) → BufTy
  | .hbm, ⟨0, _⟩ => ⟨S1x8192x1024, .f32⟩
  | .hbm, ⟨1, _⟩ => ⟨S1x8192x6144, .f32⟩
  | .hbm, ⟨2, _⟩ => ⟨S8192x1024, .f32⟩
  | .hbm, ⟨3, _⟩ => ⟨S8192x1024, .bf16⟩
  | .hbm, ⟨4, _⟩ => ⟨S8192x6144, .f32⟩
  | .hbm, ⟨5, _⟩ => ⟨S8192x6144, .bf16⟩
  | .hbm, ⟨6, _⟩ => ⟨S1024x1024, .f32⟩
  | .hbm, ⟨7, _⟩ => ⟨S1024x1024, .f32⟩
  | .hbm, ⟨8, _⟩ => ⟨S1024x2048, .f32⟩
  | .hbm, ⟨9, _⟩ => ⟨S1024x2048, .f32⟩
  | .local _ .vmem, ⟨0, _⟩ => ⟨S2048x1024, .bf16⟩
  | .local _ .vmem, ⟨1, _⟩ => ⟨S2048x1024, .bf16⟩
  | .local _ .vmem, ⟨2, _⟩ => ⟨S2048x1536, .bf16⟩
  | .local _ .vmem, ⟨3, _⟩ => ⟨S2048x1536, .bf16⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev main_v4_2 : Ref sig .tc := ⟨.hbm, 8, rfl⟩
abbrev main_v4_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== DwrRefIdeal.lean ====
abbrev S1x8192x1024 : Shape := ⟨3, ![1, 8192, 1024]⟩
abbrev S1x8192x6144 : Shape := ⟨3, ![1, 8192, 6144]⟩
abbrev S1x8192x4x1536 : Shape := ⟨4, ![1, 8192, 4, 1536]⟩
abbrev S1x8192x4x256 : Shape := ⟨4, ![1, 8192, 4, 256]⟩
abbrev S1x8192x4x512 : Shape := ⟨4, ![1, 8192, 4, 512]⟩
abbrev S1024x4x256 : Shape := ⟨3, ![1024, 4, 256]⟩
abbrev S1024x1024 : Shape := ⟨2, ![1024, 1024]⟩
abbrev S1024x4x512 : Shape := ⟨3, ![1024, 4, 512]⟩
abbrev S1024x2048 : Shape := ⟨2, ![1024, 2048]⟩

abbrev nBuf : Space → Nat
  | .hbm => 15
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1x8192x6144, .f32⟩
  | .hbm, ⟨2, _⟩ => ⟨S1x8192x4x1536, .f32⟩
  | .hbm, ⟨3, _⟩ => ⟨S1x8192x4x256, .f32⟩
  | .hbm, ⟨4, _⟩ => ⟨S1x8192x4x256, .f32⟩
  | .hbm, ⟨5, _⟩ => ⟨S1x8192x4x512, .f32⟩
  | .hbm, ⟨6, _⟩ => ⟨S1x8192x4x512, .f32⟩
  | .hbm, ⟨7, _⟩ => ⟨S1024x4x256, .f32⟩
  | .hbm, ⟨8, _⟩ => ⟨S1024x1024, .f32⟩
  | .hbm, ⟨9, _⟩ => ⟨S1024x4x256, .f32⟩
  | .hbm, ⟨10, _⟩ => ⟨S1024x1024, .f32⟩
  | .hbm, ⟨11, _⟩ => ⟨S1024x4x512, .f32⟩
  | .hbm, ⟨12, _⟩ => ⟨S1024x2048, .f32⟩
  | .hbm, ⟨13, _⟩ => ⟨S1024x4x512, .f32⟩
  | .hbm, ⟨14, _⟩ => ⟨S1024x2048, .f32⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩

abbrev nD : Nat := 1
abbrev τ : Topo := Topo.v7x

variable {F : FTy → Type} [FloatOps F]
-- ==== Rope.lean ====
abbrev S1x8192 : Shape := ⟨2, ![1, 8192]⟩
abbrev S128 : Shape := ⟨1, ![128]⟩
abbrev S_ : Shape := ⟨0, ![]⟩
abbrev S1x128 : Shape := ⟨2, ![1, 128]⟩
abbrev S8192x1 : Shape := ⟨2, ![8192, 1]⟩
abbrev S8192x128 : Shape := ⟨2, ![8192, 128]⟩
abbrev S1024x1 : Shape := ⟨2, ![1024, 1]⟩
abbrev S1024x128 : Shape := ⟨2, ![1024, 128]⟩

abbrev nBuf : Space → Nat
  | .hbm => 13
  | .vmem => 7
  | .smem => 0
  | _ => 0

abbrev bufTy : (tb : Table) → Fin (tcTables nBuf tb) → BufTy
  | .hbm, ⟨0, _⟩ => ⟨S1x8192, .i32⟩
  | .hbm, ⟨1, _⟩ => ⟨S128, .f32⟩
  | .hbm, ⟨2, _⟩ => ⟨S128, .f32⟩
  | .hbm, ⟨3, _⟩ => ⟨S_, .f32⟩
  | .hbm, ⟨4, _⟩ => ⟨S128, .f32⟩
  | .hbm, ⟨5, _⟩ => ⟨S128, .f32⟩
  | .hbm, ⟨6, _⟩ => ⟨S_, .f32⟩
  | .hbm, ⟨7, _⟩ => ⟨S128, .f32⟩
  | .hbm, ⟨8, _⟩ => ⟨S128, .f32⟩
  | .hbm, ⟨9, _⟩ => ⟨S1x128, .f32⟩
  | .hbm, ⟨10, _⟩ => ⟨S8192x1, .i32⟩
  | .hbm, ⟨11, _⟩ => ⟨S8192x128, .f32⟩
  | .hbm, ⟨12, _⟩ => ⟨S8192x128, .f32⟩
  | .local _ .vmem, ⟨0, _⟩ => ⟨S1024x1, .i32⟩
  | .local _ .vmem, ⟨1, _⟩ => ⟨S1024x1, .i32⟩
  | .local _ .vmem, ⟨2, _⟩ => ⟨S1x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | _, _ => ⟨S1x8192, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8_0 : Ref sig .tc := ⟨.hbm, 11, rfl⟩
abbrev main_v8_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== RopeRefIdeal.lean ====
abbrev S1x8192 : Shape := ⟨2, ![1, 8192]⟩
abbrev S128 : Shape := ⟨1, ![128]⟩
abbrev S_ : Shape := ⟨0, ![]⟩
abbrev S1x8192x1 : Shape := ⟨3, ![1, 8192, 1]⟩
abbrev S1x1x128 : Shape := ⟨3, ![1, 1, 128]⟩
abbrev S1x8192x128 : Shape := ⟨3, ![1, 8192, 128]⟩
abbrev S8192x128 : Shape := ⟨2, ![8192, 128]⟩

abbrev nBuf : Space → Nat
  | .hbm => 19
  | .vmem => 0
  | .smem => 0
  | _ => 0

abbrev bufTy : (tb : Table) → Fin (tcTables nBuf tb) → BufTy
  | .hbm, ⟨0, _⟩ => ⟨S1x8192, .i32⟩
  | .hbm, ⟨1, _⟩ => ⟨S128, .f32⟩
  | .hbm, ⟨2, _⟩ => ⟨S128, .f32⟩
  | .hbm, ⟨3, _⟩ => ⟨S_, .f32⟩
  | .hbm, ⟨4, _⟩ => ⟨S128, .f32⟩
  | .hbm, ⟨5, _⟩ => ⟨S128, .f32⟩
  | .hbm, ⟨6, _⟩ => ⟨S_, .f32⟩
  | .hbm, ⟨7, _⟩ => ⟨S128, .f32⟩
  | .hbm, ⟨8, _⟩ => ⟨S128, .f32⟩
  | .hbm, ⟨9, _⟩ => ⟨S1x8192, .f32⟩
  | .hbm, ⟨10, _⟩ => ⟨S1x8192x1, .f32⟩
  | .hbm, ⟨11, _⟩ => ⟨S1x1x128, .f32⟩
  | .hbm, ⟨12, _⟩ => ⟨S1x8192x128, .f32⟩
  | .hbm, ⟨13, _⟩ => ⟨S1x8192x128, .f32⟩
  | .hbm, ⟨14, _⟩ => ⟨S1x8192x128, .f32⟩
  | .hbm, ⟨15, _⟩ => ⟨S1x8192x128, .f32⟩
  | .hbm, ⟨16, _⟩ => ⟨S8192x128, .f32⟩
  | .hbm, ⟨17, _⟩ => ⟨S1x8192x128, .f32⟩
  | .hbm, ⟨18, _⟩ => ⟨S8192x128, .f32⟩
  | _, _ => ⟨S1x8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩

abbrev nD : Nat := 1
abbrev τ : Topo := Topo.v7x

variable {F : FTy → Type} [FloatOps F]
-- ==== Dw.lean ====
abbrev S1x8192x1024 : Shape := ⟨3, ![1, 8192, 1024]⟩
abbrev S1x8192x3072 : Shape := ⟨3, ![1, 8192, 3072]⟩
abbrev S8192x1024 : Shape := ⟨2, ![8192, 1024]⟩
abbrev S8192x3072 : Shape := ⟨2, ![8192, 3072]⟩
abbrev S1024x3072 : Shape := ⟨2, ![1024, 3072]⟩
abbrev S2048x1024 : Shape := ⟨2, ![2048, 1024]⟩
abbrev S1024x1024 : Shape := ⟨2, ![1024, 1024]⟩

abbrev nBuf : Space → Nat
  | .hbm => 7
  | .vmem => 6
  | .smem => 0
  | _ => 0

abbrev bufTy : (tb : Table) → Fin (tcTables nBuf tb) → BufTy
  | .hbm, ⟨0, _⟩ => ⟨S1x8192x1024, .f32⟩
  | .hbm, ⟨1, _⟩ => ⟨S1x8192x3072, .f32⟩
  | .hbm, ⟨2, _⟩ => ⟨S8192x1024, .f32⟩
  | .hbm, ⟨3, _⟩ => ⟨S8192x1024, .bf16⟩
  | .hbm, ⟨4, _⟩ => ⟨S8192x3072, .f32⟩
  | .hbm, ⟨5, _⟩ => ⟨S8192x3072, .bf16⟩
  | .hbm, ⟨6, _⟩ => ⟨S1024x3072, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DwRefIdeal.lean ====
abbrev S1x8192x1024 : Shape := ⟨3, ![1, 8192, 1024]⟩
abbrev S1x8192x3072 : Shape := ⟨3, ![1, 8192, 3072]⟩
abbrev S1024x3072 : Shape := ⟨2, ![1024, 3072]⟩

abbrev nBuf : Space → Nat
  | .hbm => 3
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1x8192x3072, .f32⟩
  | .hbm, ⟨2, _⟩ => ⟨S1024x3072, .f32⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Adam.lean ====
abbrev S8x1024x1408 : Shape := ⟨3, ![8, 1024, 1408]⟩
abbrev S1x1024x1408 : Shape := ⟨3, ![1, 1024, 1408]⟩
abbrev S1024x1408 : Shape := ⟨2, ![1024, 1408]⟩
abbrev S8x128x1408 : Shape := ⟨3, ![8, 128, 1408]⟩
abbrev S128x1408 : Shape := ⟨2, ![128, 1408]⟩
abbrev S1x128x1408 : Shape := ⟨3, ![1, 128, 1408]⟩

abbrev nBuf : Space → Nat
  | .hbm => 12
  | .vmem => 16
  | .smem => 0
  | _ => 0

abbrev bufTy : (tb : Table) → Fin (tcTables nBuf tb) → BufTy
  | .hbm, ⟨0, _⟩ => ⟨S8x1024x1408, .f32⟩
  | .hbm, ⟨1, _⟩ => ⟨S1x1024x1408, .f32⟩
  | .hbm, ⟨2, _⟩ => ⟨S1x1024x1408, .f32⟩
  | .hbm, ⟨3, _⟩ => ⟨S1x1024x1408, .f32⟩
  | .hbm, ⟨4, _⟩ => ⟨S8x1024x1408, .bf16⟩
  | .hbm, ⟨5, _⟩ => ⟨S1024x1408, .f32⟩
  | .hbm, ⟨6, _⟩ => ⟨S1024x1408, .f32⟩
  | .hbm, ⟨7, _⟩ => ⟨S1024x1408, .f32⟩
  | .hbm, ⟨8, _⟩ => ⟨S1024x1408, .f32⟩
  | .hbm, ⟨9, _⟩ => ⟨S1024x1408, .f32⟩
  | .hbm, ⟨10, _⟩ => ⟨S1024x1408, .f32⟩
  | .hbm, ⟨11, _⟩ => ⟨S1024x1408, .f32⟩
  | .local _ .vmem, ⟨0, _⟩ => ⟨S8x128x1408, .bf16⟩
  | .local _ .vmem, ⟨1, _⟩ => ⟨S8x128x1408, .bf16⟩
  | .local _ .vmem, ⟨2, _⟩ => ⟨S128x1408, .f32⟩
  | .local _ .vmem, ⟨3, _⟩ => ⟨S128x1408, .f32⟩
  | .local _ .vmem, ⟨4, _⟩ => ⟨S128x1408, .f32⟩
  | .local _ .vmem, ⟨5, _⟩ => ⟨S128x1408, .f32⟩
  | .local _ .vmem, ⟨6, _⟩ => ⟨S128x1408, .f32⟩
  | .local _ .vmem, ⟨7, _⟩ => ⟨S128x1408, .f32⟩
  | .local _ .vmem, ⟨8, _⟩ => ⟨S128x1408, .f32⟩
  | .local _ .vmem, ⟨9, _⟩ => ⟨S128x1408, .f32⟩
  | .local _ .vmem, ⟨10, _⟩ => ⟨S128x1408, .f32⟩
  | .local _ .vmem, ⟨11, _⟩ => ⟨S128x1408, .f32⟩
  | .local _ .vmem, ⟨12, _⟩ => ⟨S128x1408, .f32⟩
  | .local _ .vmem, ⟨13, _⟩ => ⟨S128x1408, .f32⟩
  | .local _ .vmem, ⟨14, _⟩ => ⟨S128x1408, .f32⟩
  | .local _ .vmem, ⟨15, _⟩ => ⟨S128x1408, .f32⟩
  | _, _ => ⟨S8x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamRefIdeal.lean ====
abbrev S8x1024x1408 : Shape := ⟨3, ![8, 1024, 1408]⟩
abbrev S1x1024x1408 : Shape := ⟨3, ![1, 1024, 1408]⟩
abbrev S_ : Shape := ⟨0, ![]⟩
abbrev S1024x1408 : Shape := ⟨2, ![1024, 1408]⟩

abbrev nBuf : Space → Nat
  | .hbm => 42
  | .vmem => 0
  | .smem => 0
  | _ => 0

abbrev bufTy : (tb : Table) → Fin (tcTables nBuf tb) → BufTy
  | .hbm, ⟨0, _⟩ => ⟨S8x1024x1408, .f32⟩
  | .hbm, ⟨1, _⟩ => ⟨S1x1024x1408, .f32⟩
  | .hbm, ⟨2, _⟩ => ⟨S1x1024x1408, .f32⟩
  | .hbm, ⟨3, _⟩ => ⟨S1x1024x1408, .f32⟩
  | .hbm, ⟨4, _⟩ => ⟨S_, .f32⟩
  | .hbm, ⟨5, _⟩ => ⟨S1024x1408, .f32⟩
  | .hbm, ⟨6, _⟩ => ⟨S1024x1408, .f32⟩
  | .hbm, ⟨7, _⟩ => ⟨S1024x1408, .f32⟩
  | .hbm, ⟨8, _⟩ => ⟨S1024x1408, .f32⟩
  | .hbm, ⟨9, _⟩ => ⟨S_, .f32⟩
  | .hbm, ⟨10, _⟩ => ⟨S1024x1408, .f32⟩
  | .hbm, ⟨11, _⟩ => ⟨S1024x1408, .f32⟩
  | .hbm, ⟨12, _⟩ => ⟨S_, .f32⟩
  | .hbm, ⟨13, _⟩ => ⟨S1024x1408, .f32⟩
  | .hbm, ⟨14, _⟩ => ⟨S1024x1408, .f32⟩
  | .hbm, ⟨15, _⟩ => ⟨S1024x1408, .f32⟩
  | .hbm, ⟨16, _⟩ => ⟨S_, .f32⟩
  | .hbm, ⟨17, _⟩ => ⟨S1024x1408, .f32⟩
  | .hbm, ⟨18, _⟩ => ⟨S1024x1408, .f32⟩
  | .hbm, ⟨19, _⟩ => ⟨S1024x1408, .f32⟩
  | .hbm, ⟨20, _⟩ => ⟨S_, .f32⟩
  | .hbm, ⟨21, _⟩ => ⟨S1024x1408, .f32⟩
  | .hbm, ⟨22, _⟩ => ⟨S1024x1408, .f32⟩
  | .hbm, ⟨23, _⟩ => ⟨S1024x1408, .f32⟩
  | .hbm, ⟨24, _⟩ => ⟨S_, .f32⟩
  | .hbm, ⟨25, _⟩ => ⟨S1024x1408, .f32⟩
  | .hbm, ⟨26, _⟩ => ⟨S1024x1408, .f32⟩
  | .hbm, ⟨27, _⟩ => ⟨S_, .f32⟩
  | .hbm, ⟨28, _⟩ => ⟨S1024x1408, .f32⟩
  | .hbm, ⟨29, _⟩ => ⟨S1024x1408, .f32⟩
  | .hbm, ⟨30, _⟩ => ⟨S1024x1408, .f32⟩
  | .hbm, ⟨31, _⟩ => ⟨S_, .f32⟩
  | .hbm, ⟨32, _⟩ => ⟨S1024x1408, .f32⟩
  | .hbm, ⟨33, _⟩ => ⟨S1024x1408, .f32⟩
  | .hbm, ⟨34, _⟩ => ⟨S1024x1408, .f32⟩
  | .hbm, ⟨35, _⟩ => ⟨S_, .f32⟩
  | .hbm, ⟨36, _⟩ => ⟨S1024x1408, .f32⟩
  | .hbm, ⟨37, _⟩ => ⟨S1024x1408, .f32⟩
  | .hbm, ⟨38, _⟩ => ⟨S1024x1408, .f32⟩
  | .hbm, ⟨39, _⟩ => ⟨S_, .f32⟩
  | .hbm, ⟨40, _⟩ => ⟨S1024x1408, .f32⟩
  | .hbm, ⟨41, _⟩ => ⟨S1024x1408, .f32⟩
  | _, _ => ⟨S8x1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_8 : Ref sig .tc := ⟨.hbm, 39, rfl⟩
abbrev main_v26 : Ref sig .tc := ⟨.hbm, 40, rfl⟩
abbrev main_v27 : Ref sig .tc := ⟨.hbm, 41, rfl⟩

abbrev nD : Nat := 1
abbrev τ : Topo := Topo.v7x

variable {F : FTy → Type} [FloatOps F]
-- ==== Step.lean ====
abbrev S8x1024 : Shape := ⟨2, ![8, 1024]⟩

abbrev nBuf : Space → Nat
  | .hbm => 7
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S8x1024, .f32⟩
  | .hbm, ⟨2, _⟩ => ⟨S8x1024, .f32⟩
  | .hbm, ⟨3, _⟩ => ⟨S8x1024, .f32⟩
  | .hbm, ⟨4, _⟩ => ⟨S8x1024, .f32⟩
  | .hbm, ⟨5, _⟩ => ⟨S8x1024, .f32⟩
  | .hbm, ⟨6, _⟩ => ⟨S8x1024, .f32⟩
  | .local _ .vmem, ⟨0, _⟩ => ⟨S8x1024, .f32⟩
  | .local _ .vmem, ⟨1, _⟩ => ⟨S8x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S8x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== StepRefIdeal.lean ====
abbrev S8x1024 : Shape := ⟨2, ![8, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S8x1024, .f32⟩
  | .hbm, ⟨2, _⟩ => ⟨S8x1024, .f32⟩
  | .hbm, ⟨3, _⟩ => ⟨S8x1024, .f32⟩
  | .hbm, ⟨4, _⟩ => ⟨S_, .f32⟩
  | .hbm, ⟨5, _⟩ => ⟨S8x1024, .f32⟩
  | .hbm, ⟨6, _⟩ => ⟨S8x1024, .f32⟩
  | .hbm, ⟨7, _⟩ => ⟨S_, .f32⟩
  | .hbm, ⟨8, _⟩ => ⟨S8x1024, .f32⟩
  | .hbm, ⟨9, _⟩ => ⟨S8x1024, .f32⟩
  | .hbm, ⟨10, _⟩ => ⟨S8x1024, .f32⟩
  | .hbm, ⟨11, _⟩ => ⟨S_, .f32⟩
  | .hbm, ⟨12, _⟩ => ⟨S8x1024, .f32⟩
  | .hbm, ⟨13, _⟩ => ⟨S8x1024, .f32⟩
  | .hbm, ⟨14, _⟩ => ⟨S8x1024, .f32⟩
  | .hbm, ⟨15, _⟩ => ⟨S_, .f32⟩
  | .hbm, ⟨16, _⟩ => ⟨S8x1024, .f32⟩
  | .hbm, ⟨17, _⟩ => ⟨S8x1024, .f32⟩
  | .hbm, ⟨18, _⟩ => ⟨S8x1024, .f32⟩
  | .hbm, ⟨19, _⟩ => ⟨S_, .f32⟩
  | .hbm, ⟨20, _⟩ => ⟨S8x1024, .f32⟩
  | .hbm, ⟨21, _⟩ => ⟨S8x1024, .f32⟩
  | .hbm, ⟨22, _⟩ => ⟨S_, .f32⟩
  | .hbm, ⟨23, _⟩ => ⟨S8x1024, .f32⟩
  | .hbm, ⟨24, _⟩ => ⟨S8x1024, .f32⟩
  | .hbm, ⟨25, _⟩ => ⟨S8x1024, .f32⟩
  | .hbm, ⟨26, _⟩ => ⟨S_, .f32⟩
  | .hbm, ⟨27, _⟩ => ⟨S8x1024, .f32⟩
  | .hbm, ⟨28, _⟩ => ⟨S8x1024, .f32⟩
  | .hbm, ⟨29, _⟩ => ⟨S8x1024, .f32⟩
  | .hbm, ⟨30, _⟩ => ⟨S_, .f32⟩
  | .hbm, ⟨31, _⟩ => ⟨S8x1024, .f32⟩
  | .hbm, ⟨32, _⟩ => ⟨S8x1024, .f32⟩
  | .hbm, ⟨33, _⟩ => ⟨S8x1024, .f32⟩
  | .hbm, ⟨34, _⟩ => ⟨S_, .f32⟩
  | .hbm, ⟨35, _⟩ => ⟨S8x1024, .f32⟩
  | .hbm, ⟨36, _⟩ => ⟨S8x1024, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Sum.lean ====
abbrev S8x16x1024 : Shape := ⟨3, ![8, 16, 1024]⟩
abbrev S16x1024 : Shape := ⟨2, ![16, 1024]⟩
abbrev S1x16x1024 : Shape := ⟨3, ![1, 16, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x16x1024, .f32⟩
  | .hbm, ⟨1, _⟩ => ⟨S16x1024, .f32⟩
  | .local _ .vmem, ⟨0, _⟩ => ⟨S8x16x1024, .f32⟩
  | .local _ .vmem, ⟨1, _⟩ => ⟨S16x1024, .f32⟩
  | _, _ => ⟨S8x16x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== SumRefIdeal.lean ====
abbrev S8x16x1024 : Shape := ⟨3, ![8, 16, 1024]⟩
abbrev S_ : Shape := ⟨0, ![]⟩
abbrev S16x1024 : Shape := ⟨2, ![16, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8x16x1024, .f32⟩
  | .hbm, ⟨1, _⟩ => ⟨S_, .f32⟩
  | .hbm, ⟨2, _⟩ => ⟨S16x1024, .f32⟩
  | _, _ => ⟨S8x16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Mod.lean ====
abbrev S8x1024 : Shape := ⟨2, ![8, 1024]⟩
abbrev S1x1024x384 : Shape := ⟨3, ![1, 1024, 384]⟩
abbrev S1x384 : Shape := ⟨2, ![1, 384]⟩
abbrev S1024x384 : Shape := ⟨2, ![1024, 384]⟩
abbrev S8x384 : Shape := ⟨2, ![8, 384]⟩

abbrev nBuf : Space → Nat
  | .hbm => 5
  | .vmem => 4
  | .smem => 0
  | _ => 0

abbrev bufTy : (tb : Table) → Fin (tcTables nBuf tb) → BufTy
  | .hbm, ⟨0, _⟩ => ⟨S8x1024, .f32⟩
  | .hbm, ⟨1, _⟩ => ⟨S1x1024x384, .f32⟩
  | .hbm, ⟨2, _⟩ => ⟨S1x384, .f32⟩
  | .hbm, ⟨3, _⟩ => ⟨S1024x384, .f32⟩
  | .hbm, ⟨4, _⟩ => ⟨S8x384, .f32⟩
  | .local _ .vmem, ⟨0, _⟩ => ⟨S8x1024, .f32⟩
  | .local _ .vmem, ⟨1, _⟩ => ⟨S1024x384, .f32⟩
  | .local _ .vmem, ⟨2, _⟩ => ⟨S1x384, .f32⟩
  | .local _ .vmem, ⟨3, _⟩ => ⟨S8x384, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ModRefIdeal.lean ====
abbrev S8x1024 : Shape := ⟨2, ![8, 1024]⟩
abbrev S1x1024x384 : Shape := ⟨3, ![1, 1024, 384]⟩
abbrev S1x384 : Shape := ⟨2, ![1, 384]⟩
abbrev S1024x384 : Shape := ⟨2, ![1024, 384]⟩
abbrev S8x384 : Shape := ⟨2, ![8, 384]⟩
abbrev S384 : Shape := ⟨1, ![384]⟩

abbrev nBuf : Space → Nat
  | .hbm => 9
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1x1024x384, .f32⟩
  | .hbm, ⟨2, _⟩ => ⟨S1x384, .f32⟩
  | .hbm, ⟨3, _⟩ => ⟨S1024x384, .f32⟩
  | .hbm, ⟨4, _⟩ => ⟨S8x384, .f32⟩
  | .hbm, ⟨5, _⟩ => ⟨S384, .f32⟩
  | .hbm, ⟨6, _⟩ => ⟨S1x384, .f32⟩
  | .hbm, ⟨7, _⟩ => ⟨S8x384, .f32⟩
  | .hbm, ⟨8, _⟩ => ⟨S8x384, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Wada.lean ====
abbrev S8x1024 : Shape := ⟨2, ![8, 1024]⟩
abbrev S8x384 : Shape := ⟨2, ![8, 384]⟩
abbrev S1024x8 : Shape := ⟨2, ![1024, 8]⟩
abbrev S1024x384 : Shape := ⟨2, ![1024, 384]⟩
abbrev S1024x1 : Shape := ⟨2, ![1024, 1]⟩
abbrev S1x384 : Shape := ⟨2, ![1, 384]⟩

abbrev nBuf : Space → Nat
  | .hbm => 4
  | .vmem => 3
  | .smem => 0
  | _ => 0

abbrev bufTy : (tb : Table) → Fin (tcTables nBuf tb) → BufTy
  | .hbm, ⟨0, _⟩ => ⟨S8x1024, .f32⟩
  | .hbm, ⟨1, _⟩ => ⟨S8x384, .f32⟩
  | .hbm, ⟨2, _⟩ => ⟨S1024x8, .f32⟩
  | .hbm, ⟨3, _⟩ => ⟨S1024x384, .f32⟩
  | .local _ .vmem, ⟨0, _⟩ => ⟨S1024x8, .f32⟩
  | .local _ .vmem, ⟨1, _⟩ => ⟨S8x384, .f32⟩
  | .local _ .vmem, ⟨2, _⟩ => ⟨S1024x384, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S1024x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== WadaRefIdeal.lean ====
abbrev S8x1024 : Shape := ⟨2, ![8, 1024]⟩
abbrev S8x384 : Shape := ⟨2, ![8, 384]⟩
abbrev S1024x384 : Shape := ⟨2, ![1024, 384]⟩

abbrev nBuf : Space → Nat
  | .hbm => 3
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S8x384, .f32⟩
  | .hbm, ⟨2, _⟩ => ⟨S1024x384, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Cfwd.lean ====
abbrev S1x8192x11264 : Shape := ⟨3, ![1, 8192, 11264]⟩
abbrev S1x31x1024 : Shape := ⟨3, ![1, 31, 1024]⟩
abbrev S1x1024 : Shape := ⟨2, ![1, 1024]⟩
abbrev S31x1024 : Shape := ⟨2, ![31, 1024]⟩
abbrev S_ : Shape := ⟨0, ![]⟩
abbrev S32x1024 : Shape := ⟨2, ![32, 1024]⟩
abbrev S32x1x1024 : Shape := ⟨3, ![32, 1, 1024]⟩
abbrev S32x8x1024 : Shape := ⟨3, ![32, 8, 1024]⟩
abbrev S8192x11264 : Shape := ⟨2, ![8192, 11264]⟩
abbrev S8192x1024 : Shape := ⟨2, ![8192, 1024]⟩
abbrev S256x1024 : Shape := ⟨2, ![256, 1024]⟩
abbrev S296x1024 : Shape := ⟨2, ![296, 1024]⟩
abbrev S8x288x1024 : Shape := ⟨3, ![8, 288, 1024]⟩
abbrev S8x1024 : Shape := ⟨2, ![8, 1024]⟩
abbrev S288x1024 : Shape := ⟨2, ![288, 1024]⟩
abbrev S1x288x1024 : Shape := ⟨3, ![1, 288, 1024]⟩
abbrev S1x8x1024 : Shape := ⟨3, ![1, 8, 1024]⟩
abbrev S256 : Shape := ⟨1, ![256]⟩
abbrev S256x1 : Shape := ⟨2, ![256, 1]⟩

abbrev nBuf : Space → Nat
  | .hbm => 16
  | .vmem => 20
  | .smem => 0
  | _ => 0

abbrev bufTy : (tb : Table) → Fin (tcTables nBuf tb) → BufTy
  | .hbm, ⟨0, _⟩ => ⟨S1x8192x11264, .f32⟩
  | .hbm, ⟨1, _⟩ => ⟨S1x31x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S31x1024, .f32⟩
  | .hbm, ⟨6, _⟩ => ⟨S_, .i32⟩
  | .hbm, ⟨7, _⟩ => ⟨S_, .f32⟩
  | .hbm, ⟨8, _⟩ => ⟨S32x1024, .f32⟩
  | .hbm, ⟨9, _⟩ => ⟨S32x1024, .bf16⟩
  | .hbm, ⟨10, _⟩ => ⟨S32x1024, .f32⟩
  | .hbm, ⟨11, _⟩ => ⟨S32x1x1024, .f32⟩
  | .hbm, ⟨12, _⟩ => ⟨S32x8x1024, .f32⟩
  | .hbm, ⟨13, _⟩ => ⟨S8192x11264, .f32⟩
  | .hbm, ⟨14, _⟩ => ⟨S8192x1024, .bf16⟩
  | .hbm, ⟨15, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S32x1024, .f32⟩
  | .local _ .vmem, ⟨5, _⟩ => ⟨S32x1024, .f32⟩
  | .local _ .vmem, ⟨6, _⟩ => ⟨S32x1024, .f32⟩
  | .local _ .vmem, ⟨7, _⟩ => ⟨S32x1024, .f32⟩
  | .local _ .vmem, ⟨8, _⟩ => ⟨S256x1024, .f32⟩
  | .local _ .vmem, ⟨9, _⟩ => ⟨S256x1024, .f32⟩
  | .local _ .vmem, ⟨10, _⟩ => ⟨S32x8x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S256x1024, .bf16⟩
  | .local _ .vmem, ⟨15, _⟩ => ⟨S256x1024, .bf16⟩
  | .local _ .vmem, ⟨16, _⟩ => ⟨S256x1024, .f32⟩
  | .local _ .vmem, ⟨17, _⟩ => ⟨S256x1024, .f32⟩
  | .local _ .vmem, ⟨18, _⟩ => ⟨S296x1024, .f32⟩
  | .local _ .vmem, ⟨19, _⟩ => ⟨S8x288x1024, .f32⟩
  | _, _ => ⟨S1x8192x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32_51 : BitVec 32 := 0#32
  let c16_i32 : BitVec 32 := 16#32
  let v64 : BitVec 32 := Scalar.addi c0_i32_51 c16_i32
  let c1_i32 : BitVec 32 := 1#32
  ⟨c0_i32_51, v64, c1_i32⟩
def k0_mult1 (k0_t1 : Fin k0_t1_loop.trips) : BitVec 32 :=
  let c0_i32_51 : BitVec 32 := 0#32
  let c1_i32 : BitVec 32 := 1#32
  let arg14 : BitVec 32 := Scf.iv c0_i32_51 c1_i32 k0_t1
  let c16_i32_64 : BitVec 32 := 16#32
  let v96 : BitVec 32 := Scalar.muli arg14 c16_i32_64
  v96
def k0_off1 (k0_t1 : Fin k0_t1_loop.trips) (c0_i32_70 : BitVec 32) : Fin 3 → Nat :=
  let c2_71 : Index := 2#32
  let c0_i32_51 : BitVec 32 := 0#32
  let c1_i32 : BitVec 32 := 1#32
  let arg14 : BitVec 32 := Scf.iv c0_i32_51 c1_i32 k0_t1
  let c16_i32_64 : BitVec 32 := 16#32
  let v96 : BitVec 32 := Scalar.muli arg14 c16_i32_64
  let v97 : BitVec 32 := v96
  let v102 : BitVec 32 := Scalar.addi v97 c0_i32_70
  let v103 : Index := Scalar.indexCast v102
  let c0_72 : Index := 0#32
  ![2, v103.toNat, 0]
def k0_off2 (k0_t1 : Fin k0_t1_loop.trips) (c0_i32_78 : BitVec 32) : Fin 3 → Nat :=
  let c3_79 : Index := 3#32
  let c0_i32_51 : BitVec 32 := 0#32
  let c1_i32 : BitVec 32 := 1#32
  let arg14 : BitVec 32 := Scf.iv c0_i32_51 c1_i32 k0_t1
  let c16_i32_64 : BitVec 32 := 16#32
  let v96 : BitVec 32 := Scalar.muli arg14 c16_i32_64
  let v97 : BitVec 32 := v96
  let v116 : BitVec 32 := Scalar.addi v97 c0_i32_78
  let v117 : Index := Scalar.indexCast v116
  let c0_80 : Index := 0#32
  ![3, v117.toNat, 0]
def k0_off3 (k0_t1 : Fin k0_t1_loop.trips) (c0_i32_87 : BitVec 32) : Fin 3 → Nat :=
  let c4_88 : Index := 4#32
  let c0_i32_51 : BitVec 32 := 0#32
  let c1_i32 : BitVec 32 := 1#32
  let arg14 : BitVec 32 := Scf.iv c0_i32_51 c1_i32 k0_t1
  let c16_i32_64 : BitVec 32 := 16#32
  let v96 : BitVec 32 := Scalar.muli arg14 c16_i32_64
  let v97 : BitVec 32 := v96
  let v130 : BitVec 32 := Scalar.addi v97 c0_i32_87
  let v131 : Index := Scalar.indexCast v130
  let c0_89 : Index := 0#32
  ![4, v131.toNat, 0]
def k0_off4 (k0_t1 : Fin k0_t1_loop.trips) (c0_i32_96 : BitVec 32) : Fin 3 → Nat :=
  let c5_97 : Index := 5#32
  let c0_i32_51 : BitVec 32 := 0#32
  let c1_i32 : BitVec 32 := 1#32
  let arg14 : BitVec 32 := Scf.iv c0_i32_51 c1_i32 k0_t1
  let c16_i32_64 : BitVec 32 := 16#32
  let v96 : BitVec 32 := Scalar.muli arg14 c16_i32_64
  let v97 : BitVec 32 := v96
  let v144 : BitVec 32 := Scalar.addi v97 c0_i32_96
  let v145 : Index := Scalar.indexCast v144
  let c0_98 : Index := 0#32
  ![5, v145.toNat, 0]
def k0_off5 (k0_t1 : Fin k0_t1_loop.trips) (c0_i32_105 : BitVec 32) : Fin 3 → Nat :=
  let c6_106 : Index := 6#32
  let c0_i32_51 : BitVec 32 := 0#32
  let c1_i32 : BitVec 32 := 1#32
  let arg14 : BitVec 32 := Scf.iv c0_i32_51 c1_i32 k0_t1
  let c16_i32_64 : BitVec 32 := 16#32
  let v96 : BitVec 32 := Scalar.muli arg14 c16_i32_64
  let v97 : BitVec 32 := v96
  let v158 : BitVec 32 := Scalar.addi v97 c0_i32_105
  let v159 : Index := Scalar.indexCast v158
  let c0_107 : Index := 0#32
  ![6, v159.toNat, 0]
def k0_off6 (k0_t1 : Fin k0_t1_loop.trips) (c0_i32_114 : BitVec 32) : Fin 3 → Nat :=
  let c7_115 : Index := 7#32
  let c0_i32_51 : BitVec 32 := 0#32
  let c1_i32 : BitVec 32 := 1#32
  let arg14 : BitVec 32 := Scf.iv c0_i32_51 c1_i32 k0_t1
  let c16_i32_64 : BitVec 32 := 16#32
  let v96 : BitVec 32 := Scalar.muli arg14 c16_i32_64
  let v97 : BitVec 32 := v96
  let v172 : BitVec 32 := Scalar.addi v97 c0_i32_114
  let v173 : Index := Scalar.indexCast v172
  let c0_116 : Index := 0#32
  ![7, v173.toNat, 0]
def k0_off7 (k0_t1 : Fin k0_t1_loop.trips) (c8_i32_123 : BitVec 32) : Fin 3 → Nat :=
  let c0_124 : Index := 0#32
  let c0_i32_51 : BitVec 32 := 0#32
  let c1_i32 : BitVec 32 := 1#32
  let arg14 : BitVec 32 := Scf.iv c0_i32_51 c1_i32 k0_t1
  let c16_i32_64 : BitVec 32 := 16#32
  let v96 : BitVec 32 := Scalar.muli arg14 c16_i32_64
  let v97 : BitVec 32 := v96
  let v186 : BitVec 32 := Scalar.addi v97 c8_i32_123
  let v187 : Index := Scalar.indexCast v186
  let c0_125 : Index := 0#32
  ![0, v187.toNat, 0]
def k0_off8 (k0_t1 : Fin k0_t1_loop.trips) (c8_i32_132 : BitVec 32) : Fin 3 → Nat :=
  let c1_133 : Index := 1#32
  let c0_i32_51 : BitVec 32 := 0#32
  let c1_i32 : BitVec 32 := 1#32
  let arg14 : BitVec 32 := Scf.iv c0_i32_51 c1_i32 k0_t1
  let c16_i32_64 : BitVec 32 := 16#32
  let v96 : BitVec 32 := Scalar.muli arg14 c16_i32_64
  let v97 : BitVec 32 := v96
  let v200 : BitVec 32 := Scalar.addi v97 c8_i32_132
  let v201 : Index := Scalar.indexCast v200
  let c0_134 : Index := 0#32
  ![1, v201.toNat, 0]
def k0_off9 (k0_t1 : Fin k0_t1_loop.trips) (c0_i32_319 : BitVec 32) : Fin 2 → Nat :=
  let c0_i32_51 : BitVec 32 := 0#32
  let c1_i32 : BitVec 32 := 1#32
  let arg14 : BitVec 32 := Scf.iv c0_i32_51 c1_i32 k0_t1
  let c16_i32_64 : BitVec 32 := 16#32
  let v96 : BitVec 32 := Scalar.muli arg14 c16_i32_64
  let v97 : BitVec 32 := v96
  let v536 : BitVec 32 := Scalar.addi v97 c0_i32_319
  let v537 : Index := Scalar.indexCast v536
  let c0_320 : Index := 0#32
  ![v537.toNat, 0]
def cc0_transform_0 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_1 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_2 (i : grid0.Coords) : Fin 2 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c6_i32 : BitVec 32 := 6#32
  let c0_i32_0 : BitVec 32 := 0#32
  ![v2.toNat, c6_i32.toNat]

def cc0_transform_3 (i : grid0.Coords) : Fin 2 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c7_i32 : BitVec 32 := 7#32
  let c0_i32_0 : BitVec 32 := 0#32
  ![v2.toNat, c7_i32.toNat]

def cc0_transform_4 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S32x8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Proof.DhPieces.lean ====
/- Hand-written: what one grid point of the pre-norm's and projection's backward kernel leaves in its two output
   buffers, as functions of the point's input blocks. The gradient of the normalised rows is a sum of eighteen products
   of column slices (`dhB`); three rows of the small output are running column sums. -/
module

public import proofs.«01_k».proof.Proof.Gen.DhIdeal.Value
public import Idealize.ShloMosaic.Lib.Pointwise
public import Idealize.ShloMosaic.Lib.WritesUnit
public import Idealize.ShloMosaic.Lib.Pipeline.ReadBack
public import Idealize.ShloMosaic.Lib.Pipeline.RowLoads

@[expose] public section

noncomputable section

namespace Cert.Proof.Dh

open Cert.DhIdeal Cert.DhIdeal.Gen Cert.DhIdeal.Value Idealize.ShloMosaic Idealize.ShloMosaic.TcCoe Idealize.SL.Sem

variable {F : FTy → Type} [FloatOps F]

theorem hz : (![0, 0] : Fin 2 → Nat) = fun _ => 0 := funext fun a => by fin_cases a <;> rfl

/-- The block's product of the projection's gradient with the transposed weights, as the kernel adds it up. -/
def dhB (x0 : Vec F S256x6144 .bf16) (x1 : Vec F S256x3072 .bf16) (x2 : Vec F S256x2048 .bf16)
    (x3 : Vec F S1024x11264 .bf16) : FVec F S256x1024 .f32 :=
  k0_pay9 (k0_pay6 (k0_pay4 (k0_pay2 (View.ld x1 (Rect.unit ![0, 0] ![256, 3072] inb_S256x3072_S256x3072_0_0)) (View.ld x3 (Rect.unit ![0, 6144] ![1024, 3072] inb_S1024x11264_S1024x3072_0_6144))
      (View.ld x2 (Rect.unit ![0, 0] ![256, 2048] inb_S256x2048_S256x2048_0_0)) (View.ld x3 (Rect.unit ![0, 9216] ![1024, 2048] inb_S1024x11264_S1024x2048_0_9216))
      (View.ld x0 (Rect.unit ![0, 0] ![256, 256] inb_S256x6144_S256x256_0_0))
      (View.ld x3 (Rect.unit ![0, 0] ![1024, 256] inb_S1024x11264_S1024x256_0_0))
      (View.ld x0 (Rect.unit ![0, 256] ![256, 256] inb_S256x6144_S256x256_0_256))
      (View.ld x3 (Rect.unit ![0, 1024] ![1024, 256] inb_S1024x11264_S1024x256_0_1024)))
      (k0_pay3 (View.ld x0 (Rect.unit ![0, 512] ![256, 512] inb_S256x6144_S256x512_0_512))
      (View.ld x3 (Rect.unit ![0, 2048] ![1024, 512] inb_S1024x11264_S1024x512_0_2048)))
      (View.ld x0 (Rect.unit ![0, 1024] ![256, 512] inb_S256x6144_S256x512_0_1024))
      (View.ld x3 (Rect.unit ![0, 4096] ![1024, 512] inb_S1024x11264_S1024x512_0_4096))
      (View.ld x0 (Rect.unit ![0, 1536] ![256, 256] inb_S256x6144_S256x256_0_1536))
      (View.ld x3 (Rect.unit ![0, 256] ![1024, 256] inb_S1024x11264_S1024x256_0_256))
      (View.ld x0 (Rect.unit ![0, 1792] ![256, 256] inb_S256x6144_S256x256_0_1792))
      (View.ld x3 (Rect.unit ![0, 1280] ![1024, 256] inb_S1024x11264_S1024x256_0_1280))
      (View.ld x0 (Rect.unit ![0, 2048] ![256, 512] inb_S256x6144_S256x512_0_2048))
      (View.ld x3 (Rect.unit ![0, 2560] ![1024, 512] inb_S1024x11264_S1024x512_0_2560))
      (View.ld x0 (Rect.unit ![0, 2560] ![256, 512] inb_S256x6144_S256x512_0_2560))
      (View.ld x3 (Rect.unit ![0, 4608] ![1024, 512] inb_S1024x11264_S1024x512_0_4608)))
      (k0_pay5 (View.ld x0 (Rect.unit ![0, 3072] ![256, 256] inb_S256x6144_S256x256_0_3072)))
      (View.ld x3 (Rect.unit ![0, 512] ![1024, 256] inb_S1024x11264_S1024x256_0_512))
      (View.ld x0 (Rect.unit ![0, 3328] ![256, 256] inb_S256x6144_S256x256_0_3328))
      (View.ld x3 (Rect.unit ![0, 1536] ![1024, 256] inb_S1024x11264_S1024x256_0_1536))
      (View.ld x0 (Rect.unit ![0, 3584] ![256, 512] inb_S256x6144_S256x512_0_3584))
      (View.ld x3 (Rect.unit ![0, 3072] ![1024, 512] inb_S1024x11264_S1024x512_0_3072))
      (View.ld x0 (Rect.unit ![0, 4096] ![256, 512] inb_S256x6144_S256x512_0_4096))
      (View.ld x3 (Rect.unit ![0, 5120] ![1024, 512] inb_S1024x11264_S1024x512_0_5120))
      (View.ld x0 (Rect.unit ![0, 4608] ![256, 256] inb_S256x6144_S256x256_0_4608))
      (View.ld x3 (Rect.unit ![0, 768] ![1024, 256] inb_S1024x11264_S1024x256_0_768)))
      (k0_pay7 (View.ld x0 (Rect.unit ![0, 4864] ![256, 256] inb_S256x6144_S256x256_0_4864)))
      (k0_pay8 (View.ld x3 (Rect.unit ![0, 1792] ![1024, 256] inb_S1024x11264_S1024x256_0_1792)))
      (constant S256x1024 FTy.f32 0#32)
      (View.ld x0 (Rect.unit ![0, 5120] ![256, 512] inb_S256x6144_S256x512_0_5120))
      (View.ld x3 (Rect.unit ![0, 3584] ![1024, 512] inb_S1024x11264_S1024x512_0_3584))
      (View.ld x0 (Rect.unit ![0, 5632] ![256, 512] inb_S256x6144_S256x512_0_5632))
      (View.ld x3 (Rect.unit ![0, 5632] ![1024, 512] inb_S1024x11264_S1024x512_0_5632))

/-- The column sum of a block, as a row. -/
def colSum (a : FVec F S256x1024 .f32) : FVec F S1x1024 .f32 :=
  shapeCast S1x1024 (multiReduction .add [0] S1024 a 0x00000000#32 reduces_S256x1024_S1024 (.inl rfl) rfl)
    shapeCasts_S1024_S1x1024

/-- The three running sums' summands: the gradients of the shift, of the scale and of the norm's weight. -/
def bScale (dh xh : FVec F S256x1024 .f32) (g : Vec F S1x1024 .f32) : FVec F S256x1024 .f32 :=
  mulf dh (mulf xh (broadcastTo S256x1024 g broadcasts_S1x1024_S256x1024))
def bNorm (dh xh : FVec F S256x1024 .f32) (sc : FVec F S1x1024 .f32) : FVec F S256x1024 .f32 :=
  mulf (mulf dh (broadcastTo S256x1024 sc broadcasts_S1x1024_S256x1024)) xh

variable (m : (ℓ : Loc nD τ sig) → Buf (Elt F) ℓ)

/-- The block's gradient of the normalised rows at point `t`. -/
def dhAt (c : Dev nD) (t : Fin cfg0.N) : FVec F S256x1024 .f32 :=
  dhB (iblk m c 0 t) (iblk m c 1 t) (iblk m c 2 t) (iblk m c 3 t)

/-- The rows of the running sums at point `t`. -/
def rowAt (c : Dev nD) (t : Fin cfg0.N) : Fin 3 → FVec F S1x1024 .f32
  | 0 => colSum (dhAt m c t)
  | 1 => colSum (bScale (dhAt m c t) (k0_pay12 (iblk m c 4 t)) (iblk m c 6 t))
  | 2 => colSum (bNorm (dhAt m c t) (k0_pay12 (iblk m c 4 t)) (k0_pay13 (iblk m c 7 t)))

/-- The first output's block at any point. -/
theorem out8 (c : Dev nD) (t : Fin cfg0.N) : (outsAt0 m c t.val t.isLt).1
    = k0_pay17 (dhAt m c t) (k0_pay11 (iblk m c 4 t)) (k0_pay12 (iblk m c 4 t)) (iblk m c 6 t) (k0_pay13 (iblk m c 7 t))
        (iblk m c 5 t) := by
  by_cases h0 : t.val % 32 = 0
  · rw [outsAt0_A m c t h0]
    dsimp only
    unfold out0_A_8
    rw [View.read_writes_junk_eq_canon]
    unfold kernelRun0_A
    dsimp only
    sl_unfold_words
    simp only [View.readAt_eq_ld, Memref.IsWhole.read_unread]
    rw [View.canon_unit_zero hz]
    simp only [View.ld_unit_zero (S := S256x1024) hz, View.ld_unit_zero (S := S1x1024) hz]
    rfl
  · rw [outsAt0_B m c t h0]
    dsimp only
    unfold out0_B_8
    rw [View.read_writes_junk_eq_canon]
    unfold kernelRun0_B
    dsimp only
    sl_unfold_words
    simp only [View.readAt_eq_ld, Memref.IsWhole.read_unread]
    rw [View.canon_unit_zero hz]
    simp only [View.ld_unit_zero (S := S256x1024) hz, View.ld_unit_zero (S := S1x1024) hz]
    rfl

/-- Three stores of one row each, read at an index: rows 0, 1 and 2 hold the stored rows, the others what was there. -/
theorem rows3 {sig : RefSig} {κ : Kind} {sp : Space} (v : View sig κ sp S8x1024 .f32) (f : v.ty.Contents (Elt F))
    (w : Fin 3 → Vec F S1x1024 .f32) (L : List (View.Piece (Elt F) S8x1024 .f32)) (i : Fin 8) (d : Fin 1024) :
    v.read (Elt F) (v.writes (Elt F) f (⟨Rect.unit ![2, 0] ![1, 1024] inb_S8x1024_S1x1024_2_0, w 2⟩
      :: ⟨Rect.unit ![1, 0] ![1, 1024] inb_S8x1024_S1x1024_1_0, w 1⟩
      :: ⟨Rect.unit ![0, 0] ![1, 1024] inb_S8x1024_S1x1024_0_0, w 0⟩ :: L)) (ix2 i d)
    = if h : i.val < 3 then w ⟨i.val, h⟩ (ix2 0 d) else v.read (Elt F) (v.writes (Elt F) f L) (ix2 i d) := by
  by_cases h2 : i.val = 2
  · rw [dif_pos (by omega), View.read_writes_cons_rows_of_mem v f inb_S8x1024_S1x1024_2_0 (w 2) _ (ix2 i d) (ix2 0 d) rfl h2 rfl]
    exact congrArg (fun k => w k (ix2 0 d)) (Fin.ext h2.symm : (2 : Fin 3) = ⟨i.val, by omega⟩)
  rw [View.read_writes_cons_rows_of_not_mem v f inb_S8x1024_S1x1024_2_0 (w 2) _ (ix2 i d) (W := 1) rfl rfl
    (by show i.val < 2 ∨ 2 + 1 ≤ i.val; omega)]
  by_cases h1 : i.val = 1
  · rw [dif_pos (by omega), View.read_writes_cons_rows_of_mem v f inb_S8x1024_S1x1024_1_0 (w 1) _ (ix2 i d) (ix2 0 d) rfl h1 rfl]
    exact congrArg (fun k => w k (ix2 0 d)) (Fin.ext h1.symm : (1 : Fin 3) = ⟨i.val, by omega⟩)
  rw [View.read_writes_cons_rows_of_not_mem v f inb_S8x1024_S1x1024_1_0 (w 1) _ (ix2 i d) (W := 1) rfl rfl
    (by show i.val < 1 ∨ 1 + 1 ≤ i.val; omega)]
  by_cases h0 : i.val = 0
  · rw [dif_pos (by omega), View.read_writes_cons_rows_of_mem v f inb_S8x1024_S1x1024_0_0 (w 0) _ (ix2 i d) (ix2 0 d) rfl
      (h0.trans rfl) rfl]
    exact congrArg (fun k => w k (ix2 0 d)) (Fin.ext h0.symm : (0 : Fin 3) = ⟨i.val, by omega⟩)
  rw [View.read_writes_cons_rows_of_not_mem v f inb_S8x1024_S1x1024_0_0 (w 0) _ (ix2 i d) (W := 1) rfl rfl
    (by show i.val < 0 ∨ 0 + 1 ≤ i.val; omega), dif_neg (by omega)]

/-- Rows 0, 1 and 2 of the small output, as the kernel loads them. -/
def oldRow (x : Vec F S8x1024 .f32) : Fin 3 → Vec F S1x1024 .f32
  | 0 => View.ld x (Rect.unit ![0, 0] ![1, 1024] inb_S8x1024_S1x1024_0_0)
  | 1 => View.ld x (Rect.unit ![1, 0] ![1, 1024] inb_S8x1024_S1x1024_1_0)
  | 2 => View.ld x (Rect.unit ![2, 0] ![1, 1024] inb_S8x1024_S1x1024_2_0)

/-- A running sum's row, over the row it starts from. -/
def plus (a b : FVec F S1x1024 .f32) : FVec F S1x1024 .f32 := addf (shapeCast S1x1024 a shapeCasts_S1x1024_S1x1024) b

/-- The small output after a point that starts from `x`. -/
def next (x : Vec F S8x1024 .f32) (r : Fin 3 → FVec F S1x1024 .f32) (i : Fin 8) (d : Fin 1024) : F .f32 :=
  if h : i.val < 3 then plus (oldRow x ⟨i.val, h⟩) (r ⟨i.val, h⟩) (ix2 0 d) else x (ix2 i d)

/-- A row loaded after a fill of the whole and stores of other rows is the fill's row. -/
theorem load0 (v : View sig .tc .vmem S8x1024 .f32) (z : Vec F S8x1024 .f32) :
    v.readCov [⟨Rect.unit ![0, 0] ![8, 1024] inb_S8x1024_S8x1024_0_0, z⟩]
      (Rect.unit ![0, 0] ![1, 1024] inb_S8x1024_S1x1024_0_0).toLoadRect = oldRow z 0 :=
  View.readCov_fill v inb_S8x1024_S8x1024_0_0 z [] _ (fun a => by fin_cases a <;> rfl)
theorem load1 (v : View sig .tc .vmem S8x1024 .f32) (z : Vec F S8x1024 .f32) (w : Vec F S1x1024 .f32) :
    v.readCov [⟨Rect.unit ![0, 0] ![1, 1024] inb_S8x1024_S1x1024_0_0, w⟩,
      ⟨Rect.unit ![0, 0] ![8, 1024] inb_S8x1024_S8x1024_0_0, z⟩]
      (Rect.unit ![1, 0] ![1, 1024] inb_S8x1024_S1x1024_1_0).toLoadRect = oldRow z 1 :=
by
  rw [View.readCov_cons_of_rows_disjoint v 0 1 (Or.inl le_rfl) w]
  exact View.readCov_fill v inb_S8x1024_S8x1024_0_0 z [] _ (fun a => by fin_cases a <;> rfl)
theorem load2 (v : View sig .tc .vmem S8x1024 .f32) (z : Vec F S8x1024 .f32) (w w' : Vec F S1x1024 .f32) :
    v.readCov [⟨Rect.unit ![1, 0] ![1, 1024] inb_S8x1024_S1x1024_1_0, w'⟩,
      ⟨Rect.unit ![0, 0] ![1, 1024] inb_S8x1024_S1x1024_0_0, w⟩,
      ⟨Rect.unit ![0, 0] ![8, 1024] inb_S8x1024_S8x1024_0_0, z⟩]
      (Rect.unit ![2, 0] ![1, 1024] inb_S8x1024_S1x1024_2_0).toLoadRect = oldRow z 2 :=
by
  rw [View.readCov_cons_of_rows_disjoint v 1 2 (Or.inl le_rfl) w',
    View.readCov_cons_of_rows_disjoint v 0 2 (Or.inl (by norm_num)) w]
  exact View.readCov_fill v inb_S8x1024_S8x1024_0_0 z [] _ (fun a => by fin_cases a <;> rfl)

/-- The small output after the first point: the sums' rows over zeros. -/
theorem out9_first (c : Dev nD) (t : Fin cfg0.N) (h0 : t.val % 32 = 0) (i : Fin 8) (d : Fin 1024) :
    (outsAt0 m c t.val t.isLt).2 (ix2 i d) = next (k0_pay1 (F := F)) (rowAt m c t) i d := by
  rw [outsAt0_A m c t h0]
  dsimp only
  unfold out0_A_9
  unfold kernelRun0_A
  dsimp only
  sl_unfold_words
  simp only [View.readAt_eq_ld, Memref.IsWhole.read_unread]
  simp only [View.ld_unit_zero (S := S256x1024) hz, View.ld_unit_zero (S := S1x1024) hz]
  rw [load2, load1, load0]
  refine (rows3 _ _ (fun k => plus (oldRow _ k) (rowAt m c t k))
    [⟨Rect.unit ![0, 0] ![8, 1024] inb_S8x1024_S8x1024_0_0, k0_pay1⟩] i d).trans ?_
  unfold next
  split
  · rfl
  · exact congrFun ((View.read_writes_junk_eq_canon _ _).trans (View.canon_unit_zero hz _ _)) _

/-- The small output after any later point: the sums' rows over what the point before left. -/
theorem out9_later (c : Dev nD) (t : Fin cfg0.N) (h0 : ¬t.val % 32 = 0) (i : Fin 8) (d : Fin 1024) :
    (outsAt0 m c t.val t.isLt).2 (ix2 i d)
      = next (outsAt0 m c (t.val - 1) (by have := t.isLt; omega)).2 (rowAt m c t) i d := by
  rw [outsAt0_B m c t h0]
  dsimp only
  unfold out0_B_9
  unfold kernelRun0_B
  dsimp only
  sl_unfold_words
  simp only [View.readAt_eq_ld, Memref.IsWhole.read_unread]
  simp only [View.ld_unit_zero (S := S256x1024) hz, View.ld_unit_zero (S := S1x1024) hz]
  refine (rows3 _ _ (fun k => plus (oldRow _ k) (rowAt m c t k)) [] i d).trans ?_
  unfold next
  split
  · rfl
  · exact congrFun (Memref.IsWhole.read_unread _ _) _

end Cert.Proof.Dh

end
-- ==== Proof.DhSum.lean ====
/- Hand-written: the eighteen products that the kernel adds up, each over a slice of the columns, are the one product
   over all columns of the input projection. -/
module

public import proofs.«01_k».proof.Proof.DhPieces

@[expose] public section

noncomputable section

namespace Cert.Proof.Dh

open Cert.DhIdeal Cert.DhIdeal.Gen Cert.DhIdeal.Value Idealize.ShloMosaic Idealize.ShloMosaic.TcCoe Idealize.SL.Sem

/-- The sum of a function over `w` numbers from `o`. -/
def seg (f : ℕ → EReal) (o w : ℕ) : EReal := ∑ x : Fin w, f (o + x)

/-- A run of numbers cut in two. -/
theorem seg_cut (f : ℕ → EReal) (o w w' : ℕ) : seg f o (w + w') = seg f o w + seg f (o + w) w' := by
  unfold seg
  rw [Fin.sum_univ_add]
  simp [Nat.add_assoc]

/-- The columns' order of the retention gradient's array: head by head, and in each its queries, keys, values and gate
    columns, each given by its column of the projection. -/
def col (j : ℕ) : ℕ :=
  if j % 1536 < 256 then j / 1536 * 256 + j % 1536
  else if j % 1536 < 512 then 1024 + j / 1536 * 256 + (j % 1536 - 256)
  else if j % 1536 < 1024 then 2048 + j / 1536 * 512 + (j % 1536 - 512)
  else 4096 + j / 1536 * 512 + (j % 1536 - 1024)

/-- The projection's columns cut where the kernel cuts them. -/
theorem seg_all (f : ℕ → EReal) : seg f 0 11264 = seg f 0 256 + (seg f 256 256 + (seg f 512 256 + (seg f 768 256 + (seg f 1024 256 + (seg f 1280 256 + (seg f 1536 256 + (seg f 1792 256 + (seg f 2048 512 + (seg f 2560 512 + (seg f 3072 512 + (seg f 3584 512 + (seg f 4096 512 + (seg f 4608 512 + (seg f 5120 512 + (seg f 5632 512 + (seg f 6144 3072 + (seg f 9216 2048))))))))))))))))) := by
  rw [seg_cut f 0 256 11008, seg_cut f 256 256 10752, seg_cut f 512 256 10496, seg_cut f 768 256 10240, seg_cut f 1024 256 9984, seg_cut f 1280 256 9728, seg_cut f 1536 256 9472, seg_cut f 1792 256 9216, seg_cut f 2048 512 8704, seg_cut f 2560 512 8192, seg_cut f 3072 512 7680, seg_cut f 3584 512 7168, seg_cut f 4096 512 6656, seg_cut f 4608 512 6144, seg_cut f 5120 512 5632, seg_cut f 5632 512 5120, seg_cut f 6144 3072 2048]

/-- A product of one slice of the retention gradient's columns. -/
theorem piece {w : ℕ} (o o' : ℕ) (hw : ∀ x < w, col (o + x) = o' + x) (ho : o + w ≤ 6144) (ho' : o' + w ≤ 11264)
    (x0 : Fin 6144 → EReal) (x3 : Fin 11264 → EReal) (p q : ℕ → EReal)
    (h0 : ∀ j : Fin 6144, x0 j = p (col j)) (h3 : ∀ n : Fin 11264, x3 n = q n) :
    ∑ x : Fin w, x0 ⟨o + x, by omega⟩ * x3 ⟨o' + x, by omega⟩ = seg (fun n => p n * q n) o' w :=
  Finset.sum_congr rfl fun x _ => by rw [h0, h3, hw x x.isLt]

set_option maxRecDepth 16384 in
/-- The block's sum of products at an entry is one product over all columns. -/
theorem dhB_apply (x0 : Vec Ideal S256x6144 .bf16) (x1 : Vec Ideal S256x3072 .bf16) (x2 : Vec Ideal S256x2048 .bf16)
    (x3 : Vec Ideal S1024x11264 .bf16) (r : Fin 256) (d : Fin 1024) (p q : ℕ → EReal)
    (h0 : ∀ j : Fin 6144, x0 (ix2 r j) = p (col j)) (h1 : ∀ j : Fin 3072, x1 (ix2 r j) = p (6144 + j))
    (h2 : ∀ j : Fin 2048, x2 (ix2 r j) = p (9216 + j)) (h3 : ∀ n : Fin 11264, x3 (ix2 d n) = q n) :
    dhB x0 x1 x2 x3 (ix2 r d) = ∑ n : Fin 11264, p n * q n := by
  have e1 : ∑ x : Fin 3072, x1 (ix2 r x) * x3 (ix2 d ⟨6144 + x, by omega⟩) = seg (fun n => p n * q n) 6144 3072 :=
    Finset.sum_congr rfl fun x _ => by rw [h1, h3]
  have e2 : ∑ x : Fin 2048, x2 (ix2 r x) * x3 (ix2 d ⟨9216 + x, by omega⟩) = seg (fun n => p n * q n) 9216 2048 :=
    Finset.sum_congr rfl fun x _ => by rw [h2, h3]
  have e3 : ∑ n : Fin 11264, p n * q n = seg (fun n => p n * q n) 0 11264 :=
    Finset.sum_congr rfl fun n _ => by rw [Nat.zero_add]
  have P := fun {w : ℕ} (o o' : ℕ) hw ho ho' => piece (w := w) o o' hw ho ho' (fun j => x0 (ix2 r j)) (fun n => x3 (ix2 d n)) p q h0 h3
  have e4 : ∑ x : Fin 256, x0 (ix2 r ⟨x, by omega⟩) * x3 (ix2 d ⟨x, by omega⟩) = seg (fun n => p n * q n) 0 256 :=
    Finset.sum_congr rfl fun x _ => by
      rw [h0, h3]; show p (col x) * q x = p (0 + x) * q (0 + x)
      rw [Nat.zero_add, show col x = x by have := x.isLt; unfold col; split <;> omega]
  have q256 := P (w := 256) 256 1024 (fun x hx => by unfold col; split_ifs <;> omega) (by norm_num) (by norm_num)
  have q512 := P (w := 512) 512 2048 (fun x hx => by unfold col; split_ifs <;> omega) (by norm_num) (by norm_num)
  have q1024 := P (w := 512) 1024 4096 (fun x hx => by unfold col; split_ifs <;> omega) (by norm_num) (by norm_num)
  have q1536 := P (w := 256) 1536 256 (fun x hx => by unfold col; split_ifs <;> omega) (by norm_num) (by norm_num)
  have q1792 := P (w := 256) 1792 1280 (fun x hx => by unfold col; split_ifs <;> omega) (by norm_num) (by norm_num)
  have q2048 := P (w := 512) 2048 2560 (fun x hx => by unfold col; split_ifs <;> omega) (by norm_num) (by norm_num)
  have q2560 := P (w := 512) 2560 4608 (fun x hx => by unfold col; split_ifs <;> omega) (by norm_num) (by norm_num)
  have q3072 := P (w := 256) 3072 512 (fun x hx => by unfold col; split_ifs <;> omega) (by norm_num) (by norm_num)
  have q3328 := P (w := 256) 3328 1536 (fun x hx => by unfold col; split_ifs <;> omega) (by norm_num) (by norm_num)
  have q3584 := P (w := 512) 3584 3072 (fun x hx => by unfold col; split_ifs <;> omega) (by norm_num) (by norm_num)
  have q4096 := P (w := 512) 4096 5120 (fun x hx => by unfold col; split_ifs <;> omega) (by norm_num) (by norm_num)
  have q4608 := P (w := 256) 4608 768 (fun x hx => by unfold col; split_ifs <;> omega) (by norm_num) (by norm_num)
  have q4864 := P (w := 256) 4864 1792 (fun x hx => by unfold col; split_ifs <;> omega) (by norm_num) (by norm_num)
  have q5120 := P (w := 512) 5120 3584 (fun x hx => by unfold col; split_ifs <;> omega) (by norm_num) (by norm_num)
  have q5632 := P (w := 512) 5632 5632 (fun x hx => by unfold col; split_ifs <;> omega) (by norm_num) (by norm_num)
  unfold dhB
  pointwise [k0_pay9, k0_pay8, k0_pay7, k0_pay6, k0_pay5, k0_pay4, k0_pay3, k0_pay2]
  rw [e1, e2, e4, e3, seg_all, q256, q512, q1024, q1536, q1792, q2048, q2560, q3072, q3328, q3584, q4096, q4608, q4864, q5120, q5632]
  ac_rfl

end Cert.Proof.Dh

end
-- ==== Proof.DhHost.lean ====
/- Hand-written: the arrays that the host lines prepare for the kernel, read at an index. -/
module

public import proofs.«01_k».proof.Proof.DhSum
public import Idealize.ShloMosaic.Lib.StableHlo.ReadAt

@[expose] public section

noncomputable section

namespace Cert.Proof.Dh

open Cert.DhIdeal Cert.DhIdeal.Gen Cert.DhIdeal.Value Idealize.ShloMosaic Idealize.ShloMosaic.TcCoe Idealize.SL.Sem Idealize.ShloMosaic.StableHlo

variable (m : (ℓ : Loc nD τ sig) → Buf (Elt Ideal) ℓ)

/-- The head order stays among the columns. -/
theorem col_lt {j : ℕ} (hj : j < 6144) : col j < 11264 := by unfold col; split_ifs <;> omega

/-- The kernel's input is the argument's. -/
theorem v23 (c : Dev nD) (R : Fin 8192) (d : Fin 1024) : (V m c main_v23 : Vec Ideal S8192x1024 .f32) (ix2 R d) = m ((c : Thread nD τ).loc main_arg0) (ix3 0 R d) := by
  after_reads_at
/-- The passed-on gradient is the argument's. -/
theorem v24 (c : Dev nD) (R : Fin 8192) (d : Fin 1024) : (V m c main_v24 : Vec Ideal S8192x1024 .f32) (ix2 R d) = m ((c : Thread nD τ).loc main_arg6) (ix3 0 R d) := by
  after_reads_at
/-- The weights are the argument's. -/
theorem v22 (c : Dev nD) (R : Fin 1024) (d : Fin 11264) : (V m c main_v22 : Vec Ideal S1024x11264 .bf16) (ix2 R d) = m ((c : Thread nD τ).loc main_arg4) (ix3 0 R d) := by
  after_reads_at
/-- The convolution's columns of the projection's gradient. -/
theorem v19 (c : Dev nD) (R : Fin 8192) (d : Fin 3072) : (V m c main_v19 : Vec Ideal S8192x3072 .bf16) (ix2 R d) = m ((c : Thread nD τ).loc main_arg5) (ix3 0 R ⟨6144 + d, by omega⟩) := by
  after_reads_at
/-- The gates' columns of the projection's gradient. -/
theorem v20 (c : Dev nD) (R : Fin 8192) (d : Fin 2048) : (V m c main_v20 : Vec Ideal S8192x2048 .bf16) (ix2 R d) = m ((c : Thread nD τ).loc main_arg5) (ix3 0 R ⟨9216 + d, by omega⟩) := by
  after_reads_at

/-- A concatenation of columns read in its piece `k`, a slice of `A`'s columns from `o` on. -/
theorem cat_piece (A : Vec Ideal S8192x11264 .bf16) (R : Fin 8192) (j : Fin 6144)
    (xs : List ((s : Shape) × (s.Idx → Ideal .bf16))) (h : Shape.Concatenates (xs.map (·.1)) S8192x6144 1) (k : ℕ) (w o : ℕ)
    (hk : k < xs.length) (hs : Shape.Slices S8192x11264 ![0, o] ⟨2, ![8192, w]⟩)
    (hx : xs[k] = ⟨⟨2, ![8192, w]⟩, extractStridedSlice ⟨2, ![8192, w]⟩ ![0, o] A hs⟩) (pre : ℕ)
    (hpre : (((xs.take k).map (·.1)).map fun s => if h : s.rank = S8192x6144.rank then s.size ((1 : Fin 2).cast h.symm) else 0).sum = pre)
    (lo : pre ≤ j.val) (hi : j.val < pre + w) (e : o + (j.val - pre) = col j) :
    concatenate S8192x6144 1 xs h (ix2 R j) = A (ix2 R ⟨col j, col_lt j.isLt⟩) := by
  rw [concatenate_apply_piece (t := S8192x6144) 1 xs h (ix2 R j) k hk ⟨2, ![8192, w]⟩ _ hx rfl pre hpre
    (ix2 R (⟨j.val - pre, by omega⟩ : Fin w)) (fun b hb => by
      match b with
      | ⟨0, _⟩ => rfl
      | ⟨1, _⟩ => exact absurd rfl hb) (by show pre + (j.val - pre) = j.val; omega)]
  refine congrArg A (funext fun a => Fin.ext ?_)
  match a with
  | ⟨0, _⟩ => show 0 + R.val = R.val; omega
  | ⟨1, _⟩ => exact e

set_option maxHeartbeats 1000000 in
set_option maxRecDepth 16384 in
/-- The retention columns laid head by head, read at an index. -/
theorem cat (A : Vec Ideal S8192x11264 .bf16) (R : Fin 8192) (j : Fin 6144)
    (x0 : Vec Ideal S8192x256 .bf16) (x1 : Vec Ideal S8192x256 .bf16) (x2 : Vec Ideal S8192x512 .bf16) (x3 : Vec Ideal S8192x512 .bf16) (x4 : Vec Ideal S8192x256 .bf16) (x5 : Vec Ideal S8192x256 .bf16) (x6 : Vec Ideal S8192x512 .bf16) (x7 : Vec Ideal S8192x512 .bf16) (x8 : Vec Ideal S8192x256 .bf16) (x9 : Vec Ideal S8192x256 .bf16) (x10 : Vec Ideal S8192x512 .bf16) (x11 : Vec Ideal S8192x512 .bf16) (x12 : Vec Ideal S8192x256 .bf16) (x13 : Vec Ideal S8192x256 .bf16) (x14 : Vec Ideal S8192x512 .bf16) (x15 : Vec Ideal S8192x512 .bf16)
    (h0 : x0 = extractStridedSlice S8192x256 ![0, 0] A slices_S8192x11264_S8192x256_0_0)
    (h1 : x1 = extractStridedSlice S8192x256 ![0, 1024] A slices_S8192x11264_S8192x256_0_1024)
    (h2 : x2 = extractStridedSlice S8192x512 ![0, 2048] A slices_S8192x11264_S8192x512_0_2048)
    (h3 : x3 = extractStridedSlice S8192x512 ![0, 4096] A slices_S8192x11264_S8192x512_0_4096)
    (h4 : x4 = extractStridedSlice S8192x256 ![0, 256] A slices_S8192x11264_S8192x256_0_256)
    (h5 : x5 = extractStridedSlice S8192x256 ![0, 1280] A slices_S8192x11264_S8192x256_0_1280)
    (h6 : x6 = extractStridedSlice S8192x512 ![0, 2560] A slices_S8192x11264_S8192x512_0_2560)
    (h7 : x7 = extractStridedSlice S8192x512 ![0, 4608] A slices_S8192x11264_S8192x512_0_4608)
    (h8 : x8 = extractStridedSlice S8192x256 ![0, 512] A slices_S8192x11264_S8192x256_0_512)
    (h9 : x9 = extractStridedSlice S8192x256 ![0, 1536] A slices_S8192x11264_S8192x256_0_1536)
    (h10 : x10 = extractStridedSlice S8192x512 ![0, 3072] A slices_S8192x11264_S8192x512_0_3072)
    (h11 : x11 = extractStridedSlice S8192x512 ![0, 5120] A slices_S8192x11264_S8192x512_0_5120)
    (h12 : x12 = extractStridedSlice S8192x256 ![0, 768] A slices_S8192x11264_S8192x256_0_768)
    (h13 : x13 = extractStridedSlice S8192x256 ![0, 1792] A slices_S8192x11264_S8192x256_0_1792)
    (h14 : x14 = extractStridedSlice S8192x512 ![0, 3584] A slices_S8192x11264_S8192x512_0_3584)
    (h15 : x15 = extractStridedSlice S8192x512 ![0, 5632] A slices_S8192x11264_S8192x512_0_5632) :
    concatenate S8192x6144 1 [⟨S8192x256, x0⟩, ⟨S8192x256, x1⟩, ⟨S8192x512, x2⟩, ⟨S8192x512, x3⟩, ⟨S8192x256, x4⟩, ⟨S8192x256, x5⟩, ⟨S8192x512, x6⟩, ⟨S8192x512, x7⟩, ⟨S8192x256, x8⟩, ⟨S8192x256, x9⟩, ⟨S8192x512, x10⟩, ⟨S8192x512, x11⟩, ⟨S8192x256, x12⟩, ⟨S8192x256, x13⟩, ⟨S8192x512, x14⟩, ⟨S8192x512, x15⟩]
      concatenates_S8192x256_S8192x256_S8192x512_S8192x512_S8192x256_S8192x256_S8192x512_S8192x512_S8192x256_S8192x256_S8192x512_S8192x512_S8192x256_S8192x256_S8192x512_S8192x512_S8192x6144_d1 (ix2 R j)
      = A (ix2 R ⟨col j, col_lt j.isLt⟩) := by
  subst h0 h1 h2 h3 h4 h5 h6 h7 h8 h9 h10 h11 h12 h13 h14 h15
  have hj := j.isLt
  rcases (by omega : (0 ≤ j.val ∧ j.val < 0+256) ∨ (256 ≤ j.val ∧ j.val < 256+256) ∨ (512 ≤ j.val ∧ j.val < 512+512) ∨ (1024 ≤ j.val ∧ j.val < 1024+512) ∨ (1536 ≤ j.val ∧ j.val < 1536+256) ∨ (1792 ≤ j.val ∧ j.val < 1792+256) ∨ (2048 ≤ j.val ∧ j.val < 2048+512) ∨ (2560 ≤ j.val ∧ j.val < 2560+512) ∨ (3072 ≤ j.val ∧ j.val < 3072+256) ∨ (3328 ≤ j.val ∧ j.val < 3328+256) ∨ (3584 ≤ j.val ∧ j.val < 3584+512) ∨ (4096 ≤ j.val ∧ j.val < 4096+512) ∨ (4608 ≤ j.val ∧ j.val < 4608+256) ∨ (4864 ≤ j.val ∧ j.val < 4864+256) ∨ (5120 ≤ j.val ∧ j.val < 5120+512) ∨ (5632 ≤ j.val ∧ j.val < 5632+512)) with
    h | h | h | h | h | h | h | h | h | h | h | h | h | h | h | h
  · exact cat_piece A R j _ _ 0 256 0 (by simp) slices_S8192x11264_S8192x256_0_0 rfl 0 (by simp [S8192x256, S8192x512, S8192x6144]) h.1 h.2 (by unfold col; split_ifs <;> omega)
  · exact cat_piece A R j _ _ 1 256 1024 (by simp) slices_S8192x11264_S8192x256_0_1024 rfl 256 (by simp [S8192x256, S8192x512, S8192x6144]) h.1 h.2 (by unfold col; split_ifs <;> omega)
  · exact cat_piece A R j _ _ 2 512 2048 (by simp) slices_S8192x11264_S8192x512_0_2048 rfl 512 (by simp [S8192x256, S8192x512, S8192x6144]) h.1 h.2 (by unfold col; split_ifs <;> omega)
  · exact cat_piece A R j _ _ 3 512 4096 (by simp) slices_S8192x11264_S8192x512_0_4096 rfl 1024 (by simp [S8192x256, S8192x512, S8192x6144]) h.1 h.2 (by unfold col; split_ifs <;> omega)
  · exact cat_piece A R j _ _ 4 256 256 (by simp) slices_S8192x11264_S8192x256_0_256 rfl 1536 (by simp [S8192x256, S8192x512, S8192x6144]) h.1 h.2 (by unfold col; split_ifs <;> omega)
  · exact cat_piece A R j _ _ 5 256 1280 (by simp) slices_S8192x11264_S8192x256_0_1280 rfl 1792 (by simp [S8192x256, S8192x512, S8192x6144]) h.1 h.2 (by unfold col; split_ifs <;> omega)
  · exact cat_piece A R j _ _ 6 512 2560 (by simp) slices_S8192x11264_S8192x512_0_2560 rfl 2048 (by simp [S8192x256, S8192x512, S8192x6144]) h.1 h.2 (by unfold col; split_ifs <;> omega)
  · exact cat_piece A R j _ _ 7 512 4608 (by simp) slices_S8192x11264_S8192x512_0_4608 rfl 2560 (by simp [S8192x256, S8192x512, S8192x6144]) h.1 h.2 (by unfold col; split_ifs <;> omega)
  · exact cat_piece A R j _ _ 8 256 512 (by simp) slices_S8192x11264_S8192x256_0_512 rfl 3072 (by simp [S8192x256, S8192x512, S8192x6144]) h.1 h.2 (by unfold col; split_ifs <;> omega)
  · exact cat_piece A R j _ _ 9 256 1536 (by simp) slices_S8192x11264_S8192x256_0_1536 rfl 3328 (by simp [S8192x256, S8192x512, S8192x6144]) h.1 h.2 (by unfold col; split_ifs <;> omega)
  · exact cat_piece A R j _ _ 10 512 3072 (by simp) slices_S8192x11264_S8192x512_0_3072 rfl 3584 (by simp [S8192x256, S8192x512, S8192x6144]) h.1 h.2 (by unfold col; split_ifs <;> omega)
  · exact cat_piece A R j _ _ 11 512 5120 (by simp) slices_S8192x11264_S8192x512_0_5120 rfl 4096 (by simp [S8192x256, S8192x512, S8192x6144]) h.1 h.2 (by unfold col; split_ifs <;> omega)
  · exact cat_piece A R j _ _ 12 256 768 (by simp) slices_S8192x11264_S8192x256_0_768 rfl 4608 (by simp [S8192x256, S8192x512, S8192x6144]) h.1 h.2 (by unfold col; split_ifs <;> omega)
  · exact cat_piece A R j _ _ 13 256 1792 (by simp) slices_S8192x11264_S8192x256_0_1792 rfl 4864 (by simp [S8192x256, S8192x512, S8192x6144]) h.1 h.2 (by unfold col; split_ifs <;> omega)
  · exact cat_piece A R j _ _ 14 512 3584 (by simp) slices_S8192x11264_S8192x512_0_3584 rfl 5120 (by simp [S8192x256, S8192x512, S8192x6144]) h.1 h.2 (by unfold col; split_ifs <;> omega)
  · exact cat_piece A R j _ _ 15 512 5632 (by simp) slices_S8192x11264_S8192x512_0_5632 rfl 5632 (by simp [S8192x256, S8192x512, S8192x6144]) h.1 h.2 (by unfold col; split_ifs <;> omega)

/-- The retention's columns of the projection's gradient, head by head. -/
theorem v18 (c : Dev nD) (R : Fin 8192) (j : Fin 6144) : (V m c main_v18 : Vec Ideal S8192x6144 .bf16) (ix2 R j)
    = m ((c : Thread nD τ).loc main_arg5) (ix3 0 R ⟨col j, col_lt j.isLt⟩) := by
  after_reads_simp
  refine (cat (V m c main_v1) R j _ _ _ _ _ _ _ _ _ _ _ _ _ _ _ _ ?_ ?_ ?_ ?_ ?_ ?_ ?_ ?_ ?_ ?_ ?_ ?_ ?_ ?_ ?_ ?_).trans ?_
  rotate_left 16
  · after_reads_at
  all_goals
    refine (unary_result _ _ _ _ _ _).trans (congrArg (fun x => extractStridedSlice _ _ x _) ?_)
    after_reads_simp

end Cert.Proof.Dh

end
-- ==== Proof.DhMath.lean ====
/- Hand-written: the two ways to write the gradient of a root-mean-square norm's input at finite values: through the
   normalised row's projection, as the kernel computes it, and term by term, as the derivative does. -/
module

public import Idealize.ShloMosaic.Lib.Pointwise

@[expose] public section

noncomputable section

namespace Cert.Proof.Dh

open Idealize.ShloMosaic

/-- The row's mean square, with the norm's constant added. -/
def ms (a : Fin 1024 → EReal) : EReal :=
  Ideal.div (∑ e, a e * a e) (Ideal.ofBits .f32 1149239296#32) + Ideal.ofBits .f32 897988541#32

/-- The gradient as the kernel writes it. -/
def kGrad (o : EReal) (a y : Fin 1024 → EReal) (d : Fin 1024) : EReal :=
  o + Ideal.rsqrt (ms a) * (y d - a d * Ideal.rsqrt (ms a)
    * Ideal.div (∑ e, y e * (a e * Ideal.rsqrt (ms a))) (Ideal.ofBits .f32 1149239296#32))

/-- The mean square's part of the derivative. -/
def rPart (a y : Fin 1024 → EReal) : EReal :=
  Ideal.div ((∑ e, a e * y e) * (Ideal.ofBits .f32 3204448256#32 * Ideal.div (Ideal.rsqrt (ms a)) (ms a)))
    (Ideal.ofBits .f32 1149239296#32)

/-- The gradient as the derivative writes it. -/
def rGrad (o : EReal) (a y : Fin 1024 → EReal) (d : Fin 1024) : EReal :=
  o + y d * Ideal.rsqrt (ms a) + a d * rPart a y + rPart a y * a d

/-- A quotient of real numbers by one that is not zero. -/
theorem div_real (x y : ℝ) (hy : y ≠ 0) : Ideal.div (x : EReal) (y : EReal) = ((x / y : ℝ) : EReal) := by
  unfold Ideal.div
  rw [if_neg (by exact_mod_cast hy), div_eq_mul_inv, EReal.coe_mul, EReal.coe_inv]

/-- A reciprocal root of a positive real number. -/
theorem rsqrt_real (x : ℝ) (hx : 0 < x) : Ideal.rsqrt (x : EReal) = (((Real.sqrt x)⁻¹ : ℝ) : EReal) := by
  show (if x < 0 then ⊥ else if x = 0 then ⊤ else (((Real.sqrt x)⁻¹ : ℝ) : EReal)) = _
  rw [if_neg (not_lt.mpr hx.le), if_neg hx.ne']

/-- A sum of real numbers. -/
theorem sum_real {n : ℕ} (f : Fin n → ℝ) : (∑ e, (f e : EReal)) = ((∑ e, f e : ℝ) : EReal) :=
  (map_sum (⟨⟨fun x : ℝ => (x : EReal), EReal.coe_zero⟩, EReal.coe_add⟩ : ℝ →+ EReal) f _).symm

/-- The norm's constant is a positive real number. -/
theorem eps_real : ∃ ε : ℝ, 0 < ε ∧ Ideal.ofBits .f32 897988541#32 = (ε : EReal) := by
  refine ⟨8796093 * (2 : ℝ) ^ (-43 : ℤ), by positivity, ?_⟩
  simp [Ideal.ofBits, Ideal.ieee]

/-- The rows' length, as the programs spell it. -/
theorem c1024 : Ideal.ofBits .f32 1149239296#32 = ((1024 : ℝ) : EReal) := by
  simp [Ideal.ofBits, Ideal.ieee]
  rw [← EReal.coe_mul]
  norm_num

/-- Minus one half, as the derivative spells it. -/
theorem cHalf : Ideal.ofBits .f32 3204448256#32 = ((-(1 / 2) : ℝ) : EReal) := by
  simp [Ideal.ofBits, Ideal.ieee]
  rw [← EReal.coe_mul]
  norm_num

/-- At finite values the two are equal, whatever is added to them. -/
theorem grads (o : EReal) (a y : Fin 1024 → ℝ) (d : Fin 1024) :
    kGrad o (fun e => a e) (fun e => y e) d = rGrad o (fun e => a e) (fun e => y e) d := by
  obtain ⟨ε, hε, eε⟩ := eps_real
  have hv : 0 < (∑ e, a e * a e) / 1024 + ε :=
    add_pos_of_nonneg_of_pos (div_nonneg (Finset.sum_nonneg fun e _ => mul_self_nonneg _) (by norm_num)) hε
  have e0 : ms (fun e => (a e : EReal)) = (((∑ e, a e * a e) / 1024 + ε : ℝ) : EReal) := by
    unfold ms
    simp only [← EReal.coe_mul]
    rw [sum_real, c1024, eε, div_real _ _ (by norm_num), ← EReal.coe_add]
  unfold kGrad rGrad rPart
  rw [e0, rsqrt_real _ hv, c1024, cHalf]
  simp only [← EReal.coe_mul]
  rw [sum_real, sum_real, div_real _ _ hv.ne']
  simp only [← EReal.coe_mul]
  rw [div_real _ _ (by norm_num), div_real _ _ (by norm_num)]
  simp only [← EReal.coe_mul, ← EReal.coe_sub]
  rw [add_assoc, add_assoc, ← EReal.coe_add, ← EReal.coe_add]
  congr 2
  have hr : (Real.sqrt ((∑ e, a e * a e) / 1024 + ε))⁻¹ * (Real.sqrt ((∑ e, a e * a e) / 1024 + ε))⁻¹
      = ((∑ e, a e * a e) / 1024 + ε)⁻¹ := by rw [← mul_inv, Real.mul_self_sqrt hv.le]
  have hs : (∑ e, y e * (a e * (Real.sqrt ((∑ e, a e * a e) / 1024 + ε))⁻¹))
      = (∑ e, a e * y e) * (Real.sqrt ((∑ e, a e * a e) / 1024 + ε))⁻¹ := by
    rw [Finset.sum_mul]; exact Finset.sum_congr rfl fun e _ => by ring
  rw [hs]
  generalize (Real.sqrt ((∑ e, a e * a e) / 1024 + ε))⁻¹ = r at hr ⊢
  rw [div_eq_mul_inv _ ((∑ e, a e * a e) / 1024 + ε), ← hr]
  ring

/-- A value whose magnitude compares below infinity is a real number. -/
theorem real_of_lt (x : EReal) (h : max x (-x) < Ideal.ofBits .f32 0x7F800000#32) : ∃ r : ℝ, x = r := by
  have e : Ideal.ofBits .f32 0x7F800000#32 = ⊤ := by
    simp [Ideal.ofBits, Ideal.ieee]
  rw [e] at h
  induction x with
  | bot => simp at h
  | coe r => exact ⟨r, rfl⟩
  | top => simp at h

/-- So an array whose magnitudes all compare below infinity holds real numbers. -/
theorem real_of_cmp {s : Shape} (x cst : Vec Ideal s .f32) (hc : ∀ i, cst i = Ideal.ofBits .f32 0x7F800000#32)
    (h : cmpf (F := Ideal) (φ := .f32) .olt (Host.absf x) cst = fun _ => 1#1) (i : s.Idx) : ∃ r : ℝ, x i = r := by
  have e := congrFun h i
  pointwise [hc] at e
  by_contra hn
  have : ¬ FloatOps.absf (x i) < Ideal.ofBits .f32 0x7F800000#32 := fun hlt => hn (real_of_lt _ hlt)
  simp [this] at e

end Cert.Proof.Dh

end
-- ==== Proof.DhRef.lean ====
/- Hand-written: the derivative's two results read at an index: the input's gradient is the norm's derivative of the
   rows' gradients, the small array's three rows are sums over all rows. -/
module

public import proofs.«01_k».proof.Proof.Gen.DhRefIdeal.Read
public import proofs.«01_k».proof.Proof.DhMath

@[expose] public section

noncomputable section

namespace Cert.Proof.Dh

open Cert.DhRefIdeal Cert.DhRefIdeal.Gen Cert.DhRefIdeal.Read Idealize.ShloMosaic Idealize.ShloMosaic.TcCoe Idealize.SL.Sem Idealize.ShloMosaic.StableHlo

/-- A host sum over axes that leave one source index to each result index is that one entry. -/
theorem hostReduceAdd_of_fiber {s t : Shape} {axes : List (Fin s.rank)} (h : s.ReducesTo axes t) (v : s.Idx → EReal)
    (init : EReal) (j : t.Idx) (i0 : s.Idx) (e : ∀ i, h.drop i = j ↔ i = i0) :
    Ideal.hostReduceAdd h v init j = init + v i0 := by
  unfold Ideal.hostReduceAdd
  rw [Finset.filter_congr (fun i _ => e i), Finset.filter_eq' _ i0, if_pos (Finset.mem_univ _), Finset.sum_singleton]

/-- A sum over two axes of one entry, in front. -/
theorem red01 (v : S1x1x1024.Idx → EReal) (init : EReal) (j : S1024.Idx) :
    Ideal.hostReduceAdd reducesTo_S1x1x1024_S1024_d0_1 v init j = init + v (ix3 0 0 (j 0)) := by
  refine hostReduceAdd_of_fiber _ v init j _ fun i => ⟨fun e => ?_, fun e => ?_⟩
  · subst e
    funext b
    apply Fin.ext
    match b with
    | ⟨0, hb⟩ => have := (i ⟨0, hb⟩).isLt; show (i ⟨0, hb⟩).val = 0; change (i ⟨0, hb⟩).val < 1 at this; omega
    | ⟨1, hb⟩ => have := (i ⟨1, hb⟩).isLt; show (i ⟨1, hb⟩).val = 0; change (i ⟨1, hb⟩).val < 1 at this; omega
    | ⟨2, _⟩ => rfl
  · subst e
    funext b
    match b with
    | ⟨0, _⟩ => rfl

/-- A sum over two axes of one entry, around the rows. -/
theorem red02 (v : S1x8192x1.Idx → EReal) (init : EReal) (j : S8192.Idx) :
    Ideal.hostReduceAdd reducesTo_S1x8192x1_S8192_d0_2 v init j = init + v (ix3 0 (j 0) 0) := by
  refine hostReduceAdd_of_fiber _ v init j _ fun i => ⟨fun e => ?_, fun e => ?_⟩
  · subst e
    funext b
    apply Fin.ext
    match b with
    | ⟨0, hb⟩ => have := (i ⟨0, hb⟩).isLt; show (i ⟨0, hb⟩).val = 0; change (i ⟨0, hb⟩).val < 1 at this; omega
    | ⟨1, _⟩ => rfl
    | ⟨2, hb⟩ => have := (i ⟨2, hb⟩).isLt; show (i ⟨2, hb⟩).val = 0; change (i ⟨2, hb⟩).val < 1 at this; omega
  · subst e
    funext b
    match b with
    | ⟨0, _⟩ => rfl

variable (x : Vec Ideal S1x8192x1024 .f32) (g s : Vec Ideal S1x1024 .f32) (w : Vec Ideal S1x1024x11264 .f32)
  (p : Vec Ideal S1x8192x11264 .f32) (o : Vec Ideal S1x8192x1024 .f32)

/-- Row `R` of the input, of the gradient of the modulated rows, and of the gradient of the normalised rows. -/
def xRow (R : Fin 8192) (e : Fin 1024) : EReal := x (ix3 0 R e)
def hRow (R : Fin 8192) (e : Fin 1024) : EReal := ∑ n : Fin 11264, p (ix3 0 R n) * w (ix3 0 e n)
def yRow (R : Fin 8192) (e : Fin 1024) : EReal := hRow w p R e * (1 + s (ix2 0 e)) * g (ix2 0 e)

/-- The summands of the small array's rows. -/
def part (k : Fin 3) (R : Fin 8192) (d : Fin 1024) : EReal :=
  match k with
  | 0 => hRow w p R d
  | 1 => hRow w p R d * (xRow x R d * Ideal.rsqrt (ms (xRow x R)) * g (ix2 0 d))
  | 2 => hRow w p R d * (1 + s (ix2 0 d)) * (xRow x R d * Ideal.rsqrt (ms (xRow x R)))

/-- The input's gradient. -/
theorem ref0 (R : Fin 8192) (d : Fin 1024) : (val_main_v65 (F := Ideal) x g s w p o : Vec Ideal S8192x1024 .f32) (ix2 R d)
    = rGrad (o (ix3 0 R d)) (xRow x R) (yRow g s w p R) d := by
  pointwise [red01, red02, val_main_v0, val_main_v1, val_main_cst, val_main_v2, val_main_v3, val_main_cst_0, val_main_v4,
    val_main_v5, val_main_cst_1, val_main_v6, val_main_v7, val_main_v8, val_main_v9, val_main_cst_2,
    val_main_v10, val_main_v11, val_main_v12, val_main_v13, val_main_v14, val_main_v15, val_main_v16,
    val_main_v17, val_main_cst_3, val_main_v18, val_main_v19, val_main_v20, val_main_v21, val_main_v22,
    val_main_v23, val_main_v24, val_main_v25, val_main_v26, val_main_v27, val_main_v28, val_main_v29,
    val_main_v30, val_main_cst_4, val_main_v31, val_main_v32, val_main_cst_5, val_main_v33, val_main_v34,
    val_main_v35, val_main_cst_6, val_main_v36, val_main_v37, val_main_v38, val_main_v39, val_main_cst_7,
    val_main_v40, val_main_v41, val_main_v42, val_main_cst_8, val_main_v43, val_main_v44, val_main_v45,
    val_main_v46, val_main_cst_9, val_main_v47, val_main_v48, val_main_cst_10, val_main_v49, val_main_v50,
    val_main_v51, val_main_v52, val_main_v53, val_main_v54, val_main_cst_11, val_main_v55, val_main_v56,
    val_main_cst_12, val_main_v57, val_main_v58, val_main_v59, val_main_v60, val_main_v61, val_main_v62,
    val_main_v63, val_main_v64, val_main_v65, val_main_cst_13, val_main_v66, val_main_v67]
  rfl

/-- The small array. -/
theorem ref1 (i : Fin 8) (d : Fin 1024) : (val_main_v67 (F := Ideal) x g s w p : Vec Ideal S8x1024 .f32) (ix2 i d)
    = if h : i.val < 3 then ∑ R : Fin 8192, part x g s w p ⟨i.val, h⟩ R d else 0 := by
  pointwise [red01, red02, val_main_v0, val_main_v1, val_main_cst, val_main_v2, val_main_v3, val_main_cst_0, val_main_v4,
    val_main_v5, val_main_cst_1, val_main_v6, val_main_v7, val_main_v8, val_main_v9, val_main_cst_2,
    val_main_v10, val_main_v11, val_main_v12, val_main_v13, val_main_v14, val_main_v15, val_main_v16,
    val_main_v17, val_main_cst_3, val_main_v18, val_main_v19, val_main_v20, val_main_v21, val_main_v22,
    val_main_v23, val_main_v24, val_main_v25, val_main_v26, val_main_v27, val_main_v28, val_main_v29,
    val_main_v30, val_main_cst_4, val_main_v31, val_main_v32, val_main_cst_5, val_main_v33, val_main_v34,
    val_main_v35, val_main_cst_6, val_main_v36, val_main_v37, val_main_v38, val_main_v39, val_main_cst_7,
    val_main_v40, val_main_v41, val_main_v42, val_main_cst_8, val_main_v43, val_main_v44, val_main_v45,
    val_main_v46, val_main_cst_9, val_main_v47, val_main_v48, val_main_cst_10, val_main_v49, val_main_v50,
    val_main_v51, val_main_v52, val_main_v53, val_main_v54, val_main_cst_11, val_main_v55, val_main_v56,
    val_main_cst_12, val_main_v57, val_main_v58, val_main_v59, val_main_v60, val_main_v61, val_main_v62,
    val_main_v63, val_main_v64, val_main_v65, val_main_cst_13, val_main_v66, val_main_v67]
  by_cases h0 : i.val < 1
  · rw [dif_pos h0, dif_pos (by omega), (Fin.ext (by show i.val = 0; omega) : (⟨i.val, by omega⟩ : Fin 3) = 0)]
    rfl
  rw [dif_neg h0]
  by_cases h1 : i.val - 1 < 1
  · rw [dif_pos h1, dif_pos (by omega), (Fin.ext (by show i.val = 1; omega) : (⟨i.val, by omega⟩ : Fin 3) = 1)]
    exact Finset.sum_congr rfl fun R _ => mul_comm _ _
  rw [dif_neg h1]
  by_cases h2 : i.val - 1 - 1 < 1
  · rw [dif_pos h2, dif_pos (by omega), (Fin.ext (by show i.val = 2; omega) : (⟨i.val, by omega⟩ : Fin 3) = 2)]
    exact Finset.sum_congr rfl fun R _ => mul_comm _ _
  rw [dif_neg h2, dif_neg (by omega)]

end Cert.Proof.Dh

end
-- ==== Proof.DhBlocks.lean ====
/- Hand-written: the kernel's input blocks as rows of the arguments, and the values each grid point writes read at an
   index. -/
module

public import proofs.«01_k».proof.Proof.DhHost
public import proofs.«01_k».proof.Proof.DhRef

@[expose] public section

noncomputable section

namespace Cert.Proof.Dh

open Cert.DhIdeal Cert.DhIdeal.Gen Cert.DhIdeal.Value Idealize.ShloMosaic Idealize.ShloMosaic.TcCoe Idealize.SL.Sem

/-- The windows' block indices: the row windows walk the rows, the others stand still. -/
theorem idxs : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0
    ∧ win0_9.index t (0 : Fin 2) = 0 ∧ win0_9.index t (1 : Fin 2) = 0 :=
  (by decide +kernel : ∀ t : Fin grid0.N, _)

/-- There are 32 points. -/
theorem pts : cfg0.N = 32 := by decide +kernel
theorem lt_pts {n : ℕ} (h : n < 32) : n < cfg0.N := by rw [pts]; exact h

/-- Row `r` of point `t`'s rows. -/
def row (t : Fin cfg0.N) (r : Fin 256) : Fin 8192 :=
  ⟨256 * t.val + r.val, by have := t.isLt; have := r.isLt; have := pts; omega⟩

variable (m : (ℓ : Loc nD τ sig) → Buf (Elt Ideal) ℓ) (c : Dev nD)

/-- The arguments. -/
abbrev ax : Vec Ideal S1x8192x1024 .f32 := m ((c : Thread nD τ).loc main_arg0)
abbrev ag : Vec Ideal S1x1024 .f32 := m ((c : Thread nD τ).loc main_arg1)
abbrev asc : Vec Ideal S1x1024 .f32 := m ((c : Thread nD τ).loc main_arg2)
abbrev aw : Vec Ideal S1x1024x11264 .f32 := m ((c : Thread nD τ).loc main_arg4)
abbrev ap : Vec Ideal S1x8192x11264 .f32 := m ((c : Thread nD τ).loc main_arg5)
abbrev ao : Vec Ideal S1x8192x1024 .f32 := m ((c : Thread nD τ).loc main_arg6)

/-! Each input window's block at an index. -/

theorem blk0 (t : Fin cfg0.N) (r : Fin 256) (d : Fin 6144) : (iblk m c 0 t : Vec Ideal S256x6144 .bf16) (ix2 r d)
    = (V m c main_v18 : Vec Ideal S8192x6144 .bf16) (ix2 (row t r) d) := by
  show (V m c main_v18 : Vec Ideal S8192x6144 .bf16) (((cfg0.win 0).blk t).view.emb (ix2 r d)) = _
  refine congrArg _ (funext fun a => Fin.ext ?_)
  have e := idxs t
  match a with
  | ⟨0, _⟩ => show win0_0.index t (0 : Fin 2) * 256 + 1 * r.val = 256 * t.val + r.val; omega
  | ⟨1, _⟩ => show win0_0.index t (1 : Fin 2) * 6144 + 1 * d.val = d.val; omega

theorem blk1 (t : Fin cfg0.N) (r : Fin 256) (d : Fin 3072) : (iblk m c 1 t : Vec Ideal S256x3072 .bf16) (ix2 r d)
    = (V m c main_v19 : Vec Ideal S8192x3072 .bf16) (ix2 (row t r) d) := by
  show (V m c main_v19 : Vec Ideal S8192x3072 .bf16) (((cfg0.win 1).blk t).view.emb (ix2 r d)) = _
  refine congrArg _ (funext fun a => Fin.ext ?_)
  have e := idxs t
  match a with
  | ⟨0, _⟩ => show win0_1.index t (0 : Fin 2) * 256 + 1 * r.val = 256 * t.val + r.val; omega
  | ⟨1, _⟩ => show win0_1.index t (1 : Fin 2) * 3072 + 1 * d.val = d.val; omega

theorem blk2 (t : Fin cfg0.N) (r : Fin 256) (d : Fin 2048) : (iblk m c 2 t : Vec Ideal S256x2048 .bf16) (ix2 r d)
    = (V m c main_v20 : Vec Ideal S8192x2048 .bf16) (ix2 (row t r) d) := by
  show (V m c main_v20 : Vec Ideal S8192x2048 .bf16) (((cfg0.win 2).blk t).view.emb (ix2 r d)) = _
  refine congrArg _ (funext fun a => Fin.ext ?_)
  have e := idxs t
  match a with
  | ⟨0, _⟩ => show win0_2.index t (0 : Fin 2) * 256 + 1 * r.val = 256 * t.val + r.val; omega
  | ⟨1, _⟩ => show win0_2.index t (1 : Fin 2) * 2048 + 1 * d.val = d.val; omega

theorem blk3 (t : Fin cfg0.N) (r : Fin 1024) (d : Fin 11264) : (iblk m c 3 t : Vec Ideal S1024x11264 .bf16) (ix2 r d)
    = (V m c main_v22 : Vec Ideal S1024x11264 .bf16) (ix2 r d) := by
  show (V m c main_v22 : Vec Ideal S1024x11264 .bf16) (((cfg0.win 3).blk t).view.emb (ix2 r d)) = _
  refine congrArg _ (funext fun a => Fin.ext ?_)
  have e := idxs t
  match a with
  | ⟨0, _⟩ => show win0_3.index t (0 : Fin 2) * 1024 + 1 * r.val = r.val; omega
  | ⟨1, _⟩ => show win0_3.index t (1 : Fin 2) * 11264 + 1 * d.val = d.val; omega

theorem blk4 (t : Fin cfg0.N) (r : Fin 256) (d : Fin 1024) : (iblk m c 4 t : Vec Ideal S256x1024 .f32) (ix2 r d)
    = (V m c main_v23 : Vec Ideal S8192x1024 .f32) (ix2 (row t r) d) := by
  show (V m c main_v23 : Vec Ideal S8192x1024 .f32) (((cfg0.win 4).blk t).view.emb (ix2 r d)) = _
  refine congrArg _ (funext fun a => Fin.ext ?_)
  have e := idxs t
  match a with
  | ⟨0, _⟩ => show win0_4.index t (0 : Fin 2) * 256 + 1 * r.val = 256 * t.val + r.val; omega
  | ⟨1, _⟩ => show win0_4.index t (1 : Fin 2) * 1024 + 1 * d.val = d.val; omega

theorem blk5 (t : Fin cfg0.N) (r : Fin 256) (d : Fin 1024) : (iblk m c 5 t : Vec Ideal S256x1024 .f32) (ix2 r d)
    = (V m c main_v24 : Vec Ideal S8192x1024 .f32) (ix2 (row t r) d) := by
  show (V m c main_v24 : Vec Ideal S8192x1024 .f32) (((cfg0.win 5).blk t).view.emb (ix2 r d)) = _
  refine congrArg _ (funext fun a => Fin.ext ?_)
  have e := idxs t
  match a with
  | ⟨0, _⟩ => show win0_5.index t (0 : Fin 2) * 256 + 1 * r.val = 256 * t.val + r.val; omega
  | ⟨1, _⟩ => show win0_5.index t (1 : Fin 2) * 1024 + 1 * d.val = d.val; omega

theorem blk6 (t : Fin cfg0.N) (d : Fin 1024) : (iblk m c 6 t : Vec Ideal S1x1024 .f32) (ix2 0 d) = ag m c (ix2 0 d) := by
  refine Eq.trans (b := (V m c main_arg1 : Vec Ideal S1x1024 .f32) (ix2 0 d)) ?_ (congrFun (V_main_arg1 m c) _)
  show (V m c main_arg1 : Vec Ideal S1x1024 .f32) (((cfg0.win 6).blk t).view.emb (ix2 0 d)) = _
  refine congrArg _ (funext fun a => Fin.ext ?_)
  have e := idxs t
  match a with
  | ⟨0, _⟩ => show win0_6.index t (0 : Fin 2) * 1 + 1 * 0 = 0; omega
  | ⟨1, _⟩ => show win0_6.index t (1 : Fin 2) * 1024 + 1 * d.val = d.val; omega

theorem blk7 (t : Fin cfg0.N) (d : Fin 1024) : (iblk m c 7 t : Vec Ideal S1x1024 .f32) (ix2 0 d) = asc m c (ix2 0 d) := by
  refine Eq.trans (b := (V m c main_arg2 : Vec Ideal S1x1024 .f32) (ix2 0 d)) ?_ (congrFun (V_main_arg2 m c) _)
  show (V m c main_arg2 : Vec Ideal S1x1024 .f32) (((cfg0.win 7).blk t).view.emb (ix2 0 d)) = _
  refine congrArg _ (funext fun a => Fin.ext ?_)
  have e := idxs t
  match a with
  | ⟨0, _⟩ => show win0_7.index t (0 : Fin 2) * 1 + 1 * 0 = 0; omega
  | ⟨1, _⟩ => show win0_7.index t (1 : Fin 2) * 1024 + 1 * d.val = d.val; omega

/-- The two windows of rows, read in the arguments. -/
theorem blkx (t : Fin cfg0.N) (r : Fin 256) (d : Fin 1024) : (iblk m c 4 t : Vec Ideal S256x1024 .f32) (ix2 r d)
    = xRow (ax m c) (row t r) d := (blk4 m c t r d).trans (v23 m c _ d)
theorem blko (t : Fin cfg0.N) (r : Fin 256) (d : Fin 1024) : (iblk m c 5 t : Vec Ideal S256x1024 .f32) (ix2 r d)
    = ao m c (ix3 0 (row t r) d) := (blk5 m c t r d).trans (v24 m c _ d)

/-- The eighteen products are the row's gradient through the projection. -/
theorem dhAt_apply (t : Fin cfg0.N) (r : Fin 256) (d : Fin 1024) :
    dhAt m c t (ix2 r d) = hRow (aw m c) (ap m c) (row t r) d := by
  unfold dhAt
  refine (dhB_apply _ _ _ _ r d (fun n => if h : n < 11264 then ap m c (ix3 0 (row t r) ⟨n, h⟩) else 0)
    (fun n => if h : n < 11264 then aw m c (ix3 0 d ⟨n, h⟩) else 0) ?_ ?_ ?_ ?_).trans ?_
  · intro j; rw [dif_pos (col_lt j.isLt), blk0, v18]
  · intro j; rw [dif_pos (by have := j.isLt; omega), blk1, v19]
  · intro j; rw [dif_pos (by have := j.isLt; omega), blk2, v20]
  · intro j; rw [dif_pos j.isLt, blk3, v22]
  · exact Finset.sum_congr rfl fun n _ => by simp only [dif_pos n.isLt]

/-- The gradient's store, over the loaded blocks. -/
theorem pay (dh : FVec Ideal S256x1024 .f32) (x o : Vec Ideal S256x1024 .f32) (g s : Vec Ideal S1x1024 .f32)
    (r : Fin 256) (d : Fin 1024) :
    k0_pay17 dh (k0_pay11 x) (k0_pay12 x) g (k0_pay13 s) o (ix2 r d)
      = kGrad (o (ix2 r d)) (fun e => x (ix2 r e)) (fun e => dh (ix2 r e) * (1 + s (ix2 0 e)) * g (ix2 0 e)) d := by
  pointwise [k0_pay17, k0_pay13, k0_pay12, k0_pay11, k0_pay10]
  rfl

/-- The running sums' rows, over the loaded blocks. -/
theorem payScale (dh : FVec Ideal S256x1024 .f32) (x : Vec Ideal S256x1024 .f32) (g : Vec Ideal S1x1024 .f32) (d : Fin 1024) :
    colSum (bScale dh (k0_pay12 x) g) (ix2 0 d)
      = ∑ r : Fin 256, dh (ix2 r d) * (x (ix2 r d) * Ideal.rsqrt (ms fun e => x (ix2 r e)) * g (ix2 0 d)) := by
  pointwise [colSum, bScale, k0_pay12, k0_pay11, k0_pay10]
  rfl
theorem payNorm (dh : FVec Ideal S256x1024 .f32) (x : Vec Ideal S256x1024 .f32) (s : Vec Ideal S1x1024 .f32) (d : Fin 1024) :
    colSum (bNorm dh (k0_pay12 x) (k0_pay13 s)) (ix2 0 d)
      = ∑ r : Fin 256, dh (ix2 r d) * (1 + s (ix2 0 d)) * (x (ix2 r d) * Ideal.rsqrt (ms fun e => x (ix2 r e))) := by
  pointwise [colSum, bNorm, k0_pay13, k0_pay12, k0_pay11, k0_pay10]
  rfl

/-- The point's block of the input's gradient. -/
theorem out8_apply (t : Fin cfg0.N) (r : Fin 256) (d : Fin 1024) :
    (outsAt0 m c t.val t.isLt).1 (ix2 r d) = kGrad (ao m c (ix3 0 (row t r) d)) (xRow (ax m c) (row t r))
      (yRow (ag m c) (asc m c) (aw m c) (ap m c) (row t r)) d := by
  rw [out8, pay]
  simp only [blkx, blko, blk6, blk7, dhAt_apply]
  rfl

/-- The point's rows of the running sums. -/
theorem rowAt_apply (t : Fin cfg0.N) (k : Fin 3) (d : Fin 1024) :
    rowAt m c t k (ix2 0 d) = ∑ r : Fin 256, part (ax m c) (ag m c) (asc m c) (aw m c) (ap m c) k (row t r) d := by
  match k with
  | 0 =>
    show colSum (dhAt m c t) (ix2 0 d) = _
    pointwise [colSum]
    exact Finset.sum_congr rfl fun r _ => dhAt_apply m c t r d
  | 1 =>
    show colSum (bScale (dhAt m c t) (k0_pay12 (iblk m c 4 t)) (iblk m c 6 t)) (ix2 0 d) = _
    rw [payScale]
    simp only [blkx, blk6, dhAt_apply]
    rfl
  | 2 =>
    show colSum (bNorm (dhAt m c t) (k0_pay12 (iblk m c 4 t)) (k0_pay13 (iblk m c 7 t))) (ix2 0 d) = _
    rw [payNorm]
    simp only [blkx, blk7, dhAt_apply]
    rfl

/-- A point's small output at an index: what it starts from, with the point's row added to the first three. -/
theorem next_apply (x : Vec Ideal S8x1024 .f32) (r : Fin 3 → FVec Ideal S1x1024 .f32) (i : Fin 8) (d : Fin 1024) :
    next x r i d = x (ix2 i d) + if h : i.val < 3 then r ⟨i.val, h⟩ (ix2 0 d) else 0 := by
  unfold next
  split
  · rename_i h
    have e : ∀ (k : Fin 3) (b : FVec Ideal S1x1024 .f32), plus (oldRow x k) b (ix2 0 d)
        = x (ix2 ⟨k.val, by omega⟩ d) + b (ix2 0 d) := by
      intro k b
      match k with
      | 0 => pointwise [plus, oldRow]
      | 1 => pointwise [plus, oldRow]
      | 2 => pointwise [plus, oldRow]
    exact e _ _
  · rw [add_zero]

end Cert.Proof.Dh

end
-- ==== Proof.DhValue.lean ====
/- Hand-written: the kernel's two result arrays as functions of the arguments: the input's gradient, and the three sums
   over all rows that the small array carries from point to point. -/
module

public import proofs.«01_k».proof.Proof.DhBlocks
public import proofs.«01_k».proof.Proof.Gen.DhRefIdeal.Run

@[expose] public section

noncomputable section

namespace Cert.Proof.Dh

open Cert.DhIdeal Cert.DhIdeal.Gen Cert.DhIdeal.Value Idealize.ShloMosaic Idealize.ShloMosaic.TcCoe Idealize.SL.Sem

variable (m : (ℓ : Loc nD τ sig) → Buf (Elt Ideal) ℓ) (c : Dev nD)

/-- The summand of row `R`, zero beyond the last row. -/
def partN (k : Fin 3) (d : Fin 1024) (R : ℕ) : EReal :=
  if h : R < 8192 then part (ax m c) (ag m c) (asc m c) (aw m c) (ap m c) k ⟨R, h⟩ d else 0

/-- A point's row of sums over the rows' numbers. -/
theorem rowAt_range (t : Fin cfg0.N) (k : Fin 3) (d : Fin 1024) :
    rowAt m c t k (ix2 0 d) = ∑ r ∈ Finset.range 256, partN m c k d (256 * t.val + r) := by
  rw [rowAt_apply, ← Fin.sum_univ_eq_sum_range (fun r => partN m c k d (256 * t.val + r))]
  refine Finset.sum_congr rfl fun r _ => ?_
  unfold partN
  rw [dif_pos (show 256 * t.val + r.val < 8192 from (row t r).isLt)]
  rfl

/-- After point `n` the small output holds the sums over the rows up to there. -/
theorem out9_apply (n : ℕ) (hn : n < cfg0.N) (i : Fin 8) (d : Fin 1024) : (outsAt0 m c n hn).2 (ix2 i d)
    = if h : i.val < 3 then ∑ R ∈ Finset.range (256 * (n + 1)), partN m c ⟨i.val, h⟩ d R else 0 := by
  have hN := pts
  induction n with
  | zero =>
    refine (out9_first m c ⟨0, hn⟩ rfl i d).trans ?_
    rw [next_apply, show (k0_pay1 (F := Ideal)) (ix2 i d) = 0 by pointwise [k0_pay1], zero_add]
    split
    · rw [rowAt_range]; simp
    · rfl
  | succ n ih =>
    refine (out9_later m c ⟨n + 1, hn⟩ (by show ¬ (n + 1) % 32 = 0; omega) i d).trans ?_
    rw [next_apply]
    refine (congrArg (· + _) (ih (by omega))).trans ?_
    split
    · rw [rowAt_range, show 256 * (n + 1 + 1) = 256 * (n + 1) + 256 by ring, Finset.sum_range_add]
    · rw [add_zero]

/-- The first result: the input's gradient as the kernel writes it. -/
def G8 : Vec Ideal S8192x1024 .f32 := fun i => kGrad (ao m c (ix3 0 (i 0) (i 1))) (xRow (ax m c) (i 0))
  (yRow (ag m c) (asc m c) (aw m c) (ap m c) (i 0)) (i 1)

/-- The second result: three rows of sums over all rows, five of zeros. -/
def G9 : Vec Ideal S8x1024 .f32 := fun i =>
  if h : (i 0).val < 3 then ∑ R : Fin 8192, part (ax m c) (ag m c) (asc m c) (aw m c) (ap m c) ⟨(i 0).val, h⟩ R (i 1) else 0

/-! The output windows' blocks in their arrays. -/

theorem emb8 (t : Fin cfg0.N) (r : Fin 256) (d : Fin 1024) :
    ((cfg0.win 8).blk t).view.emb (ix2 r d : S256x1024.Idx) = (ix2 (row t r) d : S8192x1024.Idx) := by
  have e := idxs t
  funext a; apply Fin.ext
  match a with
  | ⟨0, _⟩ => show win0_8.index t (0 : Fin 2) * 256 + 1 * r.val = 256 * t.val + r.val; omega
  | ⟨1, _⟩ => show win0_8.index t (1 : Fin 2) * 1024 + 1 * d.val = d.val; omega

theorem emb9 (t : Fin cfg0.N) (j : S8x1024.Idx) : ((cfg0.win 9).blk t).view.emb j = j := by
  have e := idxs t
  funext a; apply Fin.ext
  match a with
  | ⟨0, _⟩ => show win0_9.index t (0 : Fin 2) * 8 + 1 * (j 0).val = (j 0).val; omega
  | ⟨1, _⟩ => show win0_9.index t (1 : Fin 2) * 1024 + 1 * (j 1).val = (j 1).val; omega

/-- The first result array after the run. -/
theorem final8 : (dats m 0 c).arrAt 8 cfg0.N = G8 m c := by
  refine (dats m 0 c).arrAt_eq_of_cover 8 (G8 m c) (fun t _ => ?_) fun (i : S8192x1024.Idx) => ?_
  · rw [flushed8]
    funext j
    show (outsAt0 m c t.val t.isLt).1 j = G8 m c (((cfg0.win 8).blk t).view.emb j)
    obtain ⟨r, d, rfl⟩ : ∃ (r : Fin 256) (d : Fin 1024), j = (ix2 r d : S256x1024.Idx) :=
      ⟨j 0, j 1, funext fun a => by match a with | ⟨0, _⟩ => rfl | ⟨1, _⟩ => rfl⟩
    rw [emb8, out8_apply]
    rfl
  · obtain ⟨R, d, rfl⟩ : ∃ (R : Fin 8192) (d : Fin 1024), i = (ix2 R d : S8192x1024.Idx) :=
      ⟨i 0, i 1, funext fun a => by match a with | ⟨0, _⟩ => rfl | ⟨1, _⟩ => rfl⟩
    have hR := R.isLt
    refine ⟨⟨R.val / 256, lt_pts (by omega)⟩, flush0_8 _, ?_⟩
    have h := ((cfg0.win 8).blk ⟨R.val / 256, lt_pts (by omega)⟩).view.emb_mem_set
      (ix2 (⟨R.val % 256, Nat.mod_lt _ (by norm_num)⟩ : Fin 256) d : S256x1024.Idx)
    have e : row ⟨R.val / 256, lt_pts (by omega)⟩ ⟨R.val % 256, Nat.mod_lt _ (by norm_num)⟩ = R :=
      Fin.ext (by show 256 * (R.val / 256) + R.val % 256 = R.val; omega)
    rw [emb8, e] at h
    exact h

/-- The second result array after the run. -/
theorem final9 : (dats m 0 c).arrAt 9 cfg0.N = G9 m c := by
  refine (dats m 0 c).arrAt_eq_of_cover 9 (G9 m c) (fun t ht => ?_) fun (i : S8x1024.Idx) => ?_
  · rw [flushed9]
    have ht := (flush0_9 t).mp ht
    funext j
    show (outsAt0 m c t.val t.isLt).2 j = G9 m c (((cfg0.win 9).blk t).view.emb j)
    obtain ⟨r, d, rfl⟩ : ∃ (r : Fin 8) (d : Fin 1024), j = (ix2 r d : S8x1024.Idx) :=
      ⟨j 0, j 1, funext fun a => by match a with | ⟨0, _⟩ => rfl | ⟨1, _⟩ => rfl⟩
    rw [emb9, out9_apply]
    unfold G9
    show (if h : r.val < 3 then _ else _) = if h : r.val < 3 then _ else _
    split
    · rw [show 256 * (t.val + 1) = 8192 by have := t.isLt; have := pts; omega,
        ← Fin.sum_univ_eq_sum_range (fun R => partN m c _ d R)]
      exact Finset.sum_congr rfl fun R _ => dif_pos R.isLt
    · rfl
  · refine ⟨⟨31, lt_pts (by omega)⟩, (flush0_9 _).mpr rfl, ?_⟩
    have h := ((cfg0.win 9).blk ⟨31, lt_pts (by omega)⟩).view.emb_mem_set i
    rwa [emb9] at h

/-- The derivative's first result at finite arguments. -/
theorem first (m' : (ℓ : Loc nD τ sig) → Buf (Elt Ideal) ℓ) (c : Dev nD)
    (hx : ∀ i, ∃ r : ℝ, ax m' c i = r) (hg : ∀ i, ∃ r : ℝ, ag m' c i = r) (hs : ∀ i, ∃ r : ℝ, asc m' c i = r)
    (hw : ∀ i, ∃ r : ℝ, aw m' c i = r) (hp : ∀ i, ∃ r : ℝ, ap m' c i = r) :
    G8 m' c = Cert.DhRefIdeal.Read.val_main_v65 (F := Ideal) (ax m' c) (ag m' c) (asc m' c) (aw m' c) (ap m' c) (ao m' c) := by
  choose x hx using hx
  choose g hg using hg
  choose s hs using hs
  choose w hw using hw
  choose p hp using hp
  funext i
  obtain ⟨R, d, rfl⟩ : ∃ (R : Fin 8192) (d : Fin 1024), i = (ix2 R d : S8192x1024.Idx) :=
    ⟨i 0, i 1, funext fun a => by match a with | ⟨0, _⟩ => rfl | ⟨1, _⟩ => rfl⟩
  refine Eq.trans ?_ (ref0 _ _ _ _ _ _ R d).symm
  have e1 : xRow (ax m' c) R = fun e => (x (ix3 0 R e) : EReal) := funext fun e => hx _
  have e2 : yRow (ag m' c) (asc m' c) (aw m' c) (ap m' c) R
      = fun e => (((∑ n : Fin 11264, p (ix3 0 R n) * w (ix3 0 e n)) * (1 + s (ix2 0 e)) * g (ix2 0 e) : ℝ) : EReal) := by
    funext e
    unfold yRow hRow
    simp only [hg, hs, hw, hp, ← EReal.coe_mul]
    rw [sum_real, ← EReal.coe_one, ← EReal.coe_add, ← EReal.coe_mul, ← EReal.coe_mul]
  show kGrad _ (xRow (ax m' c) R) (yRow (ag m' c) (asc m' c) (aw m' c) (ap m' c) R) d = _
  rw [e1, e2]
  exact grads _ _ _ _

/-- The derivative's second result. -/
theorem second : G9 m c
    = Cert.DhRefIdeal.Read.val_main_v67 (F := Ideal) (ax m c) (ag m c) (asc m c) (aw m c) (ap m c) := by
  funext i
  obtain ⟨R, d, rfl⟩ : ∃ (R : Fin 8) (d : Fin 1024), i = (ix2 R d : S8x1024.Idx) :=
    ⟨i 0, i 1, funext fun a => by match a with | ⟨0, _⟩ => rfl | ⟨1, _⟩ => rfl⟩
  exact (ref1 _ _ _ _ _ R d).symm

end Cert.Proof.Dh

end
-- ==== Proof.DhClaims.lean ====
/- Hand-written: the claims about the pre-norm's and projection's backward kernel and the derivative of the forward
   lines. -/
module

public import proofs.«01_k».proof.Defs
public import proofs.«01_k».proof.Proof.DhValue
public import proofs.«01_k».proof.Proof.Gen.Dh.Frame
public import proofs.«01_k».proof.Proof.Gen.Pre_dh_finite
public import Idealize.ShloMosaic.Adequacy
public import Idealize.ShloMosaic.Init

@[expose] public section

noncomputable section

namespace Cert.Proof.Dh

open Idealize.ShloMosaic Idealize.ShloMosaic.TcCoe Idealize.SL.Sem

/-- The derivative's program runs and leaves its arguments and every counter as they were. -/
theorem frame_ref : Cert.quiescent_DhRefIdeal := fun m ρ _ =>
  (θ_run Cert.DhRefIdeal.defs _ _).mono (fun r h => ⟨fun c => (h c).2.2, sem_eq_zero_of_no_sems (by decide) r.2⟩)
    (Cert.DhRefIdeal.Value.run (F := Ideal) m ρ)

/-- At finite arguments the kernel's two results are the derivative's. -/
theorem algebraic : Cert.algebraic_DhIdeal_DhRefIdeal_pre_dh_finite := by
  intro m ρ m' ρ' hpre hagree
  refine ⟨fun c => G8 m c, fun c => G9 m c, ?_, ?_⟩
  · exact (θ_run Cert.DhIdeal.defs _ _).mono
      (fun r h c => ⟨(h c).1.trans (final8 m c), (h c).2.1.trans (final9 m c), (h c).2.2⟩)
      (Cert.DhIdeal.Value.run_blocks m ρ)
  · refine (θ_run Cert.DhRefIdeal.defs _ _).mono (fun r h c => ⟨(h c).1.trans ?_, (h c).2.1.trans ?_, (h c).2.2⟩)
      (Cert.DhRefIdeal.Value.run (F := Ideal) m' ρ')
    · obtain ⟨hx, hg, hs, hw, hp⟩ := hpre c
      obtain ⟨e0, e1, e2, e3, e4, e5, e6⟩ := hagree c
      rw [Cert.DhRefIdeal.Read.val_main_v65_eq, e0, e1, e2, e4, e5, e6]
      exact (first m c (real_of_cmp _ _ (fun _ => rfl) hx) (real_of_cmp _ _ (fun _ => rfl) hg)
        (real_of_cmp _ _ (fun _ => rfl) hs) (real_of_cmp _ _ (fun _ => rfl) hw) (real_of_cmp _ _ (fun _ => rfl) hp)).symm
    · obtain ⟨e0, e1, e2, e3, e4, e5, e6⟩ := hagree c
      rw [Cert.DhRefIdeal.Read.val_main_v67_eq, e0, e1, e2, e4, e5]
      exact (second m c).symm

end Cert.Proof.Dh

end
-- ==== Proof.RetFwdRun.lean ====
/- One grid point of the forward retention call: what its stores leave in the four results' blocks and in the state
   that it carries from point to point. -/
module

public import proofs.«01_k».proof.Proof.Gen.RetIdeal.Skeleton
public import proofs.«01_k».proof.Proof.Gen.RetIdeal.Points
public import proofs.«01_k».proof.Proof.Gen.RetIdeal.Regions
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Proof.Ret

open Cert.RetIdeal Cert.RetIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The buffers that one point of the forward call works on: its ten arguments' blocks, its four results' blocks, and
    the carried state. -/
structure FwdRefs where
  q : Memref sig .tc .vmem S1024x256 .f32
  k : Memref sig .tc .vmem S1024x256 .f32
  v : Memref sig .tc .vmem S1024x512 .f32
  z : Memref sig .tc .vmem S1024x512 .f32
  cos : Memref sig .tc .vmem S1024x128 .f32
  sin : Memref sig .tc .vmem S1024x128 .f32
  mask : Memref sig .tc .vmem S1x128x128 .f32
  xi : Memref sig .tc .vmem S1x128x1 .f32
  zeta : Memref sig .tc .vmem S1x128x1 .f32
  gc : Memref sig .tc .vmem S1x1x128 .f32
  pa : Memref sig .tc .vmem S1024x512 .bf16
  o : Memref sig .tc .vmem S1024x512 .f32
  st : Memref sig .tc .vmem S1x8x256x512 .bf16
  rot : Memref sig .tc .vmem S1024x768 .bf16
  acc : Memref sig .tc .vmem S256x512 .f32
  hq : q.IsWhole
  hk : k.IsWhole
  hv : v.IsWhole
  hz : z.IsWhole
  hcos : cos.IsWhole
  hsin : sin.IsWhole
  hmask : mask.IsWhole
  hxi : xi.IsWhole
  hzeta : zeta.IsWhole
  hgc : gc.IsWhole
  hpa : pa.IsWhole
  ho : o.IsWhole
  hst : st.IsWhole
  hrot : rot.IsWhole
  hacc : acc.IsWhole

/-- The contents of the ten arguments' blocks at a point of the forward call. -/
structure FwdIn (F : FTy → Type) where
  q : Vec F S1024x256 .f32
  k : Vec F S1024x256 .f32
  v : Vec F S1024x512 .f32
  z : Vec F S1024x512 .f32
  cos : Vec F S1024x128 .f32
  sin : Vec F S1024x128 .f32
  mask : Vec F S1x128x128 .f32
  xi : Vec F S1x128x1 .f32
  zeta : Vec F S1x128x1 .f32
  gc : Vec F S1x1x128 .f32

/-- A point's forward body on the buffers `B`. -/
abbrev fwdBody (i : grid0.Coords) (B : FwdRefs) : Prog (TpuEff nD τ sig (Elt F) Λ₀ .tc) PUnit :=
  cc0_retention_fwd i B.q B.hq B.k B.hk B.v B.hv B.z B.hz B.cos B.hcos B.sin B.hsin B.mask B.hmask B.xi B.hxi B.zeta B.hzeta
    B.gc B.hgc B.pa B.hpa B.o B.ho B.st B.hst B.rot B.hrot B.acc B.hacc

/-- The first point of a head, where the carried state is set to zero. -/
abbrev fwdFirst (i : grid0.Coords) : Prop :=
  (Scalar.cmpi .ne (Scalar.extui (Scalar.cmpi .eq (BitVec.ofNat 32 (i 1).val) 0#32)) 0#32) = 1#1

/-- The arguments' blocks held at their contents. -/
def fwdIns (c : Dev nD) (B : FwdRefs) (X : FwdIn F) : sProp 𝕄 :=
  iprop(owns (c : Thread nD τ) B.q fullShare X.q ∗ owns (c : Thread nD τ) B.k fullShare X.k ∗ owns (c : Thread nD τ) B.v fullShare X.v
    ∗ owns (c : Thread nD τ) B.z fullShare X.z ∗ owns (c : Thread nD τ) B.cos fullShare X.cos ∗ owns (c : Thread nD τ) B.sin fullShare X.sin
    ∗ owns (c : Thread nD τ) B.mask fullShare X.mask ∗ owns (c : Thread nD τ) B.xi fullShare X.xi
    ∗ owns (c : Thread nD τ) B.zeta fullShare X.zeta ∗ owns (c : Thread nD τ) B.gc fullShare X.gc)

/-- The pieces that a point's stores leave: in the four results' blocks and in the carried state, the last store first. -/
structure FwdPieces (F : FTy → Type) where
  pa : List (View.Piece (Elt F) S1024x512 .bf16)
  o : List (View.Piece (Elt F) S1024x512 .f32)
  st : List (View.Piece (Elt F) S1x8x256x512 .bf16)
  rot : List (View.Piece (Elt F) S1024x768 .bf16)
  acc : List (View.Piece (Elt F) S256x512 .f32)

set_option maxHeartbeats 4000000 in
/-- The forward body runs at any point, and what it stores are pieces that depend on the arguments' blocks and the carried
    state only. -/
def fwdRun (c : Dev nD) (i : grid0.Coords) (B : FwdRefs) (X : FwdIn F) (s : Vec F S256x512 .f32) (first : Bool) (hb : fwdFirst i ↔ first = true) :
    { P : FwdPieces F // ∀ (E : Set ℕ) (K : PUnit → sProp 𝕄),
      iprop(fwdIns c B X ∗ (∃ d, owns (c : Thread nD τ) B.pa fullShare d) ∗ (∃ d, owns (c : Thread nD τ) B.o fullShare d)
          ∗ (∃ d, owns (c : Thread nD τ) B.st fullShare d) ∗ (∃ d, owns (c : Thread nD τ) B.rot fullShare d) ∗ owns (c : Thread nD τ) B.acc fullShare s
          ∗ (iprop(fwdIns c B X ∗ (∃ f, B.pa.view.loc (c : Thread nD τ) ↦[B.pa.view.set]{fullShare} B.pa.view.writes (Elt F) f P.pa)
              ∗ (∃ f, B.o.view.loc (c : Thread nD τ) ↦[B.o.view.set]{fullShare} B.o.view.writes (Elt F) f P.o)
              ∗ (∃ f, B.st.view.loc (c : Thread nD τ) ↦[B.st.view.set]{fullShare} B.st.view.writes (Elt F) f P.st)
              ∗ (∃ f, B.rot.view.loc (c : Thread nD τ) ↦[B.rot.view.set]{fullShare} B.rot.view.writes (Elt F) f P.rot)
              ∗ (∃ f, B.acc.view.loc (c : Thread nD τ) ↦[B.acc.view.set]{fullShare} B.acc.view.writes (Elt F) f P.acc)) -∗ K ⟨⟩))
        ⊢ wp frame (wpE (defs₀ (F := F)) Variants.none c none) E (fwdBody i B) K } := by
  cases first
  all_goals
    first
    | have hc0 : fwdFirst i := hb.mpr rfl
    | have hc0 : ¬fwdFirst i := fun h => Bool.noConfusion (hb.mp h)
    refine ⟨⟨?_, ?_, ?_, ?_, ?_⟩, fun E K => ?run⟩
    case run =>
      dsimp only
      unfold fwdBody
      simp only [cc0_retention_fwd_eq_skeleton]; unfold cc0_retention_fwd_skel
      simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
      unfold fwdIns owns
      iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩⟩, ⟨%d10, %f10, -, H10⟩, ⟨%d11, %f11, -, H11⟩, ⟨%d12, %f12, -, H12⟩, ⟨%d13, %f13, -, H13⟩, ⟨%fs0, %hfs0, HS0⟩, Hk⟩
      obtain rfl := B.hq.eq_unread hf0; obtain rfl := B.hk.eq_unread hf1; obtain rfl := B.hv.eq_unread hf2; obtain rfl := B.hz.eq_unread hf3; obtain rfl := B.hcos.eq_unread hf4; obtain rfl := B.hsin.eq_unread hf5; obtain rfl := B.hmask.eq_unread hf6; obtain rfl := B.hxi.eq_unread hf7; obtain rfl := B.hzeta.eq_unread hf8; obtain rfl := B.hgc.eq_unread hf9; obtain rfl := B.hacc.eq_unread hfs0
      sl_exec (disch := first | sl_exact hc0)
      sl_step
      iapply Hk
      isplitl [H0 H1 H2 H3 H4 H5 H6 H7 H8 H9]
      · isplitl [H0]
        · iexists _; isplitr; · ipureintro; exact B.hq.read_unread _
          iexact H0
        isplitl [H1]
        · iexists _; isplitr; · ipureintro; exact B.hk.read_unread _
          iexact H1
        isplitl [H2]
        · iexists _; isplitr; · ipureintro; exact B.hv.read_unread _
          iexact H2
        isplitl [H3]
        · iexists _; isplitr; · ipureintro; exact B.hz.read_unread _
          iexact H3
        isplitl [H4]
        · iexists _; isplitr; · ipureintro; exact B.hcos.read_unread _
          iexact H4
        isplitl [H5]
        · iexists _; isplitr; · ipureintro; exact B.hsin.read_unread _
          iexact H5
        isplitl [H6]
        · iexists _; isplitr; · ipureintro; exact B.hmask.read_unread _
          iexact H6
        isplitl [H7]
        · iexists _; isplitr; · ipureintro; exact B.hxi.read_unread _
          iexact H7
        isplitl [H8]
        · iexists _; isplitr; · ipureintro; exact B.hzeta.read_unread _
          iexact H8
        iexists _; isplitr; · ipureintro; exact B.hgc.read_unread _
        iexact H9
      isplitl [H10]; · iexists _; iexact H10
      isplitl [H11]; · iexists _; iexact H11
      isplitl [H12]; · iexists _; iexact H12
      isplitl [H13]; · iexists _; iexact H13
      iexists _; iexact HS0

end Cert.Proof.Ret

end

end
-- ==== Proof.RetFwdPoint.lean ====
/- The forward retention call point by point: what its buffers and the carried state hold, over any
   contents of the arrays that it is entered with. -/
module

public import proofs.«01_k».proof.Proof.RetFwdRun

@[expose] public section

set_option maxRecDepth 16384

noncomputable section

namespace Cert.Proof.Ret

open Cert.RetIdeal Cert.RetIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat HostSeg RegionSeg)

variable {F : FTy → Type} [FloatOps F]

local notation "𝕄" => MT nD τ sig Unit (Elt F) ℕ (UR sig nD τ) ℕ

/-- A point of the forward call is the first one of its head exactly when its number is a multiple of eight. -/
theorem fwdFirst_iff : ∀ t : Fin cfg0.N, fwdFirst (grid0.coords t) ↔ decide (t.val % 8 = 0) = true :=
  (fun t => by
    have ht : t.val < 32 := Nat.lt_of_lt_of_eq t.isLt N_0
    have e1 : (grid0.coords t 1).val = t.val / 1 % 8 := Pipeline.Grid.coords_val t 1 (by decide) rfl
    rw [decide_eq_true_iff]
    simp only [fwdFirst, e1]
    word_cmp
   : ∀ t : Fin grid0.N, fwdFirst (grid0.coords t) ↔ decide (t.val % 8 = 0) = true)

/-- The buffers of point `t`. -/
def fwdRefs (t : Fin cfg0.N) : FwdRefs where
  q := st0_0 t
  k := st0_1 t
  v := st0_2 t
  z := st0_3 t
  cos := st0_4 t
  sin := st0_5 t
  mask := st0_6 t
  xi := st0_7 t
  zeta := st0_8 t
  gc := st0_9 t
  pa := st0_10 t
  o := st0_11 t
  st := st0_12 t
  rot := st0_13 t
  acc := Memref.whole cc0_scratch0
  hq := hstage0_0 ((cfg0.slots t 0).cast nbuf0_0)
  hk := hstage0_1 ((cfg0.slots t 1).cast nbuf0_1)
  hv := hstage0_2 ((cfg0.slots t 2).cast nbuf0_2)
  hz := hstage0_3 ((cfg0.slots t 3).cast nbuf0_3)
  hcos := hstage0_4 ((cfg0.slots t 4).cast nbuf0_4)
  hsin := hstage0_5 ((cfg0.slots t 5).cast nbuf0_5)
  hmask := hstage0_6 ((cfg0.slots t 6).cast nbuf0_6)
  hxi := hstage0_7 ((cfg0.slots t 7).cast nbuf0_7)
  hzeta := hstage0_8 ((cfg0.slots t 8).cast nbuf0_8)
  hgc := hstage0_9 ((cfg0.slots t 9).cast nbuf0_9)
  hpa := hstage0_10 ((cfg0.slots t 10).cast nbuf0_10)
  ho := hstage0_11 ((cfg0.slots t 11).cast nbuf0_11)
  hst := hstage0_12 ((cfg0.slots t 12).cast nbuf0_12)
  hrot := hstage0_13 ((cfg0.slots t 13).cast nbuf0_13)
  hacc := Memref.isWhole_whole _

variable (V : (c : Dev nD) → Valuation τ sig (Elt F))

/-- The block of window `w` at point `t`, read off the contents that the region is entered with. -/
def fwdBlk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The arguments' blocks at point `t`. -/
def fwdX (c : Dev nD) (t : Fin cfg0.N) : FwdIn F where
  q := fwdBlk V c 0 t
  k := fwdBlk V c 1 t
  v := fwdBlk V c 2 t
  z := fwdBlk V c 3 t
  cos := fwdBlk V c 4 t
  sin := fwdBlk V c 5 t
  mask := fwdBlk V c 6 t
  xi := fwdBlk V c 7 t
  zeta := fwdBlk V c 8 t
  gc := fwdBlk V c 9 t

/-- The pieces that point `t` stores when the carried state is `s` before it. -/
def fwdAt (c : Dev nD) (t : Fin cfg0.N) (s : Vec F S256x512 .f32) : FwdPieces F :=
  (fwdRun c (grid0.coords t) (fwdRefs t) (fwdX V c t) s (decide (t.val % 8 = 0)) (fwdFirst_iff t)).1

/-- At the first point of a head the pieces do not depend on what was carried. -/
theorem fwdRun_first (c : Dev nD) (i : grid0.Coords) (B : FwdRefs) (X : FwdIn F) (s s' : Vec F S256x512 .f32) (first : Bool)
    (hb : fwdFirst i ↔ first = true) (hf : first = true) : (fwdRun c i B X s first hb).1 = (fwdRun c i B X s' first hb).1 := by
  subst hf; rfl

/-- Before point `n`: the carried state. Nothing is carried into the first point of a head. -/
def fwdAcc (c : Dev nD) : ℕ → Vec F S256x512 .f32
  | 0 => View.canon []
  | n + 1 => if h : n < cfg0.N then View.canon (fwdAt V c ⟨n, h⟩ (fwdAcc c n)).acc else fwdAcc c n

/-- The pieces that point `t` stores, the carried state being what the points before it left. -/
def fwdPt (c : Dev nD) (t : Fin cfg0.N) : FwdPieces F := fwdAt V c t (fwdAcc V c t.val)

/-- The carried state after point `t`. -/
theorem fwdAcc_succ (c : Dev nD) (t : Fin cfg0.N) :
    fwdAcc V c (t.val + 1) = View.canon (fwdPt V c t).acc := by
  rw [fwdAcc, dif_pos t.isLt]; rfl

/-- A point's stores cover the buffer `pa`. -/
theorem fwdCover_pa (c : Dev nD) (i : grid0.Coords) (B : FwdRefs) (X : FwdIn F) (s : Vec F S256x512 .f32) (first : Bool)
    (hb : fwdFirst i ↔ first = true) : ∀ y, ∃ p ∈ (fwdRun c i B X s first hb).1.pa, y ∈ p.1.set := by
  cases first
  · exact View.cover_of_tiledL _ S128x512.size (by sl_kernel_rfl)
  · exact View.cover_of_tiledL _ S128x512.size (by sl_kernel_rfl)

/-- A point's stores cover the buffer `o`. -/
theorem fwdCover_o (c : Dev nD) (i : grid0.Coords) (B : FwdRefs) (X : FwdIn F) (s : Vec F S256x512 .f32) (first : Bool)
    (hb : fwdFirst i ↔ first = true) : ∀ y, ∃ p ∈ (fwdRun c i B X s first hb).1.o, y ∈ p.1.set := by
  cases first
  · exact View.cover_of_tiledL _ S128x512.size (by sl_kernel_rfl)
  · exact View.cover_of_tiledL _ S128x512.size (by sl_kernel_rfl)

/-- A point's stores cover the buffer `st`. -/
theorem fwdCover_st (c : Dev nD) (i : grid0.Coords) (B : FwdRefs) (X : FwdIn F) (s : Vec F S256x512 .f32) (first : Bool)
    (hb : fwdFirst i ↔ first = true) : ∀ y, ∃ p ∈ (fwdRun c i B X s first hb).1.st, y ∈ p.1.set := by
  cases first
  · exact View.cover_of_tiledL _ S1x1x256x512.size (by sl_kernel_rfl)
  · exact View.cover_of_tiledL _ S1x1x256x512.size (by sl_kernel_rfl)

/-- A point's stores cover the buffer `rot`. -/
theorem fwdCover_rot (c : Dev nD) (i : grid0.Coords) (B : FwdRefs) (X : FwdIn F) (s : Vec F S256x512 .f32) (first : Bool)
    (hb : fwdFirst i ↔ first = true) : ∀ y, ∃ p ∈ (fwdRun c i B X s first hb).1.rot, y ∈ p.1.set := by
  cases first
  · exact View.cover_of_tiledL _ S128x256.size (by sl_kernel_rfl)
  · exact View.cover_of_tiledL _ S128x256.size (by sl_kernel_rfl)

/-- A point's stores cover the buffer `acc`. -/
theorem fwdCover_acc (c : Dev nD) (i : grid0.Coords) (B : FwdRefs) (X : FwdIn F) (s : Vec F S256x512 .f32) (first : Bool)
    (hb : fwdFirst i ↔ first = true) : ∀ y, ∃ p ∈ (fwdRun c i B X s first hb).1.acc, y ∈ p.1.set := by
  cases first
  · exact View.cover_of_tiledL _ S256x512.size (by sl_kernel_rfl)
  · exact View.cover_of_tiledL _ S256x512.size (by sl_kernel_rfl)

end Cert.Proof.Ret

end

end
-- ==== Proof.RetFwdChunk.lean ====
/- What a point of the forward retention call stores, chunk by chunk: eight chunks of 128 rows, each worked on with the
   carried state as the chunk before left it. -/
module

public import proofs.«01_k».proof.Proof.RetFwdPoint
public import Idealize.ShloMosaic.Lib.Pipeline.ValueKit
public import Idealize.ShloMosaic.Lib.ValueIdx

@[expose] public section

set_option maxRecDepth 16384

noncomputable section

namespace Cert.Proof.Ret

open Cert.RetIdeal Cert.RetIdeal.Gen
open Idealize.ShloMosaic Idealize.ShloMosaic.TcCoe Idealize.ShloMosaic.Tactic

variable {F : FTy → Type} [FloatOps F]

/-- The 128 rows of chunk `a` within a block of 1024 rows. -/
abbrev chunkRect (w : ℕ) (a : Fin 8) : Rect ⟨2, ![1024, w]⟩ :=
  Rect.unit (s := ⟨2, ![1024, w]⟩) ![a.val * 128, 0] (⟨2, ![128, w]⟩ : Shape).size
    (Fin.forall_fin_two.2 ⟨show a.val * 128 + 128 ≤ 1024 by omega, (Nat.zero_add w).le⟩)

/-- Those rows' contents. -/
def chunk {w : ℕ} {e : EltTy} (x : Vec F ⟨2, ![1024, w]⟩ e) (a : Fin 8) : Vec F ⟨2, ![128, w]⟩ e := View.ld x (chunkRect w a)

/-- Row `r` of chunk `a` within the block. -/
abbrev chunkRow (a : Fin 8) (r : Fin 128) : Fin 1024 := ⟨a.val * 128 + r.val, by omega⟩

/-- A chunk read at a row. -/
theorem chunk_apply {w : ℕ} {e : EltTy} (x : Vec F ⟨2, ![1024, w]⟩ e) (a : Fin 8) (r : Fin 128) (j : Fin w) :
    chunk x a (ix2 r j) = x (ix2 (chunkRow a r) j) := by
  refine congrArg x (funext fun d => Fin.ext ?_)
  match d with
  | 0 => show a.val * 128 + 1 * r.val = a.val * 128 + r.val; omega
  | 1 => show 0 + 1 * j.val = j.val; omega

/-- A chunk's rows turned by the rotary angles: the two halves of the columns mixed by cosine and sine. -/
def turn (c s : Vec F S128x128 .f32) (x : Vec F S128x256 .f32) : FVec F S128x256 .f32 :=
  let c' := shapeCast S128x128 c shapeCasts_S128x128_S128x128
  let s' := shapeCast S128x128 s shapeCasts_S128x128_S128x128
  let x' := shapeCast S128x256 x shapeCasts_S128x256_S128x256
  let l := extractStridedSlice S128x128 ![0, 0] x' slices_S128x256_o0_0_S128x128
  let r := extractStridedSlice S128x128 ![0, 128] x' slices_S128x256_o0_128_S128x128
  concatenate S128x256 1 [⟨S128x128, subf (mulf l c') (mulf r s')⟩, ⟨S128x128, addf (mulf l s') (mulf r c')⟩]
    concatenates_S128x128_S128x128_S128x256_d1

namespace FwdIn

variable (X : FwdIn F)

/-- A chunk's queries, turned. -/
def qr (a : Fin 8) : FVec F S128x256 .f32 := turn (chunk X.cos a) (chunk X.sin a) (chunk X.q a)

/-- A chunk's keys, turned and scaled. -/
def kr (a : Fin 8) : FVec F S128x256 .f32 :=
  mulf (turn (chunk X.cos a) (chunk X.sin a) (chunk X.k a)) (broadcast S128x256 (Scalar.ofBits .f32 0x3D800000#32))

/-- A chunk's queries as the products take them. -/
def qb (a : Fin 8) : FVec F S128x256 .bf16 := truncf .bf16 (X.qr a) bitsLt_bf16_f32
/-- A chunk's keys as the products take them. -/
def kb (a : Fin 8) : FVec F S128x256 .bf16 := truncf .bf16 (X.kr a) bitsLt_bf16_f32
/-- A chunk's values as the products take them. -/
def vb (a : Fin 8) : FVec F S128x512 .bf16 := truncf .bf16 (shapeCast S128x512 (chunk X.v a) shapeCasts_S128x512_S128x512) bitsLt_bf16_f32

/-- A chunk's keys, each decayed to the chunk's end. -/
def kz (a : Fin 8) : FVec F S128x256 .bf16 :=
  truncf .bf16 (mulf (X.kr a) (broadcastTo S128x256 (shapeCast S128x1 X.zeta shapeCasts_S1x128x1_S128x1)
    broadcasts_S128x1_S128x256)) bitsLt_bf16_f32

/-- The state after a chunk from the state before it. -/
def next (a : Fin 8) (st : Vec F S256x512 .f32) : FVec F S256x512 .f32 :=
  shapeCast S256x512
    (addf (mulf st (broadcastTo S256x512 (shapeCast S1x1 (View.ld X.gc
        (Rect.unit ![0, 0, 0] S1x1x1.size inb_S1x1x128_S1x1x1_0_0_0)) shapeCasts_S1x1x1_S1x1) broadcasts_S1x1_S256x512))
      (matmul dot_S128x256_S128x512_S256x512_0_0_1_1_n_n none (X.kz a) (X.vb a) (constant S256x512 .f32 0x00000000#32)))
    shapeCasts_S256x512_S256x512

/-- The state before chunk `n`, from the state at the point's start. -/
def state (s : Vec F S256x512 .f32) : ℕ → Vec F S256x512 .f32
  | 0 => s
  | n + 1 => if h : n < 8 then X.next ⟨n, h⟩ (state s n) else state s n

/-- A chunk's scores, decayed by the rows' distance. -/
def scores (a : Fin 8) : FVec F S128x128 .bf16 :=
  truncf .bf16 (mulf (matmul dot_S128x256_S128x256_S128x128_1_1_0_0_n_n none (X.qb a) (X.kb a) (constant S128x128 .f32 0x00000000#32))
    (shapeCast S128x128 X.mask
      shapeCasts_S1x128x128_S128x128)) bitsLt_bf16_f32

/-- A chunk's retention output, given the state before it. -/
def out (a : Fin 8) (st : Vec F S256x512 .f32) : FVec F S128x512 .f32 :=
  addf (matmul dot_S128x128_S128x512_S128x512_1_0_0_1_n_n none (X.scores a) (X.vb a) (constant S128x512 .f32 0x00000000#32))
    (mulf (matmul dot_S128x256_S256x512_S128x512_1_0_0_1_n_n none (X.qb a) (truncf .bf16 st bitsLt_bf16_f32) (constant S128x512 .f32 0x00000000#32))
      (broadcastTo S128x512 (shapeCast S128x1 X.xi
        shapeCasts_S1x128x1_S128x1) broadcasts_S128x1_S128x512))

end FwdIn

/-- The mean of each row of 512. -/
def rowMean (x : FVec F S128x512 .f32) : FVec F S128x1 .f32 :=
  divf (shapeCast S128x1 (multiReduction .add [1] S128 x 0x00000000#32 reduces_S128x512_S128 (.inl rfl) rfl) shapeCasts_S128_S128x1)
    (broadcast S128x1 (Scalar.ofBits .f32 0x44000000#32))

/-- Each row less its mean. -/
def centred (x : FVec F S128x512 .f32) : FVec F S128x512 .f32 := subf x (broadcastTo S128x512 (rowMean x) broadcasts_S128x1_S128x512)

/-- The reciprocal spread of rows that have mean zero. -/
def rstd (x : FVec F S128x512 .f32) : FVec F S128x1 .f32 :=
  rsqrt (addf (rowMean (mulf x x)) (broadcast S128x1 (Scalar.ofBits .f32 0x3727C5AC#32)))

/-- The normalised rows under their gate. -/
def gated (o : FVec F S128x512 .f32) (z : Vec F S128x512 .f32) : FVec F S128x512 .bf16 :=
  let z' := shapeCast S128x512 z shapeCasts_S128x512_S128x512
  truncf .bf16 (mulf (mulf (centred o) (broadcastTo S128x512 (rstd (centred o)) broadcasts_S128x1_S128x512)) (mulf z' (logistic z')))
    bitsLt_bf16_f32

/-- The state at a point's start: zero at the first point of a head, else the carried one. -/
def start (first : Bool) (s : Vec F S256x512 .f32) : Vec F S256x512 .f32 := if first then k0_pay2 else s

/-- The chunks in the order of their stores, the last first. -/
abbrev chunks : List (Fin 8) := [7, 6, 5, 4, 3, 2, 1, 0]

/-- Every chunk is among them. -/
theorem mem_chunks : ∀ a : Fin 8, a ∈ chunks := by decide

/-- Chunks stored each in its place read back each from its place. -/
theorem canon_chunks {w : ℕ} {e : EltTy} (f : Fin 8 → Vec F ⟨2, ![128, w]⟩ e) (a : Fin 8) (r : Fin 128) (j : Fin w) :
    View.canon (chunks.map fun a => (⟨chunkRect w a, f a⟩ : View.Piece (Elt F) ⟨2, ![1024, w]⟩ e)) (ix2 (chunkRow a r) j) = f a (ix2 r j) := by
  have he : (chunkRect w a).emb (ix2 r j) = ix2 (chunkRow a r) j := by
    refine funext fun d => Fin.ext ?_
    match d with
    | 0 => show a.val * 128 + 1 * r.val = a.val * 128 + r.val; omega
    | 1 => show 0 + 1 * j.val = j.val; omega
  refine View.canon_eq_of_allAt _ _ _ ⟨_, List.mem_map_of_mem (mem_chunks a), he ▸ (chunkRect w a).idx_mem _⟩ fun p hp x hx => ?_
  obtain ⟨b, -, rfl⟩ := List.mem_map.1 hp
  have h0 : b.val * 128 + 1 * (x 0).val = a.val * 128 + r.val := congrArg (fun i => (i 0).val) hx
  have h1 : 0 + 1 * (x 1).val = j.val := congrArg (fun i => (i 1).val) hx
  have hx0 : (x 0).val < 128 := (x 0).isLt
  obtain rfl : b = a := Fin.ext (by omega)
  refine congrArg (f b) (funext fun d => Fin.ext ?_)
  match d with
  | 0 => show (x 0).val = r.val; omega
  | 1 => show (x 1).val = j.val; omega

/-- The eight chunks' states within the block of saved states. -/
abbrev stateRect (a : Fin 8) : Rect S1x8x256x512 :=
  Rect.unit (s := S1x8x256x512) ![0, a.val, 0, 0] S1x1x256x512.size (by
    intro d; match d with
    | 0 => exact Nat.le.refl
    | 1 => show a.val + 1 ≤ 8; omega
    | 2 => exact Nat.le.refl
    | 3 => exact Nat.le.refl)

/-- States stored each in its place read back each from its place. -/
theorem canon_states {e : EltTy} (f : Fin 8 → Vec F S1x1x256x512 e) (a : Fin 8) (i : Fin 256) (j : Fin 512) :
    View.canon (chunks.map fun a => (⟨stateRect a, f a⟩ : View.Piece (Elt F) S1x8x256x512 e)) (ix4 0 a i j) = f a (ix4 0 0 i j) := by
  have he : (stateRect a).emb (ix4 0 0 i j) = ix4 0 a i j := by
    refine funext fun d => Fin.ext ?_
    match d with
    | 0 => rfl
    | 1 => show a.val + 1 * 0 = a.val; omega
    | 2 => show 0 + 1 * i.val = i.val; omega
    | 3 => show 0 + 1 * j.val = j.val; omega
  refine View.canon_eq_of_allAt _ _ _ ⟨_, List.mem_map_of_mem (mem_chunks a), he ▸ (stateRect a).idx_mem _⟩ fun p hp x hx => ?_
  obtain ⟨b, -, rfl⟩ := List.mem_map.1 hp
  have h0 : (x 0).val < 1 := (x 0).isLt
  have h1 : (x 1).val < 1 := (x 1).isLt
  have h2 : b.val + 1 * (x 1).val = a.val := congrArg (fun i => (i 1).val) hx
  have h3 : 0 + 1 * (x 2).val = i.val := congrArg (fun i => (i 2).val) hx
  have h4 : 0 + 1 * (x 3).val = j.val := congrArg (fun i => (i 3).val) hx
  obtain rfl : b = a := Fin.ext (by omega)
  refine congrArg (f b) (funext fun d => Fin.ext ?_)
  match d with
  | 0 => show (x 0).val = 0; omega
  | 1 => show (x 1).val = 0; omega
  | 2 => show (x 2).val = i.val; omega
  | 3 => show (x 3).val = j.val; omega

/-- A chunk's rows and 256 of the saved rows' columns: the queries, the keys or the decayed keys. -/
abbrev rotRect (a : Fin 8) (b : Fin 3) : Rect S1024x768 :=
  Rect.unit (s := S1024x768) ![a.val * 128, b.val * 256] S128x256.size
    (Fin.forall_fin_two.2 ⟨show a.val * 128 + 128 ≤ 1024 by omega, show b.val * 256 + 256 ≤ 768 by omega⟩)

/-- The saved pieces stored each in its place read back each from its place. -/
theorem canon_rot (f : Fin 8 → Fin 3 → Vec F S128x256 .bf16) (a : Fin 8) (b : Fin 3) (r : Fin 128) (d : Fin 256) :
    View.canon (chunks.flatMap fun a => [2, 1, 0].map fun b => (⟨rotRect a b, f a b⟩ : View.Piece (Elt F) S1024x768 .bf16))
      (ix2 (chunkRow a r) ⟨b.val * 256 + d.val, by omega⟩) = f a b (ix2 r d) := by
  have he : (rotRect a b).emb (ix2 r d) = ix2 (chunkRow a r) ⟨b.val * 256 + d.val, by omega⟩ := by
    refine funext fun c => Fin.ext ?_
    match c with
    | 0 => show a.val * 128 + 1 * r.val = a.val * 128 + r.val; omega
    | 1 => show b.val * 256 + 1 * d.val = b.val * 256 + d.val; omega
  refine View.canon_eq_of_allAt _ _ _ ⟨_, List.mem_flatMap.2 ⟨a, mem_chunks a, List.mem_map_of_mem
    ((by decide : ∀ b : Fin 3, b ∈ [2, 1, 0]) b)⟩, he ▸ (rotRect a b).idx_mem _⟩ fun p hp x hx => ?_
  obtain ⟨a', -, hp'⟩ := List.mem_flatMap.1 hp
  obtain ⟨b', -, rfl⟩ := List.mem_map.1 hp'
  have h0 : a'.val * 128 + 1 * (x 0).val = a.val * 128 + r.val := congrArg (fun i => (i 0).val) hx
  have h1 : b'.val * 256 + 1 * (x 1).val = b.val * 256 + d.val := congrArg (fun i => (i 1).val) hx
  have hx0 : (x 0).val < 128 := (x 0).isLt
  have hx1 : (x 1).val < 256 := (x 1).isLt
  obtain rfl : a' = a := Fin.ext (by omega)
  obtain rfl : b' = b := Fin.ext (by omega)
  refine congrArg (f a' b') (funext fun c => Fin.ext ?_)
  match c with
  | 0 => show (x 0).val = r.val; omega
  | 1 => show (x 1).val = d.val; omega

variable (c : Dev nD) (i : grid0.Coords) (B : FwdRefs) (X : FwdIn F) (s : Vec F S256x512 .f32) (first : Bool) (hb : fwdFirst i ↔ first = true)

/-- A point leaves the state after its eight chunks. -/
theorem fwd_acc : View.canon (fwdRun c i B X s first hb).1.acc = X.state (start first s) 8 := by
  cases first <;>
  · unfold fwdRun
    dsimp only
    sl_unfold_words
    simp (disch := decide) only [View.canon_cons_unit_lit', View.ld_unit_lit', View.readCov_cons_unit_lit', View.readAt_eq_ld,
        Memref.IsWhole.read_unread, View.readCov_cons_toLoadRect]
    rfl

/-- It stores each chunk's gated rows, -/
theorem fwd_pa : (fwdRun c i B X s first hb).1.pa
    = chunks.map fun a => ⟨chunkRect 512 a, gated (X.out a (X.state (start first s) a)) (chunk X.z a)⟩ := by
  cases first <;>
  · unfold fwdRun
    dsimp only
    sl_unfold_words
    simp (disch := decide) only [View.ld_unit_lit', View.readCov_cons_unit_lit', View.readAt_eq_ld,
        Memref.IsWhole.read_unread, View.readCov_cons_toLoadRect]
    rfl

/-- the rows before the norm, -/
theorem fwd_o : (fwdRun c i B X s first hb).1.o = chunks.map fun a => ⟨chunkRect 512 a, X.out a (X.state (start first s) a)⟩ := by
  cases first <;>
  · unfold fwdRun
    dsimp only
    sl_unfold_words
    simp (disch := decide) only [View.ld_unit_lit', View.readCov_cons_unit_lit', View.readAt_eq_ld,
        Memref.IsWhole.read_unread, View.readCov_cons_toLoadRect]
    rfl

/-- the state before it, -/
theorem fwd_st : (fwdRun c i B X s first hb).1.st = chunks.map fun a => ⟨stateRect a,
    shapeCast S1x1x256x512 (truncf .bf16 (X.state (start first s) a) bitsLt_bf16_f32) shapeCasts_S256x512_S1x1x256x512⟩ := by
  cases first <;>
  · unfold fwdRun
    dsimp only
    sl_unfold_words
    simp (disch := decide) only [View.ld_unit_lit', View.readCov_cons_unit_lit', View.readAt_eq_ld,
        Memref.IsWhole.read_unread, View.readCov_cons_toLoadRect]
    rfl

/-- and its queries, keys and decayed keys. -/
theorem fwd_rot : (fwdRun c i B X s first hb).1.rot
    = chunks.flatMap fun a => [2, 1, 0].map fun b => ⟨rotRect a b, ![X.qb a, X.kb a, X.kz a] b⟩ := by
  cases first <;>
  · unfold fwdRun
    dsimp only
    sl_unfold_words
    simp (disch := decide) only [View.ld_unit_lit', View.readCov_cons_unit_lit', View.readAt_eq_ld,
        Memref.IsWhole.read_unread, View.readCov_cons_toLoadRect]
    rfl

end Cert.Proof.Ret
end
end
-- ==== Proof.RetBwdRun.lean ====
/- One grid point of the backward retention call: what its stores leave in the gradients' block and in the gradient of
   the state that it carries from point to point. -/
module

public import proofs.«01_k».proof.Proof.Gen.RetIdeal.Skeleton
public import proofs.«01_k».proof.Proof.Gen.RetIdeal.Points
public import proofs.«01_k».proof.Proof.Gen.RetIdeal.Regions
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Proof.Ret

open Cert.RetIdeal Cert.RetIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The buffers that one point of the backward call works on: its twelve arguments' blocks, the gradients' block, and
    the carried gradient of the state. -/
structure BwdRefs where
  dp : Memref sig .tc .vmem S1024x512 .f32
  o : Memref sig .tc .vmem S1024x512 .f32
  rot : Memref sig .tc .vmem S1024x768 .bf16
  v : Memref sig .tc .vmem S1024x512 .f32
  z : Memref sig .tc .vmem S1024x512 .f32
  st : Memref sig .tc .vmem S1x8x256x512 .bf16
  cos : Memref sig .tc .vmem S1024x128 .f32
  sin : Memref sig .tc .vmem S1024x128 .f32
  mask : Memref sig .tc .vmem S1x128x128 .f32
  xi : Memref sig .tc .vmem S1x128x1 .f32
  zeta : Memref sig .tc .vmem S1x128x1 .f32
  gc : Memref sig .tc .vmem S1x1x128 .f32
  out : Memref sig .tc .vmem S1024x1536 .bf16
  acc : Memref sig .tc .vmem S256x512 .f32
  hdp : dp.IsWhole
  ho : o.IsWhole
  hrot : rot.IsWhole
  hv : v.IsWhole
  hz : z.IsWhole
  hst : st.IsWhole
  hcos : cos.IsWhole
  hsin : sin.IsWhole
  hmask : mask.IsWhole
  hxi : xi.IsWhole
  hzeta : zeta.IsWhole
  hgc : gc.IsWhole
  hout : out.IsWhole
  hacc : acc.IsWhole

/-- The contents of the twelve arguments' blocks at a point of the backward call. -/
structure BwdIn (F : FTy → Type) where
  dp : Vec F S1024x512 .f32
  o : Vec F S1024x512 .f32
  rot : Vec F S1024x768 .bf16
  v : Vec F S1024x512 .f32
  z : Vec F S1024x512 .f32
  st : Vec F S1x8x256x512 .bf16
  cos : Vec F S1024x128 .f32
  sin : Vec F S1024x128 .f32
  mask : Vec F S1x128x128 .f32
  xi : Vec F S1x128x1 .f32
  zeta : Vec F S1x128x1 .f32
  gc : Vec F S1x1x128 .f32

/-- A point's backward body on the buffers `B`. -/
abbrev bwdBody (i : grid1.Coords) (B : BwdRefs) : Prog (TpuEff nD τ sig (Elt F) Λ₀ .tc) PUnit :=
  cc1_retention_bwd i B.dp B.hdp B.o B.ho B.rot B.hrot B.v B.hv B.z B.hz B.st B.hst B.cos B.hcos B.sin B.hsin
    B.mask B.hmask B.xi B.hxi B.zeta B.hzeta B.gc B.hgc B.out B.hout B.acc B.hacc

/-- The first point of a head, where the carried gradient is set to zero. -/
abbrev bwdFirst (i : grid1.Coords) : Prop :=
  (Scalar.cmpi .ne (Scalar.extui (Scalar.cmpi .eq (BitVec.ofNat 32 (i 1).val) 0#32)) 0#32) = 1#1

/-- The arguments' blocks held at their contents. -/
def bwdIns (c : Dev nD) (B : BwdRefs) (X : BwdIn F) : sProp 𝕄 :=
  iprop(owns (c : Thread nD τ) B.dp fullShare X.dp
    ∗ owns (c : Thread nD τ) B.o fullShare X.o
    ∗ owns (c : Thread nD τ) B.rot fullShare X.rot
    ∗ owns (c : Thread nD τ) B.v fullShare X.v
    ∗ owns (c : Thread nD τ) B.z fullShare X.z
    ∗ owns (c : Thread nD τ) B.st fullShare X.st
    ∗ owns (c : Thread nD τ) B.cos fullShare X.cos
    ∗ owns (c : Thread nD τ) B.sin fullShare X.sin
    ∗ owns (c : Thread nD τ) B.mask fullShare X.mask
    ∗ owns (c : Thread nD τ) B.xi fullShare X.xi
    ∗ owns (c : Thread nD τ) B.zeta fullShare X.zeta
    ∗ owns (c : Thread nD τ) B.gc fullShare X.gc)

/-- The pieces that a point's stores leave: in the gradients' block and in the carried gradient, the last store first. -/
structure BwdPieces (F : FTy → Type) where
  out : List (View.Piece (Elt F) S1024x1536 .bf16)
  acc : List (View.Piece (Elt F) S256x512 .f32)

set_option maxHeartbeats 4000000 in
/-- The backward body runs at any point, and what it stores are pieces that depend on the arguments' blocks and the
    carried gradient only. -/
def bwdRun (c : Dev nD) (i : grid1.Coords) (B : BwdRefs) (X : BwdIn F) (s : Vec F S256x512 .f32) (first : Bool) (hb : bwdFirst i ↔ first = true) :
    { P : BwdPieces F // ∀ (E : Set ℕ) (K : PUnit → sProp 𝕄),
      iprop(bwdIns c B X ∗ (∃ d, owns (c : Thread nD τ) B.out fullShare d) ∗ owns (c : Thread nD τ) B.acc fullShare s
          ∗ (iprop(bwdIns c B X ∗ (∃ f, B.out.view.loc (c : Thread nD τ) ↦[B.out.view.set]{fullShare} B.out.view.writes (Elt F) f P.out)
              ∗ (∃ f, B.acc.view.loc (c : Thread nD τ) ↦[B.acc.view.set]{fullShare} B.acc.view.writes (Elt F) f P.acc)) -∗ K ⟨⟩))
        ⊢ wp frame (wpE (defs₀ (F := F)) Variants.none c none) E (bwdBody i B) K } := by
  cases first
  all_goals
    first
    | have hc0 : bwdFirst i := hb.mpr rfl
    | have hc0 : ¬bwdFirst i := fun h => Bool.noConfusion (hb.mp h)
    refine ⟨⟨?_, ?_⟩, fun E K => ?run⟩
    case run =>
      dsimp only
      unfold bwdBody
      simp only [cc1_retention_bwd_eq_skeleton]; unfold cc1_retention_bwd_skel
      simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton]
      unfold bwdIns owns
      iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩⟩, ⟨%d12, %f12, -, H12⟩, ⟨%fs0, %hfs0, HS0⟩, Hk⟩
      obtain rfl := B.hdp.eq_unread hf0; obtain rfl := B.ho.eq_unread hf1; obtain rfl := B.hrot.eq_unread hf2; obtain rfl := B.hv.eq_unread hf3; obtain rfl := B.hz.eq_unread hf4; obtain rfl := B.hst.eq_unread hf5; obtain rfl := B.hcos.eq_unread hf6; obtain rfl := B.hsin.eq_unread hf7; obtain rfl := B.hmask.eq_unread hf8; obtain rfl := B.hxi.eq_unread hf9; obtain rfl := B.hzeta.eq_unread hf10; obtain rfl := B.hgc.eq_unread hf11; obtain rfl := B.hacc.eq_unread hfs0
      sl_exec (disch := first | sl_exact hc0)
      sl_step
      iapply Hk
      isplitl [H0 H1 H2 H3 H4 H5 H6 H7 H8 H9 H10 H11]
      · isplitl [H0]
        · iexists _; isplitr; · ipureintro; exact B.hdp.read_unread _
          iexact H0
        isplitl [H1]
        · iexists _; isplitr; · ipureintro; exact B.ho.read_unread _
          iexact H1
        isplitl [H2]
        · iexists _; isplitr; · ipureintro; exact B.hrot.read_unread _
          iexact H2
        isplitl [H3]
        · iexists _; isplitr; · ipureintro; exact B.hv.read_unread _
          iexact H3
        isplitl [H4]
        · iexists _; isplitr; · ipureintro; exact B.hz.read_unread _
          iexact H4
        isplitl [H5]
        · iexists _; isplitr; · ipureintro; exact B.hst.read_unread _
          iexact H5
        isplitl [H6]
        · iexists _; isplitr; · ipureintro; exact B.hcos.read_unread _
          iexact H6
        isplitl [H7]
        · iexists _; isplitr; · ipureintro; exact B.hsin.read_unread _
          iexact H7
        isplitl [H8]
        · iexists _; isplitr; · ipureintro; exact B.hmask.read_unread _
          iexact H8
        isplitl [H9]
        · iexists _; isplitr; · ipureintro; exact B.hxi.read_unread _
          iexact H9
        isplitl [H10]
        · iexists _; isplitr; · ipureintro; exact B.hzeta.read_unread _
          iexact H10
        iexists _; isplitr; · ipureintro; exact B.hgc.read_unread _
        iexact H11
      isplitl [H12]; · iexists _; iexact H12
      iexists _; iexact HS0

end Cert.Proof.Ret

end

end
-- ==== Proof.RetBwdPoint.lean ====
/- The backward retention call point by point: what its buffers and the carried gradient of the state hold, over any
   contents of the arrays that it is entered with. -/
module

public import proofs.«01_k».proof.Proof.RetBwdRun

@[expose] public section

set_option maxRecDepth 16384

noncomputable section

namespace Cert.Proof.Ret

open Cert.RetIdeal Cert.RetIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat HostSeg RegionSeg)

variable {F : FTy → Type} [FloatOps F]

local notation "𝕄" => MT nD τ sig Unit (Elt F) ℕ (UR sig nD τ) ℕ

/-- A point of the backward call is the first one of its head exactly when its number is a multiple of eight. -/
theorem bwdFirst_iff : ∀ t : Fin cfg1.N, bwdFirst (grid1.coords t) ↔ decide (t.val % 8 = 0) = true :=
  (fun t => by
    have ht : t.val < 32 := Nat.lt_of_lt_of_eq t.isLt N_1
    have e1 : (grid1.coords t 1).val = t.val / 1 % 8 := Pipeline.Grid.coords_val t 1 (by decide) rfl
    rw [decide_eq_true_iff]
    simp only [bwdFirst, e1]
    word_cmp
   : ∀ t : Fin grid1.N, bwdFirst (grid1.coords t) ↔ decide (t.val % 8 = 0) = true)

/-- The buffers of point `t`. -/
def bwdRefs (t : Fin cfg1.N) : BwdRefs where
  dp := st1_0 t
  o := st1_1 t
  rot := st1_2 t
  v := st1_3 t
  z := st1_4 t
  st := st1_5 t
  cos := st1_6 t
  sin := st1_7 t
  mask := st1_8 t
  xi := st1_9 t
  zeta := st1_10 t
  gc := st1_11 t
  out := st1_12 t
  acc := Memref.whole cc1_scratch0
  hdp := hstage1_0 ((cfg1.slots t 0).cast nbuf1_0)
  ho := hstage1_1 ((cfg1.slots t 1).cast nbuf1_1)
  hrot := hstage1_2 ((cfg1.slots t 2).cast nbuf1_2)
  hv := hstage1_3 ((cfg1.slots t 3).cast nbuf1_3)
  hz := hstage1_4 ((cfg1.slots t 4).cast nbuf1_4)
  hst := hstage1_5 ((cfg1.slots t 5).cast nbuf1_5)
  hcos := hstage1_6 ((cfg1.slots t 6).cast nbuf1_6)
  hsin := hstage1_7 ((cfg1.slots t 7).cast nbuf1_7)
  hmask := hstage1_8 ((cfg1.slots t 8).cast nbuf1_8)
  hxi := hstage1_9 ((cfg1.slots t 9).cast nbuf1_9)
  hzeta := hstage1_10 ((cfg1.slots t 10).cast nbuf1_10)
  hgc := hstage1_11 ((cfg1.slots t 11).cast nbuf1_11)
  hout := hstage1_12 ((cfg1.slots t 12).cast nbuf1_12)
  hacc := Memref.isWhole_whole _

variable (V : (c : Dev nD) → Valuation τ sig (Elt F))

/-- The block of window `w` at point `t`, read off the contents that the region is entered with. -/
def bwdBlk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The arguments' blocks at point `t`. -/
def bwdX (c : Dev nD) (t : Fin cfg1.N) : BwdIn F where
  dp := bwdBlk V c 0 t
  o := bwdBlk V c 1 t
  rot := bwdBlk V c 2 t
  v := bwdBlk V c 3 t
  z := bwdBlk V c 4 t
  st := bwdBlk V c 5 t
  cos := bwdBlk V c 6 t
  sin := bwdBlk V c 7 t
  mask := bwdBlk V c 8 t
  xi := bwdBlk V c 9 t
  zeta := bwdBlk V c 10 t
  gc := bwdBlk V c 11 t

/-- The pieces that point `t` stores when the carried gradient of the state is `s` before it. -/
def bwdAt (c : Dev nD) (t : Fin cfg1.N) (s : Vec F S256x512 .f32) : BwdPieces F :=
  (bwdRun c (grid1.coords t) (bwdRefs t) (bwdX V c t) s (decide (t.val % 8 = 0)) (bwdFirst_iff t)).1

/-- At the first point of a head the pieces do not depend on what was carried. -/
theorem bwdRun_first (c : Dev nD) (i : grid1.Coords) (B : BwdRefs) (X : BwdIn F) (s s' : Vec F S256x512 .f32) (first : Bool)
    (hb : bwdFirst i ↔ first = true) (hf : first = true) : (bwdRun c i B X s first hb).1 = (bwdRun c i B X s' first hb).1 := by
  subst hf; rfl

/-- Before point `n`: the carried gradient of the state. Nothing is carried into the first point of a head. -/
def bwdAcc (c : Dev nD) : ℕ → Vec F S256x512 .f32
  | 0 => View.canon []
  | n + 1 => if h : n < cfg1.N then View.canon (bwdAt V c ⟨n, h⟩ (bwdAcc c n)).acc else bwdAcc c n

/-- The pieces that point `t` stores, the carried gradient of the state being what the points before it left. -/
def bwdPt (c : Dev nD) (t : Fin cfg1.N) : BwdPieces F := bwdAt V c t (bwdAcc V c t.val)

/-- The carried gradient of the state after point `t`. -/
theorem bwdAcc_succ (c : Dev nD) (t : Fin cfg1.N) :
    bwdAcc V c (t.val + 1) = View.canon (bwdPt V c t).acc := by
  rw [bwdAcc, dif_pos t.isLt]; rfl

/-- A point's stores cover the buffer `out`. -/
theorem bwdCover_out (c : Dev nD) (i : grid1.Coords) (B : BwdRefs) (X : BwdIn F) (s : Vec F S256x512 .f32) (first : Bool)
    (hb : bwdFirst i ↔ first = true) : ∀ y, ∃ p ∈ (bwdRun c i B X s first hb).1.out, y ∈ p.1.set := by
  cases first
  · exact View.cover_of_tiledBy _ ![128, 256] (by sl_kernel_rfl)
  · exact View.cover_of_tiledBy _ ![128, 256] (by sl_kernel_rfl)

/-- A point's stores cover the buffer `acc`. -/
theorem bwdCover_acc (c : Dev nD) (i : grid1.Coords) (B : BwdRefs) (X : BwdIn F) (s : Vec F S256x512 .f32) (first : Bool)
    (hb : bwdFirst i ↔ first = true) : ∀ y, ∃ p ∈ (bwdRun c i B X s first hb).1.acc, y ∈ p.1.set := by
  cases first
  · exact View.cover_of_tiledL _ S256x512.size (by sl_kernel_rfl)
  · exact View.cover_of_tiledL _ S256x512.size (by sl_kernel_rfl)

end Cert.Proof.Ret

end

end
-- ==== Proof.RetBwdChunk.lean ====
/- What a point of the backward retention call stores, chunk by chunk: its eight chunks of 128 rows from the last to the
   first, each worked on with the state's gradient as the chunk after it left it. -/
module

public import proofs.«01_k».proof.Proof.RetFwdChunk
public import proofs.«01_k».proof.Proof.RetBwdPoint

@[expose] public section

set_option maxRecDepth 16384

noncomputable section

namespace Cert.Proof.Ret

open Cert.RetIdeal Cert.RetIdeal.Gen
open Idealize.ShloMosaic Idealize.ShloMosaic.TcCoe Idealize.ShloMosaic.Tactic

variable {F : FTy → Type} [FloatOps F]

/-- The gradient of turned rows taken back through the turn. -/
def turnBack (c s : Vec F S128x128 .f32) (x : Vec F S128x256 .f32) : FVec F S128x256 .f32 :=
  let c' := shapeCast S128x128 c shapeCasts_S128x128_S128x128
  let s' := shapeCast S128x128 s shapeCasts_S128x128_S128x128
  let l := extractStridedSlice S128x128 ![0, 0] x slices_S128x256_o0_0_S128x128
  let r := extractStridedSlice S128x128 ![0, 128] x slices_S128x256_o0_128_S128x128
  concatenate S128x256 1 [⟨S128x128, addf (mulf l c') (mulf r s')⟩, ⟨S128x128, subf (mulf r c') (mulf l s')⟩]
    concatenates_S128x128_S128x128_S128x256_d1

/-- The gradient of rows before the norm, from the normalised rows' gradient `g`, the normalised rows `h` and the reciprocal
    spread `q`. -/
def normBack (q : FVec F S128x1 .f32) (h g : FVec F S128x512 .f32) : FVec F S128x512 .f32 :=
  mulf (broadcastTo S128x512 q broadcasts_S128x1_S128x512)
    (subf (subf g (broadcastTo S128x512 (rowMean g) broadcasts_S128x1_S128x512))
      (mulf h (broadcastTo S128x512 (rowMean (mulf g h)) broadcasts_S128x1_S128x512)))

namespace BwdIn

variable (X : BwdIn F)

/-- A chunk's rows before the norm, centred. -/
def oc (a : Fin 8) : FVec F S128x512 .f32 := centred (shapeCast S128x512 (chunk X.o a) shapeCasts_S128x512_S128x512)
/-- A chunk's normalised rows. -/
def rhat (a : Fin 8) : FVec F S128x512 .f32 := mulf (X.oc a) (broadcastTo S128x512 (rstd (X.oc a)) broadcasts_S128x1_S128x512)
/-- A chunk's gate before its nonlinearity. -/
def gate (a : Fin 8) : FVec F S128x512 .f32 := shapeCast S128x512 (chunk X.z a) shapeCasts_S128x512_S128x512
/-- A chunk's gradient of the gated rows. -/
def ct (a : Fin 8) : FVec F S128x512 .f32 := shapeCast S128x512 (chunk X.dp a) shapeCasts_S128x512_S128x512

/-- A chunk's gradient of the gate. -/
def dz (a : Fin 8) : FVec F S128x512 .bf16 :=
  truncf .bf16 (mulf (mulf (X.ct a) (X.rhat a)) (mulf (logistic (X.gate a))
    (addf (broadcast S128x512 (Scalar.ofBits .f32 0x3F800000#32))
      (mulf (X.gate a) (subf (broadcast S128x512 (Scalar.ofBits .f32 0x3F800000#32)) (logistic (X.gate a))))))) bitsLt_bf16_f32

/-- A chunk's gradient of the rows before the norm. -/
def dO (a : Fin 8) : FVec F S128x512 .f32 :=
  normBack (rstd (X.oc a)) (X.rhat a) (mulf (X.ct a) (mulf (X.gate a) (logistic (X.gate a))))

/-- A chunk's queries, keys and decayed keys as saved, -/
def saved (a : Fin 8) (b : Fin 3) : FVec F S128x256 .bf16 := shapeCast S128x256 (View.ld X.rot (rotRect a b)) shapeCasts_S128x256_S128x256
/-- its values, -/
def vb (a : Fin 8) : FVec F S128x512 .bf16 := truncf .bf16 (shapeCast S128x512 (chunk X.v a) shapeCasts_S128x512_S128x512) bitsLt_bf16_f32
/-- its decay mask, -/
def m : FVec F S128x128 .f32 := shapeCast S128x128 X.mask shapeCasts_S1x128x128_S128x128
/-- and the state before it as saved. -/
def stb (a : Fin 8) : FVec F S256x512 .bf16 := shapeCast S256x512 (View.ld X.st (stateRect a)) shapeCasts_S1x1x256x512_S256x512

/-- A chunk's scores, decayed by the rows' distance. -/
def scores (a : Fin 8) : FVec F S128x128 .bf16 :=
  truncf .bf16 (mulf (matmul dot_S128x256_S128x256_S128x128_1_1_0_0_n_n none (X.saved a 0) (X.saved a 1) (constant S128x128 .f32 0x00000000#32))
    X.m) bitsLt_bf16_f32
/-- A chunk's output gradient as the products take it, -/
def dob (a : Fin 8) : FVec F S128x512 .bf16 := truncf .bf16 (X.dO a) bitsLt_bf16_f32
/-- and decayed from the chunk's start. -/
def dox (a : Fin 8) : FVec F S128x512 .bf16 :=
  truncf .bf16 (mulf (X.dO a) (broadcastTo S128x512 (shapeCast S128x1 X.xi shapeCasts_S1x128x1_S128x1) broadcasts_S128x1_S128x512)) bitsLt_bf16_f32
/-- A chunk's gradient of the scores. -/
def dscores (a : Fin 8) : FVec F S128x128 .bf16 :=
  truncf .bf16 (mulf (matmul dot_S128x512_S128x512_S128x128_1_1_0_0_n_n none (X.dob a) (X.vb a) (constant S128x128 .f32 0x00000000#32))
    X.m) bitsLt_bf16_f32

/-- A chunk's gradient of the turned queries, -/
def dqr (a : Fin 8) : FVec F S128x256 .f32 :=
  addf (matmul dot_S128x128_S128x256_S128x256_1_0_0_1_n_n none (X.dscores a) (X.saved a 1) (constant S128x256 .f32 0x00000000#32))
    (matmul dot_S128x512_S256x512_S128x256_1_1_0_0_n_n none (X.dox a) (X.stb a) (constant S128x256 .f32 0x00000000#32))
/-- of the turned keys, -/
def dkr (a : Fin 8) (g : Vec F S256x512 .f32) : FVec F S128x256 .f32 :=
  addf (matmul dot_S128x128_S128x256_S128x256_0_0_1_1_n_n none (X.dscores a) (X.saved a 0) (constant S128x256 .f32 0x00000000#32))
    (mulf (matmul dot_S128x512_S256x512_S128x256_1_1_0_0_n_n none (X.vb a) (truncf .bf16 g bitsLt_bf16_f32) (constant S128x256 .f32 0x00000000#32))
      (broadcastTo S128x256 (shapeCast S128x1 X.zeta shapeCasts_S1x128x1_S128x1) broadcasts_S128x1_S128x256))
/-- of the values, -/
def dv (a : Fin 8) (g : Vec F S256x512 .f32) : FVec F S128x512 .f32 :=
  addf (matmul dot_S128x128_S128x512_S128x512_0_0_1_1_n_n none (X.scores a) (X.dob a) (constant S128x512 .f32 0x00000000#32))
    (matmul dot_S128x256_S256x512_S128x512_1_0_0_1_n_n none (X.saved a 2) (truncf .bf16 g bitsLt_bf16_f32) (constant S128x512 .f32 0x00000000#32))
/-- and of the state before it, from the gradient `g` of the state after it. -/
def next (a : Fin 8) (g : Vec F S256x512 .f32) : FVec F S256x512 .f32 :=
  shapeCast S256x512
    (addf (mulf g (broadcastTo S256x512 (shapeCast S1x1 (View.ld X.gc
        (Rect.unit ![0, 0, 0] S1x1x1.size inb_S1x1x128_S1x1x1_0_0_0)) shapeCasts_S1x1x1_S1x1) broadcasts_S1x1_S256x512))
      (matmul dot_S128x256_S128x512_S256x512_0_0_1_1_n_n none (X.saved a 0) (X.dox a) (constant S256x512 .f32 0x00000000#32)))
    shapeCasts_S256x512_S256x512

/-- The state's gradient after the point's last `n` chunks are done, from the one at the point's end. -/
def grad (s : Vec F S256x512 .f32) : ℕ → Vec F S256x512 .f32
  | 0 => s
  | n + 1 => if h : n < 8 then X.next ⟨7 - n, by omega⟩ (grad s n) else grad s n

/-- A chunk's gradient of the queries, -/
def dq (a : Fin 8) : FVec F S128x256 .bf16 := truncf .bf16 (turnBack (chunk X.cos a) (chunk X.sin a) (X.dqr a)) bitsLt_bf16_f32
/-- and of the keys. -/
def dk (a : Fin 8) (g : Vec F S256x512 .f32) : FVec F S128x256 .bf16 :=
  truncf .bf16 (mulf (turnBack (chunk X.cos a) (chunk X.sin a) (X.dkr a g)) (broadcast S128x256 (Scalar.ofBits .f32 0x3D800000#32)))
    bitsLt_bf16_f32

end BwdIn

/-- A chunk's rows and `w` of the gradients' columns from column `o`. -/
abbrev outRect (a : Fin 8) (o w : ℕ) (h : o + w ≤ 1536) : Rect S1024x1536 :=
  Rect.unit (s := S1024x1536) ![a.val * 128, o] (⟨2, ![128, w]⟩ : Shape).size
    (Fin.forall_fin_two.2 ⟨show a.val * 128 + 128 ≤ 1024 by omega, h⟩)

/-- A chunk's four stores. -/
def outPieces (dq dk : Vec F S128x256 .bf16) (dv dz : Vec F S128x512 .bf16) (a : Fin 8) : List (View.Piece (Elt F) S1024x1536 .bf16) :=
  [⟨outRect a 512 512 (by decide), dv⟩, ⟨outRect a 256 256 (by decide), dk⟩, ⟨outRect a 0 256 (by decide), dq⟩,
    ⟨outRect a 1024 512 (by decide), dz⟩]

/-- The chunks in the order of the backward stores, the last first. -/
abbrev chunksUp : List (Fin 8) := [0, 1, 2, 3, 4, 5, 6, 7]

/-- Every chunk is among them. -/
theorem mem_chunksUp : ∀ a : Fin 8, a ∈ chunksUp := by decide

/-- Where an index of a chunk's columns lies. -/
theorem outRect_emb {a b : Fin 8} {o w : ℕ} {h : o + w ≤ 1536} {r : Fin 128} {j : Fin 1536} (x : (outRect b o w h).shape.Idx)
    (hx : (outRect b o w h).emb x = ix2 (chunkRow a r) j) : b = a ∧ (x 0).val = r.val ∧ o + (x 1).val = j.val ∧ (x 1).val < w := by
  have h0 : b.val * 128 + 1 * (x 0).val = a.val * 128 + r.val := congrArg (fun i => (i 0).val) hx
  have h1 : o + 1 * (x 1).val = j.val := congrArg (fun i => (i 1).val) hx
  have hx0 : (x 0).val < 128 := (x 0).isLt
  exact ⟨Fin.ext (by omega), by omega, by omega, (x 1).isLt⟩

/-- An index of a chunk's columns lies among them. -/
theorem mem_outRect (a : Fin 8) (o w : ℕ) (h : o + w ≤ 1536) (r : Fin 128) (d : Fin w) :
    ix2 (chunkRow a r) ⟨o + d.val, by omega⟩ ∈ (outRect a o w h).set := by
  have he : (outRect a o w h).emb (ix2 r d) = ix2 (chunkRow a r) ⟨o + d.val, by omega⟩ := by
    refine funext fun c => Fin.ext ?_
    match c with
    | 0 => show a.val * 128 + 1 * r.val = a.val * 128 + r.val; omega
    | 1 => show o + 1 * d.val = o + d.val; omega
  exact he ▸ (outRect a o w h).idx_mem _

section

variable (dq dk : Fin 8 → Vec F S128x256 .bf16) (dv dz : Fin 8 → Vec F S128x512 .bf16)

/-- The gradients stored each in its place read back each from its place: whatever one reads of them is what the piece
    that holds the index was given. -/
theorem canon_out (a : Fin 8) (r : Fin 128) (j : Fin 1536) (v : F .bf16)
    (hm : ∃ p ∈ outPieces (dq a) (dk a) (dv a) (dz a) a, ix2 (chunkRow a r) j ∈ p.1.set)
    (hq : ∀ d : Fin 256, j.val = d.val → dq a (ix2 r d) = v)
    (hk : ∀ d : Fin 256, j.val = 256 + d.val → dk a (ix2 r d) = v)
    (hv : ∀ d : Fin 512, j.val = 512 + d.val → dv a (ix2 r d) = v)
    (hz : ∀ d : Fin 512, j.val = 1024 + d.val → dz a (ix2 r d) = v) :
    View.canon (chunksUp.flatMap fun a => outPieces (dq a) (dk a) (dv a) (dz a) a) (ix2 (chunkRow a r) j) = v := by
  obtain ⟨p, hp, hj⟩ := hm
  refine View.canon_eq_of_allAt _ _ _ ⟨p, List.mem_flatMap.2 ⟨a, mem_chunksUp a, hp⟩, hj⟩ fun p hp x hx => ?_
  obtain ⟨b, -, hp'⟩ := List.mem_flatMap.1 hp
  simp only [outPieces, List.mem_cons, List.not_mem_nil, or_false] at hp'
  rcases hp' with rfl | rfl | rfl | rfl <;> obtain ⟨rfl, h0, h1, h2⟩ := outRect_emb (h := by decide) x hx
  · refine Eq.trans (congrArg (dv b) (funext fun c => Fin.ext ?_)) (hv ⟨(x 1).val, h2⟩ (show j.val = 512 + (x 1).val by omega))
    match c with
    | 0 => exact h0
    | 1 => rfl
  · refine Eq.trans (congrArg (dk b) (funext fun c => Fin.ext ?_)) (hk ⟨(x 1).val, h2⟩ (show j.val = 256 + (x 1).val by omega))
    match c with
    | 0 => exact h0
    | 1 => rfl
  · refine Eq.trans (congrArg (dq b) (funext fun c => Fin.ext ?_)) (hq ⟨(x 1).val, h2⟩ (show j.val = (x 1).val by omega))
    match c with
    | 0 => exact h0
    | 1 => rfl
  · refine Eq.trans (congrArg (dz b) (funext fun c => Fin.ext ?_)) (hz ⟨(x 1).val, h2⟩ (show j.val = 1024 + (x 1).val by omega))
    match c with
    | 0 => exact h0
    | 1 => rfl

/-- The stored gradients of a chunk's queries, -/
theorem canon_out_q (a : Fin 8) (r : Fin 128) (d : Fin 256) :
    View.canon (chunksUp.flatMap fun a => outPieces (dq a) (dk a) (dv a) (dz a) a) (ix2 (chunkRow a r) ⟨0 + d.val, by omega⟩) = dq a (ix2 r d) := by
  refine canon_out dq dk dv dz a r _ _ ⟨_, List.mem_cons_of_mem _ (List.mem_cons_of_mem _ List.mem_cons_self), mem_outRect a 0 256 (by decide) r d⟩
    (fun e h => ?_) (fun e h => absurd h ?_) (fun e h => absurd h ?_) (fun e h => absurd h ?_)
  · rw [Fin.ext (h.symm.trans (Nat.zero_add _)) (a := e)]
  all_goals (show ¬ 0 + d.val = _; omega)

/-- of its keys, -/
theorem canon_out_k (a : Fin 8) (r : Fin 128) (d : Fin 256) :
    View.canon (chunksUp.flatMap fun a => outPieces (dq a) (dk a) (dv a) (dz a) a) (ix2 (chunkRow a r) ⟨256 + d.val, by omega⟩) = dk a (ix2 r d) := by
  refine canon_out dq dk dv dz a r _ _ ⟨_, List.mem_cons_of_mem _ List.mem_cons_self, mem_outRect a 256 256 (by decide) r d⟩
    (fun e h => absurd h ?_) (fun e h => ?_) (fun e h => absurd h ?_) (fun e h => absurd h ?_)
  rotate_left
  · rw [Fin.ext (Nat.add_left_cancel h).symm (a := e)]
  all_goals (show ¬ 256 + d.val = _; omega)

/-- of its values -/
theorem canon_out_v (a : Fin 8) (r : Fin 128) (d : Fin 512) :
    View.canon (chunksUp.flatMap fun a => outPieces (dq a) (dk a) (dv a) (dz a) a) (ix2 (chunkRow a r) ⟨512 + d.val, by omega⟩) = dv a (ix2 r d) := by
  refine canon_out dq dk dv dz a r _ _ ⟨_, List.mem_cons_self, mem_outRect a 512 512 (by decide) r d⟩
    (fun e h => absurd h ?_) (fun e h => absurd h ?_) (fun e h => ?_) (fun e h => absurd h ?_)
  rotate_left 2
  · rw [Fin.ext (Nat.add_left_cancel h).symm (a := e)]
  all_goals (show ¬ 512 + d.val = _; omega)

/-- and of its gate. -/
theorem canon_out_z (a : Fin 8) (r : Fin 128) (d : Fin 512) :
    View.canon (chunksUp.flatMap fun a => outPieces (dq a) (dk a) (dv a) (dz a) a) (ix2 (chunkRow a r) ⟨1024 + d.val, by omega⟩) = dz a (ix2 r d) := by
  refine canon_out dq dk dv dz a r _ _ ⟨_, List.mem_cons_of_mem _ (List.mem_cons_of_mem _ (List.mem_cons_of_mem _ List.mem_cons_self)),
    mem_outRect a 1024 512 (by decide) r d⟩ (fun e h => absurd h ?_) (fun e h => absurd h ?_) (fun e h => absurd h ?_) (fun e h => ?_)
  rotate_left 3
  · rw [Fin.ext (Nat.add_left_cancel h).symm (a := e)]
  all_goals (show ¬ 1024 + d.val = _; omega)

end

variable (c : Dev nD) (i : grid1.Coords) (B : BwdRefs) (X : BwdIn F) (s : Vec F S256x512 .f32) (first : Bool) (hb : bwdFirst i ↔ first = true)

/-- A point leaves the state's gradient after its eight chunks. -/
theorem bwd_acc : View.canon (bwdRun c i B X s first hb).1.acc = X.grad (start first s) 8 := by
  cases first <;>
  · unfold bwdRun
    dsimp only
    sl_unfold_words
    simp (disch := decide) only [View.canon_cons_unit_lit', View.ld_unit_lit', View.readCov_cons_unit_lit', View.readAt_eq_ld,
        Memref.IsWhole.read_unread, View.readCov_cons_toLoadRect]
    rfl

set_option maxHeartbeats 4000000 in
/-- It stores each chunk's four gradients. -/
theorem bwd_out : (bwdRun c i B X s first hb).1.out = chunksUp.flatMap fun a => outPieces (X.dq a) (X.dk a (X.grad (start first s) (7 - a.val)))
    (truncf .bf16 (X.dv a (X.grad (start first s) (7 - a.val))) bitsLt_bf16_f32) (X.dz a) a := by
  cases first <;>
  · unfold bwdRun
    dsimp only
    sl_unfold_words
    simp (disch := decide) only [View.ld_unit_lit', View.readCov_cons_unit_lit', View.readAt_eq_ld,
        Memref.IsWhole.read_unread, View.readCov_cons_toLoadRect]
    rfl

end Cert.Proof.Ret
end
end
-- ==== Proof.RetSpec.lean ====
/- The retention layer's mathematics on extended real numbers: the turned queries and keys, the recurrence over chunks of 128
   rows, the norm under its gate, and the gradients chunk by chunk. -/
module

public import Idealize.ShloMosaic.Lib.Pointwise
public import Idealize.ShloMosaic.Lib.ValueIdx

@[expose] public section

noncomputable section

namespace Cert.Proof.RetSpec

open Idealize.ShloMosaic

/-- A row turned by the rotary angles' cosines `c` and sines `s`. -/
def turn (c s : Fin 128 → EReal) (x : Fin 256 → EReal) (d : Fin 256) : EReal :=
  if h : d.val < 128 then x ⟨d.val, d.isLt⟩ * c ⟨d.val, h⟩ - x ⟨128 + d.val, by omega⟩ * s ⟨d.val, h⟩
  else x ⟨d.val - 128, by omega⟩ * s ⟨d.val - 128, by omega⟩ + x ⟨128 + (d.val - 128), by omega⟩ * c ⟨d.val - 128, by omega⟩

/-- A turned row's gradient taken back. -/
def turnBack (c s : Fin 128 → EReal) (x : Fin 256 → EReal) (d : Fin 256) : EReal :=
  if h : d.val < 128 then x ⟨d.val, d.isLt⟩ * c ⟨d.val, h⟩ + x ⟨128 + d.val, by omega⟩ * s ⟨d.val, h⟩
  else x ⟨128 + (d.val - 128), by omega⟩ * c ⟨d.val - 128, by omega⟩ - x ⟨d.val - 128, by omega⟩ * s ⟨d.val - 128, by omega⟩

/-- The keys' scale, the reciprocal root of their width. -/
abbrev sixteenth : EReal := Ideal.ofBits .f32 1031798784#32
/-- The width of a head's values. -/
abbrev width : EReal := Ideal.ofBits .f32 1140850688#32
/-- The norm's constant. -/
abbrev eps : EReal := Ideal.ofBits .f32 925353388#32

/-- The constant one. -/
theorem one_eq : Ideal.ofBits .f32 1065353216#32 = (1 : EReal) := by
  simp [Ideal.ofBits, Ideal.ieee]; rw [← EReal.coe_mul]; norm_num

/-- One head's chunks: queries and keys turned and scaled, values, and the decays within a chunk, from its start, to its end
    and over it. -/
structure Head where
  q : ℕ → Fin 128 → Fin 256 → EReal
  k : ℕ → Fin 128 → Fin 256 → EReal
  v : ℕ → Fin 128 → Fin 512 → EReal
  mask : Fin 128 → Fin 128 → EReal
  xi : Fin 128 → EReal
  zeta : Fin 128 → EReal
  gc : EReal

namespace Head

variable (H : Head)

/-- The scores of chunk `n`. -/
def scores (n : ℕ) (r s : Fin 128) : EReal := (∑ d, H.q n r d * H.k n s d) * H.mask r s
/-- The keys decayed to the chunk's end. -/
def kz (n : ℕ) (r : Fin 128) (i : Fin 256) : EReal := H.k n r i * H.zeta r
/-- The state before chunk `n`. -/
def st : ℕ → Fin 256 → Fin 512 → EReal
  | 0, _, _ => 0
  | n + 1, i, j => st n i j * H.gc + ∑ r, H.kz n r i * H.v n r j
/-- The output of chunk `n`. -/
def out (n : ℕ) (r : Fin 128) (j : Fin 512) : EReal := ∑ s, H.scores n r s * H.v n s j + (∑ i, H.q n r i * H.st n i j) * H.xi r

variable (dO : ℕ → Fin 128 → Fin 512 → EReal)

/-- The output's gradient decayed from the chunk's start. -/
def dox (n : ℕ) (r : Fin 128) (j : Fin 512) : EReal := dO n r j * H.xi r
/-- The state's gradient after the last `n` of 64 chunks are done. -/
def dst : ℕ → Fin 256 → Fin 512 → EReal
  | 0, _, _ => 0
  | n + 1, i, j => dst n i j * H.gc + ∑ r, H.q (63 - n) r i * H.dox dO (63 - n) r j
/-- The scores' gradient. -/
def dscores (n : ℕ) (r s : Fin 128) : EReal := (∑ j, dO n r j * H.v n s j) * H.mask r s
/-- The turned queries' gradient, -/
def dqr (n : ℕ) (r : Fin 128) (d : Fin 256) : EReal := ∑ s, H.dscores dO n r s * H.k n s d + ∑ j, H.dox dO n r j * H.st n d j
/-- the turned keys' -/
def dkr (n : ℕ) (s : Fin 128) (d : Fin 256) : EReal :=
  ∑ r, H.dscores dO n r s * H.q n r d + (∑ j, H.v n s j * H.dst dO (63 - n) d j) * H.zeta s
/-- and the values'. -/
def dv (n : ℕ) (s : Fin 128) (j : Fin 512) : EReal := ∑ r, H.scores n r s * dO n r j + ∑ i, H.kz n s i * H.dst dO (63 - n) i j

end Head

section

variable (y : Fin 512 → EReal)

/-- A row's mean. -/
def mean : EReal := Ideal.div (∑ j, y j) width
/-- A row less its mean. -/
def oc (j : Fin 512) : EReal := y j - mean y
/-- A row's variance with the norm's constant added. -/
def var : EReal := mean (fun j => oc y j * oc y j) + eps
/-- A normalised row. -/
def rhat (j : Fin 512) : EReal := oc y j * Ideal.rsqrt (var y)
/-- The gate's nonlinearity. -/
def silu (z : EReal) : EReal := z * Ideal.logistic z
/-- A normalised row under its gate. -/
def gated (z : Fin 512 → EReal) (j : Fin 512) : EReal := rhat y j * silu (z j)
/-- The gate's gradient as the kernel writes it. -/
def dzK (z ct : Fin 512 → EReal) (j : Fin 512) : EReal :=
  ct j * rhat y j * (Ideal.logistic (z j) * (1 + z j * (1 - Ideal.logistic (z j))))
/-- The normalised row's gradient. -/
def dret (z ct : Fin 512 → EReal) (j : Fin 512) : EReal := ct j * silu (z j)
/-- The row's gradient as the kernel writes it. -/
def dOK (z ct : Fin 512 → EReal) (j : Fin 512) : EReal :=
  Ideal.rsqrt (var y) * (dret z ct j - mean (dret z ct) - rhat y j * mean fun e => dret z ct e * rhat y e)

end

/-- What the layer is computed from: the projected rows, the output's gradient, the angles' cosines and sines, and the
    heads' decays. -/
structure Args where
  x : Fin 8192 → Fin 11264 → EReal
  ct : Fin 8192 → Fin 2048 → EReal
  cos : Fin 8192 → Fin 128 → EReal
  sin : Fin 8192 → Fin 128 → EReal
  mask : Fin 4 → Fin 128 → Fin 128 → EReal
  xi : Fin 4 → Fin 128 → EReal
  zeta : Fin 4 → Fin 128 → EReal
  gc : Fin 4 → EReal

/-- A whole number. -/
abbrev num (n : ℕ) : EReal := (FloatOps.sitofp (F := Ideal) .f32 (BitVec.ofNat 32 n) : Ideal .f32)

/-- The rotary angle of a position in column `d`. -/
def angle (p : BitVec 32) (d : Fin 128) : EReal := (FloatOps.sitofp (F := Ideal) .f32 p : Ideal .f32)
  * Ideal.pow (Ideal.ofBits .f32 1176256512#32) (Ideal.div (-num d) (Ideal.ofBits .f32 1124073472#32))

/-- The logarithm of a head's decay over one row. -/
def decay (h : Fin 4) : EReal :=
  Ideal.log1p (-Ideal.exp (Ideal.ofBits .f32 1060205080#32 * (Ideal.ofBits .f32 3231711232#32 - num h)))

/-- A head's decay between two rows of a chunk, nothing passing to earlier rows, -/
def maskT (h : Fin 4) (r s : Fin 128) : EReal :=
  if 0 ≤ num r - num s then Ideal.exp (decay h * if 0 ≤ num r - num s then num r - num s else 0) else 0
/-- from before a chunk's start, -/
def xiT (h : Fin 4) (r : Fin 128) : EReal := Ideal.exp (decay h * (num r + 1))
/-- to a chunk's end -/
def zetaT (h : Fin 4) (r : Fin 128) : EReal := Ideal.exp (decay h * (Ideal.ofBits .f32 1123942400#32 - num r))
/-- and over a chunk. -/
def gcT (h : Fin 4) : EReal := Ideal.exp (decay h * Ideal.ofBits .f32 1124073472#32)

/-- The layer's arguments from the projected rows, the positions and the output's gradient. -/
def args (x : Fin 8192 → Fin 11264 → EReal) (p : Fin 8192 → BitVec 32) (ct : Fin 8192 → Fin 2048 → EReal) : Args where
  x := x
  ct := ct
  cos R d := Ideal.cos (angle (p R) d)
  sin R d := Ideal.sin (angle (p R) d)
  mask := maskT
  xi := xiT
  zeta := zetaT
  gc := gcT

/-- Row `r` of chunk `n`. -/
def row (n : ℕ) (r : Fin 128) : Fin 8192 := ⟨(n * 128 + r.val) % 8192, Nat.mod_lt _ (by decide)⟩

/-- A row's number. -/
theorem row_val (n : ℕ) (h : n < 64) (r : Fin 128) : (row n r).val = n * 128 + r.val := Nat.mod_eq_of_lt (by omega)

/-- Every row is one of a chunk's. -/
theorem exists_row (R : Fin 8192) : ∃ (n : Fin 64) (r : Fin 128), R = row n r :=
  ⟨⟨R.val / 128, by omega⟩, ⟨R.val % 128, Nat.mod_lt _ (by decide)⟩, Fin.ext (by rw [row_val _ (by omega)]; show R.val = R.val / 128 * 128 + R.val % 128; omega)⟩

/-- A head's column among the queries, -/
def qCol (h : Fin 4) (d : Fin 256) : Fin 11264 := ⟨h.val * 256 + d.val, by omega⟩
/-- the keys, -/
def kCol (h : Fin 4) (d : Fin 256) : Fin 11264 := ⟨1024 + (h.val * 256 + d.val), by omega⟩
/-- the values -/
def vCol (h : Fin 4) (j : Fin 512) : Fin 11264 := ⟨2048 + (h.val * 512 + j.val), by omega⟩
/-- and the gates of the projected rows, -/
def zCol (h : Fin 4) (j : Fin 512) : Fin 11264 := ⟨4096 + (h.val * 512 + j.val), by omega⟩
/-- and its column among the outputs. -/
def oCol (h : Fin 4) (j : Fin 512) : Fin 2048 := ⟨h.val * 512 + j.val, by omega⟩

/-- Every column of the outputs is one of a head's. -/
theorem exists_oCol (c : Fin 2048) : ∃ (h : Fin 4) (j : Fin 512), c = oCol h j :=
  ⟨⟨c.val / 512, by omega⟩, ⟨c.val % 512, Nat.mod_lt _ (by decide)⟩, Fin.ext (show c.val = c.val / 512 * 512 + c.val % 512 by omega)⟩

namespace Args

variable (A : Args)

/-- A head's chunks. -/
def head (h : Fin 4) : Head where
  q n r := turn (A.cos (row n r)) (A.sin (row n r)) fun d => A.x (row n r) (qCol h d)
  k n r d := turn (A.cos (row n r)) (A.sin (row n r)) (fun d => A.x (row n r) (kCol h d)) d * sixteenth
  v n r j := A.x (row n r) (vCol h j)
  mask := A.mask h
  xi := A.xi h
  zeta := A.zeta h
  gc := A.gc h

/-- A row's gate. -/
def z (h : Fin 4) (n : ℕ) (r : Fin 128) (j : Fin 512) : EReal := A.x (row n r) (zCol h j)
/-- A row's gradient of the gated output. -/
def g (h : Fin 4) (n : ℕ) (r : Fin 128) (j : Fin 512) : EReal := A.ct (row n r) (oCol h j)

/-- What is saved of a row: its query, its key or its decayed key. -/
def saved (h : Fin 4) (b : Fin 3) (n : ℕ) (r : Fin 128) (d : Fin 256) : EReal :=
  ![(A.head h).q n r d, (A.head h).k n r d, (A.head h).kz n r d] b

/-- The gated output. -/
def pa (h : Fin 4) (n : ℕ) (r : Fin 128) : Fin 512 → EReal := gated ((A.head h).out n r) (A.z h n r)

/-- The gradient of the rows before the norm as the kernel writes it. -/
def dO (h : Fin 4) (n : ℕ) (r : Fin 128) : Fin 512 → EReal := dOK ((A.head h).out n r) (A.z h n r) (A.g h n r)

/-- The gradient of the queries as the kernel writes it, -/
def gq (h : Fin 4) (n : ℕ) (r : Fin 128) : Fin 256 → EReal := turnBack (A.cos (row n r)) (A.sin (row n r)) ((A.head h).dqr (A.dO h) n r)
/-- of the keys, -/
def gk (h : Fin 4) (n : ℕ) (r : Fin 128) (d : Fin 256) : EReal :=
  turnBack (A.cos (row n r)) (A.sin (row n r)) ((A.head h).dkr (A.dO h) n r) d * sixteenth
/-- of the values -/
def gv (h : Fin 4) (n : ℕ) (r : Fin 128) : Fin 512 → EReal := (A.head h).dv (A.dO h) n r
/-- and of the gates. -/
def gz (h : Fin 4) (n : ℕ) (r : Fin 128) : Fin 512 → EReal := dzK ((A.head h).out n r) (A.z h n r) (A.g h n r)

end Args

end Cert.Proof.RetSpec

end
end
-- ==== Proof.RetFwdValue.lean ====
/- The forward retention call's chunks on extended real numbers: a point whose blocks hold a head's rows stores that head's
   outputs, and carries its states. -/
module

public import proofs.«01_k».proof.Proof.RetFwdChunk
public import proofs.«01_k».proof.Proof.RetSpec
public import Idealize.ShloMosaic.Lib.Pointwise

@[expose] public section

set_option maxRecDepth 16384

noncomputable section

namespace Cert.Proof.Ret

open Cert.RetIdeal Cert.RetIdeal.Gen
open Idealize.ShloMosaic Idealize.ShloMosaic.TcCoe Idealize.ShloMosaic.Tactic
open Cert.Proof.RetSpec (Args row qCol kCol vCol zCol oCol)

/-- Turned rows read at an index. -/
theorem turn_apply (c s : Vec Ideal S128x128 .f32) (x : Vec Ideal S128x256 .f32) (r : Fin 128) (d : Fin 256) :
    turn (F := Ideal) c s x (ix2 r d) = RetSpec.turn (fun e => c (ix2 r e)) (fun e => s (ix2 r e)) (fun e => x (ix2 r e)) d := by
  pointwise [turn]
  rfl

section

variable (X : FwdIn Ideal) (a : Fin 8) (r : Fin 128)

/-- A chunk's scores read at an index, -/
theorem scores_apply (s : Fin 128) :
    X.scores a (ix2 r s) = (∑ d, X.qr a (ix2 r d) * X.kr a (ix2 s d) : EReal) * X.mask (ix3 0 r s) := by
  pointwise [FwdIn.scores, FwdIn.qb, FwdIn.kb]

/-- its scaled keys, -/
theorem kr_apply (d : Fin 256) :
    X.kr a (ix2 r d) = (turn (chunk X.cos a) (chunk X.sin a) (chunk X.k a) (ix2 r d) : EReal) * RetSpec.sixteenth := by
  pointwise [FwdIn.kr]

/-- its decayed keys, -/
theorem kz_apply (d : Fin 256) : X.kz a (ix2 r d) = (X.kr a (ix2 r d) : EReal) * X.zeta (ix3 0 r 0) := by
  pointwise [FwdIn.kz]

/-- its values, -/
theorem vb_apply (j : Fin 512) : X.vb a (ix2 r j) = chunk X.v a (ix2 r j) := by
  pointwise [FwdIn.vb]

/-- its outputs -/
theorem out_apply (st : Vec Ideal S256x512 .f32) (j : Fin 512) :
    X.out a st (ix2 r j) = (∑ s, X.scores a (ix2 r s) * X.vb a (ix2 s j) : EReal) + (∑ i, X.qr a (ix2 r i) * st (ix2 i j) : EReal) * X.xi (ix3 0 r 0) := by
  pointwise [FwdIn.out, FwdIn.qb]

/-- and the state after it. -/
theorem next_apply (st : Vec Ideal S256x512 .f32) (i : Fin 256) (j : Fin 512) :
    X.next a st (ix2 i j) = (st (ix2 i j) * X.gc (ix3 0 0 0) + ∑ r, X.kz a (ix2 r i) * X.vb a (ix2 r j) : EReal) := by
  pointwise [FwdIn.next]

/-- Rounding to the narrow format keeps every value. -/
theorem truncf_apply' {s : Shape} (x : FVec Ideal s .f32) (i : s.Idx) : truncf .bf16 x bitsLt_bf16_f32 i = x i := rfl

/-- A state as saved. -/
theorem saved_state (x : FVec Ideal S256x512 .f32) (i : Fin 256) (j : Fin 512) :
    shapeCast S1x1x256x512 (truncf .bf16 x bitsLt_bf16_f32) shapeCasts_S256x512_S1x1x256x512 (ix4 0 0 i j) = x (ix2 i j) := by
  pointwise []

/-- Gated rows read at an index. -/
theorem gated_apply (o : FVec Ideal S128x512 .f32) (z : Vec Ideal S128x512 .f32) (j : Fin 512) :
    gated o z (ix2 r j) = RetSpec.gated (fun e => o (ix2 r e)) (fun e => z (ix2 r e)) j := by
  pointwise [gated, rstd, centred, rowMean]
  rfl

end

/-- A point's blocks hold head `h`'s rows from chunk `n` on. -/
structure FwdAgrees (X : FwdIn Ideal) (A : Args) (h : Fin 4) (n : ℕ) : Prop where
  q : ∀ (a : Fin 8) r d, X.q (ix2 (chunkRow a r) d) = A.x (row (n + a) r) (qCol h d)
  k : ∀ (a : Fin 8) r d, X.k (ix2 (chunkRow a r) d) = A.x (row (n + a) r) (kCol h d)
  v : ∀ (a : Fin 8) r j, X.v (ix2 (chunkRow a r) j) = A.x (row (n + a) r) (vCol h j)
  z : ∀ (a : Fin 8) r j, X.z (ix2 (chunkRow a r) j) = A.x (row (n + a) r) (zCol h j)
  cos : ∀ (a : Fin 8) r d, X.cos (ix2 (chunkRow a r) d) = A.cos (row (n + a) r) d
  sin : ∀ (a : Fin 8) r d, X.sin (ix2 (chunkRow a r) d) = A.sin (row (n + a) r) d
  mask : ∀ r s, X.mask (ix3 0 r s) = A.mask h r s
  xi : ∀ r, X.xi (ix3 0 r 0) = A.xi h r
  zeta : ∀ r, X.zeta (ix3 0 r 0) = A.zeta h r
  gc : X.gc (ix3 0 0 0) = A.gc h

namespace FwdAgrees

variable {X : FwdIn Ideal} {A : Args} {h : Fin 4} {n : ℕ} (g : FwdAgrees X A h n) (a : Fin 8)
include g

/-- Its queries are the head's, -/
theorem qr (r d) : X.qr a (ix2 r d) = (A.head h).q (n + a) r d := by
  refine (turn_apply _ _ _ r d).trans ?_
  simp only [chunk_apply, g.q, g.cos, g.sin]; rfl

/-- its keys, -/
theorem kr (r d) : X.kr a (ix2 r d) = (A.head h).k (n + a) r d := by
  refine (kr_apply X a r d).trans ?_
  rw [turn_apply]
  simp only [chunk_apply, g.k, g.cos, g.sin]; rfl

/-- its decayed keys, -/
theorem kz (r d) : X.kz a (ix2 r d) = (A.head h).kz (n + a) r d := by
  rw [kz_apply, g.kr, g.zeta]; rfl

/-- its values, -/
theorem vb (r j) : X.vb a (ix2 r j) = (A.head h).v (n + a) r j := by
  rw [vb_apply, chunk_apply, g.v]; rfl

/-- its scores, -/
theorem scores (r s) : X.scores a (ix2 r s) = (A.head h).scores (n + a) r s := by
  rw [scores_apply]
  simp only [g.qr, g.kr, g.mask]; rfl

/-- its states -/
theorem state {s : Vec Ideal S256x512 .f32} (hs : ∀ i j, s (ix2 i j) = (A.head h).st n i j) :
    ∀ (b : ℕ), b ≤ 8 → ∀ i j, X.state s b (ix2 i j) = (A.head h).st (n + b) i j
  | 0, _, i, j => hs i j
  | b + 1, hb, i, j => by
    rw [FwdIn.state, dif_pos (by omega : b < 8), next_apply, state hs b (by omega), g.gc]
    simp only [g.kz, g.vb]; rfl

/-- and its outputs. -/
theorem out {s : Vec Ideal S256x512 .f32} (hs : ∀ i j, s (ix2 i j) = (A.head h).st n i j) (r j) :
    X.out a (X.state s a) (ix2 r j) = (A.head h).out (n + a) r j := by
  rw [out_apply]
  simp only [g.scores, g.vb, g.qr, g.state hs a (by omega), g.xi]; rfl

/-- Its gated outputs are the head's. -/
theorem pa {s : Vec Ideal S256x512 .f32} (hs : ∀ i j, s (ix2 i j) = (A.head h).st n i j) (r j) :
    gated (X.out a (X.state s a)) (chunk X.z a) (ix2 r j) = A.pa h (n + a) r j := by
  rw [gated_apply]
  simp only [g.out a hs, chunk_apply, g.z]; rfl

/-- The saved queries, keys and decayed keys are the head's. -/
theorem saved (b : Fin 3) (r d) : (![X.qb a, X.kb a, X.kz a] b : Vec Ideal S128x256 .bf16) (ix2 r d) = A.saved h b (n + a) r d := by
  match b with
  | 0 => exact (truncf_apply' _ _).trans (g.qr a r d)
  | 1 => exact (truncf_apply' _ _).trans (g.kr a r d)
  | 2 => exact g.kz a r d

end FwdAgrees

end Cert.Proof.Ret
end
end
-- ==== Proof.RetBwdValue.lean ====
/- The backward retention call's chunks on extended real numbers: a point whose blocks hold a head's rows stores that head's
   gradients, and carries the gradients of its states. -/
module

public import proofs.«01_k».proof.Proof.RetBwdChunk
public import proofs.«01_k».proof.Proof.RetFwdValue

@[expose] public section

set_option maxRecDepth 16384

noncomputable section

namespace Cert.Proof.Ret

open Cert.RetIdeal Cert.RetIdeal.Gen
open Idealize.ShloMosaic Idealize.ShloMosaic.TcCoe Idealize.ShloMosaic.Tactic
open Cert.Proof.RetSpec (Args row qCol kCol vCol zCol oCol)

/-- A turned gradient taken back, read at an index. -/
theorem turnBack_apply (c s : Vec Ideal S128x128 .f32) (x : Vec Ideal S128x256 .f32) (r : Fin 128) (d : Fin 256) :
    turnBack (F := Ideal) c s x (ix2 r d) = RetSpec.turnBack (fun e => c (ix2 r e)) (fun e => s (ix2 r e)) (fun e => x (ix2 r e)) d := by
  pointwise [turnBack]
  rfl

/-- A saved piece read at an index. -/
theorem saved_ld (x : Vec Ideal S1024x768 .bf16) (a : Fin 8) (b : Fin 3) (r : Fin 128) (d : Fin 256) :
    (shapeCast S128x256 (View.ld x (rotRect a b)) shapeCasts_S128x256_S128x256 : Vec Ideal S128x256 .bf16) (ix2 r d)
      = x (ix2 (chunkRow a r) ⟨b.val * 256 + d.val, by omega⟩) := by
  pointwise []

/-- One saved state as a matrix. -/
theorem st_cast (y : Vec Ideal S1x1x256x512 .bf16) (i : Fin 256) (j : Fin 512) :
    (shapeCast S256x512 y shapeCasts_S1x1x256x512_S256x512 : Vec Ideal S256x512 .bf16) (ix2 i j) = y (ix4 0 0 i j) := by
  pointwise []

/-- A saved state read at an index. -/
theorem st_ld (x : Vec Ideal S1x8x256x512 .bf16) (a : Fin 8) (i : Fin 256) (j : Fin 512) :
    (shapeCast S256x512 (View.ld x (stateRect a)) shapeCasts_S1x1x256x512_S256x512 : Vec Ideal S256x512 .bf16) (ix2 i j) = x (ix4 0 a i j) := by
  refine (st_cast _ i j).trans (congrArg x (funext fun c => Fin.ext ?_))
  match c with
  | 0 => rfl
  | 1 => show a.val + 1 * 0 = a.val; omega
  | 2 => show 0 + 1 * i.val = i.val; omega
  | 3 => show 0 + 1 * j.val = j.val; omega

section

variable (X : BwdIn Ideal) (a : Fin 8) (r : Fin 128)

/-- A chunk's normalised rows read at an index, -/
theorem rhat_apply (j : Fin 512) : X.rhat a (ix2 r j) = RetSpec.rhat (fun e => chunk X.o a (ix2 r e)) j := by
  pointwise [BwdIn.rhat, BwdIn.oc, rstd, centred, rowMean]
  rfl

/-- its gate's gradient, -/
theorem dz_apply (j : Fin 512) : X.dz a (ix2 r j) = RetSpec.dzK (fun e => chunk X.o a (ix2 r e)) (fun e => chunk X.z a (ix2 r e))
    (fun e => chunk X.dp a (ix2 r e)) j := by
  unfold RetSpec.dzK
  rw [← rhat_apply, ← RetSpec.one_eq]
  pointwise [BwdIn.dz, BwdIn.ct, BwdIn.gate]

/-- the gradient of its rows before the norm, -/
theorem dO_apply (j : Fin 512) : X.dO a (ix2 r j) = RetSpec.dOK (fun e => chunk X.o a (ix2 r e)) (fun e => chunk X.z a (ix2 r e))
    (fun e => chunk X.dp a (ix2 r e)) j := by
  unfold RetSpec.dOK
  simp only [← rhat_apply]
  pointwise [BwdIn.dO, BwdIn.ct, BwdIn.gate, normBack, rowMean, rstd, BwdIn.oc, centred]
  rfl

/-- that gradient decayed from the chunk's start, -/
theorem dox_apply (j : Fin 512) : X.dox a (ix2 r j) = (X.dO a (ix2 r j) : EReal) * X.xi (ix3 0 r 0) := by
  pointwise [BwdIn.dox]

/-- its scores, -/
theorem bscores_apply (s : Fin 128) :
    X.scores a (ix2 r s) = (∑ d, X.saved a 0 (ix2 r d) * X.saved a 1 (ix2 s d) : EReal) * X.mask (ix3 0 r s) := by
  pointwise [BwdIn.scores, BwdIn.m]

/-- their gradient, -/
theorem dscores_apply (s : Fin 128) :
    X.dscores a (ix2 r s) = (∑ j, X.dO a (ix2 r j) * chunk X.v a (ix2 s j) : EReal) * X.mask (ix3 0 r s) := by
  pointwise [BwdIn.dscores, BwdIn.m, BwdIn.dob, BwdIn.vb]

/-- the gradients of its turned queries, -/
theorem dqr_apply (d : Fin 256) :
    X.dqr a (ix2 r d) = (∑ s, X.dscores a (ix2 r s) * X.saved a 1 (ix2 s d) + ∑ j, X.dox a (ix2 r j) * X.stb a (ix2 d j) : EReal) := by
  pointwise [BwdIn.dqr]

/-- of its turned keys, -/
theorem dkr_apply (g : Vec Ideal S256x512 .f32) (d : Fin 256) :
    X.dkr a g (ix2 r d) = (∑ s, X.dscores a (ix2 s r) * X.saved a 0 (ix2 s d)
      + (∑ j, chunk X.v a (ix2 r j) * g (ix2 d j)) * X.zeta (ix3 0 r 0) : EReal) := by
  pointwise [BwdIn.dkr, BwdIn.vb]

/-- of its values -/
theorem dv_apply (g : Vec Ideal S256x512 .f32) (j : Fin 512) :
    X.dv a g (ix2 r j) = (∑ s, X.scores a (ix2 s r) * X.dO a (ix2 s j) + ∑ i, X.saved a 2 (ix2 r i) * g (ix2 i j) : EReal) := by
  pointwise [BwdIn.dv, BwdIn.dob]

/-- and of the state before it. -/
theorem bnext_apply (g : Vec Ideal S256x512 .f32) (i : Fin 256) (j : Fin 512) :
    X.next a g (ix2 i j) = (g (ix2 i j) * X.gc (ix3 0 0 0) + ∑ r, X.saved a 0 (ix2 r i) * X.dox a (ix2 r j) : EReal) := by
  pointwise [BwdIn.next]

/-- The gradient of its keys from the turned keys'. -/
theorem dk_apply (g : Vec Ideal S256x512 .f32) (d : Fin 256) :
    X.dk a g (ix2 r d) = (turnBack (chunk X.cos a) (chunk X.sin a) (X.dkr a g) (ix2 r d) : EReal) * RetSpec.sixteenth := by
  pointwise [BwdIn.dk]

end

/-- A point's blocks hold head `h`'s rows from chunk `n` on. -/
structure BwdAgrees (X : BwdIn Ideal) (A : Args) (h : Fin 4) (n : ℕ) : Prop where
  dp : ∀ (a : Fin 8) r j, X.dp (ix2 (chunkRow a r) j) = A.ct (row (n + a) r) (oCol h j)
  o : ∀ (a : Fin 8) r j, X.o (ix2 (chunkRow a r) j) = (A.head h).out (n + a) r j
  rot : ∀ (a : Fin 8) (b : Fin 3) r (d : Fin 256), X.rot (ix2 (chunkRow a r) ⟨b.val * 256 + d.val, by omega⟩) = A.saved h b (n + a) r d
  v : ∀ (a : Fin 8) r j, X.v (ix2 (chunkRow a r) j) = A.x (row (n + a) r) (vCol h j)
  z : ∀ (a : Fin 8) r j, X.z (ix2 (chunkRow a r) j) = A.x (row (n + a) r) (zCol h j)
  st : ∀ (a : Fin 8) i j, X.st (ix4 0 a i j) = (A.head h).st (n + a) i j
  cos : ∀ (a : Fin 8) r d, X.cos (ix2 (chunkRow a r) d) = A.cos (row (n + a) r) d
  sin : ∀ (a : Fin 8) r d, X.sin (ix2 (chunkRow a r) d) = A.sin (row (n + a) r) d
  mask : ∀ r s, X.mask (ix3 0 r s) = A.mask h r s
  xi : ∀ r, X.xi (ix3 0 r 0) = A.xi h r
  zeta : ∀ r, X.zeta (ix3 0 r 0) = A.zeta h r
  gc : X.gc (ix3 0 0 0) = A.gc h

namespace BwdAgrees

variable {X : BwdIn Ideal} {A : Args} {h : Fin 4} {n : ℕ} (g : BwdAgrees X A h n) (a : Fin 8)
include g

/-- Its saved queries are the head's, -/
theorem q (r d) : X.saved a 0 (ix2 r d) = (A.head h).q (n + a) r d := (saved_ld _ a 0 r d).trans (g.rot a 0 r d)
/-- its saved keys, -/
theorem k (r d) : X.saved a 1 (ix2 r d) = (A.head h).k (n + a) r d := (saved_ld _ a 1 r d).trans (g.rot a 1 r d)
/-- its saved decayed keys, -/
theorem kz (r d) : X.saved a 2 (ix2 r d) = (A.head h).kz (n + a) r d := (saved_ld _ a 2 r d).trans (g.rot a 2 r d)
/-- its saved states, -/
theorem stb (i j) : X.stb a (ix2 i j) = (A.head h).st (n + a) i j := (st_ld _ a i j).trans (g.st a i j)

/-- the gradient of its gates, -/
theorem dz (r j) : X.dz a (ix2 r j) = A.gz h (n + a) r j := by
  rw [dz_apply]
  simp only [chunk_apply, g.o, g.z, g.dp]; rfl

/-- of its rows before the norm, -/
theorem dO (r j) : X.dO a (ix2 r j) = A.dO h (n + a) r j := by
  rw [dO_apply]
  simp only [chunk_apply, g.o, g.z, g.dp]; rfl

/-- the latter decayed from the chunk's start, -/
theorem dox (r j) : X.dox a (ix2 r j) = (A.head h).dox (A.dO h) (n + a) r j := by
  rw [dox_apply, g.dO, g.xi]; rfl

/-- its scores -/
theorem scores (r s) : X.scores a (ix2 r s) = (A.head h).scores (n + a) r s := by
  rw [bscores_apply]
  simp only [g.q, g.k, g.mask]; rfl

/-- and their gradient. -/
theorem dscores (r s) : X.dscores a (ix2 r s) = (A.head h).dscores (A.dO h) (n + a) r s := by
  rw [dscores_apply]
  simp only [g.dO, chunk_apply, g.v, g.mask]; rfl

/-- It carries the gradients of the head's states, -/
theorem grad (hn : n ≤ 56) {s : Vec Ideal S256x512 .f32} (hs : ∀ i j, s (ix2 i j) = (A.head h).dst (A.dO h) (56 - n) i j) :
    ∀ (b : ℕ), b ≤ 8 → ∀ i j, X.grad s b (ix2 i j) = (A.head h).dst (A.dO h) (56 - n + b) i j
  | 0, _, i, j => hs i j
  | b + 1, hb, i, j => by
    rw [BwdIn.grad, dif_pos (by omega : b < 8), bnext_apply, grad hn hs b (by omega), g.gc]
    simp only [g.q, g.dox]
    rw [show n + (7 - b) = 63 - (56 - n + b) by omega]; rfl

section

variable (hn : n ≤ 56) {s : Vec Ideal S256x512 .f32} (hs : ∀ i j, s (ix2 i j) = (A.head h).dst (A.dO h) (56 - n) i j)
include hn hs

/-- those after a chunk being -/
theorem after (i j) : X.grad s (7 - a.val) (ix2 i j) = (A.head h).dst (A.dO h) (63 - (n + a)) i j := by
  rw [g.grad hn hs _ (by omega), show 56 - n + (7 - a.val) = 63 - (n + a) by omega]

/-- what gives the gradient of its turned keys -/
theorem dkr (r d) : X.dkr a (X.grad s (7 - a.val)) (ix2 r d) = (A.head h).dkr (A.dO h) (n + a) r d := by
  rw [dkr_apply]
  simp only [g.dscores, g.q, chunk_apply, g.v, g.after a hn hs, g.zeta]; rfl

/-- and of its values. -/
theorem dv (r j) : X.dv a (X.grad s (7 - a.val)) (ix2 r j) = A.gv h (n + a) r j := by
  rw [dv_apply]
  simp only [g.scores, g.dO, g.kz, g.after a hn hs]; rfl

/-- The gradient of its keys is the head's, -/
theorem dk (r d) : X.dk a (X.grad s (7 - a.val)) (ix2 r d) = A.gk h (n + a) r d := by
  rw [dk_apply, turnBack_apply]
  simp only [g.dkr a hn hs, chunk_apply, g.cos, g.sin]; rfl

end

/-- and so is the gradient of its queries. -/
theorem dq (r d) : X.dq a (ix2 r d) = A.gq h (n + a) r d := by
  refine (truncf_apply' _ _).trans ((turnBack_apply _ _ _ r d).trans ?_)
  have e : ∀ e, X.dqr a (ix2 r e) = (A.head h).dqr (A.dO h) (n + a) r e := fun e => by
    rw [dqr_apply]
    simp only [g.dscores, g.k, g.dox, g.stb]; rfl
  simp only [e, chunk_apply, g.cos, g.sin]; rfl

end BwdAgrees

end Cert.Proof.Ret
end
end
-- ==== Proof.RetFwd.lean ====
/- The forward retention call as one region of the program: its proof data, its body's obligation, and its invariant's two
   ends. -/
module

public import proofs.«01_k».proof.Proof.RetFwdPoint

@[expose] public section

set_option maxRecDepth 16384

noncomputable section

namespace Cert.Proof.Ret

open Cert.RetIdeal Cert.RetIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → Valuation τ sig (Elt F))

/-- The proof data: the arrays as the region finds them; after point `t` each argument's buffer at its block and each
    result's at what the point's stores leave; between points the carried state; nothing owed. -/
def fwdDat (c : Dev nD) : Dat τ (Elt F) Unit ℕ (UR sig nD τ) ℕ cfg0 c where
  A w := V c (Pipeline.arrRef spec0 w)
  after w t := match w with
    | ⟨0, _⟩ => fwdBlk V c 0 t
    | ⟨1, _⟩ => fwdBlk V c 1 t
    | ⟨2, _⟩ => fwdBlk V c 2 t
    | ⟨3, _⟩ => fwdBlk V c 3 t
    | ⟨4, _⟩ => fwdBlk V c 4 t
    | ⟨5, _⟩ => fwdBlk V c 5 t
    | ⟨6, _⟩ => fwdBlk V c 6 t
    | ⟨7, _⟩ => fwdBlk V c 7 t
    | ⟨8, _⟩ => fwdBlk V c 8 t
    | ⟨9, _⟩ => fwdBlk V c 9 t
    | ⟨10, _⟩ => View.canon (fwdPt V c t).pa
    | ⟨11, _⟩ => View.canon (fwdPt V c t).o
    | ⟨12, _⟩ => View.canon (fwdPt V c t).st
    | ⟨13, _⟩ => View.canon (fwdPt V c t).rot
  Φ t := iprop((∃ s, owns (c : Thread nD τ) (Memref.whole cc0_scratch0) fullShare s ∗ ⌜t.val % 8 ≠ 0 → s = fwdAcc V c t.val⌝)
    ∗ Pipeline.scopedRestBut (Ix := Unit) (Name := ℕ) (U := UR sig nD τ) (Lvl := ℕ) (Val := Elt F) spec0 c [cc0_scratch0] ∗ (∃ r, prngReg c r))
  q w := Pipeline.shareOf spec0 w
  owed _ := 0

/-- The data's arrays are the contents that the region is entered with. -/
theorem fwdDat_A (c : Dev nD) (w : Fin cfg0.W) : (fwdDat V c).A w = V c (Pipeline.arrRef spec0 w) := by
  dsimp only [fwdDat]

/-- The buffer `q` holds its block before each point. -/
theorem fwdBefore_q (c : Dev nD) (t : Fin cfg0.N) (d) : (fwdDat V c).before 0 t d = fwdBlk V c 0 t :=
  ((fwdDat V c).before_in_eq_fetched 0 rfl (fun _ => rfl) (fun _ _ _ => rfl) (fun _ => rfl) t d).trans rfl

/-- The buffer `k` holds its block before each point. -/
theorem fwdBefore_k (c : Dev nD) (t : Fin cfg0.N) (d) : (fwdDat V c).before 1 t d = fwdBlk V c 1 t :=
  ((fwdDat V c).before_in_eq_fetched 1 rfl (fun _ => rfl) (fun _ _ _ => rfl) (fun _ => rfl) t d).trans rfl

/-- The buffer `v` holds its block before each point. -/
theorem fwdBefore_v (c : Dev nD) (t : Fin cfg0.N) (d) : (fwdDat V c).before 2 t d = fwdBlk V c 2 t :=
  ((fwdDat V c).before_in_eq_fetched 2 rfl (fun _ => rfl) (fun _ _ _ => rfl) (fun _ => rfl) t d).trans rfl

/-- The buffer `z` holds its block before each point. -/
theorem fwdBefore_z (c : Dev nD) (t : Fin cfg0.N) (d) : (fwdDat V c).before 3 t d = fwdBlk V c 3 t :=
  ((fwdDat V c).before_in_eq_fetched 3 rfl (fun _ => rfl) (fun _ _ _ => rfl) (fun _ => rfl) t d).trans rfl

/-- The buffer `cos` holds its block before each point. -/
theorem fwdBefore_cos (c : Dev nD) (t : Fin cfg0.N) (d) : (fwdDat V c).before 4 t d = fwdBlk V c 4 t :=
  ((fwdDat V c).before_in_eq_fetched 4 rfl (fun _ => rfl) (fun _ _ _ => rfl) (fun _ => rfl) t d).trans rfl

/-- The buffer `sin` holds its block before each point. -/
theorem fwdBefore_sin (c : Dev nD) (t : Fin cfg0.N) (d) : (fwdDat V c).before 5 t d = fwdBlk V c 5 t :=
  ((fwdDat V c).before_in_eq_fetched 5 rfl (fun _ => rfl) (fun _ _ _ => rfl) (fun _ => rfl) t d).trans rfl

/-- The buffer `mask` holds its block before each point. -/
theorem fwdBefore_mask (c : Dev nD) (t : Fin cfg0.N) (d) : (fwdDat V c).before 6 t d = fwdBlk V c 6 t :=
  ((fwdDat V c).before_in_eq_fetched 6 rfl (fun _ => rfl) (fun _ _ _ => rfl) (fun _ => rfl) t d).trans rfl

/-- The buffer `xi` holds its block before each point. -/
theorem fwdBefore_xi (c : Dev nD) (t : Fin cfg0.N) (d) : (fwdDat V c).before 7 t d = fwdBlk V c 7 t :=
  ((fwdDat V c).before_in_eq_fetched 7 rfl (fun _ => rfl) (fun _ _ _ => rfl) (fun _ => rfl) t d).trans rfl

/-- The buffer `zeta` holds its block before each point. -/
theorem fwdBefore_zeta (c : Dev nD) (t : Fin cfg0.N) (d) : (fwdDat V c).before 8 t d = fwdBlk V c 8 t :=
  ((fwdDat V c).before_in_eq_fetched 8 rfl (fun _ => rfl) (fun _ _ _ => rfl) (fun _ => rfl) t d).trans rfl

/-- The buffer `gc` holds its block before each point. -/
theorem fwdBefore_gc (c : Dev nD) (t : Fin cfg0.N) (d) : (fwdDat V c).before 9 t d = fwdBlk V c 9 t :=
  ((fwdDat V c).before_in_eq_fetched 9 rfl (fun _ => rfl) (fun _ _ _ => rfl) (fun _ => rfl) t d).trans rfl

/-- What a point's body is called with, -/
def fwdPre (c : Dev nD) (t : Fin cfg0.N) : sProp 𝕄 :=
  iprop((fwdDat V c).Φ t.castSucc ∗ (fwdDat V c).owesAt () t.castSucc
    ∗ (∃ d, owns (c : Thread nD τ) (st0_0 t) fullShare ((fwdDat V c).before 0 t d))
    ∗ (∃ d, owns (c : Thread nD τ) (st0_1 t) fullShare ((fwdDat V c).before 1 t d))
    ∗ (∃ d, owns (c : Thread nD τ) (st0_2 t) fullShare ((fwdDat V c).before 2 t d))
    ∗ (∃ d, owns (c : Thread nD τ) (st0_3 t) fullShare ((fwdDat V c).before 3 t d))
    ∗ (∃ d, owns (c : Thread nD τ) (st0_4 t) fullShare ((fwdDat V c).before 4 t d))
    ∗ (∃ d, owns (c : Thread nD τ) (st0_5 t) fullShare ((fwdDat V c).before 5 t d))
    ∗ (∃ d, owns (c : Thread nD τ) (st0_6 t) fullShare ((fwdDat V c).before 6 t d))
    ∗ (∃ d, owns (c : Thread nD τ) (st0_7 t) fullShare ((fwdDat V c).before 7 t d))
    ∗ (∃ d, owns (c : Thread nD τ) (st0_8 t) fullShare ((fwdDat V c).before 8 t d))
    ∗ (∃ d, owns (c : Thread nD τ) (st0_9 t) fullShare ((fwdDat V c).before 9 t d))
    ∗ (∃ d, owns (c : Thread nD τ) (st0_10 t) fullShare ((fwdDat V c).before 10 t d))
    ∗ (∃ d, owns (c : Thread nD τ) (st0_11 t) fullShare ((fwdDat V c).before 11 t d))
    ∗ (∃ d, owns (c : Thread nD τ) (st0_12 t) fullShare ((fwdDat V c).before 12 t d))
    ∗ (∃ d, owns (c : Thread nD τ) (st0_13 t) fullShare ((fwdDat V c).before 13 t d)))

/-- and what it returns. -/
def fwdPost (c : Dev nD) (t : Fin cfg0.N) : sProp 𝕄 :=
  iprop((fwdDat V c).Φ t.succ ∗ (fwdDat V c).owesAt () t.succ
    ∗ owns (c : Thread nD τ) (st0_0 t) fullShare ((fwdDat V c).after 0 t)
    ∗ owns (c : Thread nD τ) (st0_1 t) fullShare ((fwdDat V c).after 1 t)
    ∗ owns (c : Thread nD τ) (st0_2 t) fullShare ((fwdDat V c).after 2 t)
    ∗ owns (c : Thread nD τ) (st0_3 t) fullShare ((fwdDat V c).after 3 t)
    ∗ owns (c : Thread nD τ) (st0_4 t) fullShare ((fwdDat V c).after 4 t)
    ∗ owns (c : Thread nD τ) (st0_5 t) fullShare ((fwdDat V c).after 5 t)
    ∗ owns (c : Thread nD τ) (st0_6 t) fullShare ((fwdDat V c).after 6 t)
    ∗ owns (c : Thread nD τ) (st0_7 t) fullShare ((fwdDat V c).after 7 t)
    ∗ owns (c : Thread nD τ) (st0_8 t) fullShare ((fwdDat V c).after 8 t)
    ∗ owns (c : Thread nD τ) (st0_9 t) fullShare ((fwdDat V c).after 9 t)
    ∗ owns (c : Thread nD τ) (st0_10 t) fullShare ((fwdDat V c).after 10 t)
    ∗ owns (c : Thread nD τ) (st0_11 t) fullShare ((fwdDat V c).after 11 t)
    ∗ owns (c : Thread nD τ) (st0_12 t) fullShare ((fwdDat V c).after 12 t)
    ∗ owns (c : Thread nD τ) (st0_13 t) fullShare ((fwdDat V c).after 13 t))

set_option maxHeartbeats 1600000 in
/-- The body at any point: the arguments' buffers hold their blocks, the run applies, and the carried state is taken over from
    the point before and handed on. -/
theorem fwdSound (c : Dev nD) (t : Fin cfg0.N) :
    fwdPre V c t ⊢ wp frame (wpE (defs₀ (F := F)) Variants.none c none) Set.univ (bodyAt0 t) (fun _ => fwdPost V c t) := by
  unfold fwdPre fwdPost
  simp only [fwdBefore_q, fwdBefore_k, fwdBefore_v, fwdBefore_z, fwdBefore_cos, fwdBefore_sin, fwdBefore_mask, fwdBefore_xi, fwdBefore_zeta, fwdBefore_gc]
  rw [show (fwdDat V c).owesAt () t.succ = (fwdDat V c).owesAt () t.castSucc from rfl]
  dsimp only [fwdDat]
  rw [show bodyAt0 t = fwdBody (F := F) (grid0.coords t) (fwdRefs t) from rfl]
  iintro ⟨⟨⟨%s, HS, %hs⟩, Hr, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  have hpt : fwdPt V c t = (fwdRun c (grid0.coords t) (fwdRefs t) (fwdX V c t) s (decide (t.val % 8 = 0)) (fwdFirst_iff t)).1 := by
    unfold fwdPt fwdAt
    by_cases h0 : t.val % 8 = 0
    · exact fwdRun_first c _ _ _ _ _ _ _ (decide_eq_true h0)
    · rw [hs h0]; rfl
  iapply ((fwdRun c (grid0.coords t) (fwdRefs t) (fwdX V c t) s (decide (t.val % 8 = 0)) (fwdFirst_iff t)).2 Set.univ _)
  unfold fwdIns
  isplitl [H0 H1 H2 H3 H4 H5 H6 H7 H8 H9]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  isplitl [H10]; · iexists _; iexact H10
  isplitl [H11]; · iexists _; iexact H11
  isplitl [H12]; · iexists _; iexact H12
  isplitl [H13]; · iexists _; iexact H13
  isplitl [HS]; · iexact HS
  iintro ⟨⟨H0, H1, H2, H3, H4, H5, H6, H7, H8, H9⟩, ⟨%e10, H10⟩, ⟨%e11, H11⟩, ⟨%e12, H12⟩, ⟨%e13, H13⟩, ⟨%es, HS⟩⟩
  rw [← hpt]
  isplitl [HS Hr Hg]
  · isplitl [HS]
    · iexists (fwdAcc V c (t.val + 1))
      isplitl [HS]
      · unfold owns; iexists _; isplitr
        swap; · iexact HS
        ipureintro; rw [fwdAcc_succ]; exact View.read_writes_eq_canon _ _ _ (by rw [hpt]; exact fwdCover_acc c _ _ _ _ _ _)
      · ipureintro; exact fun _ => rfl
    isplitl [Hr]; · iexact Hr
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · unfold owns; iexists _; isplitr
    swap; · iexact H10
    ipureintro; exact View.read_writes_eq_canon _ _ _ (by rw [hpt]; exact fwdCover_pa c _ _ _ _ _ _)
  isplitl [H11]
  · unfold owns; iexists _; isplitr
    swap; · iexact H11
    ipureintro; exact View.read_writes_eq_canon _ _ _ (by rw [hpt]; exact fwdCover_o c _ _ _ _ _ _)
  isplitl [H12]
  · unfold owns; iexists _; isplitr
    swap; · iexact H12
    ipureintro; exact View.read_writes_eq_canon _ _ _ (by rw [hpt]; exact fwdCover_st c _ _ _ _ _ _)
  unfold owns; iexists _; isplitr
  swap; · iexact H13
  ipureintro; exact View.read_writes_eq_canon _ _ _ (by rw [hpt]; exact fwdCover_rot c _ _ _ _ _ _)

/-- The pipeline's obligation of the body, at every point. -/
theorem fwdObligation (c : Dev nD) : BodyObligation (fwdDat (F := F) V c) (defs₀ (F := F)) Variants.none () Set.univ := fun t => by
  rw [bigSep_W0, bigSep_W0, show defs₀ (F := F) .tc cfg0.body (cfg0.bodyArgs t (cfg0.slots t)) = bodyAt0 t by
    unfold defs₀; rw [Defs.onTc_tc]]
  exact triple_restated (fwdSound V c t) rfl .rfl fun _ => .rfl

/-- What the launch hands the region is the invariant before the first point, -/
theorem fwdIn (c : Dev nD) : Pipeline.ΦA spec0 c ⊢ (fwdDat V c).Φ 0 := by
  unfold Pipeline.ΦA; rw [scopedRest0_split]
  dsimp only [fwdDat]
  simp only [owns_whole]
  iintro ⟨⟨⟨%s, HS⟩, Hr⟩, Hg⟩
  isplitl [HS]
  · iexists s
    isplitl [HS]; · iexact HS
    ipureintro; exact fun h => absurd rfl h
  isplitl [Hr]; · iexact Hr
  iexact Hg

/-- and the invariant after the last point gives it back. -/
theorem fwdOut (c : Dev nD) (t : Fin (cfg0.N + 1)) : (fwdDat V c).Φ t ⊢ Pipeline.ΦA spec0 c := by
  unfold Pipeline.ΦA; rw [scopedRest0_split]
  dsimp only [fwdDat]
  simp only [owns_whole]
  iintro ⟨⟨%s, HS, -⟩, Hr, Hg⟩
  isplitl [HS Hr]
  · isplitl [HS]
    · iexists s; iexact HS
    iexact Hr
  iexact Hg

end Cert.Proof.Ret

end

end
-- ==== Proof.RetFwdArr.lean ====
/- The forward retention call's results as functions of the arrays that it is entered with: the gated output, the rows
   before the norm, the saved states and the saved queries and keys. -/
module

public import proofs.«01_k».proof.Proof.RetFwdValue
public import proofs.«01_k».proof.Proof.RetFwd
public import Idealize.ShloMosaic.Lib.Pipeline.Value

@[expose] public section

set_option maxRecDepth 16384

noncomputable section

namespace Cert.Proof.Ret

open Cert.RetIdeal Cert.RetIdeal.Gen
open Idealize.ShloMosaic Idealize.ShloMosaic.TcCoe Idealize.ShloMosaic.Tactic
open Idealize.SL.Sem
open Cert.Proof.RetSpec (Args row qCol kCol vCol zCol oCol)

/-- The arrays that both calls read hold the layer's arguments. -/
structure Holds (V : Valuation τ sig (Elt Ideal)) (A : Args) : Prop where
  x : ∀ R C, (V main_v62 : Vec Ideal S8192x11264 .f32) (ix2 R C) = A.x R C
  cos : ∀ R d, (V main_v13 : Vec Ideal S8192x128 .f32) (ix2 R d) = A.cos R d
  sin : ∀ R d, (V main_v14 : Vec Ideal S8192x128 .f32) (ix2 R d) = A.sin R d
  mask : ∀ h r s, (V main_v38 : Vec Ideal S4x128x128 .f32) (ix3 h r s) = A.mask h r s
  xi : ∀ h r, (V main_v47 : Vec Ideal S4x128x1 .f32) (ix3 h r 0) = A.xi h r
  zeta : ∀ h r, (V main_v56 : Vec Ideal S4x128x1 .f32) (ix3 h r 0) = A.zeta h r
  gc : ∀ h, (V main_v61 : Vec Ideal S4x1x128 .f32) (ix3 h 0 0) = A.gc h

/-- The forward call has 32 points. -/
theorem fwdPts : cfg0.N = 32 := by decide +kernel

/-- The head of a point, -/
def fwdHead (t : Fin cfg0.N) : Fin 4 := ⟨t.val / 8, by have := t.isLt; have := fwdPts; omega⟩
/-- and its first chunk. -/
def fwdChunk (t : Fin cfg0.N) : ℕ := t.val % 8 * 8

/-- The point of a head's chunk. -/
def fwdPoint (h : Fin 4) (n : Fin 64) : Fin cfg0.N := ⟨h.val * 8 + n.val / 8, by have := fwdPts; omega⟩

/-- The forward windows' block indices. -/
theorem fwdIdxs : ∀ t : Fin cfg0.N,
    (win0_0.index t (0 : Fin 2) = t.val % 8 ∧ win0_0.index t (1 : Fin 2) = t.val / 8)
    ∧ (win0_1.index t (0 : Fin 2) = t.val % 8 ∧ win0_1.index t (1 : Fin 2) = 4 + t.val / 8)
    ∧ (win0_2.index t (0 : Fin 2) = t.val % 8 ∧ win0_2.index t (1 : Fin 2) = 4 + t.val / 8)
    ∧ (win0_3.index t (0 : Fin 2) = t.val % 8 ∧ win0_3.index t (1 : Fin 2) = 8 + t.val / 8)
    ∧ (win0_4.index t (0 : Fin 2) = t.val % 8 ∧ win0_4.index t (1 : Fin 2) = 0)
    ∧ (win0_5.index t (0 : Fin 2) = t.val % 8 ∧ win0_5.index t (1 : Fin 2) = 0)
    ∧ (win0_6.index t (0 : Fin 3) = t.val / 8 ∧ win0_6.index t (1 : Fin 3) = 0 ∧ win0_6.index t (2 : Fin 3) = 0)
    ∧ (win0_7.index t (0 : Fin 3) = t.val / 8 ∧ win0_7.index t (1 : Fin 3) = 0 ∧ win0_7.index t (2 : Fin 3) = 0)
    ∧ (win0_8.index t (0 : Fin 3) = t.val / 8 ∧ win0_8.index t (1 : Fin 3) = 0 ∧ win0_8.index t (2 : Fin 3) = 0)
    ∧ (win0_9.index t (0 : Fin 3) = t.val / 8 ∧ win0_9.index t (1 : Fin 3) = 0 ∧ win0_9.index t (2 : Fin 3) = 0)
    ∧ (win0_10.index t (0 : Fin 2) = t.val % 8 ∧ win0_10.index t (1 : Fin 2) = t.val / 8)
    ∧ (win0_11.index t (0 : Fin 2) = t.val % 8 ∧ win0_11.index t (1 : Fin 2) = t.val / 8)
    ∧ (win0_12.index t (0 : Fin 4) = t.val / 8 ∧ win0_12.index t (1 : Fin 4) = t.val % 8 ∧ win0_12.index t (2 : Fin 4) = 0
      ∧ win0_12.index t (3 : Fin 4) = 0)
    ∧ (win0_13.index t (0 : Fin 2) = t.val % 8 ∧ win0_13.index t (1 : Fin 2) = t.val / 8) :=
  (by decide +kernel : ∀ t : Fin grid0.N, _)

/-- Row `r` of chunk `a` of a point's block lies at row `r` of the point's chunk. -/
theorem fwdRow_val (t : Fin cfg0.N) (a : Fin 8) (r : Fin 128) :
    (row (fwdChunk t + a) r).val = t.val % 8 * 1024 + (a.val * 128 + r.val) := by
  have : fwdChunk t = t.val % 8 * 8 := rfl
  rw [RetSpec.row_val _ (by omega)]; omega

variable (V : (c : Dev nD) → Valuation τ sig (Elt Ideal)) (c : Dev nD)

/-- A matrix at an index given by its two numbers. -/
theorem at2 {W w : ℕ} {e : EltTy} (f : Vec Ideal ⟨2, ![W, w]⟩ e) (i : (⟨2, ![W, w]⟩ : Shape).Idx) (R : Fin W) (C : Fin w)
    (h0 : (i 0).val = R.val) (h1 : (i 1).val = C.val) : f i = f (ix2 R C) :=
  congrArg f (funext fun k => Fin.ext (match k with | 0 => h0 | 1 => h1))

/-- An array of three dimensions at an index given by its three numbers. -/
theorem at3 {W w u : ℕ} {e : EltTy} (f : Vec Ideal ⟨3, ![W, w, u]⟩ e) (i : (⟨3, ![W, w, u]⟩ : Shape).Idx) (R : Fin W) (C : Fin w) (D : Fin u)
    (h0 : (i 0).val = R.val) (h1 : (i 1).val = C.val) (h2 : (i 2).val = D.val) : f i = f (ix3 R C D) :=
  congrArg f (funext fun k => Fin.ext (match k with | 0 => h0 | 1 => h1 | 2 => h2))

/-- An array of four dimensions at an index given by its four numbers. -/
theorem at4 {W w u v : ℕ} {e : EltTy} (f : Vec Ideal ⟨4, ![W, w, u, v]⟩ e) (i : (⟨4, ![W, w, u, v]⟩ : Shape).Idx) (R : Fin W) (C : Fin w)
    (D : Fin u) (E : Fin v) (h0 : (i 0).val = R.val) (h1 : (i 1).val = C.val) (h2 : (i 2).val = D.val) (h3 : (i 3).val = E.val) :
    f i = f (ix4 R C D E) :=
  congrArg f (funext fun k => Fin.ext (match k with | 0 => h0 | 1 => h1 | 2 => h2 | 3 => h3))

/-- A point's blocks hold the rows of its head from its first chunk on. -/
theorem fwdAgrees {A : Args} (hV : Holds (V c) A) (t : Fin cfg0.N) : FwdAgrees (fwdX V c t) A (fwdHead t) (fwdChunk t) := by
  obtain ⟨e0, e1, e2, e3, e4, e5, e6, e7, e8, e9, -⟩ := fwdIdxs t
  have hr := fwdRow_val t
  have hh : (fwdHead t).val = t.val / 8 := rfl
  constructor
  · intro a r d
    refine (at2 (V c main_v62 : Vec Ideal S8192x11264 .f32) (((cfg0.win 0).blk t).view.emb _) _ _ ?_ ?_).trans (hV.x _ _)
    · show win0_0.index t 0 * 1024 + 1 * (a.val * 128 + r.val) = (row (fwdChunk t + a) r).val; rw [hr]; omega
    · show win0_0.index t 1 * 256 + 1 * d.val = (fwdHead t).val * 256 + d.val; omega
  · intro a r d
    refine (at2 (V c main_v62 : Vec Ideal S8192x11264 .f32) (((cfg0.win 1).blk t).view.emb _) _ _ ?_ ?_).trans (hV.x _ _)
    · show win0_1.index t 0 * 1024 + 1 * (a.val * 128 + r.val) = (row (fwdChunk t + a) r).val; rw [hr]; omega
    · show win0_1.index t 1 * 256 + 1 * d.val = 1024 + ((fwdHead t).val * 256 + d.val); omega
  · intro a r j
    refine (at2 (V c main_v62 : Vec Ideal S8192x11264 .f32) (((cfg0.win 2).blk t).view.emb _) _ _ ?_ ?_).trans (hV.x _ _)
    · show win0_2.index t 0 * 1024 + 1 * (a.val * 128 + r.val) = (row (fwdChunk t + a) r).val; rw [hr]; omega
    · show win0_2.index t 1 * 512 + 1 * j.val = 2048 + ((fwdHead t).val * 512 + j.val); omega
  · intro a r j
    refine (at2 (V c main_v62 : Vec Ideal S8192x11264 .f32) (((cfg0.win 3).blk t).view.emb _) _ _ ?_ ?_).trans (hV.x _ _)
    · show win0_3.index t 0 * 1024 + 1 * (a.val * 128 + r.val) = (row (fwdChunk t + a) r).val; rw [hr]; omega
    · show win0_3.index t 1 * 512 + 1 * j.val = 4096 + ((fwdHead t).val * 512 + j.val); omega
  · intro a r d
    refine (at2 (V c main_v13 : Vec Ideal S8192x128 .f32) (((cfg0.win 4).blk t).view.emb _) _ _ ?_ ?_).trans (hV.cos _ _)
    · show win0_4.index t 0 * 1024 + 1 * (a.val * 128 + r.val) = (row (fwdChunk t + a) r).val; rw [hr]; omega
    · show win0_4.index t 1 * 128 + 1 * d.val = d.val; omega
  · intro a r d
    refine (at2 (V c main_v14 : Vec Ideal S8192x128 .f32) (((cfg0.win 5).blk t).view.emb _) _ _ ?_ ?_).trans (hV.sin _ _)
    · show win0_5.index t 0 * 1024 + 1 * (a.val * 128 + r.val) = (row (fwdChunk t + a) r).val; rw [hr]; omega
    · show win0_5.index t 1 * 128 + 1 * d.val = d.val; omega
  · intro r s
    refine (at3 (V c main_v38 : Vec Ideal S4x128x128 .f32) (((cfg0.win 6).blk t).view.emb _) _ _ _ ?_ ?_ ?_).trans (hV.mask _ _ _)
    · show win0_6.index t 0 * 1 + 1 * 0 = (fwdHead t).val; omega
    · show win0_6.index t 1 * 128 + 1 * r.val = r.val; omega
    · show win0_6.index t 2 * 128 + 1 * s.val = s.val; omega
  · intro r
    refine (at3 (V c main_v47 : Vec Ideal S4x128x1 .f32) (((cfg0.win 7).blk t).view.emb _) _ _ _ ?_ ?_ ?_).trans (hV.xi _ _)
    · show win0_7.index t 0 * 1 + 1 * 0 = (fwdHead t).val; omega
    · show win0_7.index t 1 * 128 + 1 * r.val = r.val; omega
    · show win0_7.index t 2 * 1 + 1 * 0 = 0; omega
  · intro r
    refine (at3 (V c main_v56 : Vec Ideal S4x128x1 .f32) (((cfg0.win 8).blk t).view.emb _) _ _ _ ?_ ?_ ?_).trans (hV.zeta _ _)
    · show win0_8.index t 0 * 1 + 1 * 0 = (fwdHead t).val; omega
    · show win0_8.index t 1 * 128 + 1 * r.val = r.val; omega
    · show win0_8.index t 2 * 1 + 1 * 0 = 0; omega
  · skip
    refine (at3 (V c main_v61 : Vec Ideal S4x1x128 .f32) (((cfg0.win 9).blk t).view.emb _) _ _ _ ?_ ?_ ?_).trans (hV.gc _)
    · show win0_9.index t 0 * 1 + 1 * 0 = (fwdHead t).val; omega
    · show win0_9.index t 1 * 1 + 1 * 0 = 0; omega
    · show win0_9.index t 2 * 128 + 1 * 0 = 0; omega

variable {A : Args} (hV : Holds (V c) A)

/-- What a point's work starts from: its head's state before its first chunk. -/
abbrev fwdStart (t : Fin cfg0.N) : Vec Ideal S256x512 .f32 := start (decide (t.val % 8 = 0)) (fwdAcc V c t.val)

/-- The initial state is zero. -/
theorem start_zero (i : Fin 256) (j : Fin 512) : (k0_pay2 (F := Ideal)) (ix2 i j) = (0 : EReal) := by pointwise [k0_pay2]

include hV in
/-- A point starts from its head's state before its first chunk. -/
theorem fwdStart_eq (n : ℕ) : ∀ (hn : n < cfg0.N) i j, fwdStart V c ⟨n, hn⟩ (ix2 i j) = (A.head (fwdHead ⟨n, hn⟩)).st (fwdChunk ⟨n, hn⟩) i j := by
  have hz : ∀ (t : Fin cfg0.N), t.val % 8 = 0 → ∀ i j, fwdStart V c t (ix2 i j) = (A.head (fwdHead t)).st (fwdChunk t) i j := by
    intro t ht i j
    rw [fwdStart, start, decide_eq_true ht, if_pos rfl, start_zero, show fwdChunk t = 0 by show t.val % 8 * 8 = 0; omega]; rfl
  induction n with
  | zero => exact fun hn => hz _ rfl
  | succ n ih =>
    intro hn i j
    by_cases ht : (n + 1) % 8 = 0
    · exact hz ⟨n + 1, hn⟩ ht i j
    rw [fwdStart, start, decide_eq_false ht, if_neg Bool.false_ne_true]
    rw [show fwdAcc V c (n + 1) = _ from fwdAcc_succ V c ⟨n, by omega⟩, fwdPt, fwdAt, fwd_acc]
    rw [(fwdAgrees V c hV ⟨n, by omega⟩).state (ih (by omega)) 8 le_rfl]
    rw [show fwdHead ⟨n + 1, hn⟩ = fwdHead ⟨n, by omega⟩ from Fin.ext (by show (n + 1) / 8 = n / 8; omega),
      show fwdChunk ⟨n + 1, hn⟩ = fwdChunk ⟨n, by omega⟩ + 8 by show (n + 1) % 8 * 8 = n % 8 * 8 + 8; omega]

/-- The point of a head's chunk: its head, -/
theorem fwdPoint_head (h : Fin 4) (n : Fin 64) : fwdHead (fwdPoint h n) = h := Fin.ext (by show (h.val * 8 + n.val / 8) / 8 = h.val; omega)
/-- and the chunk among its own. -/
theorem fwdPoint_chunk (h : Fin 4) (n : Fin 64) : fwdChunk (fwdPoint h n) + n.val % 8 = n.val := by
  show (h.val * 8 + n.val / 8) % 8 * 8 + n.val % 8 = n.val; omega

/-- No two points' blocks of a result share an element. -/
theorem fwdDisjoint (w : Fin cfg0.W) (hw : 10 ≤ w.val) : ∀ t t' : Fin cfg0.N, (cfg0.win w).flush t = true → (cfg0.win w).flush t' = true →
    t ≠ t' → Disjoint ((cfg0.win w).blk t).view.set ((cfg0.win w).blk t').view.set := by
  have inj : ∀ t t' : Fin cfg0.N, (cfg0.win w).index t = (cfg0.win w).index t' → t = t' := by
    revert hw; revert w
    exact (by decide +kernel : ∀ w : Fin 14, 10 ≤ w.val → ∀ t t' : Fin grid0.N, (win0 w).index t = (win0 w).index t' → t = t')
  exact fun t t' _ _ hne => (cfg0.win w).disjoint_blk (fun h => hne (inj t t' h))
    (hk := (by decide +kernel : ∀ w : Fin 14, (win0 w).kind = Pipeline.WinKind.blocked) w)

/-- A chunk's place among its point's eight. -/
abbrev within (n : Fin 64) : Fin 8 := ⟨n.val % 8, Nat.mod_lt _ (by decide)⟩

include hV

/-- The gated output, -/
theorem fwdArr_pa (h : Fin 4) (n : Fin 64) (r : Fin 128) (j : Fin 512) :
    ((fwdDat V c).arrAt 10 cfg0.N : Vec Ideal S8192x2048 .bf16) (ix2 (row n r) (oCol h j)) = A.pa h n r j := by
  have hb := congrFun ((fwdDat V c).read_blk_arrAt_eq_flushed 10 (fwdDisjoint 10 (by decide)) cfg0.N (fwdPoint h n) (fwdPoint h n).isLt (flush0_10 _))
    (ix2 (chunkRow (within n) r) j)
  have hi := (fwdIdxs (fwdPoint h n)).2.2.2.2.2.2.2.2.2.2.1
  have ht : (fwdPoint h n).val = h.val * 8 + n.val / 8 := rfl
  refine Eq.trans (at2 _ (((cfg0.win 10).blk (fwdPoint h n)).view.emb (ix2 (chunkRow (within n) r) j)) _ _ ?_ ?_).symm (hb.trans ?_)
  · show win0_10.index _ 0 * 1024 + 1 * (n.val % 8 * 128 + r.val) = (row n r).val
    rw [RetSpec.row_val _ n.isLt]; omega
  · show win0_10.index _ 1 * 512 + 1 * j.val = h.val * 512 + j.val; omega
  show View.canon (fwdPt V c (fwdPoint h n)).pa (ix2 (chunkRow (within n) r) j) = _
  rw [fwdPt, fwdAt, fwd_pa]
  refine (canon_chunks (F := Ideal) (w := 512) (e := .bf16) (fun a => gated ((fwdX V c (fwdPoint h n)).out a ((fwdX V c (fwdPoint h n)).state (fwdStart V c (fwdPoint h n)) a)) (chunk (fwdX V c (fwdPoint h n)).z a)) (within n) r j).trans (((fwdAgrees V c hV (fwdPoint h n)).pa _ (fwdStart_eq V c hV _ _) r j).trans ?_)
  rw [fwdPoint_head, fwdPoint_chunk]

/-- the rows before the norm, -/
theorem fwdArr_o (h : Fin 4) (n : Fin 64) (r : Fin 128) (j : Fin 512) :
    ((fwdDat V c).arrAt 11 cfg0.N : Vec Ideal S8192x2048 .f32) (ix2 (row n r) (oCol h j)) = (A.head h).out n r j := by
  have hb := congrFun ((fwdDat V c).read_blk_arrAt_eq_flushed 11 (fwdDisjoint 11 (by decide)) cfg0.N (fwdPoint h n) (fwdPoint h n).isLt (flush0_11 _))
    (ix2 (chunkRow (within n) r) j)
  have hi := (fwdIdxs (fwdPoint h n)).2.2.2.2.2.2.2.2.2.2.2.1
  have ht : (fwdPoint h n).val = h.val * 8 + n.val / 8 := rfl
  refine Eq.trans (at2 _ (((cfg0.win 11).blk (fwdPoint h n)).view.emb (ix2 (chunkRow (within n) r) j)) _ _ ?_ ?_).symm (hb.trans ?_)
  · show win0_11.index _ 0 * 1024 + 1 * (n.val % 8 * 128 + r.val) = (row n r).val
    rw [RetSpec.row_val _ n.isLt]; omega
  · show win0_11.index _ 1 * 512 + 1 * j.val = h.val * 512 + j.val; omega
  show View.canon (fwdPt V c (fwdPoint h n)).o (ix2 (chunkRow (within n) r) j) = _
  rw [fwdPt, fwdAt, fwd_o]
  have e := canon_chunks (F := Ideal) (w := 512) (e := .f32) (fun a => (fwdX V c (fwdPoint h n)).out a ((fwdX V c (fwdPoint h n)).state (fwdStart V c (fwdPoint h n)) a)) (within n) r j
  have e' := (fwdAgrees V c hV (fwdPoint h n)).out (within n) (fwdStart_eq V c hV _ _) r j
  refine e.trans ?_
  refine e'.trans ?_
  rw [fwdPoint_head, fwdPoint_chunk]

/-- the saved queries, keys and decayed keys, -/
theorem fwdArr_rot (h : Fin 4) (n : Fin 64) (r : Fin 128) (b : Fin 3) (d : Fin 256) :
    ((fwdDat V c).arrAt 13 cfg0.N : Vec Ideal S8192x3072 .bf16) (ix2 (row n r) ⟨h.val * 768 + (b.val * 256 + d.val), by omega⟩) = A.saved h b n r d := by
  have hb := congrFun ((fwdDat V c).read_blk_arrAt_eq_flushed 13 (fwdDisjoint 13 (by decide)) cfg0.N (fwdPoint h n) (fwdPoint h n).isLt (flush0_13 _))
    (ix2 (chunkRow (within n) r) ⟨b.val * 256 + d.val, by omega⟩)
  have hi := (fwdIdxs (fwdPoint h n)).2.2.2.2.2.2.2.2.2.2.2.2.2
  have ht : (fwdPoint h n).val = h.val * 8 + n.val / 8 := rfl
  refine Eq.trans (at2 _ (((cfg0.win 13).blk (fwdPoint h n)).view.emb (ix2 (chunkRow (within n) r) ⟨b.val * 256 + d.val, by omega⟩)) _ _ ?_ ?_).symm (hb.trans ?_)
  · show win0_13.index _ 0 * 1024 + 1 * (n.val % 8 * 128 + r.val) = (row n r).val
    rw [RetSpec.row_val _ n.isLt]; omega
  · show win0_13.index _ 1 * 768 + 1 * (b.val * 256 + d.val) = h.val * 768 + (b.val * 256 + d.val); omega
  show View.canon (fwdPt V c (fwdPoint h n)).rot (ix2 (chunkRow (within n) r) ⟨b.val * 256 + d.val, by omega⟩) = _
  rw [fwdPt, fwdAt, fwd_rot]
  refine (canon_rot (fun a b => _) (within n) b r d).trans (((fwdAgrees V c hV (fwdPoint h n)).saved (within n) b r d).trans ?_)
  rw [fwdPoint_head, fwdPoint_chunk]

/-- and the states before the chunks. -/
theorem fwdArr_st (h : Fin 4) (n : Fin 64) (i : Fin 256) (j : Fin 512) :
    ((fwdDat V c).arrAt 12 cfg0.N : Vec Ideal S4x64x256x512 .bf16) (ix4 h n i j) = (A.head h).st n i j := by
  have hb := congrFun ((fwdDat V c).read_blk_arrAt_eq_flushed 12 (fwdDisjoint 12 (by decide)) cfg0.N (fwdPoint h n) (fwdPoint h n).isLt (flush0_12 _))
    (ix4 0 (within n) i j)
  have hi := (fwdIdxs (fwdPoint h n)).2.2.2.2.2.2.2.2.2.2.2.2.1
  have ht : (fwdPoint h n).val = h.val * 8 + n.val / 8 := rfl
  refine Eq.trans (at4 _ (((cfg0.win 12).blk (fwdPoint h n)).view.emb (ix4 0 (within n) i j)) _ _ _ _ ?_ ?_ ?_ ?_).symm (hb.trans ?_)
  · show win0_12.index _ 0 * 1 + 1 * 0 = h.val; omega
  · show win0_12.index _ 1 * 8 + 1 * (n.val % 8) = n.val; omega
  · show win0_12.index _ 2 * 256 + 1 * i.val = i.val; omega
  · show win0_12.index _ 3 * 512 + 1 * j.val = j.val; omega
  show View.canon (fwdPt V c (fwdPoint h n)).st (ix4 0 (within n) i j) = _
  rw [fwdPt, fwdAt, fwd_st]
  refine (canon_states (fun a => _) (within n) i j).trans ((saved_state _ i j).trans (((fwdAgrees V c hV (fwdPoint h n)).state (fwdStart_eq V c hV _ _)
    _ (show n.val % 8 ≤ 8 by omega) i j).trans ?_))
  rw [fwdPoint_head, fwdPoint_chunk]

end Cert.Proof.Ret
end
end
-- ==== Proof.RetBwd.lean ====
/- The backward retention call as one region of the program: its proof data, its body's obligation, and its invariant's two
   ends. -/
module

public import proofs.«01_k».proof.Proof.RetBwdPoint

@[expose] public section

set_option maxRecDepth 16384

noncomputable section

namespace Cert.Proof.Ret

open Cert.RetIdeal Cert.RetIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → Valuation τ sig (Elt F))

/-- The proof data: the arrays as the region finds them; after point `t` each argument's buffer at its block and each
    result's at what the point's stores leave; between points the carried gradient of the state; nothing owed. -/
def bwdDat (c : Dev nD) : Dat τ (Elt F) Unit ℕ (UR sig nD τ) ℕ cfg1 c where
  A w := V c (Pipeline.arrRef spec1 w)
  after w t := match w with
    | ⟨0, _⟩ => bwdBlk V c 0 t
    | ⟨1, _⟩ => bwdBlk V c 1 t
    | ⟨2, _⟩ => bwdBlk V c 2 t
    | ⟨3, _⟩ => bwdBlk V c 3 t
    | ⟨4, _⟩ => bwdBlk V c 4 t
    | ⟨5, _⟩ => bwdBlk V c 5 t
    | ⟨6, _⟩ => bwdBlk V c 6 t
    | ⟨7, _⟩ => bwdBlk V c 7 t
    | ⟨8, _⟩ => bwdBlk V c 8 t
    | ⟨9, _⟩ => bwdBlk V c 9 t
    | ⟨10, _⟩ => bwdBlk V c 10 t
    | ⟨11, _⟩ => bwdBlk V c 11 t
    | ⟨12, _⟩ => View.canon (bwdPt V c t).out
  Φ t := iprop((∃ s, owns (c : Thread nD τ) (Memref.whole cc1_scratch0) fullShare s ∗ ⌜t.val % 8 ≠ 0 → s = bwdAcc V c t.val⌝)
    ∗ Pipeline.scopedRestBut (Ix := Unit) (Name := ℕ) (U := UR sig nD τ) (Lvl := ℕ) (Val := Elt F) spec1 c [cc1_scratch0] ∗ (∃ r, prngReg c r))
  q w := Pipeline.shareOf spec1 w
  owed _ := 0

/-- The data's arrays are the contents that the region is entered with. -/
theorem bwdDat_A (c : Dev nD) (w : Fin cfg1.W) : (bwdDat V c).A w = V c (Pipeline.arrRef spec1 w) := by
  dsimp only [bwdDat]

/-- The buffer `dp` holds its block before each point. -/
theorem bwdBefore_dp (c : Dev nD) (t : Fin cfg1.N) (d) : (bwdDat V c).before 0 t d = bwdBlk V c 0 t :=
  ((bwdDat V c).before_in_eq_fetched 0 rfl (fun _ => rfl) (fun _ _ _ => rfl) (fun _ => rfl) t d).trans rfl

/-- The buffer `o` holds its block before each point. -/
theorem bwdBefore_o (c : Dev nD) (t : Fin cfg1.N) (d) : (bwdDat V c).before 1 t d = bwdBlk V c 1 t :=
  ((bwdDat V c).before_in_eq_fetched 1 rfl (fun _ => rfl) (fun _ _ _ => rfl) (fun _ => rfl) t d).trans rfl

/-- The buffer `rot` holds its block before each point. -/
theorem bwdBefore_rot (c : Dev nD) (t : Fin cfg1.N) (d) : (bwdDat V c).before 2 t d = bwdBlk V c 2 t :=
  ((bwdDat V c).before_in_eq_fetched 2 rfl (fun _ => rfl) (fun _ _ _ => rfl) (fun _ => rfl) t d).trans rfl

/-- The buffer `v` holds its block before each point. -/
theorem bwdBefore_v (c : Dev nD) (t : Fin cfg1.N) (d) : (bwdDat V c).before 3 t d = bwdBlk V c 3 t :=
  ((bwdDat V c).before_in_eq_fetched 3 rfl (fun _ => rfl) (fun _ _ _ => rfl) (fun _ => rfl) t d).trans rfl

/-- The buffer `z` holds its block before each point. -/
theorem bwdBefore_z (c : Dev nD) (t : Fin cfg1.N) (d) : (bwdDat V c).before 4 t d = bwdBlk V c 4 t :=
  ((bwdDat V c).before_in_eq_fetched 4 rfl (fun _ => rfl) (fun _ _ _ => rfl) (fun _ => rfl) t d).trans rfl

/-- The buffer `st` holds its block before each point. -/
theorem bwdBefore_st (c : Dev nD) (t : Fin cfg1.N) (d) : (bwdDat V c).before 5 t d = bwdBlk V c 5 t :=
  ((bwdDat V c).before_in_eq_fetched 5 rfl (fun _ => rfl) (fun _ _ _ => rfl) (fun _ => rfl) t d).trans rfl

/-- The buffer `cos` holds its block before each point. -/
theorem bwdBefore_cos (c : Dev nD) (t : Fin cfg1.N) (d) : (bwdDat V c).before 6 t d = bwdBlk V c 6 t :=
  ((bwdDat V c).before_in_eq_fetched 6 rfl (fun _ => rfl) (fun _ _ _ => rfl) (fun _ => rfl) t d).trans rfl

/-- The buffer `sin` holds its block before each point. -/
theorem bwdBefore_sin (c : Dev nD) (t : Fin cfg1.N) (d) : (bwdDat V c).before 7 t d = bwdBlk V c 7 t :=
  ((bwdDat V c).before_in_eq_fetched 7 rfl (fun _ => rfl) (fun _ _ _ => rfl) (fun _ => rfl) t d).trans rfl

/-- The buffer `mask` holds its block before each point. -/
theorem bwdBefore_mask (c : Dev nD) (t : Fin cfg1.N) (d) : (bwdDat V c).before 8 t d = bwdBlk V c 8 t :=
  ((bwdDat V c).before_in_eq_fetched 8 rfl (fun _ => rfl) (fun _ _ _ => rfl) (fun _ => rfl) t d).trans rfl

/-- The buffer `xi` holds its block before each point. -/
theorem bwdBefore_xi (c : Dev nD) (t : Fin cfg1.N) (d) : (bwdDat V c).before 9 t d = bwdBlk V c 9 t :=
  ((bwdDat V c).before_in_eq_fetched 9 rfl (fun _ => rfl) (fun _ _ _ => rfl) (fun _ => rfl) t d).trans rfl

/-- The buffer `zeta` holds its block before each point. -/
theorem bwdBefore_zeta (c : Dev nD) (t : Fin cfg1.N) (d) : (bwdDat V c).before 10 t d = bwdBlk V c 10 t :=
  ((bwdDat V c).before_in_eq_fetched 10 rfl (fun _ => rfl) (fun _ _ _ => rfl) (fun _ => rfl) t d).trans rfl

/-- The buffer `gc` holds its block before each point. -/
theorem bwdBefore_gc (c : Dev nD) (t : Fin cfg1.N) (d) : (bwdDat V c).before 11 t d = bwdBlk V c 11 t :=
  ((bwdDat V c).before_in_eq_fetched 11 rfl (fun _ => rfl) (fun _ _ _ => rfl) (fun _ => rfl) t d).trans rfl

/-- What a point's body is called with, -/
def bwdPre (c : Dev nD) (t : Fin cfg1.N) : sProp 𝕄 :=
  iprop((bwdDat V c).Φ t.castSucc ∗ (bwdDat V c).owesAt () t.castSucc
    ∗ (∃ d, owns (c : Thread nD τ) (st1_0 t) fullShare ((bwdDat V c).before 0 t d))
    ∗ (∃ d, owns (c : Thread nD τ) (st1_1 t) fullShare ((bwdDat V c).before 1 t d))
    ∗ (∃ d, owns (c : Thread nD τ) (st1_2 t) fullShare ((bwdDat V c).before 2 t d))
    ∗ (∃ d, owns (c : Thread nD τ) (st1_3 t) fullShare ((bwdDat V c).before 3 t d))
    ∗ (∃ d, owns (c : Thread nD τ) (st1_4 t) fullShare ((bwdDat V c).before 4 t d))
    ∗ (∃ d, owns (c : Thread nD τ) (st1_5 t) fullShare ((bwdDat V c).before 5 t d))
    ∗ (∃ d, owns (c : Thread nD τ) (st1_6 t) fullShare ((bwdDat V c).before 6 t d))
    ∗ (∃ d, owns (c : Thread nD τ) (st1_7 t) fullShare ((bwdDat V c).before 7 t d))
    ∗ (∃ d, owns (c : Thread nD τ) (st1_8 t) fullShare ((bwdDat V c).before 8 t d))
    ∗ (∃ d, owns (c : Thread nD τ) (st1_9 t) fullShare ((bwdDat V c).before 9 t d))
    ∗ (∃ d, owns (c : Thread nD τ) (st1_10 t) fullShare ((bwdDat V c).before 10 t d))
    ∗ (∃ d, owns (c : Thread nD τ) (st1_11 t) fullShare ((bwdDat V c).before 11 t d))
    ∗ (∃ d, owns (c : Thread nD τ) (st1_12 t) fullShare ((bwdDat V c).before 12 t d)))

/-- and what it returns. -/
def bwdPost (c : Dev nD) (t : Fin cfg1.N) : sProp 𝕄 :=
  iprop((bwdDat V c).Φ t.succ ∗ (bwdDat V c).owesAt () t.succ
    ∗ owns (c : Thread nD τ) (st1_0 t) fullShare ((bwdDat V c).after 0 t)
    ∗ owns (c : Thread nD τ) (st1_1 t) fullShare ((bwdDat V c).after 1 t)
    ∗ owns (c : Thread nD τ) (st1_2 t) fullShare ((bwdDat V c).after 2 t)
    ∗ owns (c : Thread nD τ) (st1_3 t) fullShare ((bwdDat V c).after 3 t)
    ∗ owns (c : Thread nD τ) (st1_4 t) fullShare ((bwdDat V c).after 4 t)
    ∗ owns (c : Thread nD τ) (st1_5 t) fullShare ((bwdDat V c).after 5 t)
    ∗ owns (c : Thread nD τ) (st1_6 t) fullShare ((bwdDat V c).after 6 t)
    ∗ owns (c : Thread nD τ) (st1_7 t) fullShare ((bwdDat V c).after 7 t)
    ∗ owns (c : Thread nD τ) (st1_8 t) fullShare ((bwdDat V c).after 8 t)
    ∗ owns (c : Thread nD τ) (st1_9 t) fullShare ((bwdDat V c).after 9 t)
    ∗ owns (c : Thread nD τ) (st1_10 t) fullShare ((bwdDat V c).after 10 t)
    ∗ owns (c : Thread nD τ) (st1_11 t) fullShare ((bwdDat V c).after 11 t)
    ∗ owns (c : Thread nD τ) (st1_12 t) fullShare ((bwdDat V c).after 12 t))

set_option maxHeartbeats 1600000 in
/-- The body at any point: the arguments' buffers hold their blocks, the run applies, and the carried gradient of the state is taken over from
    the point before and handed on. -/
theorem bwdSound (c : Dev nD) (t : Fin cfg1.N) :
    bwdPre V c t ⊢ wp frame (wpE (defs₀ (F := F)) Variants.none c none) Set.univ (bodyAt1 t) (fun _ => bwdPost V c t) := by
  unfold bwdPre bwdPost
  simp only [bwdBefore_dp, bwdBefore_o, bwdBefore_rot, bwdBefore_v, bwdBefore_z, bwdBefore_st, bwdBefore_cos, bwdBefore_sin, bwdBefore_mask, bwdBefore_xi, bwdBefore_zeta, bwdBefore_gc]
  rw [show (bwdDat V c).owesAt () t.succ = (bwdDat V c).owesAt () t.castSucc from rfl]
  dsimp only [bwdDat]
  rw [show bodyAt1 t = bwdBody (F := F) (grid1.coords t) (bwdRefs t) from rfl]
  iintro ⟨⟨⟨%s, HS, %hs⟩, Hr, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  have hpt : bwdPt V c t = (bwdRun c (grid1.coords t) (bwdRefs t) (bwdX V c t) s (decide (t.val % 8 = 0)) (bwdFirst_iff t)).1 := by
    unfold bwdPt bwdAt
    by_cases h0 : t.val % 8 = 0
    · exact bwdRun_first c _ _ _ _ _ _ _ (decide_eq_true h0)
    · rw [hs h0]; rfl
  iapply ((bwdRun c (grid1.coords t) (bwdRefs t) (bwdX V c t) s (decide (t.val % 8 = 0)) (bwdFirst_iff t)).2 Set.univ _)
  unfold bwdIns
  isplitl [H0 H1 H2 H3 H4 H5 H6 H7 H8 H9 H10 H11]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  isplitl [H12]; · iexists _; iexact H12
  isplitl [HS]; · iexact HS
  iintro ⟨⟨H0, H1, H2, H3, H4, H5, H6, H7, H8, H9, H10, H11⟩, ⟨%e12, H12⟩, ⟨%es, HS⟩⟩
  rw [← hpt]
  isplitl [HS Hr Hg]
  · isplitl [HS]
    · iexists (bwdAcc V c (t.val + 1))
      isplitl [HS]
      · unfold owns; iexists _; isplitr
        swap; · iexact HS
        ipureintro; rw [bwdAcc_succ]; exact View.read_writes_eq_canon _ _ _ (by rw [hpt]; exact bwdCover_acc c _ _ _ _ _ _)
      · ipureintro; exact fun _ => rfl
    isplitl [Hr]; · iexact Hr
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  unfold owns; iexists _; isplitr
  swap; · iexact H12
  ipureintro; exact View.read_writes_eq_canon _ _ _ (by rw [hpt]; exact bwdCover_out c _ _ _ _ _ _)

/-- The pipeline's obligation of the body, at every point. -/
theorem bwdObligation (c : Dev nD) : BodyObligation (bwdDat (F := F) V c) (defs₀ (F := F)) Variants.none () Set.univ := fun t => by
  rw [bigSep_W1, bigSep_W1, show defs₀ (F := F) .tc cfg1.body (cfg1.bodyArgs t (cfg1.slots t)) = bodyAt1 t by
    unfold defs₀; rw [Defs.onTc_tc]]
  exact triple_restated (bwdSound V c t) rfl .rfl fun _ => .rfl

/-- What the launch hands the region is the invariant before the first point, -/
theorem bwdIn (c : Dev nD) : Pipeline.ΦA spec1 c ⊢ (bwdDat V c).Φ 0 := by
  unfold Pipeline.ΦA; rw [scopedRest1_split]
  dsimp only [bwdDat]
  simp only [owns_whole]
  iintro ⟨⟨⟨%s, HS⟩, Hr⟩, Hg⟩
  isplitl [HS]
  · iexists s
    isplitl [HS]; · iexact HS
    ipureintro; exact fun h => absurd rfl h
  isplitl [Hr]; · iexact Hr
  iexact Hg

/-- and the invariant after the last point gives it back. -/
theorem bwdOut (c : Dev nD) (t : Fin (cfg1.N + 1)) : (bwdDat V c).Φ t ⊢ Pipeline.ΦA spec1 c := by
  unfold Pipeline.ΦA; rw [scopedRest1_split]
  dsimp only [bwdDat]
  simp only [owns_whole]
  iintro ⟨⟨%s, HS, -⟩, Hr, Hg⟩
  isplitl [HS Hr]
  · isplitl [HS]
    · iexists s; iexact HS
    iexact Hr
  iexact Hg

end Cert.Proof.Ret

end

end
-- ==== Proof.RetBwdArr.lean ====
/- The backward retention call's result as a function of the arrays that it is entered with: the gradients of the queries,
   the keys, the values and the gates. -/
module

public import proofs.«01_k».proof.Proof.RetBwdValue
public import proofs.«01_k».proof.Proof.RetFwdArr
public import proofs.«01_k».proof.Proof.RetBwd

@[expose] public section

set_option maxRecDepth 16384

noncomputable section

namespace Cert.Proof.Ret

open Cert.RetIdeal Cert.RetIdeal.Gen
open Idealize.ShloMosaic Idealize.ShloMosaic.TcCoe Idealize.ShloMosaic.Tactic
open Idealize.SL.Sem
open Cert.Proof.RetSpec (Args row qCol kCol vCol zCol oCol)

/-- The arrays that the backward call reads besides hold the layer's gradient and what the forward call saves. -/
structure HoldsSaved (V : Valuation τ sig (Elt Ideal)) (A : Args) : Prop extends Holds V A where
  ct : ∀ R C, (V main_v64 : Vec Ideal S8192x2048 .f32) (ix2 R C) = A.ct R C
  x' : ∀ R C, (V main_v65 : Vec Ideal S8192x11264 .f32) (ix2 R C) = A.x R C
  o : ∀ (h : Fin 4) (n : Fin 64) r j, (V main_v63_1 : Vec Ideal S8192x2048 .f32) (ix2 (row n r) (oCol h j)) = (A.head h).out n r j
  rot : ∀ (h : Fin 4) (n : Fin 64) r (b : Fin 3) (d : Fin 256), (V main_v63_3 : Vec Ideal S8192x3072 .bf16)
    (ix2 (row n r) ⟨h.val * 768 + (b.val * 256 + d.val), by omega⟩) = A.saved h b n r d
  st : ∀ (h : Fin 4) (n : Fin 64) i j, (V main_v63_2 : Vec Ideal S4x64x256x512 .bf16) (ix4 h n i j) = (A.head h).st n i j

/-- The backward call has 32 points. -/
theorem bwdPts : cfg1.N = 32 := by decide +kernel

/-- The head of a point, -/
def bwdHead (t : Fin cfg1.N) : Fin 4 := ⟨t.val / 8, by have := t.isLt; have := bwdPts; omega⟩
/-- and its first chunk: the points of a head go from its last chunks to its first. -/
def bwdChunk (t : Fin cfg1.N) : ℕ := (7 - t.val % 8) * 8
/-- It is one of the first 57. -/
theorem bwdChunk_le (t : Fin cfg1.N) : bwdChunk t ≤ 56 := by show (7 - t.val % 8) * 8 ≤ 56; omega
/-- A chunk of a point is one of a head's 64. -/
abbrev bwdNth (t : Fin cfg1.N) (a : Fin 8) : Fin 64 := ⟨bwdChunk t + a, by have := bwdChunk_le t; omega⟩

/-- The point of a head's chunk. -/
def bwdPoint (h : Fin 4) (n : Fin 64) : Fin cfg1.N := ⟨h.val * 8 + (7 - n.val / 8), by have := bwdPts; omega⟩

/-- The backward windows' block indices. -/
theorem bwdIdxs : ∀ t : Fin cfg1.N,
    (win1_0.index t (0 : Fin 2) = 7 - t.val % 8 ∧ win1_0.index t (1 : Fin 2) = t.val / 8)
    ∧ (win1_1.index t (0 : Fin 2) = 7 - t.val % 8 ∧ win1_1.index t (1 : Fin 2) = t.val / 8)
    ∧ (win1_2.index t (0 : Fin 2) = 7 - t.val % 8 ∧ win1_2.index t (1 : Fin 2) = t.val / 8)
    ∧ (win1_3.index t (0 : Fin 2) = 7 - t.val % 8 ∧ win1_3.index t (1 : Fin 2) = 4 + t.val / 8)
    ∧ (win1_4.index t (0 : Fin 2) = 7 - t.val % 8 ∧ win1_4.index t (1 : Fin 2) = 8 + t.val / 8)
    ∧ (win1_5.index t (0 : Fin 4) = t.val / 8 ∧ win1_5.index t (1 : Fin 4) = 7 - t.val % 8 ∧ win1_5.index t (2 : Fin 4) = 0
      ∧ win1_5.index t (3 : Fin 4) = 0)
    ∧ (win1_6.index t (0 : Fin 2) = 7 - t.val % 8 ∧ win1_6.index t (1 : Fin 2) = 0)
    ∧ (win1_7.index t (0 : Fin 2) = 7 - t.val % 8 ∧ win1_7.index t (1 : Fin 2) = 0)
    ∧ (win1_8.index t (0 : Fin 3) = t.val / 8 ∧ win1_8.index t (1 : Fin 3) = 0 ∧ win1_8.index t (2 : Fin 3) = 0)
    ∧ (win1_9.index t (0 : Fin 3) = t.val / 8 ∧ win1_9.index t (1 : Fin 3) = 0 ∧ win1_9.index t (2 : Fin 3) = 0)
    ∧ (win1_10.index t (0 : Fin 3) = t.val / 8 ∧ win1_10.index t (1 : Fin 3) = 0 ∧ win1_10.index t (2 : Fin 3) = 0)
    ∧ (win1_11.index t (0 : Fin 3) = t.val / 8 ∧ win1_11.index t (1 : Fin 3) = 0 ∧ win1_11.index t (2 : Fin 3) = 0)
    ∧ (win1_12.index t (0 : Fin 2) = 7 - t.val % 8 ∧ win1_12.index t (1 : Fin 2) = t.val / 8) :=
  (by decide +kernel : ∀ t : Fin grid1.N, _)

/-- Row `r` of chunk `a` of a point's block lies at row `r` of the point's chunk. -/
theorem bwdRow_val (t : Fin cfg1.N) (a : Fin 8) (r : Fin 128) :
    (row (bwdChunk t + a) r).val = (7 - t.val % 8) * 1024 + (a.val * 128 + r.val) := by
  have : bwdChunk t = (7 - t.val % 8) * 8 := rfl
  rw [RetSpec.row_val _ (by omega)]; omega

variable (V : (c : Dev nD) → Valuation τ sig (Elt Ideal)) (c : Dev nD)

set_option maxHeartbeats 1000000 in
/-- A point's blocks hold the rows of its head from its first chunk on. -/
theorem bwdAgrees {A : Args} (hV : HoldsSaved (V c) A) (t : Fin cfg1.N) : BwdAgrees (bwdX V c t) A (bwdHead t) (bwdChunk t) := by
  obtain ⟨e0, e1, e2, e3, e4, e5, e6, e7, e8, e9, e10, e11, -⟩ := bwdIdxs t
  have hr := bwdRow_val t
  have hh : (bwdHead t).val = t.val / 8 := rfl
  have hn : bwdChunk t = (7 - t.val % 8) * 8 := rfl
  constructor
  · intro a r j
    refine (at2 (V c main_v64 : Vec Ideal S8192x2048 .f32) (((cfg1.win 0).blk t).view.emb _) _ _ ?_ ?_).trans (hV.ct _ _)
    · show win1_0.index t 0 * 1024 + 1 * (a.val * 128 + r.val) = (row (bwdChunk t + a) r).val; rw [hr]; omega
    · show win1_0.index t 1 * 512 + 1 * j.val = (bwdHead t).val * 512 + j.val; omega
  · intro a r j
    refine (at2 (V c main_v63_1 : Vec Ideal S8192x2048 .f32) (((cfg1.win 1).blk t).view.emb _) _ _ ?_ ?_).trans (hV.o _ (bwdNth t a) _ _)
    · show win1_1.index t 0 * 1024 + 1 * (a.val * 128 + r.val) = (row (bwdChunk t + a) r).val; rw [hr]; omega
    · show win1_1.index t 1 * 512 + 1 * j.val = (bwdHead t).val * 512 + j.val; omega
  · intro a b r d
    refine (at2 (V c main_v63_3 : Vec Ideal S8192x3072 .bf16) (((cfg1.win 2).blk t).view.emb _) _ _ ?_ ?_).trans (hV.rot (bwdHead t) (bwdNth t a) _ b d)
    · show win1_2.index t 0 * 1024 + 1 * (a.val * 128 + r.val) = (row (bwdChunk t + a) r).val; rw [hr]; omega
    · show win1_2.index t 1 * 768 + 1 * (b.val * 256 + d.val) = (bwdHead t).val * 768 + (b.val * 256 + d.val); omega
  · intro a r j
    refine (at2 (V c main_v65 : Vec Ideal S8192x11264 .f32) (((cfg1.win 3).blk t).view.emb _) _ _ ?_ ?_).trans (hV.x' _ _)
    · show win1_3.index t 0 * 1024 + 1 * (a.val * 128 + r.val) = (row (bwdChunk t + a) r).val; rw [hr]; omega
    · show win1_3.index t 1 * 512 + 1 * j.val = 2048 + ((bwdHead t).val * 512 + j.val); omega
  · intro a r j
    refine (at2 (V c main_v65 : Vec Ideal S8192x11264 .f32) (((cfg1.win 4).blk t).view.emb _) _ _ ?_ ?_).trans (hV.x' _ _)
    · show win1_4.index t 0 * 1024 + 1 * (a.val * 128 + r.val) = (row (bwdChunk t + a) r).val; rw [hr]; omega
    · show win1_4.index t 1 * 512 + 1 * j.val = 4096 + ((bwdHead t).val * 512 + j.val); omega
  · intro a i j
    refine (at4 (V c main_v63_2 : Vec Ideal S4x64x256x512 .bf16) (((cfg1.win 5).blk t).view.emb _) _ _ _ _ ?_ ?_ ?_ ?_).trans
      (hV.st (bwdHead t) (bwdNth t a) i j)
    · show win1_5.index t 0 * 1 + 1 * 0 = (bwdHead t).val; omega
    · show win1_5.index t 1 * 8 + 1 * a.val = bwdChunk t + a.val; omega
    · show win1_5.index t 2 * 256 + 1 * i.val = i.val; omega
    · show win1_5.index t 3 * 512 + 1 * j.val = j.val; omega
  · intro a r d
    refine (at2 (V c main_v13 : Vec Ideal S8192x128 .f32) (((cfg1.win 6).blk t).view.emb _) _ _ ?_ ?_).trans (hV.cos _ _)
    · show win1_6.index t 0 * 1024 + 1 * (a.val * 128 + r.val) = (row (bwdChunk t + a) r).val; rw [hr]; omega
    · show win1_6.index t 1 * 128 + 1 * d.val = d.val; omega
  · intro a r d
    refine (at2 (V c main_v14 : Vec Ideal S8192x128 .f32) (((cfg1.win 7).blk t).view.emb _) _ _ ?_ ?_).trans (hV.sin _ _)
    · show win1_7.index t 0 * 1024 + 1 * (a.val * 128 + r.val) = (row (bwdChunk t + a) r).val; rw [hr]; omega
    · show win1_7.index t 1 * 128 + 1 * d.val = d.val; omega
  · intro r s
    refine (at3 (V c main_v38 : Vec Ideal S4x128x128 .f32) (((cfg1.win 8).blk t).view.emb _) _ _ _ ?_ ?_ ?_).trans (hV.mask _ _ _)
    · show win1_8.index t 0 * 1 + 1 * 0 = (bwdHead t).val; omega
    · show win1_8.index t 1 * 128 + 1 * r.val = r.val; omega
    · show win1_8.index t 2 * 128 + 1 * s.val = s.val; omega
  · intro r
    refine (at3 (V c main_v47 : Vec Ideal S4x128x1 .f32) (((cfg1.win 9).blk t).view.emb _) _ _ _ ?_ ?_ ?_).trans (hV.xi _ _)
    · show win1_9.index t 0 * 1 + 1 * 0 = (bwdHead t).val; omega
    · show win1_9.index t 1 * 128 + 1 * r.val = r.val; omega
    · show win1_9.index t 2 * 1 + 1 * 0 = 0; omega
  · intro r
    refine (at3 (V c main_v56 : Vec Ideal S4x128x1 .f32) (((cfg1.win 10).blk t).view.emb _) _ _ _ ?_ ?_ ?_).trans (hV.zeta _ _)
    · show win1_10.index t 0 * 1 + 1 * 0 = (bwdHead t).val; omega
    · show win1_10.index t 1 * 128 + 1 * r.val = r.val; omega
    · show win1_10.index t 2 * 1 + 1 * 0 = 0; omega
  · skip
    refine (at3 (V c main_v61 : Vec Ideal S4x1x128 .f32) (((cfg1.win 11).blk t).view.emb _) _ _ _ ?_ ?_ ?_).trans (hV.gc _)
    · show win1_11.index t 0 * 1 + 1 * 0 = (bwdHead t).val; omega
    · show win1_11.index t 1 * 1 + 1 * 0 = 0; omega
    · show win1_11.index t 2 * 128 + 1 * 0 = 0; omega

variable {A : Args} (hV : HoldsSaved (V c) A)

/-- What a point's work starts from: the gradient of its head's state after its last chunk. -/
abbrev bwdStart (t : Fin cfg1.N) : Vec Ideal S256x512 .f32 := start (decide (t.val % 8 = 0)) (bwdAcc V c t.val)

include hV in
/-- A point starts from the gradient of its head's state after its last chunk. -/
theorem bwdStart_eq (n : ℕ) : ∀ (hn : n < cfg1.N) i j, bwdStart V c ⟨n, hn⟩ (ix2 i j)
    = (A.head (bwdHead ⟨n, hn⟩)).dst (A.dO (bwdHead ⟨n, hn⟩)) (56 - bwdChunk ⟨n, hn⟩) i j := by
  have hz : ∀ (t : Fin cfg1.N), t.val % 8 = 0 → ∀ i j, bwdStart V c t (ix2 i j)
      = (A.head (bwdHead t)).dst (A.dO (bwdHead t)) (56 - bwdChunk t) i j := by
    intro t ht i j
    rw [bwdStart, start, decide_eq_true ht, if_pos rfl, start_zero,
      show 56 - bwdChunk t = 0 by show 56 - (7 - t.val % 8) * 8 = 0; omega]; rfl
  induction n with
  | zero => exact fun hn => hz _ rfl
  | succ n ih =>
    intro hn i j
    by_cases ht : (n + 1) % 8 = 0
    · exact hz ⟨n + 1, hn⟩ ht i j
    rw [bwdStart, start, decide_eq_false ht, if_neg Bool.false_ne_true]
    rw [show bwdAcc V c (n + 1) = _ from bwdAcc_succ V c ⟨n, by omega⟩, bwdPt, bwdAt, bwd_acc]
    rw [(bwdAgrees V c hV ⟨n, by omega⟩).grad (bwdChunk_le _) (ih (by omega)) 8 le_rfl]
    rw [show bwdHead ⟨n + 1, hn⟩ = bwdHead ⟨n, by omega⟩ from Fin.ext (by show (n + 1) / 8 = n / 8; omega),
      show 56 - bwdChunk ⟨n + 1, hn⟩ = 56 - bwdChunk ⟨n, by omega⟩ + 8 by
        show 56 - (7 - (n + 1) % 8) * 8 = 56 - (7 - n % 8) * 8 + 8; omega]

/-- The point of a head's chunk: its head, -/
theorem bwdPoint_head (h : Fin 4) (n : Fin 64) : bwdHead (bwdPoint h n) = h :=
  Fin.ext (by show (h.val * 8 + (7 - n.val / 8)) / 8 = h.val; omega)
/-- and the chunk among its own. -/
theorem bwdPoint_chunk (h : Fin 4) (n : Fin 64) : bwdChunk (bwdPoint h n) + n.val % 8 = n.val := by
  show (7 - (h.val * 8 + (7 - n.val / 8)) % 8) * 8 + n.val % 8 = n.val; omega

/-- No two points' blocks of the result share an element. -/
theorem bwdDisjoint : ∀ t t' : Fin cfg1.N, (cfg1.win 12).flush t = true → (cfg1.win 12).flush t' = true →
    t ≠ t' → Disjoint ((cfg1.win 12).blk t).view.set ((cfg1.win 12).blk t').view.set :=
  fun t t' _ _ hne => (cfg1.win 12).disjoint_blk fun h =>
    hne ((by decide +kernel : ∀ t t' : Fin grid1.N, win1_12.index t = win1_12.index t' → t = t') t t' h)

/-- The result array where a point's block has column `j`. -/
theorem bwdArr_out (h : Fin 4) (n : Fin 64) (r : Fin 128) (j : Fin 1536) :
    ((bwdDat V c).arrAt 12 cfg1.N : Vec Ideal S8192x6144 .bf16) (ix2 (row n r) ⟨h.val * 1536 + j.val, by omega⟩)
      = View.canon (bwdPt V c (bwdPoint h n)).out (ix2 (chunkRow (within n) r) j) := by
  have hb := congrFun ((bwdDat V c).read_blk_arrAt_eq_flushed 12 bwdDisjoint cfg1.N (bwdPoint h n) (bwdPoint h n).isLt (flush1_12 _))
    (ix2 (chunkRow (within n) r) j)
  have hi := (bwdIdxs (bwdPoint h n)).2.2.2.2.2.2.2.2.2.2.2.2
  have ht : (bwdPoint h n).val = h.val * 8 + (7 - n.val / 8) := rfl
  refine Eq.trans (at2 _ (((cfg1.win 12).blk (bwdPoint h n)).view.emb (ix2 (chunkRow (within n) r) j)) _ _ ?_ ?_).symm (hb.trans rfl)
  · show win1_12.index _ 0 * 1024 + 1 * (n.val % 8 * 128 + r.val) = (row n r).val
    rw [RetSpec.row_val _ n.isLt]; omega
  · show win1_12.index _ 1 * 1536 + 1 * j.val = h.val * 1536 + j.val; omega

include hV

/-- The gradients of the queries, -/
theorem bwdArr_q (h : Fin 4) (n : Fin 64) (r : Fin 128) (d : Fin 256) :
    ((bwdDat V c).arrAt 12 cfg1.N : Vec Ideal S8192x6144 .bf16) (ix2 (row n r) ⟨h.val * 1536 + (0 + d.val), by omega⟩) = A.gq h n r d := by
  refine (bwdArr_out V c h n r ⟨0 + d.val, by omega⟩).trans ?_
  rw [bwdPt, bwdAt, bwd_out]
  have e := (bwdAgrees V c hV (bwdPoint h n)).dq (within n) r d
  rw [bwdPoint_head, bwdPoint_chunk] at e
  exact (canon_out_q (F := Ideal) _ _ _ _ (within n) r d).trans e

/-- of the keys, -/
theorem bwdArr_k (h : Fin 4) (n : Fin 64) (r : Fin 128) (d : Fin 256) :
    ((bwdDat V c).arrAt 12 cfg1.N : Vec Ideal S8192x6144 .bf16) (ix2 (row n r) ⟨h.val * 1536 + (256 + d.val), by omega⟩) = A.gk h n r d := by
  refine (bwdArr_out V c h n r ⟨256 + d.val, by omega⟩).trans ?_
  rw [bwdPt, bwdAt, bwd_out]
  have e := (bwdAgrees V c hV (bwdPoint h n)).dk (within n) (bwdChunk_le _) (bwdStart_eq V c hV _ _) r d
  rw [bwdPoint_head, bwdPoint_chunk] at e
  exact (canon_out_k (F := Ideal) _ _ _ _ (within n) r d).trans e

/-- of the values -/
theorem bwdArr_v (h : Fin 4) (n : Fin 64) (r : Fin 128) (d : Fin 512) :
    ((bwdDat V c).arrAt 12 cfg1.N : Vec Ideal S8192x6144 .bf16) (ix2 (row n r) ⟨h.val * 1536 + (512 + d.val), by omega⟩) = A.gv h n r d := by
  refine (bwdArr_out V c h n r ⟨512 + d.val, by omega⟩).trans ?_
  rw [bwdPt, bwdAt, bwd_out]
  have e := (bwdAgrees V c hV (bwdPoint h n)).dv (within n) (bwdChunk_le _) (bwdStart_eq V c hV _ _) r d
  rw [bwdPoint_head, bwdPoint_chunk] at e
  exact (canon_out_v (F := Ideal) _ _ _ _ (within n) r d).trans e

/-- and of the gates. -/
theorem bwdArr_z (h : Fin 4) (n : Fin 64) (r : Fin 128) (d : Fin 512) :
    ((bwdDat V c).arrAt 12 cfg1.N : Vec Ideal S8192x6144 .bf16) (ix2 (row n r) ⟨h.val * 1536 + (1024 + d.val), by omega⟩) = A.gz h n r d := by
  refine (bwdArr_out V c h n r ⟨1024 + d.val, by omega⟩).trans ?_
  rw [bwdPt, bwdAt, bwd_out]
  have e := (bwdAgrees V c hV (bwdPoint h n)).dz (within n) r d
  rw [bwdPoint_head, bwdPoint_chunk] at e
  exact (canon_out_z (F := Ideal) _ _ _ _ (within n) r d).trans e

end Cert.Proof.Ret
end
end
-- ==== Proof.RetRun.lean ====
/- The whole program run at any float values: the host lines, the forward retention call, the two slices, the backward
   retention call, as the launch's segments; what the buffers hold at the end. -/
module

public import proofs.«01_k».proof.Proof.RetFwd
public import proofs.«01_k».proof.Proof.RetBwd
public import Idealize.ShloMosaic.Lib.Pipeline.FrameSuffix
public import Idealize.ShloMosaic.Lib.Pipeline.RegionsLoop

@[expose] public section

set_option maxRecDepth 16384

noncomputable section

namespace Cert.Proof.Ret

open Cert.RetIdeal Cert.RetIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg)

variable {F : FTy → Type} [FloatOps F]

local notation "𝕄" => MT nD τ sig Unit (Elt F) ℕ (UR sig nD τ) ℕ

variable (m : (ℓ : Loc nD τ sig) → Buf (Elt F) ℓ)

/-- The buffers after the forward call: its arrays at what the pipeline leaves, every other buffer as entered. -/
def W6 (c : Dev nD) : Valuation τ sig (Elt F) :=
  Pipeline.withArrays spec0 c (V5 m c) fun w => (fwdDat (V5 m) c).arrAt w cfg0.N

/-- An array of the call reads as the pipeline leaves it, -/
theorem W6_arr (c : Dev nD) (w : Fin cfg0.W) :
    W6 m c (Proc.devRef .tc (Pipeline.arrRef spec0 w)) = (fwdDat (V5 m) c).arrAt w cfg0.N := by
  unfold W6; exact (fwdDat (V5 m) c).withArrays_arrAt launch₀0.sharedIn _ (fwdDat_A (V5 m) c) w

/-- another buffer as the call finds it, -/
theorem W6_of_ne (c : Dev nD) (b : Ref sig .tc) (hb : ∀ w, Pipeline.arrRef spec0 w ≠ b) :
    W6 m c (Proc.devRef .tc b) = V5 m c (Proc.devRef .tc b) := by
  unfold W6; exact Pipeline.withArrays_of_ne spec0 c _ _ b hb

/-- and so does an array that the call only reads. -/
theorem W6_of (c : Dev nD) (r : Ref sig .tc) (h : ∀ w : Fin cfg0.W, Pipeline.arrRef spec0 w = r → (cfg0.win w).isOut = false) :
    W6 m c (Proc.devRef .tc r) = V5 m c (Proc.devRef .tc r) := by
  by_cases hw : ∃ w : Fin cfg0.W, Pipeline.arrRef spec0 w = r
  · obtain ⟨w, rfl⟩ := hw
    exact (W6_arr m c w).trans (((fwdDat (V5 m) c).arrAt_in w (h w rfl) _).trans (fwdDat_A (V5 m) c w))
  · exact W6_of_ne m c r fun w e => hw ⟨w, e⟩

/-- The buffers after the two slices between the calls. -/
def W7 (c : Dev nD) : Valuation τ sig (Elt F) := StableHlo.after hostOps1 (W6 m c)

/-- The slices write two buffers only. -/
theorem W7_of (c : Dev nD) (r : Ref sig .tc) (h : r ∉ hostOps1_W) : W7 m c (Proc.devRef .tc r) = W6 m c (Proc.devRef .tc r) :=
  StableHlo.after_of_writes_sub hostOps1 _ hostOps1_writes h

/-- The buffers after the backward call: its arrays at what the pipeline leaves, every other buffer as entered. -/
def W8 (c : Dev nD) : Valuation τ sig (Elt F) :=
  Pipeline.withArrays spec1 c (W7 m c) fun w => (bwdDat (W7 m) c).arrAt w cfg1.N

/-- An array of the call reads as the pipeline leaves it, -/
theorem W8_arr (c : Dev nD) (w : Fin cfg1.W) :
    W8 m c (Proc.devRef .tc (Pipeline.arrRef spec1 w)) = (bwdDat (W7 m) c).arrAt w cfg1.N := by
  unfold W8; exact (bwdDat (W7 m) c).withArrays_arrAt launch₀1.sharedIn _ (bwdDat_A (W7 m) c) w

/-- another buffer as the call finds it, -/
theorem W8_of_ne (c : Dev nD) (b : Ref sig .tc) (hb : ∀ w, Pipeline.arrRef spec1 w ≠ b) :
    W8 m c (Proc.devRef .tc b) = W7 m c (Proc.devRef .tc b) := by
  unfold W8; exact Pipeline.withArrays_of_ne spec1 c _ _ b hb

/-- and so does an array that the call only reads. -/
theorem W8_of (c : Dev nD) (r : Ref sig .tc) (h : ∀ w : Fin cfg1.W, Pipeline.arrRef spec1 w = r → (cfg1.win w).isOut = false) :
    W8 m c (Proc.devRef .tc r) = W7 m c (Proc.devRef .tc r) := by
  by_cases hw : ∃ w : Fin cfg1.W, Pipeline.arrRef spec1 w = r
  · obtain ⟨w, rfl⟩ := hw
    exact (W8_arr m c w).trans (((bwdDat (W7 m) c).arrAt_in w (h w rfl) _).trans (bwdDat_A (W7 m) c w))
  · exact W8_of_ne m c r fun w e => hw ⟨w, e⟩

/-- A buffer that no host line and no call writes ends as launched. -/
theorem W8_arg (c : Dev nD) (r : Ref sig .tc)
    (h1 : ∀ w : Fin cfg1.W, Pipeline.arrRef spec1 w = r → (cfg1.win w).isOut = false) (h2 : r ∉ hostOps1_W)
    (h3 : ∀ w : Fin cfg0.W, Pipeline.arrRef spec0 w = r → (cfg0.win w).isOut = false)
    (h4 : r ∉ hostOps0_4_W) (h5 : r ∉ hostOps0_3_W) (h6 : r ∉ hostOps0_2_W) (h7 : r ∉ hostOps0_1_W) (h8 : r ∉ hostOps0_W) :
    W8 m c (Proc.devRef .tc r) = m ((c : Thread nD τ).loc r) :=
  (W8_of m c r h1).trans <| (W7_of m c r h2).trans <| (W6_of m c r h3).trans <| (V5_of m c r h4).trans <|
    (V4_of m c r h5).trans <| (V3_of m c r h6).trans <| (V2_of m c r h7).trans (V1_of m c r h8)

/-- The two calls' proof data. -/
def pdats : (p : Fin 2) → (c : Dev nD) → Dat τ (Elt F) Unit ℕ (UR sig nD τ) ℕ (cfgs p) c
  | ⟨0, _⟩ => fwdDat (V5 m)
  | ⟨1, _⟩ => bwdDat (W7 m)
  | ⟨_ + 2, h⟩ => absurd h (Nat.not_lt.2 (Nat.le_add_left _ _))

/-- No function of the program has a variant. -/
abbrev 𝒱₀ : Variants := Variants.none
/-- No core owes another anything. -/
abbrev L : GSem nD τ sig → Finset Unit := fun _ => ∅
/-- So every level is the same. -/
abbrev lv : GSem nD τ sig → Unit → ℕ := fun _ _ => 0
/-- What rides beside the buffers: the core's generator register and its dues, at nothing. -/
abbrev R (c : Dev nD) : sProp 𝕄 := iprop((∃ r, prngReg c r) ∗ ∃ W, owes (c : Thread nD τ) (0 : CellTallies nD τ sig Unit) W)

-- the library's region lemmas are stated over the pinned configuration, which unfolds in a metavariable's type
set_option backward.isDefEq.respectTransparency.types false in
/-- The forward call as a segment: entered from every buffer at `V5`, left at `W6`. -/
def fwdReg : Pipeline.RegionSeg (pcfgs (F := F)) adm (pdats m) () defs₀ 𝒱₀ L lv 0 where
  win := launch₀0.win
  block_pos := launch₀0.block_pos
  stage_whole := launch₀0.stage_whole
  K := PEmpty
  osem k := k.elim
  ho := Pipeline.OwnSemFacts.none _
  hbody c := (fwdObligation (V5 m) c).loose
  hwaits := Pipeline.hwaits_of_owed_zero _ _ _ _ L lv 0 fun _ _ => rfl
  pre c := iprop(StableHlo.held (c : Thread nD τ) (Pipeline.ucRefs τ sig) (V5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec0 c (fun b => V5 m c b)
  hentry c := by
    rw [Pipeline.ownSems0_none]
    have hsplit := Pipeline.arrays_of_unscopedBufs_shared (p := 0) (pcfgs (F := F)) adm (pdats m) launch₀0.win launch₀0.sharedIn
      launch₀0.arr_whole c (fun _ _ => rfl) (fun b => V5 m c b) (fwdDat_A (V5 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := fwdIn (V5 m) c
    unfold Pipeline.ΦA at h
    rw [show (pdats m 0 c).Φ 0 = (fwdDat (V5 m) c).Φ 0 from rfl]
    iintro ⟨Hp, -, Hr⟩
    iapply h
    isplitl [Hr]; · iexact Hr
    iexact Hp
  hout c := by
    have h := fwdOut (V5 m) c (Fin.last _)
    unfold Pipeline.ΦA at h
    rw [Pipeline.ownSems0_none, show (pdats m 0 c).Φ (Fin.last _) = (fwdDat (V5 m) c).Φ (Fin.last _) from rfl]
    iintro H
    ihave H' := h $$ H
    icases H' with ⟨Hr, Hp⟩
    isplitl [Hp]; · iexact Hp
    isplitr; · iempintro
    iexact Hr
  hexit c := by
    have hjoin := Pipeline.unscopedBufs_of_arrays_shared (p := 0) (pcfgs (F := F)) adm (Ix := Unit) (Name := ℕ) (U := UR sig nD τ) (Lvl := ℕ)
      launch₀0.win launch₀0.sharedIn launch₀0.arr_whole c (pdats m) (fun _ _ => rfl) (fun b => V5 m c b) (fun b => W6 m c b)
      ((pdats m 0 c).arrAt · cfg0.N) (fun w => (W6_arr m c w).symm)
      (fun b hb => W6_of_ne m c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin
      isplitl [Ha] <;> iassumption
    isplitl [HY]; · iexact HY
    unfold Pipeline.Dat.owesAt Pipeline.owesWithin
    icases HO with ⟨%W, -, HO⟩; iexists W; iexact HO

-- the library's region lemmas are stated over the pinned configuration, which unfolds in a metavariable's type
set_option backward.isDefEq.respectTransparency.types false in
/-- The backward call as a segment: entered from every buffer at `W7`, left at `W8`. -/
def bwdReg : Pipeline.RegionSeg (pcfgs (F := F)) adm (pdats m) () defs₀ 𝒱₀ L lv 1 where
  win := launch₀1.win
  block_pos := launch₀1.block_pos
  stage_whole := launch₀1.stage_whole
  K := PEmpty
  osem k := k.elim
  ho := Pipeline.OwnSemFacts.none _
  hbody c := (bwdObligation (W7 m) c).loose
  hwaits := Pipeline.hwaits_of_owed_zero _ _ _ _ L lv 1 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec1 c (fun b => W7 m c b)
  hentry c := by
    rw [Pipeline.ownSems0_none]
    have hsplit := Pipeline.arrays_of_unscopedBufs_shared (p := 1) (pcfgs (F := F)) adm (pdats m) launch₀1.win launch₀1.sharedIn
      launch₀1.arr_whole c (fun _ _ => rfl) (fun b => W7 m c b) (bwdDat_A (W7 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := bwdIn (W7 m) c
    unfold Pipeline.ΦA at h
    rw [show (pdats m 1 c).Φ 0 = (bwdDat (W7 m) c).Φ 0 from rfl]
    iintro ⟨Hp, -, Hr⟩
    iapply h
    isplitl [Hr]; · iexact Hr
    iexact Hp
  hout c := by
    have h := bwdOut (W7 m) c (Fin.last _)
    unfold Pipeline.ΦA at h
    rw [Pipeline.ownSems0_none, show (pdats m 1 c).Φ (Fin.last _) = (bwdDat (W7 m) c).Φ (Fin.last _) from rfl]
    iintro H
    ihave H' := h $$ H
    icases H' with ⟨Hr, Hp⟩
    isplitl [Hp]; · iexact Hp
    isplitr; · iempintro
    iexact Hr
  hexit c := by
    have hjoin := Pipeline.unscopedBufs_of_arrays_shared (p := 1) (pcfgs (F := F)) adm (Ix := Unit) (Name := ℕ) (U := UR sig nD τ) (Lvl := ℕ)
      launch₀1.win launch₀1.sharedIn launch₀1.arr_whole c (pdats m) (fun _ _ => rfl) (fun b => W7 m c b) (fun b => W8 m c b)
      ((pdats m 1 c).arrAt · cfg1.N) (fun w => (W8_arr m c w).symm)
      (fun b hb => W8_of_ne m c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin
      isplitl [Ha] <;> iassumption
    isplitl [HY]; · iexact HY
    unfold Pipeline.Dat.owesAt Pipeline.owesWithin
    icases HO with ⟨%W, -, HO⟩; iexists W; iexact HO

/-- The two slices as a segment. -/
def mid : HostSeg (Ix := Unit) (Name := ℕ) (U := UR sig nD τ) (Lvl := ℕ) (pcfgs (F := F)) defs₀ 𝒱₀ L lv :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (W6 m) R

/-- The program as segments. -/
abbrev parts (_ : Dev nD) : List (Seg (pcfgs (F := F)) adm (pdats m) () defs₀ 𝒱₀ L lv) :=
  [.host (seg0 m 𝒱₀ L lv fun _ => R), .host (seg1 m 𝒱₀ L lv fun _ => R), .host (seg2 m 𝒱₀ L lv fun _ => R),
    .host (seg3 m 𝒱₀ L lv fun _ => R), .host (seg4 m 𝒱₀ L lv fun _ => R), .region (fwdReg m), .host (mid m), .region (bwdReg m)]

-- the kit's implicit arguments unfold plain definitions in a metavariable's type
set_option backward.isDefEq.respectTransparency.types false in
/-- Every fair run ends with each buffer at `W8` and every counter at zero. -/
theorem run_main (ρ : Dev nD → PrngReg) :
    θ_run defs (onTc (τ := τ) (main (F := F))) ⟨m, fun _ => 0, ρ⟩ (fun r =>
      (∀ c : Dev nD, ∀ b ∈ Pipeline.ucRefs τ sig, r.2.mem (c, b) = W8 m c b) ∧ r.2.sem = fun _ => 0) := by
  refine Pipeline.θ_run_regions_kit_dev_sems (pcfgs (F := F)) adm (pdats m) () cellOf_inj emb₁ defs₀ 𝒱₀ L lv m ρ main
    (parts m)
    (fun c Q => by
      rewrite [main_chain c, Seg.run_eq_chain,
        show (parts m c).map Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          StableHlo.seq hostOps1,
          Prog.lift (.customCall (Pipeline.entry 1) ()) ] from rfl]
      dsimp (config := { failIfUnchanged := false }) only
      exact .rfl)
    (fun c => by simp only [parts, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => StableHlo.held (c : Thread nD τ) (Pipeline.ucRefs τ sig) (W8 m c))
    (hch := fun c => ⟨.rfl, .rfl, .rfl, .rfl, .rfl, .rfl, .rfl, .rfl, ?_⟩)
    (hinit := ?_) (QY := fun c s => ∀ b ∈ Pipeline.ucRefs τ sig, s.mem (c, b) = W8 m c b)
    (hfin := fun c s' => ?_) (hQ := fun _ h hz => ⟨h, funext fun g => hz g (.inr (regions_no_unscoped g.2))⟩)
  · show iprop(StableHlo.held (c : Thread nD τ) (Pipeline.ucRefs τ sig) (W8 m c) ∗ R c)
      ⊢ iprop(StableHlo.held (c : Thread nD τ) (Pipeline.ucRefs τ sig) (W8 m c) ∗ ∃ W, owes (c : Thread nD τ) (0 : CellTallies nD τ sig Unit) W)
    iintro ⟨Hh, -, HO⟩
    isplitl [Hh]; · iexact Hh
    iexact HO
  · refine Pipeline.initEach L lv fun c => ?_
    rw [show unscopedBufs c (fun b => m ((c.tc : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  · unfold StableHlo.held
    iintro ⟨Hh, HSI⟩
    imodintro
    iapply (pointsTo_read_all (Pipeline.ucRefs τ sig) (fun b => ((c : Thread nD τ).1, b)) (W8 m c) s')
    isplitl [Hh] <;> iassumption

/-- Every fair run ends with the arguments as launched and the two results at the last contents, every counter at zero. -/
theorem run_results (ρ : Dev nD → PrngReg) :
    θ_run defs (onTc (τ := τ) (main (F := F))) ⟨m, fun _ => 0, ρ⟩ (fun r => (∀ c : Dev nD,
      r.2.mem ((c.tc : Thread nD τ).loc main_v63_0) = W8 m c main_v63_0
      ∧ r.2.mem ((c.tc : Thread nD τ).loc main_v66) = W8 m c main_v66
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => ⟨
    h.1 c (Proc.devRef .tc main_v63_0) (Finset.mem_filter.mpr ⟨StableHlo.devRef_mem_tcRefs main_v63_0, by decide⟩),
    h.1 c (Proc.devRef .tc main_v66) (Finset.mem_filter.mpr ⟨StableHlo.devRef_mem_tcRefs main_v66, by decide⟩),
    (h.1 c _ (Finset.mem_filter.mpr ⟨StableHlo.devRef_mem_tcRefs main_arg0, by decide⟩)).trans
      (W8_arg m c main_arg0 (by decide) (by decide) (by decide) (by decide) (by decide) (by decide) (by decide) (by decide)),
    (h.1 c _ (Finset.mem_filter.mpr ⟨StableHlo.devRef_mem_tcRefs main_arg1, by decide⟩)).trans
      (W8_arg m c main_arg1 (by decide) (by decide) (by decide) (by decide) (by decide) (by decide) (by decide) (by decide)),
    (h.1 c _ (Finset.mem_filter.mpr ⟨StableHlo.devRef_mem_tcRefs main_arg2, by decide⟩)).trans
      (W8_arg m c main_arg2 (by decide) (by decide) (by decide) (by decide) (by decide) (by decide) (by decide) (by decide))⟩,
    h.2⟩) (run_main m ρ)

end Cert.Proof.Ret

end

end
-- ==== Proof.RetHost.lean ====
/- The arrays that the host lines prepare for the two retention calls, read at an index, and the two calls' results as
   functions of the program's arguments. -/
module

public import proofs.«01_k».proof.Proof.RetBwdArr
public import proofs.«01_k».proof.Proof.RetRun
public import Idealize.ShloMosaic.Lib.StableHlo.ReadAt

@[expose] public section

set_option maxRecDepth 16384

noncomputable section

namespace Cert.Proof.Ret

open Cert.RetIdeal Cert.RetIdeal.Gen
open Idealize.ShloMosaic Idealize.ShloMosaic.TcCoe Idealize.ShloMosaic.Tactic
open Idealize.SL.Sem Idealize.ShloMosaic.StableHlo
open Cert.Proof.RetSpec (Args row qCol kCol vCol zCol oCol)

variable (m : (ℓ : Loc nD τ sig) → Buf (Elt Ideal) ℓ) (c : Dev nD)

/-- The layer's arguments as the program is given them. -/
abbrev argsOf : Args := RetSpec.args (fun R C => (m ((c : Thread nD τ).loc main_arg0) : Vec Ideal S1x8192x11264 .f32) (ix3 0 R C))
  (fun R => (m ((c : Thread nD τ).loc main_arg1) : Vec Ideal S1x8192 .i32) (ix2 0 R))
  (fun R C => (m ((c : Thread nD τ).loc main_arg2) : Vec Ideal S1x8192x2048 .f32) (ix3 0 R C))

/-- The constant zero. -/
theorem zero_const (i : S_.Idx) : (constant (F := Ideal) S_ .f32 0#32) i = (0 : EReal) := by
  pointwise []

set_option maxHeartbeats 1000000 in
/-- The host lines prepare the layer's arguments. -/
theorem holds : Holds (V5 m c) (argsOf m c) := by
  constructor
  · intro R C
    refine Eq.trans (b := (m ((c : Thread nD τ).loc main_arg0) : Vec Ideal S1x8192x11264 .f32) (ix3 0 R C)) ?_ rfl
    after_reads_at
  · intro R d
    refine Eq.trans (b := Ideal.cos (RetSpec.angle ((m ((c : Thread nD τ).loc main_arg1) : Vec Ideal S1x8192 .i32) (ix2 0 R)) d)) ?_ rfl
    unfold RetSpec.angle
    after_reads_at
  · intro R d
    refine Eq.trans (b := Ideal.sin (RetSpec.angle ((m ((c : Thread nD τ).loc main_arg1) : Vec Ideal S1x8192 .i32) (ix2 0 R)) d)) ?_ rfl
    unfold RetSpec.angle
    after_reads_at
  · intro h r s
    refine Eq.trans (b := RetSpec.maskT h r s) ?_ rfl
    unfold RetSpec.maskT RetSpec.decay
    after_reads_at
    simp only [id, zero_const]
  · intro h r
    refine Eq.trans (b := RetSpec.xiT h r) ?_ rfl
    unfold RetSpec.xiT RetSpec.decay
    after_reads_at
  · intro h r
    refine Eq.trans (b := RetSpec.zetaT h r) ?_ rfl
    unfold RetSpec.zetaT RetSpec.decay
    after_reads_at
  · intro h
    refine Eq.trans (b := RetSpec.gcT h) ?_ rfl
    unfold RetSpec.gcT RetSpec.decay
    after_reads_at

/-- An argument that the host lines keep. -/
theorem W6_arg (r : Ref sig .tc) (h3 : ∀ w : Fin cfg0.W, Pipeline.arrRef spec0 w = r → (cfg0.win w).isOut = false)
    (h4 : r ∉ hostOps0_4_W) (h5 : r ∉ hostOps0_3_W) (h6 : r ∉ hostOps0_2_W) (h7 : r ∉ hostOps0_1_W) (h8 : r ∉ hostOps0_W) :
    W6 m c (Proc.devRef .tc r) = m ((c : Thread nD τ).loc r) :=
  (W6_of m c r h3).trans <| (V5_of m c r h4).trans <|
    (V4_of m c r h5).trans <| (V3_of m c r h6).trans <| (V2_of m c r h7).trans (V1_of m c r h8)

/-- A buffer that neither the forward call nor the lines after it write. -/
theorem W7_kept (r : Ref sig .tc) (h1 : r ∉ hostOps1_W) (h2 : ∀ w : Fin cfg0.W, Pipeline.arrRef spec0 w = r → (cfg0.win w).isOut = false) :
    W7 m c (Proc.devRef .tc r) = V5 m c (Proc.devRef .tc r) := (W7_of m c r h1).trans (W6_of m c r h2)

/-- A result of the forward call as the backward call finds it. -/
theorem W7_arr (w : Fin cfg0.W) (h : Pipeline.arrRef spec0 w ∉ hostOps1_W) :
    W7 m c (Proc.devRef .tc (Pipeline.arrRef spec0 w)) = (fwdDat (V5 m) c).arrAt w cfg0.N := (W7_of m c _ h).trans (W6_arr m c w)

set_option maxHeartbeats 1000000 in
/-- The backward call is entered with what the forward call saves. -/
theorem holdsSaved : HoldsSaved (W7 m c) (argsOf m c) := by
  have H := holds m c
  constructor
  · constructor
    · exact fun R C => (congrFun (W7_kept m c main_v62 (by decide) (by decide)) _).trans (H.x R C)
    · exact fun R d => (congrFun (W7_kept m c main_v13 (by decide) (by decide)) _).trans (H.cos R d)
    · exact fun R d => (congrFun (W7_kept m c main_v14 (by decide) (by decide)) _).trans (H.sin R d)
    · exact fun h r s => (congrFun (W7_kept m c main_v38 (by decide) (by decide)) _).trans (H.mask h r s)
    · exact fun h r => (congrFun (W7_kept m c main_v47 (by decide) (by decide)) _).trans (H.xi h r)
    · exact fun h r => (congrFun (W7_kept m c main_v56 (by decide) (by decide)) _).trans (H.zeta h r)
    · exact fun h => (congrFun (W7_kept m c main_v61 (by decide) (by decide)) _).trans (H.gc h)
  · intro R C
    refine Eq.trans (b := (W6 m c main_arg2 : Vec Ideal S1x8192x2048 .f32) (ix3 0 R C)) ?_
      (congrFun (W6_arg m c main_arg2 (by decide) (by decide) (by decide) (by decide) (by decide) (by decide)) _)
    show (after hostOps1 (W6 m c) main_v64 : Vec Ideal S8192x2048 .f32) (ix2 R C) = _
    generalize W6 m c = X
    after_reads_at
  · intro R C
    refine Eq.trans (b := (W6 m c main_arg0 : Vec Ideal S1x8192x11264 .f32) (ix3 0 R C)) ?_
      (congrFun (W6_arg m c main_arg0 (by decide) (by decide) (by decide) (by decide) (by decide) (by decide)) _)
    show (after hostOps1 (W6 m c) main_v65 : Vec Ideal S8192x11264 .f32) (ix2 R C) = _
    generalize W6 m c = X
    after_reads_at
  · exact fun h n r j => (congrFun (W7_arr m c 11 (by decide)) _).trans (fwdArr_o (V5 m) c H h n r j)
  · exact fun h n r b d => (congrFun (W7_arr m c 13 (by decide)) _).trans (fwdArr_rot (V5 m) c H h n r b d)
  · exact fun h n i j => (congrFun (W7_arr m c 12 (by decide)) _).trans (fwdArr_st (V5 m) c H h n i j)

/-- The program's first result: the gated output. -/
theorem result_pa (h : Fin 4) (n : Fin 64) (r : Fin 128) (j : Fin 512) :
    (W8 m c main_v63_0 : Vec Ideal S8192x2048 .bf16) (ix2 (row n r) (oCol h j)) = (argsOf m c).pa h n r j :=
  (congrFun ((W8_of m c main_v63_0 (by decide)).trans (W7_arr m c 10 (by decide))) _).trans (fwdArr_pa (V5 m) c (holds m c) h n r j)

/-- Its second result: the gradients of the queries, -/
theorem result_q (h : Fin 4) (n : Fin 64) (r : Fin 128) (d : Fin 256) :
    (W8 m c main_v66 : Vec Ideal S8192x6144 .bf16) (ix2 (row n r) ⟨h.val * 1536 + (0 + d.val), by omega⟩) = (argsOf m c).gq h n r d :=
  (congrFun (W8_arr m c 12) _).trans (bwdArr_q (W7 m) c (holdsSaved m c) h n r d)

/-- of the keys, -/
theorem result_k (h : Fin 4) (n : Fin 64) (r : Fin 128) (d : Fin 256) :
    (W8 m c main_v66 : Vec Ideal S8192x6144 .bf16) (ix2 (row n r) ⟨h.val * 1536 + (256 + d.val), by omega⟩) = (argsOf m c).gk h n r d :=
  (congrFun (W8_arr m c 12) _).trans (bwdArr_k (W7 m) c (holdsSaved m c) h n r d)

/-- of the values -/
theorem result_v (h : Fin 4) (n : Fin 64) (r : Fin 128) (d : Fin 512) :
    (W8 m c main_v66 : Vec Ideal S8192x6144 .bf16) (ix2 (row n r) ⟨h.val * 1536 + (512 + d.val), by omega⟩) = (argsOf m c).gv h n r d :=
  (congrFun (W8_arr m c 12) _).trans (bwdArr_v (W7 m) c (holdsSaved m c) h n r d)

/-- and of the gates. -/
theorem result_z (h : Fin 4) (n : Fin 64) (r : Fin 128) (d : Fin 512) :
    (W8 m c main_v66 : Vec Ideal S8192x6144 .bf16) (ix2 (row n r) ⟨h.val * 1536 + (1024 + d.val), by omega⟩) = (argsOf m c).gz h n r d :=
  (congrFun (W8_arr m c 12) _).trans (bwdArr_z (W7 m) c (holdsSaved m c) h n r d)

end Cert.Proof.Ret
end
end
-- ==== Proof.RetRefOps.lean ====
/-
  The reference program `RetRefIdeal` as lists of host operations. @main is three straight stretches with a counted
  host loop between each two of them, and each loop's body is one more straight stretch. The lists are not written
  out: each is built along the printed program itself, one printed statement at a time, together with the proof that
  running the list is running the program (`Line`), so a list is the program's text by construction.
-/
module

public import proofs.«01_k».proof.Proof.Gen.RetRefIdeal
public import Idealize.ShloMosaic.Lib.StableHlo.Run
public import Idealize.ShloMosaic.Lib.StableHlo.RunLoop

@[expose] public section

noncomputable section

namespace Cert.Proof.RetRef

open Cert.RetRefIdeal Cert.RetRefIdeal.Gen
open Idealize.ShloMosaic Idealize.ShloMosaic.TcCoe Idealize.ShloMosaic.StableHlo
open Idealize.SL.Sem

variable {F : FTy → Type} [FloatOps F]

variable (F) in
/-- A piece of the reference's host program. -/
abbrev Piece : Type 1 := Prog (TpuEff nD τ sig (Elt F) (HostLoop.Sig (Pipeline.Sig Λ₀ (Fin 0) fun p => (pcfgs (F := F) p).Adm) 2) .tc) PUnit

/-- A piece of the program that is a straight line: its operations in order, the buffer each writes, that the piece is
    their run, that they name TensorCore buffers only and that none of them allocates. -/
structure Line (p : Piece F) where
  /-- The operations in order. -/
  ops : List (HloOp τ sig (Elt F))
  /-- The buffers they write. -/
  outs : List (Ref sig .tc)
  eq : p = seq ops
  sub : ∀ op ∈ ops, op.bufs ⊆ tcRefs τ sig
  fresh : ∀ op ∈ ops, op.fresh = ∅
  writes : ∀ op ∈ ops, ∃ r ∈ outs, op.writes = {Proc.devRef .tc r}

/-- A buffer that no operation of a line writes is kept by the line. -/
theorem Line.keep {p : Piece F} (l : Line p) (X : Valuation τ sig (Elt F)) (b : Ref sig .tc) (h : b ∉ l.outs) :
    after l.ops X (Proc.devRef .tc b) = X (Proc.devRef .tc b) := by
  refine StableHlo.after_of_forall_not_mem l.ops X fun op ho hb => ?_
  obtain ⟨r, hr, hw⟩ := l.writes op ho
  rw [hw] at hb
  refine absurd (Finset.mem_singleton.mp hb) (StableHlo.devRef_ne_of_ne fun e => h (e ▸ hr))

/-- One operation followed by a line. -/
def Line.cons (op : HloOp τ sig (Elt F)) (hs : op.bufs ⊆ tcRefs τ sig) (hf : op.fresh = ∅) (r : Ref sig .tc)
    (hw : op.writes = {Proc.devRef .tc r}) {p : Piece F} (l : Line p) :
    Line (hlo rfl op (fun _ => .ret (⟨⟩ : PUnit)) >>= fun _ => p) where
  ops := op :: l.ops
  outs := r :: l.outs
  eq := by rw [seq, ← l.eq]
  sub := by
    intro o ho
    rcases List.mem_cons.mp ho with rfl | ho
    · exact hs
    · exact l.sub o ho
  fresh := by
    intro o ho
    rcases List.mem_cons.mp ho with rfl | ho
    · exact hf
    · exact l.fresh o ho
  writes := by
    intro o ho
    rcases List.mem_cons.mp ho with rfl | ho
    · exact ⟨r, List.mem_cons_self, hw⟩
    · obtain ⟨q, hq, e⟩ := l.writes o ho; exact ⟨q, List.mem_cons_of_mem _ hq, e⟩

/-- Nothing. -/
def Line.nil : Line (F := F) (pure (⟨⟩ : PUnit)) :=
  ⟨[], [], rfl, fun _ h => (nomatch h), fun _ h => (nomatch h), fun _ h => (nomatch h)⟩

/-- One operation that ends its piece. -/
def Line.last (op : HloOp τ sig (Elt F)) (hs : op.bufs ⊆ tcRefs τ sig) (hf : op.fresh = ∅) (r : Ref sig .tc)
    (hw : op.writes = {Proc.devRef .tc r}) : Line (F := F) (hlo rfl op (fun _ => .ret (⟨⟩ : PUnit))) where
  ops := [op]
  outs := [r]
  eq := rfl
  sub := by intro o ho; rw [List.mem_singleton.mp ho]; exact hs
  fresh := by intro o ho; rw [List.mem_singleton.mp ho]; exact hf
  writes := by intro o ho; rw [List.mem_singleton.mp ho]; exact ⟨r, List.mem_cons_self, hw⟩

/-- A line (a call of a module-local function) followed by a line. -/
def Line.append {p q : Piece F} (a : Line p) (b : Line q) : Line (p >>= fun _ => q) where
  ops := a.ops ++ b.ops
  outs := a.outs ++ b.outs
  eq := by rw [seq_append, ← a.eq, ← b.eq]
  sub := fun o ho => (List.mem_append.mp ho).elim (a.sub o) (b.sub o)
  fresh := fun o ho => (List.mem_append.mp ho).elim (a.fresh o) (b.fresh o)
  writes := fun o ho => (List.mem_append.mp ho).elim
    (fun h => (a.writes o h).imp fun _ e => ⟨List.mem_append_left _ e.1, e.2⟩)
    (fun h => (b.writes o h).imp fun _ e => ⟨List.mem_append_right _ e.1, e.2⟩)

/-- A piece with one host loop in it: the line before the loop and the line after it. -/
structure Cut (l : Fin 2) (p : Piece F) where
  /-- The piece before the loop. -/
  before : Piece F
  /-- The piece after the loop. -/
  rest : Piece F
  /-- Its line. -/
  pre : Line before
  /-- The line after the loop. -/
  post : Line rest
  eq : p = (seq pre.ops >>= fun _ => HostLoop.enter l >>= fun _ => seq post.ops)

/-- The loop itself, followed by a line. -/
def Cut.here (l : Fin 2) {q : Piece F} (b : Line q) : Cut l (HostLoop.enter l >>= fun _ => q : Piece F) where
  before := _
  rest := _
  pre := Line.nil
  post := b
  eq := by rw [← b.eq]; rfl

/-- An operation before a piece with a loop. -/
def Cut.cons {l : Fin 2} (op : HloOp τ sig (Elt F)) (hs : op.bufs ⊆ tcRefs τ sig) (hf : op.fresh = ∅) (r : Ref sig .tc)
    (hw : op.writes = {Proc.devRef .tc r}) {p : Piece F} (k : Cut l p) :
    Cut l (hlo rfl op (fun _ => .ret (⟨⟩ : PUnit)) >>= fun _ => p : Piece F) where
  before := _
  rest := _
  pre := Line.cons op hs hf r hw k.pre
  post := k.post
  eq := by
    conv_lhs => rw [k.eq]
    show _ = (seq (op :: k.pre.ops) >>= _)
    rw [seq, bind_assoc]

/-! ## The operations of each module-local function -/

def fn_where_line (a0 a1 a2 φ) : Line (F := F) (fn_where.body a0 a1 a2 φ) := by
  delta fn_where.body
  repeat first | exact Line.nil | refine Line.cons _ (by simp) rfl _ rfl ?_

def fn_where_0_line (a0 a1 a2 φ) : Line (F := F) (fn_where_0.body a0 a1 a2 φ) := by
  delta fn_where_0.body
  repeat first | exact Line.nil | refine Line.cons _ (by simp) rfl _ rfl ?_

def fn_dynamic_index_in_dim_line (a0 a1 φ) : Line (F := F) (fn_dynamic_index_in_dim.body a0 a1 φ) := by
  delta fn_dynamic_index_in_dim.body
  repeat first | exact Line.nil | refine Line.cons _ (by simp) rfl _ rfl ?_

def fn_dynamic_index_in_dim_1_line (a0 a1 φ) : Line (F := F) (fn_dynamic_index_in_dim_1.body a0 a1 φ) := by
  delta fn_dynamic_index_in_dim_1.body
  repeat first | exact Line.nil | refine Line.cons _ (by simp) rfl _ rfl ?_

def fn_dynamic_update_index_in_dim_line (a0 a1 a2 φ) : Line (F := F) (fn_dynamic_update_index_in_dim.body a0 a1 a2 φ) := by
  delta fn_dynamic_update_index_in_dim.body
  repeat first | exact Line.nil | refine Line.cons _ (by simp) rfl _ rfl ?_

def fn_dynamic_update_index_in_dim_2_line (a0 a1 a2 φ) : Line (F := F) (fn_dynamic_update_index_in_dim_2.body a0 a1 a2 φ) := by
  delta fn_dynamic_update_index_in_dim_2.body
  repeat first | exact Line.nil | refine Line.cons _ (by simp) rfl _ rfl ?_

def fn_dynamic_update_index_in_dim_3_line (a0 a1 a2 φ) : Line (F := F) (fn_dynamic_update_index_in_dim_3.body a0 a1 a2 φ) := by
  delta fn_dynamic_update_index_in_dim_3.body
  repeat first | exact Line.nil | refine Line.cons _ (by simp) rfl _ rfl ?_

def fn_dynamic_update_index_in_dim_4_line (a0 a1 a2 φ) : Line (F := F) (fn_dynamic_update_index_in_dim_4.body a0 a1 a2 φ) := by
  delta fn_dynamic_update_index_in_dim_4.body
  repeat first | exact Line.nil | refine Line.cons _ (by simp) rfl _ rfl ?_

def fn_silu_line (a0 φ) : Line (F := F) (fn_silu.body a0 φ) := by
  delta fn_silu.body
  repeat first | exact Line.nil | refine Line.cons _ (by simp) rfl _ rfl ?_

def fn_silu_5_line (a0 a1 a2 a3 φ) : Line (F := F) (fn_silu_5.body a0 a1 a2 a3 φ) := by
  delta fn_silu_5.body
  repeat first | exact Line.nil | refine Line.cons _ (by simp) rfl _ rfl ?_

def fn_dynamic_index_in_dim_6_line (a0 a1 φ) : Line (F := F) (fn_dynamic_index_in_dim_6.body a0 a1 φ) := by
  delta fn_dynamic_index_in_dim_6.body
  repeat first | exact Line.nil | refine Line.cons _ (by simp) rfl _ rfl ?_

def fn_dynamic_index_in_dim_7_line (a0 a1 φ) : Line (F := F) (fn_dynamic_index_in_dim_7.body a0 a1 φ) := by
  delta fn_dynamic_index_in_dim_7.body
  repeat first | exact Line.nil | refine Line.cons _ (by simp) rfl _ rfl ?_

/-! ## @main's windows and the loops' bodies -/

def part0 (c : Dev nD) : Line (F := F) (main_part0 c) := by
  delta main_part0
  repeat first | exact Line.nil | refine Line.cons _ (by simp) rfl _ rfl ?_ | exact Line.last _ (by simp) rfl _ rfl

def part1 (c : Dev nD) : Line (F := F) (main_part1 c) := by
  delta main_part1
  repeat first | exact Line.nil | refine Line.cons _ (by simp) rfl _ rfl ?_ | refine Line.append (fn_where_line ..) ?_ | refine Line.append (fn_where_0_line ..) ?_ | exact Line.last _ (by simp) rfl _ rfl

def part3 (c : Dev nD) : Line (F := F) (main_part3 c) := by
  delta main_part3
  repeat first | exact Line.nil | refine Line.cons _ (by simp) rfl _ rfl ?_ | refine Line.append (fn_silu_line ..) ?_ | refine Line.append (fn_silu_5_line ..) ?_ | exact Line.last _ (by simp) rfl _ rfl

def part5 (c : Dev nD) : Line (F := F) (main_part5 c) := by
  delta main_part5
  repeat first | exact Line.nil | refine Line.cons _ (by simp) rfl _ rfl ?_ | exact Line.last _ (by simp) rfl _ rfl

def part2 (c : Dev nD) : Cut (F := F) 0 (main_part2 c) := by
  delta main_part2
  repeat first | refine Cut.cons _ (by simp) rfl _ rfl ?_ | refine Cut.here 0 ?_
  repeat first | exact Line.nil | refine Line.cons _ (by simp) rfl _ rfl ?_ | exact Line.last _ (by simp) rfl _ rfl

def part4 (c : Dev nD) : Cut (F := F) 1 (main_part4 c) := by
  delta main_part4
  repeat first | refine Cut.cons _ (by simp) rfl _ rfl ?_ | refine Cut.here 1 ?_
  repeat first | exact Line.nil | refine Line.cons _ (by simp) rfl _ rfl ?_ | exact Line.last _ (by simp) rfl _ rfl

def trip0 : Line (F := F) main_while0_body := by
  delta main_while0_body
  repeat first | exact Line.nil | refine Line.cons _ (by simp) rfl _ rfl ?_ | refine Line.append (fn_dynamic_index_in_dim_line ..) ?_ | refine Line.append (fn_dynamic_index_in_dim_1_line ..) ?_ | refine Line.append (fn_dynamic_update_index_in_dim_line ..) ?_ | refine Line.append (fn_dynamic_update_index_in_dim_2_line ..) ?_ | refine Line.append (fn_dynamic_update_index_in_dim_3_line ..) ?_ | refine Line.append (fn_dynamic_update_index_in_dim_4_line ..) ?_

def trip1 : Line (F := F) main_while1_body := by
  delta main_while1_body
  repeat first | exact Line.nil | refine Line.cons _ (by simp) rfl _ rfl ?_ | refine Line.append (fn_dynamic_index_in_dim_line ..) ?_ | refine Line.append (fn_dynamic_index_in_dim_1_line ..) ?_ | refine Line.append (fn_dynamic_index_in_dim_6_line ..) ?_ | refine Line.append (fn_dynamic_index_in_dim_7_line ..) ?_ | refine Line.append (fn_dynamic_update_index_in_dim_line ..) ?_ | refine Line.append (fn_dynamic_update_index_in_dim_4_line ..) ?_

end Cert.Proof.RetRef
-- ==== Proof.RetRefRun.lean ====
/-
  The run of the reference program `RetRefIdeal`: three straight stretches of host operations and two counted host loops
  of sixty-four trips each, the forward scan over the chunks and the backward one. Every buffer ends at `atEnd`: the
  operations folded over the launch contents, each loop's body sixty-four times. The library's run of a program with
  one loop is the model; here the segments are stretches, loop, stretches, loop, stretches.
-/
module

public import proofs.«01_k».proof.Proof.RetRefOps
public import Idealize.ShloMosaic.Lib.StableHlo.RunRead
public import Idealize.ShloMosaic.Lib.HostLoop.Rules
public import Idealize.ShloMosaic.Lib.Pipeline.Frame
public import Idealize.ShloMosaic.Lib.Pipeline.RegionsLoop

@[expose] public section

set_option maxRecDepth 16384

noncomputable section

namespace Cert.Proof.RetRef

open Cert.RetRefIdeal Cert.RetRefIdeal.Gen
open Idealize.ShloMosaic Idealize.ShloMosaic.TcCoe Idealize.ShloMosaic.StableHlo
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (CSeg ucRefs sub_ucRefs Ticket)

variable {F : FTy → Type} [FloatOps F]

local notation "𝕄" => MT nD τ sig Unit (Elt F) ℕ (Option PUnit) ℕ

/-! ## The stretches -/

variable (F) in
/-- @main before the forward loop. -/
abbrev preI : List (List (HloOp τ sig (Elt F))) := [(part0 0).ops, (part1 0).ops, (part2 0).pre.ops]
variable (F) in
/-- @main between the loops. -/
abbrev midI : List (List (HloOp τ sig (Elt F))) := [(part2 0).post.ops, (part3 0).ops, (part4 0).pre.ops]
variable (F) in
/-- @main after the backward loop. -/
abbrev postI : List (List (HloOp τ sig (Elt F))) := [(part4 0).post.ops, (part5 0).ops]

variable (F) in
/-- The forward loop's condition. -/
abbrev condOps0 : List (HloOp τ sig (Elt F)) :=
  [nullary main_while0c_c_54 (constantI S_ 32 64#32), binary main_v126_7 main_while0c_c_54 main_while0c_v245 (cmpi .slt)]
variable (F) in
/-- The backward loop's condition. -/
abbrev condOps1 : List (HloOp τ sig (Elt F)) :=
  [nullary main_while1c_c_57 (constantI S_ 32 64#32), binary main_v192_11 main_while1c_c_57 main_while1c_v245 (cmpi .slt)]

/-- A list of lines is plain. -/
theorem plain_cons {p : Piece F} (l : Line p) {rest : List (List (HloOp τ sig (Elt F)))} (h : Plain rest) : Plain (l.ops :: rest) :=
  Plain.cons (List.forall_iff_forall_mem.mpr l.sub) h l.fresh

theorem plain_pre : Plain (preI F) := plain_cons _ (plain_cons _ (plain_cons _ Plain.nil))
theorem plain_mid : Plain (midI F) := plain_cons _ (plain_cons _ (plain_cons _ Plain.nil))
theorem plain_post : Plain (postI F) := plain_cons _ (plain_cons _ Plain.nil)
theorem plain_trip0 : Plain [(trip0 (F := F)).ops] := plain_cons _ Plain.nil
theorem plain_trip1 : Plain [(trip1 (F := F)).ops] := plain_cons _ Plain.nil

theorem body0_eq : main_while0_body (F := F) = Pipeline.chain ([trip0.ops].map fun ops => (seq ops : Piece F)) := by
  exact trip0.eq.trans (by simp only [List.map_cons, List.map_nil, Pipeline.chain, bind_pure_unit])
theorem body1_eq : main_while1_body (F := F) = Pipeline.chain ([trip1.ops].map fun ops => (seq ops : Piece F)) := by
  exact trip1.eq.trans (by simp only [List.map_cons, List.map_nil, Pipeline.chain, bind_pure_unit])

/-- @main in order: stretches, the forward loop, stretches, the backward loop, stretches. -/
theorem main_eq (c : Dev nD) : main (F := F) c = Pipeline.chain ((preI F).map (fun ops => (seq ops : Piece F)) ++ HostLoop.enter 0 ::
    ((midI F).map (fun ops => (seq ops : Piece F)) ++ HostLoop.enter 1 :: (postI F).map fun ops => (seq ops : Piece F))) := by
  obtain rfl : c = 0 := Subsingleton.elim _ _
  unfold main
  refine ((congrArg₂ Bind.bind (part0 0).eq (funext fun _ => congrArg₂ Bind.bind (part1 0).eq (funext fun _ => congrArg₂ Bind.bind (part2 0).eq
    (funext fun _ => congrArg₂ Bind.bind (part3 0).eq (funext fun _ => congrArg₂ Bind.bind (part4 0).eq (funext fun _ => (part5 0).eq)))))).trans ?_)
  simp only [List.map_cons, List.map_nil, List.cons_append, List.nil_append, Pipeline.chain, bind_assoc, bind_pure_unit]

/-! ## The loops' counters -/

theorem counts : ∀ k : Fin 65, (IntOp.cmpi .slt (BitVec.ofNat 32 k.val) 64#32 = 1#1 ↔ k.val < 64) := by decide +kernel

/-- A trip of loop 0 counts one. -/
theorem count_trip0 (X : Valuation τ sig (Elt F)) : after trip0.ops X main_v126_7 = addi (X main_v126_7) (constantI S_ 32 1#32) := by
  simp only [trip0, Line.append, Line.cons, Line.last, Line.nil, fn_dynamic_index_in_dim_line, fn_dynamic_index_in_dim_1_line, fn_dynamic_update_index_in_dim_line, fn_dynamic_update_index_in_dim_2_line, fn_dynamic_update_index_in_dim_3_line, fn_dynamic_update_index_in_dim_4_line, id, List.cons_append, List.nil_append]
  after_reads_simp
  rfl

section Cond0

variable (W₀ : Dev nD → Valuation τ sig (Elt F)) (h0 : ∀ c, W₀ c main_v126_7 = fun _ => (0#32 : BitVec 32))

/-- The buffers before the `k`-th run of loop 0's condition. -/
abbrev at0 (k : ℕ) (c : Dev nD) : Valuation τ sig (Elt F) := atTrip (condOps0 F) [trip0.ops] W₀ k c

include h0 in
/-- The counter is the number of trips done. -/
theorem count0 (c : Dev nD) : ∀ k, at0 W₀ k c main_v126_7 = fun _ => (BitVec.ofNat 32 k : BitVec 32)
  | 0 => h0 c
  | k + 1 => by
    show after trip0.ops (after (condOps0 F) (at0 W₀ k c)) main_v126_7 = _
    rw [count_trip0]
    after_reads_simp
    rw [count0 c k]
    funext i
    show BitVec.ofNat 32 k + 1#32 = BitVec.ofNat 32 (k + 1)
    rw [BitVec.ofNat_add]

set_option backward.isDefEq.respectTransparency.types false in
include h0 in
/-- The condition holds exactly while fewer than sixty-four trips are done. -/
theorem cond0_spec (Rc : Dev nD → sProp 𝕄) :
    LoopCond (pcfgs (F := F)) defs₀ Variants.none loops Rc main_while0_cond (condOps0 F) [trip0.ops] W₀ 64 := by
  intro k hk c bd
  have hctr := count0 W₀ h0 c k
  unfold main_while0_cond
  simp only [bind_pure]
  rw [wp_bind]
  iintro ⟨Hb, Hh, HR⟩
  iapply (StableHlo.wp_hlo_within (Variants.lift Variants.none) (c : Thread nD τ) bd Set.univ (sub_ucRefs _ (StableHlo.nullary_bufs_sub ..))) $$ [Hb Hh]
  · isplitl [Hb]; · iexact Hb
    iexact Hh
  iintro ⟨Hb, Hh⟩
  rw [wp_ret]; imodintro
  iapply (StableHlo.wp_hlo_within (Variants.lift Variants.none) (c : Thread nD τ) bd Set.univ (sub_ucRefs _ (StableHlo.binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (at0 W₀ k c) main_v126_7 HostLoop.idx0)
        (HloOp.result _ (at0 W₀ k c) main_while0c_c_54 HostLoop.idx0) = 1#1) (k < 64)
    rw [StableHlo.nullary_result_ne _ _ _ _ (by decide), StableHlo.nullary_result, hctr]
    exact counts ⟨k, by omega⟩
  isplitl [Hb]; · iexact Hb
  isplitl [Hh]; · rw [StableHlo.after_cons, StableHlo.after_cons, StableHlo.after_nil]; iexact Hh
  iexact HR

end Cond0

/-- A trip of loop 1 counts one. -/
theorem count_trip1 (X : Valuation τ sig (Elt F)) : after trip1.ops X main_v192_11 = addi (X main_v192_11) (constantI S_ 32 1#32) := by
  simp only [trip1, Line.append, Line.cons, Line.last, Line.nil, fn_dynamic_index_in_dim_line, fn_dynamic_index_in_dim_1_line, fn_dynamic_index_in_dim_6_line, fn_dynamic_index_in_dim_7_line, fn_dynamic_update_index_in_dim_line, fn_dynamic_update_index_in_dim_4_line, id, List.cons_append, List.nil_append]
  after_reads_simp
  rfl

section Cond1

variable (W₀ : Dev nD → Valuation τ sig (Elt F)) (h0 : ∀ c, W₀ c main_v192_11 = fun _ => (0#32 : BitVec 32))

/-- The buffers before the `k`-th run of loop 1's condition. -/
abbrev at1 (k : ℕ) (c : Dev nD) : Valuation τ sig (Elt F) := atTrip (condOps1 F) [trip1.ops] W₀ k c

include h0 in
/-- The counter is the number of trips done. -/
theorem count1 (c : Dev nD) : ∀ k, at1 W₀ k c main_v192_11 = fun _ => (BitVec.ofNat 32 k : BitVec 32)
  | 0 => h0 c
  | k + 1 => by
    show after trip1.ops (after (condOps1 F) (at1 W₀ k c)) main_v192_11 = _
    rw [count_trip1]
    after_reads_simp
    rw [count1 c k]
    funext i
    show BitVec.ofNat 32 k + 1#32 = BitVec.ofNat 32 (k + 1)
    rw [BitVec.ofNat_add]

set_option backward.isDefEq.respectTransparency.types false in
include h0 in
/-- The condition holds exactly while fewer than sixty-four trips are done. -/
theorem cond1_spec (Rc : Dev nD → sProp 𝕄) :
    LoopCond (pcfgs (F := F)) defs₀ Variants.none loops Rc main_while1_cond (condOps1 F) [trip1.ops] W₀ 64 := by
  intro k hk c bd
  have hctr := count1 W₀ h0 c k
  unfold main_while1_cond
  simp only [bind_pure]
  rw [wp_bind]
  iintro ⟨Hb, Hh, HR⟩
  iapply (StableHlo.wp_hlo_within (Variants.lift Variants.none) (c : Thread nD τ) bd Set.univ (sub_ucRefs _ (StableHlo.nullary_bufs_sub ..))) $$ [Hb Hh]
  · isplitl [Hb]; · iexact Hb
    iexact Hh
  iintro ⟨Hb, Hh⟩
  rw [wp_ret]; imodintro
  iapply (StableHlo.wp_hlo_within (Variants.lift Variants.none) (c : Thread nD τ) bd Set.univ (sub_ucRefs _ (StableHlo.binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (at1 W₀ k c) main_v192_11 HostLoop.idx0)
        (HloOp.result _ (at1 W₀ k c) main_while1c_c_57 HostLoop.idx0) = 1#1) (k < 64)
    rw [StableHlo.nullary_result_ne _ _ _ _ (by decide), StableHlo.nullary_result, hctr]
    exact counts ⟨k, by omega⟩
  isplitl [Hb]; · iexact Hb
  isplitl [Hh]; · rw [StableHlo.after_cons, StableHlo.after_cons, StableHlo.after_nil]; iexact Hh
  iexact HR

end Cond1

/-! ## The buffers along the run -/

variable (m : (ℓ : Loc nD τ sig) → Buf (Elt F) ℓ)

/-- Entering the forward loop, -/
def U0 (c : Dev nD) : Valuation τ sig (Elt F) := afterL (preI F) (launchContents m c)
/-- leaving it, -/
def U1 (c : Dev nD) : Valuation τ sig (Elt F) := after (condOps0 F) (at0 (U0 m) 64 c)
/-- entering the backward loop, -/
def U2 (c : Dev nD) : Valuation τ sig (Elt F) := afterL (midI F) (U1 m c)
/-- leaving it, -/
def U3 (c : Dev nD) : Valuation τ sig (Elt F) := after (condOps1 F) (at1 (U2 m) 64 c)
/-- and at the end. -/
def atEnd (c : Dev nD) : Valuation τ sig (Elt F) := afterL (postI F) (U3 m c)

/-- A window's operations, spelt out. -/
theorem afterL_pre (X : Valuation τ sig (Elt F)) : afterL (preI F) X = after (part2 0).pre.ops (after (part1 0).ops (after (part0 0).ops X)) := rfl
theorem afterL_mid (X : Valuation τ sig (Elt F)) : afterL (midI F) X = after (part4 0).pre.ops (after (part3 0).ops (after (part2 0).post.ops X)) := rfl
theorem afterL_post (X : Valuation τ sig (Elt F)) : afterL (postI F) X = after (part5 0).ops (after (part4 0).post.ops X) := rfl

theorem start0 (c : Dev nD) : U0 m c main_v126_7 = fun _ => (0#32 : BitVec 32) := by
  unfold U0; rw [afterL_pre]
  generalize after (part1 0).ops (after (part0 0).ops (launchContents m c)) = X
  simp only [part2, Cut.cons, Cut.here, Line.cons, Line.nil, Line.last, id]
  after_reads_simp
  rfl

theorem start1 (c : Dev nD) : U2 m c main_v192_11 = fun _ => (0#32 : BitVec 32) := by
  unfold U2; rw [afterL_mid]
  generalize after (part3 0).ops (after (part2 0).post.ops (U1 m c)) = X
  simp only [part4, Cut.cons, Cut.here, Line.cons, Line.nil, Line.last, id]
  after_reads_simp
  rfl

/-! ## The run -/

abbrev adm : (p : Fin 0) → (pcfgs (F := F) p).Adm := fun p => p.elim0
abbrev tk : Fin 0 → Ticket (Ix := Unit) (Name := ℕ) (U := Option PUnit) (Lvl := ℕ) (nD := nD) (τ := τ) (pcfgs (F := F)) adm := fun j => j.elim0
abbrev L : GSem nD τ sig → Finset Unit := fun _ => ∅
abbrev lv : GSem nD τ sig → Unit → ℕ := fun _ _ => 0
abbrev Rw (c : Dev nD) : sProp 𝕄 := iprop(∃ W, owes (c : Thread nD τ) (0 : CellTallies nD τ sig Unit) W)

/-- The program's segments. -/
def segs : List (CSeg (pcfgs (F := F)) adm defs₀ Variants.none L lv loops tk) :=
  segsOf _ _ _ _ _ _ _ _ Rw (preI F) plain_pre (launchContents m)
    ++ loopSeg _ _ _ _ _ _ _ _ 0 main_while0_cond main_while0_body rfl (condOps0 F) [trip0.ops] plain_trip0 body0_eq 64 (U0 m) Rw (cond0_spec _ (start0 m) Rw)
      :: (segsOf _ _ _ _ _ _ _ _ Rw (midI F) plain_mid (U1 m)
        ++ loopSeg _ _ _ _ _ _ _ _ 1 main_while1_cond main_while1_body rfl (condOps1 F) [trip1.ops] plain_trip1 body1_eq 64 (U2 m) Rw (cond1_spec _ (start1 m) Rw)
          :: segsOf _ _ _ _ _ _ _ _ Rw (postI F) plain_post (U3 m))

theorem segs_prog : (segs m).map CSeg.prog = (preI F).map (fun ops => (seq ops : Piece F)) ++ HostLoop.enter 0 ::
    ((midI F).map (fun ops => (seq ops : Piece F)) ++ HostLoop.enter 1 :: (postI F).map fun ops => (seq ops : Piece F)) := by
  unfold segs
  rw [List.map_append, List.map_cons, List.map_append, List.map_cons, segsOf_prog, segsOf_prog, segsOf_prog]
  rfl

theorem segs_chains : CSeg.Chains (fun c => iprop(held (c : Thread nD τ) (ucRefs τ sig) (launchContents m c) ∗ Rw c)) (segs m)
    (fun c => iprop(iprop(held (c : Thread nD τ) (ucRefs τ sig) (atEnd m c)) ∗ ∃ W, owes (c : Thread nD τ) (0 : CellTallies nD τ sig Unit) W)) := by
  unfold segs
  exact CSeg.Chains.append (segsOf_chains _ _ _ _ _ _ _ _ Rw (preI F) plain_pre _) ⟨fun _ => .rfl,
    CSeg.Chains.append (segsOf_chains _ _ _ _ _ _ _ _ Rw (midI F) plain_mid _) ⟨fun _ => .rfl,
      segsOf_chains _ _ _ _ _ _ _ _ Rw (postI F) plain_post _⟩⟩

/-- THE RUN: every execution ends with every buffer at `atEnd`. -/
theorem run_main (ρ : Dev nD → PrngReg) : θ_run defs (onTc (τ := τ) main) ⟨m, fun _ => 0, ρ⟩
    (fun r => ∀ (c : Dev nD) (b : Ref sig .tc), (Proc.devRef .tc b : DevRef τ sig).isScoped = false →
      r.2.mem ((c.tc : Thread nD τ).loc b) = atEnd m c (Proc.devRef .tc b)) :=
  Pipeline.θ_run_regions_loop_kit (Ix := Unit) (Name := ℕ) (U := Option PUnit) (Lvl := ℕ) (J := Fin 0) (P := Fin 0) (Val := Elt F)
    (pcfgs (F := F)) adm (fun k => k.1.elim0) defs₀ Variants.none L lv loops tk m ρ main (segs m)
    (fun c Q => by
      have e : CSeg.runL (segs m) = main c := (congrArg Pipeline.chain (segs_prog m)).trans (main_eq c).symm
      rw [e])
    (Pipeline.CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (launchContents m c) ∗ Rw c))
    (Tₙ := fun c => iprop(held (c : Thread nD τ) (ucRefs τ sig) (atEnd m c)))
    (hch := segs_chains m)
    (hinit := by
      refine Pipeline.initEach L lv fun c => ?_
      rw [show unscopedBufs c (fun b => m ((c : Thread nD τ).loc b)) = held (c : Thread nD τ) (ucRefs τ sig) (launchContents m c) from Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = atEnd m c b)
    (hfin := fun c s' => by
      unfold held
      iintro ⟨Hh, HSI⟩
      ihave Hr := (pointsTo_read_all (ucRefs τ sig) (fun b => ((c : Dev nD), b)) (fun b => atEnd m c b) s') $$ [Hh HSI]
      · isplitl [Hh] <;> iassumption
      icases Hr with ⟨%h, HSI⟩
      imodintro
      isplitr; · ipureintro; exact h
      iexact HSI)
    (hQ := fun _ h c b hb => h c _ (devRef_mem_ucRefs b hb))

end Cert.Proof.RetRef
-- ==== Proof.RetRefTrip.lean ====
/- The trips of the reference program's two loops: what one trip of the forward loop and one of the backward loop put in the
   arrays the loop carries, in terms of chunk `k`'s entries of what it walks over. -/
module

public import proofs.«01_k».proof.Proof.RetRefRun
public import Idealize.ShloMosaic.Lib.StableHlo.ReadAt
public import Idealize.ShloMosaic.Lib.Pointwise
public import Idealize.ShloMosaic.Lib.ValueIdx
public import Idealize.ShloMosaic.Lib.Pipeline.Value

@[expose] public section

set_option maxRecDepth 16384

noncomputable section

namespace Cert.Proof.RetRef

open Cert.RetRefIdeal Cert.RetRefIdeal.Gen
open Idealize.ShloMosaic Idealize.ShloMosaic.TcCoe Idealize.ShloMosaic.Tactic
open Idealize.SL.Sem Idealize.ShloMosaic.StableHlo

variable {F : FTy → Type} [FloatOps F]

/-! ## Entries of a stack -/

/-- Entry `k` of a stack of 64 four-dimensional arrays. -/
def pick {a b : ℕ} {e : EltTy} (x : Vec F ⟨5, ![64, 1, 4, a, b]⟩ e) (k : Fin 64) : Vec F ⟨4, ![1, 4, a, b]⟩ e :=
  fun i => x (ix5 k (i 0) (i 1) (i 2) (i 3))

/-- Slicing one entry off a stack and dropping its axis picks the entry. -/
theorem pick_eq {a b : ℕ} {e : EltTy} (x : Vec F ⟨5, ![64, 1, 4, a, b]⟩ e) (k : Fin 64) (start : Fin 5 → Int)
    (h0 : start 0 = k.val) (h1 : ∀ i, i ≠ 0 → start i = 0) (hs : (⟨5, ![64, 1, 4, a, b]⟩ : Shape).Slices (fun _ => 0) ⟨5, ![1, 1, 4, a, b]⟩)
    (hc : (⟨5, ![1, 1, 4, a, b]⟩ : Shape).ShapeCasts ⟨4, ![1, 4, a, b]⟩) :
    shapeCast ⟨4, ![1, 4, a, b]⟩ (Host.dynamicSlice ⟨5, ![1, 1, 4, a, b]⟩ x start hs) hc = pick x k := by
  funext i
  refine (shapeCast_dropUnit_apply (n := 4) ![1, 4, a, b] _ hc i).trans ?_
  rw [Host.dynamicSlice_apply]
  refine congrArg x (funext fun c => Fin.ext ?_)
  have hst : ∀ c : Fin 5, Host.clampedStart ⟨5, ![64, 1, 4, a, b]⟩ ⟨5, ![1, 1, 4, a, b]⟩ hs.1 start c = if c = 0 then k.val else 0 := by
    intro c
    refine Host.clampedStart_of_le _ _ _ _ ?_ ?_
    · split
      · subst c; exact h0
      · exact h1 c ‹_›
    · match c with
      | 0 => show k.val + 1 ≤ 64; omega
      | 1 => exact Nat.le.refl
      | 2 => exact Nat.le.refl
      | 3 => show 0 + a ≤ a; omega
      | 4 => show 0 + b ≤ b; omega
  match c with
  | 0 => show Host.clampedStart _ _ _ _ _ + 0 = k.val; rw [hst]; rfl
  | 1 => show Host.clampedStart _ _ _ _ _ + (i 0).val = (i 0).val; rw [hst]; exact Nat.zero_add _
  | 2 => show Host.clampedStart _ _ _ _ _ + (i 1).val = (i 1).val; rw [hst]; exact Nat.zero_add _
  | 3 => show Host.clampedStart _ _ _ _ _ + (i 2).val = (i 2).val; rw [hst]; exact Nat.zero_add _
  | 4 => show Host.clampedStart _ _ _ _ _ + (i 3).val = (i 3).val; rw [hst]; exact Nat.zero_add _

/-- A stack with entry `k` replaced. -/
def put {a b : ℕ} {e : EltTy} (x : Vec F ⟨5, ![64, 1, 4, a, b]⟩ e) (k : Fin 64) (u : Vec F ⟨4, ![1, 4, a, b]⟩ e) : Vec F ⟨5, ![64, 1, 4, a, b]⟩ e :=
  fun i => if (i 0).val = k.val then u (ix4 (i 1) (i 2) (i 3) (i 4)) else x i

/-- Writing one entry of a stack at a start that names it. -/
theorem put_eq {a b : ℕ} {e : EltTy} (x : Vec F ⟨5, ![64, 1, 4, a, b]⟩ e) (u : Vec F ⟨4, ![1, 4, a, b]⟩ e) (k : Fin 64) (start : Fin 5 → Int)
    (h0 : start 0 = k.val) (h1 : ∀ i, i ≠ 0 → start i = 0) (hs : (⟨5, ![64, 1, 4, a, b]⟩ : Shape).Slices (fun _ => 0) ⟨5, ![1, 1, 4, a, b]⟩)
    (hb : (⟨4, ![1, 4, a, b]⟩ : Shape).BroadcastsInDim ⟨5, ![1, 1, 4, a, b]⟩ ![1, 2, 3, 4]) :
    Host.dynamicUpdateSlice x (broadcastInDim ⟨5, ![1, 1, 4, a, b]⟩ ![1, 2, 3, 4] hb u) start hs = put x k u := by
  have hst : ∀ c : Fin 5, Host.clampedStart ⟨5, ![64, 1, 4, a, b]⟩ ⟨5, ![1, 1, 4, a, b]⟩ hs.1 start c = if c = 0 then k.val else 0 := by
    intro c
    refine Host.clampedStart_of_le _ _ _ _ ?_ ?_
    · split
      · subst c; exact h0
      · exact h1 c ‹_›
    · match c with
      | 0 => show k.val + 1 ≤ 64; omega
      | 1 => exact Nat.le.refl
      | 2 => exact Nat.le.refl
      | 3 => show 0 + a ≤ a; omega
      | 4 => show 0 + b ≤ b; omega
  funext i
  rw [Host.dynamicUpdateSlice_apply]
  by_cases hk : (i 0).val = k.val
  · rw [dif_pos, put, if_pos hk]
    · refine broadcastInDim_apply _ _ _ _ _ fun c => ?_
      have hi1 : (i 1).val = 0 := Nat.lt_one_iff.mp (i 1).isLt
      have key : ∀ (n x y : ℕ), x < n → y = 0 → x = if n = 1 then 0 else x - y := by
        intro n x y hx hy
        split <;> omega
      match c with
      | 0 => exact hi1
      | 1 => exact key 4 _ _ (i 2).isLt (hst 2)
      | 2 => exact key a _ _ (i 3).isLt (hst 3)
      | 3 => exact key b _ _ (i 4).isLt (hst 4)
    · intro c
      rw [hst]
      match c with
      | 0 => rw [if_pos rfl, hk]; exact ⟨Nat.le.refl, Nat.lt_succ_self _⟩
      | 1 => exact ⟨Nat.zero_le _, Nat.lt_of_lt_of_le (i 1).isLt (Nat.le_of_eq (Nat.zero_add _).symm)⟩
      | 2 => exact ⟨Nat.zero_le _, Nat.lt_of_lt_of_le (i 2).isLt (Nat.le_of_eq (Nat.zero_add _).symm)⟩
      | 3 => exact ⟨Nat.zero_le _, Nat.lt_of_lt_of_le (i 3).isLt (Nat.le_of_eq (Nat.zero_add _).symm)⟩
      | 4 => exact ⟨Nat.zero_le _, Nat.lt_of_lt_of_le (i 4).isLt (Nat.le_of_eq (Nat.zero_add _).symm)⟩
  · rw [dif_neg, put, if_neg hk]
    intro hin
    have := hin 0
    rw [hst] at this
    refine hk ?_
    have h2 : (i 0).val < k.val + 1 := this.2
    have h3 : k.val ≤ (i 0).val := this.1
    omega

/-- The start that a counter names. -/
def startAt (c : Vec F S_ .i32) : Fin 5 → Int := fun i => BitVec.toInt ((![c, constantI S_ 32 0#32, constantI S_ 32 0#32, constantI S_ 32 0#32,
  constantI S_ 32 0#32] : Fin 5 → Vec F S_ .i32) i (Shape.Idx.first h_S_))

/-- A count below sixty-four is itself as a signed word. -/
theorem toInt_count : ∀ k : Fin 64, (BitVec.ofNat 32 k.val).toInt = (k.val : Int) := by decide +kernel

/-- Its first coordinate is the count, -/
theorem startAt_zero (c : Vec F S_ .i32) (k : Fin 64) (hc : c = fun _ => (BitVec.ofNat 32 k.val : BitVec 32)) : startAt c 0 = k.val := by
  subst hc; exact toInt_count k

/-- and the others are zero. -/
theorem startAt_ne (c : Vec F S_ .i32) : ∀ i, i ≠ 0 → startAt c i = 0
  | 0, h => absurd rfl h
  | 1, _ | 2, _ | 3, _ | 4, _ => rfl

/-- Slicing the counted entry off a stack picks it. -/
theorem pick_at {a b : ℕ} {e : EltTy} (x : Vec F ⟨5, ![64, 1, 4, a, b]⟩ e) (c : Vec F S_ .i32) (k : Fin 64)
    (hk : c = fun _ => (BitVec.ofNat 32 k.val : BitVec 32)) (hs : (⟨5, ![64, 1, 4, a, b]⟩ : Shape).Slices (fun _ => 0) ⟨5, ![1, 1, 4, a, b]⟩)
    (hc : (⟨5, ![1, 1, 4, a, b]⟩ : Shape).ShapeCasts ⟨4, ![1, 4, a, b]⟩) :
    (fun i => shapeCast ⟨4, ![1, 4, a, b]⟩ (Host.dynamicSlice ⟨5, ![1, 1, 4, a, b]⟩ x (startAt c) hs) hc i) = pick x k :=
  pick_eq x k _ (startAt_zero c k hk) (startAt_ne c) hs hc

/-- Writing the counted entry of a stack. -/
theorem put_at {a b : ℕ} {e : EltTy} (x : Vec F ⟨5, ![64, 1, 4, a, b]⟩ e) (u : Vec F ⟨4, ![1, 4, a, b]⟩ e) (c : Vec F S_ .i32) (k : Fin 64)
    (hk : c = fun _ => (BitVec.ofNat 32 k.val : BitVec 32)) (hs : (⟨5, ![64, 1, 4, a, b]⟩ : Shape).Slices (fun _ => 0) ⟨5, ![1, 1, 4, a, b]⟩)
    (hb : (⟨4, ![1, 4, a, b]⟩ : Shape).BroadcastsInDim ⟨5, ![1, 1, 4, a, b]⟩ ![1, 2, 3, 4]) :
    Host.dynamicUpdateSlice x (broadcastInDim ⟨5, ![1, 1, 4, a, b]⟩ ![1, 2, 3, 4] hb u) (startAt c) hs = put x k u :=
  put_eq x u k _ (startAt_zero c k hk) (startAt_ne c) hs hb

/-- Equal arguments, equal values: three -/
theorem congr3 {α β γ δ : Type} (f : α → β → γ → δ) {a a' : α} {b b' : β} {c c' : γ} (ha : a = a') (hb : b = b') (hc : c = c') :
    f a b c = f a' b' c' := by rw [ha, hb, hc]
/-- and four. -/
theorem congr4 {α β γ δ ε : Type} (f : α → β → γ → δ → ε) {a a' : α} {b b' : β} {c c' : γ} {d d' : δ} (ha : a = a') (hb : b = b')
    (hc : c = c') (hd : d = d') : f a b c d = f a' b' c' d' := by rw [ha, hb, hc, hd]

/-! ## The forward loop's trip -/

section Fwd

variable (q k : Vec F S1x4x128x256 .f32) (v : Vec F S1x4x128x512 .f32) (st : Vec F S1x4x256x512 .f32) (mask : Vec F S1x4x128x128 .f32)
  (xi zeta : Vec F S1x4x128x1 .f32) (gc : Vec F S1x4x1x1 .f32)

/-- A chunk's scores, -/
def scoresV : Vec F S1x4x128x128 .f32 := mulf (Host.dotGeneral dot_S1x4x128x256_S1x4x128x256_S1x4x128x128_3_3_2_2_01_01 none q k) mask
/-- its decayed keys, -/
def kzV : Vec F S1x4x128x256 .f32 := mulf k (broadcastInDim S1x4x128x256 ![0, 1, 2, 3] bcast_S1x4x128x1_S1x4x128x256_0_1_2_3 zeta)
/-- its output -/
def outV : Vec F S1x4x128x512 .f32 :=
  addf (Host.dotGeneral dot_S1x4x128x128_S1x4x128x512_S1x4x128x512_3_2_2_3_01_01 none (scoresV q k mask) v)
    (mulf (Host.dotGeneral dot_S1x4x128x256_S1x4x256x512_S1x4x128x512_3_2_2_3_01_01 none q st)
      (broadcastInDim S1x4x128x512 ![0, 1, 2, 3] bcast_S1x4x128x1_S1x4x128x512_0_1_2_3 xi))
/-- and the state after it. -/
def stV : Vec F S1x4x256x512 .f32 :=
  addf (mulf st (broadcastInDim S1x4x256x512 ![0, 1, 2, 3] bcast_S1x4x1x1_S1x4x256x512_0_1_2_3 gc))
    (Host.dotGeneral dot_S1x4x128x256_S1x4x128x512_S1x4x256x512_2_2_3_3_01_01 none (kzV k zeta) v)

end Fwd

section Trip0

variable (X : Valuation τ sig (Elt F)) (k : Fin 64) (hk : (X main_v126_7 : Vec F S_ .i32) = fun _ => (BitVec.ofNat 32 k.val : BitVec 32))

include hk

/-- A trip's new state, -/
theorem trip0_st : after trip0.ops X main_v126_8 = stV (pick (X main_v126_1 : Vec F S64x1x4x128x256 .f32) k) (pick (X main_v126_2 : Vec F S64x1x4x128x512 .f32) k) (X main_v126_8) (X main_v126_4) (X main_v126_3) := by
  simp only [trip0, Line.append, Line.cons, Line.last, Line.nil, fn_dynamic_index_in_dim_line, fn_dynamic_index_in_dim_1_line, fn_dynamic_update_index_in_dim_line, fn_dynamic_update_index_in_dim_2_line, fn_dynamic_update_index_in_dim_3_line, fn_dynamic_update_index_in_dim_4_line, id, List.cons_append, List.nil_append]
  after_reads_simp [unaryIndexed_result_read, binaryIndexed_result_read, indexContents_tref_cons, indexContents_tref_empty]
  try simp only [StableHlo.TRef.toBuf, StableHlo.TRef.ofBuf, cast_cast, cast_eq]
  exact congrArg₂ (fun a b => stV a b _ _ _) (pick_at _ _ k hk _ _) (pick_at _ _ k hk _ _)

/-- its output, -/
theorem trip0_out : after trip0.ops X main_v126_9 = put (X main_v126_9 : Vec F S64x1x4x128x512 .f32) k
    (outV (pick (X main_v126_0 : Vec F S64x1x4x128x256 .f32) k) (pick (X main_v126_1 : Vec F S64x1x4x128x256 .f32) k) (pick (X main_v126_2 : Vec F S64x1x4x128x512 .f32) k) (X main_v126_8) (X main_v126_5) (X main_v126_6)) := by
  simp only [trip0, Line.append, Line.cons, Line.last, Line.nil, fn_dynamic_index_in_dim_line, fn_dynamic_index_in_dim_1_line, fn_dynamic_update_index_in_dim_line, fn_dynamic_update_index_in_dim_2_line, fn_dynamic_update_index_in_dim_3_line, fn_dynamic_update_index_in_dim_4_line, id, List.cons_append, List.nil_append]
  after_reads_simp [unaryIndexed_result_read, binaryIndexed_result_read, indexContents_tref_cons, indexContents_tref_empty]
  try simp only [StableHlo.TRef.toBuf, StableHlo.TRef.ofBuf, cast_cast, cast_eq]
  refine (put_at _ _ _ k hk _ _).trans (congrArg (put _ k) ?_)
  exact congr3 (fun a b c => outV a b c _ _ _) (pick_at _ _ k hk _ _) (pick_at _ _ k hk _ _) (pick_at _ _ k hk _ _)

/-- its scores, -/
theorem trip0_scores : after trip0.ops X main_v126_10 = put (X main_v126_10 : Vec F S64x1x4x128x128 .f32) k
    (scoresV (pick (X main_v126_0 : Vec F S64x1x4x128x256 .f32) k) (pick (X main_v126_1 : Vec F S64x1x4x128x256 .f32) k) (X main_v126_5)) := by
  simp only [trip0, Line.append, Line.cons, Line.last, Line.nil, fn_dynamic_index_in_dim_line, fn_dynamic_index_in_dim_1_line, fn_dynamic_update_index_in_dim_line, fn_dynamic_update_index_in_dim_2_line, fn_dynamic_update_index_in_dim_3_line, fn_dynamic_update_index_in_dim_4_line, id, List.cons_append, List.nil_append]
  after_reads_simp [unaryIndexed_result_read, binaryIndexed_result_read, indexContents_tref_cons, indexContents_tref_empty]
  try simp only [StableHlo.TRef.toBuf, StableHlo.TRef.ofBuf, cast_cast, cast_eq]
  refine (put_at _ _ _ k hk _ _).trans (congrArg (put _ k) ?_)
  exact congrArg₂ (fun a b => scoresV a b _) (pick_at _ _ k hk _ _) (pick_at _ _ k hk _ _)

/-- the state it started from -/
theorem trip0_before : after trip0.ops X main_v126_11 = put (X main_v126_11 : Vec F S64x1x4x256x512 .f32) k (X main_v126_8) := by
  simp only [trip0, Line.append, Line.cons, Line.last, Line.nil, fn_dynamic_index_in_dim_line, fn_dynamic_index_in_dim_1_line, fn_dynamic_update_index_in_dim_line, fn_dynamic_update_index_in_dim_2_line, fn_dynamic_update_index_in_dim_3_line, fn_dynamic_update_index_in_dim_4_line, id, List.cons_append, List.nil_append]
  after_reads_simp [unaryIndexed_result_read, binaryIndexed_result_read, indexContents_tref_cons, indexContents_tref_empty]
  try simp only [StableHlo.TRef.toBuf, StableHlo.TRef.ofBuf, cast_cast, cast_eq]
  exact put_at _ _ _ k hk _ _

/-- and its decayed keys. -/
theorem trip0_kz : after trip0.ops X main_v126_12 = put (X main_v126_12 : Vec F S64x1x4x128x256 .f32) k (kzV (pick (X main_v126_1 : Vec F S64x1x4x128x256 .f32) k) (X main_v126_4)) := by
  simp only [trip0, Line.append, Line.cons, Line.last, Line.nil, fn_dynamic_index_in_dim_line, fn_dynamic_index_in_dim_1_line, fn_dynamic_update_index_in_dim_line, fn_dynamic_update_index_in_dim_2_line, fn_dynamic_update_index_in_dim_3_line, fn_dynamic_update_index_in_dim_4_line, id, List.cons_append, List.nil_append]
  after_reads_simp [unaryIndexed_result_read, binaryIndexed_result_read, indexContents_tref_cons, indexContents_tref_empty]
  try simp only [StableHlo.TRef.toBuf, StableHlo.TRef.ofBuf, cast_cast, cast_eq]
  refine (put_at _ _ _ k hk _ _).trans (congrArg (put _ k) ?_)
  exact congrArg (fun a => kzV a _) (pick_at _ _ k hk _ _)

end Trip0

/-! ## The backward loop's trip -/

section Bwd

variable (dO v : Vec F S1x4x128x512 .f32) (q k kz : Vec F S1x4x128x256 .f32) (scores mask : Vec F S1x4x128x128 .f32)
  (st dst : Vec F S1x4x256x512 .f32) (xi zeta : Vec F S1x4x128x1 .f32) (gc : Vec F S1x4x1x1 .f32)

/-- A chunk's output gradient decayed from its start, -/
def doxV : Vec F S1x4x128x512 .f32 := mulf dO (broadcastInDim S1x4x128x512 ![0, 1, 2, 3] bcast_S1x4x128x1_S1x4x128x512_0_1_2_3 xi)
/-- its scores' gradient, -/
def dscoresV : Vec F S1x4x128x128 .f32 := mulf (Host.dotGeneral dot_S1x4x128x512_S1x4x128x512_S1x4x128x128_3_3_2_2_01_01 none dO v) mask
/-- the state's gradient before it, -/
def dstV : Vec F S1x4x256x512 .f32 :=
  addf (mulf dst (broadcastInDim S1x4x256x512 ![0, 1, 2, 3] bcast_S1x4x1x1_S1x4x256x512_0_1_2_3 gc))
    (transpose S1x4x256x512 [0, 1, 3, 2] (Host.dotGeneral dot_S1x4x128x512_S1x4x128x256_S1x4x512x256_2_2_3_3_01_01 none (doxV dO xi) q)
      transposes_S1x4x512x256_S1x4x256x512_0_1_3_2)
/-- its queries' gradient, -/
def dqV : Vec F S1x4x128x256 .f32 :=
  addf (Host.dotGeneral dot_S1x4x128x512_S1x4x256x512_S1x4x128x256_3_3_2_2_01_01 none (doxV dO xi) st)
    (Host.dotGeneral dot_S1x4x128x128_S1x4x128x256_S1x4x128x256_3_2_2_3_01_01 none (dscoresV dO v mask) k)
/-- its keys' -/
def dkV : Vec F S1x4x128x256 .f32 :=
  addf (mulf (transpose S1x4x128x256 [0, 1, 3, 2] (Host.dotGeneral dot_S1x4x256x512_S1x4x128x512_S1x4x256x128_3_3_2_2_01_01 none dst v)
      transposes_S1x4x256x128_S1x4x128x256_0_1_3_2) (broadcastInDim S1x4x128x256 ![0, 1, 2, 3] bcast_S1x4x128x1_S1x4x128x256_0_1_2_3 zeta))
    (Host.dotGeneral dot_S1x4x128x128_S1x4x128x256_S1x4x128x256_2_2_3_3_01_01 none (dscoresV dO v mask) q)
/-- and its values'. -/
def dvV : Vec F S1x4x128x512 .f32 :=
  addf (transpose S1x4x128x512 [0, 1, 3, 2] (Host.dotGeneral dot_S1x4x256x512_S1x4x128x256_S1x4x512x128_2_3_3_2_01_01 none dst kz)
      transposes_S1x4x512x128_S1x4x128x512_0_1_3_2)
    (transpose S1x4x128x512 [0, 1, 3, 2] (Host.dotGeneral dot_S1x4x128x512_S1x4x128x128_S1x4x512x128_2_2_3_3_01_01 none dO scores)
      transposes_S1x4x512x128_S1x4x128x512_0_1_3_2)

end Bwd

section Trip1

variable (X : Valuation τ sig (Elt F)) (k : Fin 64)
  (hk : (subi (subi (constantI S_ 32 64#32) (X main_v192_11)) (constantI S_ 32 1#32) : Vec F S_ .i32) = fun _ => (BitVec.ofNat 32 k.val : BitVec 32))

include hk

/-- A trip's new state gradient, -/
theorem trip1_dst : after trip1.ops X main_v192_12 = dstV (pick (X main_v192_0 : Vec F S64x1x4x128x512 .f32) k) (pick (X main_v192_2 : Vec F S64x1x4x128x256 .f32) k) (X main_v192_12) (X main_v192_8) (X main_v192_9) := by
  simp only [trip1, Line.append, Line.cons, Line.last, Line.nil, fn_dynamic_index_in_dim_line, fn_dynamic_index_in_dim_1_line, fn_dynamic_index_in_dim_6_line, fn_dynamic_index_in_dim_7_line, fn_dynamic_update_index_in_dim_line, fn_dynamic_update_index_in_dim_4_line, id, List.cons_append, List.nil_append]
  after_reads_simp [unaryIndexed_result_read, binaryIndexed_result_read, indexContents_tref_cons, indexContents_tref_empty]
  try simp only [StableHlo.TRef.toBuf, StableHlo.TRef.ofBuf, cast_cast, cast_eq]
  exact congrArg₂ (fun a b => dstV a b _ _ _) (pick_at _ _ k hk _ _) (pick_at _ _ k hk _ _)

/-- its queries' gradient, -/
theorem trip1_dq : after trip1.ops X main_v192_13 = put (X main_v192_13 : Vec F S64x1x4x128x256 .f32) k
    (dqV (pick (X main_v192_0 : Vec F S64x1x4x128x512 .f32) k) (pick (X main_v192_3 : Vec F S64x1x4x128x512 .f32) k) (pick (X main_v192_1 : Vec F S64x1x4x128x256 .f32) k) (X main_v192_7) (pick (X main_v192_5 : Vec F S64x1x4x256x512 .f32) k) (X main_v192_8)) := by
  simp only [trip1, Line.append, Line.cons, Line.last, Line.nil, fn_dynamic_index_in_dim_line, fn_dynamic_index_in_dim_1_line, fn_dynamic_index_in_dim_6_line, fn_dynamic_index_in_dim_7_line, fn_dynamic_update_index_in_dim_line, fn_dynamic_update_index_in_dim_4_line, id, List.cons_append, List.nil_append]
  after_reads_simp [unaryIndexed_result_read, binaryIndexed_result_read, indexContents_tref_cons, indexContents_tref_empty]
  try simp only [StableHlo.TRef.toBuf, StableHlo.TRef.ofBuf, cast_cast, cast_eq]
  refine (put_at _ _ _ k hk _ _).trans (congrArg (put _ k) ?_)
  exact congr4 (fun a b c d => dqV a b c _ d _) (pick_at _ _ k hk _ _) (pick_at _ _ k hk _ _) (pick_at _ _ k hk _ _) (pick_at _ _ k hk _ _)

/-- its keys' -/
theorem trip1_dk : after trip1.ops X main_v192_14 = put (X main_v192_14 : Vec F S64x1x4x128x256 .f32) k
    (dkV (pick (X main_v192_0 : Vec F S64x1x4x128x512 .f32) k) (pick (X main_v192_3 : Vec F S64x1x4x128x512 .f32) k) (pick (X main_v192_2 : Vec F S64x1x4x128x256 .f32) k) (X main_v192_7) (X main_v192_12) (X main_v192_10)) := by
  simp only [trip1, Line.append, Line.cons, Line.last, Line.nil, fn_dynamic_index_in_dim_line, fn_dynamic_index_in_dim_1_line, fn_dynamic_index_in_dim_6_line, fn_dynamic_index_in_dim_7_line, fn_dynamic_update_index_in_dim_line, fn_dynamic_update_index_in_dim_4_line, id, List.cons_append, List.nil_append]
  after_reads_simp [unaryIndexed_result_read, binaryIndexed_result_read, indexContents_tref_cons, indexContents_tref_empty]
  try simp only [StableHlo.TRef.toBuf, StableHlo.TRef.ofBuf, cast_cast, cast_eq]
  refine (put_at _ _ _ k hk _ _).trans (congrArg (put _ k) ?_)
  exact congr3 (fun a b c => dkV a b c _ _ _) (pick_at _ _ k hk _ _) (pick_at _ _ k hk _ _) (pick_at _ _ k hk _ _)

/-- and its values'. -/
theorem trip1_dv : after trip1.ops X main_v192_15 = put (X main_v192_15 : Vec F S64x1x4x128x512 .f32) k
    (dvV (pick (X main_v192_0 : Vec F S64x1x4x128x512 .f32) k) (pick (X main_v192_6 : Vec F S64x1x4x128x256 .f32) k) (pick (X main_v192_4 : Vec F S64x1x4x128x128 .f32) k) (X main_v192_12)) := by
  simp only [trip1, Line.append, Line.cons, Line.last, Line.nil, fn_dynamic_index_in_dim_line, fn_dynamic_index_in_dim_1_line, fn_dynamic_index_in_dim_6_line, fn_dynamic_index_in_dim_7_line, fn_dynamic_update_index_in_dim_line, fn_dynamic_update_index_in_dim_4_line, id, List.cons_append, List.nil_append]
  after_reads_simp [unaryIndexed_result_read, binaryIndexed_result_read, indexContents_tref_cons, indexContents_tref_empty]
  try simp only [StableHlo.TRef.toBuf, StableHlo.TRef.ofBuf, cast_cast, cast_eq]
  refine (put_at _ _ _ k hk _ _).trans (congrArg (put _ k) ?_)
  exact congr3 (fun a b c => dvV a b c _) (pick_at _ _ k hk _ _) (pick_at _ _ k hk _ _) (pick_at _ _ k hk _ _)

end Trip1

/-! ## The trips' values at an index, on extended reals -/

section Elements

/-- A picked entry's element. -/
@[pointwise] theorem pick_apply {a b : ℕ} (x : Vec Ideal ⟨5, ![64, 1, 4, a, b]⟩ .f32) (k : Fin 64) (h : Fin 4) (r : Fin a) (d : Fin b) :
    pick x k (ix4 0 h r d) = x (ix5 k 0 h r d) := rfl

/-- A stack's element after one entry is replaced. -/
theorem put_apply {a b : ℕ} (x : Vec Ideal ⟨5, ![64, 1, 4, a, b]⟩ .f32) (k n : Fin 64) (u : Vec Ideal ⟨4, ![1, 4, a, b]⟩ .f32) (h : Fin 4) (r : Fin a) (d : Fin b) :
    put x k u (ix5 n 0 h r d) = if n.val = k.val then u (ix4 0 h r d) else x (ix5 n 0 h r d) := rfl

variable (q k kz : Vec Ideal S1x4x128x256 .f32) (v dO : Vec Ideal S1x4x128x512 .f32) (st dst : Vec Ideal S1x4x256x512 .f32)
  (scores mask : Vec Ideal S1x4x128x128 .f32) (xi zeta : Vec Ideal S1x4x128x1 .f32) (gc : Vec Ideal S1x4x1x1 .f32) (h : Fin 4)

theorem scoresV_apply (r s : Fin 128) : (scoresV q k mask (ix4 0 h r s) : EReal) = (∑ d : Fin 256, q (ix4 0 h r d) * k (ix4 0 h s d)) * mask (ix4 0 h r s) := by
  pointwise [scoresV]
theorem kzV_apply (r : Fin 128) (i : Fin 256) : (kzV k zeta (ix4 0 h r i) : EReal) = k (ix4 0 h r i) * zeta (ix4 0 h r 0) := by
  pointwise [kzV]
theorem outV_apply (r : Fin 128) (j : Fin 512) : (outV q k v st mask xi (ix4 0 h r j) : EReal) =
    ∑ s : Fin 128, scoresV q k mask (ix4 0 h r s) * v (ix4 0 h s j) + (∑ i : Fin 256, q (ix4 0 h r i) * st (ix4 0 h i j)) * xi (ix4 0 h r 0) := by
  pointwise [outV]
theorem stV_apply (i : Fin 256) (j : Fin 512) : (stV k v st zeta gc (ix4 0 h i j) : EReal) =
    st (ix4 0 h i j) * gc (ix4 0 h 0 0) + ∑ r : Fin 128, kzV k zeta (ix4 0 h r i) * v (ix4 0 h r j) := by
  pointwise [stV]
theorem doxV_apply (r : Fin 128) (j : Fin 512) : (doxV dO xi (ix4 0 h r j) : EReal) = dO (ix4 0 h r j) * xi (ix4 0 h r 0) := by
  pointwise [doxV]
theorem dscoresV_apply (r s : Fin 128) : (dscoresV dO v mask (ix4 0 h r s) : EReal) = (∑ j : Fin 512, dO (ix4 0 h r j) * v (ix4 0 h s j)) * mask (ix4 0 h r s) := by
  pointwise [dscoresV]
theorem dstV_apply (i : Fin 256) (j : Fin 512) : (dstV dO q dst xi gc (ix4 0 h i j) : EReal) =
    dst (ix4 0 h i j) * gc (ix4 0 h 0 0) + ∑ r : Fin 128, doxV dO xi (ix4 0 h r j) * q (ix4 0 h r i) := by
  pointwise [dstV]
theorem dqV_apply (r : Fin 128) (d : Fin 256) : (dqV dO v k mask st xi (ix4 0 h r d) : EReal) =
    ∑ j : Fin 512, doxV dO xi (ix4 0 h r j) * st (ix4 0 h d j) + ∑ s : Fin 128, dscoresV dO v mask (ix4 0 h r s) * k (ix4 0 h s d) := by
  pointwise [dqV]
theorem dkV_apply (s : Fin 128) (d : Fin 256) : (dkV dO v q mask dst zeta (ix4 0 h s d) : EReal) =
    (∑ j : Fin 512, dst (ix4 0 h d j) * v (ix4 0 h s j)) * zeta (ix4 0 h s 0) + ∑ r : Fin 128, dscoresV dO v mask (ix4 0 h r s) * q (ix4 0 h r d) := by
  pointwise [dkV]
theorem dvV_apply (s : Fin 128) (j : Fin 512) : (dvV dO kz scores dst (ix4 0 h s j) : EReal) =
    ∑ i : Fin 256, dst (ix4 0 h i j) * kz (ix4 0 h s i) + ∑ r : Fin 128, dO (ix4 0 h r j) * scores (ix4 0 h r s) := by
  pointwise [dvV]

end Elements

end Cert.Proof.RetRef

end
end
-- ==== Proof.RetRefLoop.lean ====
/- The reference program's two loops at their ends: the forward loop leaves each chunk's output, scores, starting state and
   decayed keys, the backward loop each chunk's gradients, as the recurrences over the chunks give them. -/
module

public import proofs.«01_k».proof.Proof.RetRefTrip
public import proofs.«01_k».proof.Proof.RetSpec

@[expose] public section

set_option maxRecDepth 16384

noncomputable section

namespace Cert.Proof.RetRef

open Cert.RetRefIdeal Cert.RetRefIdeal.Gen
open Idealize.ShloMosaic Idealize.ShloMosaic.TcCoe Idealize.ShloMosaic.StableHlo
open Cert.Proof.RetSpec

/-! ## The forward loop -/

/-- What the forward loop walks over holds the heads' chunks. -/
structure Feeds (V : Valuation τ sig (Elt Ideal)) (H : Fin 4 → Head) : Prop where
  q : ∀ (n : Fin 64) h r d, (V main_v126_0 : Vec Ideal S64x1x4x128x256 .f32) (ix5 n 0 h r d) = (H h).q n r d
  k : ∀ (n : Fin 64) h r d, (V main_v126_1 : Vec Ideal S64x1x4x128x256 .f32) (ix5 n 0 h r d) = (H h).k n r d
  v : ∀ (n : Fin 64) h r j, (V main_v126_2 : Vec Ideal S64x1x4x128x512 .f32) (ix5 n 0 h r j) = (H h).v n r j
  gc : ∀ h, (V main_v126_3 : Vec Ideal S1x4x1x1 .f32) (ix4 0 h 0 0) = (H h).gc
  zeta : ∀ h r, (V main_v126_4 : Vec Ideal S1x4x128x1 .f32) (ix4 0 h r 0) = (H h).zeta r
  mask : ∀ h r s, (V main_v126_5 : Vec Ideal S1x4x128x128 .f32) (ix4 0 h r s) = (H h).mask r s
  xi : ∀ h r, (V main_v126_6 : Vec Ideal S1x4x128x1 .f32) (ix4 0 h r 0) = (H h).xi r

/-- What the forward loop has left after `k` chunks. -/
structure Done (V : Valuation τ sig (Elt Ideal)) (H : Fin 4 → Head) (k : ℕ) : Prop where
  st : ∀ h i j, (V main_v126_8 : Vec Ideal S1x4x256x512 .f32) (ix4 0 h i j) = (H h).st k i j
  out : ∀ n : Fin 64, n.val < k → ∀ h r j, (V main_v126_9 : Vec Ideal S64x1x4x128x512 .f32) (ix5 n 0 h r j) = (H h).out n r j
  scores : ∀ n : Fin 64, n.val < k → ∀ h r s, (V main_v126_10 : Vec Ideal S64x1x4x128x128 .f32) (ix5 n 0 h r s) = (H h).scores n r s
  before : ∀ n : Fin 64, n.val < k → ∀ h i j, (V main_v126_11 : Vec Ideal S64x1x4x256x512 .f32) (ix5 n 0 h i j) = (H h).st n i j
  kz : ∀ n : Fin 64, n.val < k → ∀ h r i, (V main_v126_12 : Vec Ideal S64x1x4x128x256 .f32) (ix5 n 0 h r i) = (H h).kz n r i

section Trip0

variable {X : Valuation τ sig (Elt Ideal)} {H : Fin 4 → Head} {k : Fin 64}

/-- What holds the chunks still holds them where nothing walked over has changed. -/
theorem Feeds.kept {V : Valuation τ sig (Elt Ideal)} (f : Feeds X H)
    (e : ∀ b ∈ ([main_v126_0, main_v126_1, main_v126_2, main_v126_3, main_v126_4, main_v126_5, main_v126_6] : List (Ref sig .tc)), V (Proc.devRef .tc b) = X (Proc.devRef .tc b)) : Feeds V H where
  q n h r d := by rw [e main_v126_0 (by decide)]; exact f.q n h r d
  k n h r d := by rw [e main_v126_1 (by decide)]; exact f.k n h r d
  v n h r d := by rw [e main_v126_2 (by decide)]; exact f.v n h r d
  gc h := by rw [e main_v126_3 (by decide)]; exact f.gc h
  zeta h r := by rw [e main_v126_4 (by decide)]; exact f.zeta h r
  mask h r s := by rw [e main_v126_5 (by decide)]; exact f.mask h r s
  xi h r := by rw [e main_v126_6 (by decide)]; exact f.xi h r

/-- What is done stays done where nothing carried has changed. -/
theorem Done.kept {V : Valuation τ sig (Elt Ideal)} {k : ℕ} (D : Done X H k)
    (e : ∀ b ∈ ([main_v126_8, main_v126_9, main_v126_10, main_v126_11, main_v126_12] : List (Ref sig .tc)), V (Proc.devRef .tc b) = X (Proc.devRef .tc b)) : Done V H k where
  st := by rw [e main_v126_8 (by decide)]; exact D.st
  out := by rw [e main_v126_9 (by decide)]; exact D.out
  scores := by rw [e main_v126_10 (by decide)]; exact D.scores
  before := by rw [e main_v126_11 (by decide)]; exact D.before
  kz := by rw [e main_v126_12 (by decide)]; exact D.kz

/-- An element of a stack whose first entries are done, after the next one is. -/
theorem put_done {a b : ℕ} {x : Vec Ideal ⟨5, ![64, 1, 4, a, b]⟩ .f32} {u : Vec Ideal ⟨4, ![1, 4, a, b]⟩ .f32} {f : Fin 4 → ℕ → Fin a → Fin b → EReal}
    (old : ∀ n : Fin 64, n.val < k.val → ∀ h r d, x (ix5 n 0 h r d) = f h n r d) (new : ∀ h r d, u (ix4 0 h r d) = f h k r d)
    (n : Fin 64) (hn : n.val < k.val + 1) (h : Fin 4) (r : Fin a) (d : Fin b) : put x k u (ix5 n 0 h r d) = f h n r d := by
  rw [put_apply]
  split
  · rename_i e; rw [e]; exact new h r d
  · exact old n (by omega) h r d

/-- A trip does the next chunk. -/
theorem Done.trip (f : Feeds X H) (D : Done X H k) (hk : (X main_v126_7 : Vec Ideal S_ .i32) = fun _ => (BitVec.ofNat 32 k.val : BitVec 32)) :
    Done (after trip0.ops X) H (k.val + 1) where
  st h i j := by
    rw [trip0_st X k hk, stV_apply]
    simp only [kzV_apply, pick_apply, f.k, f.v, f.gc, f.zeta, D.st]
    rfl
  out := by
    rw [trip0_out X k hk]
    refine put_done D.out fun h r j => ?_
    rw [outV_apply]
    simp only [scoresV_apply, pick_apply, f.q, f.k, f.v, f.xi, f.mask, D.st]
    rfl
  scores := by
    rw [trip0_scores X k hk]
    refine put_done D.scores fun h r s => ?_
    rw [scoresV_apply]
    simp only [pick_apply, f.q, f.k, f.mask]
    rfl
  before := by
    rw [trip0_before X k hk]
    exact put_done D.before D.st
  kz := by
    rw [trip0_kz X k hk]
    refine put_done D.kz fun h r i => ?_
    rw [kzV_apply]
    simp only [pick_apply, f.k, f.zeta]
    rfl

end Trip0

/-! ## The backward loop -/

/-- What the backward loop walks over holds the heads' chunks and the outputs' gradient. -/
structure FeedsB (V : Valuation τ sig (Elt Ideal)) (H : Fin 4 → Head) (dO : Fin 4 → ℕ → Fin 128 → Fin 512 → EReal) : Prop where
  dO : ∀ (n : Fin 64) h r j, (V main_v192_0 : Vec Ideal S64x1x4x128x512 .f32) (ix5 n 0 h r j) = dO h n r j
  k : ∀ (n : Fin 64) h r d, (V main_v192_1 : Vec Ideal S64x1x4x128x256 .f32) (ix5 n 0 h r d) = (H h).k n r d
  q : ∀ (n : Fin 64) h r d, (V main_v192_2 : Vec Ideal S64x1x4x128x256 .f32) (ix5 n 0 h r d) = (H h).q n r d
  v : ∀ (n : Fin 64) h r j, (V main_v192_3 : Vec Ideal S64x1x4x128x512 .f32) (ix5 n 0 h r j) = (H h).v n r j
  scores : ∀ (n : Fin 64) h r s, (V main_v192_4 : Vec Ideal S64x1x4x128x128 .f32) (ix5 n 0 h r s) = (H h).scores n r s
  st : ∀ (n : Fin 64) h i j, (V main_v192_5 : Vec Ideal S64x1x4x256x512 .f32) (ix5 n 0 h i j) = (H h).st n i j
  kz : ∀ (n : Fin 64) h r i, (V main_v192_6 : Vec Ideal S64x1x4x128x256 .f32) (ix5 n 0 h r i) = (H h).kz n r i
  mask : ∀ h r s, (V main_v192_7 : Vec Ideal S1x4x128x128 .f32) (ix4 0 h r s) = (H h).mask r s
  xi : ∀ h r, (V main_v192_8 : Vec Ideal S1x4x128x1 .f32) (ix4 0 h r 0) = (H h).xi r
  gc : ∀ h, (V main_v192_9 : Vec Ideal S1x4x1x1 .f32) (ix4 0 h 0 0) = (H h).gc
  zeta : ∀ h r, (V main_v192_10 : Vec Ideal S1x4x128x1 .f32) (ix4 0 h r 0) = (H h).zeta r

/-- What the backward loop has left after the last `t` chunks. -/
structure DoneB (V : Valuation τ sig (Elt Ideal)) (H : Fin 4 → Head) (dO : Fin 4 → ℕ → Fin 128 → Fin 512 → EReal) (t : ℕ) : Prop where
  dst : ∀ h i j, (V main_v192_12 : Vec Ideal S1x4x256x512 .f32) (ix4 0 h i j) = (H h).dst (dO h) t i j
  dq : ∀ n : Fin 64, 64 - t ≤ n.val → ∀ h r d, (V main_v192_13 : Vec Ideal S64x1x4x128x256 .f32) (ix5 n 0 h r d) = (H h).dqr (dO h) n r d
  dk : ∀ n : Fin 64, 64 - t ≤ n.val → ∀ h r d, (V main_v192_14 : Vec Ideal S64x1x4x128x256 .f32) (ix5 n 0 h r d) = (H h).dkr (dO h) n r d
  dv : ∀ n : Fin 64, 64 - t ≤ n.val → ∀ h r j, (V main_v192_15 : Vec Ideal S64x1x4x128x512 .f32) (ix5 n 0 h r j) = (H h).dv (dO h) n r j

section Trip1

variable {X : Valuation τ sig (Elt Ideal)} {H : Fin 4 → Head} {dO : Fin 4 → ℕ → Fin 128 → Fin 512 → EReal}

/-- What holds the chunks still holds them where nothing walked over has changed. -/
theorem FeedsB.kept {V : Valuation τ sig (Elt Ideal)} (f : FeedsB X H dO)
    (e : ∀ b ∈ ([main_v192_0, main_v192_1, main_v192_2, main_v192_3, main_v192_4, main_v192_5, main_v192_6, main_v192_7, main_v192_8, main_v192_9, main_v192_10] : List (Ref sig .tc)), V (Proc.devRef .tc b) = X (Proc.devRef .tc b)) : FeedsB V H dO where
  dO n h r j := by rw [e main_v192_0 (by decide)]; exact f.dO n h r j
  k n h r d := by rw [e main_v192_1 (by decide)]; exact f.k n h r d
  q n h r d := by rw [e main_v192_2 (by decide)]; exact f.q n h r d
  v n h r d := by rw [e main_v192_3 (by decide)]; exact f.v n h r d
  scores n h r s := by rw [e main_v192_4 (by decide)]; exact f.scores n h r s
  st n h i j := by rw [e main_v192_5 (by decide)]; exact f.st n h i j
  kz n h r i := by rw [e main_v192_6 (by decide)]; exact f.kz n h r i
  mask h r s := by rw [e main_v192_7 (by decide)]; exact f.mask h r s
  xi h r := by rw [e main_v192_8 (by decide)]; exact f.xi h r
  gc h := by rw [e main_v192_9 (by decide)]; exact f.gc h
  zeta h r := by rw [e main_v192_10 (by decide)]; exact f.zeta h r

/-- What is done stays done where nothing carried has changed. -/
theorem DoneB.kept {V : Valuation τ sig (Elt Ideal)} {t : ℕ} (D : DoneB X H dO t)
    (e : ∀ b ∈ ([main_v192_12, main_v192_13, main_v192_14, main_v192_15] : List (Ref sig .tc)), V (Proc.devRef .tc b) = X (Proc.devRef .tc b)) : DoneB V H dO t where
  dst := by rw [e main_v192_12 (by decide)]; exact D.dst
  dq := by rw [e main_v192_13 (by decide)]; exact D.dq
  dk := by rw [e main_v192_14 (by decide)]; exact D.dk
  dv := by rw [e main_v192_15 (by decide)]; exact D.dv

/-- An element of a stack whose last entries are done, after the one before them is. -/
theorem put_doneB {a b : ℕ} {k : Fin 64} {x : Vec Ideal ⟨5, ![64, 1, 4, a, b]⟩ .f32} {u : Vec Ideal ⟨4, ![1, 4, a, b]⟩ .f32} {f : Fin 4 → ℕ → Fin a → Fin b → EReal}
    {l : ℕ} (hl : l = k.val + 1) (old : ∀ n : Fin 64, l ≤ n.val → ∀ h r d, x (ix5 n 0 h r d) = f h n r d) (new : ∀ h r d, u (ix4 0 h r d) = f h k r d)
    (n : Fin 64) (hn : k.val ≤ n.val) (h : Fin 4) (r : Fin a) (d : Fin b) : put x k u (ix5 n 0 h r d) = f h n r d := by
  rw [put_apply]
  split
  · rename_i e; rw [e]; exact new h r d
  · exact old n (by omega) h r d

/-- The chunk that a backward count names. -/
theorem back_count : ∀ t : Fin 64, (64#32 - BitVec.ofNat 32 t.val - 1#32) = BitVec.ofNat 32 (63 - t.val) := by decide +kernel

/-- A trip does the chunk before. -/
theorem DoneB.trip {t : ℕ} (ht : t < 64) (f : FeedsB X H dO) (D : DoneB X H dO t)
    (hc : (X main_v192_11 : Vec Ideal S_ .i32) = fun _ => (BitVec.ofNat 32 t : BitVec 32)) : DoneB (after trip1.ops X) H dO (t + 1) := by
  have hk : (subi (subi (constantI S_ 32 64#32) (X main_v192_11)) (constantI S_ 32 1#32) : Vec Ideal S_ .i32) =
      fun _ => (BitVec.ofNat 32 (⟨63 - t, by omega⟩ : Fin 64).val : BitVec 32) := by
    rw [hc]; funext _; exact back_count ⟨t, ht⟩
  have e : 63 - (63 - t) = t := by omega
  have e1 : 64 - (t + 1) = 63 - t := by omega
  have e2 : 64 - t = (⟨63 - t, by omega⟩ : Fin 64).val + 1 := by show 64 - t = 63 - t + 1; omega
  constructor
  · intro h i j
    rw [trip1_dst X _ hk, dstV_apply]
    simp only [doxV_apply, pick_apply, f.dO, f.q, f.gc, f.xi, D.dst, mul_comm ((dO _ _ _ _) * _)]
    rfl
  · rw [e1, trip1_dq X _ hk]
    refine put_doneB (f := fun h n r d => (H h).dqr (dO h) n r d) e2 D.dq fun h r d => ?_
    rw [dqV_apply, add_comm]
    simp only [doxV_apply, dscoresV_apply, pick_apply, f.dO, f.v, f.k, f.mask, f.st, f.xi]
    rfl
  · rw [e1, trip1_dk X _ hk]
    refine put_doneB (f := fun h n r d => (H h).dkr (dO h) n r d) e2 D.dk fun h r d => ?_
    rw [dkV_apply, add_comm]
    simp only [dscoresV_apply, pick_apply, f.dO, f.v, f.q, f.mask, f.zeta, D.dst, mul_comm ((H _).dst _ _ _ _)]
    rw [Head.dkr, e]
    rfl
  · rw [e1, trip1_dv X _ hk]
    refine put_doneB (f := fun h n r j => (H h).dv (dO h) n r j) e2 D.dv fun h r j => ?_
    rw [dvV_apply, add_comm]
    simp only [pick_apply, f.dO, f.scores, f.kz, D.dst, mul_comm ((H _).dst _ _ _ _), mul_comm (dO _ _ _ _)]
    rw [Head.dv, e]

end Trip1

/-! ## Whole loops -/

/-- The condition keeps every buffer but its own two. -/
theorem cond0_kept (X : Valuation τ sig (Elt Ideal)) (b : Ref sig .tc) (h1 : b ≠ main_while0c_c_54) (h2 : b ≠ main_while0c_v245) :
    after (condOps0 Ideal) X (Proc.devRef .tc b) = X (Proc.devRef .tc b) := by
  show HloOp.result _ (HloOp.result _ X) _ = _
  rw [binary_result_ne (h := h2), nullary_result_ne (h := h1)]

section Loop0

variable (W : Dev nD → Valuation τ sig (Elt Ideal)) (c : Dev nD)

/-- What neither the body nor the condition writes is kept by the loop. -/
theorem kept0 (b : Ref sig .tc) (hb : b ∉ (trip0 (F := Ideal)).outs) (h1 : b ≠ main_while0c_c_54) (h2 : b ≠ main_while0c_v245) :
    ∀ k, at0 W k c (Proc.devRef .tc b) = W c (Proc.devRef .tc b)
  | 0 => rfl
  | k + 1 => by
    show after trip0.ops (after (condOps0 Ideal) (at0 W k c)) (Proc.devRef .tc b) = _
    rw [Line.keep trip0 _ b hb, cond0_kept _ b h1 h2, kept0 b hb h1 h2 k]

/-- The forward loop after `k` chunks. -/
theorem loop0 {H : Fin 4 → Head} (h0 : ∀ c, W c main_v126_7 = fun _ => (0#32 : BitVec 32)) (f : Feeds (W c) H) (D : Done (W c) H 0) :
    ∀ k, k ≤ 64 → Done (after (condOps0 Ideal) (at0 W k c)) H k
  | 0, _ => D.kept fun b hb => cond0_kept _ b (by revert b; decide) (by revert b; decide)
  | k + 1, hk => by
    have F : Feeds (after (condOps0 Ideal) (at0 W k c)) H := f.kept fun b hb =>
      (cond0_kept _ b (by revert b; decide) (by revert b; decide)).trans (kept0 W c b (by revert b; decide +kernel) (by revert b; decide) (by revert b; decide) k)
    refine Done.kept (X := at0 W (k + 1) c) ?_ fun b hb => cond0_kept _ b (by revert b; decide) (by revert b; decide)
    exact Done.trip (k := ⟨k, by omega⟩) F (loop0 h0 f D k (by omega))
      ((cond0_kept _ main_v126_7 (by decide) (by decide)).trans (count0 W h0 c k))

end Loop0

/-- The condition keeps every buffer but its own two. -/
theorem cond1_kept (X : Valuation τ sig (Elt Ideal)) (b : Ref sig .tc) (h1 : b ≠ main_while1c_c_57) (h2 : b ≠ main_while1c_v245) :
    after (condOps1 Ideal) X (Proc.devRef .tc b) = X (Proc.devRef .tc b) := by
  show HloOp.result _ (HloOp.result _ X) _ = _
  rw [binary_result_ne (h := h2), nullary_result_ne (h := h1)]

section Loop1

variable (W : Dev nD → Valuation τ sig (Elt Ideal)) (c : Dev nD)

/-- What neither the body nor the condition writes is kept by the loop. -/
theorem kept1 (b : Ref sig .tc) (hb : b ∉ (trip1 (F := Ideal)).outs) (h1 : b ≠ main_while1c_c_57) (h2 : b ≠ main_while1c_v245) :
    ∀ k, at1 W k c (Proc.devRef .tc b) = W c (Proc.devRef .tc b)
  | 0 => rfl
  | k + 1 => by
    show after trip1.ops (after (condOps1 Ideal) (at1 W k c)) (Proc.devRef .tc b) = _
    rw [Line.keep trip1 _ b hb, cond1_kept _ b h1 h2, kept1 b hb h1 h2 k]

/-- The backward loop after the last `t` chunks. -/
theorem loop1 {H : Fin 4 → Head} {dO : Fin 4 → ℕ → Fin 128 → Fin 512 → EReal} (h0 : ∀ c, W c main_v192_11 = fun _ => (0#32 : BitVec 32))
    (f : FeedsB (W c) H dO) (D : DoneB (W c) H dO 0) : ∀ k, k ≤ 64 → DoneB (after (condOps1 Ideal) (at1 W k c)) H dO k
  | 0, _ => D.kept fun b hb => cond1_kept _ b (by revert b; decide) (by revert b; decide)
  | k + 1, hk => by
    have F : FeedsB (after (condOps1 Ideal) (at1 W k c)) H dO := f.kept fun b hb =>
      (cond1_kept _ b (by revert b; decide) (by revert b; decide)).trans (kept1 W c b (by revert b; decide +kernel) (by revert b; decide) (by revert b; decide) k)
    refine DoneB.kept (X := at1 W (k + 1) c) ?_ fun b hb => cond1_kept _ b (by revert b; decide) (by revert b; decide)
    exact DoneB.trip (by omega) F (loop1 h0 f D k (by omega))
      ((cond1_kept _ main_v192_11 (by decide) (by decide)).trans (count1 W h0 c k))

end Loop1

end Cert.Proof.RetRef

end
end
-- ==== Proof.RetRefEntry.lean ====
/- What the reference program holds where its forward loop starts, in terms of the arguments it is launched with: the turned and
   scaled chunks, the decays, the gates, the gradient and the angles. -/
module

public import proofs.«01_k».proof.Proof.RetRefLoop
public import Idealize.ShloMosaic.Lib.StableHlo.ReadAt

@[expose] public section

set_option maxRecDepth 16384

noncomputable section

namespace Cert.Proof.RetRef

open Cert.RetRefIdeal Cert.RetRefIdeal.Gen
open Idealize.ShloMosaic Idealize.ShloMosaic.TcCoe Idealize.ShloMosaic.StableHlo
open Cert.Proof.RetSpec

variable (X : Valuation τ sig (Elt Ideal))

/-- Two halves of a head's columns put together, -/
def catV (a b : Vec Ideal S1x8192x4x128 .f32) : Vec Ideal S1x8192x4x256 .f32 :=
  concatenate S1x8192x4x256 3 [⟨S1x8192x4x128, a⟩, ⟨S1x8192x4x128, b⟩] concatenates_S1x8192x4x128_S1x8192x4x128_S1x8192x4x256_d3

/-- at an index. -/
@[pointwise] theorem catV_apply (a b : Vec Ideal S1x8192x4x128 .f32) (r : Fin 8192) (h : Fin 4) (d : Fin 256) :
    catV a b (ix4 0 r h d) = if hd : d.val < 128 then a (ix4 0 r h ⟨d.val, hd⟩) else b (ix4 0 r h ⟨d.val - 128, by omega⟩) := by
  pointwise [catV]

/-- The layer's arguments as the program is launched with them. -/
def argsOf : Args := args (fun R C => (X main_arg0 : Vec Ideal S1x8192x11264 .f32) (ix3 0 R C)) (fun R => (X main_arg1 : IVec S1x8192 32) (ix2 0 R))
  (fun R C => (X main_arg2 : Vec Ideal S1x8192x2048 .f32) (ix3 0 R C))

/-- A chunk's row by its number. -/
theorem row_eq (n : Fin 64) (r : Fin 128) : row n r = ⟨n.val * 128 + r.val, by omega⟩ := Fin.ext (row_val _ n.isLt r)

/-- The buffers that the forward loop starts from. -/
abbrev entry : Valuation τ sig (Elt Ideal) := after (part2 0).pre.ops (after (part1 0).ops (after (part0 0).ops X))

/-- What is held where the forward loop starts: the chunks, the angles' cosines and sines (twice, for the queries and for the
    keys), the gates and the output's gradient, and a zero state. -/
structure Entry (V : Valuation τ sig (Elt Ideal)) (A : Args) : Prop extends Feeds V A.head where
  st : ∀ h i j, ((V main_v126_8 : Vec Ideal S1x4x256x512 .f32) (ix4 0 h i j) : EReal) = (0 : EReal)
  z : ∀ R C, (V main_v4 : Vec Ideal S1x8192x2048 .f32) (ix3 0 R C) = A.x R ⟨4096 + C.val, by omega⟩
  ct : ∀ R C, (V main_arg2 : Vec Ideal S1x8192x2048 .f32) (ix3 0 R C) = A.ct R C
  cosq : ∀ R d, (V main_v19 : Vec Ideal S1x8192x1x128 .f32) (ix4 0 R 0 d) = A.cos R d
  sinq : ∀ R d, (V main_v21 : Vec Ideal S1x8192x1x128 .f32) (ix4 0 R 0 d) = A.sin R d
  cosk : ∀ R d, (V main_v49 : Vec Ideal S1x8192x1x128 .f32) (ix4 0 R 0 d) = A.cos R d
  sink : ∀ R d, (V main_v51 : Vec Ideal S1x8192x1x128 .f32) (ix4 0 R 0 d) = A.sin R d

set_option maxHeartbeats 4000000 in
/-- The operations before the forward loop put them there. -/
theorem entry_holds : Entry (entry X) (argsOf X) := by
  have hc : (fun a b => concatenate S1x8192x4x256 3 [⟨S1x8192x4x128, a⟩, ⟨S1x8192x4x128, b⟩] concatenates_S1x8192x4x128_S1x8192x4x128_S1x8192x4x256_d3) = catV := rfl
  refine ⟨⟨?q, ?k, ?v, ?gc, ?zeta, ?mask, ?xi⟩, ?st, ?z, ?ct, ?cosq, ?sinq, ?cosk, ?sink⟩
  all_goals intros
  all_goals simp only [entry, part0, part1, part2, Cut.cons, Cut.here, Line.append, Line.cons, Line.last, Line.nil, fn_where_line, fn_where_0_line, id, List.cons_append, List.nil_append, hc]
  all_goals after_reads_at
  all_goals try simp only [id]
  all_goals try clean_types
  all_goals try pointwise
  all_goals try simp only [← row_eq]
  all_goals rfl

end Cert.Proof.RetRef

end
end
-- ==== Proof.RetRefBetween.lean ====
/- What the reference program holds between its loops: the normalised outputs under their gate, the gates' gradient and the
   gradient of the outputs before the norm, row by row. -/
module

public import proofs.«01_k».proof.Proof.RetRefEntry

@[expose] public section

set_option maxRecDepth 16384

noncomputable section

namespace Cert.Proof.RetSpec

open Idealize.ShloMosaic

section

variable (y z ct : Fin 512 → EReal)

/-- The gate's gradient as the derivative of its product with the normalised row. -/
def dzR (j : Fin 512) : EReal :=
  rhat y j * ct j * Ideal.logistic (z j) + z j * (rhat y j * ct j) * (Ideal.logistic (z j) * (1 - Ideal.logistic (z j)))
/-- The gradient of a row's variance, -/
def dvarR : EReal :=
  Ideal.div ((∑ j, oc y j * dret z ct j) * (Ideal.ofBits .f32 3204448256#32 * Ideal.div (Ideal.rsqrt (var y)) (var y))) width
/-- of what is squared in it, -/
def dsqR (j : Fin 512) : EReal := dvarR y z ct * (Ideal.ofBits .f32 1073741824#32 * oc y j)
/-- of the row less its mean, by its own way -/
def docR (j : Fin 512) : EReal := dret z ct j * Ideal.rsqrt (var y)
/-- and of the row: both ways, and both again through the mean. -/
def dOR (j : Fin 512) : EReal :=
  docR y z ct j + dsqR y z ct j + Ideal.div ((∑ j, -docR y z ct j) + ∑ j, -dsqR y z ct j) width

end

end Cert.Proof.RetSpec

namespace Cert.Proof.RetRef

open Cert.RetRefIdeal Cert.RetRefIdeal.Gen
open Idealize.ShloMosaic Idealize.ShloMosaic.TcCoe Idealize.ShloMosaic.StableHlo
open Cert.Proof.RetSpec

/-- A sum over two axes of one entry is the start and that entry. -/
@[pointwise] theorem red03 (v : Vec Ideal S1x8192x4x1 .f32) (init : EReal) (R : Fin 8192) (h : Fin 4) :
    Ideal.hostReduceAdd reducesTo_S1x8192x4x1_S8192x4_d0_3 v init (ix2 R h) = init + v (ix4 0 R h 0) := by
  unfold Ideal.hostReduceAdd
  have e : ∀ i : S1x8192x4x1.Idx, reducesTo_S1x8192x4x1_S8192x4_d0_3.drop i = ix2 R h ↔ i = ix4 0 R h 0 := fun i => by
    constructor
    · intro e
      funext b
      apply Fin.ext
      match b with
      | ⟨0, hb⟩ => exact Nat.lt_one_iff.mp (i ⟨0, hb⟩).isLt
      | ⟨1, _⟩ => exact congrArg (fun k : S8192x4.Idx => (k 0).val) e
      | ⟨2, _⟩ => exact congrArg (fun k : S8192x4.Idx => (k 1).val) e
      | ⟨3, hb⟩ => exact Nat.lt_one_iff.mp (i ⟨3, hb⟩).isLt
    · rintro rfl
      funext b
      match b with
      | ⟨0, _⟩ => rfl
      | ⟨1, _⟩ => rfl
  rw [Finset.filter_congr (fun i _ => e i), Finset.filter_eq' _ (ix4 0 R h 0), if_pos (Finset.mem_univ _), Finset.sum_singleton]

variable (X : Valuation τ sig (Elt Ideal))

/-- The buffers that the backward loop starts from, after those that the forward loop leaves. -/
abbrev between : Valuation τ sig (Elt Ideal) := after (part4 0).pre.ops (after (part3 0).ops (after (part2 0).post.ops X))

variable (n : Fin 64) (h : Fin 4) (r : Fin 128)

/-- A row of the recurrence's outputs, -/
abbrev yRow (j : Fin 512) : EReal := (X main_v126_9 : Vec Ideal S64x1x4x128x512 .f32) (ix5 n 0 h r j)
/-- its gate -/
abbrev zRow (j : Fin 512) : EReal := (X main_v4 : Vec Ideal S1x8192x2048 .f32) (ix3 0 (row n r) (oCol h j))
/-- and the gradient of the two's product. -/
abbrev gRow (j : Fin 512) : EReal := (X main_arg2 : Vec Ideal S1x8192x2048 .f32) (ix3 0 (row n r) (oCol h j))

set_option maxHeartbeats 4000000 in
/-- Between the loops: the gated outputs, the gates' gradient and the outputs'. -/
theorem between_rows (j : Fin 512) :
    ((between X main_v154 : Vec Ideal S1x8192x2048 .f32) (ix3 0 (row n r) (oCol h j)) = gated (yRow X n h r) (zRow X n h r) j
      ∧ (between X main_v158 : Vec Ideal S1x8192x2048 .f32) (ix3 0 (row n r) (oCol h j)) = dzR (yRow X n h r) (zRow X n h r) (gRow X n h r) j)
      ∧ (between X main_v192_0 : Vec Ideal S64x1x4x128x512 .f32) (ix5 n 0 h r j) = dOR (yRow X n h r) (zRow X n h r) (gRow X n h r) j := by
  have e1 : (n.val * 128 + r.val) / 128 = n.val := by omega
  have e2 : (n.val * 128 + r.val) % 128 = r.val := by omega
  have e3 : (h.val * 512 + j.val) / 512 = h.val := by omega
  have e4 : (h.val * 512 + j.val) % 512 = j.val := by omega
  simp only [row_eq, oCol]
  refine ⟨⟨?_, ?_⟩, ?_⟩
  all_goals simp only [between, part2, part3, part4, Cut.cons, Cut.here, Line.append, Line.cons, Line.last, Line.nil, fn_silu_line, fn_silu_5_line, id, List.cons_append, List.nil_append]
  all_goals after_reads_at
  all_goals try simp only [id]
  all_goals try clean_types
  all_goals try pointwise
  all_goals simp only [e1, e2, e3, e4]
  all_goals simp only [← row_eq]
  all_goals rfl

end Cert.Proof.RetRef

end
end
-- ==== Proof.RetRefMid.lean ====
/- What the reference program's backward loop starts from, and what it leaves, in terms of the arguments the program is launched
   with. -/
module

public import proofs.«01_k».proof.Proof.RetRefBetween

@[expose] public section

set_option maxRecDepth 16384

noncomputable section

namespace Cert.Proof.RetRef

open Cert.RetRefIdeal Cert.RetRefIdeal.Gen
open Idealize.ShloMosaic Idealize.ShloMosaic.TcCoe Idealize.ShloMosaic.StableHlo
open Cert.Proof.RetSpec

variable (X : Valuation τ sig (Elt Ideal))

/-- What the forward loop starts from is copied from what the program keeps for later. -/
theorem entry_copies : (entry X main_v126_0 = entry X main_v113 ∧ entry X main_v126_1 = entry X main_v115 ∧ entry X main_v126_2 = entry X main_v117)
    ∧ (entry X main_v126_3 = entry X main_v120 ∧ entry X main_v126_4 = entry X main_v121) ∧ entry X main_v126_5 = entry X main_v118 ∧ entry X main_v126_6 = entry X main_v119 := by
  simp only [entry]
  generalize after (part1 0).ops (after (part0 0).ops X) = Y
  refine ⟨⟨?_, ?_, ?_⟩, ⟨?_, ?_⟩, ?_, ?_⟩
  all_goals simp only [part2, Cut.cons, Cut.here, Line.append, Line.cons, Line.last, Line.nil, fn_where_line, fn_where_0_line, id, List.cons_append, List.nil_append]
  all_goals after_reads_at
  all_goals rfl

set_option maxHeartbeats 4000000 in
/-- What the backward loop walks over and is not written between the loops. -/
theorem between_copies : (between X main_v192_1 = X main_v115 ∧ between X main_v192_2 = X main_v113 ∧ between X main_v192_3 = X main_v117)
    ∧ (between X main_v192_4 = X main_v126_10 ∧ between X main_v192_5 = X main_v126_11 ∧ between X main_v192_6 = X main_v126_12)
    ∧ (between X main_v192_7 = X main_v118 ∧ between X main_v192_8 = X main_v119) ∧ between X main_v192_9 = X main_v120 ∧ between X main_v192_10 = X main_v121 := by
  refine ⟨⟨?_, ?_, ?_⟩, ⟨?_, ?_, ?_⟩, ⟨?_, ?_⟩, ?_, ?_⟩
  all_goals simp only [between, part2, part3, part4, Cut.cons, Cut.here, Line.append, Line.cons, Line.last, Line.nil, fn_silu_line, fn_silu_5_line, id, List.cons_append, List.nil_append]
  all_goals after_reads_at
  all_goals rfl

set_option maxHeartbeats 4000000 in
/-- The backward loop starts from a zero gradient of the state. -/
theorem between_zero (h : Fin 4) (i : Fin 256) (j : Fin 512) : ((between X main_v192_12 : Vec Ideal S1x4x256x512 .f32) (ix4 0 h i j) : EReal) = (0 : EReal) := by
  simp only [between, part2, part3, part4, Cut.cons, Cut.here, Line.append, Line.cons, Line.last, Line.nil, fn_silu_line, fn_silu_5_line, id, List.cons_append, List.nil_append]
  after_reads_at
  simp only [id]
  try clean_types
  pointwise

/-- The gradient of the rows before the norm as the reference writes it. -/
def dR (A : Args) (h : Fin 4) (n : ℕ) (r : Fin 128) : Fin 512 → EReal := dOR ((A.head h).out n r) (A.z h n r) (A.g h n r)

variable (m : (ℓ : Loc nD τ sig) → Buf (Elt Ideal) ℓ) (c : Dev nD)

/-- The layer's arguments at launch. -/
abbrev argsAt : Args := argsOf (launchContents m c)

/-- What the forward loop starts from. -/
theorem U0_eq : U0 m c = entry (launchContents m c) := rfl
/-- Where the forward loop starts. -/
theorem entry_U0 : Entry (U0 m c) (argsAt m c) := entry_holds _

/-- The forward loop keeps what it does not write. -/
theorem U1_kept (b : Ref sig .tc) (hb : b ∉ (trip0 (F := Ideal)).outs) (h1 : b ≠ main_while0c_c_54) (h2 : b ≠ main_while0c_v245) :
    U1 m c (Proc.devRef .tc b) = U0 m c (Proc.devRef .tc b) :=
  (cond0_kept _ b h1 h2).trans (kept0 (U0 m) c b hb h1 h2 64)

/-- The forward loop's end. -/
theorem done_U1 : Done (U1 m c) (argsAt m c).head 64 :=
  loop0 (U0 m) c (start0 m) (entry_U0 m c).toFeeds
    ⟨fun h i j => ((entry_U0 m c).st h i j).trans (by rw [Head.st]), fun n hn => absurd hn (by omega), fun n hn => absurd hn (by omega), fun n hn => absurd hn (by omega),
      fun n hn => absurd hn (by omega)⟩ 64 le_rfl

/-- A row of the recurrence's outputs after the forward loop, -/
theorem yRow_U1 (n : Fin 64) (h : Fin 4) (r : Fin 128) : yRow (U1 m c) n h r = ((argsAt m c).head h).out n r := funext fun j => (done_U1 m c).out n n.isLt h r j
/-- its gate -/
theorem zRow_U1 (n : Fin 64) (h : Fin 4) (r : Fin 128) : zRow (U1 m c) n h r = (argsAt m c).z h n r := funext fun j => by
  rw [zRow, U1_kept m c main_v4 (by decide +kernel) (by decide) (by decide)]; exact (entry_U0 m c).z _ _
/-- and its gradient. -/
theorem gRow_U1 (n : Fin 64) (h : Fin 4) (r : Fin 128) : gRow (U1 m c) n h r = (argsAt m c).g h n r := funext fun j => by
  rw [gRow, U1_kept m c main_arg2 (by decide +kernel) (by decide) (by decide)]; exact (entry_U0 m c).ct _ _

/-- What the backward loop walks over. -/
theorem feeds_U2 : FeedsB (U2 m c) (argsAt m c).head (dR (argsAt m c)) where
  dO n h r j := by
    refine ((between_rows (U1 m c) n h r j).2).trans ?_
    rw [yRow_U1, zRow_U1, gRow_U1]; rfl
  k n h r d := by
    show (between (U1 m c) main_v192_1 : Vec Ideal S64x1x4x128x256 .f32) _ = _
    rw [(between_copies _).1.1, U1_kept m c main_v115 (by decide +kernel) (by decide) (by decide), U0_eq, ← (entry_copies _).1.2.1]; exact (entry_U0 m c).k n h r d
  q n h r d := by
    show (between (U1 m c) main_v192_2 : Vec Ideal S64x1x4x128x256 .f32) _ = _
    rw [(between_copies _).1.2.1, U1_kept m c main_v113 (by decide +kernel) (by decide) (by decide), U0_eq, ← (entry_copies _).1.1]; exact (entry_U0 m c).q n h r d
  v n h r d := by
    show (between (U1 m c) main_v192_3 : Vec Ideal S64x1x4x128x512 .f32) _ = _
    rw [(between_copies _).1.2.2, U1_kept m c main_v117 (by decide +kernel) (by decide) (by decide), U0_eq, ← (entry_copies _).1.2.2]; exact (entry_U0 m c).v n h r d
  scores n h r s := by
    show (between (U1 m c) main_v192_4 : Vec Ideal S64x1x4x128x128 .f32) _ = _
    rw [(between_copies _).2.1.1]; exact (done_U1 m c).scores n n.isLt h r s
  st n h r s := by
    show (between (U1 m c) main_v192_5 : Vec Ideal S64x1x4x256x512 .f32) _ = _
    rw [(between_copies _).2.1.2.1]; exact (done_U1 m c).before n n.isLt h r s
  kz n h r s := by
    show (between (U1 m c) main_v192_6 : Vec Ideal S64x1x4x128x256 .f32) _ = _
    rw [(between_copies _).2.1.2.2]; exact (done_U1 m c).kz n n.isLt h r s
  mask h r s := by
    show (between (U1 m c) main_v192_7 : Vec Ideal S1x4x128x128 .f32) _ = _
    rw [(between_copies _).2.2.1.1, U1_kept m c main_v118 (by decide +kernel) (by decide) (by decide), U0_eq, ← (entry_copies _).2.2.1]; exact (entry_U0 m c).mask h r s
  xi h r := by
    show (between (U1 m c) main_v192_8 : Vec Ideal S1x4x128x1 .f32) _ = _
    rw [(between_copies _).2.2.1.2, U1_kept m c main_v119 (by decide +kernel) (by decide) (by decide), U0_eq, ← (entry_copies _).2.2.2]; exact (entry_U0 m c).xi h r
  gc h := by
    show (between (U1 m c) main_v192_9 : Vec Ideal S1x4x1x1 .f32) _ = _
    rw [(between_copies _).2.2.2.1, U1_kept m c main_v120 (by decide +kernel) (by decide) (by decide), U0_eq, ← (entry_copies _).2.1.1]; exact (entry_U0 m c).gc h
  zeta h r := by
    show (between (U1 m c) main_v192_10 : Vec Ideal S1x4x128x1 .f32) _ = _
    rw [(between_copies _).2.2.2.2, U1_kept m c main_v121 (by decide +kernel) (by decide) (by decide), U0_eq, ← (entry_copies _).2.1.2]; exact (entry_U0 m c).zeta h r

/-- The backward loop's end. -/
theorem done_U3 : DoneB (U3 m c) (argsAt m c).head (dR (argsAt m c)) 64 :=
  loop1 (U2 m) c (start1 m) (feeds_U2 m c)
    ⟨fun h i j => (between_zero (U1 m c) h i j).trans (by rw [Head.dst]), fun n hn => absurd hn (by omega), fun n hn => absurd hn (by omega), fun n hn => absurd hn (by omega)⟩ 64 le_rfl

/-- The backward loop keeps what it does not write. -/
theorem U3_kept (b : Ref sig .tc) (hb : b ∉ (trip1 (F := Ideal)).outs) (h1 : b ≠ main_while1c_c_57) (h2 : b ≠ main_while1c_v245) :
    U3 m c (Proc.devRef .tc b) = U2 m c (Proc.devRef .tc b) :=
  (cond1_kept _ b h1 h2).trans (kept1 (U2 m) c b hb h1 h2 64)

/-- What the two loops and what lies between them keep. -/
theorem U3_kept_all (b : Ref sig .tc) (hb : b ∉ (trip1 (F := Ideal)).outs ∧ b ∉ (trip0 (F := Ideal)).outs ∧ b ∉ (part2 (F := Ideal) 0).post.outs ∧ b ∉ (part3 (F := Ideal) 0).outs
      ∧ b ∉ (part4 (F := Ideal) 0).pre.outs)
    (hc : (b ≠ main_while1c_c_57 ∧ b ≠ main_while1c_v245) ∧ b ≠ main_while0c_c_54 ∧ b ≠ main_while0c_v245) :
    U3 m c (Proc.devRef .tc b) = U0 m c (Proc.devRef .tc b) := by
  rw [U3_kept m c b hb.1 hc.1.1 hc.1.2, U2, afterL_mid, Line.keep _ _ b hb.2.2.2.2, Line.keep _ _ b hb.2.2.2.1, Line.keep _ _ b hb.2.2.1, U1_kept m c b hb.2.1 hc.2.1 hc.2.2]

/-- The gated output at the end, -/
theorem pa_U3 (n : Fin 64) (h : Fin 4) (r : Fin 128) (j : Fin 512) :
    (U3 m c main_v154 : Vec Ideal S1x8192x2048 .f32) (ix3 0 (row n r) (oCol h j)) = (argsAt m c).pa h n r j := by
  rw [U3_kept m c main_v154 (by decide +kernel) (by decide) (by decide)]
  refine ((between_rows (U1 m c) n h r j).1.1).trans ?_
  rw [yRow_U1, zRow_U1]; rfl
/-- and the gates' gradient. -/
theorem dz_U3 (n : Fin 64) (h : Fin 4) (r : Fin 128) (j : Fin 512) :
    (U3 m c main_v158 : Vec Ideal S1x8192x2048 .f32) (ix3 0 (row n r) (oCol h j)) = dzR (((argsAt m c).head h).out n r) ((argsAt m c).z h n r) ((argsAt m c).g h n r) j := by
  rw [U3_kept m c main_v158 (by decide +kernel) (by decide) (by decide)]
  refine ((between_rows (U1 m c) n h r j).1.2).trans ?_
  rw [yRow_U1, zRow_U1, gRow_U1]

/-- The angles' cosines and sines at the end. -/
theorem angles_U3 (R : Fin 8192) (d : Fin 128) : ((U3 m c main_v19 : Vec Ideal S1x8192x1x128 .f32) (ix4 0 R 0 d) = (argsAt m c).cos R d
      ∧ (U3 m c main_v21 : Vec Ideal S1x8192x1x128 .f32) (ix4 0 R 0 d) = (argsAt m c).sin R d)
    ∧ (U3 m c main_v49 : Vec Ideal S1x8192x1x128 .f32) (ix4 0 R 0 d) = (argsAt m c).cos R d
      ∧ (U3 m c main_v51 : Vec Ideal S1x8192x1x128 .f32) (ix4 0 R 0 d) = (argsAt m c).sin R d := by
  rw [U3_kept_all m c main_v19 (by decide +kernel) (by decide), U3_kept_all m c main_v21 (by decide +kernel) (by decide),
    U3_kept_all m c main_v49 (by decide +kernel) (by decide), U3_kept_all m c main_v51 (by decide +kernel) (by decide)]
  exact ⟨⟨(entry_U0 m c).cosq R d, (entry_U0 m c).sinq R d⟩, (entry_U0 m c).cosk R d, (entry_U0 m c).sink R d⟩

end Cert.Proof.RetRef

end
end
-- ==== Proof.RetRefFinal.lean ====
/- What the reference program returns, in terms of what its backward loop leaves. -/
module

public import proofs.«01_k».proof.Proof.RetRefMid

@[expose] public section

set_option maxRecDepth 16384

noncomputable section

namespace Cert.Proof.RetRef

open Cert.RetRefIdeal Cert.RetRefIdeal.Gen
open Idealize.ShloMosaic Idealize.ShloMosaic.TcCoe Idealize.ShloMosaic.StableHlo
open Cert.Proof.RetSpec

/-- The four gradients of a head put together, -/
def cat4 (a b : Vec Ideal S8192x4x256 .f32) (u w : Vec Ideal S8192x4x512 .f32) : Vec Ideal S8192x4x1536 .f32 :=
  concatenate S8192x4x1536 2 [⟨S8192x4x256, a⟩, ⟨S8192x4x256, b⟩, ⟨S8192x4x512, u⟩, ⟨S8192x4x512, w⟩] concatenates_S8192x4x256_S8192x4x256_S8192x4x512_S8192x4x512_S8192x4x1536_d2

/-- at an index. -/
@[pointwise] theorem cat4_apply (a b : Vec Ideal S8192x4x256 .f32) (u w : Vec Ideal S8192x4x512 .f32) (R : Fin 8192) (h : Fin 4) (d : Fin 1536) :
    cat4 a b u w (ix3 R h d) = if h1 : d.val < 256 then a (ix3 R h ⟨d.val, h1⟩) else if h2 : d.val < 512 then b (ix3 R h ⟨d.val - 256, by omega⟩)
      else if h3 : d.val < 1024 then u (ix3 R h ⟨d.val - 512, by omega⟩) else w (ix3 R h ⟨d.val - 1024, by omega⟩) := by
  pointwise [cat4]
  have e1 : d.val - 256 < 256 ↔ d.val < 512 := by omega
  have e2 : d.val - 512 < 512 ↔ d.val < 1024 := by omega
  simp only [e1, Nat.sub_sub, Nat.reduceAdd, e2]

variable (X : Valuation τ sig (Elt Ideal))

/-- The buffers at the program's end, after those that the backward loop leaves. -/
abbrev final : Valuation τ sig (Elt Ideal) := after (part5 0).ops (after (part4 0).post.ops X)

variable (n : Fin 64) (h : Fin 4) (r : Fin 128)

set_option maxHeartbeats 4000000 in
/-- The returned output is the gated one. -/
theorem final_pa (j : Fin 512) :
    (final X main_v241 : Vec Ideal S8192x2048 .bf16) (ix2 (row n r) (oCol h j)) = (X main_v154 : Vec Ideal S1x8192x2048 .f32) (ix3 0 (row n r) (oCol h j)) := by
  simp only [final, part4, part5, Cut.cons, Cut.here, Line.append, Line.cons, Line.last, Line.nil, id, List.cons_append, List.nil_append]
  after_reads_at
  all_goals try simp only [id]
  all_goals try clean_types
  all_goals try pointwise
  all_goals rfl

/-- A turned row's gradient taken back in two padded halves. -/
theorem halves (c s : Fin 128 → EReal) (x : Fin 256 → EReal) (d : Fin 256) {p q : Prop} [Decidable p] [Decidable q] (hp : p ↔ 128 ≤ d.val) (hq : q ↔ d.val < 128) :
    ((if h : p then x ⟨128 + (d.val - 128), by omega⟩ * c ⟨d.val - 128, by omega⟩ + -x ⟨d.val - 128, by omega⟩ * s ⟨d.val - 128, by omega⟩ else 0)
      + if h : q then x ⟨128 + d.val, by have := hq.mp h; omega⟩ * s ⟨d.val, hq.mp h⟩ + x ⟨d.val, d.isLt⟩ * c ⟨d.val, hq.mp h⟩ else 0) = turnBack c s x d := by
  unfold turnBack
  by_cases hd : d.val < 128
  · rw [dif_neg (fun h => absurd (hp.mp h) (by omega)), dif_pos (hq.mpr hd), dif_pos hd, zero_add, add_comm]
  · rw [dif_pos (hp.mpr (by omega)), dif_neg (fun h => hd (hq.mp h)), dif_neg hd, add_zero, EReal.neg_mul, sub_eq_add_neg]

/-- A row of the turned keys' gradient before its scale. -/
abbrev dk (e : Fin 256) : EReal := (X main_v192_14 : Vec Ideal S64x1x4x128x256 .f32) (ix5 n 0 h r e)
/-- The cosines and sines of a row's angles at the end, for the queries -/
abbrev cq (d : Fin 128) : EReal := (X main_v19 : Vec Ideal S1x8192x1x128 .f32) (ix4 0 (row n r) 0 d)
/-- (their sines) -/
abbrev sq (d : Fin 128) : EReal := (X main_v21 : Vec Ideal S1x8192x1x128 .f32) (ix4 0 (row n r) 0 d)
/-- and for the keys. -/
abbrev ck (d : Fin 128) : EReal := (X main_v49 : Vec Ideal S1x8192x1x128 .f32) (ix4 0 (row n r) 0 d)
/-- (their sines). -/
abbrev sk (d : Fin 128) : EReal := (X main_v51 : Vec Ideal S1x8192x1x128 .f32) (ix4 0 (row n r) 0 d)

set_option maxHeartbeats 4000000 in
/-- The returned gradient: the turned rows' taken back, the values' and the gates'. -/
theorem final_grad (d : Fin 1536) :
    (final X main_v244 : Vec Ideal S8192x6144 .bf16) (ix2 (row n r) ⟨h.val * 1536 + d.val, by omega⟩) =
      if h1 : d.val < 256 then turnBack (cq X n r) (sq X n r) (fun e => (X main_v192_13 : Vec Ideal S64x1x4x128x256 .f32) (ix5 n 0 h r e)) ⟨d.val, h1⟩
      else if h2 : d.val < 512 then turnBack (ck X n r) (sk X n r) (fun e => dk X n h r e * sixteenth) ⟨d.val - 256, by omega⟩
      else if h3 : d.val < 1024 then (X main_v192_15 : Vec Ideal S64x1x4x128x512 .f32) (ix5 n 0 h r ⟨d.val - 512, by omega⟩)
      else (X main_v158 : Vec Ideal S1x8192x2048 .f32) (ix3 0 (row n r) (oCol h ⟨d.val - 1024, by omega⟩)) := by
  have e1 : (n.val * 128 + r.val) / 128 = n.val := by omega
  have e2 : (n.val * 128 + r.val) % 128 = r.val := by omega
  have e3 : (h.val * 1536 + d.val) / 1536 = h.val := by omega
  have e4 : (h.val * 1536 + d.val) % 1536 = d.val := by omega
  simp only [row_eq, oCol]
  simp only [final, part4, part5, Cut.cons, Cut.here, Line.append, Line.cons, Line.last, Line.nil, id, List.cons_append, List.nil_append]
  after_reads_at
  after_reads_at
  all_goals try simp only [id]
  all_goals try clean_types
  all_goals try pointwise
  simp only [e1, e2, e3, e4]
  simp only [← row_eq]
  by_cases h1 : d.val < 256
  · have f1 : (h.val * 256 + d.val) / 256 = h.val := by omega
    have f2 : (h.val * 256 + d.val) % 256 = d.val := by omega
    simp only [dif_pos h1, f1, f2]
    refine Eq.trans ?_ (halves (cq X n r) (sq X n r) _ ⟨d.val, h1⟩ (p := h.val < 4 ∧ 128 ≤ d.val ∧ d.val - 128 < 128) (q := h.val < 4 ∧ d.val < 128) (by simp only; omega) (by simp only; omega))
    rfl
  by_cases h2 : d.val < 512
  · have f0 : d.val - 256 < 256 := by omega
    have f1 : (h.val * 256 + (d.val - 256)) / 256 = h.val := by omega
    have f2 : (h.val * 256 + (d.val - 256)) % 256 = d.val - 256 := by omega
    simp only [dif_neg h1, dif_pos h2, dif_pos f0, f1, f2]
    refine Eq.trans ?_ (halves (ck X n r) (sk X n r) (fun e => dk X n h r e * sixteenth) ⟨d.val - 256, f0⟩ (p := h.val < 4 ∧ 128 ≤ d.val - 256 ∧ d.val - 256 - 128 < 128) (q := h.val < 4 ∧ d.val - 256 < 128) (by simp only; omega) (by simp only; omega))
    rfl
  have f0 : ¬ d.val - 256 < 256 := by omega
  by_cases h3 : d.val < 1024
  · have f3 : d.val - 256 - 256 < 512 := by omega
    have f1 : (h.val * 512 + (d.val - 256 - 256)) / 512 = h.val := by omega
    have f2 : (h.val * 512 + (d.val - 256 - 256)) % 512 = d.val - 256 - 256 := by omega
    simp only [dif_neg h1, dif_neg h2, dif_pos h3, dif_neg f0, dif_pos f3, f1, f2]
    rfl
  have f3 : ¬ d.val - 256 - 256 < 512 := by omega
  simp only [dif_neg h1, dif_neg h2, dif_neg h3, dif_neg f0, dif_neg f3]
  rfl

variable (m : (ℓ : Loc nD τ sig) → Buf (Elt Ideal) ℓ) (c : Dev nD)

/-- The returned output in terms of the arguments. -/
theorem result_pa (j : Fin 512) : (atEnd m c main_v241 : Vec Ideal S8192x2048 .bf16) (ix2 (row n r) (oCol h j)) = (argsAt m c).pa h n r j :=
  (final_pa (U3 m c) n h r j).trans (pa_U3 m c n h r j)

/-- The cosines and sines at the end. -/
theorem angle_rows : (cq (U3 m c) n r = (argsAt m c).cos (row n r) ∧ sq (U3 m c) n r = (argsAt m c).sin (row n r))
    ∧ ck (U3 m c) n r = (argsAt m c).cos (row n r) ∧ sk (U3 m c) n r = (argsAt m c).sin (row n r) :=
  ⟨⟨funext fun d => (angles_U3 m c _ d).1.1, funext fun d => (angles_U3 m c _ d).1.2⟩, funext fun d => (angles_U3 m c _ d).2.1, funext fun d => (angles_U3 m c _ d).2.2⟩

/-- The returned gradient of the queries, -/
theorem result_q (d : Fin 256) : (atEnd m c main_v244 : Vec Ideal S8192x6144 .bf16) (ix2 (row n r) ⟨h.val * 1536 + (0 + d.val), by omega⟩)
    = turnBack ((argsAt m c).cos (row n r)) ((argsAt m c).sin (row n r)) (((argsAt m c).head h).dqr (dR (argsAt m c) h) n r) d := by
  refine (final_grad (U3 m c) n h r ⟨0 + d.val, by omega⟩).trans ?_
  rw [dif_pos (show 0 + d.val < 256 by omega), (angle_rows n r m c).1.1, (angle_rows n r m c).1.2]
  have e : (fun e => (U3 m c main_v192_13 : Vec Ideal S64x1x4x128x256 .f32) (ix5 n 0 h r e)) = ((argsAt m c).head h).dqr (dR (argsAt m c) h) n r :=
    funext fun e => (done_U3 m c).dq n (by omega) h r e
  rw [e]
  exact congrArg _ (Fin.ext (show 0 + d.val = d.val by omega))
/-- of the keys, -/
theorem result_k (d : Fin 256) : (atEnd m c main_v244 : Vec Ideal S8192x6144 .bf16) (ix2 (row n r) ⟨h.val * 1536 + (256 + d.val), by omega⟩)
    = turnBack ((argsAt m c).cos (row n r)) ((argsAt m c).sin (row n r)) (fun e => ((argsAt m c).head h).dkr (dR (argsAt m c) h) n r e * sixteenth) d := by
  refine (final_grad (U3 m c) n h r ⟨256 + d.val, by omega⟩).trans ?_
  rw [dif_neg (show ¬ 256 + d.val < 256 by omega), dif_pos (show 256 + d.val < 512 by omega), (angle_rows n r m c).2.1, (angle_rows n r m c).2.2]
  have e : (fun e => dk (U3 m c) n h r e * sixteenth) = fun e => ((argsAt m c).head h).dkr (dR (argsAt m c) h) n r e * sixteenth :=
    funext fun e => congrArg (· * sixteenth) ((done_U3 m c).dk n (by omega) h r e)
  rw [e]
  exact congrArg _ (Fin.ext (show 256 + d.val - 256 = d.val by omega))
/-- of the values -/
theorem result_v (d : Fin 512) : (atEnd m c main_v244 : Vec Ideal S8192x6144 .bf16) (ix2 (row n r) ⟨h.val * 1536 + (512 + d.val), by omega⟩)
    = ((argsAt m c).head h).dv (dR (argsAt m c) h) n r d := by
  refine (final_grad (U3 m c) n h r ⟨512 + d.val, by omega⟩).trans ?_
  rw [dif_neg (show ¬ 512 + d.val < 256 by omega), dif_neg (show ¬ 512 + d.val < 512 by omega), dif_pos (show 512 + d.val < 1024 by omega)]
  refine ((done_U3 m c).dv n (by omega) h r _).trans ?_
  exact congrArg _ (Fin.ext (show 512 + d.val - 512 = d.val by omega))
/-- and of the gates. -/
theorem result_z (d : Fin 512) : (atEnd m c main_v244 : Vec Ideal S8192x6144 .bf16) (ix2 (row n r) ⟨h.val * 1536 + (1024 + d.val), by omega⟩)
    = dzR (((argsAt m c).head h).out n r) ((argsAt m c).z h n r) ((argsAt m c).g h n r) d := by
  refine (final_grad (U3 m c) n h r ⟨1024 + d.val, by omega⟩).trans ?_
  rw [dif_neg (show ¬ 1024 + d.val < 256 by omega), dif_neg (show ¬ 1024 + d.val < 512 by omega), dif_neg (show ¬ 1024 + d.val < 1024 by omega)]
  refine (dz_U3 m c n h r _).trans ?_
  exact congrArg _ (Fin.ext (show 1024 + d.val - 1024 = d.val by omega))

/-- The arguments are unchanged at the end. -/
theorem arg_kept (b : Ref sig .tc) (hb : (b ∉ (trip1 (F := Ideal)).outs ∧ b ∉ (trip0 (F := Ideal)).outs ∧ b ∉ (part2 (F := Ideal) 0).post.outs ∧ b ∉ (part3 (F := Ideal) 0).outs
      ∧ b ∉ (part4 (F := Ideal) 0).pre.outs) ∧ b ∉ (part5 (F := Ideal) 0).outs ∧ b ∉ (part4 (F := Ideal) 0).post.outs ∧ b ∉ (part2 (F := Ideal) 0).pre.outs ∧ b ∉ (part1 (F := Ideal) 0).outs ∧ b ∉ (part0 (F := Ideal) 0).outs)
    (hc : (b ≠ main_while1c_c_57 ∧ b ≠ main_while1c_v245) ∧ b ≠ main_while0c_c_54 ∧ b ≠ main_while0c_v245) :
    atEnd m c (Proc.devRef .tc b) = launchContents m c (Proc.devRef .tc b) := by
  rw [atEnd, afterL_post, Line.keep _ _ b hb.2.1, Line.keep _ _ b hb.2.2.1, U3_kept_all m c b hb.1 hc, U0_eq, entry, Line.keep _ _ b hb.2.2.2.1, Line.keep _ _ b hb.2.2.2.2.1,
    Line.keep _ _ b hb.2.2.2.2.2]

/-- So they are. -/
theorem args_kept : atEnd m c main_arg0 = launchContents m c main_arg0 ∧ atEnd m c main_arg1 = launchContents m c main_arg1 ∧ atEnd m c main_arg2 = launchContents m c main_arg2 :=
  ⟨arg_kept m c main_arg0 (by decide +kernel) (by decide), arg_kept m c main_arg1 (by decide +kernel) (by decide), arg_kept m c main_arg2 (by decide +kernel) (by decide)⟩

end Cert.Proof.RetRef

end
end
-- ==== Proof.RetMath.lean ====
/- The retention layer's rows at finite arguments: the outputs are real numbers, and the gradients of the norm and its gate as
   the kernel writes them are those that the derivative gives. -/
module

public import proofs.«01_k».proof.Proof.DhMath
public import proofs.«01_k».proof.Proof.RetRefBetween

@[expose] public section

noncomputable section

namespace Cert.Proof.RetSpec

open Idealize.ShloMosaic Cert.Proof.Dh

/-! ## Real numbers among the extended ones -/

/-- A finite value. -/
def IsReal (x : EReal) : Prop := ∃ r : ℝ, x = r

namespace IsReal

variable {x y : EReal}

/-- Real numbers are closed under the operations. -/
theorem add (hx : IsReal x) (hy : IsReal y) : IsReal (x + y) := by
  obtain ⟨a, rfl⟩ := hx; obtain ⟨b, rfl⟩ := hy; exact ⟨_, (EReal.coe_add a b).symm⟩
theorem sub (hx : IsReal x) (hy : IsReal y) : IsReal (x - y) := by
  obtain ⟨a, rfl⟩ := hx; obtain ⟨b, rfl⟩ := hy; exact ⟨_, (EReal.coe_sub a b).symm⟩
theorem mul (hx : IsReal x) (hy : IsReal y) : IsReal (x * y) := by
  obtain ⟨a, rfl⟩ := hx; obtain ⟨b, rfl⟩ := hy; exact ⟨_, (EReal.coe_mul a b).symm⟩
theorem neg (hx : IsReal x) : IsReal (-x) := by
  obtain ⟨a, rfl⟩ := hx; exact ⟨_, (EReal.coe_neg a).symm⟩
theorem exp (hx : IsReal x) : IsReal (Ideal.exp x) := by
  obtain ⟨a, rfl⟩ := hx; exact ⟨_, Ideal.exp_coe a⟩
theorem cos (hx : IsReal x) : IsReal (Ideal.cos x) := by
  obtain ⟨a, rfl⟩ := hx; exact ⟨_, Ideal.cos_coe a⟩
theorem sin (hx : IsReal x) : IsReal (Ideal.sin x) := by
  obtain ⟨a, rfl⟩ := hx; exact ⟨_, Ideal.sin_coe a⟩
theorem pow (hx : IsReal x) (hy : IsReal y) : IsReal (Ideal.pow x y) := by
  obtain ⟨a, rfl⟩ := hx; obtain ⟨b, rfl⟩ := hy; exact ⟨_, Ideal.pow_coe_coe a b⟩
theorem zero : IsReal 0 := ⟨0, rfl⟩
theorem one : IsReal 1 := ⟨1, rfl⟩
theorem num (n : ℕ) : IsReal (num n) := ⟨_, rfl⟩
theorem sum {n : ℕ} {f : Fin n → EReal} (h : ∀ i, IsReal (f i)) : IsReal (∑ i, f i) := by
  choose g hg using h
  exact ⟨∑ i, g i, by rw [← sum_real]; exact Finset.sum_congr rfl fun i _ => hg i⟩

end IsReal

/-- The constants' values. -/
theorem c512 : width = ((512 : ℝ) : EReal) := by
  simp [Ideal.ofBits, Ideal.ieee]; rw [← EReal.coe_mul]; norm_num
theorem c2 : Ideal.ofBits .f32 1073741824#32 = ((2 : ℝ) : EReal) := by
  simp [Ideal.ofBits, Ideal.ieee]; rw [← EReal.coe_mul]; norm_num
theorem c128 : Ideal.ofBits .f32 1124073472#32 = ((128 : ℝ) : EReal) := by
  simp [Ideal.ofBits, Ideal.ieee]; rw [← EReal.coe_mul]; norm_num
theorem c127 : Ideal.ofBits .f32 1123942400#32 = ((127 : ℝ) : EReal) := by
  simp [Ideal.ofBits, Ideal.ieee]; rw [← EReal.coe_mul]; norm_num
theorem c10000 : Ideal.ofBits .f32 1176256512#32 = ((10000 : ℝ) : EReal) := by
  simp [Ideal.ofBits, Ideal.ieee]; rw [← EReal.coe_mul]; norm_num
theorem cm5 : Ideal.ofBits .f32 3231711232#32 = ((-5 : ℝ) : EReal) := by
  simp [Ideal.ofBits, Ideal.ieee]; rw [← EReal.coe_mul]; norm_num
theorem c16 : sixteenth = ((1 / 16 : ℝ) : EReal) := by
  simp [Ideal.ofBits, Ideal.ieee]; rw [← EReal.coe_mul]; norm_num
theorem cln2 : ∃ r : ℝ, 0 < r ∧ Ideal.ofBits .f32 1060205080#32 = (r : EReal) := by
  refine ⟨11629080 * (2 : ℝ) ^ (-24 : ℤ), by positivity, ?_⟩
  simp [Ideal.ofBits, Ideal.ieee]
theorem epsReal : ∃ ε : ℝ, 0 < ε ∧ eps = (ε : EReal) := by
  refine ⟨10995116 * (2 : ℝ) ^ (-40 : ℤ), by positivity, ?_⟩
  simp [Ideal.ofBits, Ideal.ieee]

/-! ## The decays and the angles -/

/-- An angle is a real number, -/
theorem angle_real (p : BitVec 32) (d : Fin 128) : IsReal (angle p d) := by
  unfold angle
  refine IsReal.mul ⟨_, rfl⟩ (IsReal.pow ⟨_, c10000⟩ ?_)
  obtain ⟨a, ha⟩ := (IsReal.num d.val).neg
  rw [ha, c128, div_real _ _ (by norm_num)]
  exact ⟨_, rfl⟩

/-- a decay's logarithm is one, -/
theorem decay_real (h : Fin 4) : IsReal (decay h) := by
  obtain ⟨l, hl, el⟩ := cln2
  have e : num h.val = ((h.val : ℝ) : EReal) := by
    have e : ∀ h : Fin 4, (BitVec.ofNat 32 h.val).toInt = (h.val : ℤ) := by decide
    show (((BitVec.ofNat 32 h.val).toInt : ℝ) : EReal) = _
    rw [e]; norm_num
  unfold decay
  rw [el, cm5, e, ← EReal.coe_sub, ← EReal.coe_mul, Ideal.exp_coe, ← EReal.coe_neg, Ideal.log1p, ← EReal.coe_one, ← EReal.coe_add, Ideal.log_coe, if_neg]
  · exact ⟨_, rfl⟩
  · have : Real.exp (l * (-5 - (h.val : ℝ))) < 1 := by
      rw [← Real.exp_zero]
      exact Real.exp_lt_exp.mpr (mul_neg_of_pos_of_neg hl (by have : (0 : ℝ) ≤ h.val := Nat.cast_nonneg _; linarith))
    linarith

/-- and so are the decays. -/
theorem mask_real (h : Fin 4) (r s : Fin 128) : IsReal (maskT h r s) := by
  unfold maskT
  split
  · exact ((decay_real h).mul ((IsReal.num _).sub (IsReal.num _))).exp
  · exact IsReal.zero
theorem xi_real (h : Fin 4) (r : Fin 128) : IsReal (xiT h r) := ((decay_real h).mul ((IsReal.num _).add IsReal.one)).exp
theorem zeta_real (h : Fin 4) (r : Fin 128) : IsReal (zetaT h r) := ((decay_real h).mul (IsReal.sub ⟨_, c127⟩ (IsReal.num _))).exp
theorem gc_real (h : Fin 4) : IsReal (gcT h) := ((decay_real h).mul ⟨_, c128⟩).exp

/-! ## The recurrence's outputs -/

/-- A projected column among those that the layer reads. -/
def low (C : Fin 6144) : Fin 11264 := ⟨C.val, by omega⟩

/-- A turned row of real numbers is one. -/
theorem turn_real {c s : Fin 128 → EReal} {x : Fin 256 → EReal} (hc : ∀ d, IsReal (c d)) (hs : ∀ d, IsReal (s d)) (hx : ∀ d, IsReal (x d)) (d : Fin 256) :
    IsReal (turn c s x d) := by
  unfold turn
  split
  · exact ((hx _).mul (hc _)).sub ((hx _).mul (hs _))
  · exact ((hx _).mul (hs _)).add ((hx _).mul (hc _))

section

variable {x : Fin 8192 → Fin 11264 → EReal} {p : Fin 8192 → BitVec 32} {ct : Fin 8192 → Fin 2048 → EReal}
  (hx : ∀ R (C : Fin 6144), IsReal (x R (low C)))

include hx

/-- The chunks hold real numbers, -/
theorem q_real (h : Fin 4) (n : ℕ) (r : Fin 128) (d : Fin 256) : IsReal (((args x p ct).head h).q n r d) :=
  turn_real (c := fun d => Ideal.cos (angle (p (row n r)) d)) (s := fun d => Ideal.sin (angle (p (row n r)) d)) (x := fun e => x (row n r) (qCol h e))
    (fun _ => (angle_real _ _).cos) (fun _ => (angle_real _ _).sin) (fun e => hx (row n r) ⟨h.val * 256 + e.val, by omega⟩) d
theorem k_real (h : Fin 4) (n : ℕ) (r : Fin 128) (d : Fin 256) : IsReal (((args x p ct).head h).k n r d) :=
  (turn_real (c := fun d => Ideal.cos (angle (p (row n r)) d)) (s := fun d => Ideal.sin (angle (p (row n r)) d)) (x := fun e => x (row n r) (kCol h e))
    (fun _ => (angle_real _ _).cos) (fun _ => (angle_real _ _).sin) (fun e => hx (row n r) ⟨1024 + (h.val * 256 + e.val), by omega⟩) d).mul ⟨_, c16⟩
theorem v_real (h : Fin 4) (n : ℕ) (r : Fin 128) (j : Fin 512) : IsReal (((args x p ct).head h).v n r j) := hx (row n r) ⟨2048 + (h.val * 512 + j.val), by omega⟩

/-- so does the state, -/
theorem st_real (h : Fin 4) : ∀ (n : ℕ) i j, IsReal (((args x p ct).head h).st n i j)
  | 0, _, _ => IsReal.zero
  | n + 1, i, j => ((st_real h n i j).mul (gc_real h)).add (IsReal.sum fun r => ((k_real hx h n r i).mul (zeta_real h r)).mul (v_real hx h n r j))

/-- and so do the outputs. -/
theorem out_real (h : Fin 4) (n : ℕ) (r : Fin 128) (j : Fin 512) : IsReal (((args x p ct).head h).out n r j) :=
  (IsReal.sum fun s => ((IsReal.sum fun d => (q_real hx h n r d).mul (k_real hx h n s d)).mul (mask_real h r s)).mul (v_real hx h n s j)).add
    ((IsReal.sum fun i => (q_real hx h n r i).mul (st_real hx h n i j)).mul (xi_real h r))

end

/-! ## The norm and its gate -/

/-- The gate's gradient is the derivative's. -/
theorem dz_eq (y : Fin 512 → EReal) (hr : ∀ j, IsReal (rhat y j)) (z ct : Fin 512 → ℝ) (j : Fin 512) : dzK y (fun e => z e) (fun e => ct e) j = dzR y (fun e => z e) (fun e => ct e) j := by
  obtain ⟨a, ha⟩ := hr j
  unfold dzK dzR
  rw [ha, Ideal.logistic_coe]
  simp only [← EReal.coe_one, ← EReal.coe_mul, ← EReal.coe_sub, ← EReal.coe_add]
  congr 1
  ring

/-- The gradient before the norm is the derivative's, and the normalised row is real. -/
theorem dO_eq (y z ct : Fin 512 → ℝ) (j : Fin 512) :
    IsReal (rhat (fun e => y e) j) ∧ dOK (fun e => y e) (fun e => z e) (fun e => ct e) j = dOR (fun e => y e) (fun e => z e) (fun e => ct e) j := by
  obtain ⟨ε, hε, eε⟩ := epsReal
  have em : mean (fun e => (y e : EReal)) = (((∑ e, y e) / 512 : ℝ) : EReal) := by
    unfold mean; rw [sum_real, c512, div_real _ _ (by norm_num)]
  obtain ⟨u, hu⟩ : ∃ u : Fin 512 → ℝ, u = fun e => y e - (∑ e, y e) / 512 := ⟨_, rfl⟩
  have eo : ∀ e, oc (fun e => (y e : EReal)) e = (u e : EReal) := fun e => by
    unfold oc; rw [em, hu, ← EReal.coe_sub]
  have hs : ∑ e, u e = 0 := by
    rw [hu, Finset.sum_sub_distrib, Finset.sum_const, Finset.card_univ, Fintype.card_fin, nsmul_eq_mul]; push_cast; ring
  obtain ⟨v, ev⟩ : ∃ v : ℝ, v = (∑ e, u e * u e) / 512 + ε := ⟨_, rfl⟩
  have hv : 0 < v := by
    rw [ev]; exact add_pos_of_nonneg_of_pos (div_nonneg (Finset.sum_nonneg fun e _ => mul_self_nonneg _) (by norm_num)) hε
  have e0 : var (fun e => (y e : EReal)) = (v : EReal) := by
    unfold var mean
    simp only [eo, ← EReal.coe_mul]
    rw [sum_real, c512, eε, div_real _ _ (by norm_num), ← EReal.coe_add, ev]
  obtain ⟨g, hg⟩ : ∃ g : Fin 512 → ℝ, ∀ e, dret (fun e => (z e : EReal)) (fun e => (ct e : EReal)) e = (g e : EReal) := by
    refine ⟨fun e => ct e * (z e * (1 + Real.exp (-z e))⁻¹), fun e => ?_⟩
    unfold dret silu; rw [Ideal.logistic_coe, ← EReal.coe_mul, ← EReal.coe_mul]
  have er : Ideal.rsqrt (var fun e => (y e : EReal)) = (((Real.sqrt v)⁻¹ : ℝ) : EReal) := by rw [e0, rsqrt_real _ hv]
  have hr : (Real.sqrt v)⁻¹ * (Real.sqrt v)⁻¹ = v⁻¹ := by rw [← mul_inv, Real.mul_self_sqrt hv.le]
  refine ⟨⟨u j * (Real.sqrt v)⁻¹, by rw [rhat, eo, er, ← EReal.coe_mul]⟩, ?_⟩
  unfold dOK dOR dsqR docR dvarR mean rhat
  simp only [eo, er, hg]
  rw [e0]
  simp only [← EReal.coe_mul, ← EReal.coe_neg]
  rw [sum_real, sum_real, sum_real, sum_real, c512, cHalf, c2, div_real _ _ hv.ne', div_real _ _ (by norm_num), div_real _ _ (by norm_num)]
  simp only [← EReal.coe_mul, ← EReal.coe_sub]
  rw [div_real _ _ (by norm_num)]
  simp only [← EReal.coe_mul, ← EReal.coe_neg]
  rw [sum_real, ← EReal.coe_add, ← EReal.coe_add, div_real _ _ (by norm_num), ← EReal.coe_add]
  congr 1
  have h1 : (∑ e, g e * (u e * (Real.sqrt v)⁻¹)) = (∑ e, u e * g e) * (Real.sqrt v)⁻¹ := by
    rw [Finset.sum_mul]; exact Finset.sum_congr rfl fun e _ => by ring
  have h2 : (∑ e, -(g e * (Real.sqrt v)⁻¹)) = -(∑ e, g e) * (Real.sqrt v)⁻¹ := by
    rw [Finset.sum_neg_distrib, ← Finset.sum_mul]; ring
  generalize hk : ((∑ e, u e * g e) * (-(1 / 2) * ((Real.sqrt v)⁻¹ / v))) / 512 = k
  have h3 : (∑ e, -(k * (2 * u e))) = 0 := by
    rw [Finset.sum_neg_distrib, ← Finset.mul_sum, ← Finset.mul_sum, hs]; ring
  rw [h1, h2, h3, ← hk]
  generalize (Real.sqrt v)⁻¹ = r at hr ⊢
  rw [div_eq_mul_inv _ v, ← hr]
  ring

/-- The keys' scale passes a row taken back. -/
theorem turnBack_scale (c s : Fin 128 → EReal) (x : Fin 256 → EReal) (d : Fin 256) : turnBack c s x d * sixteenth = turnBack c s (fun e => x e * sixteenth) d := by
  have h0 : (0 : EReal) ≤ sixteenth := by rw [c16]; exact_mod_cast (by norm_num : (0 : ℝ) ≤ 1 / 16)
  have h1 : sixteenth ≠ ⊤ := by rw [c16]; exact EReal.coe_ne_top _
  unfold turnBack
  split
  · rw [EReal.right_distrib_of_nonneg_of_ne_top h0 h1, mul_right_comm, mul_right_comm _ _ sixteenth]
  · rw [sub_eq_add_neg, EReal.right_distrib_of_nonneg_of_ne_top h0 h1, sub_eq_add_neg, EReal.neg_mul, mul_right_comm, mul_right_comm _ _ sixteenth]

end Cert.Proof.RetSpec

end
end
-- ==== Proof.RetClaims.lean ====
/- The claims about the retention layer's forward and backward kernels and the derivative of its forward lines. -/
module

public import proofs.«01_k».proof.Defs
public import proofs.«01_k».proof.Proof.RetHost
public import proofs.«01_k».proof.Proof.RetRefFinal
public import proofs.«01_k».proof.Proof.RetMath
public import proofs.«01_k».proof.Proof.Gen.Ret
public import proofs.«01_k».proof.Proof.Gen.Pre_ret_finite
public import Idealize.ShloMosaic.Adequacy
public import Idealize.ShloMosaic.Init

@[expose] public section

noncomputable section

namespace Cert.Proof.RetClaims

open Idealize.ShloMosaic Idealize.ShloMosaic.TcCoe Idealize.SL.Sem
open Cert.Proof.RetSpec

/-- The kernels' program runs and leaves its arguments and every counter as they were, on extended real numbers -/
theorem frame_ideal : Cert.quiescent_RetIdeal := fun m ρ _ =>
  (θ_run Cert.RetIdeal.defs _ _).mono (fun _ h => ⟨fun c => (h.1 c).2.2, h.2⟩) (Cert.Proof.Ret.run_results (F := Ideal) m ρ)

/-- What is claimed of the program on machine floats, said of the text that the two programs share. -/
def QuietBits : Prop :=
  ∀ (m : (ℓ : Loc Cert.RetIdeal.nD Cert.RetIdeal.τ Cert.RetIdeal.sig) → Buf (Elt Bits) ℓ) (g : Dev Cert.RetIdeal.nD → PrngReg), True →
    θ_run (Cert.RetIdeal.defs (F := Bits)) (onTc (τ := Cert.RetIdeal.τ) (Cert.RetIdeal.main (F := Bits))) ⟨m, fun _ => 0, g⟩ (fun r => (∀ c : Dev Cert.RetIdeal.nD,
      r.2.mem ((c.tc : Thread Cert.RetIdeal.nD Cert.RetIdeal.τ).loc Cert.RetIdeal.main_arg0) = m ((c.tc : Thread Cert.RetIdeal.nD Cert.RetIdeal.τ).loc Cert.RetIdeal.main_arg0)
      ∧ r.2.mem ((c.tc : Thread Cert.RetIdeal.nD Cert.RetIdeal.τ).loc Cert.RetIdeal.main_arg1) = m ((c.tc : Thread Cert.RetIdeal.nD Cert.RetIdeal.τ).loc Cert.RetIdeal.main_arg1)
      ∧ r.2.mem ((c.tc : Thread Cert.RetIdeal.nD Cert.RetIdeal.τ).loc Cert.RetIdeal.main_arg2) = m ((c.tc : Thread Cert.RetIdeal.nD Cert.RetIdeal.τ).loc Cert.RetIdeal.main_arg2))
      ∧ r.2.sem = fun _ => 0)

/-- The two programs have the same text. -/
theorem same_text : Cert.quiescent_Ret = QuietBits := by
  sl_kernel_rfl

/-- So the run on machine floats too leaves the arguments and every counter as they were. -/
theorem frame_kernel : Cert.quiescent_Ret := same_text.mpr fun m ρ _ =>
  (θ_run Cert.RetIdeal.defs _ _).mono (fun _ h => ⟨fun c => (h.1 c).2.2, h.2⟩) (Cert.Proof.Ret.run_results (F := Bits) m ρ)

/-- The derivative's program ends with its two results, its arguments as they were. -/
theorem run_ref (m : (ℓ : Loc Cert.RetRefIdeal.nD Cert.RetRefIdeal.τ Cert.RetRefIdeal.sig) → Buf (Elt Ideal) ℓ) (ρ : Dev Cert.RetRefIdeal.nD → PrngReg) :
    θ_run Cert.RetRefIdeal.defs (onTc (τ := Cert.RetRefIdeal.τ) (Cert.RetRefIdeal.main (F := Ideal))) ⟨m, fun _ => 0, ρ⟩ (fun r => ∀ c : Dev Cert.RetRefIdeal.nD,
      r.2.mem ((c.tc : Thread Cert.RetRefIdeal.nD Cert.RetRefIdeal.τ).loc Cert.RetRefIdeal.main_v241) = RetRef.atEnd m c Cert.RetRefIdeal.main_v241
      ∧ r.2.mem ((c.tc : Thread Cert.RetRefIdeal.nD Cert.RetRefIdeal.τ).loc Cert.RetRefIdeal.main_v244) = RetRef.atEnd m c Cert.RetRefIdeal.main_v244
      ∧ r.2.mem ((c.tc : Thread Cert.RetRefIdeal.nD Cert.RetRefIdeal.τ).loc Cert.RetRefIdeal.main_arg0) = m ((c.tc : Thread Cert.RetRefIdeal.nD Cert.RetRefIdeal.τ).loc Cert.RetRefIdeal.main_arg0)
      ∧ r.2.mem ((c.tc : Thread Cert.RetRefIdeal.nD Cert.RetRefIdeal.τ).loc Cert.RetRefIdeal.main_arg1) = m ((c.tc : Thread Cert.RetRefIdeal.nD Cert.RetRefIdeal.τ).loc Cert.RetRefIdeal.main_arg1)
      ∧ r.2.mem ((c.tc : Thread Cert.RetRefIdeal.nD Cert.RetRefIdeal.τ).loc Cert.RetRefIdeal.main_arg2) = m ((c.tc : Thread Cert.RetRefIdeal.nD Cert.RetRefIdeal.τ).loc Cert.RetRefIdeal.main_arg2)) :=
  (θ_run Cert.RetRefIdeal.defs _ _).mono (fun r h c => ⟨h c _ (by decide), h c _ (by decide), (h c _ (by decide)).trans (RetRef.args_kept m c).1,
    (h c _ (by decide)).trans (RetRef.args_kept m c).2.1, (h c _ (by decide)).trans (RetRef.args_kept m c).2.2⟩) (RetRef.run_main m ρ)

/-- So it runs and leaves every counter as it was too. -/
theorem frame_ref : Cert.quiescent_RetRefIdeal := fun m ρ _ =>
  (θ_run Cert.RetRefIdeal.defs _ _).mono (fun r h => ⟨fun c => (h c).2.2, sem_eq_zero_of_no_sems (by decide) r.2⟩) (run_ref m ρ)

/-- A head's column of the gradients is one of its queries, keys, values or gates. -/
theorem exists_gCol (C : Fin 6144) : ∃ h : Fin 4, (∃ d : Fin 256, C = ⟨h.val * 1536 + (0 + d.val), by omega⟩) ∨ (∃ d : Fin 256, C = ⟨h.val * 1536 + (256 + d.val), by omega⟩)
    ∨ (∃ d : Fin 512, C = ⟨h.val * 1536 + (512 + d.val), by omega⟩) ∨ ∃ d : Fin 512, C = ⟨h.val * 1536 + (1024 + d.val), by omega⟩ := by
  refine ⟨⟨C.val / 1536, by omega⟩, ?_⟩
  have e : C.val = C.val / 1536 * 1536 + C.val % 1536 := by omega
  have l : C.val % 1536 < 1536 := Nat.mod_lt _ (by decide)
  by_cases h1 : C.val % 1536 < 256
  · exact .inl ⟨⟨C.val % 1536, h1⟩, Fin.ext (by show C.val = C.val / 1536 * 1536 + (0 + C.val % 1536); omega)⟩
  by_cases h2 : C.val % 1536 < 512
  · exact .inr (.inl ⟨⟨C.val % 1536 - 256, by omega⟩, Fin.ext (by show C.val = C.val / 1536 * 1536 + (256 + (C.val % 1536 - 256)); omega)⟩)
  by_cases h3 : C.val % 1536 < 1024
  · exact .inr (.inr (.inl ⟨⟨C.val % 1536 - 512, by omega⟩, Fin.ext (by show C.val = C.val / 1536 * 1536 + (512 + (C.val % 1536 - 512)); omega)⟩))
  · exact .inr (.inr (.inr ⟨⟨C.val % 1536 - 1024, by omega⟩, Fin.ext (by show C.val = C.val / 1536 * 1536 + (1024 + (C.val % 1536 - 1024)); omega)⟩))

section

variable {x : Fin 8192 → Fin 11264 → EReal} {p : Fin 8192 → BitVec 32} {ct : Fin 8192 → Fin 2048 → EReal}
  (hx : ∀ R (C : Fin 6144), IsReal (x R (low C))) (hct : ∀ R C, IsReal (ct R C))

include hx hct

/-- At finite arguments the gradient before the norm is the derivative's, and so is the gates'. -/
theorem rows_eq (h : Fin 4) (n : ℕ) (r : Fin 128) (j : Fin 512) : RetRef.dR (args x p ct) h n r j = (args x p ct).dO h n r j
    ∧ dzR (((args x p ct).head h).out n r) ((args x p ct).z h n r) ((args x p ct).g h n r) j = (args x p ct).gz h n r j := by
  choose y hy using fun j => out_real (p := p) (ct := ct) hx h n r j
  choose z hz using fun j : Fin 512 => hx (row n r) ⟨4096 + (h.val * 512 + j.val), by omega⟩
  choose g hg using fun j : Fin 512 => hct (row n r) (oCol h j)
  have ey : ((args x p ct).head h).out n r = fun e => (y e : EReal) := funext hy
  have ez : (args x p ct).z h n r = fun e => (z e : EReal) := funext hz
  have eg : (args x p ct).g h n r = fun e => (g e : EReal) := funext hg
  unfold RetRef.dR Args.dO Args.gz
  rw [ey, ez, eg]
  exact ⟨(dO_eq y z g j).2.symm, (dz_eq _ (fun j => (dO_eq y z g j).1) z g j).symm⟩

/-- The gradients before the norm agree as functions. -/
theorem dR_eq (h : Fin 4) : RetRef.dR (args x p ct) h = (args x p ct).dO h :=
  funext fun n => funext fun r => funext fun j => (rows_eq (p := p) hx hct h n r j).1

end

set_option maxHeartbeats 1000000 in
/-- At finite arguments the kernels' two results are the derivative's. -/
theorem algebraic : Cert.algebraic_RetIdeal_RetRefIdeal_pre_ret_finite := by
  intro m ρ m' ρ' hpre hagree
  refine ⟨fun c => Cert.Proof.Ret.W8 m c Cert.RetIdeal.main_v63_0, fun c => Cert.Proof.Ret.W8 m c Cert.RetIdeal.main_v66, ?_, ?_⟩
  · exact (θ_run Cert.RetIdeal.defs _ _).mono (fun r h c => h.1 c) (Cert.Proof.Ret.run_results (F := Ideal) m ρ)
  · refine (θ_run Cert.RetRefIdeal.defs _ _).mono (fun r h c => ⟨(h c).1.trans ?_, (h c).2.1.trans ?_, (h c).2.2⟩) (run_ref m' ρ')
    all_goals
      obtain ⟨hx, hg⟩ := hpre c
      obtain ⟨e0, e1, e2⟩ := hagree c
      have ea : RetRef.argsAt m' c = Cert.Proof.Ret.argsOf m c := by
        unfold RetRef.argsAt RetRef.argsOf Cert.Proof.Ret.argsOf
        show args (fun R C => m' ((c.tc : Thread Cert.RetRefIdeal.nD Cert.RetRefIdeal.τ).loc Cert.RetRefIdeal.main_arg0) _) (fun R => m' ((c.tc : Thread Cert.RetRefIdeal.nD Cert.RetRefIdeal.τ).loc Cert.RetRefIdeal.main_arg1) _)
          (fun R C => m' ((c.tc : Thread Cert.RetRefIdeal.nD Cert.RetRefIdeal.τ).loc Cert.RetRefIdeal.main_arg2) _) = _
        rw [e0, e1, e2]
    · funext i
      obtain ⟨R, C, rfl⟩ : ∃ R C, i = ix2 R C := ⟨i 0, i 1, by funext a; match a with | ⟨0, _⟩ => rfl | ⟨1, _⟩ => rfl⟩
      obtain ⟨n, r, rfl⟩ := exists_row R
      obtain ⟨h, j, rfl⟩ := exists_oCol C
      refine (RetRef.result_pa n h r m' c j).trans ?_
      rw [ea]
      exact (Cert.Proof.Ret.result_pa m c h n r j).symm
    · have hx' : ∀ R (C : Fin 6144), IsReal ((m ((c.tc : Thread Cert.RetIdeal.nD Cert.RetIdeal.τ).loc Cert.RetIdeal.main_arg0) : Vec Ideal Cert.RetIdeal.S1x8192x11264 .f32) (ix3 0 R (low C))) := fun R C => by
        obtain ⟨v, hv⟩ := Dh.real_of_cmp _ _ (fun _ => rfl) hx (ix3 0 R C)
        pointwise at hv
        refine ⟨v, Eq.trans ?_ hv⟩
        rfl
      have hg' : ∀ R C, IsReal ((m ((c.tc : Thread Cert.RetIdeal.nD Cert.RetIdeal.τ).loc Cert.RetIdeal.main_arg2) : Vec Ideal Cert.RetIdeal.S1x8192x2048 .f32) (ix3 0 R C)) := fun R C =>
        Dh.real_of_cmp _ _ (fun _ => rfl) hg (ix3 0 R C)
      funext i
      obtain ⟨R, C, rfl⟩ : ∃ R C, i = ix2 R C := ⟨i 0, i 1, by funext a; match a with | ⟨0, _⟩ => rfl | ⟨1, _⟩ => rfl⟩
      obtain ⟨n, r, rfl⟩ := exists_row R
      obtain ⟨h, ⟨d, rfl⟩ | ⟨d, rfl⟩ | ⟨d, rfl⟩ | ⟨d, rfl⟩⟩ := exists_gCol C
      · refine ((RetRef.result_q n h r m' c d).trans ?_).trans (Cert.Proof.Ret.result_q m c h n r d).symm
        rw [ea, Cert.Proof.Ret.argsOf, dR_eq hx' hg' h]; rfl
      · refine ((RetRef.result_k n h r m' c d).trans ?_).trans (Cert.Proof.Ret.result_k m c h n r d).symm
        rw [ea, ← turnBack_scale, Cert.Proof.Ret.argsOf, dR_eq hx' hg' h]; rfl
      · refine ((RetRef.result_v n h r m' c d).trans ?_).trans (Cert.Proof.Ret.result_v m c h n r d).symm
        rw [ea, Cert.Proof.Ret.argsOf, dR_eq hx' hg' h]; rfl
      · refine ((RetRef.result_z n h r m' c d).trans ?_).trans (Cert.Proof.Ret.result_z m c h n r d).symm
        rw [ea]
        exact (rows_eq hx' hg' h n r d).2

end Cert.Proof.RetClaims

end
end
-- ==== Proof.HeadSpec.lean ====
/- Hand-written: one position of the merge, the output projection, the post-norm and the loss, with the gradients, as both
   programs compute them; and the two ways to write the gradient at the projection's result, equal at finite values. -/
module

public import proofs.«01_k».proof.Proof.DhMath
public import proofs.«01_k».proof.Proof.RetMath

@[expose] public section

noncomputable section

namespace Cert.Proof.HeadSpec

open Idealize.ShloMosaic Cert.Proof.Dh Cert.Proof.RetSpec

/-- What one position reads: its row of the two branches' outputs, of the gates' columns, of the residual and of the
    target; and what all positions share: the adaptive gate, the post-norm's weight and the three matrices. -/
structure Pos where
  pa : Fin 2048 → EReal
  pb : Fin 1024 → EReal
  ga : Fin 1024 → EReal
  gb : Fin 1024 → EReal
  x : Fin 1024 → EReal
  t : Fin 1024 → EReal
  gate : Fin 1024 → EReal
  gp : Fin 1024 → EReal
  wr : Fin 2048 → Fin 1024 → EReal
  wc : Fin 1024 → Fin 1024 → EReal
  wo : Fin 1024 → Fin 1024 → EReal

namespace Pos

variable (p : Pos)

/-! The forward: the branches' projections, their merge, the output projection, the post-norm, the error and the loss. -/

def ya (d : Fin 1024) : EReal := ∑ e, p.pa e * p.wr e d
def yb (d : Fin 1024) : EReal := ∑ e, p.pb e * p.wc e d
def sa (d : Fin 1024) : EReal := Ideal.logistic (p.ga d)
def sb (d : Fin 1024) : EReal := Ideal.logistic (p.gb d)
def mb (d : Fin 1024) : EReal := p.sa d * p.ya d + p.sb d * p.yb d
def y (d : Fin 1024) : EReal := ∑ e, p.mb e * p.wo e d
def yhat (d : Fin 1024) : EReal := p.y d * Ideal.rsqrt (ms p.y)
def yn (d : Fin 1024) : EReal := p.yhat d * p.gp d
def err (d : Fin 1024) : EReal := p.x d + p.gate d * p.yn d - p.t d
def loss : EReal := Ideal.div (∑ d, p.err d * p.err d) (Ideal.ofBits .f32 1149239296#32)

/-! The gradients down to the normalised rows. -/

def dout (d : Fin 1024) : EReal := p.err d * Ideal.ofBits .f32 981467136#32
def dyn (d : Fin 1024) : EReal := p.dout d * p.gate d
def dyhat (d : Fin 1024) : EReal := p.dyn d * p.gp d

/-- The gradient at the output projection's result, as the kernel writes it. -/
def dy (d : Fin 1024) : EReal :=
  Ideal.rsqrt (ms p.y) * (p.dyhat d - p.yhat d * Ideal.div (∑ e, p.dyhat e * p.yhat e) (Ideal.ofBits .f32 1149239296#32))

/-! The gradients from there to the branches. -/

def dm (d : Fin 1024) : EReal := ∑ e, p.dy e * p.wo d e
def dya (d : Fin 1024) : EReal := p.dm d * p.sa d
def dyb (d : Fin 1024) : EReal := p.dm d * p.sb d
def dga (d : Fin 1024) : EReal := p.dya d * p.ya d * (1 - p.sa d)
def dgb (d : Fin 1024) : EReal := p.dyb d * p.yb d * (1 - p.sb d)
def dpa (e : Fin 2048) : EReal := ∑ d, p.dya d * p.wr e d
def dpb (e : Fin 1024) : EReal := ∑ d, p.dyb d * p.wc e d

/-- The summands of the small array's rows: the adaptive gate's gradient, the post-norm's weight's, the loss. -/
def part (k : Fin 3) (d : Fin 1024) : EReal :=
  match k with
  | 0 => p.dout d * p.yn d
  | 1 => p.dyn d * p.yhat d
  | 2 => p.loss

/-- Nothing that the position reads is infinite. -/
structure Real : Prop where
  pa : ∀ e, IsReal (p.pa e)
  pb : ∀ e, IsReal (p.pb e)
  ga : ∀ d, IsReal (p.ga d)
  gb : ∀ d, IsReal (p.gb d)
  x : ∀ d, IsReal (p.x d)
  t : ∀ d, IsReal (p.t d)
  gate : ∀ d, IsReal (p.gate d)
  gp : ∀ d, IsReal (p.gp d)
  wr : ∀ e d, IsReal (p.wr e d)
  wc : ∀ e d, IsReal (p.wc e d)
  wo : ∀ e d, IsReal (p.wo e d)

/-- The gate of a finite column is finite. -/
theorem logistic_real {z : EReal} (h : IsReal z) : IsReal (Ideal.logistic z) := by
  obtain ⟨r, rfl⟩ := h
  exact ⟨_, Ideal.logistic_coe r⟩

variable {p}

/-- The projection's result is finite. -/
theorem Real.y (h : p.Real) (d : Fin 1024) : IsReal (p.y d) :=
  .sum fun e => .mul (.add (.mul (logistic_real (h.ga e)) (.sum fun i => .mul (h.pa i) (h.wr i e)))
    (.mul (logistic_real (h.gb e)) (.sum fun i => .mul (h.pb i) (h.wc i e)))) (h.wo e d)

/-- The mean square of a finite row, with the norm's constant, is a positive real number. -/
theorem ms_real {a : Fin 1024 → EReal} (h : ∀ d, IsReal (a d)) : ∃ v : ℝ, 0 < v ∧ ms a = v := by
  choose r hr using h
  obtain ⟨ε, hε, eε⟩ := eps_real
  refine ⟨(∑ e, r e * r e) / 1024 + ε,
    add_pos_of_nonneg_of_pos (div_nonneg (Finset.sum_nonneg fun e _ => mul_self_nonneg _) (by norm_num)) hε, ?_⟩
  unfold ms
  simp only [hr, ← EReal.coe_mul]
  rw [sum_real, c1024, eε, div_real _ _ (by norm_num), ← EReal.coe_add]

/-- One part in 1024. -/
theorem c2m10 : Ideal.ofBits .f32 981467136#32 = ((1 / 1024 : ℝ) : EReal) := by
  simp [Ideal.ofBits, Ideal.ieee]
  rw [← EReal.coe_mul]
  norm_num

/-- The normalised row's gradient is finite. -/
theorem Real.dyhat (h : p.Real) (d : Fin 1024) : IsReal (p.dyhat d) := by
  obtain ⟨v, hv, ev⟩ := ms_real h.y
  refine .mul (.mul (.mul (.sub (.add (h.x d) (.mul (h.gate d) (.mul (.mul (h.y d) ?_) (h.gp d)))) (h.t d)) ⟨_, c2m10⟩)
    (h.gate d)) (h.gp d)
  rw [ev, rsqrt_real _ hv]
  exact ⟨_, rfl⟩

/-- The gradient at the projection's result is the derivative's, at finite values. -/
theorem Real.dy (h : p.Real) (d : Fin 1024) : p.dy d
    = p.dyhat d * Ideal.rsqrt (ms p.y) + p.y d * rPart p.y p.dyhat + rPart p.y p.dyhat * p.y d := by
  choose a ha using h.y
  choose b hb using h.dyhat
  have e := grads 0 a b d
  unfold kGrad rGrad at e
  rw [zero_add, zero_add, ← funext ha, ← funext hb] at e
  exact e

end Pos

/-- A factor of one half goes into a sum of two. -/
theorem half_add (a b : EReal) : Ideal.ofBits .f32 1056964608#32 * (a + b)
    = Ideal.ofBits .f32 1056964608#32 * a + Ideal.ofBits .f32 1056964608#32 * b := by
  have e : Ideal.ofBits .f32 1056964608#32 = ((1 / 2 : ℝ) : EReal) := by
    simp [Ideal.ofBits, Ideal.ieee]
    rw [← EReal.coe_mul]
    norm_num
  rw [e]
  exact EReal.left_distrib_of_nonneg_of_ne_top (by exact_mod_cast (by norm_num : (0 : ℝ) ≤ 1 / 2)) (EReal.coe_ne_top _) _ _

/-- A factor of one half goes into a finite sum. -/
theorem half_sum {ι : Type} (s : Finset ι) (f : ι → EReal) : Ideal.ofBits .f32 1056964608#32 * ∑ i ∈ s, f i
    = ∑ i ∈ s, Ideal.ofBits .f32 1056964608#32 * f i := by
  classical
  induction s using Finset.induction_on with
  | empty => simp
  | insert a s ha ih => rw [Finset.sum_insert ha, Finset.sum_insert ha, half_add, ih]

/-- The summand that one position adds to a row of the small array; the loss enters by half. -/
def Pos.summand (p : Pos) (k : Fin 3) (d : Fin 1024) : EReal :=
  match k with
  | 0 => p.part 0 d
  | 1 => p.part 1 d
  | 2 => Ideal.ofBits .f32 1056964608#32 * p.loss

/-- The first three rows of the small array. -/
def total (p : Fin 8192 → Pos) (k : Fin 3) (d : Fin 1024) : EReal := ∑ R, (p R).summand k d

/-- The two spellings of the error's factor. -/
theorem factor (e : EReal) : Ideal.div (Ideal.ofBits .f32 1056964608#32 * 1) (Ideal.ofBits .f32 1149239296#32)
    * (Ideal.ofBits .f32 1073741824#32 * e) = e * Ideal.ofBits .f32 981467136#32 := by
  have e2 : Ideal.ofBits .f32 1056964608#32 = ((1 / 2 : ℝ) : EReal) := by
    simp [Ideal.ofBits, Ideal.ieee]
    rw [← EReal.coe_mul]
    norm_num
  rw [e2, c2, c1024, Pos.c2m10, mul_one, div_real _ _ (by norm_num), ← mul_assoc, ← EReal.coe_mul, mul_comm]
  congr 2
  norm_num

end Cert.Proof.HeadSpec

end
-- ==== Proof.HeadPays.lean ====
/- Hand-written: the values that one grid point of the merge's and loss's kernel stores, read at an index, as functions of
   the blocks the point loads. -/
module

public import proofs.«01_k».proof.Proof.Gen.HeadIdeal.Value
public import proofs.«01_k».proof.Proof.HeadSpec
public import Idealize.ShloMosaic.Lib.Pointwise

@[expose] public section

noncomputable section

namespace Cert.Proof.Head

open Cert.HeadIdeal Cert.HeadIdeal.Gen Idealize.ShloMosaic Cert.Proof.HeadSpec

/-- The blocks that a point loads. -/
structure Blocks where
  pa : Vec Ideal S256x2048 .bf16
  pb : Vec Ideal S256x1024 .bf16
  ga : Vec Ideal S256x1024 .f32
  gb : Vec Ideal S256x1024 .f32
  x : Vec Ideal S256x1024 .f32
  t : Vec Ideal S256x1024 .f32
  gate : Vec Ideal S1x1024 .f32
  gp : Vec Ideal S1x1024 .f32
  wr : Vec Ideal S2048x1024 .bf16
  wc : Vec Ideal S1024x1024 .bf16
  wo : Vec Ideal S1024x1024 .bf16

namespace Blocks

variable (b : Blocks)

/-- Row `r` of the blocks. -/
def pos (r : Fin 256) : Pos where
  pa e := b.pa (ix2 r e)
  pb e := b.pb (ix2 r e)
  ga e := b.ga (ix2 r e)
  gb e := b.gb (ix2 r e)
  x e := b.x (ix2 r e)
  t e := b.t (ix2 r e)
  gate e := b.gate (ix2 0 e)
  gp e := b.gp (ix2 0 e)
  wr e d := b.wr (ix2 e d)
  wc e d := b.wc (ix2 e d)
  wo e d := b.wo (ix2 e d)

/-! The kernel's values over the blocks. -/

def ya : FVec Ideal S256x1024 .f32 := k0_pay7 b.pa b.wr
def yb : FVec Ideal S256x1024 .f32 := k0_pay8 b.pb b.wc
def y : FVec Ideal S256x1024 .f32 := k0_pay12 b.pa b.wr b.pb b.wc b.ga b.gb b.wo
def sq : FVec Ideal S256 .f32 := k0_pay13 b.pa b.wr b.pb b.wc b.ga b.gb b.wo
def r : FVec Ideal S256x1 .f32 := k0_pay14 b.sq
def yhat : FVec Ideal S256x1024 .f32 := k0_pay15 b.y b.sq
def dout : FVec Ideal S256x1024 .f32 := k0_pay19 b.gate b.gp b.y b.sq b.x b.t
def mb : FVec Ideal S256x1024 .bf16 := k0_pay11 b.pa b.wr b.pb b.wc b.ga b.gb
def dy : FVec Ideal S256x1024 .bf16 := k0_pay25 b.gate b.gp b.r b.yhat b.dout
def dya : FVec Ideal S256x1024 .f32 := k0_pay27 b.gate b.gp (k0_pay9 b.ga) b.r b.yhat b.dout b.wo
def dyb : FVec Ideal S256x1024 .f32 := k0_pay28 b.gate b.gp (k0_pay10 b.gb) b.r b.yhat b.dout b.wo
def dga : FVec Ideal S256x1024 .bf16 := k0_pay29 b.gate b.gp b.ya (k0_pay9 b.ga) b.r b.yhat b.dout b.wo
def dgb : FVec Ideal S256x1024 .bf16 := k0_pay1 b.yb (k0_pay10 b.gb) b.dyb
def dpa : FVec Ideal S256x2048 .f32 := k0_pay4 b.dya b.wr
def dpb : FVec Ideal S256x1024 .f32 := k0_pay5 b.dyb b.wc

/-! Each read at an index. -/

variable (i : Fin 256) (d : Fin 1024)

theorem ya_apply : b.ya (ix2 i d) = (b.pos i).ya d := by
  pointwise [ya, k0_pay7]
  rfl
theorem yb_apply : b.yb (ix2 i d) = (b.pos i).yb d := by
  pointwise [yb, k0_pay8]
  rfl
theorem mb_apply : b.mb (ix2 i d) = (b.pos i).mb d := by
  pointwise [mb, k0_pay11, k0_pay7, k0_pay8, k0_pay9, k0_pay10]
  rfl
theorem y_apply : b.y (ix2 i d) = (b.pos i).y d := by
  pointwise [y, k0_pay12]
  exact Finset.sum_congr rfl fun e _ => congrArg (· * _) (b.mb_apply i e)
theorem r_apply : b.r (ix2 i 0) = Ideal.rsqrt (Dh.ms (b.pos i).y) := by
  have e := b.y_apply i
  unfold y at e
  pointwise [r, k0_pay14, sq, k0_pay13, e]
  rfl
theorem yhat_apply : b.yhat (ix2 i d) = (b.pos i).yhat d := by
  have e := b.r_apply i
  unfold r at e
  pointwise [yhat, k0_pay15, e, b.y_apply]
  rfl
theorem dout_apply : b.dout (ix2 i d) = (b.pos i).dout d := by
  have e := b.yhat_apply i d
  unfold yhat at e
  pointwise [dout, k0_pay19, k0_pay17, k0_pay16, e]
  rfl
theorem dy_apply : b.dy (ix2 i d) = (b.pos i).dy d := by
  pointwise [dy, k0_pay25, k0_pay23, b.r_apply, b.yhat_apply, b.dout_apply]
  rfl
theorem dya_apply : b.dya (ix2 i d) = (b.pos i).dya d := by
  have e := b.dy_apply i
  unfold dy at e
  pointwise [dya, k0_pay27, k0_pay26, k0_pay9, e]
  rfl
theorem dyb_apply : b.dyb (ix2 i d) = (b.pos i).dyb d := by
  have e := b.dy_apply i
  unfold dy at e
  pointwise [dyb, k0_pay28, k0_pay26, k0_pay10, e]
  rfl
theorem dga_apply : b.dga (ix2 i d) = (b.pos i).dga d := by
  have e := b.dya_apply i d
  unfold dya at e
  pointwise [dga, k0_pay29, e, b.ya_apply]
  pointwise [k0_pay9]
  rfl
theorem dgb_apply : b.dgb (ix2 i d) = (b.pos i).dgb d := by
  pointwise [dgb, k0_pay1, b.dyb_apply, b.yb_apply, k0_pay10]
  rfl
theorem dya16_apply : k0_pay2 b.dya (ix2 i d) = (b.pos i).dya d := by
  pointwise [k0_pay2, b.dya_apply]
theorem dyb16_apply : k0_pay3 b.dyb (ix2 i d) = (b.pos i).dyb d := by
  pointwise [k0_pay3, b.dyb_apply]
theorem dpa_apply (e : Fin 2048) : b.dpa (ix2 i e) = (b.pos i).dpa e := by
  pointwise [dpa, k0_pay4, k0_pay2, b.dya_apply]
  rfl
theorem dpb_apply : b.dpb (ix2 i d) = (b.pos i).dpb d := by
  pointwise [dpb, k0_pay5, k0_pay3, b.dyb_apply]
  rfl

/-! The running sums' rows over the rows they start from. -/

theorem loss_apply (o : Vec Ideal S1x1024 .f32) : k0_pay18 b.gate b.gp b.y b.sq b.x b.t o (ix2 0 d)
    = o (ix2 0 d) + Ideal.ofBits .f32 1056964608#32 * ∑ i, (b.pos i).loss := by
  have e := b.yhat_apply
  unfold yhat at e
  pointwise [k0_pay18, k0_pay17, k0_pay16, e]
  simp only [Fintype.sum_unique]
  rfl
theorem gate_apply (o : Vec Ideal S1x1024 .f32) : k0_pay22 (k0_pay20 o) (k0_pay21 b.gate b.gp b.y b.sq b.x b.t) (ix2 0 d)
    = o (ix2 0 d) + ∑ i, (b.pos i).part 0 d := by
  have e := fun i => b.yhat_apply i d
  have e' := fun i => b.dout_apply i d
  unfold yhat at e
  unfold dout at e'
  pointwise [k0_pay22, k0_pay21, k0_pay20, k0_pay16, e, e']
  rfl
theorem post_apply (o : Vec Ideal S1x1024 .f32) : k0_pay24 b.gate b.yhat b.dout o (ix2 0 d)
    = o (ix2 0 d) + ∑ i, (b.pos i).part 1 d := by
  pointwise [k0_pay24, k0_pay23, b.yhat_apply, b.dout_apply]
  rfl

end Blocks

end Cert.Proof.Head

end
-- ==== Proof.HeadPoint.lean ====
/- Hand-written: what one grid point of the merge's and loss's kernel leaves in its nine output buffers, as functions of
   the blocks the point loads. -/
module

public import proofs.«01_k».proof.Proof.HeadPays
public import Idealize.ShloMosaic.Lib.WritesUnit
public import Idealize.ShloMosaic.Lib.Pipeline.ReadBack
public import Idealize.ShloMosaic.Lib.Pipeline.ValueKit
public import Idealize.ShloMosaic.Lib.Pipeline.RowLoads

@[expose] public section

noncomputable section

namespace Cert.Proof.Head

open Cert.HeadIdeal Cert.HeadIdeal.Gen Cert.HeadIdeal.Value Idealize.ShloMosaic Idealize.ShloMosaic.TcCoe Idealize.SL.Sem

/-- Offsets of a whole block. -/
theorem hz : (![0, 0] : Fin 2 → Nat) = fun _ => 0 := funext fun a => by fin_cases a <;> rfl

attribute [local irreducible] k0_pay1 k0_pay2 k0_pay3 k0_pay4 k0_pay5 k0_pay6 k0_pay7 k0_pay8 k0_pay9 k0_pay10 k0_pay11 k0_pay12 k0_pay13 k0_pay14 k0_pay15 k0_pay16 k0_pay17 k0_pay18 k0_pay19 k0_pay20 k0_pay21 k0_pay22 k0_pay23 k0_pay24 k0_pay25 k0_pay26 k0_pay27 k0_pay28 k0_pay29

variable (m : (ℓ : Loc nD τ sig) → Buf (Elt Ideal) ℓ) (c : Dev nD)

/-- The blocks that point `t` loads. -/
def blocks (t : Fin cfg0.N) : Blocks where
  pa := iblk m c 0 t
  pb := iblk m c 1 t
  ga := iblk m c 2 t
  gb := iblk m c 3 t
  x := iblk m c 4 t
  t := iblk m c 5 t
  gate := iblk m c 6 t
  gp := iblk m c 7 t
  wr := iblk m c 8 t
  wc := iblk m c 9 t
  wo := iblk m c 10 t

/-- The seven outputs that a point stores whole. -/
def Whole (t : Fin cfg0.N) (o : Vec Ideal S256x1024 .f32 × Vec Ideal S256x2048 .bf16 × Vec Ideal S256x2048 .f32
    × Vec Ideal S256x1024 .f32 × Vec Ideal S256x1024 .bf16 × Vec Ideal S256x1024 .bf16 × Vec Ideal S256x1024 .bf16
    × Vec Ideal S256x1024 .bf16 × Vec Ideal S8x1024 .f32) : Prop :=
  o.1 = (blocks m c t).dout ∧ o.2.2.1 = (blocks m c t).dpa ∧ o.2.2.2.1 = (blocks m c t).dpb
    ∧ o.2.2.2.2.1 = (blocks m c t).mb ∧ o.2.2.2.2.2.1 = (blocks m c t).dy
    ∧ o.2.2.2.2.2.2.1 = k0_pay2 (blocks m c t).dya ∧ o.2.2.2.2.2.2.2.1 = k0_pay3 (blocks m c t).dyb

namespace Blocks

variable (b : Blocks)

/-! The kernel's intermediate values by their names. -/

theorem fold_ya : k0_pay7 b.pa b.wr = b.ya := rfl
theorem fold_yb : k0_pay8 b.pb b.wc = b.yb := rfl
theorem fold_y : k0_pay12 b.pa b.wr b.pb b.wc b.ga b.gb b.wo = b.y := rfl
theorem fold_sq : k0_pay13 b.pa b.wr b.pb b.wc b.ga b.gb b.wo = b.sq := rfl
theorem fold_r : k0_pay14 b.sq = b.r := rfl
theorem fold_yhat : k0_pay15 b.y b.sq = b.yhat := rfl
theorem fold_dout : k0_pay19 b.gate b.gp b.y b.sq b.x b.t = b.dout := rfl
theorem fold_dya : k0_pay27 b.gate b.gp (k0_pay9 b.ga) b.r b.yhat b.dout b.wo = b.dya := rfl
theorem fold_dyb : k0_pay28 b.gate b.gp (k0_pay10 b.gb) b.r b.yhat b.dout b.wo = b.dyb := rfl

end Blocks

/-- The input windows' blocks by their names. -/
theorem fold_blocks (t : Fin cfg0.N) : (iblk m c 0 t : Vec Ideal S256x2048 .bf16) = (blocks m c t).pa
    ∧ (iblk m c 1 t : Vec Ideal S256x1024 .bf16) = (blocks m c t).pb ∧ (iblk m c 2 t : Vec Ideal S256x1024 .f32) = (blocks m c t).ga
    ∧ (iblk m c 3 t : Vec Ideal S256x1024 .f32) = (blocks m c t).gb ∧ (iblk m c 4 t : Vec Ideal S256x1024 .f32) = (blocks m c t).x
    ∧ (iblk m c 5 t : Vec Ideal S256x1024 .f32) = (blocks m c t).t ∧ (iblk m c 6 t : Vec Ideal S1x1024 .f32) = (blocks m c t).gate
    ∧ (iblk m c 7 t : Vec Ideal S1x1024 .f32) = (blocks m c t).gp ∧ (iblk m c 8 t : Vec Ideal S2048x1024 .bf16) = (blocks m c t).wr
    ∧ (iblk m c 9 t : Vec Ideal S1024x1024 .bf16) = (blocks m c t).wc ∧ (iblk m c 10 t : Vec Ideal S1024x1024 .bf16) = (blocks m c t).wo :=
  ⟨rfl, rfl, rfl, rfl, rfl, rfl, rfl, rfl, rfl, rfl, rfl⟩

set_option maxHeartbeats 1000000 in
/-- The outputs that a point stores whole hold the blocks' values. -/
theorem whole (t : Fin cfg0.N) : Whole m c t (outsAt0 m c t.val t.isLt) := by
  unfold Whole
  obtain ⟨e0, e1, e2, e3, e4, e5, e6, e7, e8, e9, e10⟩ := fold_blocks m c t
  generalize blocks m c t = b at e0 e1 e2 e3 e4 e5 e6 e7 e8 e9 e10 ⊢
  by_cases h0 : t.val % 32 = 0
  · rw [outsAt0_A m c t h0]
    dsimp only
    refine ⟨?_, ?_, ?_, ?_, ?_, ?_, ?_⟩
    all_goals
      first
        | unfold out0_A_11
        | unfold out0_A_13
        | unfold out0_A_14
        | unfold out0_A_15
        | unfold out0_A_16
        | unfold out0_A_17
        | unfold out0_A_18
      rw [View.read_writes_junk_eq_canon]
      unfold kernelRun0_A
      dsimp only
      rw [View.canon_unit_zero hz]
      simp only [kernelRun0_A.sl.r, kernelRun0_A.sl.r_1, kernelRun0_A.sl.r_2, kernelRun0_A.sl.r_3,
        kernelRun0_A.sl.r_4, kernelRun0_A.sl.r_5, kernelRun0_A.sl.r_6, kernelRun0_A.sl.r_7, kernelRun0_A.sl.r_8,
        kernelRun0_A.sl.r_9, kernelRun0_A.sl.r_10, kernelRun0_A.sl.r_11, kernelRun0_A.sl.r_12, kernelRun0_A.sl.r_13,
        kernelRun0_A.sl.r_14, kernelRun0_A.sl.v0, kernelRun0_A.sl.v1, kernelRun0_A.sl.v2, kernelRun0_A.sl.v49,
        kernelRun0_A.sl.v67, kernelRun0_A.sl.v76, kernelRun0_A.sl.H19_1, kernelRun0_A.sl.H19_2, kernelRun0_A.sl.H19_3,
        View.readAt_eq_ld, Memref.IsWhole.read_unread, View.ld_unit_zero (S := S256x1024) hz,
        View.ld_unit_zero (S := S1x1024) hz, View.ld_unit_zero (S := S256x2048) hz,
        View.ld_unit_zero (S := S2048x1024) hz, View.ld_unit_zero (S := S1024x1024) hz, Blocks.fold_ya,
        Blocks.fold_yb, Blocks.fold_y, Blocks.fold_sq, Blocks.fold_r, Blocks.fold_yhat, Blocks.fold_dout,
        Blocks.fold_dya, Blocks.fold_dyb, e0, e1, e2, e3, e4, e5, e6, e7, e8, e9, e10]
      all_goals rfl
  · rw [outsAt0_B m c t h0]
    dsimp only
    generalize (outsAt0 m c (t.val - 1) (by have := t.isLt; omega)).2.2.2.2.2.2.2.2 = old
    refine ⟨?_, ?_, ?_, ?_, ?_, ?_, ?_⟩
    all_goals
      first
        | unfold out0_B_11
        | unfold out0_B_13
        | unfold out0_B_14
        | unfold out0_B_15
        | unfold out0_B_16
        | unfold out0_B_17
        | unfold out0_B_18
      rw [View.read_writes_junk_eq_canon]
      unfold kernelRun0_B
      dsimp only
      rw [View.canon_unit_zero hz]
      simp only [kernelRun0_B.sl.r, kernelRun0_B.sl.r_1, kernelRun0_B.sl.r_2, kernelRun0_B.sl.r_3,
        kernelRun0_B.sl.r_4, kernelRun0_B.sl.r_5, kernelRun0_B.sl.r_6, kernelRun0_B.sl.r_7, kernelRun0_B.sl.r_8,
        kernelRun0_B.sl.r_9, kernelRun0_B.sl.r_10, kernelRun0_B.sl.r_11, kernelRun0_B.sl.r_12, kernelRun0_B.sl.r_13,
        kernelRun0_B.sl.r_14, kernelRun0_B.sl.v0, kernelRun0_B.sl.v1, kernelRun0_B.sl.v2, kernelRun0_B.sl.v67,
        kernelRun0_B.sl.v76, View.readAt_eq_ld, Memref.IsWhole.read_unread, View.ld_unit_zero (S := S256x1024) hz,
        View.ld_unit_zero (S := S1x1024) hz, View.ld_unit_zero (S := S256x2048) hz,
        View.ld_unit_zero (S := S2048x1024) hz, View.ld_unit_zero (S := S1024x1024) hz, Blocks.fold_ya,
        Blocks.fold_yb, Blocks.fold_y, Blocks.fold_sq, Blocks.fold_r, Blocks.fold_yhat, Blocks.fold_dout,
        Blocks.fold_dya, Blocks.fold_dyb, e0, e1, e2, e3, e4, e5, e6, e7, e8, e9, e10]
      all_goals rfl

/-- Two stores, of the left and of the right half of the columns, read at an index. -/
theorem two_halves (u v : Vec Ideal S256x1024 .bf16) (r : Fin 256) (k : Fin 2048) :
    View.canon [(⟨Rect.unit ![0, 1024] ![256, 1024] inb_S256x2048_S256x1024_0_1024, v⟩ : View.Piece (Elt Ideal) S256x2048 .bf16),
      ⟨Rect.unit ![0, 0] ![256, 1024] inb_S256x2048_S256x1024_0_0, u⟩] (ix2 r k)
    = if h : k.val < 1024 then u (ix2 r ⟨k.val, h⟩) else v (ix2 r ⟨k.val - 1024, by omega⟩) := by
  have hk := k.isLt
  by_cases h : k.val < 1024
  · have he : (Rect.unit (s := S256x2048) ![0, 0] ![256, 1024] inb_S256x2048_S256x1024_0_0).emb (ix2 r ⟨k.val, h⟩) = ix2 r k := by
      refine funext fun d => Fin.ext ?_
      match d with
      | 0 => show 0 + 1 * r.val = r.val; omega
      | 1 => show 0 + 1 * k.val = k.val; omega
    rw [dif_pos h]
    refine View.canon_eq_of_allAt _ _ _ ⟨_, List.mem_cons_of_mem _ (List.mem_singleton_self _), he ▸ (Rect.unit (s := S256x2048) ![0, 0] ![256, 1024] inb_S256x2048_S256x1024_0_0).idx_mem _⟩ fun p hp x hx => ?_
    rcases List.mem_cons.1 hp with rfl | hp
    · have h1 : 1024 + 1 * (x 1).val = k.val := congrArg (fun i => (i 1).val) hx
      omega
    · obtain rfl := List.mem_singleton.1 hp
      have h0 : 0 + 1 * (x 0).val = r.val := congrArg (fun i => (i 0).val) hx
      have h1 : 0 + 1 * (x 1).val = k.val := congrArg (fun i => (i 1).val) hx
      refine congrArg u (funext fun d => Fin.ext ?_)
      match d with
      | 0 => show (x 0).val = r.val; omega
      | 1 => show (x 1).val = k.val; omega
  · have he : (Rect.unit (s := S256x2048) ![0, 1024] ![256, 1024] inb_S256x2048_S256x1024_0_1024).emb
        (ix2 r ⟨k.val - 1024, by omega⟩) = ix2 r k := by
      refine funext fun d => Fin.ext ?_
      match d with
      | 0 => show 0 + 1 * r.val = r.val; omega
      | 1 => show 1024 + 1 * (k.val - 1024) = k.val; omega
    rw [dif_neg h]
    refine View.canon_eq_of_allAt _ _ _ ⟨_, List.mem_cons_self, he ▸ (Rect.unit (s := S256x2048) ![0, 1024] ![256, 1024] inb_S256x2048_S256x1024_0_1024).idx_mem _⟩ fun p hp x hx => ?_
    rcases List.mem_cons.1 hp with rfl | hp
    · have h0 : 0 + 1 * (x 0).val = r.val := congrArg (fun i => (i 0).val) hx
      have h1 : 1024 + 1 * (x 1).val = k.val := congrArg (fun i => (i 1).val) hx
      refine congrArg v (funext fun d => Fin.ext ?_)
      match d with
      | 0 => show (x 0).val = r.val; omega
      | 1 => show (x 1).val = k.val - 1024; omega
    · obtain rfl := List.mem_singleton.1 hp
      have h1 : 0 + 1 * (x 1).val = k.val := congrArg (fun i => (i 1).val) hx
      have hx1 : (x 1).val < 1024 := (x 1).isLt
      omega

set_option maxHeartbeats 1000000 in
/-- The gates' gradients lie side by side. -/
theorem halves (t : Fin cfg0.N) (r : Fin 256) (k : Fin 2048) : (outsAt0 m c t.val t.isLt).2.1 (ix2 r k)
    = if h : k.val < 1024 then (blocks m c t).dga (ix2 r ⟨k.val, h⟩) else (blocks m c t).dgb (ix2 r ⟨k.val - 1024, by omega⟩) := by
  obtain ⟨e0, e1, e2, e3, e4, e5, e6, e7, e8, e9, e10⟩ := fold_blocks m c t
  generalize blocks m c t = b at e0 e1 e2 e3 e4 e5 e6 e7 e8 e9 e10 ⊢
  by_cases h0 : t.val % 32 = 0
  · rw [outsAt0_A m c t h0]
    dsimp only
    unfold out0_A_12
    rw [View.read_writes_junk_eq_canon]
    unfold kernelRun0_A
    dsimp only
    simp only [kernelRun0_A.sl.r, kernelRun0_A.sl.r_1, kernelRun0_A.sl.r_2, kernelRun0_A.sl.r_3, kernelRun0_A.sl.r_4,
      kernelRun0_A.sl.r_5, kernelRun0_A.sl.r_6, kernelRun0_A.sl.r_7, kernelRun0_A.sl.r_8, kernelRun0_A.sl.r_9,
      kernelRun0_A.sl.r_10, kernelRun0_A.sl.r_11, kernelRun0_A.sl.r_12, kernelRun0_A.sl.r_13, kernelRun0_A.sl.r_14,
      kernelRun0_A.sl.v0, kernelRun0_A.sl.v1, kernelRun0_A.sl.v2, kernelRun0_A.sl.v49, kernelRun0_A.sl.v67,
      kernelRun0_A.sl.v76, kernelRun0_A.sl.H19_1, kernelRun0_A.sl.H19_2, kernelRun0_A.sl.H19_3, View.readAt_eq_ld,
      Memref.IsWhole.read_unread, View.ld_unit_zero (S := S256x1024) hz, View.ld_unit_zero (S := S1x1024) hz,
      View.ld_unit_zero (S := S256x2048) hz, View.ld_unit_zero (S := S2048x1024) hz,
      View.ld_unit_zero (S := S1024x1024) hz, Blocks.fold_ya, Blocks.fold_yb, Blocks.fold_y, Blocks.fold_sq,
      Blocks.fold_r, Blocks.fold_yhat, Blocks.fold_dout, Blocks.fold_dya, Blocks.fold_dyb, e0, e1, e2, e3, e4, e5, e6,
      e7, e8, e9, e10]
    exact two_halves b.dga b.dgb r k
  · rw [outsAt0_B m c t h0]
    dsimp only
    generalize (outsAt0 m c (t.val - 1) (by have := t.isLt; omega)).2.2.2.2.2.2.2.2 = old
    unfold out0_B_12
    rw [View.read_writes_junk_eq_canon]
    unfold kernelRun0_B
    dsimp only
    simp only [kernelRun0_B.sl.r, kernelRun0_B.sl.r_1, kernelRun0_B.sl.r_2, kernelRun0_B.sl.r_3, kernelRun0_B.sl.r_4,
      kernelRun0_B.sl.r_5, kernelRun0_B.sl.r_6, kernelRun0_B.sl.r_7, kernelRun0_B.sl.r_8, kernelRun0_B.sl.r_9,
      kernelRun0_B.sl.r_10, kernelRun0_B.sl.r_11, kernelRun0_B.sl.r_12, kernelRun0_B.sl.r_13, kernelRun0_B.sl.r_14,
      kernelRun0_B.sl.v0, kernelRun0_B.sl.v1, kernelRun0_B.sl.v2, kernelRun0_B.sl.v67, kernelRun0_B.sl.v76,
      View.readAt_eq_ld, Memref.IsWhole.read_unread, View.ld_unit_zero (S := S256x1024) hz,
      View.ld_unit_zero (S := S1x1024) hz, View.ld_unit_zero (S := S256x2048) hz,
      View.ld_unit_zero (S := S2048x1024) hz, View.ld_unit_zero (S := S1024x1024) hz, Blocks.fold_ya, Blocks.fold_yb,
      Blocks.fold_y, Blocks.fold_sq, Blocks.fold_r, Blocks.fold_yhat, Blocks.fold_dout, Blocks.fold_dya,
      Blocks.fold_dyb, e0, e1, e2, e3, e4, e5, e6, e7, e8, e9, e10]
    exact two_halves b.dga b.dgb r k

/-- Three stores of one row each, in the kernel's order, read at an index. -/
theorem rows3 {sig : RefSig} {κ : Kind} {sp : Space} (v : View sig κ sp S8x1024 .f32) (f : v.ty.Contents (Elt Ideal))
    (w : Fin 3 → Vec Ideal S1x1024 .f32) (L : List (View.Piece (Elt Ideal) S8x1024 .f32)) (i : Fin 8) (d : Fin 1024) :
    v.read (Elt Ideal) (v.writes (Elt Ideal) f (⟨Rect.unit ![1, 0] ![1, 1024] inb_S8x1024_S1x1024_1_0, w 1⟩
      :: ⟨Rect.unit ![0, 0] ![1, 1024] inb_S8x1024_S1x1024_0_0, w 0⟩
      :: ⟨Rect.unit ![2, 0] ![1, 1024] inb_S8x1024_S1x1024_2_0, w 2⟩ :: L)) (ix2 i d)
    = if h : i.val < 3 then w ⟨i.val, h⟩ (ix2 0 d) else v.read (Elt Ideal) (v.writes (Elt Ideal) f L) (ix2 i d) := by
  by_cases h1 : i.val = 1
  · rw [dif_pos (by omega), View.read_writes_cons_rows_of_mem v f inb_S8x1024_S1x1024_1_0 (w 1) _ (ix2 i d) (ix2 0 d) rfl h1 rfl]
    exact congrArg (fun k => w k (ix2 0 d)) (Fin.ext h1.symm : (1 : Fin 3) = ⟨i.val, by omega⟩)
  rw [View.read_writes_cons_rows_of_not_mem v f inb_S8x1024_S1x1024_1_0 (w 1) _ (ix2 i d) (W := 1) rfl rfl
    (by show i.val < 1 ∨ 1 + 1 ≤ i.val; omega)]
  by_cases h0 : i.val = 0
  · rw [dif_pos (by omega), View.read_writes_cons_rows_of_mem v f inb_S8x1024_S1x1024_0_0 (w 0) _ (ix2 i d) (ix2 0 d) rfl
      (h0.trans rfl) rfl]
    exact congrArg (fun k => w k (ix2 0 d)) (Fin.ext h0.symm : (0 : Fin 3) = ⟨i.val, by omega⟩)
  rw [View.read_writes_cons_rows_of_not_mem v f inb_S8x1024_S1x1024_0_0 (w 0) _ (ix2 i d) (W := 1) rfl rfl
    (by show i.val < 0 ∨ 0 + 1 ≤ i.val; omega)]
  by_cases h2 : i.val = 2
  · rw [dif_pos (by omega), View.read_writes_cons_rows_of_mem v f inb_S8x1024_S1x1024_2_0 (w 2) _ (ix2 i d) (ix2 0 d) rfl h2 rfl]
    exact congrArg (fun k => w k (ix2 0 d)) (Fin.ext h2.symm : (2 : Fin 3) = ⟨i.val, by omega⟩)
  rw [View.read_writes_cons_rows_of_not_mem v f inb_S8x1024_S1x1024_2_0 (w 2) _ (ix2 i d) (W := 1) rfl rfl
    (by show i.val < 2 ∨ 2 + 1 ≤ i.val; omega), dif_neg (by omega)]

/-- Rows 0, 1 and 2 of the small output, as the kernel loads them. -/
def oldRow (x : Vec Ideal S8x1024 .f32) : Fin 3 → Vec Ideal S1x1024 .f32
  | 0 => View.ld x (Rect.unit ![0, 0] ![1, 1024] inb_S8x1024_S1x1024_0_0)
  | 1 => View.ld x (Rect.unit ![1, 0] ![1, 1024] inb_S8x1024_S1x1024_1_0)
  | 2 => View.ld x (Rect.unit ![2, 0] ![1, 1024] inb_S8x1024_S1x1024_2_0)

/-- The rows that a point stores over those it loads. -/
def newRow (b : Blocks) (x : Vec Ideal S8x1024 .f32) : Fin 3 → Vec Ideal S1x1024 .f32
  | 0 => k0_pay22 (k0_pay20 (oldRow x 0)) (k0_pay21 b.gate b.gp b.y b.sq b.x b.t)
  | 1 => k0_pay24 b.gate b.yhat b.dout (oldRow x 1)
  | 2 => k0_pay18 b.gate b.gp b.y b.sq b.x b.t (oldRow x 2)

/-- The small output after a point that starts from `x`. -/
def next (b : Blocks) (x : Vec Ideal S8x1024 .f32) (i : Fin 8) (d : Fin 1024) : EReal :=
  if h : i.val < 3 then newRow b x ⟨i.val, h⟩ (ix2 0 d) else x (ix2 i d)

/-! A row loaded after a fill of the whole and stores of other rows is the fill's row. -/

/-- The first load, of row 2. -/
theorem load2 (v : View sig .tc .vmem S8x1024 .f32) (z : Vec Ideal S8x1024 .f32) :
    v.readCov [⟨Rect.unit ![0, 0] ![8, 1024] inb_S8x1024_S8x1024_0_0, z⟩]
      (Rect.unit ![2, 0] ![1, 1024] inb_S8x1024_S1x1024_2_0).toLoadRect = oldRow z 2 :=
  View.readCov_fill v inb_S8x1024_S8x1024_0_0 z [] _ (fun a => by fin_cases a <;> rfl)
/-- The second load, of row 0. -/
theorem load0 (v : View sig .tc .vmem S8x1024 .f32) (z : Vec Ideal S8x1024 .f32) (w : Vec Ideal S1x1024 .f32) :
    v.readCov [⟨Rect.unit ![2, 0] ![1, 1024] inb_S8x1024_S1x1024_2_0, w⟩,
      ⟨Rect.unit ![0, 0] ![8, 1024] inb_S8x1024_S8x1024_0_0, z⟩]
      (Rect.unit ![0, 0] ![1, 1024] inb_S8x1024_S1x1024_0_0).toLoadRect = oldRow z 0 := by
  rw [View.readCov_cons_of_rows_disjoint v 2 0 (Or.inr (by norm_num)) w]
  exact View.readCov_fill v inb_S8x1024_S8x1024_0_0 z [] _ (fun a => by fin_cases a <;> rfl)
/-- The third load, of row 1. -/
theorem load1 (v : View sig .tc .vmem S8x1024 .f32) (z : Vec Ideal S8x1024 .f32) (w w' : Vec Ideal S1x1024 .f32) :
    v.readCov [⟨Rect.unit ![0, 0] ![1, 1024] inb_S8x1024_S1x1024_0_0, w'⟩,
      ⟨Rect.unit ![2, 0] ![1, 1024] inb_S8x1024_S1x1024_2_0, w⟩,
      ⟨Rect.unit ![0, 0] ![8, 1024] inb_S8x1024_S8x1024_0_0, z⟩]
      (Rect.unit ![1, 0] ![1, 1024] inb_S8x1024_S1x1024_1_0).toLoadRect = oldRow z 1 := by
  rw [View.readCov_cons_of_rows_disjoint v 0 1 (Or.inl le_rfl) w',
    View.readCov_cons_of_rows_disjoint v 2 1 (Or.inr le_rfl) w]
  exact View.readCov_fill v inb_S8x1024_S8x1024_0_0 z [] _ (fun a => by fin_cases a <;> rfl)

set_option maxHeartbeats 1000000 in
/-- The small output after the first point: the sums' rows over zeros. -/
theorem small_first (t : Fin cfg0.N) (h0 : t.val % 32 = 0) (i : Fin 8) (d : Fin 1024) :
    (outsAt0 m c t.val t.isLt).2.2.2.2.2.2.2.2 (ix2 i d) = next (blocks m c t) (k0_pay6 (F := Ideal)) i d := by
  obtain ⟨e0, e1, e2, e3, e4, e5, e6, e7, e8, e9, e10⟩ := fold_blocks m c t
  generalize blocks m c t = b at e0 e1 e2 e3 e4 e5 e6 e7 e8 e9 e10 ⊢
  rw [outsAt0_A m c t h0]
  dsimp only
  unfold out0_A_19
  unfold kernelRun0_A
  dsimp only
  simp only [kernelRun0_A.sl.r, kernelRun0_A.sl.r_1, kernelRun0_A.sl.r_2, kernelRun0_A.sl.r_3, kernelRun0_A.sl.r_4,
    kernelRun0_A.sl.r_5, kernelRun0_A.sl.r_6, kernelRun0_A.sl.r_7, kernelRun0_A.sl.r_8, kernelRun0_A.sl.r_9,
    kernelRun0_A.sl.r_10, kernelRun0_A.sl.r_11, kernelRun0_A.sl.r_12, kernelRun0_A.sl.r_13, kernelRun0_A.sl.r_14,
    kernelRun0_A.sl.v0, kernelRun0_A.sl.v1, kernelRun0_A.sl.v2, kernelRun0_A.sl.v49, kernelRun0_A.sl.v67,
    kernelRun0_A.sl.v76, kernelRun0_A.sl.H19_1, kernelRun0_A.sl.H19_2, kernelRun0_A.sl.H19_3, View.readAt_eq_ld,
    Memref.IsWhole.read_unread, View.ld_unit_zero (S := S256x1024) hz, View.ld_unit_zero (S := S1x1024) hz,
    View.ld_unit_zero (S := S256x2048) hz, View.ld_unit_zero (S := S2048x1024) hz,
    View.ld_unit_zero (S := S1024x1024) hz, Blocks.fold_ya, Blocks.fold_yb, Blocks.fold_y, Blocks.fold_sq,
    Blocks.fold_r, Blocks.fold_yhat, Blocks.fold_dout, Blocks.fold_dya, Blocks.fold_dyb, e0, e1, e2, e3, e4, e5, e6,
    e7, e8, e9, e10]
  simp only [load1, load0, load2]
  refine (rows3 _ _ (newRow b (k0_pay6 (F := Ideal)))
    [⟨Rect.unit ![0, 0] ![8, 1024] inb_S8x1024_S8x1024_0_0, k0_pay6 (F := Ideal)⟩] i d).trans ?_
  unfold next
  split
  · rfl
  · exact congrFun ((View.read_writes_junk_eq_canon _ _).trans (View.canon_unit_zero hz _ _)) _

set_option maxHeartbeats 1000000 in
/-- The small output after any later point: the sums' rows over what the point before left. -/
theorem small_later (t : Fin cfg0.N) (h0 : ¬t.val % 32 = 0) (i : Fin 8) (d : Fin 1024) :
    (outsAt0 m c t.val t.isLt).2.2.2.2.2.2.2.2 (ix2 i d)
      = next (blocks m c t) (outsAt0 m c (t.val - 1) (by have := t.isLt; omega)).2.2.2.2.2.2.2.2 i d := by
  obtain ⟨e0, e1, e2, e3, e4, e5, e6, e7, e8, e9, e10⟩ := fold_blocks m c t
  generalize blocks m c t = b at e0 e1 e2 e3 e4 e5 e6 e7 e8 e9 e10 ⊢
  rw [outsAt0_B m c t h0]
  dsimp only
  generalize (outsAt0 m c (t.val - 1) (by have := t.isLt; omega)).2.2.2.2.2.2.2.2 = old
  unfold out0_B_19
  unfold kernelRun0_B
  dsimp only
  simp only [kernelRun0_B.sl.r, kernelRun0_B.sl.r_1, kernelRun0_B.sl.r_2, kernelRun0_B.sl.r_3, kernelRun0_B.sl.r_4,
    kernelRun0_B.sl.r_5, kernelRun0_B.sl.r_6, kernelRun0_B.sl.r_7, kernelRun0_B.sl.r_8, kernelRun0_B.sl.r_9,
    kernelRun0_B.sl.r_10, kernelRun0_B.sl.r_11, kernelRun0_B.sl.r_12, kernelRun0_B.sl.r_13, kernelRun0_B.sl.r_14,
    kernelRun0_B.sl.v0, kernelRun0_B.sl.v1, kernelRun0_B.sl.v2, kernelRun0_B.sl.v67, kernelRun0_B.sl.v76,
    View.readAt_eq_ld, Memref.IsWhole.read_unread, View.ld_unit_zero (S := S256x1024) hz,
    View.ld_unit_zero (S := S1x1024) hz, View.ld_unit_zero (S := S256x2048) hz,
    View.ld_unit_zero (S := S2048x1024) hz, View.ld_unit_zero (S := S1024x1024) hz, Blocks.fold_ya, Blocks.fold_yb,
    Blocks.fold_y, Blocks.fold_sq, Blocks.fold_r, Blocks.fold_yhat, Blocks.fold_dout, Blocks.fold_dya,
    Blocks.fold_dyb, e0, e1, e2, e3, e4, e5, e6, e7, e8, e9, e10]
  refine (rows3 _ _ (newRow b old) [] i d).trans ?_
  unfold next
  split
  · rfl
  · exact congrFun (Memref.IsWhole.read_unread _ _) _

end Cert.Proof.Head

end
-- ==== Proof.HeadBlocks.lean ====
/- Hand-written: the blocks that a point of the merge's and loss's kernel loads, as rows of the arguments. -/
module

public import proofs.«01_k».proof.Proof.HeadPoint
public import Idealize.ShloMosaic.Lib.StableHlo.ReadAt

@[expose] public section

noncomputable section

namespace Cert.Proof.Head

open Cert.HeadIdeal Cert.HeadIdeal.Gen Cert.HeadIdeal.Value Idealize.ShloMosaic Idealize.ShloMosaic.TcCoe Idealize.SL.Sem Idealize.ShloMosaic.StableHlo
open Cert.Proof.HeadSpec (Pos)

/-- The windows of rows walk down the rows; the gates' windows stand at their columns. -/
theorem idx_rows : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 9
    ∧ win0_3.index t (0 : Fin 2) = t.val ∧ win0_3.index t (1 : Fin 2) = 10
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- The windows of rows and weights stand still. -/
theorem idx_still : ∀ t : Fin cfg0.N, win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_19.index t (0 : Fin 2) = 0 ∧ win0_19.index t (1 : Fin 2) = 0 :=
  (by decide +kernel : ∀ t : Fin grid0.N, _)

/-- The output windows of rows walk down the rows. -/
theorem idx_out : ∀ t : Fin cfg0.N, win0_11.index t (0 : Fin 2) = t.val ∧ win0_11.index t (1 : Fin 2) = 0
    ∧ win0_12.index t (0 : Fin 2) = t.val ∧ win0_12.index t (1 : Fin 2) = 0
    ∧ win0_13.index t (0 : Fin 2) = t.val ∧ win0_13.index t (1 : Fin 2) = 0
    ∧ win0_14.index t (0 : Fin 2) = t.val ∧ win0_14.index t (1 : Fin 2) = 0
    ∧ win0_15.index t (0 : Fin 2) = t.val ∧ win0_15.index t (1 : Fin 2) = 0
    ∧ win0_16.index t (0 : Fin 2) = t.val ∧ win0_16.index t (1 : Fin 2) = 0
    ∧ win0_17.index t (0 : Fin 2) = t.val ∧ win0_17.index t (1 : Fin 2) = 0
    ∧ win0_18.index t (0 : Fin 2) = t.val ∧ win0_18.index t (1 : Fin 2) = 0 :=
  (by decide +kernel : ∀ t : Fin grid0.N, _)

/-- There are 32 points. -/
theorem pts : cfg0.N = 32 := by decide +kernel
/-- A number below 32 is a point's. -/
theorem lt_pts {n : ℕ} (h : n < 32) : n < cfg0.N := by rw [pts]; exact h

/-- Row `r` of point `t`'s rows. -/
def row (t : Fin cfg0.N) (r : Fin 256) : Fin 8192 :=
  ⟨256 * t.val + r.val, by have := t.isLt; have := r.isLt; have := pts; omega⟩

variable (m : (ℓ : Loc nD τ sig) → Buf (Elt Ideal) ℓ) (c : Dev nD)

/-- Row `R` of the arguments. -/
def argPos (a0 : Vec Ideal S1x8192x2048 .f32) (a1 : Vec Ideal S1x8192x1024 .f32) (a2 : Vec Ideal S1x8192x11264 .f32)
    (a3 : Vec Ideal S1x8192x1024 .f32) (a4 a5 : Vec Ideal S1x1024 .f32) (a6 : Vec Ideal S1x2048x1024 .f32)
    (a7 a8 : Vec Ideal S1x1024x1024 .f32) (a9 : Vec Ideal S1x8192x1024 .f32) (R : Fin 8192) : Pos where
  pa e := a0 (ix3 0 R e)
  pb e := a1 (ix3 0 R e)
  ga e := a2 (ix3 0 R ⟨9216 + e.val, by omega⟩)
  gb e := a2 (ix3 0 R ⟨10240 + e.val, by omega⟩)
  x e := a3 (ix3 0 R e)
  t e := a9 (ix3 0 R e)
  gate e := a4 (ix2 0 e)
  gp e := a5 (ix2 0 e)
  wr e d := a6 (ix3 0 e d)
  wc e d := a7 (ix3 0 e d)
  wo e d := a8 (ix3 0 e d)

/-- Row `R` of the arguments in memory. -/
def memPos (R : Fin 8192) : Pos :=
  argPos (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) R

/-! The arrays that the host lines prepare, read at an index. -/

/-- The retention's projected rows. -/
theorem v1 (R : Fin 8192) (d : Fin 2048) : (V m c main_v1 : Vec Ideal S8192x2048 .bf16) (ix2 R d) = m ((c : Thread nD τ).loc main_arg0) (ix3 0 R d) := by
  after_reads_at
/-- The convolution's projected rows. -/
theorem v3 (R : Fin 8192) (d : Fin 1024) : (V m c main_v3 : Vec Ideal S8192x1024 .bf16) (ix2 R d) = m ((c : Thread nD τ).loc main_arg1) (ix3 0 R d) := by
  after_reads_at
/-- The projection's rows. -/
theorem v4 (R : Fin 8192) (d : Fin 11264) : (V m c main_v4 : Vec Ideal S8192x11264 .f32) (ix2 R d) = m ((c : Thread nD τ).loc main_arg2) (ix3 0 R d) := by
  after_reads_at
/-- The step's input rows. -/
theorem v5 (R : Fin 8192) (d : Fin 1024) : (V m c main_v5 : Vec Ideal S8192x1024 .f32) (ix2 R d) = m ((c : Thread nD τ).loc main_arg3) (ix3 0 R d) := by
  after_reads_at
/-- The target rows. -/
theorem v6 (R : Fin 8192) (d : Fin 1024) : (V m c main_v6 : Vec Ideal S8192x1024 .f32) (ix2 R d) = m ((c : Thread nD τ).loc main_arg9) (ix3 0 R d) := by
  after_reads_at
/-- The retention's output weights. -/
theorem v8 (R : Fin 2048) (d : Fin 1024) : (V m c main_v8 : Vec Ideal S2048x1024 .bf16) (ix2 R d) = m ((c : Thread nD τ).loc main_arg6) (ix3 0 R d) := by
  after_reads_at
/-- The convolution's output weights. -/
theorem v10 (R : Fin 1024) (d : Fin 1024) : (V m c main_v10 : Vec Ideal S1024x1024 .bf16) (ix2 R d) = m ((c : Thread nD τ).loc main_arg7) (ix3 0 R d) := by
  after_reads_at
/-- The last weights. -/
theorem v12 (R : Fin 1024) (d : Fin 1024) : (V m c main_v12 : Vec Ideal S1024x1024 .bf16) (ix2 R d) = m ((c : Thread nD τ).loc main_arg8) (ix3 0 R d) := by
  after_reads_at

/-! Each input window's block at an index. -/

/-- Window 0. -/
theorem blk0 (t : Fin cfg0.N) (r : Fin 256) (d : Fin 2048) : (iblk m c 0 t : Vec Ideal S256x2048 .bf16) (ix2 r d)
    = m ((c : Thread nD τ).loc main_arg0) (ix3 0 (row t r) d) := by
  refine Eq.trans ?_ (v1 m c (row t r) d)
  show (V m c main_v1 : Vec Ideal S8192x2048 .bf16) (((cfg0.win 0).blk t).view.emb (ix2 r d)) = _
  refine congrArg _ (funext fun a => Fin.ext ?_)
  have e := idx_rows t
  match a with
  | ⟨0, _⟩ => show win0_0.index t (0 : Fin 2) * 256 + 1 * r.val = 256 * t.val + r.val; omega
  | ⟨1, _⟩ => show win0_0.index t (1 : Fin 2) * 2048 + 1 * d.val = d.val; omega
/-- Window 1. -/
theorem blk1 (t : Fin cfg0.N) (r : Fin 256) (d : Fin 1024) : (iblk m c 1 t : Vec Ideal S256x1024 .bf16) (ix2 r d)
    = m ((c : Thread nD τ).loc main_arg1) (ix3 0 (row t r) d) := by
  refine Eq.trans ?_ (v3 m c (row t r) d)
  show (V m c main_v3 : Vec Ideal S8192x1024 .bf16) (((cfg0.win 1).blk t).view.emb (ix2 r d)) = _
  refine congrArg _ (funext fun a => Fin.ext ?_)
  have e := idx_rows t
  match a with
  | ⟨0, _⟩ => show win0_1.index t (0 : Fin 2) * 256 + 1 * r.val = 256 * t.val + r.val; omega
  | ⟨1, _⟩ => show win0_1.index t (1 : Fin 2) * 1024 + 1 * d.val = d.val; omega
/-- Window 2. -/
theorem blk2 (t : Fin cfg0.N) (r : Fin 256) (d : Fin 1024) : (iblk m c 2 t : Vec Ideal S256x1024 .f32) (ix2 r d)
    = m ((c : Thread nD τ).loc main_arg2) (ix3 0 (row t r) (⟨9216 + d.val, by omega⟩ : Fin 11264)) := by
  refine Eq.trans ?_ (v4 m c (row t r) (⟨9216 + d.val, by omega⟩ : Fin 11264))
  show (V m c main_v4 : Vec Ideal S8192x11264 .f32) (((cfg0.win 2).blk t).view.emb (ix2 r d)) = _
  refine congrArg _ (funext fun a => Fin.ext ?_)
  have e := idx_rows t
  match a with
  | ⟨0, _⟩ => show win0_2.index t (0 : Fin 2) * 256 + 1 * r.val = 256 * t.val + r.val; omega
  | ⟨1, _⟩ => show win0_2.index t (1 : Fin 2) * 1024 + 1 * d.val = 9216 + d.val; omega
/-- Window 3. -/
theorem blk3 (t : Fin cfg0.N) (r : Fin 256) (d : Fin 1024) : (iblk m c 3 t : Vec Ideal S256x1024 .f32) (ix2 r d)
    = m ((c : Thread nD τ).loc main_arg2) (ix3 0 (row t r) (⟨10240 + d.val, by omega⟩ : Fin 11264)) := by
  refine Eq.trans ?_ (v4 m c (row t r) (⟨10240 + d.val, by omega⟩ : Fin 11264))
  show (V m c main_v4 : Vec Ideal S8192x11264 .f32) (((cfg0.win 3).blk t).view.emb (ix2 r d)) = _
  refine congrArg _ (funext fun a => Fin.ext ?_)
  have e := idx_rows t
  match a with
  | ⟨0, _⟩ => show win0_3.index t (0 : Fin 2) * 256 + 1 * r.val = 256 * t.val + r.val; omega
  | ⟨1, _⟩ => show win0_3.index t (1 : Fin 2) * 1024 + 1 * d.val = 10240 + d.val; omega
/-- Window 4. -/
theorem blk4 (t : Fin cfg0.N) (r : Fin 256) (d : Fin 1024) : (iblk m c 4 t : Vec Ideal S256x1024 .f32) (ix2 r d)
    = m ((c : Thread nD τ).loc main_arg3) (ix3 0 (row t r) d) := by
  refine Eq.trans ?_ (v5 m c (row t r) d)
  show (V m c main_v5 : Vec Ideal S8192x1024 .f32) (((cfg0.win 4).blk t).view.emb (ix2 r d)) = _
  refine congrArg _ (funext fun a => Fin.ext ?_)
  have e := idx_rows t
  match a with
  | ⟨0, _⟩ => show win0_4.index t (0 : Fin 2) * 256 + 1 * r.val = 256 * t.val + r.val; omega
  | ⟨1, _⟩ => show win0_4.index t (1 : Fin 2) * 1024 + 1 * d.val = d.val; omega
/-- Window 5. -/
theorem blk5 (t : Fin cfg0.N) (r : Fin 256) (d : Fin 1024) : (iblk m c 5 t : Vec Ideal S256x1024 .f32) (ix2 r d)
    = m ((c : Thread nD τ).loc main_arg9) (ix3 0 (row t r) d) := by
  refine Eq.trans ?_ (v6 m c (row t r) d)
  show (V m c main_v6 : Vec Ideal S8192x1024 .f32) (((cfg0.win 5).blk t).view.emb (ix2 r d)) = _
  refine congrArg _ (funext fun a => Fin.ext ?_)
  have e := idx_rows t
  match a with
  | ⟨0, _⟩ => show win0_5.index t (0 : Fin 2) * 256 + 1 * r.val = 256 * t.val + r.val; omega
  | ⟨1, _⟩ => show win0_5.index t (1 : Fin 2) * 1024 + 1 * d.val = d.val; omega
/-- Window 6. -/
theorem blk6 (t : Fin cfg0.N) (d : Fin 1024) : (iblk m c 6 t : Vec Ideal S1x1024 .f32) (ix2 0 d)
    = m ((c : Thread nD τ).loc main_arg4) (ix2 0 d) := by
  refine Eq.trans (b := (V m c main_arg4 : Vec Ideal S1x1024 .f32) (ix2 0 d)) ?_ (congrFun (V_main_arg4 m c) _)
  show (V m c main_arg4 : Vec Ideal S1x1024 .f32) (((cfg0.win 6).blk t).view.emb (ix2 0 d)) = _
  refine congrArg _ (funext fun a => Fin.ext ?_)
  have e := idx_still t
  match a with
  | ⟨0, _⟩ => show win0_6.index t (0 : Fin 2) * 1 + 1 * 0 = 0; omega
  | ⟨1, _⟩ => show win0_6.index t (1 : Fin 2) * 1024 + 1 * d.val = d.val; omega
/-- Window 7. -/
theorem blk7 (t : Fin cfg0.N) (d : Fin 1024) : (iblk m c 7 t : Vec Ideal S1x1024 .f32) (ix2 0 d)
    = m ((c : Thread nD τ).loc main_arg5) (ix2 0 d) := by
  refine Eq.trans (b := (V m c main_arg5 : Vec Ideal S1x1024 .f32) (ix2 0 d)) ?_ (congrFun (V_main_arg5 m c) _)
  show (V m c main_arg5 : Vec Ideal S1x1024 .f32) (((cfg0.win 7).blk t).view.emb (ix2 0 d)) = _
  refine congrArg _ (funext fun a => Fin.ext ?_)
  have e := idx_still t
  match a with
  | ⟨0, _⟩ => show win0_7.index t (0 : Fin 2) * 1 + 1 * 0 = 0; omega
  | ⟨1, _⟩ => show win0_7.index t (1 : Fin 2) * 1024 + 1 * d.val = d.val; omega
/-- Window 8. -/
theorem blk8 (t : Fin cfg0.N) (r : Fin 2048) (d : Fin 1024) : (iblk m c 8 t : Vec Ideal S2048x1024 .bf16) (ix2 r d)
    = m ((c : Thread nD τ).loc main_arg6) (ix3 0 r d) := by
  refine Eq.trans ?_ (v8 m c r d)
  show (V m c main_v8 : Vec Ideal S2048x1024 .bf16) (((cfg0.win 8).blk t).view.emb (ix2 r d)) = _
  refine congrArg _ (funext fun a => Fin.ext ?_)
  have e := idx_still t
  match a with
  | ⟨0, _⟩ => show win0_8.index t (0 : Fin 2) * 2048 + 1 * r.val = r.val; omega
  | ⟨1, _⟩ => show win0_8.index t (1 : Fin 2) * 1024 + 1 * d.val = d.val; omega
/-- Window 9. -/
theorem blk9 (t : Fin cfg0.N) (r : Fin 1024) (d : Fin 1024) : (iblk m c 9 t : Vec Ideal S1024x1024 .bf16) (ix2 r d)
    = m ((c : Thread nD τ).loc main_arg7) (ix3 0 r d) := by
  refine Eq.trans ?_ (v10 m c r d)
  show (V m c main_v10 : Vec Ideal S1024x1024 .bf16) (((cfg0.win 9).blk t).view.emb (ix2 r d)) = _
  refine congrArg _ (funext fun a => Fin.ext ?_)
  have e := idx_still t
  match a with
  | ⟨0, _⟩ => show win0_9.index t (0 : Fin 2) * 1024 + 1 * r.val = r.val; omega
  | ⟨1, _⟩ => show win0_9.index t (1 : Fin 2) * 1024 + 1 * d.val = d.val; omega
/-- Window 10. -/
theorem blk10 (t : Fin cfg0.N) (r : Fin 1024) (d : Fin 1024) : (iblk m c 10 t : Vec Ideal S1024x1024 .bf16) (ix2 r d)
    = m ((c : Thread nD τ).loc main_arg8) (ix3 0 r d) := by
  refine Eq.trans ?_ (v12 m c r d)
  show (V m c main_v12 : Vec Ideal S1024x1024 .bf16) (((cfg0.win 10).blk t).view.emb (ix2 r d)) = _
  refine congrArg _ (funext fun a => Fin.ext ?_)
  have e := idx_still t
  match a with
  | ⟨0, _⟩ => show win0_10.index t (0 : Fin 2) * 1024 + 1 * r.val = r.val; omega
  | ⟨1, _⟩ => show win0_10.index t (1 : Fin 2) * 1024 + 1 * d.val = d.val; omega

/-- Row `r` of a point's blocks is the arguments' row. -/
theorem pos_eq (t : Fin cfg0.N) (r : Fin 256) : (blocks m c t).pos r = memPos m c (row t r) := by
  unfold Blocks.pos memPos argPos blocks
  simp only [blk0, blk1, blk2, blk3, blk4, blk5, blk6, blk7, blk8, blk9, blk10]

/-! A point's output blocks, over the arguments' rows. -/

/-- The gradient through the residual sum. -/
theorem out_dout (t : Fin cfg0.N) (r : Fin 256) (d : Fin 1024) :
    (outsAt0 m c t.val t.isLt).1 (ix2 r d) = (memPos m c (row t r)).dout d := by
  have w := whole m c t
  rw [show (outsAt0 m c t.val t.isLt).1 = _ from w.1, Blocks.dout_apply, pos_eq]
/-- The retention's gradient. -/
theorem out_dpa (t : Fin cfg0.N) (r : Fin 256) (d : Fin 2048) :
    (outsAt0 m c t.val t.isLt).2.2.1 (ix2 r d) = (memPos m c (row t r)).dpa d := by
  have w := whole m c t
  rw [show (outsAt0 m c t.val t.isLt).2.2.1 = _ from w.2.1, Blocks.dpa_apply, pos_eq]
/-- The convolution's gradient. -/
theorem out_dpb (t : Fin cfg0.N) (r : Fin 256) (d : Fin 1024) :
    (outsAt0 m c t.val t.isLt).2.2.2.1 (ix2 r d) = (memPos m c (row t r)).dpb d := by
  have w := whole m c t
  rw [show (outsAt0 m c t.val t.isLt).2.2.2.1 = _ from w.2.2.1, Blocks.dpb_apply, pos_eq]
/-- The merged rows. -/
theorem out_mb (t : Fin cfg0.N) (r : Fin 256) (d : Fin 1024) :
    (outsAt0 m c t.val t.isLt).2.2.2.2.1 (ix2 r d) = (memPos m c (row t r)).mb d := by
  have w := whole m c t
  rw [show (outsAt0 m c t.val t.isLt).2.2.2.2.1 = _ from w.2.2.2.1, Blocks.mb_apply, pos_eq]
/-- The gradient of the merged product. -/
theorem out_dy (t : Fin cfg0.N) (r : Fin 256) (d : Fin 1024) :
    (outsAt0 m c t.val t.isLt).2.2.2.2.2.1 (ix2 r d) = (memPos m c (row t r)).dy d := by
  have w := whole m c t
  rw [show (outsAt0 m c t.val t.isLt).2.2.2.2.2.1 = _ from w.2.2.2.2.1, Blocks.dy_apply, pos_eq]
/-- The gradient of the retention's product. -/
theorem out_dya (t : Fin cfg0.N) (r : Fin 256) (d : Fin 1024) :
    (outsAt0 m c t.val t.isLt).2.2.2.2.2.2.1 (ix2 r d) = (memPos m c (row t r)).dya d := by
  have w := whole m c t
  rw [show (outsAt0 m c t.val t.isLt).2.2.2.2.2.2.1 = _ from w.2.2.2.2.2.1, Blocks.dya16_apply, pos_eq]
/-- The gradient of the convolution's product. -/
theorem out_dyb (t : Fin cfg0.N) (r : Fin 256) (d : Fin 1024) :
    (outsAt0 m c t.val t.isLt).2.2.2.2.2.2.2.1 (ix2 r d) = (memPos m c (row t r)).dyb d := by
  have w := whole m c t
  rw [show (outsAt0 m c t.val t.isLt).2.2.2.2.2.2.2.1 = _ from w.2.2.2.2.2.2, Blocks.dyb16_apply, pos_eq]
/-- The gates' gradients, side by side. -/
theorem out_dg (t : Fin cfg0.N) (r : Fin 256) (k : Fin 2048) : (outsAt0 m c t.val t.isLt).2.1 (ix2 r k)
    = if h : k.val < 1024 then (memPos m c (row t r)).dga ⟨k.val, h⟩ else (memPos m c (row t r)).dgb ⟨k.val - 1024, by omega⟩ := by
  rw [halves]
  simp only [Blocks.dga_apply, Blocks.dgb_apply, pos_eq]

/-- A point's summands of the small output. -/
def step (t : Fin cfg0.N) (k : Fin 3) (d : Fin 1024) : EReal :=
  match k with
  | 0 => ∑ r, (memPos m c (row t r)).part 0 d
  | 1 => ∑ r, (memPos m c (row t r)).part 1 d
  | 2 => Ideal.ofBits .f32 1056964608#32 * ∑ r, (memPos m c (row t r)).loss

/-- A point's small output at an index: what it starts from, with the point's row added to the first three. -/
theorem next_apply (t : Fin cfg0.N) (x : Vec Ideal S8x1024 .f32) (i : Fin 8) (d : Fin 1024) :
    next (blocks m c t) x i d = x (ix2 i d) + if h : i.val < 3 then step m c t ⟨i.val, h⟩ d else 0 := by
  unfold next
  split
  · rename_i h
    have e : ∀ k : Fin 3, newRow (blocks m c t) x k (ix2 0 d) = x (ix2 ⟨k.val, by omega⟩ d) + step m c t k d := by
      intro k
      match k with
      | 0 =>
        refine (Blocks.gate_apply _ d _).trans ?_
        simp only [pos_eq]
        pointwise [oldRow]
        rfl
      | 1 =>
        refine (Blocks.post_apply _ d _).trans ?_
        simp only [pos_eq]
        pointwise [oldRow]
        rfl
      | 2 =>
        refine (Blocks.loss_apply _ d _).trans ?_
        simp only [pos_eq]
        pointwise [oldRow]
        rfl
    exact e _
  · rw [add_zero]

end Cert.Proof.Head

end
-- ==== Proof.HeadValue.lean ====
/- Hand-written: the nine result arrays of the merge's and loss's kernel as functions of the arguments. -/
module

public import proofs.«01_k».proof.Proof.HeadBlocks

@[expose] public section

noncomputable section

namespace Cert.Proof.Head

open Cert.HeadIdeal Cert.HeadIdeal.Gen Cert.HeadIdeal.Value Idealize.ShloMosaic Idealize.ShloMosaic.TcCoe Idealize.SL.Sem
open Cert.Proof.HeadSpec (Pos total half_sum)

/-- A map of a block's indices that follows the rows reaches every index of the array. -/
theorem cover {w : ℕ} (E : Fin cfg0.N → (⟨2, ![256, w]⟩ : Shape).Idx → (⟨2, ![8192, w]⟩ : Shape).Idx)
    (hE : ∀ t r (d : Fin w), E t (ix2 r d) = ix2 (row t r) d) (i : (⟨2, ![8192, w]⟩ : Shape).Idx) : ∃ t j, E t j = i := by
  obtain ⟨R, d, rfl⟩ : ∃ (R : Fin 8192) (d : Fin w), i = ix2 R d :=
    ⟨i 0, i 1, funext fun a => by match a with | ⟨0, _⟩ => rfl | ⟨1, _⟩ => rfl⟩
  have hR := R.isLt
  refine ⟨⟨R.val / 256, lt_pts (by omega)⟩, ix2 ⟨R.val % 256, Nat.mod_lt _ (by norm_num)⟩ d, (hE _ _ _).trans ?_⟩
  rw [show row ⟨R.val / 256, lt_pts (by omega)⟩ ⟨R.val % 256, Nat.mod_lt _ (by norm_num)⟩ = R from
    Fin.ext (by show 256 * (R.val / 256) + R.val % 256 = R.val; omega)]

/-- Blocks that hold an array's rows are the array read through such a map. -/
theorem piece {w : ℕ} {α : Type} (E : Fin cfg0.N → (⟨2, ![256, w]⟩ : Shape).Idx → (⟨2, ![8192, w]⟩ : Shape).Idx)
    (hE : ∀ t r (d : Fin w), E t (ix2 r d) = ix2 (row t r) d) (O : Fin cfg0.N → (⟨2, ![256, w]⟩ : Shape).Idx → α)
    (G : (⟨2, ![8192, w]⟩ : Shape).Idx → α) (h : ∀ t r (d : Fin w), O t (ix2 r d) = G (ix2 (row t r) d)) (t : Fin cfg0.N)
    (j : (⟨2, ![256, w]⟩ : Shape).Idx) : O t j = G (E t j) := by
  obtain ⟨r, d, rfl⟩ : ∃ (r : Fin 256) (d : Fin w), j = ix2 r d :=
    ⟨j 0, j 1, funext fun a => by match a with | ⟨0, _⟩ => rfl | ⟨1, _⟩ => rfl⟩
  rw [hE, h]

variable (m : (ℓ : Loc nD τ sig) → Buf (Elt Ideal) ℓ) (c : Dev nD)

/-! The gradient through the residual sum: the array, the window's blocks in it, the array after the run. -/

/-- The gradient through the residual sum. -/
def G11 : Vec Ideal S8192x1024 .f32 := fun i => (memPos m c (i 0)).dout (i 1)
/-- The window's block is a block of rows. -/
theorem emb11 (t : Fin cfg0.N) (r : Fin 256) (d : Fin 1024) :
    ((cfg0.win 11).blk t).view.emb (ix2 r d : S256x1024.Idx) = (ix2 (row t r) d : S8192x1024.Idx) := by
  have e := idx_out t
  funext a; apply Fin.ext
  match a with
  | ⟨0, _⟩ => show win0_11.index t (0 : Fin 2) * 256 + 1 * r.val = 256 * t.val + r.val; omega
  | ⟨1, _⟩ => show win0_11.index t (1 : Fin 2) * 1024 + 1 * d.val = d.val; omega
/-- The array after the run. -/
theorem final11 : (dats m 0 c).arrAt 11 cfg0.N = G11 m c := by
  refine (dats m 0 c).arrAt_eq_of_cover 11 (G11 m c) (fun t _ => ?_) fun (i : S8192x1024.Idx) => ?_
  · rw [flushed11]
    exact funext fun j => piece (fun t => ((cfg0.win 11).blk t).view.emb) emb11
      (fun t => (outsAt0 m c t.val t.isLt).1) (G11 m c) (out_dout m c) t j
  · obtain ⟨t, j, rfl⟩ := cover (fun t => ((cfg0.win 11).blk t).view.emb) emb11 i
    exact ⟨t, flush0_11 t, ((cfg0.win 11).blk t).view.emb_mem_set j⟩

/-! The gates' gradients: the array, the window's blocks in it, the array after the run. -/

/-- The gates' gradients. -/
def G12 : Vec Ideal S8192x2048 .bf16 := fun i => if h : (i 1).val < 1024 then (memPos m c (i 0)).dga ⟨(i 1).val, h⟩
    else (memPos m c (i 0)).dgb ⟨(i 1).val - 1024, by have h' : (i 1).val < 2048 := (i 1).isLt; omega⟩
/-- The window's block is a block of rows. -/
theorem emb12 (t : Fin cfg0.N) (r : Fin 256) (d : Fin 2048) :
    ((cfg0.win 12).blk t).view.emb (ix2 r d : S256x2048.Idx) = (ix2 (row t r) d : S8192x2048.Idx) := by
  have e := idx_out t
  funext a; apply Fin.ext
  match a with
  | ⟨0, _⟩ => show win0_12.index t (0 : Fin 2) * 256 + 1 * r.val = 256 * t.val + r.val; omega
  | ⟨1, _⟩ => show win0_12.index t (1 : Fin 2) * 2048 + 1 * d.val = d.val; omega
/-- The array after the run. -/
theorem final12 : (dats m 0 c).arrAt 12 cfg0.N = G12 m c := by
  refine (dats m 0 c).arrAt_eq_of_cover 12 (G12 m c) (fun t _ => ?_) fun (i : S8192x2048.Idx) => ?_
  · rw [flushed12]
    exact funext fun j => piece (fun t => ((cfg0.win 12).blk t).view.emb) emb12
      (fun t => (outsAt0 m c t.val t.isLt).2.1) (G12 m c) (out_dg m c) t j
  · obtain ⟨t, j, rfl⟩ := cover (fun t => ((cfg0.win 12).blk t).view.emb) emb12 i
    exact ⟨t, flush0_12 t, ((cfg0.win 12).blk t).view.emb_mem_set j⟩

/-! The retention's rows' gradient: the array, the window's blocks in it, the array after the run. -/

/-- The retention's rows' gradient. -/
def G13 : Vec Ideal S8192x2048 .f32 := fun i => (memPos m c (i 0)).dpa (i 1)
/-- The window's block is a block of rows. -/
theorem emb13 (t : Fin cfg0.N) (r : Fin 256) (d : Fin 2048) :
    ((cfg0.win 13).blk t).view.emb (ix2 r d : S256x2048.Idx) = (ix2 (row t r) d : S8192x2048.Idx) := by
  have e := idx_out t
  funext a; apply Fin.ext
  match a with
  | ⟨0, _⟩ => show win0_13.index t (0 : Fin 2) * 256 + 1 * r.val = 256 * t.val + r.val; omega
  | ⟨1, _⟩ => show win0_13.index t (1 : Fin 2) * 2048 + 1 * d.val = d.val; omega
/-- The array after the run. -/
theorem final13 : (dats m 0 c).arrAt 13 cfg0.N = G13 m c := by
  refine (dats m 0 c).arrAt_eq_of_cover 13 (G13 m c) (fun t _ => ?_) fun (i : S8192x2048.Idx) => ?_
  · rw [flushed13]
    exact funext fun j => piece (fun t => ((cfg0.win 13).blk t).view.emb) emb13
      (fun t => (outsAt0 m c t.val t.isLt).2.2.1) (G13 m c) (out_dpa m c) t j
  · obtain ⟨t, j, rfl⟩ := cover (fun t => ((cfg0.win 13).blk t).view.emb) emb13 i
    exact ⟨t, flush0_13 t, ((cfg0.win 13).blk t).view.emb_mem_set j⟩

/-! The convolution's rows' gradient: the array, the window's blocks in it, the array after the run. -/

/-- The convolution's rows' gradient. -/
def G14 : Vec Ideal S8192x1024 .f32 := fun i => (memPos m c (i 0)).dpb (i 1)
/-- The window's block is a block of rows. -/
theorem emb14 (t : Fin cfg0.N) (r : Fin 256) (d : Fin 1024) :
    ((cfg0.win 14).blk t).view.emb (ix2 r d : S256x1024.Idx) = (ix2 (row t r) d : S8192x1024.Idx) := by
  have e := idx_out t
  funext a; apply Fin.ext
  match a with
  | ⟨0, _⟩ => show win0_14.index t (0 : Fin 2) * 256 + 1 * r.val = 256 * t.val + r.val; omega
  | ⟨1, _⟩ => show win0_14.index t (1 : Fin 2) * 1024 + 1 * d.val = d.val; omega
/-- The array after the run. -/
theorem final14 : (dats m 0 c).arrAt 14 cfg0.N = G14 m c := by
  refine (dats m 0 c).arrAt_eq_of_cover 14 (G14 m c) (fun t _ => ?_) fun (i : S8192x1024.Idx) => ?_
  · rw [flushed14]
    exact funext fun j => piece (fun t => ((cfg0.win 14).blk t).view.emb) emb14
      (fun t => (outsAt0 m c t.val t.isLt).2.2.2.1) (G14 m c) (out_dpb m c) t j
  · obtain ⟨t, j, rfl⟩ := cover (fun t => ((cfg0.win 14).blk t).view.emb) emb14 i
    exact ⟨t, flush0_14 t, ((cfg0.win 14).blk t).view.emb_mem_set j⟩

/-! The merged rows: the array, the window's blocks in it, the array after the run. -/

/-- The merged rows. -/
def G15 : Vec Ideal S8192x1024 .bf16 := fun i => (memPos m c (i 0)).mb (i 1)
/-- The window's block is a block of rows. -/
theorem emb15 (t : Fin cfg0.N) (r : Fin 256) (d : Fin 1024) :
    ((cfg0.win 15).blk t).view.emb (ix2 r d : S256x1024.Idx) = (ix2 (row t r) d : S8192x1024.Idx) := by
  have e := idx_out t
  funext a; apply Fin.ext
  match a with
  | ⟨0, _⟩ => show win0_15.index t (0 : Fin 2) * 256 + 1 * r.val = 256 * t.val + r.val; omega
  | ⟨1, _⟩ => show win0_15.index t (1 : Fin 2) * 1024 + 1 * d.val = d.val; omega
/-- The array after the run. -/
theorem final15 : (dats m 0 c).arrAt 15 cfg0.N = G15 m c := by
  refine (dats m 0 c).arrAt_eq_of_cover 15 (G15 m c) (fun t _ => ?_) fun (i : S8192x1024.Idx) => ?_
  · rw [flushed15]
    exact funext fun j => piece (fun t => ((cfg0.win 15).blk t).view.emb) emb15
      (fun t => (outsAt0 m c t.val t.isLt).2.2.2.2.1) (G15 m c) (out_mb m c) t j
  · obtain ⟨t, j, rfl⟩ := cover (fun t => ((cfg0.win 15).blk t).view.emb) emb15 i
    exact ⟨t, flush0_15 t, ((cfg0.win 15).blk t).view.emb_mem_set j⟩

/-! The merged product's gradient: the array, the window's blocks in it, the array after the run. -/

/-- The merged product's gradient. -/
def G16 : Vec Ideal S8192x1024 .bf16 := fun i => (memPos m c (i 0)).dy (i 1)
/-- The window's block is a block of rows. -/
theorem emb16 (t : Fin cfg0.N) (r : Fin 256) (d : Fin 1024) :
    ((cfg0.win 16).blk t).view.emb (ix2 r d : S256x1024.Idx) = (ix2 (row t r) d : S8192x1024.Idx) := by
  have e := idx_out t
  funext a; apply Fin.ext
  match a with
  | ⟨0, _⟩ => show win0_16.index t (0 : Fin 2) * 256 + 1 * r.val = 256 * t.val + r.val; omega
  | ⟨1, _⟩ => show win0_16.index t (1 : Fin 2) * 1024 + 1 * d.val = d.val; omega
/-- The array after the run. -/
theorem final16 : (dats m 0 c).arrAt 16 cfg0.N = G16 m c := by
  refine (dats m 0 c).arrAt_eq_of_cover 16 (G16 m c) (fun t _ => ?_) fun (i : S8192x1024.Idx) => ?_
  · rw [flushed16]
    exact funext fun j => piece (fun t => ((cfg0.win 16).blk t).view.emb) emb16
      (fun t => (outsAt0 m c t.val t.isLt).2.2.2.2.2.1) (G16 m c) (out_dy m c) t j
  · obtain ⟨t, j, rfl⟩ := cover (fun t => ((cfg0.win 16).blk t).view.emb) emb16 i
    exact ⟨t, flush0_16 t, ((cfg0.win 16).blk t).view.emb_mem_set j⟩

/-! The retention's product's gradient: the array, the window's blocks in it, the array after the run. -/

/-- The retention's product's gradient. -/
def G17 : Vec Ideal S8192x1024 .bf16 := fun i => (memPos m c (i 0)).dya (i 1)
/-- The window's block is a block of rows. -/
theorem emb17 (t : Fin cfg0.N) (r : Fin 256) (d : Fin 1024) :
    ((cfg0.win 17).blk t).view.emb (ix2 r d : S256x1024.Idx) = (ix2 (row t r) d : S8192x1024.Idx) := by
  have e := idx_out t
  funext a; apply Fin.ext
  match a with
  | ⟨0, _⟩ => show win0_17.index t (0 : Fin 2) * 256 + 1 * r.val = 256 * t.val + r.val; omega
  | ⟨1, _⟩ => show win0_17.index t (1 : Fin 2) * 1024 + 1 * d.val = d.val; omega
/-- The array after the run. -/
theorem final17 : (dats m 0 c).arrAt 17 cfg0.N = G17 m c := by
  refine (dats m 0 c).arrAt_eq_of_cover 17 (G17 m c) (fun t _ => ?_) fun (i : S8192x1024.Idx) => ?_
  · rw [flushed17]
    exact funext fun j => piece (fun t => ((cfg0.win 17).blk t).view.emb) emb17
      (fun t => (outsAt0 m c t.val t.isLt).2.2.2.2.2.2.1) (G17 m c) (out_dya m c) t j
  · obtain ⟨t, j, rfl⟩ := cover (fun t => ((cfg0.win 17).blk t).view.emb) emb17 i
    exact ⟨t, flush0_17 t, ((cfg0.win 17).blk t).view.emb_mem_set j⟩

/-! The convolution's product's gradient: the array, the window's blocks in it, the array after the run. -/

/-- The convolution's product's gradient. -/
def G18 : Vec Ideal S8192x1024 .bf16 := fun i => (memPos m c (i 0)).dyb (i 1)
/-- The window's block is a block of rows. -/
theorem emb18 (t : Fin cfg0.N) (r : Fin 256) (d : Fin 1024) :
    ((cfg0.win 18).blk t).view.emb (ix2 r d : S256x1024.Idx) = (ix2 (row t r) d : S8192x1024.Idx) := by
  have e := idx_out t
  funext a; apply Fin.ext
  match a with
  | ⟨0, _⟩ => show win0_18.index t (0 : Fin 2) * 256 + 1 * r.val = 256 * t.val + r.val; omega
  | ⟨1, _⟩ => show win0_18.index t (1 : Fin 2) * 1024 + 1 * d.val = d.val; omega
/-- The array after the run. -/
theorem final18 : (dats m 0 c).arrAt 18 cfg0.N = G18 m c := by
  refine (dats m 0 c).arrAt_eq_of_cover 18 (G18 m c) (fun t _ => ?_) fun (i : S8192x1024.Idx) => ?_
  · rw [flushed18]
    exact funext fun j => piece (fun t => ((cfg0.win 18).blk t).view.emb) emb18
      (fun t => (outsAt0 m c t.val t.isLt).2.2.2.2.2.2.2.1) (G18 m c) (out_dyb m c) t j
  · obtain ⟨t, j, rfl⟩ := cover (fun t => ((cfg0.win 18).blk t).view.emb) emb18 i
    exact ⟨t, flush0_18 t, ((cfg0.win 18).blk t).view.emb_mem_set j⟩

/-! The small array. -/

/-- A position's summand by the row's number, zero beyond the last row. -/
def partN (k : Fin 3) (d : Fin 1024) (R : ℕ) : EReal :=
  if h : R < 8192 then (memPos m c ⟨R, h⟩).summand k d else 0

/-- A point's summands over the rows' numbers. -/
theorem step_range (t : Fin cfg0.N) (k : Fin 3) (d : Fin 1024) :
    step m c t k d = ∑ r ∈ Finset.range 256, partN m c k d (256 * t.val + r) := by
  have e : step m c t k d = ∑ r : Fin 256, (memPos m c (row t r)).summand k d := by
    match k with
    | 0 => rfl
    | 1 => rfl
    | 2 => exact half_sum _ _
  rw [e, ← Fin.sum_univ_eq_sum_range (fun r => partN m c k d (256 * t.val + r))]
  refine Finset.sum_congr rfl fun r _ => ?_
  unfold partN
  rw [dif_pos (show 256 * t.val + r.val < 8192 from (row t r).isLt)]
  rfl

/-- After point `n` the small output holds the sums over the rows up to there. -/
theorem small_apply (n : ℕ) (hn : n < cfg0.N) (i : Fin 8) (d : Fin 1024) : (outsAt0 m c n hn).2.2.2.2.2.2.2.2 (ix2 i d)
    = if h : i.val < 3 then ∑ R ∈ Finset.range (256 * (n + 1)), partN m c ⟨i.val, h⟩ d R else 0 := by
  have hN := pts
  induction n with
  | zero =>
    refine (small_first m c ⟨0, hn⟩ rfl i d).trans ?_
    rw [next_apply, show (k0_pay6 (F := Ideal)) (ix2 i d) = 0 by pointwise [k0_pay6], zero_add]
    split
    · rw [step_range]; simp
    · rfl
  | succ n ih =>
    refine (small_later m c ⟨n + 1, hn⟩ (by show ¬ (n + 1) % 32 = 0; omega) i d).trans ?_
    rw [next_apply]
    refine (congrArg (· + _) (ih (by omega))).trans ?_
    split
    · rw [step_range, show 256 * (n + 1 + 1) = 256 * (n + 1) + 256 by ring, Finset.sum_range_add]
    · rw [add_zero]

/-- The small array: three rows of sums over all rows, five of zeros. -/
def G19 : Vec Ideal S8x1024 .f32 := fun i =>
  if h : (i 0).val < 3 then total (memPos m c) ⟨(i 0).val, h⟩ (i 1) else 0

/-- The small window's block is the whole array. -/
theorem emb19 (t : Fin cfg0.N) (j : S8x1024.Idx) : ((cfg0.win 19).blk t).view.emb j = j := by
  have e := idx_still t
  funext a; apply Fin.ext
  match a with
  | ⟨0, _⟩ => show win0_19.index t (0 : Fin 2) * 8 + 1 * (j 0).val = (j 0).val; omega
  | ⟨1, _⟩ => show win0_19.index t (1 : Fin 2) * 1024 + 1 * (j 1).val = (j 1).val; omega

/-- The small array after the run. -/
theorem final19 : (dats m 0 c).arrAt 19 cfg0.N = G19 m c := by
  refine (dats m 0 c).arrAt_eq_of_cover 19 (G19 m c) (fun t ht => ?_) fun (i : S8x1024.Idx) => ?_
  · rw [flushed19]
    have ht := (flush0_19 t).mp ht
    funext j
    show (outsAt0 m c t.val t.isLt).2.2.2.2.2.2.2.2 j = G19 m c (((cfg0.win 19).blk t).view.emb j)
    obtain ⟨r, d, rfl⟩ : ∃ (r : Fin 8) (d : Fin 1024), j = (ix2 r d : S8x1024.Idx) :=
      ⟨j 0, j 1, funext fun a => by match a with | ⟨0, _⟩ => rfl | ⟨1, _⟩ => rfl⟩
    rw [emb19, small_apply]
    unfold G19 total
    show (if h : r.val < 3 then _ else _) = if h : r.val < 3 then _ else _
    split
    · rw [show 256 * (t.val + 1) = 8192 by have := t.isLt; have := pts; omega,
        ← Fin.sum_univ_eq_sum_range (fun R => partN m c _ d R)]
      exact Finset.sum_congr rfl fun R _ => dif_pos R.isLt
    · rfl
  · refine ⟨⟨31, lt_pts (by omega)⟩, (flush0_19 _).mpr rfl, ?_⟩
    have h := ((cfg0.win 19).blk ⟨31, lt_pts (by omega)⟩).view.emb_mem_set i
    rwa [emb19] at h

end Cert.Proof.Head

end
-- ==== Proof.HeadRef.lean ====
/- Hand-written: the derivative's values read at an index, over the arguments' rows, at finite arguments where the
   gradient of the merged product enters. -/
module

public import proofs.«01_k».proof.Proof.Gen.HeadRefIdeal.Read
public import proofs.«01_k».proof.Proof.HeadBlocks
public import proofs.«01_k».proof.Proof.DhRef

@[expose] public section

noncomputable section

namespace Cert.Proof.HeadRef

open Cert.HeadRefIdeal Cert.HeadRefIdeal.Gen Cert.HeadRefIdeal.Read Idealize.ShloMosaic Idealize.ShloMosaic.TcCoe Idealize.SL.Sem Idealize.ShloMosaic.StableHlo
open Cert.Proof.HeadSpec (Pos total)
open Cert.Proof.Head (argPos)

/-- A sum over two axes of one entry, in front. -/
theorem red01 (v : S1x1x1024.Idx → EReal) (init : EReal) (j : S1024.Idx) :
    Ideal.hostReduceAdd reducesTo_S1x1x1024_S1024_d0_1 v init j = init + v (ix3 0 0 (j 0)) :=
  Cert.Proof.Dh.red01 v init j

/-- A sum over two axes of one entry, around the rows. -/
theorem red02 (v : S1x8192x1.Idx → EReal) (init : EReal) (j : S8192.Idx) :
    Ideal.hostReduceAdd reducesTo_S1x8192x1_S8192_d0_2 v init j = init + v (ix3 0 (j 0) 0) :=
  Cert.Proof.Dh.red02 v init j

variable (x0 : Vec Ideal S1x8192x2048 .f32) (x1 : Vec Ideal S1x8192x1024 .f32) (x2 : Vec Ideal S1x8192x11264 .f32)
  (x3 : Vec Ideal S1x8192x1024 .f32) (x4 x5 : Vec Ideal S1x1024 .f32) (x6 : Vec Ideal S1x2048x1024 .f32)
  (x7 x8 : Vec Ideal S1x1024x1024 .f32) (x9 : Vec Ideal S1x8192x1024 .f32)

/-- The retention's product. -/
theorem r6 (R : Fin 8192) (d : Fin 1024) : val_main_v6 (F := Ideal) x0 x6 (ix3 0 R d) = (argPos x0 x1 x2 x3 x4 x5 x6 x7 x8 x9 R).ya d := by
  pointwise [val_main_v4, val_main_v5, val_main_v6, val_main_cst, val_main_v3]
  rfl
/-- The convolution's product. -/
theorem r9 (R : Fin 8192) (d : Fin 1024) : val_main_v9 (F := Ideal) x1 x7 (ix3 0 R d) = (argPos x0 x1 x2 x3 x4 x5 x6 x7 x8 x9 R).yb d := by
  pointwise [val_main_v7, val_main_v8, val_main_v9, val_main_cst, val_main_v3]
  rfl
/-- The retention's gate. -/
theorem r15 (R : Fin 8192) (d : Fin 1024) : val_main_v15 (F := Ideal) x2 (ix3 0 R d) = (argPos x0 x1 x2 x3 x4 x5 x6 x7 x8 x9 R).sa d := by
  pointwise [val_main_v0, val_main_v1, val_main_v10, val_main_v11, val_main_cst_0, val_main_v12, val_main_v13,
    val_main_cst_1, val_main_v14, val_main_v15]
  rfl
/-- The convolution's gate. -/
theorem r25 (R : Fin 8192) (d : Fin 1024) : val_main_v25 (F := Ideal) x2 (ix3 0 R d) = (argPos x0 x1 x2 x3 x4 x5 x6 x7 x8 x9 R).sb d := by
  pointwise [val_main_v0, val_main_v2, val_main_v20, val_main_v21, val_main_cst_3, val_main_v22, val_main_v23,
    val_main_cst_4, val_main_v24, val_main_v25]
  exact congrArg (fun k => Ideal.logistic (x2 (ix3 0 R k))) (Fin.ext (by show 9216 + (1024 + d.val) = 10240 + d.val; omega))
/-- The merged rows. -/
theorem r30 (R : Fin 8192) (d : Fin 1024) : val_main_v30 (F := Ideal) x0 x1 x2 x6 x7 (ix3 0 R d) = (argPos x0 x1 x2 x3 x4 x5 x6 x7 x8 x9 R).mb d := by
  pointwise [r6 x0 x1 x2 x3 x4 x5 x6 x7 x8 x9, r9 x0 x1 x2 x3 x4 x5 x6 x7 x8 x9, r15 x0 x1 x2 x3 x4 x5 x6 x7 x8 x9,
    r25 x0 x1 x2 x3 x4 x5 x6 x7 x8 x9, val_main_v19, val_main_v29, val_main_v30]
  rfl
/-- The merged product. -/
theorem r33 (R : Fin 8192) (d : Fin 1024) : val_main_v33 (F := Ideal) x0 x1 x2 x6 x7 x8 (ix3 0 R d) = (argPos x0 x1 x2 x3 x4 x5 x6 x7 x8 x9 R).y d := by
  pointwise [r30 x0 x1 x2 x3 x4 x5 x6 x7 x8 x9, val_main_v31, val_main_v32, val_main_v33, val_main_cst, val_main_v3]
  rfl
/-- The post-norm's factor. -/
theorem r43 (R : Fin 8192) : val_main_v43 (F := Ideal) x0 x1 x2 x6 x7 x8 (ix3 0 R 0) = Ideal.rsqrt (Cert.Proof.Dh.ms (argPos x0 x1 x2 x3 x4 x5 x6 x7 x8 x9 R).y) := by
  pointwise [r33 x0 x1 x2 x3 x4 x5 x6 x7 x8 x9, val_main_v36, val_main_cst_6, val_main_v37, val_main_v38,
    val_main_cst_7, val_main_v39, val_main_v40, val_main_cst_8, val_main_v41, val_main_v42, val_main_v43]
  rfl
/-- The normalised rows. -/
theorem r48 (R : Fin 8192) (d : Fin 1024) : val_main_v48 (F := Ideal) x0 x1 x2 x6 x7 x8 (ix3 0 R d) = (argPos x0 x1 x2 x3 x4 x5 x6 x7 x8 x9 R).yhat d := by
  pointwise [r33 x0 x1 x2 x3 x4 x5 x6 x7 x8 x9, r43 x0 x1 x2 x3 x4 x5 x6 x7 x8 x9, val_main_v47, val_main_v48]
  rfl
/-- The normalised rows with the norm's weight. -/
theorem r51 (R : Fin 8192) (d : Fin 1024) : val_main_v51 (F := Ideal) x0 x1 x2 x5 x6 x7 x8 (ix3 0 R d) = (argPos x0 x1 x2 x3 x4 x5 x6 x7 x8 x9 R).yn d := by
  pointwise [r48 x0 x1 x2 x3 x4 x5 x6 x7 x8 x9, val_main_v35, val_main_v49, val_main_v50, val_main_v51]
  rfl
/-- The error. -/
theorem r55 (R : Fin 8192) (d : Fin 1024) : val_main_v55 (F := Ideal) x0 x1 x2 x3 x4 x5 x6 x7 x8 x9 (ix3 0 R d) = (argPos x0 x1 x2 x3 x4 x5 x6 x7 x8 x9 R).err d := by
  pointwise [r51 x0 x1 x2 x3 x4 x5 x6 x7 x8 x9, val_main_v34, val_main_v52, val_main_v53, val_main_v54, val_main_v55]
  rfl
/-- The row's loss. -/
theorem r61 (R : Fin 8192) : val_main_v61 (F := Ideal) x0 x1 x2 x3 x4 x5 x6 x7 x8 x9 (ix2 0 R) = (argPos x0 x1 x2 x3 x4 x5 x6 x7 x8 x9 R).loss := by
  pointwise [r55 x0 x1 x2 x3 x4 x5 x6 x7 x8 x9, val_main_v56, val_main_cst_11, val_main_v59, val_main_cst_12,
    val_main_v60, val_main_v61]
  rfl
/-- The error's gradient. -/
theorem r69 (R : Fin 8192) (d : Fin 1024) : val_main_v69 (F := Ideal) x0 x1 x2 x3 x4 x5 x6 x7 x8 x9 (ix3 0 R d) = (argPos x0 x1 x2 x3 x4 x5 x6 x7 x8 x9 R).dout d := by
  pointwise [r55 x0 x1 x2 x3 x4 x5 x6 x7 x8 x9, val_main_cst_10, val_main_v57, val_main_v58, val_main_cst_15,
    val_main_cst_16, val_main_v64, val_main_v65, val_main_cst_17, val_main_v66, val_main_v67, val_main_v68,
    val_main_v69]
  refine Eq.trans ?_ (Cert.Proof.HeadSpec.factor _)
  rw [mul_one]
/-- The normalised rows' gradient, the gate taken. -/
theorem r71 (R : Fin 8192) (d : Fin 1024) : val_main_v71 (F := Ideal) x0 x1 x2 x3 x4 x5 x6 x7 x8 x9 (ix3 0 R d) = (argPos x0 x1 x2 x3 x4 x5 x6 x7 x8 x9 R).dyn d := by
  pointwise [r69 x0 x1 x2 x3 x4 x5 x6 x7 x8 x9, val_main_v34, val_main_v70, val_main_v71]
  exact mul_comm _ _
/-- The normalised rows' gradient. -/
theorem r79 (R : Fin 8192) (d : Fin 1024) : val_main_v79 (F := Ideal) x0 x1 x2 x3 x4 x5 x6 x7 x8 x9 (ix3 0 R d) = (argPos x0 x1 x2 x3 x4 x5 x6 x7 x8 x9 R).dyhat d := by
  pointwise [r71 x0 x1 x2 x3 x4 x5 x6 x7 x8 x9, val_main_v35, val_main_v49, val_main_v78, val_main_v79]
  rfl
/-- The gradient through the mean square. -/
theorem r91 (R : Fin 8192) (d : Fin 1024) : val_main_v91 (F := Ideal) x0 x1 x2 x3 x4 x5 x6 x7 x8 x9 (ix3 0 R d) = Cert.Proof.Dh.rPart (argPos x0 x1 x2 x3 x4 x5 x6 x7 x8 x9 R).y (argPos x0 x1 x2 x3 x4 x5 x6 x7 x8 x9 R).dyhat := by
  pointwise [red01, red02, r33 x0 x1 x2 x3 x4 x5 x6 x7 x8 x9, r43 x0 x1 x2 x3 x4 x5 x6 x7 x8 x9,
    r79 x0 x1 x2 x3 x4 x5 x6 x7 x8 x9, val_main_v36, val_main_cst_6, val_main_v37, val_main_v38, val_main_cst_7,
    val_main_v39, val_main_v40, val_main_cst_8, val_main_v41, val_main_v42, val_main_v44, val_main_cst_9,
    val_main_v45, val_main_v46, val_main_v81, val_main_cst_21, val_main_v82, val_main_v83, val_main_v86,
    val_main_cst_22, val_main_v87, val_main_v88, val_main_cst_23, val_main_v89, val_main_v90, val_main_v91]
  rfl
/-- The merged product's gradient, at finite arguments. -/
theorem r95 (h : ∀ R, (argPos x0 x1 x2 x3 x4 x5 x6 x7 x8 x9 R).Real) (R : Fin 8192) (d : Fin 1024) : val_main_v95 (F := Ideal) x0 x1 x2 x3 x4 x5 x6 x7 x8 x9 (ix3 0 R d) = (argPos x0 x1 x2 x3 x4 x5 x6 x7 x8 x9 R).dy d := by
  pointwise [r33 x0 x1 x2 x3 x4 x5 x6 x7 x8 x9, r43 x0 x1 x2 x3 x4 x5 x6 x7 x8 x9, r79 x0 x1 x2 x3 x4 x5 x6 x7 x8 x9,
    r91 x0 x1 x2 x3 x4 x5 x6 x7 x8 x9, val_main_v84, val_main_v85, val_main_v92, val_main_v93, val_main_v94,
    val_main_v95]
  exact ((h R).dy d).symm
/-- The merged rows' gradient. -/
theorem r99 (h : ∀ R, (argPos x0 x1 x2 x3 x4 x5 x6 x7 x8 x9 R).Real) (R : Fin 8192) (d : Fin 1024) : val_main_v99 (F := Ideal) x0 x1 x2 x3 x4 x5 x6 x7 x8 x9 (ix3 0 R d) = (argPos x0 x1 x2 x3 x4 x5 x6 x7 x8 x9 R).dm d := by
  pointwise [r95 x0 x1 x2 x3 x4 x5 x6 x7 x8 x9 h, val_main_v31, val_main_v99]
  rfl
/-- The retention's product's gradient. -/
theorem r103 (h : ∀ R, (argPos x0 x1 x2 x3 x4 x5 x6 x7 x8 x9 R).Real) (R : Fin 8192) (d : Fin 1024) : val_main_v103 (F := Ideal) x0 x1 x2 x3 x4 x5 x6 x7 x8 x9 (ix3 0 R d) = (argPos x0 x1 x2 x3 x4 x5 x6 x7 x8 x9 R).dya d := by
  pointwise [r99 x0 x1 x2 x3 x4 x5 x6 x7 x8 x9 h, r15 x0 x1 x2 x3 x4 x5 x6 x7 x8 x9, val_main_v103]
  exact mul_comm _ _
/-- The convolution's product's gradient. -/
theorem r100 (h : ∀ R, (argPos x0 x1 x2 x3 x4 x5 x6 x7 x8 x9 R).Real) (R : Fin 8192) (d : Fin 1024) : val_main_v100 (F := Ideal) x0 x1 x2 x3 x4 x5 x6 x7 x8 x9 (ix3 0 R d) = (argPos x0 x1 x2 x3 x4 x5 x6 x7 x8 x9 R).dyb d := by
  pointwise [r99 x0 x1 x2 x3 x4 x5 x6 x7 x8 x9 h, r25 x0 x1 x2 x3 x4 x5 x6 x7 x8 x9, val_main_v100]
  exact mul_comm _ _
/-- The retention's gate's gradient. -/
theorem r105 (h : ∀ R, (argPos x0 x1 x2 x3 x4 x5 x6 x7 x8 x9 R).Real) (R : Fin 8192) (d : Fin 1024) : val_main_v105 (F := Ideal) x0 x1 x2 x3 x4 x5 x6 x7 x8 x9 (ix3 0 R d) = (argPos x0 x1 x2 x3 x4 x5 x6 x7 x8 x9 R).dga d := by
  pointwise [r99 x0 x1 x2 x3 x4 x5 x6 x7 x8 x9 h, r15 x0 x1 x2 x3 x4 x5 x6 x7 x8 x9, r6 x0 x1 x2 x3 x4 x5 x6 x7 x8 x9,
    val_main_v16, val_main_v17, val_main_v18, val_main_v104, val_main_v105, val_main_cst_2]
  unfold Pos.dga Pos.dya
  rw [mul_assoc, mul_assoc, mul_assoc]
  exact congrArg (_ * ·) (mul_left_comm _ _ _)
/-- The convolution's gate's gradient. -/
theorem r102 (h : ∀ R, (argPos x0 x1 x2 x3 x4 x5 x6 x7 x8 x9 R).Real) (R : Fin 8192) (d : Fin 1024) : val_main_v102 (F := Ideal) x0 x1 x2 x3 x4 x5 x6 x7 x8 x9 (ix3 0 R d) = (argPos x0 x1 x2 x3 x4 x5 x6 x7 x8 x9 R).dgb d := by
  pointwise [r99 x0 x1 x2 x3 x4 x5 x6 x7 x8 x9 h, r25 x0 x1 x2 x3 x4 x5 x6 x7 x8 x9, r9 x0 x1 x2 x3 x4 x5 x6 x7 x8 x9,
    val_main_v26, val_main_v27, val_main_v28, val_main_v101, val_main_v102, val_main_cst_5]
  unfold Pos.dgb Pos.dyb
  rw [mul_assoc, mul_assoc, mul_assoc]
  exact congrArg (_ * ·) (mul_left_comm _ _ _)
/-- The retention's rows' gradient. -/
theorem r107 (h : ∀ R, (argPos x0 x1 x2 x3 x4 x5 x6 x7 x8 x9 R).Real) (R : Fin 8192) (d : Fin 2048) : val_main_v107 (F := Ideal) x0 x1 x2 x3 x4 x5 x6 x7 x8 x9 (ix3 0 R d) = (argPos x0 x1 x2 x3 x4 x5 x6 x7 x8 x9 R).dpa d := by
  pointwise [r103 x0 x1 x2 x3 x4 x5 x6 x7 x8 x9 h, val_main_v4, val_main_v107]
  rfl
/-- The convolution's rows' gradient. -/
theorem r106 (h : ∀ R, (argPos x0 x1 x2 x3 x4 x5 x6 x7 x8 x9 R).Real) (R : Fin 8192) (d : Fin 1024) : val_main_v106 (F := Ideal) x0 x1 x2 x3 x4 x5 x6 x7 x8 x9 (ix3 0 R d) = (argPos x0 x1 x2 x3 x4 x5 x6 x7 x8 x9 R).dpb d := by
  pointwise [r100 x0 x1 x2 x3 x4 x5 x6 x7 x8 x9 h, val_main_v7, val_main_v106]
  rfl

/-! The nine results. -/

/-- The gradient through the residual sum. -/
theorem ref0 (R : Fin 8192) (d : Fin 1024) : (val_main_v111 (F := Ideal) x0 x1 x2 x3 x4 x5 x6 x7 x8 x9 : Vec Ideal S8192x1024 .f32) (ix2 R d)
    = (argPos x0 x1 x2 x3 x4 x5 x6 x7 x8 x9 R).dout d := by
  pointwise [r69 x0 x1 x2 x3 x4 x5 x6 x7 x8 x9, val_main_v111]
/-- The gates' gradients, side by side. -/
theorem ref1 (h : ∀ R, (argPos x0 x1 x2 x3 x4 x5 x6 x7 x8 x9 R).Real) (R : Fin 8192) (d : Fin 2048) : (val_main_v115 (F := Ideal) x0 x1 x2 x3 x4 x5 x6 x7 x8 x9 : Vec Ideal S8192x2048 .bf16) (ix2 R d)
    = if h : d.val < 1024 then (argPos x0 x1 x2 x3 x4 x5 x6 x7 x8 x9 R).dga ⟨d.val, h⟩ else (argPos x0 x1 x2 x3 x4 x5 x6 x7 x8 x9 R).dgb ⟨d.val - 1024, by omega⟩ := by
  pointwise [r105 x0 x1 x2 x3 x4 x5 x6 x7 x8 x9 h, r102 x0 x1 x2 x3 x4 x5 x6 x7 x8 x9 h, val_main_v112, val_main_v113, val_main_v114, val_main_v115]
/-- The gradient of the retention's rows. -/
theorem ref2 (h : ∀ R, (argPos x0 x1 x2 x3 x4 x5 x6 x7 x8 x9 R).Real) (R : Fin 8192) (d : Fin 2048) : (val_main_v116 (F := Ideal) x0 x1 x2 x3 x4 x5 x6 x7 x8 x9 : Vec Ideal S8192x2048 .f32) (ix2 R d)
    = (argPos x0 x1 x2 x3 x4 x5 x6 x7 x8 x9 R).dpa d := by
  pointwise [r107 x0 x1 x2 x3 x4 x5 x6 x7 x8 x9 h, val_main_v116]
/-- The gradient of the convolution's rows. -/
theorem ref3 (h : ∀ R, (argPos x0 x1 x2 x3 x4 x5 x6 x7 x8 x9 R).Real) (R : Fin 8192) (d : Fin 1024) : (val_main_v117 (F := Ideal) x0 x1 x2 x3 x4 x5 x6 x7 x8 x9 : Vec Ideal S8192x1024 .f32) (ix2 R d)
    = (argPos x0 x1 x2 x3 x4 x5 x6 x7 x8 x9 R).dpb d := by
  pointwise [r106 x0 x1 x2 x3 x4 x5 x6 x7 x8 x9 h, val_main_v117]
/-- The merged rows. -/
theorem ref4 (R : Fin 8192) (d : Fin 1024) : (val_main_v119 (F := Ideal) x0 x1 x2 x6 x7 : Vec Ideal S8192x1024 .bf16) (ix2 R d)
    = (argPos x0 x1 x2 x3 x4 x5 x6 x7 x8 x9 R).mb d := by
  pointwise [r30 x0 x1 x2 x3 x4 x5 x6 x7 x8 x9, val_main_v118, val_main_v119]
/-- The gradient of the merged product. -/
theorem ref5 (h : ∀ R, (argPos x0 x1 x2 x3 x4 x5 x6 x7 x8 x9 R).Real) (R : Fin 8192) (d : Fin 1024) : (val_main_v121 (F := Ideal) x0 x1 x2 x3 x4 x5 x6 x7 x8 x9 : Vec Ideal S8192x1024 .bf16) (ix2 R d)
    = (argPos x0 x1 x2 x3 x4 x5 x6 x7 x8 x9 R).dy d := by
  pointwise [r95 x0 x1 x2 x3 x4 x5 x6 x7 x8 x9 h, val_main_v120, val_main_v121]
/-- The gradient of the retention's product. -/
theorem ref6 (h : ∀ R, (argPos x0 x1 x2 x3 x4 x5 x6 x7 x8 x9 R).Real) (R : Fin 8192) (d : Fin 1024) : (val_main_v123 (F := Ideal) x0 x1 x2 x3 x4 x5 x6 x7 x8 x9 : Vec Ideal S8192x1024 .bf16) (ix2 R d)
    = (argPos x0 x1 x2 x3 x4 x5 x6 x7 x8 x9 R).dya d := by
  pointwise [r103 x0 x1 x2 x3 x4 x5 x6 x7 x8 x9 h, val_main_v122, val_main_v123]
/-- The gradient of the convolution's product. -/
theorem ref7 (h : ∀ R, (argPos x0 x1 x2 x3 x4 x5 x6 x7 x8 x9 R).Real) (R : Fin 8192) (d : Fin 1024) : (val_main_v125 (F := Ideal) x0 x1 x2 x3 x4 x5 x6 x7 x8 x9 : Vec Ideal S8192x1024 .bf16) (ix2 R d)
    = (argPos x0 x1 x2 x3 x4 x5 x6 x7 x8 x9 R).dyb d := by
  pointwise [r100 x0 x1 x2 x3 x4 x5 x6 x7 x8 x9 h, val_main_v124, val_main_v125]
/-- The small array: the adaptive gate's gradient, the norm's weight's gradient, the loss, zeros. -/
theorem ref8 (i : Fin 8) (d : Fin 1024) : (val_main_v110 (F := Ideal) x0 x1 x2 x3 x4 x5 x6 x7 x8 x9 : Vec Ideal S8x1024 .f32) (ix2 i d)
    = if h : i.val < 3 then total (argPos x0 x1 x2 x3 x4 x5 x6 x7 x8 x9) ⟨i.val, h⟩ d else 0 := by
  pointwise [red01, r69 x0 x1 x2 x3 x4 x5 x6 x7 x8 x9, r51 x0 x1 x2 x3 x4 x5 x6 x7 x8 x9, r48 x0 x1 x2 x3 x4 x5 x6 x7 x8 x9,
    r71 x0 x1 x2 x3 x4 x5 x6 x7 x8 x9, r61 x0 x1 x2 x3 x4 x5 x6 x7 x8 x9, val_main_cst_13, val_main_v62, val_main_cst_14, val_main_v63, val_main_v72, val_main_cst_18, val_main_v73, val_main_v74, val_main_v75, val_main_cst_19, val_main_v76, val_main_v77, val_main_cst_20, val_main_v80, val_main_v96, val_main_cst_24, val_main_v97, val_main_v98, val_main_v108, val_main_cst_25, val_main_v109, val_main_v110]
  by_cases h0 : i.val < 1
  · rw [dif_pos h0, dif_pos (by omega), (Fin.ext (by show i.val = 0; omega) : (⟨i.val, by omega⟩ : Fin 3) = 0)]
    rfl
  rw [dif_neg h0]
  by_cases h1 : i.val - 1 < 1
  · rw [dif_pos h1, dif_pos (by omega), (Fin.ext (by show i.val = 1; omega) : (⟨i.val, by omega⟩ : Fin 3) = 1)]
    exact Finset.sum_congr rfl fun R _ => mul_comm _ _
  rw [dif_neg h1]
  by_cases h2 : i.val - 1 - 1 < 1
  · rw [dif_pos h2, dif_pos (by omega), (Fin.ext (by show i.val = 2; omega) : (⟨i.val, by omega⟩ : Fin 3) = 2)]
    rw [Fintype.sum_unique, Cert.Proof.HeadSpec.half_sum]
    exact Finset.sum_congr rfl fun R _ => congrArg _ (r61 x0 x1 x2 x3 x4 x5 x6 x7 x8 x9 R)
  rw [dif_neg h2, dif_neg (by omega)]

end Cert.Proof.HeadRef

end
-- ==== Proof.HeadClaims.lean ====
/- Hand-written: the claims about the merge's and loss's kernel and the derivative of the forward lines. -/
module

public import proofs.«01_k».proof.Defs
public import proofs.«01_k».proof.Proof.HeadValue
public import proofs.«01_k».proof.Proof.HeadRef
public import proofs.«01_k».proof.Proof.Gen.Head.Frame
public import proofs.«01_k».proof.Proof.Gen.HeadRefIdeal.Run
public import proofs.«01_k».proof.Proof.Gen.Pre_head_finite
public import Idealize.ShloMosaic.Adequacy
public import Idealize.ShloMosaic.Init

@[expose] public section

noncomputable section

namespace Cert.Proof.Head

open Idealize.ShloMosaic Idealize.ShloMosaic.TcCoe Idealize.SL.Sem
open Cert.Proof.HeadRef Cert.HeadRefIdeal.Read
open Cert.Proof.HeadSpec (Pos total)

/-- Two arrays of rows and columns that agree at every index are equal. -/
theorem ext2 {n w : ℕ} {α : Type} {f g : (⟨2, ![n, w]⟩ : Shape).Idx → α} (h : ∀ R d, f (ix2 R d) = g (ix2 R d)) : f = g := by
  funext i
  obtain ⟨R, d, rfl⟩ : ∃ (R : Fin n) (d : Fin w), i = ix2 R d :=
    ⟨i 0, i 1, funext fun a => by match a with | ⟨0, _⟩ => rfl | ⟨1, _⟩ => rfl⟩
  exact h R d

/-- The derivative's program runs and leaves its arguments and every counter as they were. -/
theorem frame_ref : Cert.quiescent_HeadRefIdeal := fun m ρ _ =>
  (θ_run Cert.HeadRefIdeal.defs _ _).mono
    (fun r h => ⟨fun c => (h c).2.2.2.2.2.2.2.2.2, sem_eq_zero_of_no_sems (by decide) r.2⟩)
    (Cert.HeadRefIdeal.Value.run (F := Ideal) m ρ)

/-- The precondition's arrays are finite at every row. -/
theorem real (m : (ℓ : Loc Cert.HeadIdeal.nD Cert.HeadIdeal.τ Cert.HeadIdeal.sig) → Buf (Elt Ideal) ℓ)
    (hpre : Cert.Pre_HeadIdeal_head_finite m) (c : Dev Cert.HeadIdeal.nD) (R : Fin 8192) : (memPos m c R).Real := by
  obtain ⟨h0, h1, h2, h3, h4, h5, h6, h7, h8, h9⟩ := hpre c
  have g (e : Fin 2048) (k : Fin 11264) (hk : k.val = 9216 + e.val) : Cert.Proof.RetSpec.IsReal (m ((c.tc : Thread Cert.HeadIdeal.nD Cert.HeadIdeal.τ).loc Cert.HeadIdeal.main_arg2) (ix3 0 R k)) := by
    have := Cert.Proof.Dh.real_of_cmp _ _ (fun _ => rfl) h2 (ix3 0 R e)
    pointwise [] at this
    rwa [show k = ⟨9216 + e.val, by omega⟩ from Fin.ext hk]
  exact ⟨fun e => Cert.Proof.Dh.real_of_cmp _ _ (fun _ => rfl) h0 _, fun e => Cert.Proof.Dh.real_of_cmp _ _ (fun _ => rfl) h1 _,
    fun e => g ⟨e.val, by omega⟩ ⟨9216 + e.val, by omega⟩ rfl,
    fun e => g ⟨1024 + e.val, by omega⟩ ⟨10240 + e.val, by omega⟩ (by show 10240 + e.val = 9216 + (1024 + e.val); omega),
    fun e => Cert.Proof.Dh.real_of_cmp _ _ (fun _ => rfl) h3 _, fun e => Cert.Proof.Dh.real_of_cmp _ _ (fun _ => rfl) h9 _,
    fun e => Cert.Proof.Dh.real_of_cmp _ _ (fun _ => rfl) h4 _, fun e => Cert.Proof.Dh.real_of_cmp _ _ (fun _ => rfl) h5 _,
    fun e d => Cert.Proof.Dh.real_of_cmp _ _ (fun _ => rfl) h6 _, fun e d => Cert.Proof.Dh.real_of_cmp _ _ (fun _ => rfl) h7 _,
    fun e d => Cert.Proof.Dh.real_of_cmp _ _ (fun _ => rfl) h8 _⟩

/-- At finite arguments the kernel's nine results are the derivative's. -/
theorem algebraic : Cert.algebraic_HeadIdeal_HeadRefIdeal_pre_head_finite := by
  intro m ρ m' ρ' hpre hagree
  refine ⟨fun c => G11 m c, fun c => G12 m c, fun c => G13 m c, fun c => G14 m c, fun c => G15 m c, fun c => G16 m c,
    fun c => G17 m c, fun c => G18 m c, fun c => G19 m c, ?_, ?_⟩
  · exact (θ_run Cert.HeadIdeal.defs _ _).mono (fun r h c => by
      obtain ⟨h0, h1, h2, h3, h4, h5, h6, h7, h8, hk⟩ := h c
      exact ⟨h0.trans (final11 m c), h1.trans (final12 m c), h2.trans (final13 m c), h3.trans (final14 m c),
        h4.trans (final15 m c), h5.trans (final16 m c), h6.trans (final17 m c), h7.trans (final18 m c),
        h8.trans (final19 m c), hk⟩) (Cert.HeadIdeal.Value.run_blocks m ρ)
  · refine (θ_run Cert.HeadRefIdeal.defs _ _).mono (fun r h c => ?_) (Cert.HeadRefIdeal.Value.run (F := Ideal) m' ρ')
    obtain ⟨e0, e1, e2, e3, e4, e5, e6, e7, e8, e9⟩ := hagree c
    obtain ⟨h0, h1, h2, h3, h4, h5, h6, h7, h8, hk⟩ := h c
    have e : argPos (m' ((c.tc : Thread Cert.HeadRefIdeal.nD Cert.HeadRefIdeal.τ).loc Cert.HeadRefIdeal.main_arg0))
        (m' ((c.tc : Thread Cert.HeadRefIdeal.nD Cert.HeadRefIdeal.τ).loc Cert.HeadRefIdeal.main_arg1))
        (m' ((c.tc : Thread Cert.HeadRefIdeal.nD Cert.HeadRefIdeal.τ).loc Cert.HeadRefIdeal.main_arg2))
        (m' ((c.tc : Thread Cert.HeadRefIdeal.nD Cert.HeadRefIdeal.τ).loc Cert.HeadRefIdeal.main_arg3))
        (m' ((c.tc : Thread Cert.HeadRefIdeal.nD Cert.HeadRefIdeal.τ).loc Cert.HeadRefIdeal.main_arg4))
        (m' ((c.tc : Thread Cert.HeadRefIdeal.nD Cert.HeadRefIdeal.τ).loc Cert.HeadRefIdeal.main_arg5))
        (m' ((c.tc : Thread Cert.HeadRefIdeal.nD Cert.HeadRefIdeal.τ).loc Cert.HeadRefIdeal.main_arg6))
        (m' ((c.tc : Thread Cert.HeadRefIdeal.nD Cert.HeadRefIdeal.τ).loc Cert.HeadRefIdeal.main_arg7))
        (m' ((c.tc : Thread Cert.HeadRefIdeal.nD Cert.HeadRefIdeal.τ).loc Cert.HeadRefIdeal.main_arg8))
        (m' ((c.tc : Thread Cert.HeadRefIdeal.nD Cert.HeadRefIdeal.τ).loc Cert.HeadRefIdeal.main_arg9)) = memPos m c := by
      unfold memPos
      rw [e0, e1, e2, e3, e4, e5, e6, e7, e8, e9]
    have hr : ∀ R, (argPos (m' ((c.tc : Thread Cert.HeadRefIdeal.nD Cert.HeadRefIdeal.τ).loc Cert.HeadRefIdeal.main_arg0))
        (m' ((c.tc : Thread Cert.HeadRefIdeal.nD Cert.HeadRefIdeal.τ).loc Cert.HeadRefIdeal.main_arg1))
        (m' ((c.tc : Thread Cert.HeadRefIdeal.nD Cert.HeadRefIdeal.τ).loc Cert.HeadRefIdeal.main_arg2))
        (m' ((c.tc : Thread Cert.HeadRefIdeal.nD Cert.HeadRefIdeal.τ).loc Cert.HeadRefIdeal.main_arg3))
        (m' ((c.tc : Thread Cert.HeadRefIdeal.nD Cert.HeadRefIdeal.τ).loc Cert.HeadRefIdeal.main_arg4))
        (m' ((c.tc : Thread Cert.HeadRefIdeal.nD Cert.HeadRefIdeal.τ).loc Cert.HeadRefIdeal.main_arg5))
        (m' ((c.tc : Thread Cert.HeadRefIdeal.nD Cert.HeadRefIdeal.τ).loc Cert.HeadRefIdeal.main_arg6))
        (m' ((c.tc : Thread Cert.HeadRefIdeal.nD Cert.HeadRefIdeal.τ).loc Cert.HeadRefIdeal.main_arg7))
        (m' ((c.tc : Thread Cert.HeadRefIdeal.nD Cert.HeadRefIdeal.τ).loc Cert.HeadRefIdeal.main_arg8))
        (m' ((c.tc : Thread Cert.HeadRefIdeal.nD Cert.HeadRefIdeal.τ).loc Cert.HeadRefIdeal.main_arg9)) R).Real :=
      fun R => e ▸ real m hpre c R
    refine ⟨h0.trans ?_, h1.trans ?_, h2.trans ?_, h3.trans ?_, h4.trans ?_, h5.trans ?_, h6.trans ?_, h7.trans ?_, h8.trans ?_, hk⟩
    · exact (val_main_v111_eq _).trans (ext2 fun R d => (ref0 _ _ _ _ _ _ _ _ _ _ R d).trans
        (congrArg (fun p : Fin 8192 → Pos => (p R).dout d) e))
    · exact (val_main_v115_eq _).trans (ext2 fun R d => (ref1 _ _ _ _ _ _ _ _ _ _ hr R d).trans
        (congrArg (fun p : Fin 8192 → Pos => if h : d.val < 1024 then (p R).dga ⟨d.val, h⟩ else (p R).dgb ⟨d.val - 1024, by omega⟩) e))
    · exact (val_main_v116_eq _).trans (ext2 fun R d => (ref2 _ _ _ _ _ _ _ _ _ _ hr R d).trans
        (congrArg (fun p : Fin 8192 → Pos => (p R).dpa d) e))
    · exact (val_main_v117_eq _).trans (ext2 fun R d => (ref3 _ _ _ _ _ _ _ _ _ _ hr R d).trans
        (congrArg (fun p : Fin 8192 → Pos => (p R).dpb d) e))
    · exact (val_main_v119_eq _).trans (ext2 fun R d => (ref4 _ _ _ _ _ _ _ _ _ _ R d).trans
        (congrArg (fun p : Fin 8192 → Pos => (p R).mb d) e))
    · exact (val_main_v121_eq _).trans (ext2 fun R d => (ref5 _ _ _ _ _ _ _ _ _ _ hr R d).trans
        (congrArg (fun p : Fin 8192 → Pos => (p R).dy d) e))
    · exact (val_main_v123_eq _).trans (ext2 fun R d => (ref6 _ _ _ _ _ _ _ _ _ _ hr R d).trans
        (congrArg (fun p : Fin 8192 → Pos => (p R).dya d) e))
    · exact (val_main_v125_eq _).trans (ext2 fun R d => (ref7 _ _ _ _ _ _ _ _ _ _ hr R d).trans
        (congrArg (fun p : Fin 8192 → Pos => (p R).dyb d) e))
    · exact (val_main_v110_eq _).trans (ext2 fun R d => (ref8 _ _ _ _ _ _ _ _ _ _ R d).trans
        (congrArg (fun p : Fin 8192 → Pos => if h : R.val < 3 then total p ⟨R.val, h⟩ d else 0) e))

end Cert.Proof.Head

end
-- ==== Proof.ConvRun.lean ====
/- One grid point of the backward call of the causal convolution: what one trip of its loop over row blocks stores, the
   loop's invariant, and what the point's stores leave in the gradients' block, in the parameters' gradients and in the
   rows carried to the next point. -/
module

public import proofs.«01_k».proof.Proof.Gen.ConvIdeal.Skeleton
public import proofs.«01_k».proof.Proof.Gen.ConvIdeal.Points
public import Idealize.ShloMosaic.Lib.Pipeline.FrameBody
public import Idealize.ShloMosaic.Lib.Exec
public import Idealize.ShloMosaic.Lib.Ring
public import Idealize.ShloMosaic.Lib.Tactic
public import Idealize.ShloMosaic.Lib.WordCmp

@[expose] public section

set_option maxRecDepth 16384

noncomputable section

namespace Cert.Proof.Conv

open Cert.ConvIdeal Cert.ConvIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The buffers that one point works on: its eight arguments' blocks, the gradients' block, the parameters' gradients,
    the extended rows, their eight shifted copies, the rows carried over, and the taps' partial sums. -/
structure Refs where
  dp : Memref sig .tc .vmem S256x1024 .f32
  uv : Memref sig .tc .vmem S256x1024 .f32
  ug : Memref sig .tc .vmem S256x1024 .f32
  z : Memref sig .tc .vmem S256x1024 .f32
  a1 : Memref sig .tc .vmem S256x1024 .f32
  w : Memref sig .tc .vmem S32x8x1024 .f32
  g : Memref sig .tc .vmem S1x1024 .f32
  b : Memref sig .tc .vmem S1x1024 .f32
  out : Memref sig .tc .vmem S256x3072 .bf16
  small : Memref sig .tc .vmem S40x1024 .f32
  ext : Memref sig .tc .vmem S296x1024 .f32
  dx : Memref sig .tc .vmem S8x288x1024 .f32
  carry : Memref sig .tc .vmem S32x1024 .f32
  dw : Memref sig .tc .vmem S32x8x1024 .f32
  hdp : dp.IsWhole
  huv : uv.IsWhole
  hug : ug.IsWhole
  hz : z.IsWhole
  ha1 : a1.IsWhole
  hw : w.IsWhole
  hg : g.IsWhole
  hb : b.IsWhole
  hout : out.IsWhole
  hsmall : small.IsWhole
  hext : ext.IsWhole
  hdx : dx.IsWhole
  hcarry : carry.IsWhole
  hdw : dw.IsWhole

/-- The contents of the eight arguments' blocks at a point. -/
structure In (F : FTy → Type) where
  dp : Vec F S256x1024 .f32
  uv : Vec F S256x1024 .f32
  ug : Vec F S256x1024 .f32
  z : Vec F S256x1024 .f32
  a1 : Vec F S256x1024 .f32
  w : Vec F S32x8x1024 .f32
  g : Vec F S1x1024 .f32
  b : Vec F S1x1024 .f32

/-- A point's body on the buffers `B`. -/
abbrev body (i : grid0.Coords) (B : Refs) : Prog (TpuEff nD τ sig (Elt F) Λ₀ .tc) PUnit :=
  cc0_conv_bwd i B.dp B.hdp B.uv B.huv B.ug B.hug B.z B.hz B.a1 B.ha1 B.w B.hw B.g B.hg B.b B.hb B.out B.hout B.small B.hsmall B.ext B.hext B.dx B.hdx B.carry B.hcarry B.dw B.hdw

/-- The loop's region on the buffers `B`. -/
abbrev region (i : grid0.Coords) (B : Refs) : Fin k0_t1_loop.trips → Unit → Prog (TpuEff nD τ sig (Elt F) Λ₀ .tc) Unit :=
  k0_t1_body i B.dp B.hdp B.uv B.huv B.ug B.hug B.z B.hz B.a1 B.ha1 B.w B.hw B.g B.hg B.b B.hb B.out B.hout B.small B.hsmall B.ext B.hext B.dx B.hdx B.carry B.hcarry B.dw B.hdw

/-- The first point, where the sums and the carried rows are set to zero. -/
abbrev first (i : grid0.Coords) : Prop :=
  (Scalar.cmpi .ne (Scalar.extui (Scalar.cmpi .eq (BitVec.ofNat 32 (i 0).val) 0#32)) 0#32) = 1#1

/-- Contents of the memory that a buffer lies in. -/
abbrev Cont (F : FTy → Type) {s : Shape} {e : EltTy} (M : Memref sig .tc .vmem s e) : Type := BufTy.Contents (Elt F) M.view.ty

/-- A buffer held at its memory's contents. -/
abbrev at' (c : Dev nD) {s : Shape} {e : EltTy} (M : Memref sig .tc .vmem s e) (f : Cont F M) : sProp 𝕄 :=
  M.view.loc (c : Thread nD τ) ↦[M.view.set]{fullShare} f

/-- What a trip reads, held at its contents. -/
abbrev tripIns (c : Dev nD) (B : Refs) (Xu : Cont F B.uv) (Xg : Cont F B.ug) (Xw : Cont F B.w) (Xd : Cont F B.dx) : sProp 𝕄 :=
  iprop(at' c B.uv Xu ∗ at' c B.ug Xg ∗ at' c B.w Xw ∗ at' c B.dx Xd)

/-- One trip of the loop: what it stores depends on what it reads and on the taps' partial sums that it finds. -/
@[irreducible] def trip (c : Dev nD) (i : grid0.Coords) (B : Refs) (Xu : Cont F B.uv) (Xg : Cont F B.ug) (Xw : Cont F B.w) (Xd : Cont F B.dx) (k : Fin k0_t1_loop.trips) :
    Σ' (Lo : Cont F B.dw → List (View.Piece (Elt F) S256x3072 .bf16)), { Ld : Cont F B.dw → List (View.Piece (Elt F) S32x8x1024 .f32) // ∀ (E : Set ℕ) (fo : Cont F B.out) (fd : Cont F B.dw),
      iprop(tripIns c B Xu Xg Xw Xd ∗ at' c B.out fo ∗ at' c B.dw fd)
      ⊢ wp frame (wpE (defs₀ (F := F)) Variants.none (c : Thread nD τ) none) E (region i B k PUnit.unit)
          (fun _ => iprop(tripIns c B Xu Xg Xw Xd ∗ at' c B.out (B.out.view.writes (Elt F) fo (Lo fd)) ∗ at' c B.dw (B.dw.view.writes (Elt F) fd (Ld fd)))) } := by
  have hk : k.val < 16 := Nat.lt_of_lt_of_le k.isLt k0_t1_abs.2.1
  refine ⟨?_, ?_, fun E fo fd => ?run⟩
  case run =>
    unfold region k0_t1_body
    iintro ⟨⟨HU, HG, HW, HD⟩, HO, HA⟩
    sl_exec
    sl_step
    sl_close

/-- The pieces that the trips before `n` store, the last first, from the partial sums at the loop's entry. -/
def pcs (c : Dev nD) (i : grid0.Coords) (B : Refs) (Xu : Cont F B.uv) (Xg : Cont F B.ug) (Xw : Cont F B.w) (Xd : Cont F B.dx) (G : Cont F B.dw) :
    ℕ → List (View.Piece (Elt F) S256x3072 .bf16) × List (View.Piece (Elt F) S32x8x1024 .f32)
  | 0 => ([], [])
  | n + 1 =>
    if h : n < k0_t1_loop.trips then
      ((trip c i B Xu Xg Xw Xd ⟨n, h⟩).1 (B.dw.view.writes (Elt F) G (pcs c i B Xu Xg Xw Xd G n).2) ++ (pcs c i B Xu Xg Xw Xd G n).1,
        (trip c i B Xu Xg Xw Xd ⟨n, h⟩).2.1 (B.dw.view.writes (Elt F) G (pcs c i B Xu Xg Xw Xd G n).2) ++ (pcs c i B Xu Xg Xw Xd G n).2)
    else pcs c i B Xu Xg Xw Xd G n

/-- One trip more. -/
theorem pcs_succ (c : Dev nD) (i : grid0.Coords) (B : Refs) (Xu : Cont F B.uv) (Xg : Cont F B.ug) (Xw : Cont F B.w) (Xd : Cont F B.dx) (G : Cont F B.dw) (k : Fin k0_t1_loop.trips) :
    pcs c i B Xu Xg Xw Xd G (k.val + 1)
      = ((trip c i B Xu Xg Xw Xd k).1 (B.dw.view.writes (Elt F) G (pcs c i B Xu Xg Xw Xd G k.val).2) ++ (pcs c i B Xu Xg Xw Xd G k.val).1,
        (trip c i B Xu Xg Xw Xd k).2.1 (B.dw.view.writes (Elt F) G (pcs c i B Xu Xg Xw Xd G k.val).2) ++ (pcs c i B Xu Xg Xw Xd G k.val).2) := by
  rw [pcs.eq_2]; exact dif_pos k.isLt

/-- Before trip `n` the two buffers that the loop stores into hold the pieces of the trips before it. -/
abbrev inv (c : Dev nD) (i : grid0.Coords) (B : Refs) (Xu : Cont F B.uv) (Xg : Cont F B.ug) (Xw : Cont F B.w) (Xd : Cont F B.dx) (G9 : Cont F B.out) (G : Cont F B.dw) (n : ℕ) : sProp 𝕄 :=
  iprop(at' c B.uv Xu ∗ at' c B.ug Xg ∗ at' c B.w Xw ∗ at' c B.dx Xd
    ∗ (∃ f, at' c B.out f ∗ ⌜f = B.out.view.writes (Elt F) G9 (pcs c i B Xu Xg Xw Xd G n).1⌝)
    ∗ (∃ f, at' c B.dw f ∗ ⌜f = B.dw.view.writes (Elt F) G (pcs c i B Xu Xg Xw Xd G n).2⌝))

set_option warn.classDefReducibility false in
/-- The loop by its invariant. -/
def loop (c : Dev nD) (E : Set ℕ) (i : grid0.Coords) (B : Refs) (Xu : Cont F B.uv) (Xg : Cont F B.ug) (Xw : Cont F B.w) (Xd : Cont F B.dx) (G9 : Cont F B.out) (G : Cont F B.dw) :
    LoopInv (M := 𝕄) frame (wpE (defs₀ (F := F)) Variants.none (c : Thread nD τ) none) E k0_t1_loop.lb k0_t1_loop.ub k0_t1_loop.st k0_t1_ok () (region (F := F) i B) where
  inv n _ := inv c i B Xu Xg Xw Xd G9 G n
  step k acc := by
    iintro ⟨HU, HG, HW, HD, ⟨%fo, HO, %ho⟩, ⟨%fd, HA, %hd⟩⟩
    iapply (wp_wand_r frame (wpE (defs₀ (F := F)) Variants.none (c : Thread nD τ) none) E)
    isplitl [HU HG HW HD HO HA]
    · iapply ((trip c i B Xu Xg Xw Xd k).2.2 E fo fd)
      isplitl [HU HG HW HD]
      · isplitl [HU]; · iexact HU
        isplitl [HG]; · iexact HG
        isplitl [HW]; · iexact HW
        iexact HD
      isplitl [HO]; · iexact HO
      iexact HA
    · iintro %_ ⟨⟨HU, HG, HW, HD⟩, HO, HA⟩
      isplitl [HU]; · iexact HU
      isplitl [HG]; · iexact HG
      isplitl [HW]; · iexact HW
      isplitl [HD]; · iexact HD
      rw [pcs_succ]
      isplitl [HO]
      · iexists _; isplitl [HO]; · iexact HO
        ipureintro; rw [ho, hd, ← View.writes_append]
      iexists _; isplitl [HA]; · iexact HA
      ipureintro; rw [hd, ← View.writes_append]

set_option warn.classDefReducibility false in
/-- The same invariant at buffers named one by one. -/
@[sl_loop] def loopAt (c : Dev nD) (E : Set ℕ) (i : grid0.Coords) (dp : Memref sig .tc .vmem S256x1024 .f32) (hdp : dp.IsWhole) (uv : Memref sig .tc .vmem S256x1024 .f32) (huv : uv.IsWhole) (ug : Memref sig .tc .vmem S256x1024 .f32) (hug : ug.IsWhole) (z : Memref sig .tc .vmem S256x1024 .f32) (hz : z.IsWhole) (a1 : Memref sig .tc .vmem S256x1024 .f32) (ha1 : a1.IsWhole) (w : Memref sig .tc .vmem S32x8x1024 .f32) (hw : w.IsWhole) (g : Memref sig .tc .vmem S1x1024 .f32) (hg : g.IsWhole) (b : Memref sig .tc .vmem S1x1024 .f32) (hb : b.IsWhole) (out : Memref sig .tc .vmem S256x3072 .bf16) (hout : out.IsWhole) (small : Memref sig .tc .vmem S40x1024 .f32) (hsmall : small.IsWhole) (ext : Memref sig .tc .vmem S296x1024 .f32) (hext : ext.IsWhole) (dx : Memref sig .tc .vmem S8x288x1024 .f32) (hdx : dx.IsWhole) (carry : Memref sig .tc .vmem S32x1024 .f32) (hcarry : carry.IsWhole) (dw : Memref sig .tc .vmem S32x8x1024 .f32) (hdw : dw.IsWhole) (Xu : Cont F uv) (Xg : Cont F ug) (Xw : Cont F w) (Xd : Cont F dx) (G9 : Cont F out) (G : Cont F dw) :
    LoopInv (M := 𝕄) frame (wpE (defs₀ (F := F)) Variants.none (c : Thread nD τ) none) E k0_t1_loop.lb k0_t1_loop.ub k0_t1_loop.st k0_t1_ok ()
      (k0_t1_body (F := F) i dp hdp uv huv ug hug z hz a1 ha1 w hw g hg b hb out hout small hsmall ext hext dx hdx carry hcarry dw hdw) where
  inv n _ := iprop(at' c uv Xu ∗ at' c ug Xg ∗ at' c w Xw ∗ at' c dx Xd
    ∗ (∃ f, at' c out f ∗ ⌜f = out.view.writes (Elt F) G9 (pcs c i ⟨dp, uv, ug, z, a1, w, g, b, out, small, ext, dx, carry, dw, hdp, huv, hug, hz, ha1, hw, hg, hb, hout, hsmall, hext, hdx, hcarry, hdw⟩ Xu Xg Xw Xd G n).1⌝)
    ∗ (∃ f, at' c dw f ∗ ⌜f = dw.view.writes (Elt F) G (pcs c i ⟨dp, uv, ug, z, a1, w, g, b, out, small, ext, dx, carry, dw, hdp, huv, hug, hz, ha1, hw, hg, hb, hout, hsmall, hext, hdx, hcarry, hdw⟩ Xu Xg Xw Xd G n).2⌝))
  step k acc := (loop (F := F) c E i ⟨dp, uv, ug, z, a1, w, g, b, out, small, ext, dx, carry, dw, hdp, huv, hug, hz, ha1, hw, hg, hb, hout, hsmall, hext, hdx, hcarry, hdw⟩ Xu Xg Xw Xd G9 G).step k acc

/-- The arguments' blocks held at their contents. -/
def ins (c : Dev nD) (B : Refs) (X : In F) : sProp 𝕄 :=
  iprop(owns (c : Thread nD τ) B.dp fullShare X.dp ∗ owns (c : Thread nD τ) B.uv fullShare X.uv ∗ owns (c : Thread nD τ) B.ug fullShare X.ug ∗ owns (c : Thread nD τ) B.z fullShare X.z ∗ owns (c : Thread nD τ) B.a1 fullShare X.a1 ∗ owns (c : Thread nD τ) B.w fullShare X.w ∗ owns (c : Thread nD τ) B.g fullShare X.g ∗ owns (c : Thread nD τ) B.b fullShare X.b)

/-- The pieces that a point's stores leave, the last store first. -/
structure Pieces (F : FTy → Type) where
  out : List (View.Piece (Elt F) S256x3072 .bf16)
  small : List (View.Piece (Elt F) S40x1024 .f32)
  carry : List (View.Piece (Elt F) S32x1024 .f32)

set_option maxHeartbeats 8000000 in
/-- The body runs at any point, and what it stores are pieces that depend on the arguments' blocks, the sums so far and the
    carried rows only. -/
def run (c : Dev nD) (i : grid0.Coords) (B : Refs) (X : In F) (s : Vec F S40x1024 .f32) (r : Vec F S32x1024 .f32) (fst : Bool) (hb : first i ↔ fst = true) :
    { P : Pieces F // ∀ (E : Set ℕ) (K : PUnit → sProp 𝕄),
      iprop(ins c B X ∗ (∃ d, owns (c : Thread nD τ) B.out fullShare d) ∗ owns (c : Thread nD τ) B.small fullShare s
          ∗ (∃ d, owns (c : Thread nD τ) B.ext fullShare d) ∗ (∃ d, owns (c : Thread nD τ) B.dx fullShare d)
          ∗ owns (c : Thread nD τ) B.carry fullShare r ∗ (∃ d, owns (c : Thread nD τ) B.dw fullShare d)
          ∗ (iprop(ins c B X ∗ (∃ f, at' c B.out (B.out.view.writes (Elt F) f P.out))
              ∗ (∃ f, at' c B.small (B.small.view.writes (Elt F) f P.small) ∗ ⌜fst = false → f = B.hsmall.unread s⌝)
              ∗ (∃ f, at' c B.ext f) ∗ (∃ f, at' c B.dx f)
              ∗ (∃ f, at' c B.carry (B.carry.view.writes (Elt F) f P.carry)) ∗ (∃ f, at' c B.dw f)) -∗ K ⟨⟩))
        ⊢ wp frame (wpE (defs₀ (F := F)) Variants.none c none) E (body i B) K } := by
  cases fst
  all_goals
    first
    | have hc0 : first i := hb.mpr rfl
    | have hc0 : ¬first i := fun h => Bool.noConfusion (hb.mp h)
    refine ⟨⟨?_, ?_, ?_⟩, fun E K => ?run⟩
    case run =>
      dsimp only
      unfold body
      simp only [cc0_conv_bwd_eq_skeleton]; unfold cc0_conv_bwd_skel
      simp only [k0_part31_eq_skeleton, k0_part32_eq_skeleton, k0_part33_eq_skeleton, k0_part34_eq_skeleton]; unfold k0_part31_skel k0_part32_skel k0_part33_skel k0_part34_skel
      unfold ins owns
      iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩⟩, ⟨%d8, %f8, -, H8⟩, ⟨%f9, %hf9, H9⟩, ⟨%d10, %f10, -, H10⟩, ⟨%d11, %f11, -, H11⟩, ⟨%f12, %hf12, H12⟩, ⟨%d13, %f13, -, H13⟩, Hk⟩
      obtain rfl := B.hdp.eq_unread hf0; obtain rfl := B.huv.eq_unread hf1; obtain rfl := B.hug.eq_unread hf2; obtain rfl := B.hz.eq_unread hf3; obtain rfl := B.ha1.eq_unread hf4; obtain rfl := B.hw.eq_unread hf5; obtain rfl := B.hg.eq_unread hf6; obtain rfl := B.hb.eq_unread hf7; obtain rfl := B.hsmall.eq_unread hf9; obtain rfl := B.hcarry.eq_unread hf12
      sl_exec (disch := first | sl_exact hc0)
      sl_step
      iapply Hk
      isplitl [H0 H1 H2 H3 H4 H5 H6 H7]
      · isplitl [H0]
        · iexists _; isplitr; · ipureintro; exact B.hdp.read_unread _
          iexact H0
        isplitl [H1]
        · iexists _; isplitr; · ipureintro; exact B.huv.read_unread _
          iexact H1
        isplitl [H2]
        · iexists _; isplitr; · ipureintro; exact B.hug.read_unread _
          iexact H2
        isplitl [H3]
        · iexists _; isplitr; · ipureintro; exact B.hz.read_unread _
          iexact H3
        isplitl [H4]
        · iexists _; isplitr; · ipureintro; exact B.ha1.read_unread _
          iexact H4
        isplitl [H5]
        · iexists _; isplitr; · ipureintro; exact B.hw.read_unread _
          iexact H5
        isplitl [H6]
        · iexists _; isplitr; · ipureintro; exact B.hg.read_unread _
          iexact H6
        iexists _; isplitr; · ipureintro; exact B.hb.read_unread _
        iexact H7
      isplitl [H8]; · iexists _; iexact H8
      isplitl [H9]
      · iexists _; isplitl [H9]; · iexact H9
        ipureintro; first | exact fun _ => rfl | exact fun h => Bool.noConfusion h
      isplitl [H10]; · iexists _; iexact H10
      isplitl [H11]; · iexists _; iexact H11
      isplitl [H12]; · iexists _; iexact H12
      iexists _; iexact H13

end Cert.Proof.Conv

end

end
-- ==== Proof.ConvPoint.lean ====
/- The points of the backward call of the causal convolution: the buffers and blocks of each, what the points before it
   leave in the parameters' gradients and in the carried rows, and that a point's stores cover what they should. -/
module

public import proofs.«01_k».proof.Proof.ConvRun
public import proofs.«01_k».proof.Proof.Gen.ConvIdeal.Frame

@[expose] public section

set_option maxRecDepth 16384

noncomputable section

namespace Cert.Proof.Conv

open Cert.ConvIdeal Cert.ConvIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

/-- A point is the first exactly when its number is zero. -/
theorem first_iff : ∀ t : Fin cfg0.N, first (grid0.coords t) ↔ decide (t.val = 0) = true :=
  (fun t => by
    have ht : t.val < 32 := Nat.lt_of_lt_of_eq t.isLt N_0
    have e0 : (grid0.coords t 0).val = t.val / 1 % 32 := Pipeline.Grid.coords_val t 0 (by decide) rfl
    rw [decide_eq_true_iff]
    simp only [first, e0]
    word_cmp
   : ∀ t : Fin grid0.N, first (grid0.coords t) ↔ decide (t.val = 0) = true)

/-- The buffers of point `t`. -/
def refs (t : Fin cfg0.N) : Refs where
  dp := st0_0 t
  uv := st0_1 t
  ug := st0_2 t
  z := st0_3 t
  a1 := st0_4 t
  w := st0_5 t
  g := st0_6 t
  b := st0_7 t
  out := st0_8 t
  small := st0_9 t
  ext := Memref.whole cc0_scratch0
  dx := Memref.whole cc0_scratch1
  carry := Memref.whole cc0_scratch2
  dw := Memref.whole cc0_scratch3
  hdp := hstage0_0 ((cfg0.slots t 0).cast nbuf0_0)
  huv := hstage0_1 ((cfg0.slots t 1).cast nbuf0_1)
  hug := hstage0_2 ((cfg0.slots t 2).cast nbuf0_2)
  hz := hstage0_3 ((cfg0.slots t 3).cast nbuf0_3)
  ha1 := hstage0_4 ((cfg0.slots t 4).cast nbuf0_4)
  hw := hstage0_5 ((cfg0.slots t 5).cast nbuf0_5)
  hg := hstage0_6 ((cfg0.slots t 6).cast nbuf0_6)
  hb := hstage0_7 ((cfg0.slots t 7).cast nbuf0_7)
  hout := hstage0_8 ((cfg0.slots t 8).cast nbuf0_8)
  hsmall := hstage0_9 ((cfg0.slots t 9).cast nbuf0_9)
  hext := Memref.isWhole_whole _
  hdx := Memref.isWhole_whole _
  hcarry := Memref.isWhole_whole _
  hdw := Memref.isWhole_whole _

variable (m : (ℓ : Loc nD τ sig) → Buf (Elt F) ℓ)

/-- The arguments' blocks at point `t`. -/
def blks (c : Dev nD) (t : Fin cfg0.N) : In F where
  dp := iblk m c 0 t
  uv := iblk m c 1 t
  ug := iblk m c 2 t
  z := iblk m c 3 t
  a1 := iblk m c 4 t
  w := iblk m c 5 t
  g := iblk m c 6 t
  b := iblk m c 7 t

/-- The pieces that point `t` stores when the parameters' gradients are `s` and the carried rows `r` before it. -/
def ptAt (c : Dev nD) (t : Fin cfg0.N) (s : Vec F S40x1024 .f32) (r : Vec F S32x1024 .f32) : Pieces F :=
  (run c (grid0.coords t) (refs t) (blks m c t) s r (decide (t.val = 0)) (first_iff t)).1

/-- At the first point the pieces do not depend on what the buffers held. -/
theorem run_first (c : Dev nD) (i : grid0.Coords) (B : Refs) (X : In F) (s s' : Vec F S40x1024 .f32) (r r' : Vec F S32x1024 .f32) (fst : Bool)
    (hb : first i ↔ fst = true) (hf : fst = true) : (run c i B X s r fst hb).1 = (run c i B X s' r' fst hb).1 := by
  subst hf; rfl

/-- What point `t` leaves in the parameters' gradients. -/
def smallOf (t : Fin cfg0.N) (s : Vec F S40x1024 .f32) (P : Pieces F) : Vec F S40x1024 .f32 :=
  if t.val = 0 then View.canon P.small else (refs t).small.view.read (Elt F) ((refs t).small.view.writes (Elt F) ((refs t).hsmall.unread s) P.small)

/-- Before point `n`: the parameters' gradients so far, and the carried rows. -/
def stateAt (c : Dev nD) : ℕ → Vec F S40x1024 .f32 × Vec F S32x1024 .f32
  | 0 => (View.canon [], View.canon [])
  | n + 1 => if h : n < cfg0.N then
      (smallOf ⟨n, h⟩ (stateAt c n).1 (ptAt m c ⟨n, h⟩ (stateAt c n).1 (stateAt c n).2),
        View.canon (ptAt m c ⟨n, h⟩ (stateAt c n).1 (stateAt c n).2).carry)
    else stateAt c n

/-- The pieces that point `t` stores, the points before it having run. -/
def pt (c : Dev nD) (t : Fin cfg0.N) : Pieces F := ptAt m c t (stateAt m c t.val).1 (stateAt m c t.val).2

/-- What a point leaves, from what it finds. -/
theorem stateAt_succ (c : Dev nD) (t : Fin cfg0.N) :
    stateAt m c (t.val + 1) = (smallOf t (stateAt m c t.val).1 (pt m c t), View.canon (pt m c t).carry) := by
  rw [stateAt, dif_pos t.isLt]; rfl

/-- The loop makes sixteen trips. -/
theorem trips16 : k0_t1_loop.trips = 16 := by decide

/-- The rows that a trip stores into the gradients' block. -/
theorem off10_val : ∀ k : Fin k0_t1_loop.trips, k0_off10 k = ![16 * k.val, 0] := by decide
theorem off11_val : ∀ k : Fin k0_t1_loop.trips, k0_off11 k = ![16 * k.val, 1024] := by decide

/-- A trip stores two blocks of sixteen rows. -/
theorem trip_out (c : Dev nD) (i : grid0.Coords) (B : Refs) (Xu : Cont F B.uv) (Xg : Cont F B.ug) (Xw : Cont F B.w) (Xd : Cont F B.dx) (k : Fin k0_t1_loop.trips)
    (fd : Cont F B.dw) : ∃ v0 v1, (trip c i B Xu Xg Xw Xd k).1 fd
      = [⟨Rect.unit (s := S256x3072) (k0_off11 k) S16x1024.size (k0_off11_inb k), v1⟩,
        ⟨Rect.unit (s := S256x3072) (k0_off10 k) S16x1024.size (k0_off10_inb k), v0⟩] := by
  unfold trip; exact ⟨_, _, rfl⟩

/-- An index whose coordinates lie in a block of rows and columns is one of its. -/
theorem mem_unit {n w a b o p : ℕ} (off : Fin 2 → ℕ) (h) (ho : off = ![o, p]) (y : (⟨2, ![n, w]⟩ : Shape).Idx)
    (h0 : o ≤ (y 0).val ∧ (y 0).val < o + a) (h1 : p ≤ (y 1).val ∧ (y 1).val < p + b) :
    y ∈ (Rect.unit (s := ⟨2, ![n, w]⟩) off ![a, b] h).set := by
  subst ho
  rw [LoadRect.mem_set]; intro x
  match x with
  | ⟨0, _⟩ => exact ⟨(y 0).val - o, by show _ < a; omega, by show (y 0).val = o + 1 * _; omega⟩
  | ⟨1, _⟩ => exact ⟨(y 1).val - p, by show _ < b; omega, by show (y 1).val = p + 1 * _; omega⟩

/-- The trips before `n` cover the first `16 n` rows of the first two blocks of columns. -/
theorem pcs_cover (c : Dev nD) (i : grid0.Coords) (B : Refs) (Xu : Cont F B.uv) (Xg : Cont F B.ug) (Xw : Cont F B.w) (Xd : Cont F B.dx) (G : Cont F B.dw)
    (y : S256x3072.Idx) (hc : (y 1).val < 2048) : ∀ n ≤ 16, (y 0).val < 16 * n → ∃ p ∈ (pcs c i B Xu Xg Xw Xd G n).1, y ∈ p.1.set
  | 0, _, h => absurd h (by omega)
  | n + 1, hn, h => by
    have hk : n < k0_t1_loop.trips := by rw [trips16]; omega
    rw [pcs_succ c i B Xu Xg Xw Xd G ⟨n, hk⟩]
    rcases Nat.lt_or_ge (y 0).val (16 * n) with h0 | h0
    · obtain ⟨p, hp, hy⟩ := pcs_cover c i B Xu Xg Xw Xd G y hc n (by omega) h0
      exact ⟨p, List.mem_append_right _ hp, hy⟩
    · obtain ⟨v0, v1, e⟩ := trip_out c i B Xu Xg Xw Xd ⟨n, hk⟩ (B.dw.view.writes (Elt F) G (pcs c i B Xu Xg Xw Xd G n).2)
      rcases Nat.lt_or_ge (y 1).val 1024 with h1 | h1
      · refine ⟨_, List.mem_append_left _ (by rw [e]; exact List.mem_cons_of_mem _ (List.mem_cons_self ..)), ?_⟩
        exact mem_unit _ (k0_off10_inb ⟨n, hk⟩) (off10_val ⟨n, hk⟩) y ⟨h0, by omega⟩ ⟨by omega, by omega⟩
      · refine ⟨_, List.mem_append_left _ (by rw [e]; exact List.mem_cons_self ..), ?_⟩
        exact mem_unit _ (k0_off11_inb ⟨n, hk⟩) (off11_val ⟨n, hk⟩) y ⟨h0, by omega⟩ ⟨by omega, by omega⟩

/-- A point's stores cover the gradients' block. -/
theorem cover_out (c : Dev nD) (i : grid0.Coords) (B : Refs) (X : In F) (s : Vec F S40x1024 .f32) (r : Vec F S32x1024 .f32) (fst : Bool)
    (hb : first i ↔ fst = true) : ∀ y, ∃ p ∈ (run c i B X s r fst hb).1.out, y ∈ p.1.set := by
  intro (y : S256x3072.Idx)
  have h0 : (y 0).val < 256 := (y 0).isLt
  have h1 : (y 1).val < 3072 := (y 1).isLt
  cases fst
  all_goals
    rcases Nat.lt_or_ge (y 1).val 2048 with h2 | h2
    · obtain ⟨p, hp, hy⟩ := pcs_cover (F := F) c i B _ _ _ _ _ y h2 16 le_rfl (by omega)
      exact ⟨p, List.mem_append_left _ hp, hy⟩
    · refine ⟨_, List.mem_append_right _ (List.mem_cons_self ..), ?_⟩
      exact mem_unit _ inb_S256x3072_S256x1024_0_2048 rfl y ⟨by omega, by omega⟩ ⟨by omega, by omega⟩

/-- A point's stores cover the carried rows. -/
theorem cover_carry (c : Dev nD) (i : grid0.Coords) (B : Refs) (X : In F) (s : Vec F S40x1024 .f32) (r : Vec F S32x1024 .f32) (fst : Bool)
    (hb : first i ↔ fst = true) : ∀ y, ∃ p ∈ (run c i B X s r fst hb).1.carry, y ∈ p.1.set := by
  intro (y : S32x1024.Idx)
  have h0 : (y 0).val < 32 := (y 0).isLt
  have h1 : (y 1).val < 1024 := (y 1).isLt
  cases fst
  all_goals
    exact ⟨_, List.mem_cons_self .., mem_unit _ inb_S32x1024_S32x1024_0_0 rfl y ⟨by omega, by omega⟩ ⟨by omega, by omega⟩⟩

/-- The first point's stores cover the parameters' gradients. -/
theorem cover_small (c : Dev nD) (i : grid0.Coords) (B : Refs) (X : In F) (s : Vec F S40x1024 .f32) (r : Vec F S32x1024 .f32) (fst : Bool)
    (hb : first i ↔ fst = true) (hf : fst = true) : ∀ y, ∃ p ∈ (run c i B X s r fst hb).1.small, y ∈ p.1.set := by
  subst hf
  intro (y : S40x1024.Idx)
  have h0 : (y 0).val < 40 := (y 0).isLt
  have h1 : (y 1).val < 1024 := (y 1).isLt
  refine ⟨_, List.mem_cons_of_mem _ (List.mem_cons_of_mem _ (List.mem_cons_of_mem _ (List.mem_cons_of_mem _ (List.mem_cons_self ..)))), ?_⟩
  exact mem_unit _ inb_S40x1024_S40x1024_0_0 rfl y ⟨by omega, by omega⟩ ⟨by omega, by omega⟩

end Cert.Proof.Conv

end

end
-- ==== Proof.ConvSpec.lean ====
/- The gradients of the convolution's branch, position by position, as the kernel computes them. -/
module

public import Idealize.ShloMosaic.PureOps.Ideal
public import proofs.«01_k».proof.Proof.RetMath

@[expose] public section

noncomputable section

namespace Cert.Proof.ConvSpec

open Idealize.ShloMosaic

section

variable (y : Fin 1024 → EReal)

/-- A row's mean, its centred entries, its variance, its normalised entries. -/
def mean : EReal := Ideal.div (∑ e, y e) (Ideal.ofBits .f32 1149239296#32)
@[inherit_doc mean] def oc (d : Fin 1024) : EReal := y d - mean y
@[inherit_doc mean] def rstd : EReal := Ideal.rsqrt (mean (fun e => oc y e * oc y e) + Ideal.ofBits .f32 0x3727C5AC#32)
@[inherit_doc mean] def xhat (d : Fin 1024) : EReal := oc y d * rstd y

/-- The gradient before the norm, from the gradient after it, as the kernel writes it. -/
def lnK (g : Fin 1024 → EReal) (d : Fin 1024) : EReal :=
  rstd y * (g d - mean g - xhat y d * mean (fun e => g e * xhat y e))

end

/-- The derivative of the gate, from its argument. -/
def dsilu (x : EReal) : EReal := Ideal.logistic x * (1 + x * (1 - Ideal.logistic x))

/-- What one position of the branch reads. -/
structure Row where
  a1 : Fin 1024 → EReal
  z : Fin 1024 → EReal
  dp : Fin 1024 → EReal
  g : Fin 1024 → EReal
  b : Fin 1024 → EReal

namespace Row

variable (p : Row)

/-- The norm's output, the gradients of the branch's gate, of the norm's output, and of the convolution's. -/
def a2 (d : Fin 1024) : EReal := xhat p.a1 d * p.g d + p.b d
@[inherit_doc a2] def dz (d : Fin 1024) : EReal := p.dp d * (p.a2 d * Ideal.logistic (p.a2 d)) * dsilu (p.z d)
@[inherit_doc a2] def da2 (d : Fin 1024) : EReal := p.dp d * (p.z d * Ideal.logistic (p.z d)) * dsilu (p.a2 d)
@[inherit_doc a2] def da1 (d : Fin 1024) : EReal := lnK p.a1 (fun e => p.da2 e * p.g e) d

end Row

/-- The rows after the last are zero. -/
def next (f : Fin 8192 → Fin 1024 → EReal) (n : ℕ) (d : Fin 1024) : EReal := if h : n < 8192 then f ⟨n, h⟩ d else 0

/-- What the branch reads. -/
structure Args where
  u : Fin 8192 → Fin 1024 → EReal
  ug : Fin 8192 → Fin 1024 → EReal
  z : Fin 8192 → Fin 1024 → EReal
  dp : Fin 8192 → Fin 1024 → EReal
  w : Fin 31 → Fin 1024 → EReal
  cb : Fin 1024 → EReal
  g : Fin 1024 → EReal
  b : Fin 1024 → EReal

namespace Args

variable (A : Args)

/-- The convolution's input, the same below thirty zero rows, and the convolution's output. -/
def a0 (R : Fin 8192) (d : Fin 1024) : EReal := A.u R d * Ideal.logistic (A.ug R d)
@[inherit_doc a0] def pad (n : ℕ) (d : Fin 1024) : EReal := if h : 30 ≤ n ∧ n < 8222 then A.a0 ⟨n - 30, by omega⟩ d else 0
@[inherit_doc a0] def a1 (R : Fin 8192) (d : Fin 1024) : EReal := (∑ j : Fin 31, A.pad (R.val + j.val) d * A.w j d) + A.cb d

/-- A position of the branch. -/
def row (R : Fin 8192) : Row where
  a1 := A.a1 R
  z := A.z R
  dp := A.dp R
  g := A.g
  b := A.b

/-- The gradients at the convolution's input, and at a tap. -/
def da0 (R : Fin 8192) (d : Fin 1024) : EReal := ∑ j : Fin 31, A.w j d * next (fun R => (A.row R).da1) (R.val + (30 - j.val)) d
@[inherit_doc da0] def dw (j : Fin 31) (d : Fin 1024) : EReal := ∑ R : Fin 8192, A.a0 R d * next (fun R => (A.row R).da1) (R.val + (30 - j.val)) d

/-- The three gradients of the projection's columns. -/
def grad (R : Fin 8192) (b : Fin 3) (d : Fin 1024) : EReal :=
  match b with
  | 0 => A.da0 R d * Ideal.logistic (A.ug R d)
  | 1 => A.da0 R d * A.u R d * Ideal.logistic (A.ug R d) * (1 - Ideal.logistic (A.ug R d))
  | 2 => (A.row R).dz d

/-- The rows of the parameters' gradients. -/
def small (n : ℕ) (d : Fin 1024) : EReal :=
  if h : n < 31 then A.dw ⟨n, h⟩ d
  else if n = 31 then ∑ R, (A.row R).da1 d
  else if n = 32 then ∑ R, (A.row R).da2 d * xhat (A.a1 R) d
  else if n = 33 then ∑ R, (A.row R).da2 d
  else 0

end Args

end Cert.Proof.ConvSpec

end
-- ==== Proof.ConvRows.lean ====
/- One position's gradients as a point of the backward convolution computes them: the norm's, the two gates', and the
   gradient at the convolution's output. -/
module

public import proofs.«01_k».proof.Proof.ConvPoint
public import proofs.«01_k».proof.Proof.ConvSpec
public import Idealize.ShloMosaic.Lib.Pointwise

@[expose] public section

set_option maxRecDepth 16384

noncomputable section

namespace Cert.Proof.Conv

open Cert.ConvIdeal Cert.ConvIdeal.Gen
open Idealize.ShloMosaic Idealize.ShloMosaic.TcCoe Idealize.SL.Sem

/-- The position that row `r` of the blocks belongs to. -/
def In.row (X : In Ideal) (r : Fin 256) : ConvSpec.Row where
  a1 d := X.a1 (ix2 r d)
  z d := X.z (ix2 r d)
  dp d := X.dp (ix2 r d)
  g d := X.g (ix2 0 d)
  b d := X.b (ix2 0 d)

section

variable {F : FTy → Type} [FloatOps F] (X : In F)

/-- The gradients at the norm's output and at the convolution's output, over the blocks. -/
def dA2 : FVec F S256x1024 .f32 :=
  k0_pay191 (k0_pay182 X.a1 X.g X.b) (k0_pay183 X.a1 X.g X.b) (k0_pay184 X.z) (k0_pay185 X.z) (k0_pay186 X.dp)
@[inherit_doc dA2] def dA1 : FVec F S256x1024 .f32 :=
  k0_pay198 (k0_pay180 X.a1) (k0_pay181 X.a1)
    (k0_pay195 X.g (k0_pay182 X.a1 X.g X.b) (k0_pay183 X.a1 X.g X.b) (k0_pay184 X.z) (k0_pay185 X.z) (k0_pay186 X.dp))
    (k0_pay196 (k0_pay181 X.a1) X.g (k0_pay182 X.a1 X.g X.b) (k0_pay183 X.a1 X.g X.b) (k0_pay184 X.z) (k0_pay185 X.z) (k0_pay186 X.dp)) k0_pay197

end

variable (X : In Ideal) (r : Fin 256) (d : Fin 1024)

/-- The normalised entries, -/
theorem xhat_apply : k0_pay181 X.a1 (ix2 r d) = ConvSpec.xhat (X.row r).a1 d := by
  pointwise [k0_pay181, k0_pay180, k0_pay179]; rfl

/-- the norm's output, -/
theorem a2_apply : k0_pay182 X.a1 X.g X.b (ix2 r d) = (X.row r).a2 d := by
  pointwise [k0_pay182, xhat_apply]; rfl

/-- its gradient, -/
theorem dA2_apply : dA2 X (ix2 r d) = (X.row r).da2 d := by
  pointwise [dA2, k0_pay191, k0_pay183, k0_pay184, k0_pay185, k0_pay186, a2_apply]; rfl

/-- the gradient of the branch's gate, -/
theorem dz_apply : k0_pay190 (k0_pay185 X.z) (k0_pay187 X.a1 X.g X.b X.dp) (k0_pay188 X.z) k0_pay189 (ix2 r d) = (X.row r).dz d := by
  pointwise [k0_pay190, k0_pay187, k0_pay188, k0_pay189, k0_pay183, k0_pay184, k0_pay185, k0_pay186, a2_apply]; rfl

/-- and the gradient at the convolution's output. -/
theorem dA1_apply : dA1 X (ix2 r d) = (X.row r).da1 d := by
  have e (e : Fin 1024) : k0_pay194 X.g (k0_pay182 X.a1 X.g X.b) (k0_pay183 X.a1 X.g X.b) (k0_pay184 X.z) (k0_pay185 X.z) (k0_pay186 X.dp) (ix2 r e)
      = (X.row r).da2 e * (X.row r).g e := by
    refine Eq.trans ?_ (congrArg (· * (X.row r).g e) (dA2_apply X r e))
    pointwise [k0_pay194]; rfl
  have e0 : k0_pay180 X.a1 (ix2 r 0) = ConvSpec.rstd (X.row r).a1 := by pointwise [k0_pay180, k0_pay179]; rfl
  pointwise [dA1, k0_pay198, k0_pay195, k0_pay196, k0_pay197, e, e0, xhat_apply]; rfl

end Cert.Proof.Conv

end

end
-- ==== Proof.ConvShape.lean ====
/- What a point of the backward convolution stores, written out: the extended rows and their shifted copies, the loop's
   pieces, the parameters' gradients, the rows carried to the next point. -/
module

public import proofs.«01_k».proof.Proof.ConvRows

@[expose] public section

set_option maxRecDepth 16384

noncomputable section

namespace Cert.Proof.Conv

open Cert.ConvIdeal Cert.ConvIdeal.Gen
open Idealize.ShloMosaic Idealize.ShloMosaic.TcCoe Idealize.SL.Sem

variable {F : FTy → Type} [FloatOps F] (c : Dev nD) (i : grid0.Coords) (B : Refs) (X Y : In F) (s : Vec F S40x1024 .f32) (r q : Vec F S32x1024 .f32)

/-- The blocks as the body loads them. -/
def loads : In F where
  dp := View.readAt (Elt F) B.dp.view (Rect.unit (s := S256x1024) ![0, 0] S256x1024.size inb_S256x1024_S256x1024_0_0).toLoadRect (B.hdp.unread X.dp)
  uv := X.uv
  ug := X.ug
  z := View.readAt (Elt F) B.z.view (Rect.unit (s := S256x1024) ![0, 0] S256x1024.size inb_S256x1024_S256x1024_0_0).toLoadRect (B.hz.unread X.z)
  a1 := View.readAt (Elt F) B.a1.view (Rect.unit (s := S256x1024) ![0, 0] S256x1024.size inb_S256x1024_S256x1024_0_0).toLoadRect (B.ha1.unread X.a1)
  w := X.w
  g := View.readAt (Elt F) B.g.view (Rect.unit (s := S1x1024) ![0, 0] S1x1024.size inb_S1x1024_S1x1024_0_0).toLoadRect (B.hg.unread X.g)
  b := View.readAt (Elt F) B.b.view (Rect.unit (s := S1x1024) ![0, 0] S1x1024.size inb_S1x1024_S1x1024_0_0).toLoadRect (B.hb.unread X.b)

/-- They are the blocks. -/
theorem loads_eq : loads B X = X := by
  have hz : ![0, 0] = fun _ : Fin 2 => 0 := by funext a; match a with | ⟨0, _⟩ => rfl | ⟨1, _⟩ => rfl
  unfold loads
  simp only [View.readAt_eq_ld, Memref.IsWhole.read_unread, View.ld_unit_zero (S := S256x1024) hz, View.ld_unit_zero (S := S1x1024) hz]

/-- The extended rows: the block's gradients, the rows carried over, eight rows of zeros. -/
def extL : List (View.Piece (Elt F) S296x1024 .f32) :=
  [⟨Rect.unit (s := S296x1024) ![288, 0] S8x1024.size inb_S296x1024_S8x1024_288_0, k0_pay204⟩,
    ⟨Rect.unit (s := S296x1024) ![256, 0] S32x1024.size inb_S296x1024_S32x1024_256_0, k0_pay202 q⟩,
    ⟨Rect.unit (s := S296x1024) ![0, 0] S256x1024.size inb_S296x1024_S256x1024_0_0, k0_pay201 (k0_pay180 Y.a1) (k0_pay181 Y.a1)
      (k0_pay195 Y.g (k0_pay182 Y.a1 Y.g Y.b) (k0_pay183 Y.a1 Y.g Y.b) (k0_pay184 Y.z) (k0_pay185 Y.z) (k0_pay186 Y.dp))
      (k0_pay196 (k0_pay181 Y.a1) Y.g (k0_pay182 Y.a1 Y.g Y.b) (k0_pay183 Y.a1 Y.g Y.b) (k0_pay184 Y.z) (k0_pay185 Y.z) (k0_pay186 Y.dp)) k0_pay197⟩]

/-- Their eight shifted copies. -/
def dxL (E : List (View.Piece (Elt F) S296x1024 .f32)) : List (View.Piece (Elt F) S8x288x1024 .f32) :=
  [⟨Rect.unit (s := S8x288x1024) ![7, 0, 0] S1x288x1024.size inb_S8x288x1024_S1x288x1024_7_0_0, k0_pay1 (B.ext.view.readCov E (Rect.unit (s := S296x1024) ![7, 0] S288x1024.size inb_S296x1024_S288x1024_7_0).toLoadRect)⟩,
    ⟨Rect.unit (s := S8x288x1024) ![6, 0, 0] S1x288x1024.size inb_S8x288x1024_S1x288x1024_6_0_0, k0_pay211 (B.ext.view.readCov E (Rect.unit (s := S296x1024) ![6, 0] S288x1024.size inb_S296x1024_S288x1024_6_0).toLoadRect)⟩,
    ⟨Rect.unit (s := S8x288x1024) ![5, 0, 0] S1x288x1024.size inb_S8x288x1024_S1x288x1024_5_0_0, k0_pay210 (B.ext.view.readCov E (Rect.unit (s := S296x1024) ![5, 0] S288x1024.size inb_S296x1024_S288x1024_5_0).toLoadRect)⟩,
    ⟨Rect.unit (s := S8x288x1024) ![4, 0, 0] S1x288x1024.size inb_S8x288x1024_S1x288x1024_4_0_0, k0_pay209 (B.ext.view.readCov E (Rect.unit (s := S296x1024) ![4, 0] S288x1024.size inb_S296x1024_S288x1024_4_0).toLoadRect)⟩,
    ⟨Rect.unit (s := S8x288x1024) ![3, 0, 0] S1x288x1024.size inb_S8x288x1024_S1x288x1024_3_0_0, k0_pay208 (B.ext.view.readCov E (Rect.unit (s := S296x1024) ![3, 0] S288x1024.size inb_S296x1024_S288x1024_3_0).toLoadRect)⟩,
    ⟨Rect.unit (s := S8x288x1024) ![2, 0, 0] S1x288x1024.size inb_S8x288x1024_S1x288x1024_2_0_0, k0_pay207 (B.ext.view.readCov E (Rect.unit (s := S296x1024) ![2, 0] S288x1024.size inb_S296x1024_S288x1024_2_0).toLoadRect)⟩,
    ⟨Rect.unit (s := S8x288x1024) ![1, 0, 0] S1x288x1024.size inb_S8x288x1024_S1x288x1024_1_0_0, k0_pay206 (B.ext.view.readCov E (Rect.unit (s := S296x1024) ![1, 0] S288x1024.size inb_S296x1024_S288x1024_1_0).toLoadRect)⟩,
    ⟨Rect.unit (s := S8x288x1024) ![0, 0, 0] S1x288x1024.size inb_S8x288x1024_S1x288x1024_0_0_0, k0_pay205 (B.ext.view.readCov E (Rect.unit (s := S296x1024) ![0, 0] S288x1024.size inb_S296x1024_S288x1024_0_0).toLoadRect)⟩]

/-- The taps' partial sums before the loop. -/
def zeroL : List (View.Piece (Elt F) S32x8x1024 .f32) :=
  [⟨Rect.unit (s := S32x8x1024) ![0, 0, 0] S32x8x1024.size inb_S32x8x1024_S32x8x1024_0_0_0, k0_pay2⟩]

/-- The loop's pieces after `n` trips. -/
def lps (n : ℕ) : List (View.Piece (Elt F) S256x3072 .bf16) × List (View.Piece (Elt F) S32x8x1024 .f32) :=
  pcs c i B (B.huv.unread X.uv) (B.hug.unread X.ug) (B.hw.unread X.w) (B.dx.view.writes (Elt F) B.dx.view.junk (dxL B (extL Y q)))
    (B.dw.view.writes (Elt F) B.dw.view.junk zeroL) n

/-- The gradients' block. -/
def outL : List (View.Piece (Elt F) S256x3072 .bf16) :=
  (lps c i B X Y q (Scf.trips 0#32 (Scalar.addi 0#32 16#32) 1#32)).1
    ++ [⟨Rect.unit (s := S256x3072) ![0, 2048] S256x1024.size inb_S256x3072_S256x1024_0_2048, k0_pay190 (k0_pay185 Y.z) (k0_pay187 Y.a1 Y.g Y.b Y.dp) (k0_pay188 Y.z) k0_pay189⟩]

/-- The taps' sums over a block. -/
def dwV : Vec F S32x8x1024 .f32 :=
  B.dw.view.readCov ((lps c i B X Y q (Scf.trips 0#32 (Scalar.addi 0#32 16#32) 1#32)).2 ++ zeroL)
    (Rect.unit (s := S32x8x1024) ![0, 0, 0] S32x8x1024.size inb_S32x8x1024_S32x8x1024_0_0_0).toLoadRect

/-- The parameters' gradients: the norm's scale and shift, the convolution's shift, its taps; each from what is there. -/
def row32 (l : Vec F S1x1024 .f32) : FVec F S1x1024 .f32 :=
  k0_pay192 (k0_pay181 Y.a1) (k0_pay182 Y.a1 Y.g Y.b) (k0_pay183 Y.a1 Y.g Y.b) (k0_pay184 Y.z) (k0_pay185 Y.z) (k0_pay186 Y.dp) l
@[inherit_doc row32] def row33 (l : Vec F S1x1024 .f32) : FVec F S1x1024 .f32 :=
  k0_pay193 (k0_pay182 Y.a1 Y.g Y.b) (k0_pay183 Y.a1 Y.g Y.b) (k0_pay184 Y.z) (k0_pay185 Y.z) (k0_pay186 Y.dp) l
@[inherit_doc row32] def row31 (l : Vec F S1x1024 .f32) : FVec F S1x1024 .f32 :=
  k0_pay199 (k0_pay180 Y.a1) (k0_pay181 Y.a1)
      (k0_pay195 Y.g (k0_pay182 Y.a1 Y.g Y.b) (k0_pay183 Y.a1 Y.g Y.b) (k0_pay184 Y.z) (k0_pay185 Y.z) (k0_pay186 Y.dp))
      (k0_pay196 (k0_pay181 Y.a1) Y.g (k0_pay182 Y.a1 Y.g Y.b) (k0_pay183 Y.a1 Y.g Y.b) (k0_pay184 Y.z) (k0_pay185 Y.z) (k0_pay186 Y.dp)) k0_pay197 l

/-- The three rows' pieces, from a row's entries at its store. -/
def sm32 (l : Vec F S1x1024 .f32) : View.Piece (Elt F) S40x1024 .f32 := ⟨Rect.unit (s := S40x1024) ![32, 0] S1x1024.size inb_S40x1024_S1x1024_32_0, row32 Y l⟩
@[inherit_doc sm32] def sm33 (l : Vec F S1x1024 .f32) : View.Piece (Elt F) S40x1024 .f32 := ⟨Rect.unit (s := S40x1024) ![33, 0] S1x1024.size inb_S40x1024_S1x1024_33_0, row33 Y l⟩
@[inherit_doc sm32] def sm31 (l : Vec F S1x1024 .f32) : View.Piece (Elt F) S40x1024 .f32 := ⟨Rect.unit (s := S40x1024) ![31, 0] S1x1024.size inb_S40x1024_S1x1024_31_0, row31 Y l⟩
/-- The first thirty-two rows' piece. -/
def smT (l : Vec F S32x1024 .f32) (t : Vec F S32x8x1024 .f32) : View.Piece (Elt F) S40x1024 .f32 := ⟨Rect.unit (s := S40x1024) ![0, 0] S32x1024.size inb_S40x1024_S32x1024_0_0, k0_pay4 l t⟩

/-- A row loaded from the sums so far. -/
def ldRow (j : ℕ) (h : ∀ a, (![j, 0] : Fin 2 → ℕ) a + S1x1024.size a ≤ S40x1024.size a) : Vec F S1x1024 .f32 := View.readAt (Elt F) B.small.view (Rect.unit (s := S40x1024) ![j, 0] S1x1024.size h).toLoadRect (B.hsmall.unread s)

/-- The later points' three rows, -/
def late3 : List (View.Piece (Elt F) S40x1024 .f32) :=
  [sm31 Y (ldRow B s 31 inb_S40x1024_S1x1024_31_0), sm33 Y (ldRow B s 33 inb_S40x1024_S1x1024_33_0), sm32 Y (ldRow B s 32 inb_S40x1024_S1x1024_32_0)]

/-- and all that they store. -/
def late : List (View.Piece (Elt F) S40x1024 .f32) :=
  smT (View.readAt (Elt F) B.small.view (Rect.unit (s := S40x1024) ![0, 0] S32x1024.size inb_S40x1024_S32x1024_0_0).toLoadRect (B.small.view.writes (Elt F) (B.hsmall.unread s) (late3 B Y s))) (dwV c i B X Y q) :: late3 B Y s

/-- The first point's zeros, its three rows, -/
def early0 : List (View.Piece (Elt F) S40x1024 .f32) := [⟨Rect.unit (s := S40x1024) ![0, 0] S40x1024.size inb_S40x1024_S40x1024_0_0, k0_pay177⟩]
@[inherit_doc early0] def early1 : List (View.Piece (Elt F) S40x1024 .f32) := sm32 Y (B.small.view.readCov early0 (Rect.unit (s := S40x1024) ![32, 0] S1x1024.size inb_S40x1024_S1x1024_32_0).toLoadRect) :: early0
@[inherit_doc early0] def early2 : List (View.Piece (Elt F) S40x1024 .f32) := sm33 Y (B.small.view.readCov (early1 B Y) (Rect.unit (s := S40x1024) ![33, 0] S1x1024.size inb_S40x1024_S1x1024_33_0).toLoadRect) :: early1 B Y
@[inherit_doc early0] def early3 : List (View.Piece (Elt F) S40x1024 .f32) := sm31 Y (B.small.view.readCov (early2 B Y) (Rect.unit (s := S40x1024) ![31, 0] S1x1024.size inb_S40x1024_S1x1024_31_0).toLoadRect) :: early2 B Y

/-- and all that it stores. -/
def early : List (View.Piece (Elt F) S40x1024 .f32) :=
  smT (B.small.view.readCov (early3 B Y) (Rect.unit (s := S40x1024) ![0, 0] S32x1024.size inb_S40x1024_S32x1024_0_0).toLoadRect) (dwV c i B X Y q) :: early3 B Y

/-- The carried rows before the first point. -/
def carry0 : List (View.Piece (Elt F) S32x1024 .f32) := [⟨Rect.unit (s := S32x1024) ![0, 0] S32x1024.size inb_S32x1024_S32x1024_0_0, k0_pay178⟩]

/-- The rows to carry. -/
def carryP : View.Piece (Elt F) S32x1024 .f32 :=
  ⟨Rect.unit (s := S32x1024) ![0, 0] S32x1024.size inb_S32x1024_S32x1024_0_0, k0_pay203 (k0_pay180 Y.a1) (k0_pay181 Y.a1)
      (k0_pay195 Y.g (k0_pay182 Y.a1 Y.g Y.b) (k0_pay183 Y.a1 Y.g Y.b) (k0_pay184 Y.z) (k0_pay185 Y.z) (k0_pay186 Y.dp))
      (k0_pay196 (k0_pay181 Y.a1) Y.g (k0_pay182 Y.a1 Y.g Y.b) (k0_pay183 Y.a1 Y.g Y.b) (k0_pay184 Y.z) (k0_pay185 Y.z) (k0_pay186 Y.dp)) k0_pay197⟩

/-- The carried rows as a point loads them. -/
def carried (fst : Bool) : Vec F S32x1024 .f32 :=
  if fst then B.carry.view.readCov carry0 (Rect.unit (s := S32x1024) ![0, 0] S32x1024.size inb_S32x1024_S32x1024_0_0).toLoadRect
  else View.readAt (Elt F) B.carry.view (Rect.unit (s := S32x1024) ![0, 0] S32x1024.size inb_S32x1024_S32x1024_0_0).toLoadRect (B.hcarry.unread r)

set_option maxHeartbeats 4000000 in
/-- A later point stores this, -/
theorem run_late (hb : first i ↔ false = true) : (run c i B X s r false hb).1
    = ⟨outL c i B X (loads B X) (carried B r false), late c i B X (loads B X) s (carried B r false), [carryP (loads B X)]⟩ := rfl

set_option maxHeartbeats 4000000 in
/-- and the first this. -/
theorem run_early (hb : first i ↔ true = true) : (run c i B X s r true hb).1
    = ⟨outL c i B X (loads B X) (carried B r true), early c i B X (loads B X) (carried B r true), carryP (loads B X) :: carry0⟩ := rfl

end Cert.Proof.Conv

end

end
-- ==== Proof.ConvTrip.lean ====
/- What one trip of the backward convolution's loop stores, on extended real numbers: the sums over the taps in the rows
   of the gradients, and what it adds to each tap's partial sums. -/
module

public import proofs.«01_k».proof.Proof.ConvPoint
public import Idealize.ShloMosaic.Lib.Pointwise
public import Idealize.ShloMosaic.Lib.WritesUnit
public import Idealize.ShloMosaic.Lib.Pipeline.ReadBack
public import Idealize.ShloMosaic.Lib.Pipeline.ValueKit

@[expose] public section

set_option maxRecDepth 16384

noncomputable section

namespace Cert.Proof.Conv

open Cert.ConvIdeal Cert.ConvIdeal.Gen
open Idealize.ShloMosaic Idealize.ShloMosaic.TcCoe Idealize.SL.Sem

/-- An entry of one of the eight shifted copies, zero outside. -/
def gx (X : S8x288x1024.Idx → EReal) (s r d : ℕ) : EReal := if h : s < 8 ∧ r < 288 ∧ d < 1024 then X (ix3 ⟨s, h.1⟩ ⟨r, h.2.1⟩ ⟨d, h.2.2⟩) else 0

/-- An entry of a table of taps, zero outside. -/
def gt (X : S32x8x1024.Idx → EReal) (j : ℕ) (i : Fin 8) (d : Fin 1024) : EReal := if h : j < 32 then X (ix3 ⟨j, h⟩ i d) else 0

/-- An entry of a block of rows, zero outside. -/
def gr (X : S256x1024.Idx → EReal) (r : ℕ) (d : Fin 1024) : EReal := if h : r < 256 then X (ix2 ⟨r, h⟩ d) else 0

section

variable (M : Memref sig .tc .vmem S8x288x1024 .f32) (X : Cont Ideal M)

/-- Eight rows loaded from a shifted copy. -/
theorem win_apply (off : Fin 3 → ℕ) (h) (i : Fin 8) (d : Fin 1024) :
    View.readAt (Elt Ideal) M.view (Rect.unit (s := S8x288x1024) off ![1, 8, 1024] h).toLoadRect X (ix3 0 i d)
      = gx (M.view.read (Elt Ideal) X) (off 0) (off 1 + i.val) (off 2 + d.val) := by
  have h0 : off 0 + 1 ≤ 8 := h 0
  have h1 : off 1 + 8 ≤ 288 := h 1
  have h2 : off 2 + 1024 ≤ 1024 := h 2
  rw [gx, dif_pos ⟨by omega, by omega, by omega⟩]
  refine congrArg (M.view.read (Elt Ideal) X) (funext fun a => Fin.ext ?_)
  match a with
  | ⟨0, _⟩ => exact Nat.add_zero (off 0)
  | ⟨1, _⟩ => show off 1 + 1 * i.val = off 1 + i.val; omega
  | ⟨2, _⟩ => show off 2 + 1 * d.val = off 2 + d.val; omega

end

/-- The rows that a trip loads: they start at a multiple of eight at or after the trip's first row. -/
theorem row_val (k : Fin k0_t1_loop.trips) (o : BitVec 32) (h : o.toNat % 8 = 0 ∧ o.toNat ≤ 32) :
    (Scalar.indexCast (Scalar.addi (Scalar.muli (Scf.iv 0#32 1#32 k) 16#32) o) : Index).toNat = 16 * k.val + o.toNat := by
  have key : ∀ k : Fin k0_t1_loop.trips, ∀ j : Fin 5, (Scalar.indexCast (Scalar.addi (Scalar.muli (Scf.iv 0#32 1#32 k) 16#32) (BitVec.ofNat 32 (8 * j.val))) : Index).toNat = 16 * k.val + 8 * j.val := by decide
  have e : o = BitVec.ofNat 32 (8 * (o.toNat / 8)) := by
    apply BitVec.eq_of_toNat_eq; rw [BitVec.toNat_ofNat, Nat.mod_eq_of_lt (by omega)]; omega
  have := key k ⟨o.toNat / 8, by omega⟩
  rw [← e] at this
  rw [this]; show 16 * k.val + 8 * (o.toNat / 8) = _; omega

section

variable (M : Memref sig .tc .vmem S32x8x1024 .f32) (X : Cont Ideal M)

/-- A tap's row loaded from a table. -/
theorem tap_apply (j : ℕ) (h) (i : Fin 8) (d : Fin 1024) :
    View.readAt (Elt Ideal) M.view (Rect.unit (s := S32x8x1024) ![j, 0, 0] ![1, 8, 1024] h).toLoadRect X (ix3 0 i d) = gt (M.view.read (Elt Ideal) X) j i d := by
  have h0 : j + 1 ≤ 32 := h 0
  rw [gt, dif_pos (by omega)]
  refine congrArg (M.view.read (Elt Ideal) X) (funext fun a => Fin.ext ?_)
  match a with
  | ⟨0, _⟩ => exact Nat.add_zero j
  | ⟨1, _⟩ => show 0 + 1 * i.val = i.val; omega
  | ⟨2, _⟩ => show 0 + 1 * d.val = d.val; omega

/-- A tap's row loaded back from the pieces stored. -/
theorem tap_cov (L : List (View.Piece (Elt Ideal) S32x8x1024 .f32)) (j : ℕ) (h) (i : Fin 8) (d : Fin 1024) :
    M.view.readCov L (Rect.unit (s := S32x8x1024) ![j, 0, 0] ![1, 8, 1024] h).toLoadRect (ix3 0 i d) = gt (View.canon L) j i d := by
  have h0 : j + 1 ≤ 32 := h 0
  rw [gt, dif_pos (by omega), View.readCov_eq_canon']
  refine congrArg (View.canon L) (funext fun a => Fin.ext ?_)
  match a with
  | ⟨0, _⟩ => exact Nat.add_zero j
  | ⟨1, _⟩ => show 0 + 1 * i.val = i.val; omega
  | ⟨2, _⟩ => show 0 + 1 * d.val = d.val; omega

/-- A piece's own row holds its values, -/
theorem canon_hit (L : List (View.Piece (Elt Ideal) S32x8x1024 .f32)) (j : ℕ) (h) (w : Vec Ideal S1x8x1024 .f32) (i : Fin 8) (d : Fin 1024) :
    gt (View.canon (⟨Rect.unit (s := S32x8x1024) ![j, 0, 0] ![1, 8, 1024] h, w⟩ :: L)) j i d = w (ix3 0 i d) := by
  have h0 : j + 1 ≤ 32 := h 0
  rw [gt, dif_pos (by omega)]
  have e : (ix3 (⟨j, by omega⟩ : Fin 32) i d : S32x8x1024.Idx) = (Rect.unit (s := S32x8x1024) ![j, 0, 0] ![1, 8, 1024] h).emb (ix3 0 i d) := funext fun a => Fin.ext (by
    match a with
    | ⟨0, _⟩ => exact (Nat.add_zero j).symm
    | ⟨1, _⟩ => show i.val = 0 + 1 * i.val; omega
    | ⟨2, _⟩ => show d.val = 0 + 1 * d.val; omega)
  rw [e]; exact View.canon_cons_emb _ _ _ _

/-- and the other rows what the pieces before it hold. -/
theorem canon_miss (L : List (View.Piece (Elt Ideal) S32x8x1024 .f32)) (j' : ℕ) (h) (w : Vec Ideal S1x8x1024 .f32) (j : ℕ) (hj : j' ≠ j) (i : Fin 8) (d : Fin 1024) :
    gt (View.canon (⟨Rect.unit (s := S32x8x1024) ![j', 0, 0] ![1, 8, 1024] h, w⟩ :: L)) j i d = gt (View.canon L) j i d := by
  unfold gt
  split
  · refine View.canon_cons_of_not_mem _ _ fun hm => ?_
    rw [LoadRect.mem_set] at hm
    obtain ⟨x, hx⟩ := hm 0
    have : x < 1 := hx.1
    have e : j = j' + 1 * x := hx.2
    omega
  · rfl

/-- A row that a piece of the list covers is read from the pieces. -/
theorem read_rows (L : List (View.Piece (Elt Ideal) S32x8x1024 .f32)) (f : Cont Ideal M) (j : ℕ) (h) (w : (Rect.unit (s := S32x8x1024) ![j, 0, 0] ![1, 8, 1024] h).shape.Idx → Elt Ideal .f32) (hm : (⟨Rect.unit (s := S32x8x1024) ![j, 0, 0] ![1, 8, 1024] h, w⟩ : View.Piece (Elt Ideal) S32x8x1024 .f32) ∈ L) (i : Fin 8) (d : Fin 1024) :
    gt (M.view.read (Elt Ideal) (M.view.writes (Elt Ideal) f L)) j i d = gt (View.canon L) j i d := by
  have h0 : j + 1 ≤ 32 := h 0
  rw [gt, gt, dif_pos (by omega), dif_pos (by omega)]
  refine View.read_writes_apply_eq_canon _ _ _ _ ⟨_, hm, ?_⟩
  rw [LoadRect.mem_set]; intro a
  match a with
  | ⟨0, _⟩ => exact ⟨0, Nat.one_pos, (Nat.add_zero j).symm⟩
  | ⟨1, _⟩ => exact ⟨i.val, i.isLt, by show i.val = 0 + 1 * i.val; omega⟩
  | ⟨2, _⟩ => exact ⟨d.val, d.isLt, by show d.val = 0 + 1 * d.val; omega⟩

end

section

variable (B : Refs) (Xu : Cont Ideal B.uv) (Xg : Cont Ideal B.ug) (Xw : Cont Ideal B.w) (Xd : Cont Ideal B.dx) (k : Fin k0_t1_loop.trips)

/-- The sum over the taps at row `r + i`: a tap `j` meets the row `30 - j` rows on. -/
def tapSum (W : S32x8x1024.Idx → EReal) (D : S8x288x1024.Idx → EReal) (r : ℕ) (i : Fin 8) (d : Fin 1024) : EReal :=
  ∑ j ∈ Finset.range 31, gt W j i d * gx D ((30 - j) % 8) (r + 8 * ((30 - j) / 8) + i.val) d

/-- The first eight rows' sum, -/
theorem sum_first (i : Fin 8) (d : Fin 1024) : trip.sl.r_30 B Xw Xd k (ix2 i d) = tapSum (B.w.view.read (Elt Ideal) Xw) (B.dx.view.read (Elt Ideal) Xd) (16 * k.val) i d := by
  unfold tapSum
  simp only [Finset.sum_range_succ, Finset.sum_range_zero]
  pointwise [
    trip.sl.r_11, trip.sl.r_13, trip.sl.r_14, trip.sl.r_15, trip.sl.r_16, trip.sl.r_17, trip.sl.r_19, trip.sl.r_21, trip.sl.r_22, trip.sl.r_24, trip.sl.r_26, trip.sl.r_27, trip.sl.r_28,
    trip.sl.r_29, trip.sl.r_30, trip.sl.r_4, trip.sl.r_6, trip.sl.r_8, trip.sl.r_9, k0_pay9, k0_pay10, k0_pay12, k0_pay13, k0_pay15, k0_pay17, k0_pay18, k0_pay20, k0_pay22, k0_pay23,
    k0_pay26, k0_pay28, k0_pay29, k0_pay32, k0_pay34, k0_pay35, k0_pay37, k0_pay39, k0_pay40, k0_pay42, k0_pay44, k0_pay45, k0_pay47, k0_pay49, k0_pay50, k0_pay52, k0_pay53, k0_pay55,
    k0_pay57, k0_pay58, k0_pay60, k0_pay62, k0_pay63, k0_pay66, k0_pay68, k0_pay69, k0_pay72, k0_pay74, k0_pay75, k0_pay77, k0_pay79, k0_pay80, k0_pay82, k0_pay84, k0_pay85, k0_pay87,
    k0_pay89, k0_pay90]
  simp only [win_apply, tap_apply]
  simp (disch := decide) only [k0_off2, k0_off3, k0_off4, k0_off5, k0_off6, k0_off7, k0_off8, k0_off9, row_val, Matrix.cons_val, Nat.zero_add]
  rfl

/-- and the next eight rows'. -/
theorem sum_second (i : Fin 8) (d : Fin 1024) :
    trip.sl.r_57 B Xw Xd k (ix2 i d) + View.readAt (Elt Ideal) B.w.view (Rect.unit (s := S32x8x1024) ![30, 0, 0] ![1, 8, 1024] inb_S32x8x1024_S1x8x1024_30_0_0).toLoadRect Xw (ix3 0 i d) * trip.sl.r_58 B Xd k (ix2 i d)
      = tapSum (B.w.view.read (Elt Ideal) Xw) (B.dx.view.read (Elt Ideal) Xd) (16 * k.val + 8) i d := by
  unfold tapSum
  simp only [Finset.sum_range_succ, Finset.sum_range_zero]
  pointwise [
    trip.sl.r_58, k0_pay172, trip.sl.r_32, trip.sl.r_34, trip.sl.r_36, trip.sl.r_37, trip.sl.r_39, trip.sl.r_41, trip.sl.r_42, trip.sl.r_43, trip.sl.r_44, trip.sl.r_45, trip.sl.r_47,
    trip.sl.r_49, trip.sl.r_50, trip.sl.r_52, trip.sl.r_54, trip.sl.r_55, trip.sl.r_56, trip.sl.r_57, k0_pay93, k0_pay94, k0_pay96, k0_pay98, k0_pay99, k0_pay101, k0_pay103, k0_pay104,
    k0_pay106, k0_pay108, k0_pay109, k0_pay112, k0_pay114, k0_pay115, k0_pay118, k0_pay120, k0_pay121, k0_pay123, k0_pay125, k0_pay126, k0_pay128, k0_pay130, k0_pay131, k0_pay133,
    k0_pay135, k0_pay137, k0_pay138, k0_pay140, k0_pay142, k0_pay143, k0_pay145, k0_pay147, k0_pay148, k0_pay151, k0_pay153, k0_pay154, k0_pay157, k0_pay159, k0_pay160, k0_pay162,
    k0_pay164, k0_pay165, k0_pay167, k0_pay169, k0_pay170]
  simp only [win_apply, tap_apply]
  simp (disch := decide) only [k0_off2, k0_off3, k0_off4, k0_off5, k0_off6, k0_off7, k0_off8, k0_off9, row_val, Matrix.cons_val, Nat.zero_add]
  rfl

/-- Both sums, one above the other. -/
theorem stack_apply (a b e : FVec Ideal S8x1024 .f32) (w : Vec Ideal S1x8x1024 .f32) (r : Fin 16) (i : Fin 8) (d : Fin 1024) :
    (r.val = i.val → k0_pay174 a b e w (ix2 r d) = a (ix2 i d)) ∧ (r.val = 8 + i.val → k0_pay174 a b e w (ix2 r d) = b (ix2 i d) + w (ix3 0 i d) * e (ix2 i d)) := by
  constructor
  all_goals
    intro h
    pointwise [k0_pay174]
  · rw [dif_pos (by omega)]
    exact congrArg a (congrArg (ix2 · d) (Fin.ext h))
  · have e0 : (⟨r.val - 8, by omega⟩ : Fin 8) = i := Fin.ext (by show r.val - 8 = _; omega)
    rw [dif_neg (by omega), e0]

/-- The rows of the convolution's input that a trip reads. -/
def rowA0 (U G : S256x1024.Idx → EReal) (r : ℕ) (d : Fin 1024) : EReal := gr U r d * Ideal.logistic (gr G r d)

/-- Sixteen rows loaded from a block. -/
theorem rows_apply (M : Memref sig .tc .vmem S256x1024 .f32) (X : Cont Ideal M) (h) (r : Fin 16) (d : Fin 1024) :
    View.readAt (Elt Ideal) M.view (Rect.unit (s := S256x1024) (k0_off1 k) ![16, 1024] h).toLoadRect X (ix2 r d) = gr (M.view.read (Elt Ideal) X) (16 * k.val + r.val) d := by
  have ho : ∀ k : Fin k0_t1_loop.trips, k0_off1 k 0 = 16 * k.val ∧ k0_off1 k 1 = 0 := by decide
  have hk : k.val < 16 := Nat.lt_of_lt_of_eq k.isLt trips16
  rw [gr, dif_pos (by omega)]
  refine congrArg (M.view.read (Elt Ideal) X) (funext fun a => Fin.ext ?_)
  match a with
  | ⟨0, _⟩ => show k0_off1 k 0 + 1 * r.val = 16 * k.val + r.val; rw [(ho k).1]; omega
  | ⟨1, _⟩ => show k0_off1 k 1 + 1 * d.val = d.val; rw [(ho k).2]; omega

/-- The first eight rows of it, -/
theorem a0_first (i : Fin 8) (d : Fin 1024) : trip.sl.r_3 B Xu Xg k (ix2 i d) = rowA0 (B.uv.view.read (Elt Ideal) Xu) (B.ug.view.read (Elt Ideal) Xg) (16 * k.val + i.val) d := by
  pointwise [trip.sl.r_3, k0_pay8, k0_pay7, k0_pay5, k0_pay6]
  rw [rows_apply, rows_apply]; rfl
/-- and the next eight rows. -/
theorem a0_second (i : Fin 8) (d : Fin 1024) : trip.sl.r_31 B Xu Xg k (ix2 i d) = rowA0 (B.uv.view.read (Elt Ideal) Xu) (B.ug.view.read (Elt Ideal) Xg) (16 * k.val + 8 + i.val) d := by
  pointwise [trip.sl.r_31, trip.sl.r_2, k0_pay92, k0_pay7, k0_pay5, k0_pay6]
  rw [rows_apply, rows_apply, ← Nat.add_assoc]; rfl

set_option maxHeartbeats 20000000 in
/-- What a trip adds to a tap's partial sums. -/
theorem trip_dw (c : Dev nD) (I : grid0.Coords) (fd : Cont Ideal B.dw) (j : ℕ) (hj : j < 31) (i : Fin 8) (d : Fin 1024) :
    gt (View.canon ((trip c I B Xu Xg Xw Xd k).2.1 fd)) j i d
      = gt (B.dw.view.read (Elt Ideal) fd) j i d
        + trip.sl.r_3 B Xu Xg k (ix2 i d) * gx (B.dx.view.read (Elt Ideal) Xd) ((30 - j) % 8) (16 * k.val + 8 * ((30 - j) / 8) + i.val) d
        + trip.sl.r_31 B Xu Xg k (ix2 i d) * gx (B.dx.view.read (Elt Ideal) Xd) ((30 - j) % 8) (16 * k.val + 8 + 8 * ((30 - j) / 8) + i.val) d := by
  unfold trip
  dsimp only
  interval_cases j
  all_goals
    simp (disch := decide) only [
      ↓trip.sl.HA_61, ↓trip.sl.HA_60, ↓trip.sl.HA_59, ↓trip.sl.HA_58, ↓trip.sl.HA_57, ↓trip.sl.HA_56, ↓trip.sl.HA_55, ↓trip.sl.HA_54, ↓trip.sl.HA_53, ↓trip.sl.HA_52, ↓trip.sl.HA_51,
      ↓trip.sl.HA_50, ↓trip.sl.HA_49, ↓trip.sl.HA_48, ↓trip.sl.HA_47, ↓trip.sl.HA_46, ↓trip.sl.HA_45, ↓trip.sl.HA_44, ↓trip.sl.HA_43, ↓trip.sl.HA_42, ↓trip.sl.HA_41, ↓trip.sl.HA_40,
      ↓trip.sl.HA_39, ↓trip.sl.HA_38, ↓trip.sl.HA_37, ↓trip.sl.HA_36, ↓trip.sl.HA_35, ↓trip.sl.HA_34, ↓trip.sl.HA_33, ↓trip.sl.HA_32, ↓trip.sl.HA_31, ↓canon_miss, ↓canon_hit]
    pointwise [
      trip.sl.v1089, k0_pay173, trip.sl.r_58, k0_pay172, trip.sl.r_10, trip.sl.r_12, trip.sl.r_16, trip.sl.r_18, trip.sl.r_20, trip.sl.r_23, trip.sl.r_25, trip.sl.r_29, trip.sl.r_32,
      trip.sl.r_33, trip.sl.r_35, trip.sl.r_38, trip.sl.r_40, trip.sl.r_43, trip.sl.r_45, trip.sl.r_46, trip.sl.r_48, trip.sl.r_5, trip.sl.r_51, trip.sl.r_53, trip.sl.r_56, trip.sl.r_7,
      trip.sl.v1014, trip.sl.v1029, trip.sl.v1044, trip.sl.v1059, trip.sl.v1074, trip.sl.v187, trip.sl.v202, trip.sl.v217, trip.sl.v232, trip.sl.v247, trip.sl.v262, trip.sl.v277,
      trip.sl.v292, trip.sl.v307, trip.sl.v322, trip.sl.v337, trip.sl.v352, trip.sl.v367, trip.sl.v382, trip.sl.v397, trip.sl.v412, trip.sl.v427, trip.sl.v442, trip.sl.v457,
      trip.sl.v472, trip.sl.v487, trip.sl.v502, trip.sl.v517, trip.sl.v532, trip.sl.v547, trip.sl.v562, trip.sl.v577, trip.sl.v592, trip.sl.v607, trip.sl.v622, trip.sl.v639,
      trip.sl.v654, trip.sl.v669, trip.sl.v684, trip.sl.v699, trip.sl.v714, trip.sl.v729, trip.sl.v744, trip.sl.v759, trip.sl.v774, trip.sl.v789, trip.sl.v804, trip.sl.v819,
      trip.sl.v834, trip.sl.v849, trip.sl.v864, trip.sl.v879, trip.sl.v894, trip.sl.v909, trip.sl.v924, trip.sl.v939, trip.sl.v954, trip.sl.v969, trip.sl.v984, trip.sl.v999, k0_pay9,
      k0_pay11, k0_pay12, k0_pay14, k0_pay15, k0_pay16, k0_pay17, k0_pay19, k0_pay20, k0_pay21, k0_pay22, k0_pay24, k0_pay25, k0_pay26, k0_pay27, k0_pay28, k0_pay30, k0_pay31, k0_pay32,
      k0_pay33, k0_pay34, k0_pay36, k0_pay37, k0_pay38, k0_pay39, k0_pay41, k0_pay42, k0_pay43, k0_pay44, k0_pay46, k0_pay47, k0_pay48, k0_pay49, k0_pay51, k0_pay52, k0_pay54, k0_pay55,
      k0_pay56, k0_pay57, k0_pay59, k0_pay60, k0_pay61, k0_pay62, k0_pay64, k0_pay65, k0_pay66, k0_pay67, k0_pay68, k0_pay70, k0_pay71, k0_pay72, k0_pay73, k0_pay74, k0_pay76, k0_pay77,
      k0_pay78, k0_pay79, k0_pay81, k0_pay82, k0_pay83, k0_pay84, k0_pay86, k0_pay87, k0_pay88, k0_pay89, k0_pay91, k0_pay94, k0_pay95, k0_pay96, k0_pay97, k0_pay98, k0_pay100,
      k0_pay101, k0_pay102, k0_pay103, k0_pay105, k0_pay106, k0_pay107, k0_pay108, k0_pay110, k0_pay111, k0_pay112, k0_pay113, k0_pay114, k0_pay116, k0_pay117, k0_pay118, k0_pay119,
      k0_pay120, k0_pay122, k0_pay123, k0_pay124, k0_pay125, k0_pay127, k0_pay128, k0_pay129, k0_pay130, k0_pay132, k0_pay133, k0_pay134, k0_pay135, k0_pay136, k0_pay137, k0_pay139,
      k0_pay140, k0_pay141, k0_pay142, k0_pay144, k0_pay145, k0_pay146, k0_pay147, k0_pay149, k0_pay150, k0_pay151, k0_pay152, k0_pay153, k0_pay155, k0_pay156, k0_pay157, k0_pay158,
      k0_pay159, k0_pay161, k0_pay162, k0_pay163, k0_pay164, k0_pay166, k0_pay167, k0_pay168, k0_pay169, k0_pay171]
    simp only [tap_cov]
    simp (disch := decide) only [
      ↓trip.sl.HA_61, ↓trip.sl.HA_60, ↓trip.sl.HA_59, ↓trip.sl.HA_58, ↓trip.sl.HA_57, ↓trip.sl.HA_56, ↓trip.sl.HA_55, ↓trip.sl.HA_54, ↓trip.sl.HA_53, ↓trip.sl.HA_52, ↓trip.sl.HA_51,
      ↓trip.sl.HA_50, ↓trip.sl.HA_49, ↓trip.sl.HA_48, ↓trip.sl.HA_47, ↓trip.sl.HA_46, ↓trip.sl.HA_45, ↓trip.sl.HA_44, ↓trip.sl.HA_43, ↓trip.sl.HA_42, ↓trip.sl.HA_41, ↓trip.sl.HA_40,
      ↓trip.sl.HA_39, ↓trip.sl.HA_38, ↓trip.sl.HA_37, ↓trip.sl.HA_36, ↓trip.sl.HA_35, ↓trip.sl.HA_34, ↓trip.sl.HA_33, ↓trip.sl.HA_32, ↓trip.sl.HA_31, ↓canon_miss, ↓canon_hit]
    pointwise [
      trip.sl.r_10, trip.sl.r_12, trip.sl.r_16, trip.sl.r_18, trip.sl.r_20, trip.sl.r_23, trip.sl.r_25, trip.sl.r_29, trip.sl.r_32, trip.sl.r_33, trip.sl.r_35, trip.sl.r_38,
      trip.sl.r_40, trip.sl.r_43, trip.sl.r_45, trip.sl.r_46, trip.sl.r_48, trip.sl.r_5, trip.sl.r_51, trip.sl.r_53, trip.sl.r_56, trip.sl.r_7, trip.sl.v1014, trip.sl.v1029,
      trip.sl.v1044, trip.sl.v1059, trip.sl.v1074, trip.sl.v187, trip.sl.v202, trip.sl.v217, trip.sl.v232, trip.sl.v247, trip.sl.v262, trip.sl.v277, trip.sl.v292, trip.sl.v307,
      trip.sl.v322, trip.sl.v337, trip.sl.v352, trip.sl.v367, trip.sl.v382, trip.sl.v397, trip.sl.v412, trip.sl.v427, trip.sl.v442, trip.sl.v457, trip.sl.v472, trip.sl.v487,
      trip.sl.v502, trip.sl.v517, trip.sl.v532, trip.sl.v547, trip.sl.v562, trip.sl.v577, trip.sl.v592, trip.sl.v607, trip.sl.v622, trip.sl.v639, trip.sl.v654, trip.sl.v669,
      trip.sl.v684, trip.sl.v699, trip.sl.v714, trip.sl.v729, trip.sl.v744, trip.sl.v759, trip.sl.v774, trip.sl.v789, trip.sl.v804, trip.sl.v819, trip.sl.v834, trip.sl.v849,
      trip.sl.v864, trip.sl.v879, trip.sl.v894, trip.sl.v909, trip.sl.v924, trip.sl.v939, trip.sl.v954, trip.sl.v969, trip.sl.v984, trip.sl.v999, k0_pay9, k0_pay11, k0_pay12, k0_pay14,
      k0_pay15, k0_pay16, k0_pay17, k0_pay19, k0_pay20, k0_pay21, k0_pay22, k0_pay24, k0_pay25, k0_pay26, k0_pay27, k0_pay28, k0_pay30, k0_pay31, k0_pay32, k0_pay33, k0_pay34, k0_pay36,
      k0_pay37, k0_pay38, k0_pay39, k0_pay41, k0_pay42, k0_pay43, k0_pay44, k0_pay46, k0_pay47, k0_pay48, k0_pay49, k0_pay51, k0_pay52, k0_pay54, k0_pay55, k0_pay56, k0_pay57, k0_pay59,
      k0_pay60, k0_pay61, k0_pay62, k0_pay64, k0_pay65, k0_pay66, k0_pay67, k0_pay68, k0_pay70, k0_pay71, k0_pay72, k0_pay73, k0_pay74, k0_pay76, k0_pay77, k0_pay78, k0_pay79, k0_pay81,
      k0_pay82, k0_pay83, k0_pay84, k0_pay86, k0_pay87, k0_pay88, k0_pay89, k0_pay91, k0_pay94, k0_pay95, k0_pay96, k0_pay97, k0_pay98, k0_pay100, k0_pay101, k0_pay102, k0_pay103,
      k0_pay105, k0_pay106, k0_pay107, k0_pay108, k0_pay110, k0_pay111, k0_pay112, k0_pay113, k0_pay114, k0_pay116, k0_pay117, k0_pay118, k0_pay119, k0_pay120, k0_pay122, k0_pay123,
      k0_pay124, k0_pay125, k0_pay127, k0_pay128, k0_pay129, k0_pay130, k0_pay132, k0_pay133, k0_pay134, k0_pay135, k0_pay136, k0_pay137, k0_pay139, k0_pay140, k0_pay141, k0_pay142,
      k0_pay144, k0_pay145, k0_pay146, k0_pay147, k0_pay149, k0_pay150, k0_pay151, k0_pay152, k0_pay153, k0_pay155, k0_pay156, k0_pay157, k0_pay158, k0_pay159, k0_pay161, k0_pay162,
      k0_pay163, k0_pay164, k0_pay166, k0_pay167, k0_pay168, k0_pay169, k0_pay171]
    simp only [win_apply, tap_apply]
    simp (disch := decide) only [k0_off2, k0_off3, k0_off4, k0_off5, k0_off6, k0_off7, k0_off8, k0_off9, row_val, Matrix.cons_val, Nat.zero_add]
    rfl

/-- The sum over the taps at a row. -/
def tapAt (W : S32x8x1024.Idx → EReal) (D : S8x288x1024.Idx → EReal) (R : ℕ) (d : Fin 1024) : EReal :=
  ∑ j ∈ Finset.range 31, gt W j ⟨R % 8, Nat.mod_lt _ (by decide)⟩ d * gx D ((30 - j) % 8) (R + 8 * ((30 - j) / 8)) d

/-- It is that of the row's group of eight. -/
theorem tapSum_eq (W : S32x8x1024.Idx → EReal) (D : S8x288x1024.Idx → EReal) (r : ℕ) (hr : r % 8 = 0) (i : Fin 8) (d : Fin 1024) : tapSum W D r i d = tapAt W D (r + i.val) d := by
  refine Finset.sum_congr rfl fun j _ => ?_
  have e0 : (⟨(r + i.val) % 8, Nat.mod_lt _ (by decide)⟩ : Fin 8) = i := Fin.ext (by show (r + i.val) % 8 = _; omega)
  rw [e0, Nat.add_right_comm]

/-- The sums that a trip stores, row by row. -/
theorem sums_apply (r : Fin 16) (d : Fin 1024) :
    k0_pay174 (trip.sl.r_30 B Xw Xd k) (trip.sl.r_57 B Xw Xd k) (trip.sl.r_58 B Xd k)
        (View.readAt (Elt Ideal) B.w.view (Rect.unit (s := S32x8x1024) ![30, 0, 0] ![1, 8, 1024] inb_S32x8x1024_S1x8x1024_30_0_0).toLoadRect Xw) (ix2 r d)
      = tapAt (B.w.view.read (Elt Ideal) Xw) (B.dx.view.read (Elt Ideal) Xd) (16 * k.val + r.val) d := by
  rcases Nat.lt_or_ge r.val 8 with h | h
  · refine ((stack_apply _ _ _ _ r ⟨r.val, h⟩ d).1 rfl).trans ((sum_first B Xw Xd k _ d).trans (tapSum_eq _ _ _ (by omega) _ d))
  · refine ((stack_apply _ _ _ _ r ⟨r.val - 8, by omega⟩ d).2 (by show r.val = 8 + (r.val - 8); omega)).trans ((sum_second B Xw Xd k _ d).trans ((tapSum_eq _ _ _ (by omega) _ d).trans ?_))
    exact congrArg (fun n => tapAt _ _ n d) (by show 16 * k.val + 8 + (r.val - 8) = _; omega)

/-- What a trip stores into the gradients' block. -/
theorem trip_vals (c : Dev nD) (I : grid0.Coords) (fd : Cont Ideal B.dw) : ∃ v0 v1, (trip c I B Xu Xg Xw Xd k).1 fd
      = [⟨Rect.unit (s := S256x3072) (k0_off11 k) S16x1024.size (k0_off11_inb k), v1⟩,
        ⟨Rect.unit (s := S256x3072) (k0_off10 k) S16x1024.size (k0_off10_inb k), v0⟩]
    ∧ (∀ r d, v0 (ix2 r d) = tapAt (B.w.view.read (Elt Ideal) Xw) (B.dx.view.read (Elt Ideal) Xd) (16 * k.val + r.val) d
      * Ideal.logistic (gr (B.ug.view.read (Elt Ideal) Xg) (16 * k.val + r.val) d))
    ∧ (∀ r d, v1 (ix2 r d) = tapAt (B.w.view.read (Elt Ideal) Xw) (B.dx.view.read (Elt Ideal) Xd) (16 * k.val + r.val) d
      * gr (B.uv.view.read (Elt Ideal) Xu) (16 * k.val + r.val) d * Ideal.logistic (gr (B.ug.view.read (Elt Ideal) Xg) (16 * k.val + r.val) d)
      * (1 - Ideal.logistic (gr (B.ug.view.read (Elt Ideal) Xg) (16 * k.val + r.val) d))) := by
  unfold trip
  refine ⟨_, _, rfl, fun (r : Fin 16) (d : Fin 1024) => ?_, fun (r : Fin 16) (d : Fin 1024) => ?_⟩
  · pointwise [k0_pay175, trip.sl.r_1, k0_pay6]
    rw [sums_apply, rows_apply]
  · pointwise [k0_pay3, trip.sl.r_59, k0_pay176, trip.sl.r, trip.sl.r_1, k0_pay5, k0_pay6]
    rw [sums_apply, rows_apply, rows_apply]

end

end Cert.Proof.Conv

end

end
-- ==== Proof.ConvLoads.lean ====
/- What the loop of the backward convolution reads and leaves: the extended rows, their shifted copies, the taps' sums. -/
module

public import proofs.«01_k».proof.Proof.ConvShape
public import proofs.«01_k».proof.Proof.ConvTrip

@[expose] public section

set_option maxRecDepth 16384

noncomputable section

namespace Cert.Proof.Conv

open Cert.ConvIdeal Cert.ConvIdeal.Gen
open Idealize.ShloMosaic Idealize.ShloMosaic.TcCoe Idealize.SL.Sem

section

variable {n w a b : ℕ} {e : EltTy} (L : List (View.Piece (Elt Ideal) ⟨2, ![n, w]⟩ e)) (off : Fin 2 → ℕ) (h) (o p : ℕ) (ho : off = ![o, p])
  (v : Vec Ideal ⟨2, ![a, b]⟩ e) (y0 : Fin n) (y1 : Fin w)

include ho

/-- A rectangle stored last holds its own entries, -/
theorem hit2 (r : Fin a) (d : Fin b) (e0 : y0.val = o + r.val) (e1 : y1.val = p + d.val) :
    View.canon (⟨Rect.unit (s := ⟨2, ![n, w]⟩) off ![a, b] h, v⟩ :: L) (ix2 y0 y1) = v (ix2 r d) := by
  subst ho
  have e : (ix2 y0 y1 : (⟨2, ![n, w]⟩ : Shape).Idx) = (Rect.unit (s := ⟨2, ![n, w]⟩) ![o, p] ![a, b] h).emb (ix2 r d) := funext fun x => Fin.ext (by
    match x with
    | ⟨0, _⟩ => show y0.val = o + 1 * r.val; omega
    | ⟨1, _⟩ => show y1.val = p + 1 * d.val; omega)
  rw [e]; exact View.canon_cons_emb _ _ _ _

/-- and outside it what was stored before. -/
theorem miss2 (hm : ¬(o ≤ y0.val ∧ y0.val < o + a ∧ p ≤ y1.val ∧ y1.val < p + b)) :
    View.canon (⟨Rect.unit (s := ⟨2, ![n, w]⟩) off ![a, b] h, v⟩ :: L) (ix2 y0 y1) = View.canon L (ix2 y0 y1) := by
  subst ho
  refine View.canon_cons_of_not_mem _ _ fun hx => hm ?_
  rw [LoadRect.mem_set] at hx
  obtain ⟨x0, h0⟩ := hx 0
  obtain ⟨x1, h1⟩ := hx 1
  have a0 : x0 < a := h0.1
  have a1 : x1 < b := h1.1
  have b0 : y0.val = o + 1 * x0 := h0.2
  have b1 : y1.val = p + 1 * x1 := h1.2
  omega

end

/-- A row of the extended rows: of the block, carried over, or zero. -/
def ext (X : In Ideal) (q : Vec Ideal S32x1024 .f32) (n : ℕ) (d : Fin 1024) : EReal :=
  if h : n < 256 then dA1 X (ix2 ⟨n, h⟩ d) else if h : n < 288 then q (ix2 ⟨n - 256, by omega⟩ d) else 0

variable (B : Refs) (X : In Ideal) (q : Vec Ideal S32x1024 .f32)

/-- The extended rows as stored. -/
theorem ext_apply (n : Fin 296) (d : Fin 1024) : View.canon (extL X q) (ix2 n d) = ext X q n.val d := by
  have hn := n.isLt
  have hd := d.isLt
  unfold extL ext
  split
  · rw [miss2 _ _ _ 288 0 rfl _ _ _ (by omega), miss2 _ _ _ 256 0 rfl _ _ _ (by omega), hit2 _ _ _ 0 0 rfl _ _ _ ⟨n.val, by omega⟩ d (by simp) (by simp)]
    pointwise [k0_pay201, k0_pay200, dA1]
  split
  · rw [miss2 _ _ _ 288 0 rfl _ _ _ (by omega), hit2 _ _ _ 256 0 rfl _ _ _ ⟨n.val - 256, by omega⟩ d (by show n.val = 256 + (n.val - 256); omega) (by simp)]
    pointwise [k0_pay202]
  · rw [hit2 _ _ _ 288 0 rfl _ _ _ ⟨n.val - 288, by omega⟩ d (by show n.val = 288 + (n.val - 288); omega) (by simp)]
    pointwise [k0_pay204]

/-- A shifted copy among the pieces. -/
def Copy (E : List (View.Piece (Elt Ideal) S296x1024 .f32)) (s : ℕ) (p : View.Piece (Elt Ideal) S8x288x1024 .f32) : Prop :=
  ∃ (hs : s < 8) (h : _) (v : Vec Ideal S1x288x1024 .f32), p = ⟨Rect.unit (s := S8x288x1024) ![s, 0, 0] S1x288x1024.size h, v⟩
    ∧ ∀ (r : Fin 288) (d : Fin 1024), v (ix3 0 r d) = View.canon E (ix2 ⟨s + r.val, by omega⟩ d)

/-- Loading the extended rows from row `s` on. -/
theorem cov_apply (E : List (View.Piece (Elt Ideal) S296x1024 .f32)) (s : ℕ) (hs : s < 8) (h) (r : Fin 288) (d : Fin 1024) :
    B.ext.view.readCov E (Rect.unit (s := S296x1024) ![s, 0] ![288, 1024] h).toLoadRect (ix2 r d) = View.canon E (ix2 ⟨s + r.val, by omega⟩ d) := by
  rw [View.readCov_eq_canon']
  refine congrArg (View.canon E) (funext fun a => Fin.ext ?_)
  match a with
  | ⟨0, _⟩ => show s + 1 * r.val = s + r.val; omega
  | ⟨1, _⟩ => show 0 + 1 * d.val = d.val; omega

/-- The pieces are the eight copies. -/
theorem copies (E : List (View.Piece (Elt Ideal) S296x1024 .f32)) : List.Forall₂ (Copy E) [7, 6, 5, 4, 3, 2, 1, 0] (dxL B E) := by
  unfold dxL
  refine .cons ?_ (.cons ?_ (.cons ?_ (.cons ?_ (.cons ?_ (.cons ?_ (.cons ?_ (.cons ?_ .nil)))))))
  all_goals
    refine ⟨by decide, _, _, rfl, fun r d => ?_⟩
    pointwise [k0_pay1, k0_pay205, k0_pay206, k0_pay207, k0_pay208, k0_pay209, k0_pay210, k0_pay211]
    refine (cov_apply B E _ ?_ _ r d).trans (congrArg (fun n => View.canon E (ix2 n d)) (Fin.ext ?_))
    · decide
    · simp only [Nat.zero_add]

/-- A copy's row is the extended row that many further on. -/
theorem copy_apply (E : List (View.Piece (Elt Ideal) S296x1024 .f32)) (s : Fin 8) (r : Fin 288) (d : Fin 1024) :
    ∀ (ls : List ℕ) (L : List (View.Piece (Elt Ideal) S8x288x1024 .f32)), List.Forall₂ (Copy E) ls L → s.val ∈ ls →
      View.canon L (ix3 s r d) = View.canon E (ix2 ⟨s.val + r.val, by omega⟩ d)
  | _, _, .nil, hm => absurd hm List.not_mem_nil
  | s' :: ls, p :: L, .cons hp hL, hm => by
    obtain ⟨hs, h, v, rfl, hv⟩ := hp
    by_cases e : s.val = s'
    · subst e
      refine Eq.trans ?_ (hv r d)
      have e : (ix3 s r d : S8x288x1024.Idx) = (Rect.unit (s := S8x288x1024) ![s.val, 0, 0] S1x288x1024.size h).emb (ix3 0 r d) := funext fun x => Fin.ext (by
        match x with
        | ⟨0, _⟩ => exact (Nat.add_zero s.val).symm
        | ⟨1, _⟩ => show r.val = 0 + 1 * r.val; omega
        | ⟨2, _⟩ => show d.val = 0 + 1 * d.val; omega)
      rw [e]; exact View.canon_cons_emb _ _ _ _
    · refine Eq.trans ?_ (copy_apply E s r d ls L hL ((List.mem_cons.mp hm).resolve_left e))
      refine View.canon_cons_of_not_mem _ _ fun hx => e ?_
      rw [LoadRect.mem_set] at hx
      obtain ⟨x, hx⟩ := hx 0
      have h0 : x < 1 := hx.1
      have h1 : s.val = s' + 1 * x := hx.2
      omega

/-- The shifted copies as the loop reads them. -/
theorem dx_apply (f : Cont Ideal B.dx) (hf : f = B.dx.view.writes (Elt Ideal) B.dx.view.junk (dxL B (extL X q))) (s r : ℕ) (hs : s < 8) (hr : r < 288) (d : Fin 1024) :
    gx (B.dx.view.read (Elt Ideal) f) s r d.val = ext X q (s + r) d := by
  subst hf
  rw [gx, dif_pos ⟨hs, hr, d.isLt⟩, View.read_writes_junk_eq_canon, ← ext_apply X q ⟨s + r, by omega⟩ d]
  exact copy_apply _ ⟨s, hs⟩ ⟨r, hr⟩ d _ _ (copies B _) (by show s ∈ _; rcases s with _|_|_|_|_|_|_|_|s <;> first | decide | omega)

/-- A tap's row among the pieces. -/
def RowOf (j : ℕ) (p : View.Piece (Elt Ideal) S32x8x1024 .f32) : Prop :=
  ∃ (h : _) (w : Vec Ideal S1x8x1024 .f32), p = ⟨Rect.unit (s := S32x8x1024) ![j, 0, 0] S1x8x1024.size h, w⟩

/-- A trip stores every tap's row twice, the last tap's first. -/
theorem trip_rows (Xu : Cont Ideal B.uv) (Xg : Cont Ideal B.ug) (Xw : Cont Ideal B.w) (Xd : Cont Ideal B.dx) (k : Fin k0_t1_loop.trips) (c : Dev nD) (I : grid0.Coords) (fd : Cont Ideal B.dw) :
    List.Forall₂ RowOf ((List.range 31).reverse ++ (List.range 31).reverse) ((trip c I B Xu Xg Xw Xd k).2.1 fd) := by
  unfold trip
  dsimp only
  show List.Forall₂ RowOf [30, 29, 28, 27, 26, 25, 24, 23, 22, 21, 20, 19, 18, 17, 16, 15, 14, 13, 12, 11, 10, 9, 8, 7, 6, 5, 4, 3, 2, 1, 0,
    30, 29, 28, 27, 26, 25, 24, 23, 22, 21, 20, 19, 18, 17, 16, 15, 14, 13, 12, 11, 10, 9, 8, 7, 6, 5, 4, 3, 2, 1, 0] _
  repeat refine List.Forall₂.cons ⟨_, _, rfl⟩ ?_
  exact .nil

/-- A row stored is among the pieces. -/
theorem row_mem (j : ℕ) : ∀ (ls : List ℕ) (L : List (View.Piece (Elt Ideal) S32x8x1024 .f32)), List.Forall₂ RowOf ls L → j ∈ ls → ∃ p ∈ L, RowOf j p
  | _, _, .nil, hm => absurd hm List.not_mem_nil
  | _ :: ls, p :: L, .cons hp hL, hm => by
    rcases List.mem_cons.mp hm with rfl | h
    · exact ⟨p, List.mem_cons_self .., hp⟩
    · obtain ⟨p', hm', hp'⟩ := row_mem j ls L hL h
      exact ⟨p', List.mem_cons_of_mem _ hm', hp'⟩

/-- A row that is not stored stays. -/
theorem row_stays (M : Memref sig .tc .vmem S32x8x1024 .f32) (f : Cont Ideal M) (j : ℕ) (i : Fin 8) (d : Fin 1024) :
    ∀ (ls : List ℕ) (L : List (View.Piece (Elt Ideal) S32x8x1024 .f32)), List.Forall₂ RowOf ls L → j ∉ ls →
      gt (M.view.read (Elt Ideal) (M.view.writes (Elt Ideal) f L)) j i d = gt (M.view.read (Elt Ideal) f) j i d
  | _, _, .nil, _ => rfl
  | j' :: ls, p :: L, .cons hp hL, hm => by
    obtain ⟨h, w, rfl⟩ := hp
    have hj : j ≠ j' := fun e => hm (List.mem_cons.mpr (.inl e))
    refine Eq.trans ?_ (row_stays M f j i d ls L hL fun h => hm (List.mem_cons_of_mem _ h))
    unfold gt
    split
    · exact View.read_writes_cons_unit_of_not_mem _ _ _ _ _ _ rfl 0 (by show j < j' ∨ j' + 1 ≤ j; omega)
    · rfl

end Cert.Proof.Conv

end

end
-- ==== Proof.ConvVals.lean ====
/- The values that a point of the backward convolution leaves: its block of the gradients, what it adds to the parameters'
   gradients, the rows it carries to the next point. -/
module

public import proofs.«01_k».proof.Proof.ConvLoads

@[expose] public section

set_option maxRecDepth 16384

noncomputable section

namespace Cert.Proof.Conv

open Cert.ConvIdeal Cert.ConvIdeal.Gen
open Idealize.ShloMosaic Idealize.ShloMosaic.TcCoe Idealize.SL.Sem

variable (c : Dev nD) (I : grid0.Coords) (B : Refs) (X : In Ideal) (q : Vec Ideal S32x1024 .f32)

/-- The gradient at the convolution's input, from the extended rows. -/
def dA0 (R : ℕ) (d : Fin 1024) : EReal :=
  ∑ j ∈ Finset.range 31, gt X.w j ⟨R % 8, Nat.mod_lt _ (by decide)⟩ d * ext X q (R + (30 - j)) d

/-- The sum that the loop makes of the shifted copies is this one. -/
theorem tapAt_apply (f : Cont Ideal B.dx) (hf : f = B.dx.view.writes (Elt Ideal) B.dx.view.junk (dxL B (extL X q))) (R : ℕ) (hR : R < 256) (d : Fin 1024) :
    tapAt (B.w.view.read (Elt Ideal) (B.hw.unread X.w)) (B.dx.view.read (Elt Ideal) f) R d = dA0 X q R d := by
  refine Finset.sum_congr rfl fun j hj => ?_
  have hj := Finset.mem_range.mp hj
  rw [Memref.IsWhole.read_unread, dx_apply B X q f hf _ _ (by omega) (by omega)]
  exact congrArg (fun n => _ * ext X q n d) (by omega)

/-- The columns of a position's gradients. -/
def gradV (R : Fin 256) (b : Fin 3) (d : Fin 1024) : EReal :=
  match b with
  | 0 => dA0 X q R.val d * Ideal.logistic (X.ug (ix2 R d))
  | 1 => dA0 X q R.val d * X.uv (ix2 R d) * Ideal.logistic (X.ug (ix2 R d)) * (1 - Ideal.logistic (X.ug (ix2 R d)))
  | 2 => (X.row R).dz d

/-- What the trips before `n` have stored into the first two columns' blocks, -/
theorem cols_apply (tl : List (View.Piece (Elt Ideal) S256x3072 .bf16)) (R : Fin 256) (b : Fin 3) (hb : b.val < 2) (d : Fin 1024) (y : Fin 3072) (hy : y.val = 1024 * b.val + d.val) :
    ∀ n ≤ 16, R.val < 16 * n → View.canon ((lps c I B X X q n).1 ++ tl) (ix2 R y) = gradV X q R b d
  | 0, _, h => absurd h (by omega)
  | n + 1, hn, h => by
    have hk : n < k0_t1_loop.trips := by rw [trips16]; omega
    have hd := d.isLt
    unfold lps
    rw [pcs_succ c I B _ _ _ _ _ ⟨n, hk⟩]
    obtain ⟨v0, v1, e, h0, h1⟩ := trip_vals B (B.huv.unread X.uv) (B.hug.unread X.ug) (B.hw.unread X.w) (B.dx.view.writes (Elt Ideal) B.dx.view.junk (dxL B (extL X q))) ⟨n, hk⟩ c I
      (B.dw.view.writes (Elt Ideal) (B.dw.view.writes (Elt Ideal) B.dw.view.junk zeroL) (lps c I B X X q n).2)
    have e' := congrArg (fun l => View.canon ((l ++ (lps c I B X X q n).1) ++ tl) (ix2 R y)) e
    refine Eq.trans e' ?_
    simp only [List.cons_append, List.nil_append]
    have gu (M : Memref sig .tc .vmem S256x1024 .f32) (hM : M.IsWhole) (x : Vec Ideal S256x1024 .f32) : gr (M.view.read (Elt Ideal) (hM.unread x)) R.val d = x (ix2 R d) := by
      rw [gr, dif_pos R.isLt, Memref.IsWhole.read_unread]
    rcases Nat.lt_or_ge R.val (16 * n) with hR | hR
    · refine (miss2 _ _ _ (16 * n) 1024 (off11_val ⟨n, hk⟩) _ _ _ (by omega)).trans ((miss2 _ _ _ (16 * n) 0 (off10_val ⟨n, hk⟩) _ _ _ (by omega)).trans ?_)
      exact cols_apply tl R b hb d y hy n (by omega) hR
    · have er : 16 * n + (R.val - 16 * n) = R.val := by omega
      match b, hb, hy with
      | ⟨0, _⟩, _, hy =>
        have hy : y.val = d.val := by simpa using hy
        refine (miss2 _ _ _ (16 * n) 1024 (off11_val ⟨n, hk⟩) _ _ _ (by omega)).trans
          ((hit2 _ _ _ (16 * n) 0 (off10_val ⟨n, hk⟩) _ _ _ (⟨R.val - 16 * n, by omega⟩ : Fin 16) d er.symm (by omega)).trans ((h0 _ _).trans ?_))
        dsimp only
        rw [er, tapAt_apply B X q _ rfl _ R.isLt, gu]; rfl
      | ⟨1, _⟩, _, hy =>
        have hy : y.val = 1024 + d.val := by simpa using hy
        refine (hit2 _ _ _ (16 * n) 1024 (off11_val ⟨n, hk⟩) _ _ _ (⟨R.val - 16 * n, by omega⟩ : Fin 16) d er.symm hy).trans ((h1 _ _).trans ?_)
        dsimp only
        rw [er, tapAt_apply B X q _ rfl _ R.isLt, gu, gu]; rfl

/-- which leave the third alone. -/
theorem third_apply (tl : List (View.Piece (Elt Ideal) S256x3072 .bf16)) (R : Fin 256) (y : Fin 3072) (hy : 2048 ≤ y.val) :
    ∀ n ≤ 16, View.canon ((lps c I B X X q n).1 ++ tl) (ix2 R y) = View.canon tl (ix2 R y)
  | 0, _ => rfl
  | n + 1, hn => by
    have hk : n < k0_t1_loop.trips := by rw [trips16]; omega
    unfold lps
    rw [pcs_succ c I B _ _ _ _ _ ⟨n, hk⟩]
    obtain ⟨v0, v1, e⟩ := trip_out c I B (B.huv.unread X.uv) (B.hug.unread X.ug) (B.hw.unread X.w) (B.dx.view.writes (Elt Ideal) B.dx.view.junk (dxL B (extL X q))) ⟨n, hk⟩
      (B.dw.view.writes (Elt Ideal) (B.dw.view.writes (Elt Ideal) B.dw.view.junk zeroL) (lps c I B X X q n).2)
    have e' := congrArg (fun l => View.canon ((l ++ (lps c I B X X q n).1) ++ tl) (ix2 R y)) e
    refine Eq.trans e' ?_
    simp only [List.cons_append, List.nil_append]
    refine (miss2 _ _ _ (16 * n) 1024 (off11_val ⟨n, hk⟩) _ _ _ (by omega)).trans ((miss2 _ _ _ (16 * n) 0 (off10_val ⟨n, hk⟩) _ _ _ (by omega)).trans ?_)
    exact third_apply tl R y hy n (by omega)

/-- The loop makes sixteen trips. -/
theorem trips_eq : Scf.trips 0#32 (Scalar.addi 0#32 16#32) 1#32 = 16 := by decide

/-- A point's block of the gradients. -/
theorem out_apply (R : Fin 256) (b : Fin 3) (d : Fin 1024) (y : Fin 3072) (hy : y.val = 1024 * b.val + d.val) :
    View.canon (outL c I B X X q) (ix2 R y) = gradV X q R b d := by
  have hR := R.isLt
  have hd := d.isLt
  unfold outL
  rw [trips_eq]
  rcases Nat.lt_or_ge b.val 2 with hb | hb
  · exact cols_apply c I B X q _ R b hb d y hy 16 le_rfl (by omega)
  · have : b = 2 := Fin.ext (by show b.val = 2; omega)
    subst this
    have hy : y.val = 2048 + d.val := by simpa using hy
    refine (third_apply c I B X q _ R y (by omega) 16 le_rfl).trans ((hit2 _ _ _ 0 2048 rfl _ _ _ R d (by simp) hy).trans ?_)
    exact dz_apply X R d

/-- The rows carried to the next point. -/
theorem carry_apply (L : List (View.Piece (Elt Ideal) S32x1024 .f32)) (r : Fin 32) (d : Fin 1024) : View.canon (carryP X :: L) (ix2 r d) = dA1 X (ix2 ⟨r.val, by omega⟩ d) := by
  unfold carryP
  refine (hit2 _ _ _ 0 0 rfl _ _ _ r d (by simp) (by simp)).trans ?_
  pointwise [k0_pay203, k0_pay200, dA1]

/-- The carried rows as loaded: zeros at the first point, then what the point before left. -/
theorem carried_apply (r : Vec Ideal S32x1024 .f32) (fst : Bool) : carried B r fst = if fst then fun _ => 0 else r := by
  have hz : ![0, 0] = fun _ : Fin 2 => 0 := by funext a; match a with | ⟨0, _⟩ => rfl | ⟨1, _⟩ => rfl
  unfold carried
  cases fst
  · simp only [View.readAt_eq_ld, Memref.IsWhole.read_unread, View.ld_unit_zero (S := S32x1024) hz, Bool.false_eq_true, if_false]
  · refine (View.readCov_unit_lit _ _ _ (by decide)).trans (funext fun y => ?_)
    pointwise [k0_pay178]

/-- What a row of the block adds to a tap's sum. -/
def term (j r : ℕ) (d : Fin 1024) : EReal := rowA0 X.uv X.ug r d * ext X q (r + (30 - j)) d

/-- The taps' partial sums after `n` trips: over the rows that they have read, by eights. -/
theorem sums_after (j : ℕ) (i : Fin 8) (d : Fin 1024) : ∀ n ≤ 16,
    gt (B.dw.view.read (Elt Ideal) (B.dw.view.writes (Elt Ideal) (B.dw.view.writes (Elt Ideal) B.dw.view.junk zeroL) (lps c I B X X q n).2)) j i d
      = if j < 31 then ∑ k ∈ Finset.range n, (term X q j (16 * k + i.val) d + term X q j (16 * k + 8 + i.val) d) else 0
  | 0, _ => by
    rw [show (lps c I B X X q 0).2 = [] from rfl]
    simp only [Finset.sum_range_zero, ite_self]
    show gt (B.dw.view.read (Elt Ideal) (B.dw.view.writes (Elt Ideal) B.dw.view.junk zeroL)) j i d = 0
    unfold gt
    split
    · rw [View.read_writes_junk_eq_canon]
      refine (congrFun (View.canon_cons_unit_lit _ _ _ (by decide)) _).trans ?_
      pointwise [k0_pay2]
    · rfl
  | n + 1, hn => by
    have hk : n < k0_t1_loop.trips := by rw [trips16]; omega
    have ih := sums_after j i d n (by omega)
    have e : (lps c I B X X q (n + 1)).2 = _ := congrArg Prod.snd (pcs_succ c I B (B.huv.unread X.uv) (B.hug.unread X.ug) (B.hw.unread X.w)
      (B.dx.view.writes (Elt Ideal) B.dx.view.junk (dxL B (extL X q))) (B.dw.view.writes (Elt Ideal) B.dw.view.junk zeroL) ⟨n, hk⟩)
    rw [e]
    dsimp only
    rw [View.writes_append]
    have hrows := trip_rows B (B.huv.unread X.uv) (B.hug.unread X.ug) (B.hw.unread X.w) (B.dx.view.writes (Elt Ideal) B.dx.view.junk (dxL B (extL X q))) ⟨n, hk⟩ c I
      (B.dw.view.writes (Elt Ideal) (B.dw.view.writes (Elt Ideal) B.dw.view.junk zeroL) (lps c I B X X q n).2)
    by_cases hj : j < 31
    · rw [if_pos hj] at ih ⊢
      obtain ⟨p, hp, h, w, rfl⟩ := row_mem j _ _ hrows (List.mem_append_left _ (List.mem_reverse.mpr (List.mem_range.mpr hj)))
      refine (read_rows _ _ _ j h w hp i d).trans ((trip_dw B _ _ _ _ ⟨n, hk⟩ c I _ j hj i d).trans ?_)
      have hi := i.isLt
      rw [ih, a0_first, a0_second, dx_apply B X q _ rfl _ _ (by omega) (by dsimp only; omega), dx_apply B X q _ rfl _ _ (by omega) (by dsimp only; omega), Finset.sum_range_succ]
      simp only [Memref.IsWhole.read_unread]
      rw [add_assoc]
      refine congrArg (_ + ·) (congrArg₂ (· + ·) ?_ ?_)
      · exact congrArg (fun n => _ * ext X q n d) (by omega)
      · exact congrArg (fun n => _ * ext X q n d) (by omega)
    · rw [if_neg hj] at ih ⊢
      exact (row_stays _ _ j i d _ _ hrows (fun hm => by simp at hm; omega)).trans ih

/-- A sum by sixteens is a sum over all. -/
theorem sum_sixteens (T : ℕ → EReal) : ∀ n, ∑ r ∈ Finset.range (16 * n), T r = ∑ i : Fin 8, ∑ k ∈ Finset.range n, (T (16 * k + i.val) + T (16 * k + 8 + i.val))
  | 0 => by simp
  | n + 1 => by
    simp only [Finset.sum_range_succ]
    rw [Finset.sum_add_distrib, ← sum_sixteens T n, Nat.mul_succ, Finset.sum_range_add]
    refine congrArg (_ + ·) ?_
    simp only [Finset.sum_range_succ, Finset.sum_range_zero, Fin.sum_univ_eight]
    simp only [Nat.add_assoc]
    show (0 : EReal) + T (16 * n + 0) + T (16 * n + 1) + T (16 * n + 2) + T (16 * n + 3) + T (16 * n + 4) + T (16 * n + 5) + T (16 * n + 6) + T (16 * n + 7) + T (16 * n + 8) + T (16 * n + 9) + T (16 * n + 10) + T (16 * n + 11) + T (16 * n + 12) + T (16 * n + 13) + T (16 * n + 14) + T (16 * n + 15)
      = T (16 * n + 0) + T (16 * n + 8) + (T (16 * n + 1) + T (16 * n + 9)) + (T (16 * n + 2) + T (16 * n + 10)) + (T (16 * n + 3) + T (16 * n + 11)) + (T (16 * n + 4) + T (16 * n + 12)) + (T (16 * n + 5) + T (16 * n + 13)) + (T (16 * n + 6) + T (16 * n + 14)) + (T (16 * n + 7) + T (16 * n + 15))
    abel

/-- The taps' sums over a block: of a tap over all its rows, and zero after the last tap. -/
theorem dwV_apply (j : Fin 32) (d : Fin 1024) : ∑ i : Fin 8, dwV c I B X X q (ix3 j i d) = if j.val < 31 then ∑ r ∈ Finset.range 256, term X q j.val r d else 0 := by
  have e (i : Fin 8) : dwV c I B X X q (ix3 j i d) = gt (B.dw.view.read (Elt Ideal) (B.dw.view.writes (Elt Ideal) (B.dw.view.writes (Elt Ideal) B.dw.view.junk zeroL) (lps c I B X X q 16).2)) j.val i d := by
    unfold dwV
    rw [trips_eq, View.readCov_eq_canon', ← View.read_writes_junk_eq_canon B.dw.view, View.writes_append, gt, dif_pos j.isLt]
    refine congrArg _ (funext fun a => Fin.ext ?_)
    match a with
    | ⟨0, _⟩ => show 0 + 1 * j.val = j.val; omega
    | ⟨1, _⟩ => show 0 + 1 * i.val = i.val; omega
    | ⟨2, _⟩ => show 0 + 1 * d.val = d.val; omega
  simp only [e, sums_after c I B X q j.val _ d 16 le_rfl]
  split
  · exact (sum_sixteens (fun r => term X q j.val r d) 16).symm
  · exact Finset.sum_const_zero

/-- What a point adds to the parameters' gradients. -/
def inc (n : ℕ) (d : Fin 1024) : EReal :=
  if n < 31 then ∑ r ∈ Finset.range 256, term X q n r d
  else if n = 31 then ∑ r : Fin 256, (X.row r).da1 d
  else if n = 32 then ∑ r : Fin 256, (X.row r).da2 d * ConvSpec.xhat (X.row r).a1 d
  else if n = 33 then ∑ r : Fin 256, (X.row r).da2 d
  else 0

/-- The three rows' entries, from what is there. -/
theorem row32_apply (l : Vec Ideal S1x1024 .f32) (d : Fin 1024) : row32 X l (ix2 0 d) = l (ix2 0 d) + inc X q 32 d := by
  unfold inc
  rw [if_neg (by decide), if_neg (by decide), if_pos rfl]
  pointwise [row32, k0_pay192]
  exact congrArg (_ + ·) (Finset.sum_congr rfl fun r _ => congrArg₂ (· * ·) (dA2_apply X r d) (xhat_apply X r d))
@[inherit_doc row32_apply] theorem row33_apply (l : Vec Ideal S1x1024 .f32) (d : Fin 1024) : row33 X l (ix2 0 d) = l (ix2 0 d) + inc X q 33 d := by
  unfold inc
  rw [if_neg (by decide), if_neg (by decide), if_neg (by decide), if_pos rfl]
  pointwise [row33, k0_pay193]
  exact congrArg (_ + ·) (Finset.sum_congr rfl fun r _ => dA2_apply X r d)
@[inherit_doc row32_apply] theorem row31_apply (l : Vec Ideal S1x1024 .f32) (d : Fin 1024) : row31 X l (ix2 0 d) = l (ix2 0 d) + inc X q 31 d := by
  unfold inc
  rw [if_neg (by decide), if_pos rfl]
  pointwise [row31, k0_pay199]
  exact congrArg (_ + ·) (Finset.sum_congr rfl fun r _ => dA1_apply X r d)

end Cert.Proof.Conv

end

end
-- ==== Proof.ConvSmall.lean ====
/- The points of the backward convolution one after another: what each leaves in the parameters' gradients, in the carried
   rows and in the gradients' block, from what it finds. -/
module

public import proofs.«01_k».proof.Proof.ConvVals

@[expose] public section

set_option maxRecDepth 16384

noncomputable section

namespace Cert.Proof.Conv

open Cert.ConvIdeal Cert.ConvIdeal.Gen
open Idealize.ShloMosaic Idealize.ShloMosaic.TcCoe Idealize.SL.Sem
open Idealize.ShloMosaic.Pipeline (Dat Cfg Window cellOf)

section

variable (M : Memref sig .tc .vmem S40x1024 .f32) (f : Cont Ideal M) (L : List (View.Piece (Elt Ideal) S40x1024 .f32)) {a : ℕ} (o : ℕ) (h)
  (v : Vec Ideal ⟨2, ![a, 1024]⟩ .f32) (n : Fin 40) (d : Fin 1024)

/-- Rows stored last hold their own entries, -/
theorem rows_hit (r : Fin a) (e : n.val = o + r.val) :
    M.view.read (Elt Ideal) (M.view.writes (Elt Ideal) f (⟨Rect.unit (s := S40x1024) ![o, 0] ![a, 1024] h, v⟩ :: L)) (ix2 n d) = v (ix2 r d) :=
  View.read_writes_cons_unit_of_mem (s := S40x1024) _ _ _ _ _ _ (ix2 r d) rfl fun (x : Fin 2) => by
    match x with
    | ⟨0, _⟩ => exact e
    | ⟨1, _⟩ => exact (Nat.zero_add d.val).symm

/-- the others what was there before. -/
theorem rows_miss (e : n.val < o ∨ o + a ≤ n.val) :
    M.view.read (Elt Ideal) (M.view.writes (Elt Ideal) f (⟨Rect.unit (s := S40x1024) ![o, 0] ![a, 1024] h, v⟩ :: L)) (ix2 n d)
      = M.view.read (Elt Ideal) (M.view.writes (Elt Ideal) f L) (ix2 n d) :=
  View.read_writes_cons_unit_of_not_mem _ _ _ _ _ _ rfl 0 e

/-- Rows loaded. -/
theorem rows_load (r : Fin a) (e : n.val = o + r.val) :
    View.readAt (Elt Ideal) M.view (Rect.unit (s := S40x1024) ![o, 0] ![a, 1024] h).toLoadRect f (ix2 r d) = M.view.read (Elt Ideal) f (ix2 n d) := by
  rw [View.readAt_eq_ld]
  refine congrArg (M.view.read (Elt Ideal) f) (funext fun x => Fin.ext ?_)
  match x with
  | ⟨0, _⟩ => show o + 1 * r.val = n.val; omega
  | ⟨1, _⟩ => show 0 + 1 * d.val = d.val; omega

/-- Rows loaded back from the pieces stored. -/
theorem rows_cov (r : Fin a) (e : n.val = o + r.val) :
    M.view.readCov L (Rect.unit (s := S40x1024) ![o, 0] ![a, 1024] h).toLoadRect (ix2 r d) = M.view.read (Elt Ideal) (M.view.writes (Elt Ideal) M.view.junk L) (ix2 n d) := by
  rw [View.readCov_eq_canon', View.read_writes_junk_eq_canon]
  refine congrArg (View.canon L) (funext fun x => Fin.ext ?_)
  match x with
  | ⟨0, _⟩ => show o + 1 * r.val = n.val; omega
  | ⟨1, _⟩ => show 0 + 1 * d.val = d.val; omega

end

variable (c : Dev nD) (I : grid0.Coords) (B : Refs) (X : In Ideal) (q : Vec Ideal S32x1024 .f32)

/-- A point adds its share to what the buffer holds. -/
theorem adds (f : Cont Ideal B.small) (l31 l33 l32 : Vec Ideal S1x1024 .f32) (l : Vec Ideal S32x1024 .f32) (n : Fin 40) (d : Fin 1024)
    (h31 : l31 (ix2 0 d) = B.small.view.read (Elt Ideal) f (ix2 31 d)) (h33 : l33 (ix2 0 d) = B.small.view.read (Elt Ideal) f (ix2 33 d)) (h32 : l32 (ix2 0 d) = B.small.view.read (Elt Ideal) f (ix2 32 d))
    (hl : ∀ j : Fin 32, l (ix2 j d) = B.small.view.read (Elt Ideal) (B.small.view.writes (Elt Ideal) f [sm31 X l31, sm33 X l33, sm32 X l32]) (ix2 ⟨j.val, by omega⟩ d)) :
    B.small.view.read (Elt Ideal) (B.small.view.writes (Elt Ideal) f [smT l (dwV c I B X X q), sm31 X l31, sm33 X l33, sm32 X l32]) (ix2 n d)
      = B.small.view.read (Elt Ideal) f (ix2 n d) + inc X q n.val d := by
  have hn := n.isLt
  unfold smT
  rcases Nat.lt_or_ge n.val 32 with h | h
  · rw [rows_hit _ _ _ 0 _ _ n d (⟨n.val, h⟩ : Fin 32) (by simp)]
    have e : k0_pay4 l (dwV c I B X X q) (ix2 (⟨n.val, h⟩ : Fin 32) d) = l (ix2 ⟨n.val, h⟩ d) + ∑ i : Fin 8, dwV c I B X X q (ix3 ⟨n.val, h⟩ i d) := by pointwise [k0_pay4]
    rw [e, hl, dwV_apply]
    dsimp only
    unfold sm31 sm33 sm32
    by_cases h' : n.val < 31
    · rw [if_pos h', rows_miss _ _ _ 31 _ _ _ d (by dsimp only; omega), rows_miss _ _ _ 33 _ _ _ d (by dsimp only; omega), rows_miss _ _ _ 32 _ _ _ d (by dsimp only; omega), inc, if_pos h']
      rfl
    · have h1 : n = 31 := Fin.ext (by show n.val = 31; omega)
      subst h1
      rw [if_neg (by decide), rows_hit _ _ _ 31 _ _ _ d (0 : Fin 1) rfl, row31_apply X q, h31, add_zero]
      rfl
  · rw [rows_miss _ _ _ 0 _ _ n d (by omega)]
    unfold sm31 sm33 sm32
    rw [rows_miss _ _ _ 31 _ _ _ d (by omega)]
    by_cases h3 : n.val = 33
    · have h1 : n = 33 := Fin.ext h3
      subst h1
      rw [rows_hit _ _ _ 33 _ _ _ d (0 : Fin 1) rfl, row33_apply X q, h33]; rfl
    rw [rows_miss _ _ _ 33 _ _ _ d (by omega)]
    by_cases h2 : n.val = 32
    · have h1 : n = 32 := Fin.ext h2
      subst h1
      rw [rows_hit _ _ _ 32 _ _ _ d (0 : Fin 1) rfl, row32_apply X q, h32]; rfl
    rw [rows_miss _ _ _ 32 _ _ _ d (by omega), inc, if_neg (by omega), if_neg (by omega), if_neg h2, if_neg h3, add_zero]
    rfl

/-- A later point adds to the sums so far, -/
theorem late_apply (s : Vec Ideal S40x1024 .f32) (n : Fin 40) (d : Fin 1024) :
    B.small.view.read (Elt Ideal) (B.small.view.writes (Elt Ideal) (B.hsmall.unread s) (late c I B X X s q)) (ix2 n d) = s (ix2 n d) + inc X q n.val d := by
  refine (adds c I B X q (B.hsmall.unread s) _ _ _ _ n d ?_ ?_ ?_ fun j => ?_).trans ?_
  · exact rows_load _ _ 31 _ _ d (0 : Fin 1) rfl
  · exact rows_load _ _ 33 _ _ d (0 : Fin 1) rfl
  · exact rows_load _ _ 32 _ _ d (0 : Fin 1) rfl
  · exact rows_load _ _ 0 _ _ d j (by simp)
  · rw [Memref.IsWhole.read_unread]

/-- and the first to zeros. -/
theorem early_apply (n : Fin 40) (d : Fin 1024) : View.canon (early c I B X X q) (ix2 n d) = inc X q n.val d := by
  have hw (L : List (View.Piece (Elt Ideal) S40x1024 .f32)) : B.small.view.writes (Elt Ideal) B.small.view.junk (L ++ early0) = B.small.view.writes (Elt Ideal) (B.small.view.writes (Elt Ideal) B.small.view.junk early0) L :=
    View.writes_append ..
  rw [← View.read_writes_junk_eq_canon B.small.view]
  refine (congrArg (fun f => B.small.view.read (Elt Ideal) f (ix2 n d)) (hw [_, _, _, _])).trans ?_
  refine (adds c I B X q _ _ _ _ _ n d ?_ ?_ ?_ fun j => ?_).trans ?_
  · refine (rows_cov _ _ 31 _ 31 d (0 : Fin 1) rfl).trans ((congrArg (fun f => B.small.view.read (Elt Ideal) f (ix2 31 d)) (hw [_, _])).trans ?_)
    exact (rows_miss _ _ _ 33 _ _ _ d (.inl (by decide))).trans (rows_miss _ _ _ 32 _ _ _ d (.inl (by decide)))
  · refine (rows_cov _ _ 33 _ 33 d (0 : Fin 1) rfl).trans ((congrArg (fun f => B.small.view.read (Elt Ideal) f (ix2 33 d)) (hw [_])).trans ?_)
    exact rows_miss _ _ _ 32 _ _ _ d (.inr (by decide))
  · exact rows_cov _ _ 32 _ 32 d (0 : Fin 1) rfl
  · exact (rows_cov _ _ 0 _ ⟨j.val, by omega⟩ d j (by simp)).trans (congrArg (fun f => B.small.view.read (Elt Ideal) f (ix2 ⟨j.val, by omega⟩ d)) (hw [_, _, _]))
  · refine (congrArg (· + _) ?_).trans (zero_add _)
    rw [View.read_writes_junk_eq_canon]
    refine (congrFun (View.canon_cons_unit_lit _ _ _ (by decide)) _).trans ?_
    pointwise [k0_pay177]

section

variable (s : Vec Ideal S40x1024 .f32) (r : Vec Ideal S32x1024 .f32) (fst : Bool) (hb : first I ↔ fst = true)

/-- A point's pieces, at either kind of point. -/
theorem run_out : (run c I B X s r fst hb).1.out = outL c I B X X (carried B r fst) := by
  cases fst
  · rw [run_late, loads_eq]
  · rw [run_early, loads_eq]
@[inherit_doc run_out] theorem run_carry : ∃ L, (run c I B X s r fst hb).1.carry = carryP X :: L := by
  cases fst
  · exact ⟨_, by rw [run_late, loads_eq]⟩
  · exact ⟨_, by rw [run_early, loads_eq]⟩
@[inherit_doc run_out] theorem run_small : (run c I B X s r fst hb).1.small = if fst then early c I B X X (carried B r fst) else late c I B X X s (carried B r fst) := by
  cases fst
  · rw [run_late, loads_eq]; rfl
  · rw [run_early, loads_eq]; rfl

end

variable (m : (ℓ : Loc nD τ sig) → Buf (Elt Ideal) ℓ)

/-- The carried rows at a point. -/
def qAt (t : Fin cfg0.N) : Vec Ideal S32x1024 .f32 := if t.val = 0 then fun _ => 0 else (stateAt m c t.val).2

/-- As the point loads them. -/
theorem qAt_eq (t : Fin cfg0.N) : carried (refs t) (stateAt m c t.val).2 (decide (t.val = 0)) = qAt c m t := by
  rw [carried_apply, qAt]; simp only [decide_eq_true_eq]

/-- A point's block of the gradients, -/
theorem pt_out (t : Fin cfg0.N) (R : Fin 256) (b : Fin 3) (d : Fin 1024) (y : Fin 3072) (hy : y.val = 1024 * b.val + d.val) :
    View.canon (pt m c t).out (ix2 R y) = gradV (blks m c t) (qAt c m t) R b d := by
  unfold pt ptAt
  rw [run_out, qAt_eq]
  exact out_apply c _ _ _ _ R b d y hy

/-- the rows it carries on, -/
theorem carry_step (t : Fin cfg0.N) (r : Fin 32) (d : Fin 1024) : (stateAt m c (t.val + 1)).2 (ix2 r d) = dA1 (blks m c t) (ix2 ⟨r.val, by omega⟩ d) := by
  rw [stateAt_succ]
  unfold pt ptAt
  obtain ⟨L, e⟩ := run_carry c (grid0.coords t) (refs t) (blks m c t) (stateAt m c t.val).1 (stateAt m c t.val).2 (decide (t.val = 0)) (first_iff t)
  refine (congrArg (fun L => View.canon L (ix2 r d)) e).trans ?_
  exact carry_apply _ L r d

/-- the parameters' gradients after it. -/
theorem small_step (t : Fin cfg0.N) (n : Fin 40) (d : Fin 1024) :
    (stateAt m c (t.val + 1)).1 (ix2 n d) = (if t.val = 0 then 0 else (stateAt m c t.val).1 (ix2 n d)) + inc (blks m c t) (qAt c m t) n.val d := by
  rw [stateAt_succ]
  unfold pt ptAt smallOf
  rw [run_small, qAt_eq]
  dsimp only
  by_cases h : t.val = 0
  · rw [if_pos h, if_pos h, decide_eq_true h, if_pos rfl, zero_add]
    exact early_apply c _ _ _ _ n d
  · rw [if_neg h, if_neg h, decide_eq_false h, if_neg Bool.false_ne_true]
    exact late_apply c _ _ _ _ _ n d

end Cert.Proof.Conv

end

end
-- ==== Proof.ConvGather.lean ====
/- The convolution's windows: a gather of 31 neighbouring rows for each row, and the scatter that adds them back. -/
module

public import proofs.«01_k».proof.Proof.ConvSpec
public import Idealize.ShloMosaic.Lib.StableHlo.ReadAt

@[expose] public section

noncomputable section

namespace Cert.Proof.ConvGather

open Idealize.ShloMosaic Idealize.ShloMosaic.StableHlo

/-- The operand, the indices and the windows. -/
abbrev Sx : Shape := ⟨3, ![1, 8222, 1024]⟩
abbrev Si : Shape := ⟨3, ![8192, 31, 1]⟩
abbrev Sw : Shape := ⟨4, ![1, 8192, 31, 1024]⟩

/-- The gather's dimensions. -/
abbrev gd (wf : GatherDims.WF Sx Si Sw [0, 3] [1] [] [1] [] 2 ![1, 1, 1024]) : GatherDims Sx Si Sw where
  offsetDims := [0, 3]
  collapsedSliceDims := [1]
  operandBatchingDims := []
  startIndicesBatchingDims := []
  startIndexMap := [1]
  indexVectorDim := 2
  sliceSizes := ![1, 1, 1024]
  wf := wf

/-- The scatter's dimensions. -/
abbrev sd (wf : ScatterDims.WF Sx Si Sw [0, 3] [1] [1] 2) : ScatterDims Sx Si Sw where
  updateWindowDims := [0, 3]
  insertedWindowDims := [1]
  scatterDimsToOperandDims := [1]
  indexVectorDim := 2
  wf := wf

/-- The word of a small number read signed. -/
theorem toInt_small (n : ℕ) (h : n < 10000) : (BitVec.ofNat 32 n).toInt = n := by
  rw [BitVec.toInt_ofNat', Int.bmod_def]; push_cast; omega

/-- An index below zero would be counted from the end; these are not below zero. -/
theorem word (s : Fin 8192) (j : Fin 31) :
    Scalar.select (IntOp.cmpi CmpIPredicate.slt (IntOp.addi (BitVec.ofNat 32 s.val) (BitVec.ofNat 32 j.val)) 0#32)
      (IntOp.addi (IntOp.addi (BitVec.ofNat 32 s.val) (BitVec.ofNat 32 j.val)) 8222#32)
      (IntOp.addi (BitVec.ofNat 32 s.val) (BitVec.ofNat 32 j.val)) = BitVec.ofNat 32 (s.val + j.val) := by
  have e : IntOp.addi (BitVec.ofNat 32 s.val) (BitVec.ofNat 32 j.val) = BitVec.ofNat 32 (s.val + j.val) := (BitVec.ofNat_add ..).symm
  have n : BitVec.slt (BitVec.ofNat 32 (s.val + j.val)) 0#32 = false := by
    rw [Bool.eq_false_iff, ne_eq, BitVec.slt_iff_toInt_lt, toInt_small _ (by omega)]
    simp only [BitVec.ofNat_eq_ofNat, BitVec.toInt_zero]; omega
  rw [e]
  simp [Scalar.select, IntOp.cmpi, n]

/-- The gather read in a window. -/
theorem gather_apply (wf : GatherDims.WF Sx Si Sw [0, 3] [1] [] [1] [] 2 ![1, 1, 1024]) {α : Type} (x : Sx.Idx → α) (idx : IVec Si 32)
    (s : Fin 8192) (j : Fin 31) (d : Fin 1024) (e : idx (ix3 s j 0) = BitVec.ofNat 32 (s.val + j.val)) :
    Host.gather (gd wf) x idx (ix4 0 s j d) = x (ix3 0 ⟨s.val + j.val, by omega⟩ d) := by
  unfold Host.gather
  congr 1
  funext a
  refine Fin.ext ?_
  show (gd wf).start (ix4 0 s j d) idx a + (gd wf).batchCoord (ix4 0 s j d) a + (gd wf).offCoord (ix4 0 s j d) a = _
  rw [GatherDims.batchCoord_eq_zero _ _ _ List.not_mem_nil]
  match a with
  | ⟨0, _⟩ => rfl
  | ⟨2, _⟩ => show 0 + 0 + d.val = d.val; omega
  | ⟨1, _⟩ =>
    rw [GatherDims.offCoord_eq_zero _ _ _ (fun h => ((GatherDims.mem_sKept _ _).mp h).1 (List.mem_singleton.mpr rfl))]
    show (gd wf).start (ix4 0 s j d) idx (1 : Fin 3) = s.val + j.val
    unfold GatherDims.start
    rw [dif_pos (show (1 : Fin 3) ∈ (gd wf).startIndexMap from List.mem_singleton.mpr rfl)]
    have hsi : (gd wf).siIdx (ix4 0 s j d) ⟨List.idxOf (1 : Fin 3) (gd wf).startIndexMap,
        List.idxOf_lt_length_iff.2 (List.mem_singleton.mpr rfl)⟩ = ix3 s j 0 := by
      funext b; refine Fin.ext ?_
      match b with
      | ⟨0, _⟩ => rfl
      | ⟨1, _⟩ => rfl
      | ⟨2, _⟩ => rfl
    rw [hsi, e, toInt_small _ (by omega)]
    show min (Int.toNat ((s.val + j.val : ℕ) : ℤ)) 8221 = s.val + j.val
    rw [Int.toNat_natCast]; omega

/-- Where the scatter adds a window's entry. -/
theorem lands (wf : ScatterDims.WF Sx Si Sw [0, 3] [1] [1] 2) (idx : IVec Si 32) (s : Fin 8192) (j : Fin 31) (d : Fin 1024)
    (e : idx (ix3 s j 0) = BitVec.ofNat 32 (s.val + j.val)) :
    (sd wf).resultIdx? (ix4 0 s j d) idx = some (ix3 0 ⟨s.val + j.val, by omega⟩ d) := by
  have hsi (h) : (sd wf).siIdx (ix4 0 s j d) ⟨List.idxOf (1 : Fin 3) (sd wf).scatterDimsToOperandDims, h⟩ = ix3 s j 0 := by
    funext b; refine Fin.ext ?_
    match b with
    | ⟨0, _⟩ => rfl
    | ⟨1, _⟩ => rfl
    | ⟨2, _⟩ => rfl
  have v (a : Fin 3) : (sd wf).start (ix4 0 s j d) idx a + (sd wf).window (ix4 0 s j d) a = ((ix3 (0 : Fin 1) (⟨s.val + j.val, by omega⟩ : Fin 8222) d) a).val := by
    match a with
    | ⟨0, _⟩ => rfl
    | ⟨2, _⟩ => exact Int.zero_add _
    | ⟨1, _⟩ =>
      show (sd wf).start (ix4 0 s j d) idx (1 : Fin 3) + (0 : ℕ) = ((s.val + j.val : ℕ) : ℤ)
      unfold ScatterDims.start
      rw [dif_pos (show (1 : Fin 3) ∈ (sd wf).scatterDimsToOperandDims from List.mem_singleton.mpr rfl), hsi, e, toInt_small _ (by omega)]
      exact Int.add_zero _
  unfold ScatterDims.resultIdx?
  rw [dif_pos (fun a => by rw [v a]; exact ⟨Int.natCast_nonneg _, Int.ofNat_lt.mpr (Fin.isLt _)⟩)]
  refine congrArg some (funext fun a => Fin.ext ?_)
  show Int.toNat _ = _
  rw [v a]; exact Int.toNat_natCast _

/-- The scatter's sums: what stands at a row is the sum of its entries in the windows that hold it. -/
theorem scatter_apply (wf : ScatterDims.WF Sx Si Sw [0, 3] [1] [1] 2) (x : Sx.Idx → EReal) (idx : IVec Si 32) (u : Sw.Idx → EReal)
    (e : ∀ (s : Fin 8192) (j : Fin 31), idx (ix3 s j 0) = BitVec.ofNat 32 (s.val + j.val)) (n : Fin 8222) (d : Fin 1024) :
    Ideal.hostScatterAdd (sd wf) x idx u (ix3 0 n d) = x (ix3 0 n d)
      + ∑ j : Fin 31, if h : j.val ≤ n.val ∧ n.val - j.val < 8192 then u (ix4 0 ⟨n.val - j.val, h.2⟩ j d) else 0 := by
  unfold Ideal.hostScatterAdd
  refine congrArg (x (ix3 0 n d) + ·) ?_
  rw [Finset.sum_filter]
  have all (i : Sw.Idx) : i = ix4 0 (i 1) (i 2) (i 3) := by
    funext a
    match a with
    | ⟨0, _⟩ => exact Fin.ext (by have := (i 0).isLt; change (i 0).val < 1 at this; show (i 0).val = 0; omega)
    | ⟨1, _⟩ => rfl
    | ⟨2, _⟩ => rfl
    | ⟨3, _⟩ => rfl
  let E : (Fin 31 × Fin 8192) × Fin 1024 ≃ Sw.Idx :=
    { toFun := fun p => ix4 0 p.1.2 p.1.1 p.2
      invFun := fun i => ((i 2, i 1), i 3)
      left_inv := fun _ => rfl
      right_inv := fun i => (all i).symm }
  rw [← E.sum_comp, Fintype.sum_prod_type, Fintype.sum_prod_type]
  refine Finset.sum_congr rfl fun j _ => ?_
  have inner (s : Fin 8192) : (∑ d' : Fin 1024, if (sd wf).resultIdx? (E ((j, s), d')) idx = some (ix3 0 n d) then u (E ((j, s), d')) else 0)
      = if s.val + j.val = n.val then u (ix4 0 s j d) else 0 := by
    have cond (d' : Fin 1024) : ((sd wf).resultIdx? (E ((j, s), d')) idx = some (ix3 0 n d)) ↔ (s.val + j.val = n.val ∧ d' = d) := by
      show (sd wf).resultIdx? (ix4 0 s j d') idx = _ ↔ _
      rw [lands wf idx s j d' (e s j), Option.some_inj]
      constructor
      · intro h; exact ⟨congrArg Fin.val (congrFun h (1 : Fin 3)), congrFun h (2 : Fin 3)⟩
      · rintro ⟨h, rfl⟩; exact congrArg (fun k => ix3 (0 : Fin 1) k d') (Fin.ext h)
    simp only [cond]
    by_cases h : s.val + j.val = n.val
    · simp only [h, true_and, if_true]
      rw [Finset.sum_ite_eq', if_pos (Finset.mem_univ _)]; rfl
    · simp only [h, false_and, if_false, Finset.sum_const_zero]
  rw [Finset.sum_congr rfl fun s _ => inner s]
  by_cases h : j.val ≤ n.val ∧ n.val - j.val < 8192
  · rw [dif_pos h, Finset.sum_eq_single (⟨n.val - j.val, h.2⟩ : Fin 8192), if_pos (Nat.sub_add_cancel h.1)]
    · intro s _ hs; rw [if_neg]; intro h'; exact hs (Fin.ext (by show s.val = n.val - j.val; omega))
    · intro hh; exact absurd (Finset.mem_univ _) hh
  · rw [dif_neg h]
    refine Finset.sum_eq_zero fun s _ => if_neg ?_
    intro h'; have := s.isLt; exact h ⟨by omega, by omega⟩

end Cert.Proof.ConvGather

end

end
-- ==== Proof.ConvBlocks.lean ====
/- The blocks that a point of the backward convolution loads, as rows of the arguments. -/
module

public import proofs.«01_k».proof.Proof.ConvSmall
public import proofs.«01_k».proof.Proof.ConvGather
public import Idealize.ShloMosaic.Lib.StableHlo.ReadAt

@[expose] public section

noncomputable section

namespace Cert.Proof.Conv

open Cert.ConvIdeal Cert.ConvIdeal.Gen Idealize.ShloMosaic Idealize.ShloMosaic.TcCoe Idealize.SL.Sem Idealize.ShloMosaic.StableHlo

/-- The windows of rows walk up the rows from the last; the projection's windows stand at their columns. -/
theorem idx_rows : ∀ t : Fin cfg0.N, win0_0.index t (0 : Fin 2) = 31 - t.val ∧ win0_0.index t (1 : Fin 2) = 0
    ∧ win0_1.index t (0 : Fin 2) = 31 - t.val ∧ win0_1.index t (1 : Fin 2) = 6
    ∧ win0_2.index t (0 : Fin 2) = 31 - t.val ∧ win0_2.index t (1 : Fin 2) = 7
    ∧ win0_3.index t (0 : Fin 2) = 31 - t.val ∧ win0_3.index t (1 : Fin 2) = 8
    ∧ win0_4.index t (0 : Fin 2) = 31 - t.val ∧ win0_4.index t (1 : Fin 2) = 0
    ∧ win0_8.index t (0 : Fin 2) = 31 - t.val ∧ win0_8.index t (1 : Fin 2) = 0 :=
  (by decide +kernel : ∀ t : Fin grid0.N, _)

/-- The windows of the parameters stand still. -/
theorem idx_still : ∀ t : Fin cfg0.N, win0_5.index t (0 : Fin 3) = 0 ∧ win0_5.index t (1 : Fin 3) = 0 ∧ win0_5.index t (2 : Fin 3) = 0
    ∧ win0_6.index t (0 : Fin 2) = 0 ∧ win0_6.index t (1 : Fin 2) = 0
    ∧ win0_7.index t (0 : Fin 2) = 0 ∧ win0_7.index t (1 : Fin 2) = 0
    ∧ win0_9.index t (0 : Fin 2) = 0 ∧ win0_9.index t (1 : Fin 2) = 0 :=
  (by decide +kernel : ∀ t : Fin grid0.N, _)

/-- There are 32 points. -/
theorem pts : cfg0.N = 32 := by decide +kernel
/-- A number below 32 is a point's. -/
theorem lt_pts {n : ℕ} (h : n < 32) : n < cfg0.N := by rw [pts]; exact h

/-- Row `r` of point `t`'s rows. -/
def pos (t : Fin cfg0.N) (r : Fin 256) : Fin 8192 :=
  ⟨256 * (31 - t.val) + r.val, by have := r.isLt; omega⟩

/-- The branch's arguments. -/
def argsOf (x0 : Vec Ideal S1x8192x11264 .f32) (x1 : Vec Ideal S1x31x1024 .f32) (x2 x3 x4 : Vec Ideal S1x1024 .f32)
    (x5 : Vec Ideal S1x8192x1024 .f32) : ConvSpec.Args where
  u R d := x0 (ix3 0 R ⟨6144 + d.val, by omega⟩)
  ug R d := x0 (ix3 0 R ⟨7168 + d.val, by omega⟩)
  z R d := x0 (ix3 0 R ⟨8192 + d.val, by omega⟩)
  dp R d := x5 (ix3 0 R d)
  w j d := x1 (ix3 0 j d)
  cb d := x2 (ix2 0 d)
  g d := x3 (ix2 0 d)
  b d := x4 (ix2 0 d)

variable (m : (ℓ : Loc nD τ sig) → Buf (Elt Ideal) ℓ) (c : Dev nD)

/-- The arguments in memory. -/
def memArgs : ConvSpec.Args :=
  argsOf (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-! The arrays that the host lines prepare, read at an index. -/

/-- The branch's gradient. -/
theorem v40 (R : Fin 8192) (d : Fin 1024) : (V m c main_v40 : Vec Ideal S8192x1024 .f32) (ix2 R d) = m ((c : Thread nD τ).loc main_arg5) (ix3 0 R d) := by
  after_reads_at
/-- The projection. -/
theorem v41 (R : Fin 8192) (d : Fin 11264) : (V m c main_v41 : Vec Ideal S8192x11264 .f32) (ix2 R d) = m ((c : Thread nD τ).loc main_arg0) (ix3 0 R d) := by
  after_reads_at
/-- The word zero as a number. -/
theorem sitofp_zero : FloatOps.sitofp (F := Ideal) .f32 0#32 = 0 := by
  show ((((0#32 : BitVec 32).toInt : ℝ)) : EReal) = 0
  simp
/-- The taps, each eight times, with a zero one after the last. -/
theorem v39 (j : Fin 32) (i : Fin 8) (d : Fin 1024) : (V m c main_v39 : Vec Ideal S32x8x1024 .f32) (ix3 j i d)
    = if h : j.val < 31 then (memArgs m c).w ⟨j.val, h⟩ d else 0 := by
  after_reads_at
  by_cases h : j.val < 31
  · rw [dif_pos h, dif_pos h]; rfl
  · rw [dif_neg h, dif_neg h]; exact sitofp_zero
/-- The convolution's input below thirty zero rows. -/
theorem v12 (n : Fin 8222) (d : Fin 1024) : (V m c main_v12 : Vec Ideal S1x8222x1024 .f32) (ix3 0 n d)
    = (memArgs m c).pad n.val d := by
  after_reads_at
  by_cases h : n.val < 30
  · rw [dif_pos h]; unfold ConvSpec.Args.pad; rw [dif_neg (by omega)]
  · rw [dif_neg h]; unfold ConvSpec.Args.pad; rw [dif_pos (show 30 ≤ n.val ∧ n.val < 8222 from ⟨by omega, n.isLt⟩)]; rfl
/-- The convolution's output. -/
theorem v42 (R : Fin 8192) (d : Fin 1024) : (V m c main_v42 : Vec Ideal S8192x1024 .f32) (ix2 R d) = (memArgs m c).a1 R d := by
  after_reads_at
  refine congrArg (· + (memArgs m c).cb d) (Finset.sum_congr rfl fun j _ => congrArg (· * (memArgs m c).w j d) ?_)
  refine (ConvGather.gather_apply _ _ _ R j d ?_).trans ?_
  · pointwise
    exact ConvGather.word R j
  · refine Eq.trans ?_ (v12 m c ⟨R.val + j.val, by omega⟩ d)
    rfl

/-! The windows' blocks. -/

/-- Window 0. -/
theorem blk0 (t : Fin cfg0.N) (r : Fin 256) (d : Fin 1024) : (iblk m c 0 t : Vec Ideal S256x1024 .f32) (ix2 r d)
    = (memArgs m c).dp (pos t r) d := by
  refine Eq.trans ?_ (v40 m c (pos t r) d)
  show (V m c main_v40 : Vec Ideal S8192x1024 .f32) (((cfg0.win 0).blk t).view.emb (ix2 r d)) = _
  refine congrArg _ (funext fun a => Fin.ext ?_)
  have e := idx_rows t
  match a with
  | ⟨0, _⟩ => show win0_0.index t (0 : Fin 2) * 256 + 1 * r.val = 256 * (31 - t.val) + r.val; omega
  | ⟨1, _⟩ => show win0_0.index t (1 : Fin 2) * 1024 + 1 * d.val = d.val; omega
/-- Window 1. -/
theorem blk1 (t : Fin cfg0.N) (r : Fin 256) (d : Fin 1024) : (iblk m c 1 t : Vec Ideal S256x1024 .f32) (ix2 r d)
    = (memArgs m c).u (pos t r) d := by
  refine Eq.trans ?_ (v41 m c (pos t r) ⟨6144 + d.val, by omega⟩)
  show (V m c main_v41 : Vec Ideal S8192x11264 .f32) (((cfg0.win 1).blk t).view.emb (ix2 r d)) = _
  refine congrArg _ (funext fun a => Fin.ext ?_)
  have e := idx_rows t
  match a with
  | ⟨0, _⟩ => show win0_1.index t (0 : Fin 2) * 256 + 1 * r.val = 256 * (31 - t.val) + r.val; omega
  | ⟨1, _⟩ => show win0_1.index t (1 : Fin 2) * 1024 + 1 * d.val = 6144 + d.val; omega
/-- Window 2. -/
theorem blk2 (t : Fin cfg0.N) (r : Fin 256) (d : Fin 1024) : (iblk m c 2 t : Vec Ideal S256x1024 .f32) (ix2 r d)
    = (memArgs m c).ug (pos t r) d := by
  refine Eq.trans ?_ (v41 m c (pos t r) ⟨7168 + d.val, by omega⟩)
  show (V m c main_v41 : Vec Ideal S8192x11264 .f32) (((cfg0.win 2).blk t).view.emb (ix2 r d)) = _
  refine congrArg _ (funext fun a => Fin.ext ?_)
  have e := idx_rows t
  match a with
  | ⟨0, _⟩ => show win0_2.index t (0 : Fin 2) * 256 + 1 * r.val = 256 * (31 - t.val) + r.val; omega
  | ⟨1, _⟩ => show win0_2.index t (1 : Fin 2) * 1024 + 1 * d.val = 7168 + d.val; omega
/-- Window 3. -/
theorem blk3 (t : Fin cfg0.N) (r : Fin 256) (d : Fin 1024) : (iblk m c 3 t : Vec Ideal S256x1024 .f32) (ix2 r d)
    = (memArgs m c).z (pos t r) d := by
  refine Eq.trans ?_ (v41 m c (pos t r) ⟨8192 + d.val, by omega⟩)
  show (V m c main_v41 : Vec Ideal S8192x11264 .f32) (((cfg0.win 3).blk t).view.emb (ix2 r d)) = _
  refine congrArg _ (funext fun a => Fin.ext ?_)
  have e := idx_rows t
  match a with
  | ⟨0, _⟩ => show win0_3.index t (0 : Fin 2) * 256 + 1 * r.val = 256 * (31 - t.val) + r.val; omega
  | ⟨1, _⟩ => show win0_3.index t (1 : Fin 2) * 1024 + 1 * d.val = 8192 + d.val; omega
/-- Window 4. -/
theorem blk4 (t : Fin cfg0.N) (r : Fin 256) (d : Fin 1024) : (iblk m c 4 t : Vec Ideal S256x1024 .f32) (ix2 r d)
    = (memArgs m c).a1 (pos t r) d := by
  refine Eq.trans ?_ (v42 m c (pos t r) d)
  show (V m c main_v42 : Vec Ideal S8192x1024 .f32) (((cfg0.win 4).blk t).view.emb (ix2 r d)) = _
  refine congrArg _ (funext fun a => Fin.ext ?_)
  have e := idx_rows t
  match a with
  | ⟨0, _⟩ => show win0_4.index t (0 : Fin 2) * 256 + 1 * r.val = 256 * (31 - t.val) + r.val; omega
  | ⟨1, _⟩ => show win0_4.index t (1 : Fin 2) * 1024 + 1 * d.val = d.val; omega
/-- Window 5. -/
theorem blk5 (t : Fin cfg0.N) (j : Fin 32) (i : Fin 8) (d : Fin 1024) : (iblk m c 5 t : Vec Ideal S32x8x1024 .f32) (ix3 j i d)
    = if h : j.val < 31 then (memArgs m c).w ⟨j.val, h⟩ d else 0 := by
  refine Eq.trans ?_ (v39 m c j i d)
  show (V m c main_v39 : Vec Ideal S32x8x1024 .f32) (((cfg0.win 5).blk t).view.emb (ix3 j i d)) = _
  refine congrArg _ (funext fun a => Fin.ext ?_)
  have e := idx_still t
  match a with
  | ⟨0, _⟩ => show win0_5.index t (0 : Fin 3) * 32 + 1 * j.val = j.val; omega
  | ⟨1, _⟩ => show win0_5.index t (1 : Fin 3) * 8 + 1 * i.val = i.val; omega
  | ⟨2, _⟩ => show win0_5.index t (2 : Fin 3) * 1024 + 1 * d.val = d.val; omega
/-- Window 6. -/
theorem blk6 (t : Fin cfg0.N) (d : Fin 1024) : (iblk m c 6 t : Vec Ideal S1x1024 .f32) (ix2 0 d) = (memArgs m c).g d := by
  refine Eq.trans ?_ (congrFun (V_main_arg3 m c) (ix2 0 d))
  show (V m c main_arg3 : Vec Ideal S1x1024 .f32) (((cfg0.win 6).blk t).view.emb (ix2 0 d)) = _
  refine congrArg _ (funext fun a => Fin.ext ?_)
  have e := idx_still t
  match a with
  | ⟨0, _⟩ => show win0_6.index t (0 : Fin 2) * 1 + 1 * 0 = 0; omega
  | ⟨1, _⟩ => show win0_6.index t (1 : Fin 2) * 1024 + 1 * d.val = d.val; omega
/-- Window 7. -/
theorem blk7 (t : Fin cfg0.N) (d : Fin 1024) : (iblk m c 7 t : Vec Ideal S1x1024 .f32) (ix2 0 d) = (memArgs m c).b d := by
  refine Eq.trans ?_ (congrFun (V_main_arg4 m c) (ix2 0 d))
  show (V m c main_arg4 : Vec Ideal S1x1024 .f32) (((cfg0.win 7).blk t).view.emb (ix2 0 d)) = _
  refine congrArg _ (funext fun a => Fin.ext ?_)
  have e := idx_still t
  match a with
  | ⟨0, _⟩ => show win0_7.index t (0 : Fin 2) * 1 + 1 * 0 = 0; omega
  | ⟨1, _⟩ => show win0_7.index t (1 : Fin 2) * 1024 + 1 * d.val = d.val; omega

/-- Positions with the same entries are the same. -/
theorem row_ext (p q : ConvSpec.Row) (e1 : ∀ d, p.a1 d = q.a1 d) (e2 : ∀ d, p.z d = q.z d) (e3 : ∀ d, p.dp d = q.dp d) (e4 : ∀ d, p.g d = q.g d)
    (e5 : ∀ d, p.b d = q.b d) : p = q := by
  cases p; cases q; cases funext e1; cases funext e2; cases funext e3; cases funext e4; cases funext e5; rfl

/-- A point's rows are the arguments'. -/
theorem blks_row (t : Fin cfg0.N) (r : Fin 256) : (blks m c t).row r = (memArgs m c).row (pos t r) := by
  have e1 := blk4 m c t r
  have e2 := blk3 m c t r
  have e3 := blk0 m c t r
  have e4 := blk6 m c t
  have e5 := blk7 m c t
  generalize memArgs m c = A at e1 e2 e3 e4 e5 ⊢
  unfold blks
  generalize iblk m c 4 t = y1 at e1 ⊢
  generalize iblk m c 3 t = y2 at e2 ⊢
  generalize iblk m c 0 t = y3 at e3 ⊢
  generalize iblk m c 6 t = y4 at e4 ⊢
  generalize iblk m c 7 t = y5 at e5 ⊢
  exact row_ext _ _ e1 e2 e3 e4 e5
/-- A point's taps. -/
theorem blks_tap (t : Fin cfg0.N) (j : Fin 31) (i : Fin 8) (d : Fin 1024) : gt (blks m c t).w j.val i d = (memArgs m c).w j d :=
  (dif_pos (show j.val < 32 by omega)).trans ((blk5 m c t ⟨j.val, by omega⟩ i d).trans (dif_pos j.isLt))
/-- A point's inputs of the convolution. -/
theorem blks_a0 (t : Fin cfg0.N) (r : Fin 256) (d : Fin 1024) : rowA0 (blks m c t).uv (blks m c t).ug r.val d = (memArgs m c).a0 (pos t r) d := by
  unfold rowA0 gr
  rw [dif_pos r.isLt, dif_pos r.isLt]
  exact congrArg₂ (fun x y => x * Ideal.logistic y) (blk1 m c t r d) (blk2 m c t r d)

end Cert.Proof.Conv

end

end
-- ==== Proof.ConvDat.lean ====
/- The backward call of the causal convolution as the program's region: its proof data, its body's obligation, the two ends
   of what is carried between points, and the program's run. -/
module

public import proofs.«01_k».proof.Proof.ConvPoint
public import Idealize.ShloMosaic.Lib.Claim

@[expose] public section

set_option maxRecDepth 16384

noncomputable section

namespace Cert.Proof.Conv

open Cert.ConvIdeal Cert.ConvIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data: the arrays as the region finds them; after point `t` each argument's buffer at its block, the gradients'
    at what the point's stores leave, the parameters' at the sums so far; between points the carried rows; nothing owed. -/
def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => View.canon (pt m c t).out
    | ⟨9, _⟩ => (stateAt m c (t.val + 1)).1
  Φ t := iprop((∃ s, owns (c : Thread nD τ) (Memref.whole cc0_scratch0) fullShare s) ∗ (∃ s, owns (c : Thread nD τ) (Memref.whole cc0_scratch1) fullShare s)
    ∗ (∃ s, owns (c : Thread nD τ) (Memref.whole cc0_scratch2) fullShare s ∗ ⌜t.val ≠ 0 → s = (stateAt m c t.val).2⌝)
    ∗ (∃ s, owns (c : Thread nD τ) (Memref.whole cc0_scratch3) fullShare s) ∗ (∃ r, prngReg c r))
  q w := Pipeline.shareOf spec0 w
  owed _ := 0

/-- The data's arrays are the contents that the region is entered with. -/
theorem dat_A (c : Dev nD) (w : Fin cfg0.W) : (dat m c).A w = V m c (Pipeline.arrRef spec0 w) := by
  dsimp only [dat]

set_option maxHeartbeats 1600000 in
/-- Each argument's buffer holds its block before each point. -/
theorem before_in (c : Dev nD) (t : Fin cfg0.N) : (∀ d, (dat m c).before 0 t d = iblk m c 0 t) ∧ (∀ d, (dat m c).before 1 t d = iblk m c 1 t) ∧ (∀ d, (dat m c).before 2 t d = iblk m c 2 t) ∧ (∀ d, (dat m c).before 3 t d = iblk m c 3 t) ∧ (∀ d, (dat m c).before 4 t d = iblk m c 4 t) ∧ (∀ d, (dat m c).before 5 t d = iblk m c 5 t) ∧ (∀ d, (dat m c).before 6 t d = iblk m c 6 t) ∧ (∀ d, (dat m c).before 7 t d = iblk m c 7 t) :=
  ⟨fun d => before0_0_of m (dat m c) (dat_A m c 0) (fun _ => rfl) t d,
    fun d => before0_1_of m (dat m c) (dat_A m c 1) (fun _ => rfl) t d,
    fun d => before0_2_of m (dat m c) (dat_A m c 2) (fun _ => rfl) t d,
    fun d => before0_3_of m (dat m c) (dat_A m c 3) (fun _ => rfl) t d,
    fun d => before0_4_of m (dat m c) (dat_A m c 4) (fun _ => rfl) t d,
    fun d => before0_5_of m (dat m c) (dat_A m c 5) (fun _ => rfl) t d,
    fun d => before0_6_of m (dat m c) (dat_A m c 6) (fun _ => rfl) t d,
    fun d => before0_7_of m (dat m c) (dat_A m c 7) (fun _ => rfl) t d⟩

/-- The parameters' gradients are kept between points. -/
theorem before_small (c : Dev nD) (t : Fin cfg0.N) (h0 : t.val ≠ 0) (d) : (dat m c).before 9 t d = (stateAt m c t.val).1 := by
  have hN : t.val < 32 := lt_of_lt_of_eq t.isLt (show cfg0.N = 32 from N_0)
  rw [Dat.before_out_kept _ 9 rfl t h0 (Bool.eq_false_iff.mpr fun h => by have := (flush0_9 _).mp h; dsimp only at this; omega)
    (fun _ => rfl) (fun _ _ => rfl)]
  dsimp only [dat]
  rw [show t.val - 1 + 1 = t.val by omega]

/-- What a point's body is called with, -/
def pre (c : Dev nD) (t : Fin cfg0.N) : sProp 𝕄 :=
  iprop((dat m c).Φ t.castSucc ∗ (dat m c).owesAt () t.castSucc
    ∗ (∃ d, owns (c : Thread nD τ) (st0_0 t) fullShare ((dat m c).before 0 t d))
    ∗ (∃ d, owns (c : Thread nD τ) (st0_1 t) fullShare ((dat m c).before 1 t d))
    ∗ (∃ d, owns (c : Thread nD τ) (st0_2 t) fullShare ((dat m c).before 2 t d))
    ∗ (∃ d, owns (c : Thread nD τ) (st0_3 t) fullShare ((dat m c).before 3 t d))
    ∗ (∃ d, owns (c : Thread nD τ) (st0_4 t) fullShare ((dat m c).before 4 t d))
    ∗ (∃ d, owns (c : Thread nD τ) (st0_5 t) fullShare ((dat m c).before 5 t d))
    ∗ (∃ d, owns (c : Thread nD τ) (st0_6 t) fullShare ((dat m c).before 6 t d))
    ∗ (∃ d, owns (c : Thread nD τ) (st0_7 t) fullShare ((dat m c).before 7 t d))
    ∗ (∃ d, owns (c : Thread nD τ) (st0_8 t) fullShare ((dat m c).before 8 t d))
    ∗ (∃ d, owns (c : Thread nD τ) (st0_9 t) fullShare ((dat m c).before 9 t d)))

/-- and what it returns. -/
def post (c : Dev nD) (t : Fin cfg0.N) : sProp 𝕄 :=
  iprop((dat m c).Φ t.succ ∗ (dat m c).owesAt () t.succ
    ∗ owns (c : Thread nD τ) (st0_0 t) fullShare ((dat m c).after 0 t)
    ∗ owns (c : Thread nD τ) (st0_1 t) fullShare ((dat m c).after 1 t)
    ∗ owns (c : Thread nD τ) (st0_2 t) fullShare ((dat m c).after 2 t)
    ∗ owns (c : Thread nD τ) (st0_3 t) fullShare ((dat m c).after 3 t)
    ∗ owns (c : Thread nD τ) (st0_4 t) fullShare ((dat m c).after 4 t)
    ∗ owns (c : Thread nD τ) (st0_5 t) fullShare ((dat m c).after 5 t)
    ∗ owns (c : Thread nD τ) (st0_6 t) fullShare ((dat m c).after 6 t)
    ∗ owns (c : Thread nD τ) (st0_7 t) fullShare ((dat m c).after 7 t)
    ∗ owns (c : Thread nD τ) (st0_8 t) fullShare ((dat m c).after 8 t)
    ∗ owns (c : Thread nD τ) (st0_9 t) fullShare ((dat m c).after 9 t))

set_option maxHeartbeats 1600000 in
/-- The body at any point: the arguments' buffers hold their blocks, the run applies, and the carried rows and the sums
    are taken over from the point before and handed on. -/
theorem sound (c : Dev nD) (t : Fin cfg0.N) :
    pre m c t ⊢ wp frame (wpE (defs₀ (F := F)) Variants.none c none) Set.univ (bodyAt0 t) (fun _ => post m c t) := by
  unfold pre post
  obtain ⟨e0, e1, e2, e3, e4, e5, e6, e7⟩ := before_in m c t
  simp only [e0, e1, e2, e3, e4, e5, e6, e7]
  rw [show (dat m c).owesAt () t.succ = (dat m c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  have hd9 : t.val ≠ 0 → (dat m c).before 9 t d9 = (stateAt m c t.val).1 := fun h => before_small m c t h d9
  generalize (dat m c).before 9 t d9 = s9 at hd9
  dsimp only [dat]
  rw [show bodyAt0 t = body (F := F) (grid0.coords t) (refs t) from rfl]
  icases HΦ with ⟨HE, HX, ⟨%s, HS, %hs⟩, HW, Hg⟩
  have hpt : pt m c t = (run c (grid0.coords t) (refs t) (blks m c t) s9 s (decide (t.val = 0)) (first_iff t)).1 := by
    unfold pt ptAt
    by_cases h0 : t.val = 0
    · exact run_first c _ _ _ _ _ _ _ _ _ (decide_eq_true h0)
    · rw [hs h0, hd9 h0]; rfl
  iapply ((run c (grid0.coords t) (refs t) (blks m c t) s9 s (decide (t.val = 0)) (first_iff t)).2 Set.univ _)
  unfold ins
  isplitl [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [H8]; · iexists _; iexact H8
  isplitl [H9]; · iexact H9
  isplitl [HE]; · iexact HE
  isplitl [HX]; · iexact HX
  isplitl [HS]; · iexact HS
  isplitl [HW]; · iexact HW
  iintro ⟨⟨H0, H1, H2, H3, H4, H5, H6, H7⟩, ⟨%e8, H8⟩, ⟨%e9, H9, %h9⟩, ⟨%ee, HE⟩, ⟨%ex, HX⟩, ⟨%es, HS⟩, ⟨%ew, HW⟩⟩
  rw [← hpt]
  isplitl [HE HX HS HW Hg]
  · isplitl [HE]
    · iexists _; unfold owns; iexists _; isplitr
      swap; · iexact HE
      ipureintro; rfl
    isplitl [HX]
    · iexists _; unfold owns; iexists _; isplitr
      swap; · iexact HX
      ipureintro; rfl
    isplitl [HS]
    · iexists (stateAt m c (t.val + 1)).2
      isplitl [HS]
      · unfold owns; iexists _; isplitr
        swap; · iexact HS
        ipureintro; rw [stateAt_succ]; exact View.read_writes_eq_canon _ _ _ (by rw [hpt]; exact cover_carry c _ _ _ _ _ _ _)
      · ipureintro; exact fun _ => rfl
    isplitl [HW]
    · iexists _; unfold owns; iexists _; isplitr
      swap; · iexact HW
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; exact View.read_writes_eq_canon _ _ _ (by rw [hpt]; exact cover_out c _ _ _ _ _ _ _)
  unfold owns; iexists _; isplitr
  swap; · iexact H9
  ipureintro
  rw [stateAt_succ]
  unfold smallOf
  by_cases h0 : t.val = 0
  · rw [if_pos h0]
    exact View.read_writes_eq_canon _ _ _ (by rw [hpt]; exact cover_small c _ _ _ _ _ _ _ (decide_eq_true h0))
  · rw [if_neg h0, h9 (decide_eq_false h0), hd9 h0]; rfl

/-- The pipeline's obligation of the body, at every point. -/
theorem obligation (c : Dev nD) : BodyObligation (dat (F := F) m c) (defs₀ (F := F)) Variants.none () Set.univ := fun t => by
  rw [bigSep_W0, bigSep_W0, show defs₀ (F := F) .tc cfg0.body (cfg0.bodyArgs t (cfg0.slots t)) = bodyAt0 t by
    unfold defs₀; rw [Defs.onTc_tc]]
  exact triple_restated (sound m c t) rfl .rfl fun _ => .rfl

/-- What the launch hands the region is what holds before the first point, -/
theorem start (c : Dev nD) : Pipeline.ΦA spec0 c ⊢ (dat m c).Φ 0 := by
  unfold Pipeline.ΦA; rw [scopedRest0_eq]
  dsimp only [dat]
  simp only [owns_whole]
  iintro ⟨⟨HE, HX, ⟨%s, HS⟩, HW⟩, Hg⟩
  isplitl [HE]; · iexact HE
  isplitl [HX]; · iexact HX
  isplitl [HS]
  · iexists s
    isplitl [HS]; · iexact HS
    ipureintro; exact fun h => absurd rfl h
  isplitl [HW]; · iexact HW
  iexact Hg

/-- and what holds after the last point gives it back. -/
theorem finish (c : Dev nD) (t : Fin (cfg0.N + 1)) : (dat m c).Φ t ⊢ Pipeline.ΦA spec0 c := by
  unfold Pipeline.ΦA; rw [scopedRest0_eq]
  dsimp only [dat]
  simp only [owns_whole]
  iintro ⟨HE, HX, ⟨%s, HS, -⟩, HW, Hg⟩
  isplitl [HE HX HS HW]
  · isplitl [HE]; · iexact HE
    isplitl [HX]; · iexact HX
    isplitl [HS]; · iexists s; iexact HS
    iexact HW
  iexact Hg

/-- The one region's data, for the launch. -/
abbrev dats : (p : Fin 1) → (c : Dev nD) → Dat τ (Elt F) Unit ℕ (UR sig nD τ) ℕ (cfgs p) c
  | ⟨0, _⟩ => dat m

set_option backward.isDefEq.respectTransparency.types false in
/-- Every run ends, with every array at what the data say of it, every other buffer as the region found it, and every
    counter at zero. -/
theorem run_main : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := dat_A m) (hin := start m) (hout := fun c => finish m c _)

/-- Every run leaves the arguments as they were and every counter at zero. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => h) <|
  θ_run_and (frame_of m ρ (dats m) (dat_A m) ((θ_run defs _ _).mono (fun _ h => h.1) (run_main m ρ)))
    ((θ_run defs _ _).mono (fun _ h => h.2) (run_main m ρ))

end Cert.Proof.Conv

end

end
-- ==== Proof.ConvValue.lean ====
/- The two result arrays of the backward convolution's kernel as functions of the arguments. -/
module

public import proofs.«01_k».proof.Proof.ConvBlocks
public import proofs.«01_k».proof.Proof.ConvDat

@[expose] public section

noncomputable section

namespace Cert.Proof.Conv

open Cert.ConvIdeal Cert.ConvIdeal.Gen Idealize.ShloMosaic Idealize.ShloMosaic.TcCoe Idealize.SL.Sem
open Cert.Proof.ConvSpec (next)

variable (m : (ℓ : Loc nD τ sig) → Buf (Elt Ideal) ℓ) (c : Dev nD)

/-- A point's gradients before the norm are the arguments'. -/
theorem blks_da1 (t : Fin cfg0.N) (r : Fin 256) (d : Fin 1024) : dA1 (blks m c t) (ix2 r d) = ((memArgs m c).row (pos t r)).da1 d := by
  rw [dA1_apply, blks_row]

/-- A point's extended rows are the arguments' rows from its first one on. -/
theorem ext_next (t : Fin cfg0.N) (n : ℕ) (hn : n < 288) (d : Fin 1024) :
    ext (blks m c t) (qAt c m t) n d = next (fun R => ((memArgs m c).row R).da1) (256 * (31 - t.val) + n) d := by
  have hN := pts
  have ht := t.isLt
  unfold ext next
  by_cases h : n < 256
  · rw [dif_pos h, dif_pos (show 256 * (31 - t.val) + n < 8192 by omega), blks_da1]
    rfl
  · rw [dif_neg h, dif_pos hn]
    unfold qAt
    by_cases h0 : t.val = 0
    · rw [if_pos h0, dif_neg (show ¬ 256 * (31 - t.val) + n < 8192 by omega)]
    · rw [if_neg h0, dif_pos (show 256 * (31 - t.val) + n < 8192 by omega)]
      have e := carry_step c m ⟨t.val - 1, by omega⟩ ⟨n - 256, by omega⟩ d
      rw [blks_da1, show (⟨t.val - 1, by omega⟩ : Fin cfg0.N).val + 1 = t.val by show t.val - 1 + 1 = t.val; omega] at e
      refine e.trans ?_
      exact congrArg (fun R => ((memArgs m c).row R).da1 d) (Fin.ext (by show 256 * (31 - (t.val - 1)) + (n - 256) = 256 * (31 - t.val) + n; omega))

/-- A point's gradients at the convolution's input. -/
theorem blks_da0 (t : Fin cfg0.N) (r : Fin 256) (d : Fin 1024) : dA0 (blks m c t) (qAt c m t) r.val d = (memArgs m c).da0 (pos t r) d := by
  unfold dA0 ConvSpec.Args.da0
  rw [← Fin.sum_univ_eq_sum_range (fun j => gt (blks m c t).w j ⟨r.val % 8, Nat.mod_lt _ (by decide)⟩ d * ext (blks m c t) (qAt c m t) (r.val + (30 - j)) d)]
  refine Finset.sum_congr rfl fun j _ => ?_
  rw [blks_tap, ext_next _ _ _ _ (by omega)]
  exact congrArg (fun n => (memArgs m c).w j d * next (fun R => ((memArgs m c).row R).da1) n d)
    (by show 256 * (31 - t.val) + (r.val + (30 - j.val)) = 256 * (31 - t.val) + r.val + (30 - j.val); omega)

/-- A point's block of the gradients. -/
theorem blks_grad (t : Fin cfg0.N) (r : Fin 256) (b : Fin 3) (d : Fin 1024) :
    gradV (blks m c t) (qAt c m t) r b d = (memArgs m c).grad (pos t r) b d := by
  match b with
  | 0 => exact congrArg₂ (fun x y => x * Ideal.logistic y) (blks_da0 m c t r d) (blk2 m c t r d)
  | 1 =>
    show dA0 (blks m c t) (qAt c m t) r.val d * (blks m c t).uv (ix2 r d) * Ideal.logistic ((blks m c t).ug (ix2 r d)) * (1 - Ideal.logistic ((blks m c t).ug (ix2 r d))) = _
    rw [blks_da0, show (blks m c t).uv (ix2 r d) = _ from blk1 m c t r d, show (blks m c t).ug (ix2 r d) = _ from blk2 m c t r d]
    rfl
  | 2 => exact congrArg (fun p : ConvSpec.Row => p.dz d) (blks_row m c t r)

/-- The gradients of the projection's columns. -/
def G8 : Vec Ideal S8192x3072 .bf16 := fun i =>
  (memArgs m c).grad (i 0) ⟨(i 1).val / 1024, by have h : (i 1).val < 3072 := (i 1).isLt; omega⟩ ⟨(i 1).val % 1024, Nat.mod_lt _ (by norm_num)⟩

/-- The window's block is a block of rows. -/
theorem emb8 (t : Fin cfg0.N) (r : Fin 256) (y : Fin 3072) :
    ((cfg0.win 8).blk t).view.emb (ix2 r y : S256x3072.Idx) = (ix2 (pos t r) y : S8192x3072.Idx) := by
  have e := idx_rows t
  funext a; apply Fin.ext
  match a with
  | ⟨0, _⟩ => show win0_8.index t (0 : Fin 2) * 256 + 1 * r.val = 256 * (31 - t.val) + r.val; omega
  | ⟨1, _⟩ => show win0_8.index t (1 : Fin 2) * 3072 + 1 * y.val = y.val; omega

/-- The array after the run. -/
theorem final8 : (dat m c).arrAt 8 cfg0.N = G8 m c := by
  have hN := pts
  refine (dat m c).arrAt_eq_of_cover 8 (G8 m c) (fun t _ => ?_) fun (i : S8192x3072.Idx) => ?_
  · show (cfg0.win 8).cut (grid0.coords t) (View.canon (pt m c t).out) = _
    funext j
    show View.canon (pt m c t).out j = G8 m c (((cfg0.win 8).blk t).view.emb j)
    obtain ⟨r, y, rfl⟩ : ∃ (r : Fin 256) (y : Fin 3072), j = (ix2 r y : S256x3072.Idx) :=
      ⟨j 0, j 1, funext fun a => by match a with | ⟨0, _⟩ => rfl | ⟨1, _⟩ => rfl⟩
    have hy := y.isLt
    rw [emb8, pt_out c m t r ⟨y.val / 1024, by omega⟩ ⟨y.val % 1024, Nat.mod_lt _ (by norm_num)⟩ y
      (by show y.val = 1024 * (y.val / 1024) + y.val % 1024; omega), blks_grad]
    rfl
  · obtain ⟨R, y, rfl⟩ : ∃ (R : Fin 8192) (y : Fin 3072), i = (ix2 R y : S8192x3072.Idx) :=
      ⟨i 0, i 1, funext fun a => by match a with | ⟨0, _⟩ => rfl | ⟨1, _⟩ => rfl⟩
    have hR := R.isLt
    have h := ((cfg0.win 8).blk ⟨31 - R.val / 256, lt_pts (by omega)⟩).view.emb_mem_set (ix2 (⟨R.val % 256, Nat.mod_lt _ (by norm_num)⟩ : Fin 256) y : S256x3072.Idx)
    rw [emb8, show pos ⟨31 - R.val / 256, lt_pts (by omega)⟩ ⟨R.val % 256, Nat.mod_lt _ (by norm_num)⟩ = R from
      Fin.ext (by show 256 * (31 - (31 - R.val / 256)) + R.val % 256 = R.val; omega)] at h
    exact ⟨⟨31 - R.val / 256, lt_pts (by omega)⟩, flush0_8 _, h⟩

/-! The small array. -/

/-- A row's summand in the parameters' gradients. -/
def summand (n : ℕ) (R : Fin 8192) (d : Fin 1024) : EReal :=
  if n < 31 then (memArgs m c).a0 R d * next (fun R => ((memArgs m c).row R).da1) (R.val + (30 - n)) d
  else if n = 31 then ((memArgs m c).row R).da1 d
  else if n = 32 then ((memArgs m c).row R).da2 d * ConvSpec.xhat ((memArgs m c).a1 R) d
  else if n = 33 then ((memArgs m c).row R).da2 d
  else 0

/-- The parameters' gradients are the sums of the rows' summands. -/
theorem small_sum (n : ℕ) (d : Fin 1024) : (memArgs m c).small n d = ∑ R, summand m c n R d := by
  unfold ConvSpec.Args.small summand ConvSpec.Args.dw
  split
  · rfl
  split
  · rfl
  split
  · rfl
  split
  · rfl
  · exact Finset.sum_const_zero.symm

/-- A point adds its rows' summands. -/
theorem inc_apply (t : Fin cfg0.N) (n : ℕ) (d : Fin 1024) : inc (blks m c t) (qAt c m t) n d = ∑ r : Fin 256, summand m c n (pos t r) d := by
  unfold inc summand
  split
  · rw [← Fin.sum_univ_eq_sum_range (fun r => term (blks m c t) (qAt c m t) n r d)]
    refine Finset.sum_congr rfl fun r _ => ?_
    unfold term
    rw [blks_a0, ext_next _ _ _ _ (by omega)]
    exact congrArg (fun k => (memArgs m c).a0 (pos t r) d * next (fun R => ((memArgs m c).row R).da1) k d)
      (by show 256 * (31 - t.val) + (r.val + (30 - n)) = 256 * (31 - t.val) + r.val + (30 - n); omega)
  split
  · exact Finset.sum_congr rfl fun r _ => by rw [blks_row]
  split
  · exact Finset.sum_congr rfl fun r _ => by rw [blks_row]; rfl
  split
  · exact Finset.sum_congr rfl fun r _ => by rw [blks_row]
  · exact Finset.sum_const_zero.symm

/-- A row's summand by the row's number, zero beyond the last row. -/
def summandN (n : ℕ) (d : Fin 1024) (R : ℕ) : EReal := if h : R < 8192 then summand m c n ⟨R, h⟩ d else 0

/-- What a point adds, over the rows' numbers. -/
theorem inc_range (k : ℕ) (hk : k < 32) (n : ℕ) (d : Fin 1024) :
    inc (blks m c ⟨k, lt_pts hk⟩) (qAt c m ⟨k, lt_pts hk⟩) n d = ∑ r ∈ Finset.range 256, summandN m c n d (256 * (31 - k) + r) := by
  rw [inc_apply, ← Fin.sum_univ_eq_sum_range (fun r => summandN m c n d (256 * (31 - k) + r))]
  refine Finset.sum_congr rfl fun r _ => ?_
  unfold summandN
  rw [dif_pos (show 256 * (31 - k) + r.val < 8192 by omega)]
  rfl

/-- The first point's small block. -/
theorem small_zero (n : Fin 40) (d : Fin 1024) : (stateAt m c 1).1 (ix2 n d) = ∑ r ∈ Finset.range 256, summandN m c n.val d (256 * (31 - 0) + r) := by
  have e := small_step c m ⟨0, lt_pts (by omega)⟩ n d
  rw [inc_range m c 0 (by omega) n.val d, if_pos rfl] at e
  exact e.trans (zero_add _)

/-- A later point's small block. -/
theorem small_succ (k : ℕ) (hk : k + 1 < 32) (n : Fin 40) (d : Fin 1024) : (stateAt m c (k + 1 + 1)).1 (ix2 n d)
    = (stateAt m c (k + 1)).1 (ix2 n d) + ∑ r ∈ Finset.range 256, summandN m c n.val d (256 * (31 - (k + 1)) + r) := by
  have e := small_step c m ⟨k + 1, lt_pts hk⟩ n d
  rw [inc_range m c (k + 1) hk n.val d, if_neg (Nat.succ_ne_zero k)] at e
  exact e

/-- After point `k` the small block holds the sums over the rows from there on. -/
theorem small_after (n : Fin 40) (d : Fin 1024) (k : ℕ) (hk : k < 32) : (stateAt m c (k + 1)).1 (ix2 n d)
    = ∑ i ∈ Finset.range (k + 1), ∑ r ∈ Finset.range 256, summandN m c n.val d (256 * (31 - i) + r) := by
  induction k with
  | zero => rw [Finset.sum_range_one]; exact small_zero m c n d
  | succ k ih => rw [Finset.sum_range_succ, ← ih (by omega)]; exact small_succ m c k hk n d

/-- Sums by blocks of 256. -/
theorem sum_blocks (f : ℕ → EReal) : ∀ n, ∑ i ∈ Finset.range n, ∑ r ∈ Finset.range 256, f (256 * i + r) = ∑ R ∈ Finset.range (256 * n), f R
  | 0 => rfl
  | n + 1 => by rw [Finset.sum_range_succ, sum_blocks f n, show 256 * (n + 1) = 256 * n + 256 by ring, Finset.sum_range_add]

/-- After the last point it holds the sums over all rows. -/
theorem small_last (n : Fin 40) (d : Fin 1024) : (stateAt m c 32).1 (ix2 n d) = (memArgs m c).small n.val d := by
  refine (small_after m c n d 31 (by omega)).trans ?_
  rw [Finset.sum_range_reflect (fun i => ∑ r ∈ Finset.range 256, summandN m c n.val d (256 * i + r)) 32, sum_blocks, small_sum,
    show 256 * 32 = 8192 from rfl, ← Fin.sum_univ_eq_sum_range]
  exact Finset.sum_congr rfl fun R _ => dif_pos R.isLt

/-- The parameters' gradients. -/
def G9 : Vec Ideal S40x1024 .f32 := fun i => (memArgs m c).small (i 0).val (i 1)

/-- The small window's block is the whole array. -/
theorem emb9 (t : Fin cfg0.N) (j : S40x1024.Idx) : ((cfg0.win 9).blk t).view.emb j = j := by
  have e := idx_still t
  funext a; apply Fin.ext
  match a with
  | ⟨0, _⟩ => show win0_9.index t (0 : Fin 2) * 40 + 1 * (j 0).val = (j 0).val; omega
  | ⟨1, _⟩ => show win0_9.index t (1 : Fin 2) * 1024 + 1 * (j 1).val = (j 1).val; omega

/-- The small array after the run. -/
theorem final9 : (dat m c).arrAt 9 cfg0.N = G9 m c := by
  have hN := pts
  refine (dat m c).arrAt_eq_of_cover 9 (G9 m c) (fun t ht => ?_) fun (i : S40x1024.Idx) => ?_
  · show (cfg0.win 9).cut (grid0.coords t) (stateAt m c (t.val + 1)).1 = _
    have ht := (flush0_9 t).mp ht
    have h32 : t.val + 1 = 32 := by have := t.isLt; omega
    rw [h32]
    funext j
    show (stateAt m c 32).1 j = G9 m c (((cfg0.win 9).blk t).view.emb j)
    obtain ⟨n, d, rfl⟩ : ∃ (n : Fin 40) (d : Fin 1024), j = (ix2 n d : S40x1024.Idx) :=
      ⟨j 0, j 1, funext fun a => by match a with | ⟨0, _⟩ => rfl | ⟨1, _⟩ => rfl⟩
    rw [emb9, small_last]
    rfl
  · refine ⟨⟨31, lt_pts (by omega)⟩, (flush0_9 _).mpr rfl, ?_⟩
    have h := ((cfg0.win 9).blk ⟨31, lt_pts (by omega)⟩).view.emb_mem_set i
    rwa [emb9] at h

end Cert.Proof.Conv

end

end
-- ==== Proof.ConvMath.lean ====
/- The convolution branch's rows at finite arguments: the gradients of the norm and of the two gates as the kernel writes them
   are those that the derivative gives. -/
module

public import proofs.«01_k».proof.Proof.ConvSpec
public import proofs.«01_k».proof.Proof.HeadSpec

@[expose] public section

noncomputable section

namespace Cert.Proof.ConvSpec

open Idealize.ShloMosaic Cert.Proof.Dh Cert.Proof.RetSpec

section

variable (y : Fin 1024 → EReal)

/-- The variance, and the share of each entry in its gradient. -/
def var : EReal := mean (fun e => oc y e * oc y e) + Ideal.ofBits .f32 0x3727C5AC#32
@[inherit_doc var] def part (g : Fin 1024 → EReal) : EReal :=
  Ideal.div ((∑ e, oc y e * g e) * (Ideal.ofBits .f32 3204448256#32 * Ideal.div (rstd y) (var y))) (Ideal.ofBits .f32 1149239296#32)

/-- The gradient before the norm, as the derivative gives it. -/
def lnR (g : Fin 1024 → EReal) (d : Fin 1024) : EReal :=
  (g d * rstd y + part y g * (Ideal.ofBits .f32 1073741824#32 * oc y d))
    + Ideal.div ((∑ e, -(g e * rstd y)) + ∑ e, -(part y g * (Ideal.ofBits .f32 1073741824#32 * oc y e))) (Ideal.ofBits .f32 1149239296#32)

end

/-- A row's normalised entries are real, and its gradient is the derivative's. -/
theorem ln_eq (y g : Fin 1024 → ℝ) (d : Fin 1024) :
    IsReal (xhat (fun e => y e) d) ∧ IsReal (lnK (fun e => y e) (fun e => g e) d) ∧ lnK (fun e => y e) (fun e => g e) d = lnR (fun e => y e) (fun e => g e) d := by
  obtain ⟨ε, hε, eε⟩ : ∃ ε : ℝ, 0 < ε ∧ Ideal.ofBits .f32 0x3727C5AC#32 = (ε : EReal) := epsReal
  have em : mean (fun e => (y e : EReal)) = (((∑ e, y e) / 1024 : ℝ) : EReal) := by
    unfold mean; rw [sum_real, c1024, div_real _ _ (by norm_num)]
  obtain ⟨u, hu⟩ : ∃ u : Fin 1024 → ℝ, u = fun e => y e - (∑ e, y e) / 1024 := ⟨_, rfl⟩
  have eo : ∀ e, oc (fun e => (y e : EReal)) e = (u e : EReal) := fun e => by
    unfold oc; rw [em, hu, ← EReal.coe_sub]
  have hs : ∑ e, u e = 0 := by
    rw [hu, Finset.sum_sub_distrib, Finset.sum_const, Finset.card_univ, Fintype.card_fin, nsmul_eq_mul]; push_cast; ring
  obtain ⟨v, ev⟩ : ∃ v : ℝ, v = (∑ e, u e * u e) / 1024 + ε := ⟨_, rfl⟩
  have hv : 0 < v := by
    rw [ev]; exact add_pos_of_nonneg_of_pos (div_nonneg (Finset.sum_nonneg fun e _ => mul_self_nonneg _) (by norm_num)) hε
  have e0 : var (fun e => (y e : EReal)) = (v : EReal) := by
    unfold var mean
    simp only [eo, ← EReal.coe_mul]
    rw [sum_real, c1024, eε, div_real _ _ (by norm_num), ← EReal.coe_add, ev]
  have er : rstd (fun e => (y e : EReal)) = (((Real.sqrt v)⁻¹ : ℝ) : EReal) := (congrArg Ideal.rsqrt e0).trans (rsqrt_real _ hv)
  have hr : (Real.sqrt v)⁻¹ * (Real.sqrt v)⁻¹ = v⁻¹ := by rw [← mul_inv, Real.mul_self_sqrt hv.le]
  have ek : lnK (fun e => (y e : EReal)) (fun e => (g e : EReal)) d
      = (((Real.sqrt v)⁻¹ * (g d - (∑ e, g e) / 1024 - u d * (Real.sqrt v)⁻¹ * ((∑ e, g e * (u e * (Real.sqrt v)⁻¹)) / 1024)) : ℝ) : EReal) := by
    unfold lnK xhat mean
    simp only [eo, er, ← EReal.coe_mul]
    rw [sum_real, sum_real, c1024, div_real _ _ (by norm_num), div_real _ _ (by norm_num)]
    simp only [← EReal.coe_mul, ← EReal.coe_sub]
  refine ⟨⟨u d * (Real.sqrt v)⁻¹, by rw [xhat, eo, er, ← EReal.coe_mul]⟩, ⟨_, ek⟩, ?_⟩
  rw [ek]
  unfold lnR part
  simp only [eo, er, e0]
  simp only [← EReal.coe_mul, ← EReal.coe_neg]
  rw [sum_real, sum_real, c1024, cHalf, c2, div_real _ _ hv.ne']
  simp only [← EReal.coe_mul, ← EReal.coe_sub]
  rw [div_real _ _ (by norm_num)]
  simp only [← EReal.coe_mul, ← EReal.coe_neg]
  rw [sum_real, ← EReal.coe_add, ← EReal.coe_add, div_real _ _ (by norm_num), ← EReal.coe_add]
  congr 1
  have h1 : (∑ e, g e * (u e * (Real.sqrt v)⁻¹)) = (∑ e, u e * g e) * (Real.sqrt v)⁻¹ := by
    rw [Finset.sum_mul]; exact Finset.sum_congr rfl fun e _ => by ring
  have h2 : (∑ e, -(g e * (Real.sqrt v)⁻¹)) = -(∑ e, g e) * (Real.sqrt v)⁻¹ := by
    rw [Finset.sum_neg_distrib, ← Finset.sum_mul]; ring
  generalize hk : ((∑ e, u e * g e) * (-(1 / 2) * ((Real.sqrt v)⁻¹ / v))) / 1024 = k
  have h3 : (∑ e, -(k * (2 * u e))) = 0 := by
    rw [Finset.sum_neg_distrib, ← Finset.mul_sum, ← Finset.mul_sum, hs]; ring
  rw [h1, h2, h3, ← hk]
  generalize (Real.sqrt v)⁻¹ = r at hr ⊢
  rw [div_eq_mul_inv _ v, ← hr]
  ring

/-- The gate's derivative is the one the chain rule gives. -/
theorem dsilu_eq (x c : ℝ) : IsReal ((c : EReal) * dsilu x)
    ∧ (c : EReal) * dsilu x = c * Ideal.logistic x + x * c * (Ideal.logistic x * (1 - Ideal.logistic x)) := by
  unfold dsilu
  rw [Ideal.logistic_coe]
  simp only [← EReal.coe_one, ← EReal.coe_mul, ← EReal.coe_sub, ← EReal.coe_add]
  refine ⟨⟨_, rfl⟩, ?_⟩
  congr 1
  ring

namespace Row

variable {p : Row}

/-- A position whose entries are finite. -/
structure Real (p : Row) : Prop where
  a1 : ∀ d, IsReal (p.a1 d)
  z : ∀ d, IsReal (p.z d)
  dp : ∀ d, IsReal (p.dp d)
  g : ∀ d, IsReal (p.g d)
  b : ∀ d, IsReal (p.b d)

/-- The norm's output is finite, -/
theorem Real.xh (h : p.Real) (d : Fin 1024) : IsReal (xhat p.a1 d) := by
  choose a ha using h.a1
  rw [funext ha]; exact (ln_eq a a d).1
theorem Real.a2 (h : p.Real) (d : Fin 1024) : IsReal (p.a2 d) := ((h.xh d).mul (h.g d)).add (h.b d)

/-- its gradients are the derivative's, -/
theorem Real.da2 (h : p.Real) (d : Fin 1024) : IsReal (p.da2 d) ∧ p.da2 d
    = (p.dp d * (p.z d * Ideal.logistic (p.z d))) * Ideal.logistic (p.a2 d) + p.a2 d * (p.dp d * (p.z d * Ideal.logistic (p.z d))) * (Ideal.logistic (p.a2 d) * (1 - Ideal.logistic (p.a2 d))) := by
  obtain ⟨x, hx⟩ := h.a2 d
  obtain ⟨c, hc⟩ := (h.dp d).mul ((h.z d).mul (HeadSpec.Pos.logistic_real (h.z d)))
  rw [Row.da2, hc, hx]; exact dsilu_eq x c
theorem Real.dz (h : p.Real) (d : Fin 1024) : p.dz d
    = (p.dp d * (p.a2 d * Ideal.logistic (p.a2 d))) * Ideal.logistic (p.z d) + p.z d * (p.dp d * (p.a2 d * Ideal.logistic (p.a2 d))) * (Ideal.logistic (p.z d) * (1 - Ideal.logistic (p.z d))) := by
  obtain ⟨x, hx⟩ := h.z d
  obtain ⟨c, hc⟩ := (h.dp d).mul ((h.a2 d).mul (HeadSpec.Pos.logistic_real (h.a2 d)))
  rw [Row.dz, hc, hx]; exact (dsilu_eq x c).2
theorem Real.da1 (h : p.Real) (d : Fin 1024) : IsReal (p.da1 d) ∧ p.da1 d = lnR p.a1 (fun e => p.da2 e * p.g e) d := by
  choose a ha using h.a1
  choose c hc using fun e => (h.da2 e).1.mul (h.g e)
  rw [Row.da1, funext ha, funext hc]; exact (ln_eq a c d).2

end Row

end Cert.Proof.ConvSpec

end
-- ==== Proof.ConvRef.lean ====
/- The derivative's two results read at an index, at finite arguments where the norm's derivative enters. -/
module

public import proofs.«01_k».proof.Proof.Gen.ConvRefIdeal.Read
public import proofs.«01_k».proof.Proof.ConvBlocks
public import proofs.«01_k».proof.Proof.ConvMath
public import proofs.«01_k».proof.Proof.DhRef

@[expose] public section

noncomputable section

namespace Cert.Proof.ConvRef

open Cert.ConvRefIdeal Cert.ConvRefIdeal.Gen Cert.ConvRefIdeal.Read Idealize.ShloMosaic Idealize.ShloMosaic.TcCoe Idealize.SL.Sem Idealize.ShloMosaic.StableHlo
open Cert.Proof.Conv (argsOf)
open Cert.Proof.ConvSpec (mean oc var rstd xhat part lnR next)

/-- A sum over two axes of one entry, in front. -/
theorem red01 (v : S1x1x1024.Idx → EReal) (init : EReal) (j : S1024.Idx) :
    Ideal.hostReduceAdd reducesTo_S1x1x1024_S1024_d0_1 v init j = init + v (ix3 0 0 (j 0)) :=
  Cert.Proof.Dh.red01 v init j

/-- A sum over two axes of one entry, around the rows. -/
theorem red02 (v : S1x8192x1.Idx → EReal) (init : EReal) (j : S8192.Idx) :
    Ideal.hostReduceAdd reducesTo_S1x8192x1_S8192_d0_2 v init j = init + v (ix3 0 (j 0) 0) :=
  Cert.Proof.Dh.red02 v init j

/-- A sum over two axes of one entry, before the taps. -/
theorem redTap (v : S1x1x31x1024.Idx → EReal) (init : EReal) (j : S31x1024.Idx) :
    Ideal.hostReduceAdd reducesTo_S1x1x31x1024_S31x1024_d0_1 v init j = init + v (ix4 0 0 (j 0) (j 1)) := by
  refine Cert.Proof.Dh.hostReduceAdd_of_fiber _ v init j _ fun i => ⟨fun e => ?_, fun e => ?_⟩
  · subst e
    funext b
    apply Fin.ext
    match b with
    | ⟨0, hb⟩ => have := (i ⟨0, hb⟩).isLt; show (i ⟨0, hb⟩).val = 0; change (i ⟨0, hb⟩).val < 1 at this; omega
    | ⟨1, hb⟩ => have := (i ⟨1, hb⟩).isLt; show (i ⟨1, hb⟩).val = 0; change (i ⟨1, hb⟩).val < 1 at this; omega
    | ⟨2, _⟩ => rfl
    | ⟨3, _⟩ => rfl
  · subst e
    funext b
    match b with
    | ⟨0, _⟩ => rfl
    | ⟨1, _⟩ => rfl

variable (x0 : Vec Ideal S1x8192x11264 .f32) (x1 : Vec Ideal S1x31x1024 .f32) (x2 x3 x4 : Vec Ideal S1x1024 .f32) (x5 : Vec Ideal S1x8192x1024 .f32)

/-- The convolution's gate. -/
theorem r9 (R : Fin 8192) (d : Fin 1024) : val_main_v9 (F := Ideal) x0 (ix3 0 R d) = Ideal.logistic ((argsOf x0 x1 x2 x3 x4 x5).ug R d) := by
  pointwise [val_main_v0, val_main_v2, val_main_v4, val_main_v5, val_main_v6, val_main_v7, val_main_v8, val_main_v9, val_main_cst, val_main_cst_0]
  exact congrArg (fun k => Ideal.logistic (x0 (ix3 0 R k))) (Fin.ext (by show 6144 + (1024 + d.val) = 7168 + d.val; omega))

/-- The convolution's first factor. -/
theorem r1 (R : Fin 8192) (d : Fin 1024) : val_main_v1 (F := Ideal) x0 (ix3 0 R d) = (argsOf x0 x1 x2 x3 x4 x5).u R d := by
  pointwise [val_main_v0, val_main_v1]
  rfl

/-- The branch's gate. -/
theorem r3 (R : Fin 8192) (d : Fin 1024) : val_main_v3 (F := Ideal) x0 (ix3 0 R d) = (argsOf x0 x1 x2 x3 x4 x5).z R d := by
  pointwise [val_main_v0, val_main_v3]
  exact congrArg (fun k => x0 (ix3 0 R k)) (Fin.ext (by show 6144 + (2048 + d.val) = 8192 + d.val; omega))

/-- The convolution's input. -/
theorem r13 (R : Fin 8192) (d : Fin 1024) : val_main_v13 (F := Ideal) x0 (ix3 0 R d) = (argsOf x0 x1 x2 x3 x4 x5).a0 R d := by
  pointwise [r9 x0 x1 x2 x3 x4 x5, r1 x0 x1 x2 x3 x4 x5, val_main_v13]
  rfl

/-- The input below thirty zero rows. -/
theorem r17 (n : Fin 8222) (d : Fin 1024) : val_main_v17 (F := Ideal) x0 (ix3 0 n d) = (argsOf x0 x1 x2 x3 x4 x5).pad n.val d := by
  pointwise [r13 x0 x1 x2 x3 x4 x5, val_main_v17, val_main_v16, val_main_cst_2]
  unfold ConvSpec.Args.pad
  by_cases h : n.val < 30
  · rw [dif_pos h, dif_neg (by omega)]
  · rw [dif_neg h, dif_pos (show 30 ≤ n.val ∧ n.val < 8222 from ⟨by omega, n.isLt⟩)]

/-- The windows' rows. -/
theorem r31 (s : Fin 8192) (j : Fin 31) : (val_main_v31 (F := Ideal) : IVec S8192x31x1 32) (ix3 s j 0) = BitVec.ofNat 32 (s.val + j.val) := by
  pointwise [val_main_v19, val_main_v20, val_main_v21, val_main_v22, val_main_v23, val_main_v24, val_main_v25, val_main_c, val_main_v26, val_main_v27, val_main_c_4, val_main_v28, val_main_v29, val_main_v30, val_main_v31]
  exact ConvGather.word s j

/-- The windows. -/
theorem r32 (s : Fin 8192) (j : Fin 31) (d : Fin 1024) : val_main_v32 (F := Ideal) x0 (ix4 0 s j d) = (argsOf x0 x1 x2 x3 x4 x5).pad (s.val + j.val) d := by
  unfold val_main_v32
  exact (ConvGather.gather_apply _ _ _ s j d (r31 s j)).trans (r17 x0 x1 x2 x3 x4 x5 ⟨s.val + j.val, by omega⟩ d)

/-- The convolution's output. -/
theorem r39 (R : Fin 8192) (d : Fin 1024) : val_main_v39 (F := Ideal) x0 x1 x2 (ix3 0 R d) = (argsOf x0 x1 x2 x3 x4 x5).a1 R d := by
  pointwise [r32 x0 x1 x2 x3 x4 x5, val_main_v14, val_main_v15, val_main_v33, val_main_v34, val_main_v35, val_main_cst_5, val_main_v36, val_main_v37, val_main_v38, val_main_v39]
  rfl

/-- The centred rows. -/
theorem r47 (R : Fin 8192) (d : Fin 1024) : val_main_v47 (F := Ideal) x0 x1 x2 (ix3 0 R d) = oc ((argsOf x0 x1 x2 x3 x4 x5).a1 R) d := by
  pointwise [r39 x0 x1 x2 x3 x4 x5, val_main_cst_6, val_main_v42, val_main_v43, val_main_cst_7, val_main_v44, val_main_v45, val_main_v46, val_main_v47]
  rfl

/-- The centred rows again. -/
theorem r56 (R : Fin 8192) (d : Fin 1024) : val_main_v56 (F := Ideal) x0 x1 x2 (ix3 0 R d) = oc ((argsOf x0 x1 x2 x3 x4 x5).a1 R) d := by
  pointwise [r39 x0 x1 x2 x3 x4 x5, val_main_cst_6, val_main_v42, val_main_v43, val_main_cst_7, val_main_v44, val_main_v45, val_main_v55, val_main_v56]
  rfl

/-- The rows' variances. -/
theorem r58 (R : Fin 8192) : val_main_v58 (F := Ideal) x0 x1 x2 (ix3 0 R 0) = var ((argsOf x0 x1 x2 x3 x4 x5).a1 R) := by
  pointwise [r47 x0 x1 x2 x3 x4 x5, val_main_v48, val_main_cst_9, val_main_v51, val_main_v52, val_main_cst_10, val_main_v53, val_main_v54, val_main_cst_11, val_main_v57, val_main_v58]
  rfl

/-- The norm's factor's derivative. -/
theorem r62 (R : Fin 8192) : val_main_v62 (F := Ideal) x0 x1 x2 (ix3 0 R 0) = Ideal.ofBits .f32 3204448256#32 * Ideal.div (rstd ((argsOf x0 x1 x2 x3 x4 x5).a1 R)) (var ((argsOf x0 x1 x2 x3 x4 x5).a1 R)) := by
  pointwise [r58 x0 x1 x2 x3 x4 x5, val_main_v59, val_main_v60, val_main_cst_12, val_main_v61, val_main_v62]
  rfl

/-- The normalised rows. -/
theorem r64 (R : Fin 8192) (d : Fin 1024) : val_main_v64 (F := Ideal) x0 x1 x2 (ix3 0 R d) = xhat ((argsOf x0 x1 x2 x3 x4 x5).a1 R) d := by
  pointwise [r58 x0 x1 x2 x3 x4 x5, r56 x0 x1 x2 x3 x4 x5, val_main_v59, val_main_v63, val_main_v64]
  rfl

/-- The norm's output. -/
theorem r70 (R : Fin 8192) (d : Fin 1024) : val_main_v70 (F := Ideal) x0 x1 x2 x3 x4 (ix3 0 R d) = ((argsOf x0 x1 x2 x3 x4 x5).row R).a2 d := by
  pointwise [r64 x0 x1 x2 x3 x4 x5, val_main_v40, val_main_v41, val_main_v65, val_main_v66, val_main_v67, val_main_v68, val_main_v69, val_main_v70]
  rfl

/-- Its gate's slope, -/
theorem r71_1 (R : Fin 8192) (d : Fin 1024) : val_main_v71_1 (F := Ideal) x0 x1 x2 x3 x4 (ix3 0 R d) = Ideal.logistic (((argsOf x0 x1 x2 x3 x4 x5).row R).a2 d) * (1 - Ideal.logistic (((argsOf x0 x1 x2 x3 x4 x5).row R).a2 d)) := by
  pointwise [r70 x0 x1 x2 x3 x4 x5, val_main_call0_v0, val_main_call0_v1, val_main_call0_cst, val_main_call0_v2, val_main_call0_v3, val_main_call0_cst_0, val_main_call0_v4, val_main_v71_2, val_main_call0_cst_1, val_main_call0_v6, val_main_call0_v7, val_main_v71_1]
  rfl

/-- its gate, -/
theorem r71_2 (R : Fin 8192) (d : Fin 1024) : val_main_v71_2 (F := Ideal) x0 x1 x2 x3 x4 (ix3 0 R d) = Ideal.logistic (((argsOf x0 x1 x2 x3 x4 x5).row R).a2 d) := by
  pointwise [r70 x0 x1 x2 x3 x4 x5, val_main_call0_v0, val_main_call0_v1, val_main_call0_cst, val_main_call0_v2, val_main_call0_v3, val_main_call0_cst_0, val_main_call0_v4, val_main_v71_2]
  rfl

/-- and its gated value. -/
theorem r71_0 (R : Fin 8192) (d : Fin 1024) : val_main_v71_0 (F := Ideal) x0 x1 x2 x3 x4 (ix3 0 R d) = ((argsOf x0 x1 x2 x3 x4 x5).row R).a2 d * Ideal.logistic (((argsOf x0 x1 x2 x3 x4 x5).row R).a2 d) := by
  pointwise [r70 x0 x1 x2 x3 x4 x5, r71_2 x0 x1 x2 x3 x4 x5, val_main_v71_0]

/-- The branch's gate's slope, -/
theorem r72_1 (R : Fin 8192) (d : Fin 1024) : val_main_v72_1 (F := Ideal) x0 (ix3 0 R d) = Ideal.logistic ((argsOf x0 x1 x2 x3 x4 x5).z R d) * (1 - Ideal.logistic ((argsOf x0 x1 x2 x3 x4 x5).z R d)) := by
  pointwise [r3 x0 x1 x2 x3 x4 x5, val_main_call1_v0, val_main_call1_v1, val_main_call1_cst, val_main_call1_v2, val_main_call1_v3, val_main_call1_cst_0, val_main_call1_v4, val_main_v72_2, val_main_call1_cst_1, val_main_call1_v6, val_main_call1_v7, val_main_v72_1]
  rfl

/-- its gate, -/
theorem r72_2 (R : Fin 8192) (d : Fin 1024) : val_main_v72_2 (F := Ideal) x0 (ix3 0 R d) = Ideal.logistic ((argsOf x0 x1 x2 x3 x4 x5).z R d) := by
  pointwise [r3 x0 x1 x2 x3 x4 x5, val_main_call1_v0, val_main_call1_v1, val_main_call1_cst, val_main_call1_v2, val_main_call1_v3, val_main_call1_cst_0, val_main_call1_v4, val_main_v72_2]
  rfl

/-- and its gated value. -/
theorem r72_0 (R : Fin 8192) (d : Fin 1024) : val_main_v72_0 (F := Ideal) x0 (ix3 0 R d) = (argsOf x0 x1 x2 x3 x4 x5).z R d * Ideal.logistic ((argsOf x0 x1 x2 x3 x4 x5).z R d) := by
  pointwise [r3 x0 x1 x2 x3 x4 x5, r72_2 x0 x1 x2 x3 x4 x5, val_main_v72_0]

/-- The gradient at the branch's gate. -/
theorem r76 (h : ∀ R, ((argsOf x0 x1 x2 x3 x4 x5).row R).Real) (R : Fin 8192) (d : Fin 1024) : val_main_v76 (F := Ideal) x0 x1 x2 x3 x4 x5 (ix3 0 R d) = ((argsOf x0 x1 x2 x3 x4 x5).row R).dz d := by
  pointwise [r71_0 x0 x1 x2 x3 x4 x5, r72_1 x0 x1 x2 x3 x4 x5, r72_2 x0 x1 x2 x3 x4 x5, r3 x0 x1 x2 x3 x4 x5, val_main_v74, val_main_call2_v0, val_main_call2_v1, val_main_call2_v2, val_main_v76]
  rw [(h R).dz d, mul_comm (((argsOf x0 x1 x2 x3 x4 x5).row R).dp d)]
  rfl

/-- The gradient at the norm's output. -/
theorem r77 (h : ∀ R, ((argsOf x0 x1 x2 x3 x4 x5).row R).Real) (R : Fin 8192) (d : Fin 1024) : val_main_v77 (F := Ideal) x0 x1 x2 x3 x4 x5 (ix3 0 R d) = ((argsOf x0 x1 x2 x3 x4 x5).row R).da2 d := by
  pointwise [r72_0 x0 x1 x2 x3 x4 x5, r71_1 x0 x1 x2 x3 x4 x5, r71_2 x0 x1 x2 x3 x4 x5, r70 x0 x1 x2 x3 x4 x5, val_main_v75, val_main_call3_v0, val_main_call3_v1, val_main_call3_v2, val_main_v77]
  rw [((h R).da2 d).2]
  rfl

/-- The gradient at the normalised rows. -/
theorem r85 (h : ∀ R, ((argsOf x0 x1 x2 x3 x4 x5).row R).Real) (R : Fin 8192) (d : Fin 1024) : val_main_v85 (F := Ideal) x0 x1 x2 x3 x4 x5 (ix3 0 R d) = ((argsOf x0 x1 x2 x3 x4 x5).row R).da2 d * ((argsOf x0 x1 x2 x3 x4 x5).row R).g d := by
  pointwise [r77 x0 x1 x2 x3 x4 x5 h, val_main_v40, val_main_v65, val_main_v84, val_main_v85]
  rfl

/-- The gradient through the variance. -/
theorem r100 (h : ∀ R, ((argsOf x0 x1 x2 x3 x4 x5).row R).Real) (R : Fin 8192) (d : Fin 1024) : val_main_v101 (F := Ideal) x0 x1 x2 x3 x4 x5 (ix3 0 R d) = part ((argsOf x0 x1 x2 x3 x4 x5).a1 R) (fun e => ((argsOf x0 x1 x2 x3 x4 x5).row R).da2 e * ((argsOf x0 x1 x2 x3 x4 x5).row R).g e) * (Ideal.ofBits .f32 1073741824#32 * oc ((argsOf x0 x1 x2 x3 x4 x5).a1 R) d) := by
  pointwise [red02, r85 x0 x1 x2 x3 x4 x5 h, r62 x0 x1 x2 x3 x4 x5, r47 x0 x1 x2 x3 x4 x5, r56 x0 x1 x2 x3 x4 x5, val_main_v87, val_main_cst_17, val_main_v88, val_main_v89, val_main_v92, val_main_cst_19, val_main_v96, val_main_v97, val_main_cst_20, val_main_v98, val_main_v99, val_main_v100, val_main_cst_8, val_main_v49, val_main_v50, val_main_v101]
  rfl

/-- The gradient of the centred rows. -/
theorem r91 (h : ∀ R, ((argsOf x0 x1 x2 x3 x4 x5).row R).Real) (R : Fin 8192) (d : Fin 1024) : val_main_v91 (F := Ideal) x0 x1 x2 x3 x4 x5 (ix3 0 R d) = ((argsOf x0 x1 x2 x3 x4 x5).row R).da2 d * ((argsOf x0 x1 x2 x3 x4 x5).row R).g d * rstd ((argsOf x0 x1 x2 x3 x4 x5).a1 R) := by
  pointwise [r85 x0 x1 x2 x3 x4 x5 h, r58 x0 x1 x2 x3 x4 x5, val_main_v59, val_main_v90, val_main_v91]
  rfl

/-- The gradient at the convolution's output. -/
theorem r112 (h : ∀ R, ((argsOf x0 x1 x2 x3 x4 x5).row R).Real) (R : Fin 8192) (d : Fin 1024) : val_main_v112 (F := Ideal) x0 x1 x2 x3 x4 x5 (ix3 0 R d) = ((argsOf x0 x1 x2 x3 x4 x5).row R).da1 d := by
  pointwise [red02, r91 x0 x1 x2 x3 x4 x5 h, r100 x0 x1 x2 x3 x4 x5 h, val_main_v93, val_main_cst_18, val_main_v94, val_main_v95, val_main_v102, val_main_cst_21, val_main_v103, val_main_v104, val_main_v105, val_main_v106, val_main_cst_22, val_main_v107, val_main_v108, val_main_cst_23, val_main_v109, val_main_v110, val_main_v111, val_main_v112]
  rw [((h R).da1 d).2]
  rfl

/-- What the windows' entries gain. -/
theorem r123 (h : ∀ R, ((argsOf x0 x1 x2 x3 x4 x5).row R).Real) (s : Fin 8192) (j : Fin 31) (d : Fin 1024) : val_main_v123 (F := Ideal) x0 x1 x2 x3 x4 x5 (ix4 0 s j d) = (argsOf x0 x1 x2 x3 x4 x5).w j d * ((argsOf x0 x1 x2 x3 x4 x5).row s).da1 d := by
  pointwise [r112 x0 x1 x2 x3 x4 x5 h, val_main_v14, val_main_v33, val_main_v118, val_main_v122, val_main_v123]
  exact mul_comm _ _

/-- The gradient at the convolution's input below thirty rows, -/
theorem r126 (h : ∀ R, ((argsOf x0 x1 x2 x3 x4 x5).row R).Real) (n : Fin 8222) (d : Fin 1024) : val_main_v126 (F := Ideal) x0 x1 x2 x3 x4 x5 (ix3 0 n d) = ∑ j : Fin 31, if k : j.val ≤ n.val ∧ n.val - j.val < 8192 then (argsOf x0 x1 x2 x3 x4 x5).w j d * ((argsOf x0 x1 x2 x3 x4 x5).row ⟨n.val - j.val, k.2⟩).da1 d else 0 := by
  unfold val_main_v126
  refine (ConvGather.scatter_apply _ _ _ _ r31 n d).trans ?_
  rw [show (val_main_v125 (F := Ideal)) (ix3 0 n d) = 0 by pointwise [val_main_v125, val_main_cst_28], zero_add]
  refine Finset.sum_congr rfl fun j _ => ?_
  split
  · exact r123 x0 x1 x2 x3 x4 x5 h _ _ _
  · rfl

/-- and without them. -/
theorem r128 (h : ∀ R, ((argsOf x0 x1 x2 x3 x4 x5).row R).Real) (R : Fin 8192) (d : Fin 1024) : val_main_v128 (F := Ideal) x0 x1 x2 x3 x4 x5 (ix3 0 R d) = (argsOf x0 x1 x2 x3 x4 x5).da0 R d := by
  pointwise [r126 x0 x1 x2 x3 x4 x5 h, val_main_v128]
  refine Finset.sum_congr rfl fun j _ => ?_
  have hj := j.isLt
  have hR := R.isLt
  have e : 30 + R.val - j.val = R.val + (30 - j.val) := by omega
  unfold next
  by_cases k : R.val + (30 - j.val) < 8192
  · rw [dif_pos k, dif_pos (show j.val ≤ 30 + R.val ∧ 30 + R.val - j.val < 8192 from ⟨by omega, by omega⟩)]
    exact congrArg (fun n => _ * ((argsOf x0 x1 x2 x3 x4 x5).row n).da1 d) (Fin.ext e)
  · rw [dif_neg k, dif_neg (by omega), mul_zero]

/-- A tap's gradient by the windows is its gradient by the rows. -/
theorem tap (A : ConvSpec.Args) (f : Fin 8192 → Fin 1024 → EReal) (j : Fin 31) (d : Fin 1024) :
    ∑ R : Fin 8192, A.pad (R.val + j.val) d * f R d = ∑ R : Fin 8192, A.a0 R d * next f (R.val + (30 - j.val)) d := by
  have hj := j.isLt
  have l : ∑ R : Fin 8192, A.pad (R.val + j.val) d * f R d = ∑ n ∈ Finset.range 8192, A.pad (n + j.val) d * next f n d := by
    rw [← Fin.sum_univ_eq_sum_range (fun n => A.pad (n + j.val) d * next f n d)]
    refine Finset.sum_congr rfl fun R _ => ?_
    unfold next
    rw [dif_pos R.isLt]
  have r : ∑ R : Fin 8192, A.a0 R d * next f (R.val + (30 - j.val)) d = ∑ n ∈ Finset.range 8192, A.pad (n + 30) d * next f (n + (30 - j.val)) d := by
    rw [← Fin.sum_univ_eq_sum_range (fun n => A.pad (n + 30) d * next f (n + (30 - j.val)) d)]
    refine Finset.sum_congr rfl fun R _ => ?_
    unfold ConvSpec.Args.pad
    rw [dif_pos (show 30 ≤ R.val + 30 ∧ R.val + 30 < 8222 by omega)]
    exact congrArg (fun R => A.a0 R d * _) (Fin.ext (by show R.val = R.val + 30 - 30; omega))
  rw [l, r, show 8192 = (30 - j.val) + (8192 - (30 - j.val)) by omega, Finset.sum_range_add,
    show (30 - j.val) + (8192 - (30 - j.val)) = (8192 - (30 - j.val)) + (30 - j.val) by omega, Finset.sum_range_add,
    Finset.sum_eq_zero (s := Finset.range (30 - j.val)) (f := fun n => A.pad (n + j.val) d * next f n d), zero_add,
    Finset.sum_eq_zero (s := Finset.range (30 - j.val)) (f := fun n => A.pad (8192 - (30 - j.val) + n + 30) d * next f (8192 - (30 - j.val) + n + (30 - j.val)) d), add_zero]
  · refine Finset.sum_congr rfl fun n _ => ?_
    rw [show 30 - j.val + n + j.val = n + 30 by omega, show 30 - j.val + n = n + (30 - j.val) by omega]
  · intro n hn
    unfold next
    rw [dif_neg (by omega), mul_zero]
  · intro n hn
    have hn := Finset.mem_range.mp hn
    unfold ConvSpec.Args.pad
    rw [dif_neg (by omega), zero_mul]

/-- A tap's gradient. -/
theorem r124 (h : ∀ R, ((argsOf x0 x1 x2 x3 x4 x5).row R).Real) (j : Fin 31) (d : Fin 1024) : val_main_v134 (F := Ideal) x0 x1 x2 x3 x4 x5 (ix2 j d) = (argsOf x0 x1 x2 x3 x4 x5).dw j d := by
  pointwise [redTap, r32 x0 x1 x2 x3 x4 x5, r112 x0 x1 x2 x3 x4 x5 h, val_main_v118, val_main_v119, val_main_cst_26, val_main_v120, val_main_v121, val_main_cst_27, val_main_v124, val_main_v129, val_main_v130, val_main_v134]
  exact tap (argsOf x0 x1 x2 x3 x4 x5) _ j d

/-- The gradients of the projection's columns. -/
theorem ref0 (h : ∀ R, ((argsOf x0 x1 x2 x3 x4 x5).row R).Real) (R : Fin 8192) (y : Fin 3072) : (val_main_v141 (F := Ideal) x0 x1 x2 x3 x4 x5 : Vec Ideal S8192x3072 .bf16) (ix2 R y) = (argsOf x0 x1 x2 x3 x4 x5).grad R ⟨y.val / 1024, by omega⟩ ⟨y.val % 1024, Nat.mod_lt _ (by norm_num)⟩ := by
  pointwise [r128 x0 x1 x2 x3 x4 x5 h, r76 x0 x1 x2 x3 x4 x5 h, r9 x0 x1 x2 x3 x4 x5, r1 x0 x1 x2 x3 x4 x5, val_main_cst_1, val_main_v10, val_main_v11, val_main_v12, val_main_v131, val_main_v132, val_main_v133, val_main_v137, val_main_v138, val_main_v139, val_main_v140, val_main_v141]
  have hy := y.isLt
  have c (b : Fin 3) (e : Fin 1024) (q : y.val = 1024 * b.val + e.val) : (argsOf x0 x1 x2 x3 x4 x5).grad R ⟨y.val / 1024, by omega⟩ ⟨y.val % 1024, Nat.mod_lt _ (by norm_num)⟩ = (argsOf x0 x1 x2 x3 x4 x5).grad R b e := by
    rw [(Fin.ext (by show y.val / 1024 = b.val; omega) : (⟨y.val / 1024, by omega⟩ : Fin 3) = b), (Fin.ext (by show y.val % 1024 = e.val; omega) : (⟨y.val % 1024, Nat.mod_lt _ (by norm_num)⟩ : Fin 1024) = e)]
  by_cases h0 : y.val < 1024
  · rw [dif_pos h0, c 0 ⟨y.val, h0⟩ (by show y.val = 1024 * 0 + y.val; omega)]; rfl
  rw [dif_neg h0]
  by_cases h1 : y.val - 1024 < 1024
  · rw [dif_pos h1, c 1 ⟨y.val - 1024, h1⟩ (by show y.val = 1024 * 1 + (y.val - 1024); omega)]
    rw [mul_comm ((argsOf x0 x1 x2 x3 x4 x5).u R _), ← mul_assoc]; rfl
  rw [dif_neg h1, c 2 ⟨y.val - 1024 - 1024, by omega⟩ (by show y.val = 1024 * 2 + (y.val - 1024 - 1024); omega)]
  rfl

/-- The parameters' gradients. -/
theorem ref1 (h : ∀ R, ((argsOf x0 x1 x2 x3 x4 x5).row R).Real) (n : Fin 40) (d : Fin 1024) : (val_main_v136 (F := Ideal) x0 x1 x2 x3 x4 x5 : Vec Ideal S40x1024 .f32) (ix2 n d) = (argsOf x0 x1 x2 x3 x4 x5).small n.val d := by
  pointwise [red01, r124 x0 x1 x2 x3 x4 x5 h, r112 x0 x1 x2 x3 x4 x5 h, r77 x0 x1 x2 x3 x4 x5 h, r64 x0 x1 x2 x3 x4 x5, val_main_cst_13, val_main_v78, val_main_v79, val_main_cst_14, val_main_v80, val_main_v81, val_main_cst_15, val_main_v82, val_main_v83, val_main_cst_16, val_main_v86, val_main_cst_24, val_main_v115, val_main_v116, val_main_cst_25, val_main_v117, val_main_v113, val_main_v114, val_main_v129, val_main_cst_29, val_main_v135, val_main_v136]
  unfold ConvSpec.Args.small
  have hn := n.isLt
  split
  · rfl
  by_cases k1 : n.val = 31
  · rw [dif_pos (by omega), if_pos k1]
  rw [dif_neg (by omega), if_neg k1]
  by_cases k2 : n.val = 32
  · rw [dif_pos (by omega), if_pos k2]; exact Finset.sum_congr rfl fun R _ => mul_comm _ _
  rw [dif_neg (by omega), if_neg k2]
  by_cases k3 : n.val = 33
  · rw [dif_pos (by omega), if_pos k3]
  rw [dif_neg (by omega), if_neg k3]

end Cert.Proof.ConvRef

end

end
-- ==== Proof.ConvClaims.lean ====
/- The claims about the backward call of the causal convolution and the derivative of its forward lines. -/
module

public import proofs.«01_k».proof.Defs
public import proofs.«01_k».proof.Proof.ConvValue
public import proofs.«01_k».proof.Proof.ConvRef
public import proofs.«01_k».proof.Proof.HeadClaims
public import proofs.«01_k».proof.Proof.Gen.Conv
public import proofs.«01_k».proof.Proof.Gen.ConvRefIdeal.Run
public import proofs.«01_k».proof.Proof.Gen.Pre_conv_finite
public import Idealize.ShloMosaic.Adequacy
public import Idealize.ShloMosaic.Init

@[expose] public section

noncomputable section

namespace Cert.Proof.ConvClaims

open Idealize.ShloMosaic Idealize.ShloMosaic.TcCoe Idealize.SL.Sem
open Cert.Proof.Conv Cert.Proof.RetSpec
open Cert.Proof.Head (ext2)

/-- The kernel's program runs and leaves its arguments and every counter as they were, on extended real numbers -/
theorem frame_ideal : Cert.quiescent_ConvIdeal := fun m ρ _ => Cert.Proof.Conv.quiet (F := Ideal) m ρ

/-- What is claimed of the program on machine floats, said of the text that the two programs share. -/
def QuietBits : Prop :=
  ∀ (m : (ℓ : Loc Cert.ConvIdeal.nD Cert.ConvIdeal.τ Cert.ConvIdeal.sig) → Buf (Elt Bits) ℓ) (g : Dev Cert.ConvIdeal.nD → PrngReg), True →
    θ_run (Cert.ConvIdeal.defs (F := Bits)) (onTc (τ := Cert.ConvIdeal.τ) (Cert.ConvIdeal.main (F := Bits))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
      ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
      ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5))
      ∧ r.2.sem = fun _ => 0)

/-- The two programs have the same text. -/
theorem same_text : Cert.quiescent_Conv = QuietBits := by
  sl_kernel_rfl

/-- So the run on machine floats too leaves the arguments and every counter as they were. -/
theorem frame_kernel : Cert.quiescent_Conv := same_text.mpr fun m ρ _ => Cert.Proof.Conv.quiet (F := Bits) m ρ

/-- The derivative's program runs and leaves its arguments and every counter as they were. -/
theorem frame_ref : Cert.quiescent_ConvRefIdeal := fun m ρ _ =>
  (θ_run Cert.ConvRefIdeal.defs _ _).mono (fun r h => ⟨fun c => (h c).2.2, sem_eq_zero_of_no_sems (by decide) r.2⟩) (Cert.ConvRefIdeal.Value.run (F := Ideal) m ρ)

/-- The precondition's arrays are finite at every row. -/
theorem real (m : (ℓ : Loc Cert.ConvIdeal.nD Cert.ConvIdeal.τ Cert.ConvIdeal.sig) → Buf (Elt Ideal) ℓ)
    (hpre : Cert.Pre_ConvIdeal_conv_finite m) (c : Dev Cert.ConvIdeal.nD) (R : Fin 8192) : ((memArgs m c).row R).Real := by
  obtain ⟨h0, h1, h2, h3, h4, h5⟩ := hpre c
  have g (R : Fin 8192) (e : Fin 3072) (k : Fin 11264) (hk : k.val = 6144 + e.val) :
      IsReal (m ((c.tc : Thread Cert.ConvIdeal.nD Cert.ConvIdeal.τ).loc Cert.ConvIdeal.main_arg0) (ix3 0 R k)) := by
    have := Cert.Proof.Dh.real_of_cmp _ _ (fun _ => rfl) h0 (ix3 0 R e)
    pointwise [] at this
    rwa [show k = ⟨6144 + e.val, by omega⟩ from Fin.ext hk]
  have a0 (R : Fin 8192) (d : Fin 1024) : IsReal ((memArgs m c).a0 R d) :=
    (g R ⟨d.val, by omega⟩ ⟨6144 + d.val, by omega⟩ rfl).mul
      (Cert.Proof.HeadSpec.Pos.logistic_real (g R ⟨1024 + d.val, by omega⟩ ⟨7168 + d.val, by omega⟩ (by show 7168 + d.val = 6144 + (1024 + d.val); omega)))
  have pad (n : ℕ) (d : Fin 1024) : IsReal ((memArgs m c).pad n d) := by
    unfold ConvSpec.Args.pad
    split
    · exact a0 _ _
    · exact IsReal.zero
  exact ⟨fun d => (IsReal.sum fun j => (pad _ d).mul (Cert.Proof.Dh.real_of_cmp _ _ (fun _ => rfl) h1 _)).add (Cert.Proof.Dh.real_of_cmp _ _ (fun _ => rfl) h2 _),
    fun d => g R ⟨2048 + d.val, by omega⟩ ⟨8192 + d.val, by omega⟩ (by show 8192 + d.val = 6144 + (2048 + d.val); omega),
    fun d => Cert.Proof.Dh.real_of_cmp _ _ (fun _ => rfl) h5 _, fun d => Cert.Proof.Dh.real_of_cmp _ _ (fun _ => rfl) h3 _,
    fun d => Cert.Proof.Dh.real_of_cmp _ _ (fun _ => rfl) h4 _⟩

/-- The kernel's run leaves the two arrays. -/
theorem run_arrays (m : (ℓ : Loc Cert.ConvIdeal.nD Cert.ConvIdeal.τ Cert.ConvIdeal.sig) → Buf (Elt Ideal) ℓ) (ρ : Dev Cert.ConvIdeal.nD → PrngReg) :
    θ_run (Cert.ConvIdeal.defs (F := Ideal)) (onTc (τ := Cert.ConvIdeal.τ) (Cert.ConvIdeal.main (F := Ideal))) ⟨m, fun _ => 0, ρ⟩ (fun r => ∀ c : Dev Cert.ConvIdeal.nD,
      r.2.mem ((c.tc : Thread Cert.ConvIdeal.nD Cert.ConvIdeal.τ).loc Cert.ConvIdeal.main_v43_0) = G8 m c
      ∧ r.2.mem ((c.tc : Thread Cert.ConvIdeal.nD Cert.ConvIdeal.τ).loc Cert.ConvIdeal.main_v43_1) = G9 m c) :=
  (θ_run _ _ _).mono (fun r h c => ⟨((h.1 c).1 8).trans (final8 m c), ((h.1 c).1 9).trans (final9 m c)⟩) (run_main m ρ)

/-- At finite arguments the kernel's two results are the derivative's. -/
theorem algebraic : Cert.algebraic_ConvIdeal_ConvRefIdeal_pre_conv_finite := by
  intro m ρ m' ρ' hpre hagree
  refine ⟨fun c => G8 m c, fun c => G9 m c, ?_, ?_⟩
  · exact (θ_run _ _ _).mono (fun r h c => ⟨(h.1 c).1, (h.1 c).2, h.2.1 c⟩) (θ_run_and (run_arrays m ρ) (Cert.Proof.Conv.quiet (F := Ideal) m ρ))
  · refine (θ_run Cert.ConvRefIdeal.defs _ _).mono (fun r h c => ?_) (Cert.ConvRefIdeal.Value.run (F := Ideal) m' ρ')
    obtain ⟨e0, e1, e2, e3, e4, e5⟩ := hagree c
    obtain ⟨h0, h1, hk⟩ := h c
    have e : argsOf (m' ((c.tc : Thread Cert.ConvRefIdeal.nD Cert.ConvRefIdeal.τ).loc Cert.ConvRefIdeal.main_arg0))
        (m' ((c.tc : Thread Cert.ConvRefIdeal.nD Cert.ConvRefIdeal.τ).loc Cert.ConvRefIdeal.main_arg1))
        (m' ((c.tc : Thread Cert.ConvRefIdeal.nD Cert.ConvRefIdeal.τ).loc Cert.ConvRefIdeal.main_arg2))
        (m' ((c.tc : Thread Cert.ConvRefIdeal.nD Cert.ConvRefIdeal.τ).loc Cert.ConvRefIdeal.main_arg3))
        (m' ((c.tc : Thread Cert.ConvRefIdeal.nD Cert.ConvRefIdeal.τ).loc Cert.ConvRefIdeal.main_arg4))
        (m' ((c.tc : Thread Cert.ConvRefIdeal.nD Cert.ConvRefIdeal.τ).loc Cert.ConvRefIdeal.main_arg5)) = memArgs m c := by
      unfold memArgs
      rw [e0, e1, e2, e3, e4, e5]
    have hr := real m hpre c
    rw [← e] at hr
    refine ⟨h0.trans ?_, h1.trans ?_, hk⟩
    · exact (Cert.ConvRefIdeal.Read.val_main_v141_eq _).trans (ext2 fun R y => (ConvRef.ref0 _ _ _ _ _ _ hr R y).trans
        (congrArg (fun A : ConvSpec.Args => A.grad R ⟨y.val / 1024, by omega⟩ ⟨y.val % 1024, Nat.mod_lt _ (by norm_num)⟩) e))
    · exact (Cert.ConvRefIdeal.Read.val_main_v136_eq _).trans (ext2 fun n d => (ConvRef.ref1 _ _ _ _ _ _ hr n d).trans
        (congrArg (fun A : ConvSpec.Args => A.small n.val d) e))

end Cert.Proof.ConvClaims

end
-- ==== Proof.RopeClaims.lean ====
/- The claims about the rotary tables: the cosines and sines of the positions times the frequencies. -/
module

public import proofs.«01_k».proof.Defs
public import proofs.«01_k».proof.Proof.Gen.Rope.Frame
public import proofs.«01_k».proof.Proof.Gen.RopeIdeal.Frame
public import Idealize.ShloMosaic.Lib.Pipeline.Value
public import proofs.«01_k».proof.Proof.Gen.RopeRefIdeal.Run
public import Idealize.ShloMosaic.Lib.StableHlo.ReadAt
public import Idealize.ShloMosaic.Lib.Pointwise
public import Idealize.ShloMosaic.Adequacy
public import Idealize.ShloMosaic.Init

@[expose] public section

noncomputable section

namespace Cert.Proof.RopeClaims

open Idealize.ShloMosaic Idealize.ShloMosaic.TcCoe Idealize.SL.Sem Idealize.ShloMosaic.StableHlo
open Cert.RopeIdeal Cert.RopeIdeal.Gen

/-- The plain tables' program runs and leaves its argument and every counter as they were. -/
theorem frame_ref : Cert.quiescent_RopeRefIdeal := fun m ρ _ =>
  (θ_run Cert.RopeRefIdeal.defs _ _).mono (fun r h => ⟨fun c => (h c).2.2, sem_eq_zero_of_no_sems (by decide) r.2⟩)
    (Cert.RopeRefIdeal.Value.run (F := Ideal) m ρ)

/-- The windows' block indices: all but the frequencies' walk the rows. -/
theorem idxs : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Every point writes its blocks back. -/
theorem flush : ∀ t : Fin cfg0.N, (cfg0.win 2).flush t = true ∧ (cfg0.win 3).flush t = true := by decide +kernel

theorem hz : (![0, 0] : Fin 2 → Nat) = fun _ => 0 := funext fun a => by fin_cases a <;> rfl

section
variable (m : (ℓ : Loc nD τ sig) → Buf (Elt Ideal) ℓ) (ρ : Dev nD → PrngReg)

/-- What a point writes back of the cosines. -/
theorem flushed2 (c : Dev nD) (t : Fin cfg0.N) :
    (dats m 0 c).flushed 2 t = (cfg0.win 2).cut (grid0.coords t) (out0_2 (iblk m c 0 t) (iblk m c 1 t)) := by
  show (cfg0.win 2).cut (grid0.coords t) ((dats m 0 c).after 2 t) = _
  rw [after0_2]

/-- What a point writes back of the sines. -/
theorem flushed3 (c : Dev nD) (t : Fin cfg0.N) :
    (dats m 0 c).flushed 3 t = (cfg0.win 3).cut (grid0.coords t) (out0_3 (iblk m c 0 t) (iblk m c 1 t)) := by
  show (cfg0.win 3).cut (grid0.coords t) ((dats m 0 c).after 3 t) = _
  rw [after0_3]

/-- The run, each result array named. -/
theorem run_blocks : θ_run defs (onTc (τ := τ) (main (F := Ideal))) ⟨m, fun _ => 0, ρ⟩ fun r => ∀ c : Dev nD,
      r.2.mem ((c : Thread nD τ).loc main_v8_0) = (dats m 0 c).arrAt 2 cfg0.N
      ∧ r.2.mem ((c : Thread nD τ).loc main_v8_1) = (dats m 0 c).arrAt 3 cfg0.N
      ∧ r.2.mem ((c : Thread nD τ).loc main_arg0) = m ((c : Thread nD τ).loc main_arg0) :=
  (θ_run defs _ _).mono (fun r h c => ⟨(h c).1 2, (h c).1 3,
      ((h c).2 main_arg0 (Pipeline.mem_restRefs_of main_arg0 (by decide) (by decide))).trans (V_main_arg0 m c)⟩)
    (run_main m ρ)

end

/-- There are 8 points. -/
theorem pts : cfg0.N = 8 := by decide +kernel
theorem lt_pts {n : ℕ} (h : n < 8) : n < cfg0.N := by rw [pts]; exact h

/-- Row `r` of point `t`'s rows. -/
def row (t : Fin cfg0.N) (r : Fin 1024) : Fin 8192 :=
  ⟨1024 * t.val + r.val, by have := t.isLt; have := r.isLt; have := pts; omega⟩

/-- Point `t`'s block of the cosines at an index. -/
theorem emb2 (t : Fin cfg0.N) (r : Fin 1024) (d : Fin 128) :
    ((cfg0.win 2).blk t).view.emb (ix2 r d : S1024x128.Idx) = (ix2 (row t r) d : S8192x128.Idx) := by
  refine funext fun a => Fin.ext ?_
  have e := idxs t
  match a with
  | ⟨0, _⟩ => show win0_2.index t (0 : Fin 2) * 1024 + 1 * r.val = 1024 * t.val + r.val; omega
  | ⟨1, _⟩ => show win0_2.index t (1 : Fin 2) * 128 + 1 * d.val = d.val; omega

/-- Point `t`'s block of the sines at an index. -/
theorem emb3 (t : Fin cfg0.N) (r : Fin 1024) (d : Fin 128) :
    ((cfg0.win 3).blk t).view.emb (ix2 r d : S1024x128.Idx) = (ix2 (row t r) d : S8192x128.Idx) := by
  refine funext fun a => Fin.ext ?_
  have e := idxs t
  match a with
  | ⟨0, _⟩ => show win0_3.index t (0 : Fin 2) * 1024 + 1 * r.val = 1024 * t.val + r.val; omega
  | ⟨1, _⟩ => show win0_3.index t (1 : Fin 2) * 128 + 1 * d.val = d.val; omega

/-- The angle at a position for a frequency: the position times 10000 to the minus `d / 128`. -/
def angle (p : Vec Ideal S1x8192 .i32) (R : Fin 8192) (d : Fin 128) : EReal :=
  (FloatOps.sitofp (F := Ideal) .f32 (p (ix2 0 R)) : EReal) * Host.powf (F := Ideal) (broadcastInDim S128 ![] bcast_S_S128 (constant S_ .f32 0x461C4000#32))
    (Host.divf (Host.negf (sitofp .f32 (iotaInDim S128 32 0))) (broadcastInDim S128 ![] bcast_S_S128 (constant S_ .f32 0x43000000#32))) (ix1 d)

/-- The tables' two results. -/
def cosines (p : Vec Ideal S1x8192 .i32) : Vec Ideal S8192x128 .f32 := fun i => FloatOps.cos (F := Ideal) (φ := .f32) (angle p (i 0) (i 1))
def sines (p : Vec Ideal S1x8192 .i32) : Vec Ideal S8192x128 .f32 := fun i => FloatOps.sin (F := Ideal) (φ := .f32) (angle p (i 0) (i 1))

variable (m : (ℓ : Loc nD τ sig) → Buf (Elt Ideal) ℓ) (c : Dev nD)

/-- The positions as a column. -/
theorem v7 (R : Fin 8192) : (V m c main_v7 : Vec Ideal S8192x1 .i32) (ix2 R 0) = m ((c : Thread nD τ).loc main_arg0) (ix2 0 R) := by
  after_reads_at

/-- What a point multiplies, at an index. -/
theorem product (t : Fin cfg0.N) (r : Fin 1024) (d : Fin 128) :
    (FloatOps.sitofp (F := Ideal) .f32 ((iblk m c 0 t : Vec Ideal S1024x1 .i32) (ix2 r 0)) : EReal) * (iblk m c 1 t : Vec Ideal S1x128 .f32) (ix2 0 d)
      = angle (m ((c : Thread nD τ).loc main_arg0)) (row t r) d := by
  have e := idxs t
  have h0 : (iblk m c 0 t : Vec Ideal S1024x1 .i32) (ix2 r 0) = (V m c main_v7 : Vec Ideal S8192x1 .i32) (ix2 (row t r) 0) := by
    show (V m c main_v7 : Vec Ideal S8192x1 .i32) (((cfg0.win 0).blk t).view.emb (ix2 r 0)) = _
    refine congrArg _ (funext fun a => Fin.ext ?_)
    match a with
    | ⟨0, _⟩ => show win0_0.index t (0 : Fin 2) * 1024 + 1 * r.val = 1024 * t.val + r.val; omega
    | ⟨1, _⟩ => show win0_0.index t (1 : Fin 2) * 1 + 1 * 0 = 0; omega
  have h1 : (iblk m c 1 t : Vec Ideal S1x128 .f32) (ix2 0 d) = (V m c main_v6 : Vec Ideal S1x128 .f32) (ix2 0 d) := by
    show (V m c main_v6 : Vec Ideal S1x128 .f32) (((cfg0.win 1).blk t).view.emb (ix2 0 d)) = _
    refine congrArg _ (funext fun a => Fin.ext ?_)
    match a with
    | ⟨0, _⟩ => show win0_1.index t (0 : Fin 2) * 1 + 1 * 0 = 0; omega
    | ⟨1, _⟩ => show win0_1.index t (1 : Fin 2) * 128 + 1 * d.val = d.val; omega
  have h6 : (V m c main_v6 : Vec Ideal S1x128 .f32) (ix2 0 d) = Host.powf (F := Ideal) (broadcastInDim S128 ![] bcast_S_S128 (constant S_ .f32 0x461C4000#32))
    (Host.divf (Host.negf (sitofp .f32 (iotaInDim S128 32 0))) (broadcastInDim S128 ![] bcast_S_S128 (constant S_ .f32 0x43000000#32))) (ix1 d) := by
    after_reads_at
  rw [h0, h1, v7, h6]
  rfl

/-- The cosines after the run. -/
theorem final2 : (dats m 0 c).arrAt 2 cfg0.N = cosines (m ((c : Thread nD τ).loc main_arg0)) := by
  refine (dats m 0 c).arrAt_eq_of_cover 2 (cosines (m ((c : Thread nD τ).loc main_arg0))) (fun t _ => ?_) fun (i : S8192x128.Idx) => ?_
  · rw [flushed2]
    funext j
    obtain ⟨r, d, rfl⟩ : ∃ (r : Fin 1024) (d : Fin 128), j = (ix2 r d : S1024x128.Idx) :=
      ⟨j 0, j 1, funext fun a => by match a with | ⟨0, _⟩ => rfl | ⟨1, _⟩ => rfl⟩
    show out0_2 (iblk m c 0 t) (iblk m c 1 t) (ix2 r d : S1024x128.Idx) = cosines (m ((c : Thread nD τ).loc main_arg0)) (((cfg0.win 2).blk t).view.emb (ix2 r d : S1024x128.Idx))
    rw [emb2]
    unfold out0_2
    rw [View.canon_unit_zero hz, View.ld_unit_zero hz, View.ld_unit_zero hz]
    show _ = FloatOps.cos (F := Ideal) (φ := .f32) (angle _ (row t r) d)
    rw [← product]
    pointwise [k0_pay2, k0_pay1]
  · obtain ⟨R, d, rfl⟩ : ∃ (R : Fin 8192) (d : Fin 128), i = (ix2 R d : S8192x128.Idx) :=
      ⟨i 0, i 1, funext fun a => by match a with | ⟨0, _⟩ => rfl | ⟨1, _⟩ => rfl⟩
    have hR := R.isLt
    refine ⟨⟨R.val / 1024, lt_pts (by omega)⟩, (flush _).1, ?_⟩
    have h := ((cfg0.win 2).blk ⟨R.val / 1024, lt_pts (by omega)⟩).view.emb_mem_set
      (ix2 (⟨R.val % 1024, Nat.mod_lt _ (by norm_num)⟩ : Fin 1024) d : S1024x128.Idx)
    have e : row ⟨R.val / 1024, lt_pts (by omega)⟩ ⟨R.val % 1024, Nat.mod_lt _ (by norm_num)⟩ = R :=
      Fin.ext (by show 1024 * (R.val / 1024) + R.val % 1024 = R.val; omega)
    rw [emb2, e] at h
    exact h

/-- The sines after the run. -/
theorem final3 : (dats m 0 c).arrAt 3 cfg0.N = sines (m ((c : Thread nD τ).loc main_arg0)) := by
  refine (dats m 0 c).arrAt_eq_of_cover 3 (sines (m ((c : Thread nD τ).loc main_arg0))) (fun t _ => ?_) fun (i : S8192x128.Idx) => ?_
  · rw [flushed3]
    funext j
    obtain ⟨r, d, rfl⟩ : ∃ (r : Fin 1024) (d : Fin 128), j = (ix2 r d : S1024x128.Idx) :=
      ⟨j 0, j 1, funext fun a => by match a with | ⟨0, _⟩ => rfl | ⟨1, _⟩ => rfl⟩
    show out0_3 (iblk m c 0 t) (iblk m c 1 t) (ix2 r d : S1024x128.Idx) = sines (m ((c : Thread nD τ).loc main_arg0)) (((cfg0.win 3).blk t).view.emb (ix2 r d : S1024x128.Idx))
    rw [emb3]
    unfold out0_3
    rw [View.canon_unit_zero hz, View.ld_unit_zero hz, View.ld_unit_zero hz]
    show _ = FloatOps.sin (F := Ideal) (φ := .f32) (angle _ (row t r) d)
    rw [← product]
    pointwise [k0_pay3, k0_pay1]
  · obtain ⟨R, d, rfl⟩ : ∃ (R : Fin 8192) (d : Fin 128), i = (ix2 R d : S8192x128.Idx) :=
      ⟨i 0, i 1, funext fun a => by match a with | ⟨0, _⟩ => rfl | ⟨1, _⟩ => rfl⟩
    have hR := R.isLt
    refine ⟨⟨R.val / 1024, lt_pts (by omega)⟩, (flush _).2, ?_⟩
    have h := ((cfg0.win 3).blk ⟨R.val / 1024, lt_pts (by omega)⟩).view.emb_mem_set
      (ix2 (⟨R.val % 1024, Nat.mod_lt _ (by norm_num)⟩ : Fin 1024) d : S1024x128.Idx)
    have e : row ⟨R.val / 1024, lt_pts (by omega)⟩ ⟨R.val % 1024, Nat.mod_lt _ (by norm_num)⟩ = R :=
      Fin.ext (by show 1024 * (R.val / 1024) + R.val % 1024 = R.val; omega)
    rw [emb3, e] at h
    exact h

/-- The kernel's tables are the plain ones. -/
theorem algebraic : Cert.algebraic_RopeIdeal_RopeRefIdeal := by
  intro m ρ m' ρ' _ hagree
  refine ⟨fun c => cosines (m ((c : Thread nD τ).loc main_arg0)), fun c => sines (m ((c : Thread nD τ).loc main_arg0)),
    (θ_run Cert.RopeIdeal.defs _ _).mono (fun r h c => ⟨(h c).1.trans (final2 m c), (h c).2.1.trans (final3 m c), (h c).2.2⟩)
      (run_blocks m ρ),
    (θ_run Cert.RopeRefIdeal.defs _ _).mono (fun r h c => ⟨(h c).1.trans ?_, (h c).2.1.trans ?_, (h c).2.2⟩)
      (Cert.RopeRefIdeal.Value.run (F := Ideal) m' ρ')⟩
  all_goals
    rw [hagree c]
    funext (i : S8192x128.Idx)
    obtain ⟨R, d, rfl⟩ : ∃ (R : Fin 8192) (d : Fin 128), i = (ix2 R d : S8192x128.Idx) :=
      ⟨i 0, i 1, funext fun a => by match a with | ⟨0, _⟩ => rfl | ⟨1, _⟩ => rfl⟩
    pointwise [cosines, sines, angle]

end Cert.Proof.RopeClaims

end
-- ==== Proof.DwClaims.lean ====
/- The claims about the convolution projection's gradient: the transposed rows times the gradient's columns. -/
module

public import proofs.«01_k».proof.Defs
public import proofs.«01_k».proof.Proof.Gen.Dw.Frame
public import proofs.«01_k».proof.Proof.Gen.DwIdeal.Value
public import proofs.«01_k».proof.Proof.Gen.DwRefIdeal.Run
public import Idealize.ShloMosaic.Lib.StableHlo.ReadAt
public import Idealize.ShloMosaic.Lib.Pointwise
public import Idealize.ShloMosaic.Adequacy
public import Idealize.ShloMosaic.Init

@[expose] public section

noncomputable section

namespace Cert.Proof.DwClaims

open Idealize.ShloMosaic Idealize.ShloMosaic.TcCoe Idealize.SL.Sem Idealize.ShloMosaic.StableHlo
open Cert.DwIdeal Cert.DwIdeal.Gen Cert.DwIdeal.Value

/-- The plain product's program runs and leaves its arguments and every counter as they were. -/
theorem frame_ref : Cert.quiescent_DwRefIdeal := fun m ρ _ =>
  (θ_run Cert.DwRefIdeal.defs _ _).mono (fun r h => ⟨fun c => (h c).2, sem_eq_zero_of_no_sems (by decide) r.2⟩)
    (Cert.DwRefIdeal.Value.run (F := Ideal) m ρ)

/-- The windows' block indices: four blocks of rows for each block of the result's columns. -/
theorem idxs : ∀ t : Fin cfg0.N, win0_0.index t (0 : Fin 2) = t.val % 4 ∧ win0_0.index t (1 : Fin 2) = 0
    ∧ win0_1.index t (0 : Fin 2) = t.val % 4 ∧ win0_1.index t (1 : Fin 2) = t.val / 4 :=
  (by decide +kernel : ∀ t : Fin grid0.N, _)

/-- The sum over all rows of the left entry times the right one. -/
def result (x : Vec Ideal S1x8192x1024 .f32) (g : Vec Ideal S1x8192x3072 .f32) : Vec Ideal S1024x3072 .f32 :=
  fun i => (∑ k : Fin 8192, x (ix3 0 k (i 0)) * g (ix3 0 k (i 1)) : EReal)

/-- A sum over 8192 rows, in four parts of 2048 rows. -/
theorem sum_parts (f : Fin 8192 → EReal) : (∑ k, f k) = ((0 + ∑ k : Fin 2048, f ⟨k.val, by omega⟩)
    + ∑ k : Fin 2048, f ⟨2048 + k.val, by omega⟩) + (∑ k : Fin 2048, f ⟨4096 + k.val, by omega⟩) + ∑ k : Fin 2048, f ⟨6144 + k.val, by omega⟩ := by
  have h : (∑ k, f k) = ∑ q : Fin 4, ∑ k : Fin 2048, f ⟨k.val + 2048 * q.val, by have := q.isLt; have := k.isLt; omega⟩ := by
    rw [← Fintype.sum_prod_type' (f := fun (q : Fin 4) (k : Fin 2048) => f ⟨k.val + 2048 * q.val, by have := q.isLt; have := k.isLt; omega⟩)]
    exact (Fintype.sum_equiv (finProdFinEquiv (m := 4) (n := 2048)) _ f fun _ => rfl).symm
  rw [h, Fin.sum_univ_four, zero_add]
  refine congrArg₂ _ (congrArg₂ _ (congrArg₂ _ ?_ ?_) ?_) ?_ <;> refine Finset.sum_congr rfl fun k _ => congrArg f (Fin.ext ?_)
  · show k.val + 2048 * 0 = k.val; omega
  · show k.val + 2048 * 1 = 2048 + k.val; omega
  · show k.val + 2048 * 2 = 4096 + k.val; omega
  · show k.val + 2048 * 3 = 6144 + k.val; omega

variable (m : (ℓ : Loc nD τ sig) → Buf (Elt Ideal) ℓ) (c : Dev nD)

/-- The left rows. -/
theorem v1 (R : Fin 8192) (d : Fin 1024) : (V m c main_v1 : Vec Ideal S8192x1024 .bf16) (ix2 R d) = m ((c : Thread nD τ).loc main_arg0) (ix3 0 R d) := by
  after_reads_at

/-- The right rows. -/
theorem v3 (R : Fin 8192) (d : Fin 3072) : (V m c main_v3 : Vec Ideal S8192x3072 .bf16) (ix2 R d) = m ((c : Thread nD τ).loc main_arg1) (ix3 0 R d) := by
  after_reads_at

theorem blk0 (t : Fin cfg0.N) (r : Fin 2048) (d : Fin 1024) (R : Fin 8192) (hR : R.val = t.val % 4 * 2048 + r.val) :
    (iblk m c 0 t : Vec Ideal S2048x1024 .bf16) (ix2 r d) = m ((c : Thread nD τ).loc main_arg0) (ix3 0 R d) := by
  rw [← v1 m c]
  show (V m c main_v1 : Vec Ideal S8192x1024 .bf16) (((cfg0.win 0).blk t).view.emb (ix2 r d)) = _
  refine congrArg _ (funext fun a => Fin.ext ?_)
  have e := idxs t
  match a with
  | ⟨0, _⟩ => show win0_0.index t (0 : Fin 2) * 2048 + 1 * r.val = R.val; omega
  | ⟨1, _⟩ => show win0_0.index t (1 : Fin 2) * 1024 + 1 * d.val = d.val; omega

theorem blk1 (t : Fin cfg0.N) (r : Fin 2048) (d : Fin 1024) (R : Fin 8192) (D : Fin 3072) (hR : R.val = t.val % 4 * 2048 + r.val)
    (hD : D.val = t.val / 4 * 1024 + d.val) :
    (iblk m c 1 t : Vec Ideal S2048x1024 .bf16) (ix2 r d) = m ((c : Thread nD τ).loc main_arg1) (ix3 0 R D) := by
  rw [← v3 m c]
  show (V m c main_v3 : Vec Ideal S8192x3072 .bf16) (((cfg0.win 1).blk t).view.emb (ix2 r d)) = _
  refine congrArg _ (funext fun a => Fin.ext ?_)
  have e := idxs t
  match a with
  | ⟨0, _⟩ => show win0_1.index t (0 : Fin 2) * 2048 + 1 * r.val = R.val; omega
  | ⟨1, _⟩ => show win0_1.index t (1 : Fin 2) * 1024 + 1 * d.val = D.val; omega

/-- One point's addition, at an index. -/
theorem pay_apply (acc : Vec Ideal S1024x1024 .f32) (x g : Vec Ideal S2048x1024 .bf16) (r d : Fin 1024) :
    k0_pay2 acc x g (ix2 r d) = (acc (ix2 r d) + ∑ k : Fin 2048, x (ix2 k r) * g (ix2 k d) : EReal) := by
  pointwise [k0_pay2]

/-- One point's product, in the arguments. -/
theorem part (t : Fin cfg0.N) (r d : Fin 1024) (o : ℕ) (ho : o = t.val % 4 * 2048) (D : Fin 3072) (hD : D.val = t.val / 4 * 1024 + d.val) :
    (∑ k : Fin 2048, (show EReal from (iblk m c 0 t : Vec Ideal S2048x1024 .bf16) (ix2 k r)) * (show EReal from (iblk m c 1 t : Vec Ideal S2048x1024 .bf16) (ix2 k d)) : EReal)
      = ∑ k : Fin 2048, (show EReal from m ((c : Thread nD τ).loc main_arg0) (ix3 0 (⟨o + k.val, by have := k.isLt; omega⟩ : Fin 8192) r))
        * (show EReal from m ((c : Thread nD τ).loc main_arg1) (ix3 0 (⟨o + k.val, by have := k.isLt; omega⟩ : Fin 8192) D)) :=
  Finset.sum_congr rfl fun k _ => by
    rw [blk0 m c t k r ⟨o + k.val, by have := k.isLt; omega⟩ (by show o + k.val = _; omega),
      blk1 m c t k d ⟨o + k.val, by have := k.isLt; omega⟩ D (by show o + k.val = _; omega) hD]

/-- The result array is the plain product. -/
theorem value : G2 m c = result (m ((c : Thread nD τ).loc main_arg0)) (m ((c : Thread nD τ).loc main_arg1)) := by
  funext (i : S1024x3072.Idx)
  obtain ⟨r, D, rfl⟩ : ∃ (r : Fin 1024) (D : Fin 3072), i = (ix2 r D : S1024x3072.Idx) :=
    ⟨i 0, i 1, funext fun a => by match a with | ⟨0, _⟩ => rfl | ⟨1, _⟩ => rfl⟩
  have hr := r.isLt
  have hD := D.isLt
  have hN : cfg0.N = 12 := N_0
  have q : run2Of (ix2 r D : S1024x3072.Idx) = D.val / 1024 := by
    show 3 * (r.val / 1024 - 0) + 1 * (D.val / 1024 - 0) = D.val / 1024
    omega
  have l : loc2Of (ix2 r D : S1024x3072.Idx) = (ix2 r (⟨D.val % 1024, Nat.mod_lt _ (by decide)⟩ : Fin 1024) : S1024x1024.Idx) := by
    refine funext fun a => Fin.ext ?_
    match a with
    | ⟨0, _⟩ => show r.val % 1024 = r.val; omega
    | ⟨1, _⟩ => rfl
  unfold G2
  rw [dif_pos (by rw [q]; omega), l]
  generalize run2Of (ix2 r D : S1024x3072.Idx) = n at q ⊢
  have hz : ∀ j, k0_pay1 (F := Ideal) j = (0 : EReal) := fun j => by
    pointwise [k0_pay1]
  simp only [Pipeline.accAt_succ, Pipeline.accAt_zero, reset2, step2]
  rw [pay_apply, pay_apply, pay_apply, pay_apply, hz,
    part m c _ r _ 0 (by show 0 = (4 * n) % 4 * 2048; omega) D (by show D.val = (4 * n) / 4 * 1024 + D.val % 1024; omega),
    part m c _ r _ 2048 (by show 2048 = (4 * n + 1) % 4 * 2048; omega) D (by show D.val = (4 * n + 1) / 4 * 1024 + D.val % 1024; omega),
    part m c _ r _ 4096 (by show 4096 = (4 * n + 2) % 4 * 2048; omega) D (by show D.val = (4 * n + 2) / 4 * 1024 + D.val % 1024; omega),
    part m c _ r _ 6144 (by show 6144 = (4 * n + 3) % 4 * 2048; omega) D (by show D.val = (4 * n + 3) / 4 * 1024 + D.val % 1024; omega)]
  show _ = (∑ k : Fin 8192, _ : EReal)
  rw [sum_parts]
  simp only [Nat.zero_add]
  rfl

/-- The kernel's gradient is the plain product. -/
theorem algebraic : Cert.algebraic_DwIdeal_DwRefIdeal := by
  intro m ρ m' ρ' _ hagree
  refine ⟨fun c => result (m ((c : Thread nD τ).loc main_arg0)) (m ((c : Thread nD τ).loc main_arg1)),
    (θ_run Cert.DwIdeal.defs _ _).mono (fun r h c => ⟨(h c).1.trans (value m c), (h c).2⟩) (Cert.DwIdeal.Value.run (F := Ideal) m ρ),
    (θ_run Cert.DwRefIdeal.defs _ _).mono (fun r h c => ⟨(h c).1.trans ?_, (h c).2⟩) (Cert.DwRefIdeal.Value.run (F := Ideal) m' ρ')⟩
  obtain ⟨e0, e1⟩ := hagree c
  rw [e0, e1]
  funext (i : S1024x3072.Idx)
  obtain ⟨r, d, rfl⟩ : ∃ (r : Fin 1024) (d : Fin 3072), i = (ix2 r d : S1024x3072.Idx) :=
    ⟨i 0, i 1, funext fun a => by match a with | ⟨0, _⟩ => rfl | ⟨1, _⟩ => rfl⟩
  pointwise [result]
  exact Fin.sum_univ_one _

end Cert.Proof.DwClaims

end
-- ==== Proof.DwrClaims.lean ====
/- The claims about the gradient of the input projection's columns that the retention reads, a product of the rows and their
   gradients in four results: the queries', keys', values' and gates' columns. -/
module

public import proofs.«01_k».proof.Defs
public import proofs.«01_k».proof.Proof.Gen.Dwr.Frame
public import proofs.«01_k».proof.Proof.Gen.DwrIdeal.Value
public import proofs.«01_k».proof.Proof.Gen.DwrRefIdeal.Run
public import proofs.«01_k».proof.Proof.DwClaims
public import Idealize.ShloMosaic.Lib.StableHlo.ReadAt
public import Idealize.ShloMosaic.Lib.Pointwise
public import Idealize.ShloMosaic.Adequacy
public import Idealize.ShloMosaic.Init

@[expose] public section

noncomputable section

namespace Cert.Proof.DwrClaims

open Idealize.ShloMosaic Idealize.ShloMosaic.TcCoe Idealize.SL.Sem Idealize.ShloMosaic.StableHlo
open Cert.DwrIdeal Cert.DwrIdeal.Gen Cert.DwrIdeal.Value

/-- The plain product's program runs and leaves its arguments and every counter as they were. -/
theorem frame_ref : Cert.quiescent_DwrRefIdeal := fun m ρ _ =>
  (θ_run Cert.DwrRefIdeal.defs _ _).mono (fun r h => ⟨fun c => (h c).2.2.2.2, sem_eq_zero_of_no_sems (by decide) r.2⟩)
    (Cert.DwrRefIdeal.Value.run (F := Ideal) m ρ)

/-- The windows' block indices: four blocks of rows for each head's columns. -/
theorem idxs : ∀ t : Fin cfg0.N, win0_0.index t (0 : Fin 2) = t.val % 4 ∧ win0_0.index t (1 : Fin 2) = 0
    ∧ win0_1.index t (0 : Fin 2) = t.val % 4 ∧ win0_1.index t (1 : Fin 2) = t.val / 4 :=
  (by decide +kernel : ∀ t : Fin grid0.N, _)

/-- The sum over all rows of column `r` on the left times column `D` on the right. -/
def entry (x : Vec Ideal S1x8192x1024 .f32) (g : Vec Ideal S1x8192x6144 .f32) (r : Fin 1024) (D : ℕ) : EReal :=
  ∑ k : Fin 8192, (show EReal from x (ix3 0 k r)) * (show EReal from g (ix3 0 k (⟨D % 6144, Nat.mod_lt _ (by decide)⟩ : Fin 6144)))

/-- A result whose heads have 256 columns, that begin at column `o` of each head's 1536 columns. -/
def narrow (x : Vec Ideal S1x8192x1024 .f32) (g : Vec Ideal S1x8192x6144 .f32) (o : ℕ) : Vec Ideal S1024x1024 .f32 :=
  fun i => entry x g (i 0) (1536 * ((i 1).val / 256) + (o + (i 1).val % 256))
/-- A result whose heads have 512 columns. -/
def wide (x : Vec Ideal S1x8192x1024 .f32) (g : Vec Ideal S1x8192x6144 .f32) (o : ℕ) : Vec Ideal S1024x2048 .f32 :=
  fun i => entry x g (i 0) (1536 * ((i 1).val / 512) + (o + (i 1).val % 512))

variable (m : (ℓ : Loc nD τ sig) → Buf (Elt Ideal) ℓ) (c : Dev nD)

/-- The left rows. -/
theorem v1 (R : Fin 8192) (d : Fin 1024) : (V m c main_v1 : Vec Ideal S8192x1024 .bf16) (ix2 R d) = m ((c : Thread nD τ).loc main_arg0) (ix3 0 R d) := by
  after_reads_at

/-- The right rows. -/
theorem v3 (R : Fin 8192) (d : Fin 6144) : (V m c main_v3 : Vec Ideal S8192x6144 .bf16) (ix2 R d) = m ((c : Thread nD τ).loc main_arg1) (ix3 0 R d) := by
  after_reads_at

theorem blk0 (t : Fin cfg0.N) (r : Fin 2048) (d : Fin 1024) (R : Fin 8192) (hR : R.val = t.val % 4 * 2048 + r.val) :
    (iblk m c 0 t : Vec Ideal S2048x1024 .bf16) (ix2 r d) = m ((c : Thread nD τ).loc main_arg0) (ix3 0 R d) := by
  rw [← v1 m c]
  show (V m c main_v1 : Vec Ideal S8192x1024 .bf16) (((cfg0.win 0).blk t).view.emb (ix2 r d)) = _
  refine congrArg _ (funext fun a => Fin.ext ?_)
  have e := idxs t
  match a with
  | ⟨0, _⟩ => show win0_0.index t (0 : Fin 2) * 2048 + 1 * r.val = R.val; omega
  | ⟨1, _⟩ => show win0_0.index t (1 : Fin 2) * 1024 + 1 * d.val = d.val; omega

theorem blk1 (t : Fin cfg0.N) (r : Fin 2048) (d : Fin 1536) (R : Fin 8192) (D : Fin 6144) (hR : R.val = t.val % 4 * 2048 + r.val)
    (hD : D.val = t.val / 4 * 1536 + d.val) :
    (iblk m c 1 t : Vec Ideal S2048x1536 .bf16) (ix2 r d) = m ((c : Thread nD τ).loc main_arg1) (ix3 0 R D) := by
  rw [← v3 m c]
  show (V m c main_v3 : Vec Ideal S8192x6144 .bf16) (((cfg0.win 1).blk t).view.emb (ix2 r d)) = _
  refine congrArg _ (funext fun a => Fin.ext ?_)
  have e := idxs t
  match a with
  | ⟨0, _⟩ => show win0_1.index t (0 : Fin 2) * 2048 + 1 * r.val = R.val; omega
  | ⟨1, _⟩ => show win0_1.index t (1 : Fin 2) * 1536 + 1 * d.val = D.val; omega

/-- The product of two blocks at an index. -/
def prod (x : Vec Ideal S2048x1024 .bf16) (g : Vec Ideal S2048x1536 .bf16) (r : Fin 1024) (e : Fin 1536) : EReal :=
  ∑ k : Fin 2048, (show EReal from x (ix2 k r)) * (show EReal from g (ix2 k e))

/-! One point's addition in each of the four results, at an index. -/

theorem pay6_apply (x : Vec Ideal S2048x1024 .bf16) (g : Vec Ideal S2048x1536 .bf16) (acc : Vec Ideal S1024x256 .f32) (r : Fin 1024) (d : Fin 256) :
    k0_pay6 x g acc (ix2 r d) = (acc (ix2 r d) + prod x g r ⟨0 + d.val, by omega⟩ : EReal) := by
  pointwise [k0_pay6, k0_pay5, prod]

theorem pay7_apply (x : Vec Ideal S2048x1024 .bf16) (g : Vec Ideal S2048x1536 .bf16) (acc : Vec Ideal S1024x256 .f32) (r : Fin 1024) (d : Fin 256) :
    k0_pay7 x g acc (ix2 r d) = (acc (ix2 r d) + prod x g r ⟨256 + d.val, by omega⟩ : EReal) := by
  pointwise [k0_pay7, k0_pay5, prod]

theorem pay8_apply (x : Vec Ideal S2048x1024 .bf16) (g : Vec Ideal S2048x1536 .bf16) (acc : Vec Ideal S1024x512 .f32) (r : Fin 1024) (d : Fin 512) :
    k0_pay8 x g acc (ix2 r d) = (acc (ix2 r d) + prod x g r ⟨512 + d.val, by omega⟩ : EReal) := by
  pointwise [k0_pay8, k0_pay5, prod]

theorem pay9_apply (x : Vec Ideal S2048x1024 .bf16) (g : Vec Ideal S2048x1536 .bf16) (acc : Vec Ideal S1024x512 .f32) (r : Fin 1024) (d : Fin 512) :
    k0_pay9 x g acc (ix2 r d) = (acc (ix2 r d) + prod x g r ⟨1024 + d.val, by omega⟩ : EReal) := by
  pointwise [k0_pay9, k0_pay5, prod]

/-! The zeros that each result begins from. -/

theorem pay1_apply (j : S1024x256.Idx) : k0_pay1 (F := Ideal) j = (0 : EReal) := by pointwise [k0_pay1]
theorem pay2_apply (j : S1024x256.Idx) : k0_pay2 (F := Ideal) j = (0 : EReal) := by pointwise [k0_pay2]
theorem pay3_apply (j : S1024x512.Idx) : k0_pay3 (F := Ideal) j = (0 : EReal) := by pointwise [k0_pay3]
theorem pay4_apply (j : S1024x512.Idx) : k0_pay4 (F := Ideal) j = (0 : EReal) := by pointwise [k0_pay4]

/-- One point's product, in the arguments. -/
theorem part (t : Fin cfg0.N) (r : Fin 1024) (e : Fin 1536) (o : ℕ) (ho : o = t.val % 4 * 2048) (D : Fin 6144) (hD : D.val = t.val / 4 * 1536 + e.val) :
    prod (iblk m c 0 t) (iblk m c 1 t) r e
      = ∑ k : Fin 2048, (show EReal from m ((c : Thread nD τ).loc main_arg0) (ix3 0 (⟨o + k.val, by have := k.isLt; omega⟩ : Fin 8192) r))
        * (show EReal from m ((c : Thread nD τ).loc main_arg1) (ix3 0 (⟨o + k.val, by have := k.isLt; omega⟩ : Fin 8192) D)) :=
  Finset.sum_congr rfl fun k _ => by
    rw [blk0 m c t k r ⟨o + k.val, by have := k.isLt; omega⟩ (by show o + k.val = _; omega),
      blk1 m c t k e ⟨o + k.val, by have := k.isLt; omega⟩ D (by show o + k.val = _; omega) hD]

/-- A result's four additions over a head's points give the sum over all rows. -/
theorem accum {s : Shape} (reset : (n : ℕ) → n < cfg0.N → Vec Ideal s .f32) (step : (n : ℕ) → n < cfg0.N → Vec Ideal s .f32 → Vec Ideal s .f32)
    (j : s.Idx) (r : Fin 1024) (e : Fin 1536) (hr : ∀ n h, reset n h j = (0 + prod (iblk m c 0 ⟨n, h⟩) (iblk m c 1 ⟨n, h⟩) r e : EReal))
    (hs : ∀ n h acc, step n h acc j = (acc j + prod (iblk m c 0 ⟨n, h⟩) (iblk m c 1 ⟨n, h⟩) r e : EReal)) (n : ℕ) (h : 4 * n + 3 < cfg0.N) :
    Pipeline.accAt reset step (4 * n) 3 h j = entry (m ((c : Thread nD τ).loc main_arg0)) (m ((c : Thread nD τ).loc main_arg1)) r (1536 * n + e.val) := by
  have hN : cfg0.N = 16 := N_0
  have he := e.isLt
  have hD : (1536 * n + e.val) % 6144 = 1536 * n + e.val := Nat.mod_eq_of_lt (by omega)
  unfold entry
  generalize hD' : (⟨(1536 * n + e.val) % 6144, Nat.mod_lt _ (by decide)⟩ : Fin 6144) = D
  replace hD' : D.val = 1536 * n + e.val := by rw [← hD']; exact hD
  simp only [Pipeline.accAt_succ, Pipeline.accAt_zero]
  rw [hs, hs, hs, hr,
    part m c _ r _ 0 (by show 0 = (4 * n) % 4 * 2048; omega) D (by show D.val = (4 * n) / 4 * 1536 + e.val; omega),
    part m c _ r _ 2048 (by show 2048 = (4 * n + 1) % 4 * 2048; omega) D (by show D.val = (4 * n + 1) / 4 * 1536 + e.val; omega),
    part m c _ r _ 4096 (by show 4096 = (4 * n + 2) % 4 * 2048; omega) D (by show D.val = (4 * n + 2) / 4 * 1536 + e.val; omega),
    part m c _ r _ 6144 (by show 6144 = (4 * n + 3) % 4 * 2048; omega) D (by show D.val = (4 * n + 3) / 4 * 1536 + e.val; omega)]
  rw [DwClaims.sum_parts]
  simp only [Nat.zero_add]

/-! The four result arrays after the run. -/

theorem value2 : G2 m c = narrow (m ((c : Thread nD τ).loc main_arg0)) (m ((c : Thread nD τ).loc main_arg1)) 0 := by
  funext (i : S1024x1024.Idx)
  have h0 : (i 0).val < 1024 := (i 0).isLt
  have h1 : (i 1).val < 1024 := (i 1).isLt
  have hN : cfg0.N = 16 := N_0
  have q : run2Of i = (i 1).val / 256 := by
    show 4 * ((i 0).val / 1024 - 0) + 1 * ((i 1).val / 256 - 0) = (i 1).val / 256
    omega
  have l : loc2Of i = (ix2 (⟨(i 0).val, h0⟩ : Fin 1024) (⟨(i 1).val % 256, Nat.mod_lt _ (by decide)⟩ : Fin 256) : S1024x256.Idx) := by
    refine funext fun a => Fin.ext ?_
    match a with
    | ⟨0, _⟩ => show (i 0).val % 1024 = (i 0).val; omega
    | ⟨1, _⟩ => rfl
  unfold G2
  rw [dif_pos (by rw [q]; omega), l]
  generalize run2Of i = n at q ⊢
  subst q
  show _ = entry _ _ (⟨(i 0).val, h0⟩ : Fin 1024) (1536 * ((i 1).val / 256) + (0 + (i 1).val % 256))
  have hr (n : ℕ) (h : n < cfg0.N) (r : Fin 1024) (d : Fin 256) :
      reset2 m c n h (ix2 r d) = (0 + prod (iblk m c 0 ⟨n, h⟩) (iblk m c 1 ⟨n, h⟩) r ⟨0 + d.val, by omega⟩ : EReal) := by
    unfold reset2
    rw [pay6_apply, pay1_apply]
  have hs (n : ℕ) (h : n < cfg0.N) (acc : Vec Ideal S1024x256 .f32) (r : Fin 1024) (d : Fin 256) :
      step2 m c n h acc (ix2 r d) = (acc (ix2 r d) + prod (iblk m c 0 ⟨n, h⟩) (iblk m c 1 ⟨n, h⟩) r ⟨0 + d.val, by omega⟩ : EReal) := by
    unfold step2
    rw [pay6_apply]
  exact accum m c (reset2 m c) (step2 m c) (ix2 (⟨(i 0).val, h0⟩ : Fin 1024) (⟨(i 1).val % 256, Nat.mod_lt _ (by decide)⟩ : Fin 256))
    ⟨(i 0).val, h0⟩ ⟨0 + (i 1).val % 256, by omega⟩ (fun n h => hr n h _ _) (fun n h acc => hs n h acc _ _) ((i 1).val / 256) _

theorem value3 : G3 m c = narrow (m ((c : Thread nD τ).loc main_arg0)) (m ((c : Thread nD τ).loc main_arg1)) 256 := by
  funext (i : S1024x1024.Idx)
  have h0 : (i 0).val < 1024 := (i 0).isLt
  have h1 : (i 1).val < 1024 := (i 1).isLt
  have hN : cfg0.N = 16 := N_0
  have q : run3Of i = (i 1).val / 256 := by
    show 4 * ((i 0).val / 1024 - 0) + 1 * ((i 1).val / 256 - 0) = (i 1).val / 256
    omega
  have l : loc3Of i = (ix2 (⟨(i 0).val, h0⟩ : Fin 1024) (⟨(i 1).val % 256, Nat.mod_lt _ (by decide)⟩ : Fin 256) : S1024x256.Idx) := by
    refine funext fun a => Fin.ext ?_
    match a with
    | ⟨0, _⟩ => show (i 0).val % 1024 = (i 0).val; omega
    | ⟨1, _⟩ => rfl
  unfold G3
  rw [dif_pos (by rw [q]; omega), l]
  generalize run3Of i = n at q ⊢
  subst q
  show _ = entry _ _ (⟨(i 0).val, h0⟩ : Fin 1024) (1536 * ((i 1).val / 256) + (256 + (i 1).val % 256))
  have hr (n : ℕ) (h : n < cfg0.N) (r : Fin 1024) (d : Fin 256) :
      reset3 m c n h (ix2 r d) = (0 + prod (iblk m c 0 ⟨n, h⟩) (iblk m c 1 ⟨n, h⟩) r ⟨256 + d.val, by omega⟩ : EReal) := by
    unfold reset3
    rw [pay7_apply, pay2_apply]
  have hs (n : ℕ) (h : n < cfg0.N) (acc : Vec Ideal S1024x256 .f32) (r : Fin 1024) (d : Fin 256) :
      step3 m c n h acc (ix2 r d) = (acc (ix2 r d) + prod (iblk m c 0 ⟨n, h⟩) (iblk m c 1 ⟨n, h⟩) r ⟨256 + d.val, by omega⟩ : EReal) := by
    unfold step3
    rw [pay7_apply]
  exact accum m c (reset3 m c) (step3 m c) (ix2 (⟨(i 0).val, h0⟩ : Fin 1024) (⟨(i 1).val % 256, Nat.mod_lt _ (by decide)⟩ : Fin 256))
    ⟨(i 0).val, h0⟩ ⟨256 + (i 1).val % 256, by omega⟩ (fun n h => hr n h _ _) (fun n h acc => hs n h acc _ _) ((i 1).val / 256) _

theorem value4 : G4 m c = wide (m ((c : Thread nD τ).loc main_arg0)) (m ((c : Thread nD τ).loc main_arg1)) 512 := by
  funext (i : S1024x2048.Idx)
  have h0 : (i 0).val < 1024 := (i 0).isLt
  have h1 : (i 1).val < 2048 := (i 1).isLt
  have hN : cfg0.N = 16 := N_0
  have q : run4Of i = (i 1).val / 512 := by
    show 4 * ((i 0).val / 1024 - 0) + 1 * ((i 1).val / 512 - 0) = (i 1).val / 512
    omega
  have l : loc4Of i = (ix2 (⟨(i 0).val, h0⟩ : Fin 1024) (⟨(i 1).val % 512, Nat.mod_lt _ (by decide)⟩ : Fin 512) : S1024x512.Idx) := by
    refine funext fun a => Fin.ext ?_
    match a with
    | ⟨0, _⟩ => show (i 0).val % 1024 = (i 0).val; omega
    | ⟨1, _⟩ => rfl
  unfold G4
  rw [dif_pos (by rw [q]; omega), l]
  generalize run4Of i = n at q ⊢
  subst q
  show _ = entry _ _ (⟨(i 0).val, h0⟩ : Fin 1024) (1536 * ((i 1).val / 512) + (512 + (i 1).val % 512))
  have hr (n : ℕ) (h : n < cfg0.N) (r : Fin 1024) (d : Fin 512) :
      reset4 m c n h (ix2 r d) = (0 + prod (iblk m c 0 ⟨n, h⟩) (iblk m c 1 ⟨n, h⟩) r ⟨512 + d.val, by omega⟩ : EReal) := by
    unfold reset4
    rw [pay8_apply, pay3_apply]
  have hs (n : ℕ) (h : n < cfg0.N) (acc : Vec Ideal S1024x512 .f32) (r : Fin 1024) (d : Fin 512) :
      step4 m c n h acc (ix2 r d) = (acc (ix2 r d) + prod (iblk m c 0 ⟨n, h⟩) (iblk m c 1 ⟨n, h⟩) r ⟨512 + d.val, by omega⟩ : EReal) := by
    unfold step4
    rw [pay8_apply]
  exact accum m c (reset4 m c) (step4 m c) (ix2 (⟨(i 0).val, h0⟩ : Fin 1024) (⟨(i 1).val % 512, Nat.mod_lt _ (by decide)⟩ : Fin 512))
    ⟨(i 0).val, h0⟩ ⟨512 + (i 1).val % 512, by omega⟩ (fun n h => hr n h _ _) (fun n h acc => hs n h acc _ _) ((i 1).val / 512) _

theorem value5 : G5 m c = wide (m ((c : Thread nD τ).loc main_arg0)) (m ((c : Thread nD τ).loc main_arg1)) 1024 := by
  funext (i : S1024x2048.Idx)
  have h0 : (i 0).val < 1024 := (i 0).isLt
  have h1 : (i 1).val < 2048 := (i 1).isLt
  have hN : cfg0.N = 16 := N_0
  have q : run5Of i = (i 1).val / 512 := by
    show 4 * ((i 0).val / 1024 - 0) + 1 * ((i 1).val / 512 - 0) = (i 1).val / 512
    omega
  have l : loc5Of i = (ix2 (⟨(i 0).val, h0⟩ : Fin 1024) (⟨(i 1).val % 512, Nat.mod_lt _ (by decide)⟩ : Fin 512) : S1024x512.Idx) := by
    refine funext fun a => Fin.ext ?_
    match a with
    | ⟨0, _⟩ => show (i 0).val % 1024 = (i 0).val; omega
    | ⟨1, _⟩ => rfl
  unfold G5
  rw [dif_pos (by rw [q]; omega), l]
  generalize run5Of i = n at q ⊢
  subst q
  show _ = entry _ _ (⟨(i 0).val, h0⟩ : Fin 1024) (1536 * ((i 1).val / 512) + (1024 + (i 1).val % 512))
  have hr (n : ℕ) (h : n < cfg0.N) (r : Fin 1024) (d : Fin 512) :
      reset5 m c n h (ix2 r d) = (0 + prod (iblk m c 0 ⟨n, h⟩) (iblk m c 1 ⟨n, h⟩) r ⟨1024 + d.val, by omega⟩ : EReal) := by
    unfold reset5
    rw [pay9_apply, pay4_apply]
  have hs (n : ℕ) (h : n < cfg0.N) (acc : Vec Ideal S1024x512 .f32) (r : Fin 1024) (d : Fin 512) :
      step5 m c n h acc (ix2 r d) = (acc (ix2 r d) + prod (iblk m c 0 ⟨n, h⟩) (iblk m c 1 ⟨n, h⟩) r ⟨1024 + d.val, by omega⟩ : EReal) := by
    unfold step5
    rw [pay9_apply]
  exact accum m c (reset5 m c) (step5 m c) (ix2 (⟨(i 0).val, h0⟩ : Fin 1024) (⟨(i 1).val % 512, Nat.mod_lt _ (by decide)⟩ : Fin 512))
    ⟨(i 0).val, h0⟩ ⟨1024 + (i 1).val % 512, by omega⟩ (fun n h => hr n h _ _) (fun n h acc => hs n h acc _ _) ((i 1).val / 512) _

/-! The plain product's program at an index. -/

theorem ref_narrow (x : Vec Ideal S1x8192x1024 .f32) (g : Vec Ideal S1x8192x6144 .f32) (o : ℕ) (ho : o + 256 ≤ 1536)
    (hs : Cert.DwrRefIdeal.S1x8192x4x1536.Slices ![0, 0, 0, o] Cert.DwrRefIdeal.S1x8192x4x256) :
    shapeCast Cert.DwrRefIdeal.S1024x1024 (Host.dotGeneral (F := Ideal) (φ₁ := .f32) (φ₂ := .f32)
      Cert.DwrRefIdeal.dot_S1x8192x1024_S1x8192x4x256_S1024x4x256_01_01_2_23_n_n none x (extractStridedSlice Cert.DwrRefIdeal.S1x8192x4x256 ![0, 0, 0, o]
        (shapeCast Cert.DwrRefIdeal.S1x8192x4x1536 g Cert.DwrRefIdeal.Gen.shapeCasts_S1x8192x6144_S1x8192x4x1536) hs))
        Cert.DwrRefIdeal.Gen.shapeCasts_S1024x4x256_S1024x1024
      = narrow x g o := by
  funext (i : S1024x1024.Idx)
  obtain ⟨r, C, rfl⟩ : ∃ (r : Fin 1024) (C : Fin 1024), i = (ix2 r C : S1024x1024.Idx) :=
    ⟨i 0, i 1, funext fun a => by match a with | ⟨0, _⟩ => rfl | ⟨1, _⟩ => rfl⟩
  have hC := C.isLt
  pointwise [narrow, entry]
  refine (Fin.sum_univ_one _).trans (Finset.sum_congr rfl fun k _ => ?_)
  refine congrArg (fun D : Fin 6144 => (show EReal from x (ix3 0 k r)) * (show EReal from g (ix3 0 k D))) (Fin.ext ?_)
  show C.val / 256 * 1536 + (o + C.val % 256) = (1536 * (C.val / 256) + (o + C.val % 256)) % 6144
  omega

theorem ref_wide (x : Vec Ideal S1x8192x1024 .f32) (g : Vec Ideal S1x8192x6144 .f32) (o : ℕ) (ho : o + 512 ≤ 1536)
    (hs : Cert.DwrRefIdeal.S1x8192x4x1536.Slices ![0, 0, 0, o] Cert.DwrRefIdeal.S1x8192x4x512) :
    shapeCast Cert.DwrRefIdeal.S1024x2048 (Host.dotGeneral (F := Ideal) (φ₁ := .f32) (φ₂ := .f32)
      Cert.DwrRefIdeal.dot_S1x8192x1024_S1x8192x4x512_S1024x4x512_01_01_2_23_n_n none x (extractStridedSlice Cert.DwrRefIdeal.S1x8192x4x512 ![0, 0, 0, o]
        (shapeCast Cert.DwrRefIdeal.S1x8192x4x1536 g Cert.DwrRefIdeal.Gen.shapeCasts_S1x8192x6144_S1x8192x4x1536) hs))
        Cert.DwrRefIdeal.Gen.shapeCasts_S1024x4x512_S1024x2048
      = wide x g o := by
  funext (i : S1024x2048.Idx)
  obtain ⟨r, C, rfl⟩ : ∃ (r : Fin 1024) (C : Fin 2048), i = (ix2 r C : S1024x2048.Idx) :=
    ⟨i 0, i 1, funext fun a => by match a with | ⟨0, _⟩ => rfl | ⟨1, _⟩ => rfl⟩
  have hC := C.isLt
  pointwise [wide, entry]
  refine (Fin.sum_univ_one _).trans (Finset.sum_congr rfl fun k _ => ?_)
  refine congrArg (fun D : Fin 6144 => (show EReal from x (ix3 0 k r)) * (show EReal from g (ix3 0 k D))) (Fin.ext ?_)
  show C.val / 512 * 1536 + (o + C.val % 512) = (1536 * (C.val / 512) + (o + C.val % 512)) % 6144
  omega

/-- The kernel's four results are the plain product's. -/
theorem algebraic : Cert.algebraic_DwrIdeal_DwrRefIdeal := by
  intro m ρ m' ρ' _ hagree
  refine ⟨fun c => narrow (m ((c : Thread nD τ).loc main_arg0)) (m ((c : Thread nD τ).loc main_arg1)) 0,
    fun c => narrow (m ((c : Thread nD τ).loc main_arg0)) (m ((c : Thread nD τ).loc main_arg1)) 256,
    fun c => wide (m ((c : Thread nD τ).loc main_arg0)) (m ((c : Thread nD τ).loc main_arg1)) 512,
    fun c => wide (m ((c : Thread nD τ).loc main_arg0)) (m ((c : Thread nD τ).loc main_arg1)) 1024,
    (θ_run Cert.DwrIdeal.defs _ _).mono (fun r h c => ⟨(h c).1.trans (value2 m c), (h c).2.1.trans (value3 m c), (h c).2.2.1.trans (value4 m c),
      (h c).2.2.2.1.trans (value5 m c), (h c).2.2.2.2⟩) (Cert.DwrIdeal.Value.run (F := Ideal) m ρ),
    (θ_run Cert.DwrRefIdeal.defs _ _).mono (fun r h c => ⟨(h c).1.trans ?_, (h c).2.1.trans ?_, (h c).2.2.1.trans ?_, (h c).2.2.2.1.trans ?_, (h c).2.2.2.2⟩)
      (Cert.DwrRefIdeal.Value.run (F := Ideal) m' ρ')⟩
  all_goals
    obtain ⟨e0, e1⟩ := hagree c
    rw [e0, e1]
  · exact ref_narrow _ _ 0 (by decide) _
  · exact ref_narrow _ _ 256 (by decide) _
  · exact ref_wide _ _ 512 (by decide) _
  · exact ref_wide _ _ 1024 (by decide) _

end Cert.Proof.DwrClaims

end
-- ==== Proof.AdamClaims.lean ====
/- The claims about the optimiser's step of a shard: the devices' gradients added, the two moments and the weights' change. -/
module

public import proofs.«01_k».proof.Defs
public import proofs.«01_k».proof.Proof.Gen.Adam.Frame
public import proofs.«01_k».proof.Proof.Gen.AdamIdeal.Value
public import proofs.«01_k».proof.Proof.Gen.AdamRefIdeal.Run
public import Idealize.ShloMosaic.Lib.StableHlo.ReadAt
public import Idealize.ShloMosaic.Lib.Pointwise
public import Idealize.ShloMosaic.Adequacy
public import Idealize.ShloMosaic.Init

@[expose] public section

noncomputable section

namespace Cert.Proof.AdamClaims

open Idealize.ShloMosaic Idealize.ShloMosaic.TcCoe Idealize.SL.Sem Idealize.ShloMosaic.StableHlo
open Cert.AdamIdeal Cert.AdamIdeal.Gen Cert.AdamIdeal.Value

/-- The plain step's program runs and leaves its arguments and every counter as they were. -/
theorem frame_ref : Cert.quiescent_AdamRefIdeal := fun m ρ _ =>
  (θ_run Cert.AdamRefIdeal.defs _ _).mono (fun r h => ⟨fun c => (h c).2.2.2.2, sem_eq_zero_of_no_sems (by decide) r.2⟩)
    (Cert.AdamRefIdeal.Value.run (F := Ideal) m ρ)

/-! The step of one weight. -/

/-- A number of the step. -/
abbrev lit (b : BitVec 32) : EReal := Scalar.ofBits (F := Ideal) .f32 b
/-- The first moment from the gradient. -/
def first (g m : EReal) : EReal := lit 0x3F666666#32 * m + lit 0x3DCCCCCD#32 * g
/-- The second moment from the gradient. -/
def second (g v : EReal) : EReal := lit 0x3F7FBE77#32 * v + lit 0x3A83126F#32 * (g * g)
/-- The change of the weight. -/
def change (g w m v : EReal) : EReal :=
  lit 0xBA83126F#32 * (FloatOps.divf (F := Ideal) (φ := .f32) (FloatOps.divf (F := Ideal) (φ := .f32) (first g m) (lit 0x3F26BD02#32))
    (FloatOps.sqrt (F := Ideal) (φ := .f32) (FloatOps.divf (F := Ideal) (φ := .f32) (second g v) (lit 0x3C231ACC#32)) + lit 0x322BCC77#32 : EReal)
    + lit 0x3C23D70A#32 * w)

/-- The devices' gradients added. -/
def total (p : Vec Ideal S8x1024x1408 .f32) (R : Fin 1024) (d : Fin 1408) : EReal := ∑ k : Fin 8, p (ix3 k R d)

/-- The four results. -/
def sums (p : Vec Ideal S8x1024x1408 .f32) : Vec Ideal S1024x1408 .f32 := fun i => total p (i 0) (i 1)
def changes (p : Vec Ideal S8x1024x1408 .f32) (w m v : Vec Ideal S1x1024x1408 .f32) : Vec Ideal S1024x1408 .f32 :=
  fun i => change (total p (i 0) (i 1)) (w (ix3 0 (i 0) (i 1))) (m (ix3 0 (i 0) (i 1))) (v (ix3 0 (i 0) (i 1)))
def firsts (p : Vec Ideal S8x1024x1408 .f32) (m : Vec Ideal S1x1024x1408 .f32) : Vec Ideal S1024x1408 .f32 :=
  fun i => first (total p (i 0) (i 1)) (m (ix3 0 (i 0) (i 1)))
def seconds (p : Vec Ideal S8x1024x1408 .f32) (v : Vec Ideal S1x1024x1408 .f32) : Vec Ideal S1024x1408 .f32 :=
  fun i => second (total p (i 0) (i 1)) (v (ix3 0 (i 0) (i 1)))

/-! What the body leaves in its blocks, at an index. -/

theorem pay5_apply (x : Vec Ideal S8x128x1408 .bf16) (w m v : Vec Ideal S128x1408 .f32) (r : Fin 128) (d : Fin 1408) :
    k0_pay5 x w m v (ix2 r d) = (∑ k : Fin 8, x (ix3 k r d) : EReal) := by
  rw [Fin.sum_univ_eight]
  pointwise [k0_pay5, k0_pay4]

theorem out4_apply (x : Vec Ideal S8x128x1408 .bf16) (w m v : Vec Ideal S128x1408 .f32) (r : Fin 128) (d : Fin 1408) :
    out0_4 x w m v (ix2 r d) = (∑ k : Fin 8, x (ix3 k r d) : EReal) := by
  rw [← pay5_apply x w m v]
  unfold out0_4
  rw [View.canon_unit_zero (funext fun a => by fin_cases a <;> rfl)]
  rfl

theorem out5_apply (x : Vec Ideal S8x128x1408 .bf16) (w m v : Vec Ideal S128x1408 .f32) (r : Fin 128) (d : Fin 1408) :
    out0_5 x w m v (ix2 r d) = change (∑ k : Fin 8, x (ix3 k r d)) (w (ix2 r d)) (m (ix2 r d)) (v (ix2 r d)) := by
  rw [← pay5_apply x w m v]
  unfold out0_5
  rw [View.canon_unit_zero (funext fun a => by fin_cases a <;> rfl), View.ld_unit_zero (funext fun a => by fin_cases a <;> rfl), View.ld_unit_zero (funext fun a => by fin_cases a <;> rfl), View.ld_unit_zero (funext fun a => by fin_cases a <;> rfl)]
  generalize k0_pay5 x w m v = g
  pointwise [k0_pay3, k0_pay1, k0_pay2, change, first, second]

theorem out6_apply (x : Vec Ideal S8x128x1408 .bf16) (w m v : Vec Ideal S128x1408 .f32) (r : Fin 128) (d : Fin 1408) :
    out0_6 x w m v (ix2 r d) = first (∑ k : Fin 8, x (ix3 k r d)) (m (ix2 r d)) := by
  rw [← pay5_apply x w m v]
  unfold out0_6
  rw [View.canon_unit_zero (funext fun a => by fin_cases a <;> rfl), View.ld_unit_zero (funext fun a => by fin_cases a <;> rfl)]
  generalize k0_pay5 x w m v = g
  pointwise [k0_pay1, first]

theorem out7_apply (x : Vec Ideal S8x128x1408 .bf16) (w m v : Vec Ideal S128x1408 .f32) (r : Fin 128) (d : Fin 1408) :
    out0_7 x w m v (ix2 r d) = second (∑ k : Fin 8, x (ix3 k r d)) (v (ix2 r d)) := by
  rw [← pay5_apply x w m v]
  unfold out0_7
  rw [View.canon_unit_zero (funext fun a => by fin_cases a <;> rfl), View.ld_unit_zero (funext fun a => by fin_cases a <;> rfl)]
  generalize k0_pay5 x w m v = g
  pointwise [k0_pay2, second]

/-! The blocks of the arguments and of the results. -/

/-- The windows' block indices: every window walks the rows. -/
theorem idxs : ∀ t : Fin cfg0.N, win0_0.index t (0 : Fin 3) = 0 ∧ win0_0.index t (1 : Fin 3) = t.val ∧ win0_0.index t (2 : Fin 3) = 0
    ∧ win0_1.index t (0 : Fin 2) = t.val ∧ win0_1.index t (1 : Fin 2) = 0 :=
  (by decide +kernel : ∀ t : Fin grid0.N, _)

/-- Every point writes its blocks back. -/
theorem flush : ∀ t : Fin cfg0.N, (cfg0.win 4).flush t = true ∧ (cfg0.win 5).flush t = true ∧ (cfg0.win 6).flush t = true ∧ (cfg0.win 7).flush t = true := by
  decide +kernel

/-- There are 8 points. -/
theorem pts : cfg0.N = 8 := by decide +kernel

/-- Row `r` of point `t`'s rows. -/
def row (t : Fin cfg0.N) (r : Fin 128) : Fin 1024 :=
  ⟨128 * t.val + r.val, by have := t.isLt; have := r.isLt; have := pts; omega⟩

/-- The point and the row in its block of a row. -/
def ptOf (R : Fin 1024) : Fin cfg0.N := ⟨R.val / 128, by have := R.isLt; have := pts; omega⟩
def inPt (R : Fin 1024) : Fin 128 := ⟨R.val % 128, Nat.mod_lt _ (by norm_num)⟩
theorem row_ptOf (R : Fin 1024) : row (ptOf R) (inPt R) = R := Fin.ext (by show 128 * (R.val / 128) + R.val % 128 = R.val; omega)

/-- A block of rows at an index; the two-axis windows move alike. -/
theorem emb1 (t : Fin cfg0.N) (r : Fin 128) (d : Fin 1408) : ((cfg0.win 1).blk t).view.emb (ix2 r d : S128x1408.Idx) = (ix2 (row t r) d : S1024x1408.Idx) := by
  refine funext fun a => Fin.ext ?_
  have e := idxs t
  match a with
  | ⟨0, _⟩ => show win0_1.index t (0 : Fin 2) * 128 + 1 * r.val = 128 * t.val + r.val; omega
  | ⟨1, _⟩ => show win0_1.index t (1 : Fin 2) * 1408 + 1 * d.val = d.val; omega
theorem emb2 (t : Fin cfg0.N) (r : Fin 128) (d : Fin 1408) : ((cfg0.win 2).blk t).view.emb (ix2 r d : S128x1408.Idx) = (ix2 (row t r) d : S1024x1408.Idx) := emb1 t r d
theorem emb3 (t : Fin cfg0.N) (r : Fin 128) (d : Fin 1408) : ((cfg0.win 3).blk t).view.emb (ix2 r d : S128x1408.Idx) = (ix2 (row t r) d : S1024x1408.Idx) := emb1 t r d
theorem emb4 (t : Fin cfg0.N) (r : Fin 128) (d : Fin 1408) : ((cfg0.win 4).blk t).view.emb (ix2 r d : S128x1408.Idx) = (ix2 (row t r) d : S1024x1408.Idx) := emb1 t r d
theorem emb5 (t : Fin cfg0.N) (r : Fin 128) (d : Fin 1408) : ((cfg0.win 5).blk t).view.emb (ix2 r d : S128x1408.Idx) = (ix2 (row t r) d : S1024x1408.Idx) := emb1 t r d
theorem emb6 (t : Fin cfg0.N) (r : Fin 128) (d : Fin 1408) : ((cfg0.win 6).blk t).view.emb (ix2 r d : S128x1408.Idx) = (ix2 (row t r) d : S1024x1408.Idx) := emb1 t r d
theorem emb7 (t : Fin cfg0.N) (r : Fin 128) (d : Fin 1408) : ((cfg0.win 7).blk t).view.emb (ix2 r d : S128x1408.Idx) = (ix2 (row t r) d : S1024x1408.Idx) := emb1 t r d

/-- Every index is a row of a block and a column. -/
theorem blk_idx (j : S128x1408.Idx) : ∃ (r : Fin 128) (d : Fin 1408), j = (ix2 r d : S128x1408.Idx) :=
  ⟨j 0, j 1, funext fun a => by match a with | ⟨0, _⟩ => rfl | ⟨1, _⟩ => rfl⟩
theorem arr_idx (j : S1024x1408.Idx) : ∃ (R : Fin 1024) (d : Fin 1408), j = (ix2 R d : S1024x1408.Idx) :=
  ⟨j 0, j 1, funext fun a => by match a with | ⟨0, _⟩ => rfl | ⟨1, _⟩ => rfl⟩

variable (m : (ℓ : Loc nD τ sig) → Buf (Elt Ideal) ℓ) (c : Dev nD)

/-- The arguments. -/
abbrev ap : Vec Ideal S8x1024x1408 .f32 := m ((c : Thread nD τ).loc main_arg0)
abbrev aw : Vec Ideal S1x1024x1408 .f32 := m ((c : Thread nD τ).loc main_arg1)
abbrev am : Vec Ideal S1x1024x1408 .f32 := m ((c : Thread nD τ).loc main_arg2)
abbrev av : Vec Ideal S1x1024x1408 .f32 := m ((c : Thread nD τ).loc main_arg3)

theorem h0 (k : Fin 8) (R : Fin 1024) (d : Fin 1408) : (V m c main_v0 : Vec Ideal S8x1024x1408 .bf16) (ix3 k R d) = ap m c (ix3 k R d) := by
  after_reads_at
theorem h1 (R : Fin 1024) (d : Fin 1408) : (V m c main_v1 : Vec Ideal S1024x1408 .f32) (ix2 R d) = aw m c (ix3 0 R d) := by
  after_reads_at
theorem h2 (R : Fin 1024) (d : Fin 1408) : (V m c main_v2 : Vec Ideal S1024x1408 .f32) (ix2 R d) = am m c (ix3 0 R d) := by
  after_reads_at
theorem h3 (R : Fin 1024) (d : Fin 1408) : (V m c main_v3 : Vec Ideal S1024x1408 .f32) (ix2 R d) = av m c (ix3 0 R d) := by
  after_reads_at

theorem blk0 (t : Fin cfg0.N) (k : Fin 8) (r : Fin 128) (d : Fin 1408) : (iblk m c 0 t : Vec Ideal S8x128x1408 .bf16) (ix3 k r d) = ap m c (ix3 k (row t r) d) := by
  rw [← h0 m c]
  show (V m c main_v0 : Vec Ideal S8x1024x1408 .bf16) (((cfg0.win 0).blk t).view.emb (ix3 k r d)) = _
  refine congrArg _ (funext fun a => Fin.ext ?_)
  have e := idxs t
  match a with
  | ⟨0, _⟩ => show win0_0.index t (0 : Fin 3) * 8 + 1 * k.val = k.val; omega
  | ⟨1, _⟩ => show win0_0.index t (1 : Fin 3) * 128 + 1 * r.val = 128 * t.val + r.val; omega
  | ⟨2, _⟩ => show win0_0.index t (2 : Fin 3) * 1408 + 1 * d.val = d.val; omega
theorem blk1 (t : Fin cfg0.N) (r : Fin 128) (d : Fin 1408) : (iblk m c 1 t : Vec Ideal S128x1408 .f32) (ix2 r d) = aw m c (ix3 0 (row t r) d) :=
  (congrArg (V m c main_v1 : Vec Ideal S1024x1408 .f32) (emb1 t r d)).trans (h1 m c _ _)
theorem blk2 (t : Fin cfg0.N) (r : Fin 128) (d : Fin 1408) : (iblk m c 2 t : Vec Ideal S128x1408 .f32) (ix2 r d) = am m c (ix3 0 (row t r) d) :=
  (congrArg (V m c main_v2 : Vec Ideal S1024x1408 .f32) (emb2 t r d)).trans (h2 m c _ _)
theorem blk3 (t : Fin cfg0.N) (r : Fin 128) (d : Fin 1408) : (iblk m c 3 t : Vec Ideal S128x1408 .f32) (ix2 r d) = av m c (ix3 0 (row t r) d) :=
  (congrArg (V m c main_v3 : Vec Ideal S1024x1408 .f32) (emb3 t r d)).trans (h3 m c _ _)

/-- A block's sum over the devices. -/
theorem blk_total (t : Fin cfg0.N) (r : Fin 128) (d : Fin 1408) :
    (∑ k : Fin 8, (iblk m c 0 t : Vec Ideal S8x128x1408 .bf16) (ix3 k r d) : EReal) = total (ap m c) (row t r) d :=
  Finset.sum_congr rfl fun k _ => blk0 m c t k r d

/-! The result arrays after the run. -/

theorem final4 : (dats m 0 c).arrAt 4 cfg0.N = sums (ap m c) := by
  refine (dats m 0 c).arrAt_eq_of_cover 4 (sums (ap m c)) (fun t _ => ?_) fun (i : S1024x1408.Idx) => ?_
  · rw [flushed4]
    funext j
    obtain ⟨r, d, rfl⟩ := blk_idx j
    show out0_4 (iblk m c 0 t) (iblk m c 1 t) (iblk m c 2 t) (iblk m c 3 t) (ix2 r d : S128x1408.Idx) = sums (ap m c) (((cfg0.win 4).blk t).view.emb (ix2 r d : S128x1408.Idx))
    rw [emb4, out4_apply, blk_total]
    rfl
  · obtain ⟨R, d, rfl⟩ := arr_idx i
    have h := ((cfg0.win 4).blk (ptOf R)).view.emb_mem_set (ix2 (inPt R) d : S128x1408.Idx)
    rw [emb4, row_ptOf] at h
    exact ⟨ptOf R, (flush _).1, h⟩

theorem final5 : (dats m 0 c).arrAt 5 cfg0.N = changes (ap m c) (aw m c) (am m c) (av m c) := by
  refine (dats m 0 c).arrAt_eq_of_cover 5 (changes (ap m c) (aw m c) (am m c) (av m c)) (fun t _ => ?_) fun (i : S1024x1408.Idx) => ?_
  · rw [flushed5]
    funext j
    obtain ⟨r, d, rfl⟩ := blk_idx j
    show out0_5 (iblk m c 0 t) (iblk m c 1 t) (iblk m c 2 t) (iblk m c 3 t) (ix2 r d : S128x1408.Idx)
      = changes (ap m c) (aw m c) (am m c) (av m c) (((cfg0.win 5).blk t).view.emb (ix2 r d : S128x1408.Idx))
    rw [emb5, out5_apply, blk_total, blk1, blk2, blk3]
    rfl
  · obtain ⟨R, d, rfl⟩ := arr_idx i
    have h := ((cfg0.win 5).blk (ptOf R)).view.emb_mem_set (ix2 (inPt R) d : S128x1408.Idx)
    rw [emb5, row_ptOf] at h
    exact ⟨ptOf R, (flush _).2.1, h⟩

theorem final6 : (dats m 0 c).arrAt 6 cfg0.N = firsts (ap m c) (am m c) := by
  refine (dats m 0 c).arrAt_eq_of_cover 6 (firsts (ap m c) (am m c)) (fun t _ => ?_) fun (i : S1024x1408.Idx) => ?_
  · rw [flushed6]
    funext j
    obtain ⟨r, d, rfl⟩ := blk_idx j
    show out0_6 (iblk m c 0 t) (iblk m c 1 t) (iblk m c 2 t) (iblk m c 3 t) (ix2 r d : S128x1408.Idx)
      = firsts (ap m c) (am m c) (((cfg0.win 6).blk t).view.emb (ix2 r d : S128x1408.Idx))
    rw [emb6, out6_apply, blk_total, blk2]
    rfl
  · obtain ⟨R, d, rfl⟩ := arr_idx i
    have h := ((cfg0.win 6).blk (ptOf R)).view.emb_mem_set (ix2 (inPt R) d : S128x1408.Idx)
    rw [emb6, row_ptOf] at h
    exact ⟨ptOf R, (flush _).2.2.1, h⟩

theorem final7 : (dats m 0 c).arrAt 7 cfg0.N = seconds (ap m c) (av m c) := by
  refine (dats m 0 c).arrAt_eq_of_cover 7 (seconds (ap m c) (av m c)) (fun t _ => ?_) fun (i : S1024x1408.Idx) => ?_
  · rw [flushed7]
    funext j
    obtain ⟨r, d, rfl⟩ := blk_idx j
    show out0_7 (iblk m c 0 t) (iblk m c 1 t) (iblk m c 2 t) (iblk m c 3 t) (ix2 r d : S128x1408.Idx)
      = seconds (ap m c) (av m c) (((cfg0.win 7).blk t).view.emb (ix2 r d : S128x1408.Idx))
    rw [emb7, out7_apply, blk_total, blk3]
    rfl
  · obtain ⟨R, d, rfl⟩ := arr_idx i
    have h := ((cfg0.win 7).blk (ptOf R)).view.emb_mem_set (ix2 (inPt R) d : S128x1408.Idx)
    rw [emb7, row_ptOf] at h
    exact ⟨ptOf R, (flush _).2.2.2, h⟩

/-! The plain step's program at an index. -/

theorem ref_sum (p : Vec Ideal S8x1024x1408 .f32) (R : Fin 1024) (d : Fin 1408) :
    Host.reduceAdd (F := Ideal) (φ := .f32) p (constant Cert.AdamRefIdeal.S_ .f32 0x00000000#32)
      Cert.AdamRefIdeal.Gen.reducesTo_S8x1024x1408_S1024x1408_d0 Cert.AdamRefIdeal.Gen.h_S_ (ix2 R d) = total p R d := by
  pointwise [total]

theorem ref_cast (w : Vec Ideal S1x1024x1408 .f32) (R : Fin 1024) (d : Fin 1408) :
    (shapeCast Cert.AdamRefIdeal.S1024x1408 w Cert.AdamRefIdeal.Gen.shapeCasts_S1x1024x1408_S1024x1408) (ix2 R d) = w (ix3 0 R d) := by
  pointwise

/-- The kernel's gradient, change and moments are the plain step's. -/
theorem algebraic : Cert.algebraic_AdamIdeal_AdamRefIdeal := by
  intro m ρ m' ρ' _ hagree
  refine ⟨fun c => sums (ap m c), fun c => changes (ap m c) (aw m c) (am m c) (av m c), fun c => firsts (ap m c) (am m c),
    fun c => seconds (ap m c) (av m c),
    (θ_run Cert.AdamIdeal.defs _ _).mono (fun r h c => ⟨(h c).1.trans (final4 m c), (h c).2.1.trans (final5 m c),
      (h c).2.2.1.trans (final6 m c), (h c).2.2.2.1.trans (final7 m c), (h c).2.2.2.2⟩) (Cert.AdamIdeal.Value.run_blocks (F := Ideal) m ρ),
    (θ_run Cert.AdamRefIdeal.defs _ _).mono (fun r h c => ⟨(h c).1.trans ?_, (h c).2.1.trans ?_,
      (h c).2.2.1.trans ?_, (h c).2.2.2.1.trans ?_, (h c).2.2.2.2⟩) (Cert.AdamRefIdeal.Value.run (F := Ideal) m' ρ')⟩
  all_goals
    obtain ⟨e0, e1, e2, e3⟩ := hagree c
    first | rw [e0, e1, e2, e3] | rw [e0, e2] | rw [e0, e3] | rw [e0]
    funext (i : S1024x1408.Idx)
    obtain ⟨R, d, rfl⟩ := arr_idx i
  · exact ref_sum (ap m c) R d
  · show _ = change (total (ap m c) R d) (aw m c (ix3 0 R d)) (am m c (ix3 0 R d)) (av m c (ix3 0 R d))
    rw [← ref_sum, ← ref_cast (aw m c), ← ref_cast (am m c), ← ref_cast (av m c)]
    rfl
  · show _ = first (total (ap m c) R d) (am m c (ix3 0 R d))
    rw [← ref_sum, ← ref_cast (am m c)]
    rfl
  · show _ = second (total (ap m c) R d) (av m c (ix3 0 R d))
    rw [← ref_sum, ← ref_cast (av m c)]
    rfl

end Cert.Proof.AdamClaims

end
-- ==== Proof.StepClaims.lean ====
/- The claims about the optimiser's step of the small weights. -/
module

public import proofs.«01_k».proof.Defs
public import proofs.«01_k».proof.Proof.Gen.Step.Frame
public import proofs.«01_k».proof.Proof.Gen.StepIdeal.Value
public import proofs.«01_k».proof.Proof.Gen.StepRefIdeal.Run
public import Idealize.ShloMosaic.Adequacy
public import Idealize.ShloMosaic.Init

@[expose] public section

noncomputable section

namespace Cert.Proof.StepClaims

open Idealize.ShloMosaic Idealize.ShloMosaic.TcCoe Idealize.SL.Sem Idealize.ShloMosaic.StableHlo
open Cert.StepIdeal Cert.StepIdeal.Gen Cert.StepIdeal.Value

/-- The plain step's program runs and leaves its arguments and every counter as they were. -/
theorem frame_ref : Cert.quiescent_StepRefIdeal := fun m ρ _ =>
  (θ_run Cert.StepRefIdeal.defs _ _).mono (fun r h => ⟨fun c => (h c).2.2.2, sem_eq_zero_of_no_sems (by decide) r.2⟩)
    (Cert.StepRefIdeal.Value.run (F := Ideal) m ρ)

/-- The kernel's change of the weights and its two moments are the plain step's. -/
theorem algebraic : Cert.algebraic_StepIdeal_StepRefIdeal := by
  intro m ρ m' ρ' _ hagree
  refine ⟨_, _, _, Cert.StepIdeal.Value.run m ρ,
    (θ_run Cert.StepRefIdeal.defs _ _).mono (fun r h c => ⟨(h c).1.trans ?_, (h c).2.1.trans ?_, (h c).2.2.1.trans ?_, (h c).2.2.2⟩)
      (Cert.StepRefIdeal.Value.run (F := Ideal) m' ρ')⟩
  all_goals
    obtain ⟨e0, e1, e2, e3⟩ := hagree c
    simp only [e0, e1, e2, e3]
    rfl

end Cert.Proof.StepClaims

end
-- ==== Proof.SumClaims.lean ====
/- The claims about the sum of the small gradients over the devices. -/
module

public import proofs.«01_k».proof.Defs
public import proofs.«01_k».proof.Proof.Gen.Sum.Frame
public import proofs.«01_k».proof.Proof.Gen.SumIdeal.Value
public import proofs.«01_k».proof.Proof.Gen.SumRefIdeal.Run
public import Idealize.ShloMosaic.Lib.Pointwise
public import Idealize.ShloMosaic.Adequacy
public import Idealize.ShloMosaic.Init

@[expose] public section

noncomputable section

namespace Cert.Proof.SumClaims

open Idealize.ShloMosaic Idealize.ShloMosaic.TcCoe Idealize.SL.Sem Idealize.ShloMosaic.StableHlo
open Cert.SumIdeal Cert.SumIdeal.Gen Cert.SumIdeal.Value

/-- The plain sum's program runs and leaves its argument and every counter as they were. -/
theorem frame_ref : Cert.quiescent_SumRefIdeal := fun m ρ _ =>
  (θ_run Cert.SumRefIdeal.defs _ _).mono (fun r h => ⟨fun c => (h c).2, sem_eq_zero_of_no_sems (by decide) r.2⟩)
    (Cert.SumRefIdeal.Value.run (F := Ideal) m ρ)

/-- The kernel's chain of seven sums is the plain sum over the devices. -/
theorem value (a : Vec Ideal S8x16x1024 .f32) : G1 a = fun i => (∑ k : Fin 8, (show EReal from a (ix3 k (i 0) (i 1))) : EReal) := by
  funext i
  obtain ⟨R, d, rfl⟩ : ∃ (R : Fin 16) (d : Fin 1024), i = (ix2 R d : S16x1024.Idx) :=
    ⟨i 0, i 1, funext fun a => by match a with | ⟨0, _⟩ => rfl | ⟨1, _⟩ => rfl⟩
  show _ = (∑ k : Fin 8, (show EReal from a (ix3 k R d)) : EReal)
  rw [Fin.sum_univ_eight]
  unfold G1
  pointwise [k0_pay1]

/-- The kernel's sum is the plain one. -/
theorem algebraic : Cert.algebraic_SumIdeal_SumRefIdeal := by
  intro m ρ m' ρ' _ hagree
  refine ⟨fun c => G1 (m ((c : Thread nD τ).loc main_arg0)), Cert.SumIdeal.Value.run m ρ,
    (θ_run Cert.SumRefIdeal.defs _ _).mono (fun r h c => ⟨(h c).1.trans ?_, (h c).2⟩) (Cert.SumRefIdeal.Value.run (F := Ideal) m' ρ')⟩
  rw [hagree c]
  show _ = G1 (m ((c : Thread nD τ).loc main_arg0))
  rw [value]
  funext (i : S16x1024.Idx)
  obtain ⟨R, d, rfl⟩ : ∃ (R : Fin 16) (d : Fin 1024), i = (ix2 R d : S16x1024.Idx) :=
    ⟨i 0, i 1, funext fun a => by match a with | ⟨0, _⟩ => rfl | ⟨1, _⟩ => rfl⟩
  pointwise

end Cert.Proof.SumClaims

end
-- ==== Proof.ModClaims.lean ====
/- The claims about the modulation's product: the condition's rows times the block of weights, and the bias. -/
module

public import proofs.«01_k».proof.Defs
public import proofs.«01_k».proof.Proof.Gen.Mod.Frame
public import proofs.«01_k».proof.Proof.Gen.ModIdeal.Value
public import proofs.«01_k».proof.Proof.Gen.ModRefIdeal.Run
public import Idealize.ShloMosaic.Lib.StableHlo.ReadAt
public import Idealize.ShloMosaic.Lib.Pointwise
public import Idealize.ShloMosaic.Adequacy
public import Idealize.ShloMosaic.Init

@[expose] public section

noncomputable section

namespace Cert.Proof.ModClaims

open Idealize.ShloMosaic Idealize.ShloMosaic.TcCoe Idealize.SL.Sem Idealize.ShloMosaic.StableHlo
open Cert.ModIdeal Cert.ModIdeal.Gen Cert.ModIdeal.Value

/-- The plain product's program runs and leaves its arguments and every counter as they were. -/
theorem frame_ref : Cert.quiescent_ModRefIdeal := fun m ρ _ =>
  (θ_run Cert.ModRefIdeal.defs _ _).mono (fun r h => ⟨fun c => (h c).2, sem_eq_zero_of_no_sems (by decide) r.2⟩)
    (Cert.ModRefIdeal.Value.run (F := Ideal) m ρ)

/-- The only point. -/
def pt : Fin cfg0.N := ⟨0, by decide +kernel⟩

/-- Every window is its whole array. -/
theorem idxs : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- The point writes its block back. -/
theorem flush : ∀ t : Fin cfg0.N, (cfg0.win 3).flush t = true := by decide +kernel

/-- What the kernel leaves: for each row and column the product's sum and the bias. -/
def result (x : Vec Ideal S8x1024 .f32) (w : Vec Ideal S1x1024x384 .f32) (b : Vec Ideal S1x384 .f32) : Vec Ideal S8x384 .f32 :=
  fun i => ((∑ k : Fin 1024, x (ix2 (i 0) k) * w (ix3 0 k (i 1))) + b (ix2 0 (i 1)) : EReal)

variable (m : (ℓ : Loc nD τ sig) → Buf (Elt Ideal) ℓ) (c : Dev nD)

/-- The kernel's result read from the arguments. -/
abbrev G : Vec Ideal S8x384 .f32 :=
  result (m ((c : Thread nD τ).loc main_arg0)) (m ((c : Thread nD τ).loc main_arg1)) (m ((c : Thread nD τ).loc main_arg2))

/-- The weights without their two leading axes. -/
theorem v0 (R : Fin 1024) (d : Fin 384) : (V m c main_v0 : Vec Ideal S1024x384 .f32) (ix2 R d) = m ((c : Thread nD τ).loc main_arg1) (ix3 0 R d) := by
  after_reads_at

theorem blk0 (t : Fin cfg0.N) (r : Fin 8) (d : Fin 1024) : (iblk m c 0 t : Vec Ideal S8x1024 .f32) (ix2 r d) = m ((c : Thread nD τ).loc main_arg0) (ix2 r d) := by
  refine Eq.trans (b := (V m c main_arg0 : Vec Ideal S8x1024 .f32) (ix2 r d)) ?_ (congrFun (V_main_arg0 m c) _)
  show (V m c main_arg0 : Vec Ideal S8x1024 .f32) (((cfg0.win 0).blk t).view.emb (ix2 r d)) = _
  refine congrArg _ (funext fun a => Fin.ext ?_)
  have e := idxs t
  match a with
  | ⟨0, _⟩ => show win0_0.index t (0 : Fin 2) * 8 + 1 * r.val = r.val; omega
  | ⟨1, _⟩ => show win0_0.index t (1 : Fin 2) * 1024 + 1 * d.val = d.val; omega

theorem blk1 (t : Fin cfg0.N) (r : Fin 1024) (d : Fin 384) : (iblk m c 1 t : Vec Ideal S1024x384 .f32) (ix2 r d) = m ((c : Thread nD τ).loc main_arg1) (ix3 0 r d) := by
  rw [← v0 m c]
  show (V m c main_v0 : Vec Ideal S1024x384 .f32) (((cfg0.win 1).blk t).view.emb (ix2 r d)) = _
  refine congrArg _ (funext fun a => Fin.ext ?_)
  have e := idxs t
  match a with
  | ⟨0, _⟩ => show win0_1.index t (0 : Fin 2) * 1024 + 1 * r.val = r.val; omega
  | ⟨1, _⟩ => show win0_1.index t (1 : Fin 2) * 384 + 1 * d.val = d.val; omega

theorem blk2 (t : Fin cfg0.N) (d : Fin 384) : (iblk m c 2 t : Vec Ideal S1x384 .f32) (ix2 0 d) = m ((c : Thread nD τ).loc main_arg2) (ix2 0 d) := by
  refine Eq.trans (b := (V m c main_arg2 : Vec Ideal S1x384 .f32) (ix2 0 d)) ?_ (congrFun (V_main_arg2 m c) _)
  show (V m c main_arg2 : Vec Ideal S1x384 .f32) (((cfg0.win 2).blk t).view.emb (ix2 0 d)) = _
  refine congrArg _ (funext fun a => Fin.ext ?_)
  have e := idxs t
  match a with
  | ⟨0, _⟩ => show win0_2.index t (0 : Fin 2) * 1 + 1 * 0 = 0; omega
  | ⟨1, _⟩ => show win0_2.index t (1 : Fin 2) * 384 + 1 * d.val = d.val; omega

theorem emb3 (t : Fin cfg0.N) (r : Fin 8) (d : Fin 384) : ((cfg0.win 3).blk t).view.emb (ix2 r d : S8x384.Idx) = (ix2 r d : S8x384.Idx) := by
  refine funext fun a => Fin.ext ?_
  have e := idxs t
  match a with
  | ⟨0, _⟩ => show win0_3.index t (0 : Fin 2) * 8 + 1 * r.val = r.val; omega
  | ⟨1, _⟩ => show win0_3.index t (1 : Fin 2) * 384 + 1 * d.val = d.val; omega

/-- What the body leaves in its block. -/
theorem out_eq (x : Vec Ideal S8x1024 .f32) (w : Vec Ideal S1024x384 .f32) (b : Vec Ideal S1x384 .f32) : out0_3 x w b = k0_pay1 x w b := by
  have hz : (![0, 0] : Fin 2 → Nat) = fun _ => 0 := funext fun a => by fin_cases a <;> rfl
  unfold out0_3
  rw [View.canon_unit_zero hz, View.ld_unit_zero hz, View.ld_unit_zero hz, View.ld_unit_zero hz]

/-- The result array after the run. -/
theorem final3 : (dats m 0 c).arrAt 3 cfg0.N = G m c := by
  refine (dats m 0 c).arrAt_eq_of_cover 3 (G m c) (fun t _ => ?_) fun (i : S8x384.Idx) => ⟨pt, flush _, ?_⟩
  · rw [flushed3]
    funext j
    obtain ⟨r, d, rfl⟩ : ∃ (r : Fin 8) (d : Fin 384), j = (ix2 r d : S8x384.Idx) :=
      ⟨j 0, j 1, funext fun a => by match a with | ⟨0, _⟩ => rfl | ⟨1, _⟩ => rfl⟩
    show out0_3 (iblk m c 0 t) (iblk m c 1 t) (iblk m c 2 t) (ix2 r d : S8x384.Idx) = G m c (((cfg0.win 3).blk t).view.emb (ix2 r d : S8x384.Idx))
    rw [emb3, out_eq]
    have e : ∀ (x : Vec Ideal S8x1024 .f32) (w : Vec Ideal S1024x384 .f32) (b : Vec Ideal S1x384 .f32), k0_pay1 x w b (ix2 r d)
        = ((∑ k : Fin 1024, x (ix2 r k) * w (ix2 k d)) + b (ix2 0 d) : EReal) := fun x w b => by pointwise [k0_pay1]
    rw [e]
    exact congrArg₂ _ (Finset.sum_congr rfl fun k _ => congrArg₂ _ (blk0 m c t r k) (blk1 m c t k d)) (blk2 m c t d)
  · obtain ⟨r, d, rfl⟩ : ∃ (r : Fin 8) (d : Fin 384), i = (ix2 r d : S8x384.Idx) :=
      ⟨i 0, i 1, funext fun a => by match a with | ⟨0, _⟩ => rfl | ⟨1, _⟩ => rfl⟩
    have h := ((cfg0.win 3).blk pt).view.emb_mem_set (ix2 r d : S8x384.Idx)
    rw [emb3] at h
    exact h

/-! The plain product's program at an index. -/

theorem ref_product (x : FVec Ideal S8x1024 .f32) (w : FVec Ideal S1024x384 .f32) (r : Fin 8) (d : Fin 384) :
    Host.dotGeneral (F := Ideal) (φ₁ := .f32) (φ₂ := .f32) Cert.ModRefIdeal.dot_S8x1024_S1024x384_S8x384_1_0_0_1_n_n none x w (ix2 r d)
      = (∑ k : Fin 1024, x (ix2 r k) * w (ix2 k d) : EReal) := by
  pointwise

theorem ref_weights (w : Vec Ideal S1x1024x384 .f32) (r : Fin 1024) (d : Fin 384) :
    (shapeCast Cert.ModRefIdeal.S1024x384 w Cert.ModRefIdeal.Gen.shapeCasts_S1x1024x384_S1024x384) (ix2 r d) = w (ix3 0 r d) := by
  pointwise

theorem ref_bias (b : Vec Ideal S1x384 .f32) (r : Fin 8) (d : Fin 384) :
    (broadcastInDim Cert.ModRefIdeal.S8x384 ![0, 1] Cert.ModRefIdeal.Gen.bcast_S1x384_S8x384_0_1
      (broadcastInDim Cert.ModRefIdeal.S1x384 ![1] Cert.ModRefIdeal.Gen.bcast_S384_S1x384_1
        (shapeCast Cert.ModRefIdeal.S384 b Cert.ModRefIdeal.Gen.shapeCasts_S1x384_S384))) (ix2 r d) = b (ix2 0 d) := by
  pointwise

/-- The kernel's product is the plain one. -/
theorem algebraic : Cert.algebraic_ModIdeal_ModRefIdeal := by
  intro m ρ m' ρ' _ hagree
  refine ⟨fun c => G m c,
    (θ_run Cert.ModIdeal.defs _ _).mono (fun r h c => ⟨(h c).1.trans (final3 m c), (h c).2⟩) (Cert.ModIdeal.Value.run_blocks (F := Ideal) m ρ),
    (θ_run Cert.ModRefIdeal.defs _ _).mono (fun r h c => ⟨(h c).1.trans ?_, (h c).2⟩) (Cert.ModRefIdeal.Value.run (F := Ideal) m' ρ')⟩
  obtain ⟨e0, e1, e2⟩ := hagree c
  rw [e0, e1, e2]
  funext (i : S8x384.Idx)
  obtain ⟨r, d, rfl⟩ : ∃ (r : Fin 8) (d : Fin 384), i = (ix2 r d : S8x384.Idx) :=
    ⟨i 0, i 1, funext fun a => by match a with | ⟨0, _⟩ => rfl | ⟨1, _⟩ => rfl⟩
  beta_reduce
  unfold G
  generalize m ((c : Thread nD τ).loc main_arg0) = x
  generalize m ((c : Thread nD τ).loc main_arg1) = w
  generalize m ((c : Thread nD τ).loc main_arg2) = b
  change Vec Ideal S8x1024 .f32 at x
  change Vec Ideal S1x1024x384 .f32 at w
  change Vec Ideal S1x384 .f32 at b
  show _ = ((∑ k : Fin 1024, x (ix2 r k) * w (ix3 0 k d)) + b (ix2 0 d) : EReal)
  refine congrArg₂ (fun a b : EReal => a + b) ?_ ?_
  · exact (ref_product x _ r d).trans (Finset.sum_congr rfl fun k _ => congrArg (x (ix2 r k) * · : EReal → EReal) (ref_weights w k d))
  · exact ref_bias b r d

end Cert.Proof.ModClaims

end
-- ==== Proof.WadaClaims.lean ====
/- The claims about the gradient of the modulation's weights: the condition's columns times the modulation's gradient. -/
module

public import proofs.«01_k».proof.Defs
public import proofs.«01_k».proof.Proof.Gen.Wada.Frame
public import proofs.«01_k».proof.Proof.Gen.WadaIdeal.Value
public import proofs.«01_k».proof.Proof.Gen.WadaRefIdeal.Run
public import Idealize.ShloMosaic.Lib.StableHlo.ReadAt
public import Idealize.ShloMosaic.Lib.Pointwise
public import Idealize.ShloMosaic.Adequacy
public import Idealize.ShloMosaic.Init

@[expose] public section

noncomputable section

namespace Cert.Proof.WadaClaims

open Idealize.ShloMosaic Idealize.ShloMosaic.TcCoe Idealize.SL.Sem Idealize.ShloMosaic.StableHlo
open Cert.WadaIdeal Cert.WadaIdeal.Gen Cert.WadaIdeal.Value

/-- The plain product's program runs and leaves its arguments and every counter as they were. -/
theorem frame_ref : Cert.quiescent_WadaRefIdeal := fun m ρ _ =>
  (θ_run Cert.WadaRefIdeal.defs _ _).mono (fun r h => ⟨fun c => (h c).2, sem_eq_zero_of_no_sems (by decide) r.2⟩)
    (Cert.WadaRefIdeal.Value.run (F := Ideal) m ρ)

/-- The only point. -/
def pt : Fin cfg0.N := ⟨0, by decide +kernel⟩

/-- Every window is its whole array. -/
theorem idxs : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- The point writes its block back. -/
theorem flush : ∀ t : Fin cfg0.N, (cfg0.win 2).flush t = true := by decide +kernel

/-- What the kernel leaves: the sum over the sequences of the condition's entry times the gradient's. -/
def result (x : Vec Ideal S8x1024 .f32) (g : Vec Ideal S8x384 .f32) : Vec Ideal S1024x384 .f32 :=
  fun i => (∑ k : Fin 8, x (ix2 k (i 0)) * g (ix2 k (i 1)) : EReal)

variable (m : (ℓ : Loc nD τ sig) → Buf (Elt Ideal) ℓ) (c : Dev nD)

/-- The kernel's result read from the arguments. -/
abbrev G : Vec Ideal S1024x384 .f32 := result (m ((c : Thread nD τ).loc main_arg0)) (m ((c : Thread nD τ).loc main_arg1))

/-- The condition turned. -/
theorem v0 (R : Fin 1024) (d : Fin 8) : (V m c main_v0 : Vec Ideal S1024x8 .f32) (ix2 R d) = m ((c : Thread nD τ).loc main_arg0) (ix2 d R) := by
  after_reads_at

theorem blk0 (t : Fin cfg0.N) (r : Fin 1024) (d : Fin 8) : (iblk m c 0 t : Vec Ideal S1024x8 .f32) (ix2 r d) = m ((c : Thread nD τ).loc main_arg0) (ix2 d r) := by
  rw [← v0 m c]
  show (V m c main_v0 : Vec Ideal S1024x8 .f32) (((cfg0.win 0).blk t).view.emb (ix2 r d)) = _
  refine congrArg _ (funext fun a => Fin.ext ?_)
  have e := idxs t
  match a with
  | ⟨0, _⟩ => show win0_0.index t (0 : Fin 2) * 1024 + 1 * r.val = r.val; omega
  | ⟨1, _⟩ => show win0_0.index t (1 : Fin 2) * 8 + 1 * d.val = d.val; omega

theorem blk1 (t : Fin cfg0.N) (r : Fin 8) (d : Fin 384) : (iblk m c 1 t : Vec Ideal S8x384 .f32) (ix2 r d) = m ((c : Thread nD τ).loc main_arg1) (ix2 r d) := by
  refine Eq.trans (b := (V m c main_arg1 : Vec Ideal S8x384 .f32) (ix2 r d)) ?_ (congrFun (V_main_arg1 m c) _)
  show (V m c main_arg1 : Vec Ideal S8x384 .f32) (((cfg0.win 1).blk t).view.emb (ix2 r d)) = _
  refine congrArg _ (funext fun a => Fin.ext ?_)
  have e := idxs t
  match a with
  | ⟨0, _⟩ => show win0_1.index t (0 : Fin 2) * 8 + 1 * r.val = r.val; omega
  | ⟨1, _⟩ => show win0_1.index t (1 : Fin 2) * 384 + 1 * d.val = d.val; omega

theorem emb2 (t : Fin cfg0.N) (r : Fin 1024) (d : Fin 384) : ((cfg0.win 2).blk t).view.emb (ix2 r d : S1024x384.Idx) = (ix2 r d : S1024x384.Idx) := by
  refine funext fun a => Fin.ext ?_
  have e := idxs t
  match a with
  | ⟨0, _⟩ => show win0_2.index t (0 : Fin 2) * 1024 + 1 * r.val = r.val; omega
  | ⟨1, _⟩ => show win0_2.index t (1 : Fin 2) * 384 + 1 * d.val = d.val; omega

/-- What the body leaves in its block, at an index: eight products added in turn. -/
theorem out_apply (x : Vec Ideal S1024x8 .f32) (g : Vec Ideal S8x384 .f32) (r : Fin 1024) (d : Fin 384) :
    out0_2 x g (ix2 r d) = (∑ k : Fin 8, x (ix2 r k) * g (ix2 k d) : EReal) := by
  unfold out0_2
  rw [canon2_eq]
  rw [Fin.sum_univ_eight]
  pointwise [E2]

/-- The result array after the run. -/
theorem final2 : (dats m 0 c).arrAt 2 cfg0.N = G m c := by
  refine (dats m 0 c).arrAt_eq_of_cover 2 (G m c) (fun t _ => ?_) fun (i : S1024x384.Idx) => ⟨pt, flush _, ?_⟩
  · rw [flushed2]
    funext j
    obtain ⟨r, d, rfl⟩ : ∃ (r : Fin 1024) (d : Fin 384), j = (ix2 r d : S1024x384.Idx) :=
      ⟨j 0, j 1, funext fun a => by match a with | ⟨0, _⟩ => rfl | ⟨1, _⟩ => rfl⟩
    show out0_2 (iblk m c 0 t) (iblk m c 1 t) (ix2 r d : S1024x384.Idx) = G m c (((cfg0.win 2).blk t).view.emb (ix2 r d : S1024x384.Idx))
    rw [emb2, out_apply]
    simp only [blk0, blk1]
    rfl
  · obtain ⟨r, d, rfl⟩ : ∃ (r : Fin 1024) (d : Fin 384), i = (ix2 r d : S1024x384.Idx) :=
      ⟨i 0, i 1, funext fun a => by match a with | ⟨0, _⟩ => rfl | ⟨1, _⟩ => rfl⟩
    have h := ((cfg0.win 2).blk pt).view.emb_mem_set (ix2 r d : S1024x384.Idx)
    rw [emb2] at h
    exact h

/-- The kernel's gradient is the plain product. -/
theorem algebraic : Cert.algebraic_WadaIdeal_WadaRefIdeal := by
  intro m ρ m' ρ' _ hagree
  refine ⟨fun c => G m c,
    (θ_run Cert.WadaIdeal.defs _ _).mono (fun r h c => ⟨(h c).1.trans (final2 m c), (h c).2⟩) (Cert.WadaIdeal.Value.run_blocks (F := Ideal) m ρ),
    (θ_run Cert.WadaRefIdeal.defs _ _).mono (fun r h c => ⟨(h c).1.trans ?_, (h c).2⟩) (Cert.WadaRefIdeal.Value.run (F := Ideal) m' ρ')⟩
  obtain ⟨e0, e1⟩ := hagree c
  rw [e0, e1]
  funext (i : S1024x384.Idx)
  obtain ⟨r, d, rfl⟩ : ∃ (r : Fin 1024) (d : Fin 384), i = (ix2 r d : S1024x384.Idx) :=
    ⟨i 0, i 1, funext fun a => by match a with | ⟨0, _⟩ => rfl | ⟨1, _⟩ => rfl⟩
  pointwise [G, result]

end Cert.Proof.WadaClaims

end
-- ==== Proof.lean ====
module

public import proofs.«01_k».proof.Defs
public import proofs.«01_k».proof.Proof.Gen.Dh
public import proofs.«01_k».proof.Proof.Gen.Dh.Skeleton
public import proofs.«01_k».proof.Proof.Gen.Dh.Launch
public import proofs.«01_k».proof.Proof.Gen.Dh.Points
public import proofs.«01_k».proof.Proof.Gen.Dh.Frame
public import proofs.«01_k».proof.Proof.Gen.DhIdeal
public import proofs.«01_k».proof.Proof.Gen.DhIdeal.Skeleton
public import proofs.«01_k».proof.Proof.Gen.DhIdeal.Launch
public import proofs.«01_k».proof.Proof.Gen.DhIdeal.Points
public import proofs.«01_k».proof.Proof.Gen.DhIdeal.Frame
public import proofs.«01_k».proof.Proof.Gen.DhRefIdeal
public import proofs.«01_k».proof.Proof.Gen.DhIdeal.Value
public import proofs.«01_k».proof.Proof.Gen.DhRefIdeal.Run
public import proofs.«01_k».proof.Proof.Gen.DhRefIdeal.Read
public import proofs.«01_k».proof.Proof.Gen.Pre_dh_finite
public import proofs.«01_k».proof.Proof.Gen.Ret
public import proofs.«01_k».proof.Proof.Gen.RetIdeal
public import proofs.«01_k».proof.Proof.Gen.RetIdeal.Skeleton
public import proofs.«01_k».proof.Proof.Gen.RetIdeal.Launch
public import proofs.«01_k».proof.Proof.Gen.RetIdeal.Points
public import proofs.«01_k».proof.Proof.Gen.RetIdeal.Regions
public import proofs.«01_k».proof.Proof.Gen.RetRefIdeal
public import proofs.«01_k».proof.Proof.Gen.Pre_ret_finite
public import proofs.«01_k».proof.Proof.Gen.Head
public import proofs.«01_k».proof.Proof.Gen.Head.Skeleton
public import proofs.«01_k».proof.Proof.Gen.Head.Launch
public import proofs.«01_k».proof.Proof.Gen.Head.Points
public import proofs.«01_k».proof.Proof.Gen.Head.Frame
public import proofs.«01_k».proof.Proof.Gen.HeadIdeal
public import proofs.«01_k».proof.Proof.Gen.HeadIdeal.Skeleton
public import proofs.«01_k».proof.Proof.Gen.HeadIdeal.Launch
public import proofs.«01_k».proof.Proof.Gen.HeadIdeal.Points
public import proofs.«01_k».proof.Proof.Gen.HeadIdeal.Frame
public import proofs.«01_k».proof.Proof.Gen.HeadRefIdeal
public import proofs.«01_k».proof.Proof.Gen.HeadIdeal.Value
public import proofs.«01_k».proof.Proof.Gen.HeadRefIdeal.Run
public import proofs.«01_k».proof.Proof.Gen.HeadRefIdeal.Read
public import proofs.«01_k».proof.Proof.Gen.Pre_head_finite
public import proofs.«01_k».proof.Proof.Gen.Conv
public import proofs.«01_k».proof.Proof.Gen.Conv.Skeleton
public import proofs.«01_k».proof.Proof.Gen.Conv.Launch
public import proofs.«01_k».proof.Proof.Gen.Conv.Points
public import proofs.«01_k».proof.Proof.Gen.Conv.Frame
public import proofs.«01_k».proof.Proof.Gen.ConvIdeal
public import proofs.«01_k».proof.Proof.Gen.ConvIdeal.Skeleton
public import proofs.«01_k».proof.Proof.Gen.ConvIdeal.Loops
public import proofs.«01_k».proof.Proof.Gen.ConvIdeal.Launch
public import proofs.«01_k».proof.Proof.Gen.ConvIdeal.Points
public import proofs.«01_k».proof.Proof.Gen.ConvIdeal.Frame
public import proofs.«01_k».proof.Proof.Gen.ConvRefIdeal
public import proofs.«01_k».proof.Proof.Gen.ConvRefIdeal.Run
public import proofs.«01_k».proof.Proof.Gen.ConvRefIdeal.Read
public import proofs.«01_k».proof.Proof.Gen.Pre_conv_finite
public import proofs.«01_k».proof.Proof.DhClaims
public import proofs.«01_k».proof.Proof.RetClaims
public import proofs.«01_k».proof.Proof.HeadClaims
public import proofs.«01_k».proof.Proof.ConvClaims
public import proofs.«01_k».proof.Proof.RopeClaims
public import proofs.«01_k».proof.Proof.DwClaims
public import proofs.«01_k».proof.Proof.DwrClaims
public import proofs.«01_k».proof.Proof.AdamClaims
public import proofs.«01_k».proof.Proof.StepClaims
public import proofs.«01_k».proof.Proof.SumClaims
public import proofs.«01_k».proof.Proof.ModClaims
public import proofs.«01_k».proof.Proof.WadaClaims
public import Idealize.ShloMosaic.Adequacy
public import Idealize.ShloMosaic.Init
public import proofs.«01_k».proof.Proof.Gen.RopeIdeal.Frame
public import proofs.«01_k».proof.Proof.Gen.RopeRefIdeal.Run
public import proofs.«01_k».proof.Proof.Gen.Rope.Frame
public import proofs.«01_k».proof.Proof.Gen.DwrIdeal.Value
public import proofs.«01_k».proof.Proof.Gen.DwrRefIdeal.Run
public import proofs.«01_k».proof.Proof.Gen.Dwr.Frame
public import proofs.«01_k».proof.Proof.Gen.DwIdeal.Value
public import proofs.«01_k».proof.Proof.Gen.DwRefIdeal.Run
public import proofs.«01_k».proof.Proof.Gen.Dw.Frame
public import proofs.«01_k».proof.Proof.Gen.AdamIdeal.Value
public import proofs.«01_k».proof.Proof.Gen.AdamRefIdeal.Run
public import proofs.«01_k».proof.Proof.Gen.Adam.Frame
public import proofs.«01_k».proof.Proof.Gen.StepIdeal.Value
public import proofs.«01_k».proof.Proof.Gen.StepRefIdeal.Run
public import proofs.«01_k».proof.Proof.Gen.Step.Frame
public import proofs.«01_k».proof.Proof.Gen.SumIdeal.Value
public import proofs.«01_k».proof.Proof.Gen.SumRefIdeal.Run
public import proofs.«01_k».proof.Proof.Gen.Sum.Frame
public import proofs.«01_k».proof.Proof.Gen.ModIdeal.Value
public import proofs.«01_k».proof.Proof.Gen.ModRefIdeal.Run
public import proofs.«01_k».proof.Proof.Gen.Mod.Frame
public import proofs.«01_k».proof.Proof.Gen.CfwdIdeal.Frame
public import proofs.«01_k».proof.Proof.Gen.Cfwd.Frame
public import proofs.«01_k».proof.Proof.Gen.WadaIdeal.Value
public import proofs.«01_k».proof.Proof.Gen.WadaRefIdeal.Run
public import proofs.«01_k».proof.Proof.Gen.Wada.Frame

@[expose] public section

noncomputable section

namespace Cert.Proof

open Idealize.ShloMosaic Idealize.SL.Sem

/-- Every claim of this certificate. -/
theorem claim : Cert.Claim :=
  ⟨Cert.Dh.Gen.facts, Cert.DhIdeal.Gen.facts, Cert.DhRefIdeal.Gen.facts, Cert.Ret.Gen.facts, Cert.RetIdeal.Gen.facts, Cert.RetRefIdeal.Gen.facts,
    Cert.Head.Gen.facts, Cert.HeadIdeal.Gen.facts, Cert.HeadRefIdeal.Gen.facts,
    Cert.Conv.Gen.facts, Cert.ConvIdeal.Gen.facts, Cert.ConvRefIdeal.Gen.facts,
    Cert.Dwr.Gen.facts, Cert.DwrIdeal.Gen.facts, Cert.DwrRefIdeal.Gen.facts,
    Cert.Rope.Gen.facts, Cert.RopeIdeal.Gen.facts, Cert.RopeRefIdeal.Gen.facts,
    Cert.Dw.Gen.facts, Cert.DwIdeal.Gen.facts, Cert.DwRefIdeal.Gen.facts,
    Cert.Adam.Gen.facts, Cert.AdamIdeal.Gen.facts, Cert.AdamRefIdeal.Gen.facts,
    Cert.Step.Gen.facts, Cert.StepIdeal.Gen.facts, Cert.StepRefIdeal.Gen.facts,
    Cert.Sum.Gen.facts, Cert.SumIdeal.Gen.facts, Cert.SumRefIdeal.Gen.facts,
    Cert.Mod.Gen.facts, Cert.ModIdeal.Gen.facts, Cert.ModRefIdeal.Gen.facts,
    Cert.Wada.Gen.facts, Cert.WadaIdeal.Gen.facts, Cert.WadaRefIdeal.Gen.facts,
    Cert.Cfwd.Gen.facts, Cert.CfwdIdeal.Gen.facts,
    Cert.Pre_dh_finite.Gen.facts, Cert.Pre_ret_finite.Gen.facts, Cert.Pre_head_finite.Gen.facts, Cert.Pre_conv_finite.Gen.facts,
    fun m ρ _ => Cert.Dh.Gen.frame m ρ, fun m ρ _ => Cert.DhIdeal.Gen.frame m ρ, fun m ρ _ => Cert.DhIdeal.Gen.frame m ρ,
    Cert.Proof.Dh.frame_ref, fun m ρ _ => Cert.Proof.Dh.frame_ref m ρ trivial,
    Cert.Proof.RetClaims.frame_kernel, Cert.Proof.RetClaims.frame_ideal, fun m ρ _ => Cert.Proof.RetClaims.frame_ideal m ρ trivial,
    Cert.Proof.RetClaims.frame_ref, fun m ρ _ => Cert.Proof.RetClaims.frame_ref m ρ trivial,
    fun m ρ _ => Cert.Head.Gen.frame m ρ, fun m ρ _ => Cert.HeadIdeal.Gen.frame m ρ, fun m ρ _ => Cert.HeadIdeal.Gen.frame m ρ,
    Cert.Proof.Head.frame_ref, fun m ρ _ => Cert.Proof.Head.frame_ref m ρ trivial,
    Cert.Proof.ConvClaims.frame_kernel, Cert.Proof.ConvClaims.frame_ideal, fun m ρ _ => Cert.Proof.ConvClaims.frame_ideal m ρ trivial,
    Cert.Proof.ConvClaims.frame_ref, fun m ρ _ => Cert.Proof.ConvClaims.frame_ref m ρ trivial,
    fun m ρ _ => Cert.Dwr.Gen.frame m ρ, fun m ρ _ => Cert.DwrIdeal.Gen.frame m ρ, Cert.Proof.DwrClaims.frame_ref,
    fun m ρ _ => Cert.Rope.Gen.frame m ρ, fun m ρ _ => Cert.RopeIdeal.Gen.frame m ρ, Cert.Proof.RopeClaims.frame_ref,
    fun m ρ _ => Cert.Dw.Gen.frame m ρ, fun m ρ _ => Cert.DwIdeal.Gen.frame m ρ, Cert.Proof.DwClaims.frame_ref,
    fun m ρ _ => Cert.Adam.Gen.frame m ρ, fun m ρ _ => Cert.AdamIdeal.Gen.frame m ρ, Cert.Proof.AdamClaims.frame_ref,
    fun m ρ _ => Cert.Step.Gen.frame m ρ, fun m ρ _ => Cert.StepIdeal.Gen.frame m ρ, Cert.Proof.StepClaims.frame_ref,
    fun m ρ _ => Cert.Sum.Gen.frame m ρ, fun m ρ _ => Cert.SumIdeal.Gen.frame m ρ, Cert.Proof.SumClaims.frame_ref,
    fun m ρ _ => Cert.Mod.Gen.frame m ρ, fun m ρ _ => Cert.ModIdeal.Gen.frame m ρ, Cert.Proof.ModClaims.frame_ref,
    fun m ρ _ => Cert.Wada.Gen.frame m ρ, fun m ρ _ => Cert.WadaIdeal.Gen.frame m ρ, Cert.Proof.WadaClaims.frame_ref,
    fun m ρ _ => Cert.Cfwd.Gen.frame m ρ, fun m ρ _ => Cert.CfwdIdeal.Gen.frame m ρ,
    trivial, Cert.Proof.Dh.algebraic, trivial, Cert.Proof.RetClaims.algebraic, trivial, Cert.Proof.Head.algebraic,
    trivial, Cert.Proof.ConvClaims.algebraic,
    trivial, Cert.Proof.DwrClaims.algebraic, trivial, Cert.Proof.RopeClaims.algebraic, trivial, Cert.Proof.DwClaims.algebraic, trivial, Cert.Proof.AdamClaims.algebraic,
    trivial, Cert.Proof.StepClaims.algebraic, trivial, Cert.Proof.SumClaims.algebraic, trivial, Cert.Proof.ModClaims.algebraic, trivial, Cert.Proof.WadaClaims.algebraic, trivial⟩

end Cert.Proof

end
